-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_lambda [hPre_finite_lambda : Cert.Pre_finite_lambda.Facts] (m : (ℓ : Loc Cert.KernelIdeal.nD Cert.KernelIdeal.τ Cert.KernelIdeal.sig) → Buf (Elt Ideal) ℓ) : Prop :=
  ∀ c : Dev Cert.KernelIdeal.nD,
    (Cert.Pre_finite_lambda.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_lambda [hPre_finite_lambda : Cert.Pre_finite_lambda.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_lambda.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite4 [hPre_finite4 : Cert.Pre_finite4.Facts] (m : (ℓ : Loc Cert.InProjIdeal.nD Cert.InProjIdeal.τ Cert.InProjIdeal.sig) → Buf (Elt Ideal) ℓ) : Prop :=
  ∀ c : Dev Cert.InProjIdeal.nD,
    (Cert.Pre_finite4.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_finite4 [hPre_finite4 : Cert.Pre_finite4.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_finite4.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2))) = (fun _ => 1#1)

def Pre_SsdState (m : (ℓ : Loc Cert.SsdState.nD Cert.SsdState.τ Cert.SsdState.sig) → Buf (Elt Bits) ℓ) : Prop :=
  True

def Pre_SsdStateIdeal (m : (ℓ : Loc Cert.SsdStateIdeal.nD Cert.SsdStateIdeal.τ Cert.SsdStateIdeal.sig) → Buf (Elt Ideal) ℓ) : Prop :=
  True

def Pre_SsdStateRefIdeal (m : (ℓ : Loc Cert.SsdStateRefIdeal.nD Cert.SsdStateRefIdeal.τ Cert.SsdStateRefIdeal.sig) → Buf (Elt Ideal) ℓ) : Prop :=
  True

def Pre_DownSlab (m : (ℓ : Loc Cert.DownSlab.nD Cert.DownSlab.τ Cert.DownSlab.sig) → Buf (Elt Bits) ℓ) : Prop :=
  True

def Pre_DownSlabIdeal (m : (ℓ : Loc Cert.DownSlabIdeal.nD Cert.DownSlabIdeal.τ Cert.DownSlabIdeal.sig) → Buf (Elt Ideal) ℓ) : Prop :=
  True

def Pre_DownSlabRefIdeal (m : (ℓ : Loc Cert.DownSlabRefIdeal.nD Cert.DownSlabRefIdeal.τ Cert.DownSlabRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_UpSlab (m : (ℓ : Loc Cert.UpSlab.nD Cert.UpSlab.τ Cert.UpSlab.sig) → Buf (Elt Bits) ℓ) : Prop :=
  True

def Pre_UpSlabIdeal (m : (ℓ : Loc Cert.UpSlabIdeal.nD Cert.UpSlabIdeal.τ Cert.UpSlabIdeal.sig) → Buf (Elt Ideal) ℓ) : Prop :=
  True

def Pre_UpSlabRefIdeal (m : (ℓ : Loc Cert.UpSlabRefIdeal.nD Cert.UpSlabRefIdeal.τ Cert.UpSlabRefIdeal.sig) → Buf (Elt Ideal) ℓ) : Prop :=
  True

def Pre_SsdPost (m : (ℓ : Loc Cert.SsdPost.nD Cert.SsdPost.τ Cert.SsdPost.sig) → Buf (Elt Bits) ℓ) : Prop :=
  True

def Pre_SsdPostIdeal (m : (ℓ : Loc Cert.SsdPostIdeal.nD Cert.SsdPostIdeal.τ Cert.SsdPostIdeal.sig) → Buf (Elt Ideal) ℓ) : Prop :=
  True

def Pre_SsdPostRefIdeal (m : (ℓ : Loc Cert.SsdPostRefIdeal.nD Cert.SsdPostRefIdeal.τ Cert.SsdPostRefIdeal.sig) → Buf (Elt Ideal) ℓ) : Prop :=
  True

def Pre_SsdPre (m : (ℓ : Loc Cert.SsdPre.nD Cert.SsdPre.τ Cert.SsdPre.sig) → Buf (Elt Bits) ℓ) : Prop :=
  True

def Pre_SsdPreIdeal (m : (ℓ : Loc Cert.SsdPreIdeal.nD Cert.SsdPreIdeal.τ Cert.SsdPreIdeal.sig) → Buf (Elt Ideal) ℓ) : Prop :=
  True

def Pre_SsdPreIdeal_finite10 [hPre_finite10 : Cert.Pre_finite10.Facts] (m : (ℓ : Loc Cert.SsdPreIdeal.nD Cert.SsdPreIdeal.τ Cert.SsdPreIdeal.sig) → Buf (Elt Ideal) ℓ) : Prop :=
  ∀ c : Dev Cert.SsdPreIdeal.nD,
    (Cert.Pre_finite10.fn (F := Ideal) (m ((c.tc : Thread Cert.SsdPreIdeal.nD Cert.SsdPreIdeal.τ).loc Cert.SsdPreIdeal.main_arg0)) (m ((c.tc : Thread Cert.SsdPreIdeal.nD Cert.SsdPreIdeal.τ).loc Cert.SsdPreIdeal.main_arg1)) (m ((c.tc : Thread Cert.SsdPreIdeal.nD Cert.SsdPreIdeal.τ).loc Cert.SsdPreIdeal.main_arg2)) (m ((c.tc : Thread Cert.SsdPreIdeal.nD Cert.SsdPreIdeal.τ).loc Cert.SsdPreIdeal.main_arg3)) (m ((c.tc : Thread Cert.SsdPreIdeal.nD Cert.SsdPreIdeal.τ).loc Cert.SsdPreIdeal.main_arg4)) (m ((c.tc : Thread Cert.SsdPreIdeal.nD Cert.SsdPreIdeal.τ).loc Cert.SsdPreIdeal.main_arg5)) (m ((c.tc : Thread Cert.SsdPreIdeal.nD Cert.SsdPreIdeal.τ).loc Cert.SsdPreIdeal.main_arg6)) (m ((c.tc : Thread Cert.SsdPreIdeal.nD Cert.SsdPreIdeal.τ).loc Cert.SsdPreIdeal.main_arg7))) = (fun _ => 1#1)

def Pre_SsdPreRefIdeal (m : (ℓ : Loc Cert.SsdPreRefIdeal.nD Cert.SsdPreRefIdeal.τ Cert.SsdPreRefIdeal.sig) → Buf (Elt Ideal) ℓ) : Prop :=
  True

def Pre_SsdPreRefIdeal_finite10 [hPre_finite10 : Cert.Pre_finite10.Facts] (m : (ℓ : Loc Cert.SsdPreRefIdeal.nD Cert.SsdPreRefIdeal.τ Cert.SsdPreRefIdeal.sig) → Buf (Elt Ideal) ℓ) : Prop :=
  ∀ c : Dev Cert.SsdPreRefIdeal.nD,
    (Cert.Pre_finite10.fn (F := Ideal) (m ((c.tc : Thread Cert.SsdPreRefIdeal.nD Cert.SsdPreRefIdeal.τ).loc Cert.SsdPreRefIdeal.main_arg0)) (m ((c.tc : Thread Cert.SsdPreRefIdeal.nD Cert.SsdPreRefIdeal.τ).loc Cert.SsdPreRefIdeal.main_arg1)) (m ((c.tc : Thread Cert.SsdPreRefIdeal.nD Cert.SsdPreRefIdeal.τ).loc Cert.SsdPreRefIdeal.main_arg2)) (m ((c.tc : Thread Cert.SsdPreRefIdeal.nD Cert.SsdPreRefIdeal.τ).loc Cert.SsdPreRefIdeal.main_arg3)) (m ((c.tc : Thread Cert.SsdPreRefIdeal.nD Cert.SsdPreRefIdeal.τ).loc Cert.SsdPreRefIdeal.main_arg4)) (m ((c.tc : Thread Cert.SsdPreRefIdeal.nD Cert.SsdPreRefIdeal.τ).loc Cert.SsdPreRefIdeal.main_arg5)) (m ((c.tc : Thread Cert.SsdPreRefIdeal.nD Cert.SsdPreRefIdeal.τ).loc Cert.SsdPreRefIdeal.main_arg6)) (m ((c.tc : Thread Cert.SsdPreRefIdeal.nD Cert.SsdPreRefIdeal.τ).loc Cert.SsdPreRefIdeal.main_arg7))) = (fun _ => 1#1)

def Pre_LruSeq (m : (ℓ : Loc Cert.LruSeq.nD Cert.LruSeq.τ Cert.LruSeq.sig) → Buf (Elt Bits) ℓ) : Prop :=
  True

def Pre_LruSeqIdeal (m : (ℓ : Loc Cert.LruSeqIdeal.nD Cert.LruSeqIdeal.τ Cert.LruSeqIdeal.sig) → Buf (Elt Ideal) ℓ) : Prop :=
  True

def Pre_LruSeqRefIdeal (m : (ℓ : Loc Cert.LruSeqRefIdeal.nD Cert.LruSeqRefIdeal.τ Cert.LruSeqRefIdeal.sig) → Buf (Elt Ideal) ℓ) : Prop :=
  True

def Pre_SsdSeq (m : (ℓ : Loc Cert.SsdSeq.nD Cert.SsdSeq.τ Cert.SsdSeq.sig) → Buf (Elt Bits) ℓ) : Prop :=
  True

def Pre_SsdSeqIdeal (m : (ℓ : Loc Cert.SsdSeqIdeal.nD Cert.SsdSeqIdeal.τ Cert.SsdSeqIdeal.sig) → Buf (Elt Ideal) ℓ) : Prop :=
  True

def Pre_SsdSeqRefIdeal (m : (ℓ : Loc Cert.SsdSeqRefIdeal.nD Cert.SsdSeqRefIdeal.τ Cert.SsdSeqRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_lambda [hKernelIdeal : Cert.KernelIdeal.Facts] [hPre_finite_lambda : Cert.Pre_finite_lambda.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_lambda m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_lambda [hReferenceIdeal : Cert.ReferenceIdeal.Facts] [hPre_finite_lambda : Cert.Pre_finite_lambda.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_lambda m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1)
      ∧ r.2.mem ((c.tc : Thread Cert.MlpUp.nD Cert.MlpUp.τ).loc Cert.MlpUp.main_arg2) = m ((c.tc : Thread Cert.MlpUp.nD Cert.MlpUp.τ).loc Cert.MlpUp.main_arg2))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
      ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1)
      ∧ r.2.mem ((c.tc : Thread Cert.MlpUpRefIdeal.nD Cert.MlpUpRefIdeal.τ).loc Cert.MlpUpRefIdeal.main_arg2) = m ((c.tc : Thread Cert.MlpUpRefIdeal.nD Cert.MlpUpRefIdeal.τ).loc Cert.MlpUpRefIdeal.main_arg2))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2)
      ∧ r.2.mem ((c.tc : Thread Cert.MlpDown.nD Cert.MlpDown.τ).loc Cert.MlpDown.main_arg3) = m ((c.tc : Thread Cert.MlpDown.nD Cert.MlpDown.τ).loc Cert.MlpDown.main_arg3))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
      ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2)
      ∧ r.2.mem ((c.tc : Thread Cert.MlpDownRefIdeal.nD Cert.MlpDownRefIdeal.τ).loc Cert.MlpDownRefIdeal.main_arg3) = m ((c.tc : Thread Cert.MlpDownRefIdeal.nD Cert.MlpDownRefIdeal.τ).loc Cert.MlpDownRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjIdeal_pre_finite4 [hInProjIdeal : Cert.InProjIdeal.Facts] [hPre_finite4 : Cert.Pre_finite4.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite4 m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_InProjRefIdeal_pre_finite4 [hInProjRefIdeal : Cert.InProjRefIdeal.Facts] [hPre_finite4 : Cert.Pre_finite4.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_finite4 m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_SsdState [hSsdState : Cert.SsdState.Facts] : Prop :=
  ∀ (m : (ℓ : Loc Cert.SsdState.nD Cert.SsdState.τ Cert.SsdState.sig) → Buf (Elt Bits) ℓ) (g : Dev Cert.SsdState.nD → PrngReg), Pre_SsdState m →
    θ_run (Cert.SsdState.defs (F := Bits)) (onTc (τ := Cert.SsdState.τ) (Cert.SsdState.main (F := Bits))) ⟨m, fun _ => 0, g⟩ (fun r => (∀ c : Dev Cert.SsdState.nD,
      r.2.mem ((c.tc : Thread Cert.SsdState.nD Cert.SsdState.τ).loc Cert.SsdState.main_arg0) = m ((c.tc : Thread Cert.SsdState.nD Cert.SsdState.τ).loc Cert.SsdState.main_arg0)
      ∧ r.2.mem ((c.tc : Thread Cert.SsdState.nD Cert.SsdState.τ).loc Cert.SsdState.main_arg1) = m ((c.tc : Thread Cert.SsdState.nD Cert.SsdState.τ).loc Cert.SsdState.main_arg1)
      ∧ r.2.mem ((c.tc : Thread Cert.SsdState.nD Cert.SsdState.τ).loc Cert.SsdState.main_arg2) = m ((c.tc : Thread Cert.SsdState.nD Cert.SsdState.τ).loc Cert.SsdState.main_arg2)
      ∧ r.2.mem ((c.tc : Thread Cert.SsdState.nD Cert.SsdState.τ).loc Cert.SsdState.main_arg3) = m ((c.tc : Thread Cert.SsdState.nD Cert.SsdState.τ).loc Cert.SsdState.main_arg3)
      ∧ r.2.mem ((c.tc : Thread Cert.SsdState.nD Cert.SsdState.τ).loc Cert.SsdState.main_arg4) = m ((c.tc : Thread Cert.SsdState.nD Cert.SsdState.τ).loc Cert.SsdState.main_arg4))
      ∧ r.2.sem = fun _ => 0)

def quiescent_SsdStateIdeal [hSsdStateIdeal : Cert.SsdStateIdeal.Facts] : Prop :=
  ∀ (m : (ℓ : Loc Cert.SsdStateIdeal.nD Cert.SsdStateIdeal.τ Cert.SsdStateIdeal.sig) → Buf (Elt Ideal) ℓ) (g : Dev Cert.SsdStateIdeal.nD → PrngReg), Pre_SsdStateIdeal m →
    θ_run (Cert.SsdStateIdeal.defs (F := Ideal)) (onTc (τ := Cert.SsdStateIdeal.τ) (Cert.SsdStateIdeal.main (F := Ideal))) ⟨m, fun _ => 0, g⟩ (fun r => (∀ c : Dev Cert.SsdStateIdeal.nD,
      r.2.mem ((c.tc : Thread Cert.SsdStateIdeal.nD Cert.SsdStateIdeal.τ).loc Cert.SsdStateIdeal.main_arg0) = m ((c.tc : Thread Cert.SsdStateIdeal.nD Cert.SsdStateIdeal.τ).loc Cert.SsdStateIdeal.main_arg0)
      ∧ r.2.mem ((c.tc : Thread Cert.SsdStateIdeal.nD Cert.SsdStateIdeal.τ).loc Cert.SsdStateIdeal.main_arg1) = m ((c.tc : Thread Cert.SsdStateIdeal.nD Cert.SsdStateIdeal.τ).loc Cert.SsdStateIdeal.main_arg1)
      ∧ r.2.mem ((c.tc : Thread Cert.SsdStateIdeal.nD Cert.SsdStateIdeal.τ).loc Cert.SsdStateIdeal.main_arg2) = m ((c.tc : Thread Cert.SsdStateIdeal.nD Cert.SsdStateIdeal.τ).loc Cert.SsdStateIdeal.main_arg2)
      ∧ r.2.mem ((c.tc : Thread Cert.SsdStateIdeal.nD Cert.SsdStateIdeal.τ).loc Cert.SsdStateIdeal.main_arg3) = m ((c.tc : Thread Cert.SsdStateIdeal.nD Cert.SsdStateIdeal.τ).loc Cert.SsdStateIdeal.main_arg3)
      ∧ r.2.mem ((c.tc : Thread Cert.SsdStateIdeal.nD Cert.SsdStateIdeal.τ).loc Cert.SsdStateIdeal.main_arg4) = m ((c.tc : Thread Cert.SsdStateIdeal.nD Cert.SsdStateIdeal.τ).loc Cert.SsdStateIdeal.main_arg4))
      ∧ r.2.sem = fun _ => 0)

def quiescent_SsdStateRefIdeal [hSsdStateRefIdeal : Cert.SsdStateRefIdeal.Facts] : Prop :=
  ∀ (m : (ℓ : Loc Cert.SsdStateRefIdeal.nD Cert.SsdStateRefIdeal.τ Cert.SsdStateRefIdeal.sig) → Buf (Elt Ideal) ℓ) (g : Dev Cert.SsdStateRefIdeal.nD → PrngReg), Pre_SsdStateRefIdeal m →
    θ_run (Cert.SsdStateRefIdeal.defs (F := Ideal)) (onTc (τ := Cert.SsdStateRefIdeal.τ) (Cert.SsdStateRefIdeal.main (F := Ideal))) ⟨m, fun _ => 0, g⟩ (fun r => (∀ c : Dev Cert.SsdStateRefIdeal.nD,
      r.2.mem ((c.tc : Thread Cert.SsdStateRefIdeal.nD Cert.SsdStateRefIdeal.τ).loc Cert.SsdStateRefIdeal.main_arg0) = m ((c.tc : Thread Cert.SsdStateRefIdeal.nD Cert.SsdStateRefIdeal.τ).loc Cert.SsdStateRefIdeal.main_arg0)
      ∧ r.2.mem ((c.tc : Thread Cert.SsdStateRefIdeal.nD Cert.SsdStateRefIdeal.τ).loc Cert.SsdStateRefIdeal.main_arg1) = m ((c.tc : Thread Cert.SsdStateRefIdeal.nD Cert.SsdStateRefIdeal.τ).loc Cert.SsdStateRefIdeal.main_arg1)
      ∧ r.2.mem ((c.tc : Thread Cert.SsdStateRefIdeal.nD Cert.SsdStateRefIdeal.τ).loc Cert.SsdStateRefIdeal.main_arg2) = m ((c.tc : Thread Cert.SsdStateRefIdeal.nD Cert.SsdStateRefIdeal.τ).loc Cert.SsdStateRefIdeal.main_arg2)
      ∧ r.2.mem ((c.tc : Thread Cert.SsdStateRefIdeal.nD Cert.SsdStateRefIdeal.τ).loc Cert.SsdStateRefIdeal.main_arg3) = m ((c.tc : Thread Cert.SsdStateRefIdeal.nD Cert.SsdStateRefIdeal.τ).loc Cert.SsdStateRefIdeal.main_arg3)
      ∧ r.2.mem ((c.tc : Thread Cert.SsdStateRefIdeal.nD Cert.SsdStateRefIdeal.τ).loc Cert.SsdStateRefIdeal.main_arg4) = m ((c.tc : Thread Cert.SsdStateRefIdeal.nD Cert.SsdStateRefIdeal.τ).loc Cert.SsdStateRefIdeal.main_arg4))
      ∧ r.2.sem = fun _ => 0)

def quiescent_DownSlab [hDownSlab : Cert.DownSlab.Facts] : Prop :=
  ∀ (m : (ℓ : Loc Cert.DownSlab.nD Cert.DownSlab.τ Cert.DownSlab.sig) → Buf (Elt Bits) ℓ) (g : Dev Cert.DownSlab.nD → PrngReg), Pre_DownSlab m →
    θ_run (Cert.DownSlab.defs (F := Bits)) (onTc (τ := Cert.DownSlab.τ) (Cert.DownSlab.main (F := Bits))) ⟨m, fun _ => 0, g⟩ (fun r => (∀ c : Dev Cert.DownSlab.nD,
      r.2.mem ((c.tc : Thread Cert.DownSlab.nD Cert.DownSlab.τ).loc Cert.DownSlab.main_arg0) = m ((c.tc : Thread Cert.DownSlab.nD Cert.DownSlab.τ).loc Cert.DownSlab.main_arg0)
      ∧ r.2.mem ((c.tc : Thread Cert.DownSlab.nD Cert.DownSlab.τ).loc Cert.DownSlab.main_arg1) = m ((c.tc : Thread Cert.DownSlab.nD Cert.DownSlab.τ).loc Cert.DownSlab.main_arg1)
      ∧ r.2.mem ((c.tc : Thread Cert.DownSlab.nD Cert.DownSlab.τ).loc Cert.DownSlab.main_arg2) = m ((c.tc : Thread Cert.DownSlab.nD Cert.DownSlab.τ).loc Cert.DownSlab.main_arg2)
      ∧ r.2.mem ((c.tc : Thread Cert.DownSlab.nD Cert.DownSlab.τ).loc Cert.DownSlab.main_arg3) = m ((c.tc : Thread Cert.DownSlab.nD Cert.DownSlab.τ).loc Cert.DownSlab.main_arg3))
      ∧ r.2.sem = fun _ => 0)

def quiescent_DownSlabIdeal [hDownSlabIdeal : Cert.DownSlabIdeal.Facts] : Prop :=
  ∀ (m : (ℓ : Loc Cert.DownSlabIdeal.nD Cert.DownSlabIdeal.τ Cert.DownSlabIdeal.sig) → Buf (Elt Ideal) ℓ) (g : Dev Cert.DownSlabIdeal.nD → PrngReg), Pre_DownSlabIdeal m →
    θ_run (Cert.DownSlabIdeal.defs (F := Ideal)) (onTc (τ := Cert.DownSlabIdeal.τ) (Cert.DownSlabIdeal.main (F := Ideal))) ⟨m, fun _ => 0, g⟩ (fun r => (∀ c : Dev Cert.DownSlabIdeal.nD,
      r.2.mem ((c.tc : Thread Cert.DownSlabIdeal.nD Cert.DownSlabIdeal.τ).loc Cert.DownSlabIdeal.main_arg0) = m ((c.tc : Thread Cert.DownSlabIdeal.nD Cert.DownSlabIdeal.τ).loc Cert.DownSlabIdeal.main_arg0)
      ∧ r.2.mem ((c.tc : Thread Cert.DownSlabIdeal.nD Cert.DownSlabIdeal.τ).loc Cert.DownSlabIdeal.main_arg1) = m ((c.tc : Thread Cert.DownSlabIdeal.nD Cert.DownSlabIdeal.τ).loc Cert.DownSlabIdeal.main_arg1)
      ∧ r.2.mem ((c.tc : Thread Cert.DownSlabIdeal.nD Cert.DownSlabIdeal.τ).loc Cert.DownSlabIdeal.main_arg2) = m ((c.tc : Thread Cert.DownSlabIdeal.nD Cert.DownSlabIdeal.τ).loc Cert.DownSlabIdeal.main_arg2)
      ∧ r.2.mem ((c.tc : Thread Cert.DownSlabIdeal.nD Cert.DownSlabIdeal.τ).loc Cert.DownSlabIdeal.main_arg3) = m ((c.tc : Thread Cert.DownSlabIdeal.nD Cert.DownSlabIdeal.τ).loc Cert.DownSlabIdeal.main_arg3))
      ∧ r.2.sem = fun _ => 0)

def quiescent_DownSlabRefIdeal [hDownSlabRefIdeal : Cert.DownSlabRefIdeal.Facts] : Prop :=
  ∀ (m : (ℓ : Loc Cert.DownSlabRefIdeal.nD Cert.DownSlabRefIdeal.τ Cert.DownSlabRefIdeal.sig) → Buf (Elt Ideal) ℓ) (g : Dev Cert.DownSlabRefIdeal.nD → PrngReg), Pre_DownSlabRefIdeal m →
    θ_run (Cert.DownSlabRefIdeal.defs (F := Ideal)) (onTc (τ := Cert.DownSlabRefIdeal.τ) (Cert.DownSlabRefIdeal.main (F := Ideal))) ⟨m, fun _ => 0, g⟩ (fun r => (∀ c : Dev Cert.DownSlabRefIdeal.nD,
      r.2.mem ((c.tc : Thread Cert.DownSlabRefIdeal.nD Cert.DownSlabRefIdeal.τ).loc Cert.DownSlabRefIdeal.main_arg0) = m ((c.tc : Thread Cert.DownSlabRefIdeal.nD Cert.DownSlabRefIdeal.τ).loc Cert.DownSlabRefIdeal.main_arg0)
      ∧ r.2.mem ((c.tc : Thread Cert.DownSlabRefIdeal.nD Cert.DownSlabRefIdeal.τ).loc Cert.DownSlabRefIdeal.main_arg1) = m ((c.tc : Thread Cert.DownSlabRefIdeal.nD Cert.DownSlabRefIdeal.τ).loc Cert.DownSlabRefIdeal.main_arg1)
      ∧ r.2.mem ((c.tc : Thread Cert.DownSlabRefIdeal.nD Cert.DownSlabRefIdeal.τ).loc Cert.DownSlabRefIdeal.main_arg2) = m ((c.tc : Thread Cert.DownSlabRefIdeal.nD Cert.DownSlabRefIdeal.τ).loc Cert.DownSlabRefIdeal.main_arg2)
      ∧ r.2.mem ((c.tc : Thread Cert.DownSlabRefIdeal.nD Cert.DownSlabRefIdeal.τ).loc Cert.DownSlabRefIdeal.main_arg3) = m ((c.tc : Thread Cert.DownSlabRefIdeal.nD Cert.DownSlabRefIdeal.τ).loc Cert.DownSlabRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_UpSlab [hUpSlab : Cert.UpSlab.Facts] : Prop :=
  ∀ (m : (ℓ : Loc Cert.UpSlab.nD Cert.UpSlab.τ Cert.UpSlab.sig) → Buf (Elt Bits) ℓ) (g : Dev Cert.UpSlab.nD → PrngReg), Pre_UpSlab m →
    θ_run (Cert.UpSlab.defs (F := Bits)) (onTc (τ := Cert.UpSlab.τ) (Cert.UpSlab.main (F := Bits))) ⟨m, fun _ => 0, g⟩ (fun r => (∀ c : Dev Cert.UpSlab.nD,
      r.2.mem ((c.tc : Thread Cert.UpSlab.nD Cert.UpSlab.τ).loc Cert.UpSlab.main_arg0) = m ((c.tc : Thread Cert.UpSlab.nD Cert.UpSlab.τ).loc Cert.UpSlab.main_arg0)
      ∧ r.2.mem ((c.tc : Thread Cert.UpSlab.nD Cert.UpSlab.τ).loc Cert.UpSlab.main_arg1) = m ((c.tc : Thread Cert.UpSlab.nD Cert.UpSlab.τ).loc Cert.UpSlab.main_arg1)
      ∧ r.2.mem ((c.tc : Thread Cert.UpSlab.nD Cert.UpSlab.τ).loc Cert.UpSlab.main_arg2) = m ((c.tc : Thread Cert.UpSlab.nD Cert.UpSlab.τ).loc Cert.UpSlab.main_arg2))
      ∧ r.2.sem = fun _ => 0)

def quiescent_UpSlabIdeal [hUpSlabIdeal : Cert.UpSlabIdeal.Facts] : Prop :=
  ∀ (m : (ℓ : Loc Cert.UpSlabIdeal.nD Cert.UpSlabIdeal.τ Cert.UpSlabIdeal.sig) → Buf (Elt Ideal) ℓ) (g : Dev Cert.UpSlabIdeal.nD → PrngReg), Pre_UpSlabIdeal m →
    θ_run (Cert.UpSlabIdeal.defs (F := Ideal)) (onTc (τ := Cert.UpSlabIdeal.τ) (Cert.UpSlabIdeal.main (F := Ideal))) ⟨m, fun _ => 0, g⟩ (fun r => (∀ c : Dev Cert.UpSlabIdeal.nD,
      r.2.mem ((c.tc : Thread Cert.UpSlabIdeal.nD Cert.UpSlabIdeal.τ).loc Cert.UpSlabIdeal.main_arg0) = m ((c.tc : Thread Cert.UpSlabIdeal.nD Cert.UpSlabIdeal.τ).loc Cert.UpSlabIdeal.main_arg0)
      ∧ r.2.mem ((c.tc : Thread Cert.UpSlabIdeal.nD Cert.UpSlabIdeal.τ).loc Cert.UpSlabIdeal.main_arg1) = m ((c.tc : Thread Cert.UpSlabIdeal.nD Cert.UpSlabIdeal.τ).loc Cert.UpSlabIdeal.main_arg1)
      ∧ r.2.mem ((c.tc : Thread Cert.UpSlabIdeal.nD Cert.UpSlabIdeal.τ).loc Cert.UpSlabIdeal.main_arg2) = m ((c.tc : Thread Cert.UpSlabIdeal.nD Cert.UpSlabIdeal.τ).loc Cert.UpSlabIdeal.main_arg2))
      ∧ r.2.sem = fun _ => 0)

def quiescent_UpSlabRefIdeal [hUpSlabRefIdeal : Cert.UpSlabRefIdeal.Facts] : Prop :=
  ∀ (m : (ℓ : Loc Cert.UpSlabRefIdeal.nD Cert.UpSlabRefIdeal.τ Cert.UpSlabRefIdeal.sig) → Buf (Elt Ideal) ℓ) (g : Dev Cert.UpSlabRefIdeal.nD → PrngReg), Pre_UpSlabRefIdeal m →
    θ_run (Cert.UpSlabRefIdeal.defs (F := Ideal)) (onTc (τ := Cert.UpSlabRefIdeal.τ) (Cert.UpSlabRefIdeal.main (F := Ideal))) ⟨m, fun _ => 0, g⟩ (fun r => (∀ c : Dev Cert.UpSlabRefIdeal.nD,
      r.2.mem ((c.tc : Thread Cert.UpSlabRefIdeal.nD Cert.UpSlabRefIdeal.τ).loc Cert.UpSlabRefIdeal.main_arg0) = m ((c.tc : Thread Cert.UpSlabRefIdeal.nD Cert.UpSlabRefIdeal.τ).loc Cert.UpSlabRefIdeal.main_arg0)
      ∧ r.2.mem ((c.tc : Thread Cert.UpSlabRefIdeal.nD Cert.UpSlabRefIdeal.τ).loc Cert.UpSlabRefIdeal.main_arg1) = m ((c.tc : Thread Cert.UpSlabRefIdeal.nD Cert.UpSlabRefIdeal.τ).loc Cert.UpSlabRefIdeal.main_arg1)
      ∧ r.2.mem ((c.tc : Thread Cert.UpSlabRefIdeal.nD Cert.UpSlabRefIdeal.τ).loc Cert.UpSlabRefIdeal.main_arg2) = m ((c.tc : Thread Cert.UpSlabRefIdeal.nD Cert.UpSlabRefIdeal.τ).loc Cert.UpSlabRefIdeal.main_arg2))
      ∧ r.2.sem = fun _ => 0)

def quiescent_SsdPost [hSsdPost : Cert.SsdPost.Facts] : Prop :=
  ∀ (m : (ℓ : Loc Cert.SsdPost.nD Cert.SsdPost.τ Cert.SsdPost.sig) → Buf (Elt Bits) ℓ) (g : Dev Cert.SsdPost.nD → PrngReg), Pre_SsdPost m →
    θ_run (Cert.SsdPost.defs (F := Bits)) (onTc (τ := Cert.SsdPost.τ) (Cert.SsdPost.main (F := Bits))) ⟨m, fun _ => 0, g⟩ (fun r => (∀ c : Dev Cert.SsdPost.nD,
      r.2.mem ((c.tc : Thread Cert.SsdPost.nD Cert.SsdPost.τ).loc Cert.SsdPost.main_arg0) = m ((c.tc : Thread Cert.SsdPost.nD Cert.SsdPost.τ).loc Cert.SsdPost.main_arg0)
      ∧ r.2.mem ((c.tc : Thread Cert.SsdPost.nD Cert.SsdPost.τ).loc Cert.SsdPost.main_arg1) = m ((c.tc : Thread Cert.SsdPost.nD Cert.SsdPost.τ).loc Cert.SsdPost.main_arg1)
      ∧ r.2.mem ((c.tc : Thread Cert.SsdPost.nD Cert.SsdPost.τ).loc Cert.SsdPost.main_arg2) = m ((c.tc : Thread Cert.SsdPost.nD Cert.SsdPost.τ).loc Cert.SsdPost.main_arg2)
      ∧ r.2.mem ((c.tc : Thread Cert.SsdPost.nD Cert.SsdPost.τ).loc Cert.SsdPost.main_arg3) = m ((c.tc : Thread Cert.SsdPost.nD Cert.SsdPost.τ).loc Cert.SsdPost.main_arg3)
      ∧ r.2.mem ((c.tc : Thread Cert.SsdPost.nD Cert.SsdPost.τ).loc Cert.SsdPost.main_arg4) = m ((c.tc : Thread Cert.SsdPost.nD Cert.SsdPost.τ).loc Cert.SsdPost.main_arg4))
      ∧ r.2.sem = fun _ => 0)

def quiescent_SsdPostIdeal [hSsdPostIdeal : Cert.SsdPostIdeal.Facts] : Prop :=
  ∀ (m : (ℓ : Loc Cert.SsdPostIdeal.nD Cert.SsdPostIdeal.τ Cert.SsdPostIdeal.sig) → Buf (Elt Ideal) ℓ) (g : Dev Cert.SsdPostIdeal.nD → PrngReg), Pre_SsdPostIdeal m →
    θ_run (Cert.SsdPostIdeal.defs (F := Ideal)) (onTc (τ := Cert.SsdPostIdeal.τ) (Cert.SsdPostIdeal.main (F := Ideal))) ⟨m, fun _ => 0, g⟩ (fun r => (∀ c : Dev Cert.SsdPostIdeal.nD,
      r.2.mem ((c.tc : Thread Cert.SsdPostIdeal.nD Cert.SsdPostIdeal.τ).loc Cert.SsdPostIdeal.main_arg0) = m ((c.tc : Thread Cert.SsdPostIdeal.nD Cert.SsdPostIdeal.τ).loc Cert.SsdPostIdeal.main_arg0)
      ∧ r.2.mem ((c.tc : Thread Cert.SsdPostIdeal.nD Cert.SsdPostIdeal.τ).loc Cert.SsdPostIdeal.main_arg1) = m ((c.tc : Thread Cert.SsdPostIdeal.nD Cert.SsdPostIdeal.τ).loc Cert.SsdPostIdeal.main_arg1)
      ∧ r.2.mem ((c.tc : Thread Cert.SsdPostIdeal.nD Cert.SsdPostIdeal.τ).loc Cert.SsdPostIdeal.main_arg2) = m ((c.tc : Thread Cert.SsdPostIdeal.nD Cert.SsdPostIdeal.τ).loc Cert.SsdPostIdeal.main_arg2)
      ∧ r.2.mem ((c.tc : Thread Cert.SsdPostIdeal.nD Cert.SsdPostIdeal.τ).loc Cert.SsdPostIdeal.main_arg3) = m ((c.tc : Thread Cert.SsdPostIdeal.nD Cert.SsdPostIdeal.τ).loc Cert.SsdPostIdeal.main_arg3)
      ∧ r.2.mem ((c.tc : Thread Cert.SsdPostIdeal.nD Cert.SsdPostIdeal.τ).loc Cert.SsdPostIdeal.main_arg4) = m ((c.tc : Thread Cert.SsdPostIdeal.nD Cert.SsdPostIdeal.τ).loc Cert.SsdPostIdeal.main_arg4))
      ∧ r.2.sem = fun _ => 0)

def quiescent_SsdPostRefIdeal [hSsdPostRefIdeal : Cert.SsdPostRefIdeal.Facts] : Prop :=
  ∀ (m : (ℓ : Loc Cert.SsdPostRefIdeal.nD Cert.SsdPostRefIdeal.τ Cert.SsdPostRefIdeal.sig) → Buf (Elt Ideal) ℓ) (g : Dev Cert.SsdPostRefIdeal.nD → PrngReg), Pre_SsdPostRefIdeal m →
    θ_run (Cert.SsdPostRefIdeal.defs (F := Ideal)) (onTc (τ := Cert.SsdPostRefIdeal.τ) (Cert.SsdPostRefIdeal.main (F := Ideal))) ⟨m, fun _ => 0, g⟩ (fun r => (∀ c : Dev Cert.SsdPostRefIdeal.nD,
      r.2.mem ((c.tc : Thread Cert.SsdPostRefIdeal.nD Cert.SsdPostRefIdeal.τ).loc Cert.SsdPostRefIdeal.main_arg0) = m ((c.tc : Thread Cert.SsdPostRefIdeal.nD Cert.SsdPostRefIdeal.τ).loc Cert.SsdPostRefIdeal.main_arg0)
      ∧ r.2.mem ((c.tc : Thread Cert.SsdPostRefIdeal.nD Cert.SsdPostRefIdeal.τ).loc Cert.SsdPostRefIdeal.main_arg1) = m ((c.tc : Thread Cert.SsdPostRefIdeal.nD Cert.SsdPostRefIdeal.τ).loc Cert.SsdPostRefIdeal.main_arg1)
      ∧ r.2.mem ((c.tc : Thread Cert.SsdPostRefIdeal.nD Cert.SsdPostRefIdeal.τ).loc Cert.SsdPostRefIdeal.main_arg2) = m ((c.tc : Thread Cert.SsdPostRefIdeal.nD Cert.SsdPostRefIdeal.τ).loc Cert.SsdPostRefIdeal.main_arg2)
      ∧ r.2.mem ((c.tc : Thread Cert.SsdPostRefIdeal.nD Cert.SsdPostRefIdeal.τ).loc Cert.SsdPostRefIdeal.main_arg3) = m ((c.tc : Thread Cert.SsdPostRefIdeal.nD Cert.SsdPostRefIdeal.τ).loc Cert.SsdPostRefIdeal.main_arg3)
      ∧ r.2.mem ((c.tc : Thread Cert.SsdPostRefIdeal.nD Cert.SsdPostRefIdeal.τ).loc Cert.SsdPostRefIdeal.main_arg4) = m ((c.tc : Thread Cert.SsdPostRefIdeal.nD Cert.SsdPostRefIdeal.τ).loc Cert.SsdPostRefIdeal.main_arg4))
      ∧ r.2.sem = fun _ => 0)

def quiescent_SsdPre [hSsdPre : Cert.SsdPre.Facts] : Prop :=
  ∀ (m : (ℓ : Loc Cert.SsdPre.nD Cert.SsdPre.τ Cert.SsdPre.sig) → Buf (Elt Bits) ℓ) (g : Dev Cert.SsdPre.nD → PrngReg), Pre_SsdPre m →
    θ_run (Cert.SsdPre.defs (F := Bits)) (onTc (τ := Cert.SsdPre.τ) (Cert.SsdPre.main (F := Bits))) ⟨m, fun _ => 0, g⟩ (fun r => (∀ c : Dev Cert.SsdPre.nD,
      r.2.mem ((c.tc : Thread Cert.SsdPre.nD Cert.SsdPre.τ).loc Cert.SsdPre.main_arg0) = m ((c.tc : Thread Cert.SsdPre.nD Cert.SsdPre.τ).loc Cert.SsdPre.main_arg0)
      ∧ r.2.mem ((c.tc : Thread Cert.SsdPre.nD Cert.SsdPre.τ).loc Cert.SsdPre.main_arg1) = m ((c.tc : Thread Cert.SsdPre.nD Cert.SsdPre.τ).loc Cert.SsdPre.main_arg1)
      ∧ r.2.mem ((c.tc : Thread Cert.SsdPre.nD Cert.SsdPre.τ).loc Cert.SsdPre.main_arg2) = m ((c.tc : Thread Cert.SsdPre.nD Cert.SsdPre.τ).loc Cert.SsdPre.main_arg2)
      ∧ r.2.mem ((c.tc : Thread Cert.SsdPre.nD Cert.SsdPre.τ).loc Cert.SsdPre.main_arg3) = m ((c.tc : Thread Cert.SsdPre.nD Cert.SsdPre.τ).loc Cert.SsdPre.main_arg3)
      ∧ r.2.mem ((c.tc : Thread Cert.SsdPre.nD Cert.SsdPre.τ).loc Cert.SsdPre.main_arg4) = m ((c.tc : Thread Cert.SsdPre.nD Cert.SsdPre.τ).loc Cert.SsdPre.main_arg4)
      ∧ r.2.mem ((c.tc : Thread Cert.SsdPre.nD Cert.SsdPre.τ).loc Cert.SsdPre.main_arg5) = m ((c.tc : Thread Cert.SsdPre.nD Cert.SsdPre.τ).loc Cert.SsdPre.main_arg5)
      ∧ r.2.mem ((c.tc : Thread Cert.SsdPre.nD Cert.SsdPre.τ).loc Cert.SsdPre.main_arg6) = m ((c.tc : Thread Cert.SsdPre.nD Cert.SsdPre.τ).loc Cert.SsdPre.main_arg6)
      ∧ r.2.mem ((c.tc : Thread Cert.SsdPre.nD Cert.SsdPre.τ).loc Cert.SsdPre.main_arg7) = m ((c.tc : Thread Cert.SsdPre.nD Cert.SsdPre.τ).loc Cert.SsdPre.main_arg7))
      ∧ r.2.sem = fun _ => 0)

def quiescent_SsdPreIdeal [hSsdPreIdeal : Cert.SsdPreIdeal.Facts] : Prop :=
  ∀ (m : (ℓ : Loc Cert.SsdPreIdeal.nD Cert.SsdPreIdeal.τ Cert.SsdPreIdeal.sig) → Buf (Elt Ideal) ℓ) (g : Dev Cert.SsdPreIdeal.nD → PrngReg), Pre_SsdPreIdeal m →
    θ_run (Cert.SsdPreIdeal.defs (F := Ideal)) (onTc (τ := Cert.SsdPreIdeal.τ) (Cert.SsdPreIdeal.main (F := Ideal))) ⟨m, fun _ => 0, g⟩ (fun r => (∀ c : Dev Cert.SsdPreIdeal.nD,
      r.2.mem ((c.tc : Thread Cert.SsdPreIdeal.nD Cert.SsdPreIdeal.τ).loc Cert.SsdPreIdeal.main_arg0) = m ((c.tc : Thread Cert.SsdPreIdeal.nD Cert.SsdPreIdeal.τ).loc Cert.SsdPreIdeal.main_arg0)
      ∧ r.2.mem ((c.tc : Thread Cert.SsdPreIdeal.nD Cert.SsdPreIdeal.τ).loc Cert.SsdPreIdeal.main_arg1) = m ((c.tc : Thread Cert.SsdPreIdeal.nD Cert.SsdPreIdeal.τ).loc Cert.SsdPreIdeal.main_arg1)
      ∧ r.2.mem ((c.tc : Thread Cert.SsdPreIdeal.nD Cert.SsdPreIdeal.τ).loc Cert.SsdPreIdeal.main_arg2) = m ((c.tc : Thread Cert.SsdPreIdeal.nD Cert.SsdPreIdeal.τ).loc Cert.SsdPreIdeal.main_arg2)
      ∧ r.2.mem ((c.tc : Thread Cert.SsdPreIdeal.nD Cert.SsdPreIdeal.τ).loc Cert.SsdPreIdeal.main_arg3) = m ((c.tc : Thread Cert.SsdPreIdeal.nD Cert.SsdPreIdeal.τ).loc Cert.SsdPreIdeal.main_arg3)
      ∧ r.2.mem ((c.tc : Thread Cert.SsdPreIdeal.nD Cert.SsdPreIdeal.τ).loc Cert.SsdPreIdeal.main_arg4) = m ((c.tc : Thread Cert.SsdPreIdeal.nD Cert.SsdPreIdeal.τ).loc Cert.SsdPreIdeal.main_arg4)
      ∧ r.2.mem ((c.tc : Thread Cert.SsdPreIdeal.nD Cert.SsdPreIdeal.τ).loc Cert.SsdPreIdeal.main_arg5) = m ((c.tc : Thread Cert.SsdPreIdeal.nD Cert.SsdPreIdeal.τ).loc Cert.SsdPreIdeal.main_arg5)
      ∧ r.2.mem ((c.tc : Thread Cert.SsdPreIdeal.nD Cert.SsdPreIdeal.τ).loc Cert.SsdPreIdeal.main_arg6) = m ((c.tc : Thread Cert.SsdPreIdeal.nD Cert.SsdPreIdeal.τ).loc Cert.SsdPreIdeal.main_arg6)
      ∧ r.2.mem ((c.tc : Thread Cert.SsdPreIdeal.nD Cert.SsdPreIdeal.τ).loc Cert.SsdPreIdeal.main_arg7) = m ((c.tc : Thread Cert.SsdPreIdeal.nD Cert.SsdPreIdeal.τ).loc Cert.SsdPreIdeal.main_arg7))
      ∧ r.2.sem = fun _ => 0)

def quiescent_SsdPreIdeal_pre_finite10 [hSsdPreIdeal : Cert.SsdPreIdeal.Facts] [hPre_finite10 : Cert.Pre_finite10.Facts] : Prop :=
  ∀ (m : (ℓ : Loc Cert.SsdPreIdeal.nD Cert.SsdPreIdeal.τ Cert.SsdPreIdeal.sig) → Buf (Elt Ideal) ℓ) (g : Dev Cert.SsdPreIdeal.nD → PrngReg), Pre_SsdPreIdeal_finite10 m →
    θ_run (Cert.SsdPreIdeal.defs (F := Ideal)) (onTc (τ := Cert.SsdPreIdeal.τ) (Cert.SsdPreIdeal.main (F := Ideal))) ⟨m, fun _ => 0, g⟩ (fun r => (∀ c : Dev Cert.SsdPreIdeal.nD,
      r.2.mem ((c.tc : Thread Cert.SsdPreIdeal.nD Cert.SsdPreIdeal.τ).loc Cert.SsdPreIdeal.main_arg0) = m ((c.tc : Thread Cert.SsdPreIdeal.nD Cert.SsdPreIdeal.τ).loc Cert.SsdPreIdeal.main_arg0)
      ∧ r.2.mem ((c.tc : Thread Cert.SsdPreIdeal.nD Cert.SsdPreIdeal.τ).loc Cert.SsdPreIdeal.main_arg1) = m ((c.tc : Thread Cert.SsdPreIdeal.nD Cert.SsdPreIdeal.τ).loc Cert.SsdPreIdeal.main_arg1)
      ∧ r.2.mem ((c.tc : Thread Cert.SsdPreIdeal.nD Cert.SsdPreIdeal.τ).loc Cert.SsdPreIdeal.main_arg2) = m ((c.tc : Thread Cert.SsdPreIdeal.nD Cert.SsdPreIdeal.τ).loc Cert.SsdPreIdeal.main_arg2)
      ∧ r.2.mem ((c.tc : Thread Cert.SsdPreIdeal.nD Cert.SsdPreIdeal.τ).loc Cert.SsdPreIdeal.main_arg3) = m ((c.tc : Thread Cert.SsdPreIdeal.nD Cert.SsdPreIdeal.τ).loc Cert.SsdPreIdeal.main_arg3)
      ∧ r.2.mem ((c.tc : Thread Cert.SsdPreIdeal.nD Cert.SsdPreIdeal.τ).loc Cert.SsdPreIdeal.main_arg4) = m ((c.tc : Thread Cert.SsdPreIdeal.nD Cert.SsdPreIdeal.τ).loc Cert.SsdPreIdeal.main_arg4)
      ∧ r.2.mem ((c.tc : Thread Cert.SsdPreIdeal.nD Cert.SsdPreIdeal.τ).loc Cert.SsdPreIdeal.main_arg5) = m ((c.tc : Thread Cert.SsdPreIdeal.nD Cert.SsdPreIdeal.τ).loc Cert.SsdPreIdeal.main_arg5)
      ∧ r.2.mem ((c.tc : Thread Cert.SsdPreIdeal.nD Cert.SsdPreIdeal.τ).loc Cert.SsdPreIdeal.main_arg6) = m ((c.tc : Thread Cert.SsdPreIdeal.nD Cert.SsdPreIdeal.τ).loc Cert.SsdPreIdeal.main_arg6)
      ∧ r.2.mem ((c.tc : Thread Cert.SsdPreIdeal.nD Cert.SsdPreIdeal.τ).loc Cert.SsdPreIdeal.main_arg7) = m ((c.tc : Thread Cert.SsdPreIdeal.nD Cert.SsdPreIdeal.τ).loc Cert.SsdPreIdeal.main_arg7))
      ∧ r.2.sem = fun _ => 0)

def quiescent_SsdPreRefIdeal [hSsdPreRefIdeal : Cert.SsdPreRefIdeal.Facts] : Prop :=
  ∀ (m : (ℓ : Loc Cert.SsdPreRefIdeal.nD Cert.SsdPreRefIdeal.τ Cert.SsdPreRefIdeal.sig) → Buf (Elt Ideal) ℓ) (g : Dev Cert.SsdPreRefIdeal.nD → PrngReg), Pre_SsdPreRefIdeal m →
    θ_run (Cert.SsdPreRefIdeal.defs (F := Ideal)) (onTc (τ := Cert.SsdPreRefIdeal.τ) (Cert.SsdPreRefIdeal.main (F := Ideal))) ⟨m, fun _ => 0, g⟩ (fun r => (∀ c : Dev Cert.SsdPreRefIdeal.nD,
      r.2.mem ((c.tc : Thread Cert.SsdPreRefIdeal.nD Cert.SsdPreRefIdeal.τ).loc Cert.SsdPreRefIdeal.main_arg0) = m ((c.tc : Thread Cert.SsdPreRefIdeal.nD Cert.SsdPreRefIdeal.τ).loc Cert.SsdPreRefIdeal.main_arg0)
      ∧ r.2.mem ((c.tc : Thread Cert.SsdPreRefIdeal.nD Cert.SsdPreRefIdeal.τ).loc Cert.SsdPreRefIdeal.main_arg1) = m ((c.tc : Thread Cert.SsdPreRefIdeal.nD Cert.SsdPreRefIdeal.τ).loc Cert.SsdPreRefIdeal.main_arg1)
      ∧ r.2.mem ((c.tc : Thread Cert.SsdPreRefIdeal.nD Cert.SsdPreRefIdeal.τ).loc Cert.SsdPreRefIdeal.main_arg2) = m ((c.tc : Thread Cert.SsdPreRefIdeal.nD Cert.SsdPreRefIdeal.τ).loc Cert.SsdPreRefIdeal.main_arg2)
      ∧ r.2.mem ((c.tc : Thread Cert.SsdPreRefIdeal.nD Cert.SsdPreRefIdeal.τ).loc Cert.SsdPreRefIdeal.main_arg3) = m ((c.tc : Thread Cert.SsdPreRefIdeal.nD Cert.SsdPreRefIdeal.τ).loc Cert.SsdPreRefIdeal.main_arg3)
      ∧ r.2.mem ((c.tc : Thread Cert.SsdPreRefIdeal.nD Cert.SsdPreRefIdeal.τ).loc Cert.SsdPreRefIdeal.main_arg4) = m ((c.tc : Thread Cert.SsdPreRefIdeal.nD Cert.SsdPreRefIdeal.τ).loc Cert.SsdPreRefIdeal.main_arg4)
      ∧ r.2.mem ((c.tc : Thread Cert.SsdPreRefIdeal.nD Cert.SsdPreRefIdeal.τ).loc Cert.SsdPreRefIdeal.main_arg5) = m ((c.tc : Thread Cert.SsdPreRefIdeal.nD Cert.SsdPreRefIdeal.τ).loc Cert.SsdPreRefIdeal.main_arg5)
      ∧ r.2.mem ((c.tc : Thread Cert.SsdPreRefIdeal.nD Cert.SsdPreRefIdeal.τ).loc Cert.SsdPreRefIdeal.main_arg6) = m ((c.tc : Thread Cert.SsdPreRefIdeal.nD Cert.SsdPreRefIdeal.τ).loc Cert.SsdPreRefIdeal.main_arg6)
      ∧ r.2.mem ((c.tc : Thread Cert.SsdPreRefIdeal.nD Cert.SsdPreRefIdeal.τ).loc Cert.SsdPreRefIdeal.main_arg7) = m ((c.tc : Thread Cert.SsdPreRefIdeal.nD Cert.SsdPreRefIdeal.τ).loc Cert.SsdPreRefIdeal.main_arg7))
      ∧ r.2.sem = fun _ => 0)

def quiescent_SsdPreRefIdeal_pre_finite10 [hSsdPreRefIdeal : Cert.SsdPreRefIdeal.Facts] [hPre_finite10 : Cert.Pre_finite10.Facts] : Prop :=
  ∀ (m : (ℓ : Loc Cert.SsdPreRefIdeal.nD Cert.SsdPreRefIdeal.τ Cert.SsdPreRefIdeal.sig) → Buf (Elt Ideal) ℓ) (g : Dev Cert.SsdPreRefIdeal.nD → PrngReg), Pre_SsdPreRefIdeal_finite10 m →
    θ_run (Cert.SsdPreRefIdeal.defs (F := Ideal)) (onTc (τ := Cert.SsdPreRefIdeal.τ) (Cert.SsdPreRefIdeal.main (F := Ideal))) ⟨m, fun _ => 0, g⟩ (fun r => (∀ c : Dev Cert.SsdPreRefIdeal.nD,
      r.2.mem ((c.tc : Thread Cert.SsdPreRefIdeal.nD Cert.SsdPreRefIdeal.τ).loc Cert.SsdPreRefIdeal.main_arg0) = m ((c.tc : Thread Cert.SsdPreRefIdeal.nD Cert.SsdPreRefIdeal.τ).loc Cert.SsdPreRefIdeal.main_arg0)
      ∧ r.2.mem ((c.tc : Thread Cert.SsdPreRefIdeal.nD Cert.SsdPreRefIdeal.τ).loc Cert.SsdPreRefIdeal.main_arg1) = m ((c.tc : Thread Cert.SsdPreRefIdeal.nD Cert.SsdPreRefIdeal.τ).loc Cert.SsdPreRefIdeal.main_arg1)
      ∧ r.2.mem ((c.tc : Thread Cert.SsdPreRefIdeal.nD Cert.SsdPreRefIdeal.τ).loc Cert.SsdPreRefIdeal.main_arg2) = m ((c.tc : Thread Cert.SsdPreRefIdeal.nD Cert.SsdPreRefIdeal.τ).loc Cert.SsdPreRefIdeal.main_arg2)
      ∧ r.2.mem ((c.tc : Thread Cert.SsdPreRefIdeal.nD Cert.SsdPreRefIdeal.τ).loc Cert.SsdPreRefIdeal.main_arg3) = m ((c.tc : Thread Cert.SsdPreRefIdeal.nD Cert.SsdPreRefIdeal.τ).loc Cert.SsdPreRefIdeal.main_arg3)
      ∧ r.2.mem ((c.tc : Thread Cert.SsdPreRefIdeal.nD Cert.SsdPreRefIdeal.τ).loc Cert.SsdPreRefIdeal.main_arg4) = m ((c.tc : Thread Cert.SsdPreRefIdeal.nD Cert.SsdPreRefIdeal.τ).loc Cert.SsdPreRefIdeal.main_arg4)
      ∧ r.2.mem ((c.tc : Thread Cert.SsdPreRefIdeal.nD Cert.SsdPreRefIdeal.τ).loc Cert.SsdPreRefIdeal.main_arg5) = m ((c.tc : Thread Cert.SsdPreRefIdeal.nD Cert.SsdPreRefIdeal.τ).loc Cert.SsdPreRefIdeal.main_arg5)
      ∧ r.2.mem ((c.tc : Thread Cert.SsdPreRefIdeal.nD Cert.SsdPreRefIdeal.τ).loc Cert.SsdPreRefIdeal.main_arg6) = m ((c.tc : Thread Cert.SsdPreRefIdeal.nD Cert.SsdPreRefIdeal.τ).loc Cert.SsdPreRefIdeal.main_arg6)
      ∧ r.2.mem ((c.tc : Thread Cert.SsdPreRefIdeal.nD Cert.SsdPreRefIdeal.τ).loc Cert.SsdPreRefIdeal.main_arg7) = m ((c.tc : Thread Cert.SsdPreRefIdeal.nD Cert.SsdPreRefIdeal.τ).loc Cert.SsdPreRefIdeal.main_arg7))
      ∧ r.2.sem = fun _ => 0)

def quiescent_LruSeq [hLruSeq : Cert.LruSeq.Facts] : Prop :=
  ∀ (m : (ℓ : Loc Cert.LruSeq.nD Cert.LruSeq.τ Cert.LruSeq.sig) → Buf (Elt Bits) ℓ) (g : Dev Cert.LruSeq.nD → PrngReg), Pre_LruSeq m →
    θ_run (Cert.LruSeq.defs (F := Bits)) (onTc (τ := Cert.LruSeq.τ) (Cert.LruSeq.main (F := Bits))) ⟨m, fun _ => 0, g⟩ (fun r => (∀ c : Dev Cert.LruSeq.nD,
      r.2.mem ((c.tc : Thread Cert.LruSeq.nD Cert.LruSeq.τ).loc Cert.LruSeq.main_arg0) = m ((c.tc : Thread Cert.LruSeq.nD Cert.LruSeq.τ).loc Cert.LruSeq.main_arg0)
      ∧ r.2.mem ((c.tc : Thread Cert.LruSeq.nD Cert.LruSeq.τ).loc Cert.LruSeq.main_arg1) = m ((c.tc : Thread Cert.LruSeq.nD Cert.LruSeq.τ).loc Cert.LruSeq.main_arg1)
      ∧ r.2.mem ((c.tc : Thread Cert.LruSeq.nD Cert.LruSeq.τ).loc Cert.LruSeq.main_arg2) = m ((c.tc : Thread Cert.LruSeq.nD Cert.LruSeq.τ).loc Cert.LruSeq.main_arg2)
      ∧ r.2.mem ((c.tc : Thread Cert.LruSeq.nD Cert.LruSeq.τ).loc Cert.LruSeq.main_arg3) = m ((c.tc : Thread Cert.LruSeq.nD Cert.LruSeq.τ).loc Cert.LruSeq.main_arg3)
      ∧ r.2.mem ((c.tc : Thread Cert.LruSeq.nD Cert.LruSeq.τ).loc Cert.LruSeq.main_arg4) = m ((c.tc : Thread Cert.LruSeq.nD Cert.LruSeq.τ).loc Cert.LruSeq.main_arg4)
      ∧ r.2.mem ((c.tc : Thread Cert.LruSeq.nD Cert.LruSeq.τ).loc Cert.LruSeq.main_arg5) = m ((c.tc : Thread Cert.LruSeq.nD Cert.LruSeq.τ).loc Cert.LruSeq.main_arg5)
      ∧ r.2.mem ((c.tc : Thread Cert.LruSeq.nD Cert.LruSeq.τ).loc Cert.LruSeq.main_arg6) = m ((c.tc : Thread Cert.LruSeq.nD Cert.LruSeq.τ).loc Cert.LruSeq.main_arg6)
      ∧ r.2.mem ((c.tc : Thread Cert.LruSeq.nD Cert.LruSeq.τ).loc Cert.LruSeq.main_arg7) = m ((c.tc : Thread Cert.LruSeq.nD Cert.LruSeq.τ).loc Cert.LruSeq.main_arg7)
      ∧ r.2.mem ((c.tc : Thread Cert.LruSeq.nD Cert.LruSeq.τ).loc Cert.LruSeq.main_arg8) = m ((c.tc : Thread Cert.LruSeq.nD Cert.LruSeq.τ).loc Cert.LruSeq.main_arg8)
      ∧ r.2.mem ((c.tc : Thread Cert.LruSeq.nD Cert.LruSeq.τ).loc Cert.LruSeq.main_arg9) = m ((c.tc : Thread Cert.LruSeq.nD Cert.LruSeq.τ).loc Cert.LruSeq.main_arg9)
      ∧ r.2.mem ((c.tc : Thread Cert.LruSeq.nD Cert.LruSeq.τ).loc Cert.LruSeq.main_arg10) = m ((c.tc : Thread Cert.LruSeq.nD Cert.LruSeq.τ).loc Cert.LruSeq.main_arg10)
      ∧ r.2.mem ((c.tc : Thread Cert.LruSeq.nD Cert.LruSeq.τ).loc Cert.LruSeq.main_arg11) = m ((c.tc : Thread Cert.LruSeq.nD Cert.LruSeq.τ).loc Cert.LruSeq.main_arg11))
      ∧ r.2.sem = fun _ => 0)

def quiescent_LruSeqIdeal [hLruSeqIdeal : Cert.LruSeqIdeal.Facts] : Prop :=
  ∀ (m : (ℓ : Loc Cert.LruSeqIdeal.nD Cert.LruSeqIdeal.τ Cert.LruSeqIdeal.sig) → Buf (Elt Ideal) ℓ) (g : Dev Cert.LruSeqIdeal.nD → PrngReg), Pre_LruSeqIdeal m →
    θ_run (Cert.LruSeqIdeal.defs (F := Ideal)) (onTc (τ := Cert.LruSeqIdeal.τ) (Cert.LruSeqIdeal.main (F := Ideal))) ⟨m, fun _ => 0, g⟩ (fun r => (∀ c : Dev Cert.LruSeqIdeal.nD,
      r.2.mem ((c.tc : Thread Cert.LruSeqIdeal.nD Cert.LruSeqIdeal.τ).loc Cert.LruSeqIdeal.main_arg0) = m ((c.tc : Thread Cert.LruSeqIdeal.nD Cert.LruSeqIdeal.τ).loc Cert.LruSeqIdeal.main_arg0)
      ∧ r.2.mem ((c.tc : Thread Cert.LruSeqIdeal.nD Cert.LruSeqIdeal.τ).loc Cert.LruSeqIdeal.main_arg1) = m ((c.tc : Thread Cert.LruSeqIdeal.nD Cert.LruSeqIdeal.τ).loc Cert.LruSeqIdeal.main_arg1)
      ∧ r.2.mem ((c.tc : Thread Cert.LruSeqIdeal.nD Cert.LruSeqIdeal.τ).loc Cert.LruSeqIdeal.main_arg2) = m ((c.tc : Thread Cert.LruSeqIdeal.nD Cert.LruSeqIdeal.τ).loc Cert.LruSeqIdeal.main_arg2)
      ∧ r.2.mem ((c.tc : Thread Cert.LruSeqIdeal.nD Cert.LruSeqIdeal.τ).loc Cert.LruSeqIdeal.main_arg3) = m ((c.tc : Thread Cert.LruSeqIdeal.nD Cert.LruSeqIdeal.τ).loc Cert.LruSeqIdeal.main_arg3)
      ∧ r.2.mem ((c.tc : Thread Cert.LruSeqIdeal.nD Cert.LruSeqIdeal.τ).loc Cert.LruSeqIdeal.main_arg4) = m ((c.tc : Thread Cert.LruSeqIdeal.nD Cert.LruSeqIdeal.τ).loc Cert.LruSeqIdeal.main_arg4)
      ∧ r.2.mem ((c.tc : Thread Cert.LruSeqIdeal.nD Cert.LruSeqIdeal.τ).loc Cert.LruSeqIdeal.main_arg5) = m ((c.tc : Thread Cert.LruSeqIdeal.nD Cert.LruSeqIdeal.τ).loc Cert.LruSeqIdeal.main_arg5)
      ∧ r.2.mem ((c.tc : Thread Cert.LruSeqIdeal.nD Cert.LruSeqIdeal.τ).loc Cert.LruSeqIdeal.main_arg6) = m ((c.tc : Thread Cert.LruSeqIdeal.nD Cert.LruSeqIdeal.τ).loc Cert.LruSeqIdeal.main_arg6)
      ∧ r.2.mem ((c.tc : Thread Cert.LruSeqIdeal.nD Cert.LruSeqIdeal.τ).loc Cert.LruSeqIdeal.main_arg7) = m ((c.tc : Thread Cert.LruSeqIdeal.nD Cert.LruSeqIdeal.τ).loc Cert.LruSeqIdeal.main_arg7)
      ∧ r.2.mem ((c.tc : Thread Cert.LruSeqIdeal.nD Cert.LruSeqIdeal.τ).loc Cert.LruSeqIdeal.main_arg8) = m ((c.tc : Thread Cert.LruSeqIdeal.nD Cert.LruSeqIdeal.τ).loc Cert.LruSeqIdeal.main_arg8)
      ∧ r.2.mem ((c.tc : Thread Cert.LruSeqIdeal.nD Cert.LruSeqIdeal.τ).loc Cert.LruSeqIdeal.main_arg9) = m ((c.tc : Thread Cert.LruSeqIdeal.nD Cert.LruSeqIdeal.τ).loc Cert.LruSeqIdeal.main_arg9)
      ∧ r.2.mem ((c.tc : Thread Cert.LruSeqIdeal.nD Cert.LruSeqIdeal.τ).loc Cert.LruSeqIdeal.main_arg10) = m ((c.tc : Thread Cert.LruSeqIdeal.nD Cert.LruSeqIdeal.τ).loc Cert.LruSeqIdeal.main_arg10)
      ∧ r.2.mem ((c.tc : Thread Cert.LruSeqIdeal.nD Cert.LruSeqIdeal.τ).loc Cert.LruSeqIdeal.main_arg11) = m ((c.tc : Thread Cert.LruSeqIdeal.nD Cert.LruSeqIdeal.τ).loc Cert.LruSeqIdeal.main_arg11))
      ∧ r.2.sem = fun _ => 0)

def quiescent_LruSeqRefIdeal [hLruSeqRefIdeal : Cert.LruSeqRefIdeal.Facts] : Prop :=
  ∀ (m : (ℓ : Loc Cert.LruSeqRefIdeal.nD Cert.LruSeqRefIdeal.τ Cert.LruSeqRefIdeal.sig) → Buf (Elt Ideal) ℓ) (g : Dev Cert.LruSeqRefIdeal.nD → PrngReg), Pre_LruSeqRefIdeal m →
    θ_run (Cert.LruSeqRefIdeal.defs (F := Ideal)) (onTc (τ := Cert.LruSeqRefIdeal.τ) (Cert.LruSeqRefIdeal.main (F := Ideal))) ⟨m, fun _ => 0, g⟩ (fun r => (∀ c : Dev Cert.LruSeqRefIdeal.nD,
      r.2.mem ((c.tc : Thread Cert.LruSeqRefIdeal.nD Cert.LruSeqRefIdeal.τ).loc Cert.LruSeqRefIdeal.main_arg0) = m ((c.tc : Thread Cert.LruSeqRefIdeal.nD Cert.LruSeqRefIdeal.τ).loc Cert.LruSeqRefIdeal.main_arg0)
      ∧ r.2.mem ((c.tc : Thread Cert.LruSeqRefIdeal.nD Cert.LruSeqRefIdeal.τ).loc Cert.LruSeqRefIdeal.main_arg1) = m ((c.tc : Thread Cert.LruSeqRefIdeal.nD Cert.LruSeqRefIdeal.τ).loc Cert.LruSeqRefIdeal.main_arg1)
      ∧ r.2.mem ((c.tc : Thread Cert.LruSeqRefIdeal.nD Cert.LruSeqRefIdeal.τ).loc Cert.LruSeqRefIdeal.main_arg2) = m ((c.tc : Thread Cert.LruSeqRefIdeal.nD Cert.LruSeqRefIdeal.τ).loc Cert.LruSeqRefIdeal.main_arg2)
      ∧ r.2.mem ((c.tc : Thread Cert.LruSeqRefIdeal.nD Cert.LruSeqRefIdeal.τ).loc Cert.LruSeqRefIdeal.main_arg3) = m ((c.tc : Thread Cert.LruSeqRefIdeal.nD Cert.LruSeqRefIdeal.τ).loc Cert.LruSeqRefIdeal.main_arg3)
      ∧ r.2.mem ((c.tc : Thread Cert.LruSeqRefIdeal.nD Cert.LruSeqRefIdeal.τ).loc Cert.LruSeqRefIdeal.main_arg4) = m ((c.tc : Thread Cert.LruSeqRefIdeal.nD Cert.LruSeqRefIdeal.τ).loc Cert.LruSeqRefIdeal.main_arg4)
      ∧ r.2.mem ((c.tc : Thread Cert.LruSeqRefIdeal.nD Cert.LruSeqRefIdeal.τ).loc Cert.LruSeqRefIdeal.main_arg5) = m ((c.tc : Thread Cert.LruSeqRefIdeal.nD Cert.LruSeqRefIdeal.τ).loc Cert.LruSeqRefIdeal.main_arg5)
      ∧ r.2.mem ((c.tc : Thread Cert.LruSeqRefIdeal.nD Cert.LruSeqRefIdeal.τ).loc Cert.LruSeqRefIdeal.main_arg6) = m ((c.tc : Thread Cert.LruSeqRefIdeal.nD Cert.LruSeqRefIdeal.τ).loc Cert.LruSeqRefIdeal.main_arg6)
      ∧ r.2.mem ((c.tc : Thread Cert.LruSeqRefIdeal.nD Cert.LruSeqRefIdeal.τ).loc Cert.LruSeqRefIdeal.main_arg7) = m ((c.tc : Thread Cert.LruSeqRefIdeal.nD Cert.LruSeqRefIdeal.τ).loc Cert.LruSeqRefIdeal.main_arg7)
      ∧ r.2.mem ((c.tc : Thread Cert.LruSeqRefIdeal.nD Cert.LruSeqRefIdeal.τ).loc Cert.LruSeqRefIdeal.main_arg8) = m ((c.tc : Thread Cert.LruSeqRefIdeal.nD Cert.LruSeqRefIdeal.τ).loc Cert.LruSeqRefIdeal.main_arg8)
      ∧ r.2.mem ((c.tc : Thread Cert.LruSeqRefIdeal.nD Cert.LruSeqRefIdeal.τ).loc Cert.LruSeqRefIdeal.main_arg9) = m ((c.tc : Thread Cert.LruSeqRefIdeal.nD Cert.LruSeqRefIdeal.τ).loc Cert.LruSeqRefIdeal.main_arg9)
      ∧ r.2.mem ((c.tc : Thread Cert.LruSeqRefIdeal.nD Cert.LruSeqRefIdeal.τ).loc Cert.LruSeqRefIdeal.main_arg10) = m ((c.tc : Thread Cert.LruSeqRefIdeal.nD Cert.LruSeqRefIdeal.τ).loc Cert.LruSeqRefIdeal.main_arg10)
      ∧ r.2.mem ((c.tc : Thread Cert.LruSeqRefIdeal.nD Cert.LruSeqRefIdeal.τ).loc Cert.LruSeqRefIdeal.main_arg11) = m ((c.tc : Thread Cert.LruSeqRefIdeal.nD Cert.LruSeqRefIdeal.τ).loc Cert.LruSeqRefIdeal.main_arg11))
      ∧ r.2.sem = fun _ => 0)

def quiescent_SsdSeq [hSsdSeq : Cert.SsdSeq.Facts] : Prop :=
  ∀ (m : (ℓ : Loc Cert.SsdSeq.nD Cert.SsdSeq.τ Cert.SsdSeq.sig) → Buf (Elt Bits) ℓ) (g : Dev Cert.SsdSeq.nD → PrngReg), Pre_SsdSeq m →
    θ_run (Cert.SsdSeq.defs (F := Bits)) (onTc (τ := Cert.SsdSeq.τ) (Cert.SsdSeq.main (F := Bits))) ⟨m, fun _ => 0, g⟩ (fun r => (∀ c : Dev Cert.SsdSeq.nD,
      r.2.mem ((c.tc : Thread Cert.SsdSeq.nD Cert.SsdSeq.τ).loc Cert.SsdSeq.main_arg0) = m ((c.tc : Thread Cert.SsdSeq.nD Cert.SsdSeq.τ).loc Cert.SsdSeq.main_arg0)
      ∧ r.2.mem ((c.tc : Thread Cert.SsdSeq.nD Cert.SsdSeq.τ).loc Cert.SsdSeq.main_arg1) = m ((c.tc : Thread Cert.SsdSeq.nD Cert.SsdSeq.τ).loc Cert.SsdSeq.main_arg1)
      ∧ r.2.mem ((c.tc : Thread Cert.SsdSeq.nD Cert.SsdSeq.τ).loc Cert.SsdSeq.main_arg2) = m ((c.tc : Thread Cert.SsdSeq.nD Cert.SsdSeq.τ).loc Cert.SsdSeq.main_arg2)
      ∧ r.2.mem ((c.tc : Thread Cert.SsdSeq.nD Cert.SsdSeq.τ).loc Cert.SsdSeq.main_arg3) = m ((c.tc : Thread Cert.SsdSeq.nD Cert.SsdSeq.τ).loc Cert.SsdSeq.main_arg3)
      ∧ r.2.mem ((c.tc : Thread Cert.SsdSeq.nD Cert.SsdSeq.τ).loc Cert.SsdSeq.main_arg4) = m ((c.tc : Thread Cert.SsdSeq.nD Cert.SsdSeq.τ).loc Cert.SsdSeq.main_arg4)
      ∧ r.2.mem ((c.tc : Thread Cert.SsdSeq.nD Cert.SsdSeq.τ).loc Cert.SsdSeq.main_arg5) = m ((c.tc : Thread Cert.SsdSeq.nD Cert.SsdSeq.τ).loc Cert.SsdSeq.main_arg5)
      ∧ r.2.mem ((c.tc : Thread Cert.SsdSeq.nD Cert.SsdSeq.τ).loc Cert.SsdSeq.main_arg6) = m ((c.tc : Thread Cert.SsdSeq.nD Cert.SsdSeq.τ).loc Cert.SsdSeq.main_arg6)
      ∧ r.2.mem ((c.tc : Thread Cert.SsdSeq.nD Cert.SsdSeq.τ).loc Cert.SsdSeq.main_arg7) = m ((c.tc : Thread Cert.SsdSeq.nD Cert.SsdSeq.τ).loc Cert.SsdSeq.main_arg7)
      ∧ r.2.mem ((c.tc : Thread Cert.SsdSeq.nD Cert.SsdSeq.τ).loc Cert.SsdSeq.main_arg8) = m ((c.tc : Thread Cert.SsdSeq.nD Cert.SsdSeq.τ).loc Cert.SsdSeq.main_arg8)
      ∧ r.2.mem ((c.tc : Thread Cert.SsdSeq.nD Cert.SsdSeq.τ).loc Cert.SsdSeq.main_arg9) = m ((c.tc : Thread Cert.SsdSeq.nD Cert.SsdSeq.τ).loc Cert.SsdSeq.main_arg9)
      ∧ r.2.mem ((c.tc : Thread Cert.SsdSeq.nD Cert.SsdSeq.τ).loc Cert.SsdSeq.main_arg10) = m ((c.tc : Thread Cert.SsdSeq.nD Cert.SsdSeq.τ).loc Cert.SsdSeq.main_arg10)
      ∧ r.2.mem ((c.tc : Thread Cert.SsdSeq.nD Cert.SsdSeq.τ).loc Cert.SsdSeq.main_arg11) = m ((c.tc : Thread Cert.SsdSeq.nD Cert.SsdSeq.τ).loc Cert.SsdSeq.main_arg11)
      ∧ r.2.mem ((c.tc : Thread Cert.SsdSeq.nD Cert.SsdSeq.τ).loc Cert.SsdSeq.main_arg12) = m ((c.tc : Thread Cert.SsdSeq.nD Cert.SsdSeq.τ).loc Cert.SsdSeq.main_arg12))
      ∧ r.2.sem = fun _ => 0)

def quiescent_SsdSeqIdeal [hSsdSeqIdeal : Cert.SsdSeqIdeal.Facts] : Prop :=
  ∀ (m : (ℓ : Loc Cert.SsdSeqIdeal.nD Cert.SsdSeqIdeal.τ Cert.SsdSeqIdeal.sig) → Buf (Elt Ideal) ℓ) (g : Dev Cert.SsdSeqIdeal.nD → PrngReg), Pre_SsdSeqIdeal m →
    θ_run (Cert.SsdSeqIdeal.defs (F := Ideal)) (onTc (τ := Cert.SsdSeqIdeal.τ) (Cert.SsdSeqIdeal.main (F := Ideal))) ⟨m, fun _ => 0, g⟩ (fun r => (∀ c : Dev Cert.SsdSeqIdeal.nD,
      r.2.mem ((c.tc : Thread Cert.SsdSeqIdeal.nD Cert.SsdSeqIdeal.τ).loc Cert.SsdSeqIdeal.main_arg0) = m ((c.tc : Thread Cert.SsdSeqIdeal.nD Cert.SsdSeqIdeal.τ).loc Cert.SsdSeqIdeal.main_arg0)
      ∧ r.2.mem ((c.tc : Thread Cert.SsdSeqIdeal.nD Cert.SsdSeqIdeal.τ).loc Cert.SsdSeqIdeal.main_arg1) = m ((c.tc : Thread Cert.SsdSeqIdeal.nD Cert.SsdSeqIdeal.τ).loc Cert.SsdSeqIdeal.main_arg1)
      ∧ r.2.mem ((c.tc : Thread Cert.SsdSeqIdeal.nD Cert.SsdSeqIdeal.τ).loc Cert.SsdSeqIdeal.main_arg2) = m ((c.tc : Thread Cert.SsdSeqIdeal.nD Cert.SsdSeqIdeal.τ).loc Cert.SsdSeqIdeal.main_arg2)
      ∧ r.2.mem ((c.tc : Thread Cert.SsdSeqIdeal.nD Cert.SsdSeqIdeal.τ).loc Cert.SsdSeqIdeal.main_arg3) = m ((c.tc : Thread Cert.SsdSeqIdeal.nD Cert.SsdSeqIdeal.τ).loc Cert.SsdSeqIdeal.main_arg3)
      ∧ r.2.mem ((c.tc : Thread Cert.SsdSeqIdeal.nD Cert.SsdSeqIdeal.τ).loc Cert.SsdSeqIdeal.main_arg4) = m ((c.tc : Thread Cert.SsdSeqIdeal.nD Cert.SsdSeqIdeal.τ).loc Cert.SsdSeqIdeal.main_arg4)
      ∧ r.2.mem ((c.tc : Thread Cert.SsdSeqIdeal.nD Cert.SsdSeqIdeal.τ).loc Cert.SsdSeqIdeal.main_arg5) = m ((c.tc : Thread Cert.SsdSeqIdeal.nD Cert.SsdSeqIdeal.τ).loc Cert.SsdSeqIdeal.main_arg5)
      ∧ r.2.mem ((c.tc : Thread Cert.SsdSeqIdeal.nD Cert.SsdSeqIdeal.τ).loc Cert.SsdSeqIdeal.main_arg6) = m ((c.tc : Thread Cert.SsdSeqIdeal.nD Cert.SsdSeqIdeal.τ).loc Cert.SsdSeqIdeal.main_arg6)
      ∧ r.2.mem ((c.tc : Thread Cert.SsdSeqIdeal.nD Cert.SsdSeqIdeal.τ).loc Cert.SsdSeqIdeal.main_arg7) = m ((c.tc : Thread Cert.SsdSeqIdeal.nD Cert.SsdSeqIdeal.τ).loc Cert.SsdSeqIdeal.main_arg7)
      ∧ r.2.mem ((c.tc : Thread Cert.SsdSeqIdeal.nD Cert.SsdSeqIdeal.τ).loc Cert.SsdSeqIdeal.main_arg8) = m ((c.tc : Thread Cert.SsdSeqIdeal.nD Cert.SsdSeqIdeal.τ).loc Cert.SsdSeqIdeal.main_arg8)
      ∧ r.2.mem ((c.tc : Thread Cert.SsdSeqIdeal.nD Cert.SsdSeqIdeal.τ).loc Cert.SsdSeqIdeal.main_arg9) = m ((c.tc : Thread Cert.SsdSeqIdeal.nD Cert.SsdSeqIdeal.τ).loc Cert.SsdSeqIdeal.main_arg9)
      ∧ r.2.mem ((c.tc : Thread Cert.SsdSeqIdeal.nD Cert.SsdSeqIdeal.τ).loc Cert.SsdSeqIdeal.main_arg10) = m ((c.tc : Thread Cert.SsdSeqIdeal.nD Cert.SsdSeqIdeal.τ).loc Cert.SsdSeqIdeal.main_arg10)
      ∧ r.2.mem ((c.tc : Thread Cert.SsdSeqIdeal.nD Cert.SsdSeqIdeal.τ).loc Cert.SsdSeqIdeal.main_arg11) = m ((c.tc : Thread Cert.SsdSeqIdeal.nD Cert.SsdSeqIdeal.τ).loc Cert.SsdSeqIdeal.main_arg11)
      ∧ r.2.mem ((c.tc : Thread Cert.SsdSeqIdeal.nD Cert.SsdSeqIdeal.τ).loc Cert.SsdSeqIdeal.main_arg12) = m ((c.tc : Thread Cert.SsdSeqIdeal.nD Cert.SsdSeqIdeal.τ).loc Cert.SsdSeqIdeal.main_arg12))
      ∧ r.2.sem = fun _ => 0)

def quiescent_SsdSeqRefIdeal [hSsdSeqRefIdeal : Cert.SsdSeqRefIdeal.Facts] : Prop :=
  ∀ (m : (ℓ : Loc Cert.SsdSeqRefIdeal.nD Cert.SsdSeqRefIdeal.τ Cert.SsdSeqRefIdeal.sig) → Buf (Elt Ideal) ℓ) (g : Dev Cert.SsdSeqRefIdeal.nD → PrngReg), Pre_SsdSeqRefIdeal m →
    θ_run (Cert.SsdSeqRefIdeal.defs (F := Ideal)) (onTc (τ := Cert.SsdSeqRefIdeal.τ) (Cert.SsdSeqRefIdeal.main (F := Ideal))) ⟨m, fun _ => 0, g⟩ (fun r => (∀ c : Dev Cert.SsdSeqRefIdeal.nD,
      r.2.mem ((c.tc : Thread Cert.SsdSeqRefIdeal.nD Cert.SsdSeqRefIdeal.τ).loc Cert.SsdSeqRefIdeal.main_arg0) = m ((c.tc : Thread Cert.SsdSeqRefIdeal.nD Cert.SsdSeqRefIdeal.τ).loc Cert.SsdSeqRefIdeal.main_arg0)
      ∧ r.2.mem ((c.tc : Thread Cert.SsdSeqRefIdeal.nD Cert.SsdSeqRefIdeal.τ).loc Cert.SsdSeqRefIdeal.main_arg1) = m ((c.tc : Thread Cert.SsdSeqRefIdeal.nD Cert.SsdSeqRefIdeal.τ).loc Cert.SsdSeqRefIdeal.main_arg1)
      ∧ r.2.mem ((c.tc : Thread Cert.SsdSeqRefIdeal.nD Cert.SsdSeqRefIdeal.τ).loc Cert.SsdSeqRefIdeal.main_arg2) = m ((c.tc : Thread Cert.SsdSeqRefIdeal.nD Cert.SsdSeqRefIdeal.τ).loc Cert.SsdSeqRefIdeal.main_arg2)
      ∧ r.2.mem ((c.tc : Thread Cert.SsdSeqRefIdeal.nD Cert.SsdSeqRefIdeal.τ).loc Cert.SsdSeqRefIdeal.main_arg3) = m ((c.tc : Thread Cert.SsdSeqRefIdeal.nD Cert.SsdSeqRefIdeal.τ).loc Cert.SsdSeqRefIdeal.main_arg3)
      ∧ r.2.mem ((c.tc : Thread Cert.SsdSeqRefIdeal.nD Cert.SsdSeqRefIdeal.τ).loc Cert.SsdSeqRefIdeal.main_arg4) = m ((c.tc : Thread Cert.SsdSeqRefIdeal.nD Cert.SsdSeqRefIdeal.τ).loc Cert.SsdSeqRefIdeal.main_arg4)
      ∧ r.2.mem ((c.tc : Thread Cert.SsdSeqRefIdeal.nD Cert.SsdSeqRefIdeal.τ).loc Cert.SsdSeqRefIdeal.main_arg5) = m ((c.tc : Thread Cert.SsdSeqRefIdeal.nD Cert.SsdSeqRefIdeal.τ).loc Cert.SsdSeqRefIdeal.main_arg5)
      ∧ r.2.mem ((c.tc : Thread Cert.SsdSeqRefIdeal.nD Cert.SsdSeqRefIdeal.τ).loc Cert.SsdSeqRefIdeal.main_arg6) = m ((c.tc : Thread Cert.SsdSeqRefIdeal.nD Cert.SsdSeqRefIdeal.τ).loc Cert.SsdSeqRefIdeal.main_arg6)
      ∧ r.2.mem ((c.tc : Thread Cert.SsdSeqRefIdeal.nD Cert.SsdSeqRefIdeal.τ).loc Cert.SsdSeqRefIdeal.main_arg7) = m ((c.tc : Thread Cert.SsdSeqRefIdeal.nD Cert.SsdSeqRefIdeal.τ).loc Cert.SsdSeqRefIdeal.main_arg7)
      ∧ r.2.mem ((c.tc : Thread Cert.SsdSeqRefIdeal.nD Cert.SsdSeqRefIdeal.τ).loc Cert.SsdSeqRefIdeal.main_arg8) = m ((c.tc : Thread Cert.SsdSeqRefIdeal.nD Cert.SsdSeqRefIdeal.τ).loc Cert.SsdSeqRefIdeal.main_arg8)
      ∧ r.2.mem ((c.tc : Thread Cert.SsdSeqRefIdeal.nD Cert.SsdSeqRefIdeal.τ).loc Cert.SsdSeqRefIdeal.main_arg9) = m ((c.tc : Thread Cert.SsdSeqRefIdeal.nD Cert.SsdSeqRefIdeal.τ).loc Cert.SsdSeqRefIdeal.main_arg9)
      ∧ r.2.mem ((c.tc : Thread Cert.SsdSeqRefIdeal.nD Cert.SsdSeqRefIdeal.τ).loc Cert.SsdSeqRefIdeal.main_arg10) = m ((c.tc : Thread Cert.SsdSeqRefIdeal.nD Cert.SsdSeqRefIdeal.τ).loc Cert.SsdSeqRefIdeal.main_arg10)
      ∧ r.2.mem ((c.tc : Thread Cert.SsdSeqRefIdeal.nD Cert.SsdSeqRefIdeal.τ).loc Cert.SsdSeqRefIdeal.main_arg11) = m ((c.tc : Thread Cert.SsdSeqRefIdeal.nD Cert.SsdSeqRefIdeal.τ).loc Cert.SsdSeqRefIdeal.main_arg11)
      ∧ r.2.mem ((c.tc : Thread Cert.SsdSeqRefIdeal.nD Cert.SsdSeqRefIdeal.τ).loc Cert.SsdSeqRefIdeal.main_arg12) = m ((c.tc : Thread Cert.SsdSeqRefIdeal.nD Cert.SsdSeqRefIdeal.τ).loc Cert.SsdSeqRefIdeal.main_arg12))
      ∧ r.2.sem = fun _ => 0)

def preserves_Kernel_KernelIdeal : Prop :=
  True

def algebraic_KernelIdeal_ReferenceIdeal_pre_finite_lambda [hKernelIdeal : Cert.KernelIdeal.Facts] [hReferenceIdeal : Cert.ReferenceIdeal.Facts] [hPre_finite_lambda : Cert.Pre_finite_lambda.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_lambda m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)
      ∧ m' ((c.tc : Thread Cert.MlpUpRefIdeal.nD Cert.MlpUpRefIdeal.τ).loc Cert.MlpUpRefIdeal.main_arg2) = m ((c.tc : Thread Cert.MlpUpIdeal.nD Cert.MlpUpIdeal.τ).loc Cert.MlpUpIdeal.main_arg2)) →
    ∃ (v0 : (c : Dev Cert.MlpUpIdeal.nD) → Buf (Elt Ideal) ((c.tc : Thread Cert.MlpUpIdeal.nD Cert.MlpUpIdeal.τ).loc Cert.MlpUpIdeal.main_v4)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v4) = v0 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
          ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v18) = v0 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1)
          ∧ r.2.mem ((c.tc : Thread Cert.MlpUpRefIdeal.nD Cert.MlpUpRefIdeal.τ).loc Cert.MlpUpRefIdeal.main_arg2) = m' ((c.tc : Thread Cert.MlpUpRefIdeal.nD Cert.MlpUpRefIdeal.τ).loc Cert.MlpUpRefIdeal.main_arg2))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)
      ∧ m' ((c.tc : Thread Cert.MlpDownRefIdeal.nD Cert.MlpDownRefIdeal.τ).loc Cert.MlpDownRefIdeal.main_arg3) = m ((c.tc : Thread Cert.MlpDownIdeal.nD Cert.MlpDownIdeal.τ).loc Cert.MlpDownIdeal.main_arg3)) →
    ∃ (v0 : (c : Dev Cert.MlpDownIdeal.nD) → Buf (Elt Ideal) ((c.tc : Thread Cert.MlpDownIdeal.nD Cert.MlpDownIdeal.τ).loc Cert.MlpDownIdeal.main_v4)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v4) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
          ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v15) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2)
          ∧ r.2.mem ((c.tc : Thread Cert.MlpDownRefIdeal.nD Cert.MlpDownRefIdeal.τ).loc Cert.MlpDownRefIdeal.main_arg3) = m' ((c.tc : Thread Cert.MlpDownRefIdeal.nD Cert.MlpDownRefIdeal.τ).loc Cert.MlpDownRefIdeal.main_arg3))

def preserves_InProj_InProjIdeal : Prop :=
  True

def algebraic_InProjIdeal_InProjRefIdeal_pre_finite4 [hInProjIdeal : Cert.InProjIdeal.Facts] [hInProjRefIdeal : Cert.InProjRefIdeal.Facts] [hPre_finite4 : Cert.Pre_finite4.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_finite4 m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v7_0)) (v1 : (c : Dev Cert.InProjIdeal.nD) → Buf (Elt Ideal) ((c.tc : Thread Cert.InProjIdeal.nD Cert.InProjIdeal.τ).loc Cert.InProjIdeal.main_v7_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v7_0) = v0 c
          ∧ r.2.mem ((c.tc : Thread Cert.InProjIdeal.nD Cert.InProjIdeal.τ).loc Cert.InProjIdeal.main_v7_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v34) = v0 c
          ∧ r.2.mem ((c.tc : Thread Cert.InProjRefIdeal.nD Cert.InProjRefIdeal.τ).loc Cert.InProjRefIdeal.main_v37) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_SsdState_SsdStateIdeal : Prop :=
  True

def algebraic_SsdStateIdeal_SsdStateRefIdeal [hSsdStateIdeal : Cert.SsdStateIdeal.Facts] [hSsdStateRefIdeal : Cert.SsdStateRefIdeal.Facts] : Prop :=
  ∀ (m : (ℓ : Loc Cert.SsdStateIdeal.nD Cert.SsdStateIdeal.τ Cert.SsdStateIdeal.sig) → Buf (Elt Ideal) ℓ) (g : Dev Cert.SsdStateIdeal.nD → PrngReg)
    (m' : (ℓ : Loc Cert.SsdStateRefIdeal.nD Cert.SsdStateRefIdeal.τ Cert.SsdStateRefIdeal.sig) → Buf (Elt Ideal) ℓ) (g' : Dev Cert.SsdStateRefIdeal.nD → PrngReg), Pre_SsdStateIdeal m →
    (∀ c : Dev Cert.SsdStateIdeal.nD,
      m' ((c.tc : Thread Cert.SsdStateRefIdeal.nD Cert.SsdStateRefIdeal.τ).loc Cert.SsdStateRefIdeal.main_arg0) = m ((c.tc : Thread Cert.SsdStateIdeal.nD Cert.SsdStateIdeal.τ).loc Cert.SsdStateIdeal.main_arg0)
      ∧ m' ((c.tc : Thread Cert.SsdStateRefIdeal.nD Cert.SsdStateRefIdeal.τ).loc Cert.SsdStateRefIdeal.main_arg1) = m ((c.tc : Thread Cert.SsdStateIdeal.nD Cert.SsdStateIdeal.τ).loc Cert.SsdStateIdeal.main_arg1)
      ∧ m' ((c.tc : Thread Cert.SsdStateRefIdeal.nD Cert.SsdStateRefIdeal.τ).loc Cert.SsdStateRefIdeal.main_arg2) = m ((c.tc : Thread Cert.SsdStateIdeal.nD Cert.SsdStateIdeal.τ).loc Cert.SsdStateIdeal.main_arg2)
      ∧ m' ((c.tc : Thread Cert.SsdStateRefIdeal.nD Cert.SsdStateRefIdeal.τ).loc Cert.SsdStateRefIdeal.main_arg3) = m ((c.tc : Thread Cert.SsdStateIdeal.nD Cert.SsdStateIdeal.τ).loc Cert.SsdStateIdeal.main_arg3)
      ∧ m' ((c.tc : Thread Cert.SsdStateRefIdeal.nD Cert.SsdStateRefIdeal.τ).loc Cert.SsdStateRefIdeal.main_arg4) = m ((c.tc : Thread Cert.SsdStateIdeal.nD Cert.SsdStateIdeal.τ).loc Cert.SsdStateIdeal.main_arg4)) →
    ∃ (v0 : (c : Dev Cert.SsdStateIdeal.nD) → Buf (Elt Ideal) ((c.tc : Thread Cert.SsdStateIdeal.nD Cert.SsdStateIdeal.τ).loc Cert.SsdStateIdeal.main_v2_0)) (v1 : (c : Dev Cert.SsdStateIdeal.nD) → Buf (Elt Ideal) ((c.tc : Thread Cert.SsdStateIdeal.nD Cert.SsdStateIdeal.τ).loc Cert.SsdStateIdeal.main_v2_1)),
      θ_run (Cert.SsdStateIdeal.defs (F := Ideal)) (onTc (τ := Cert.SsdStateIdeal.τ) (Cert.SsdStateIdeal.main (F := Ideal))) ⟨m, fun _ => 0, g⟩ (fun r => ∀ c : Dev Cert.SsdStateIdeal.nD,
          r.2.mem ((c.tc : Thread Cert.SsdStateIdeal.nD Cert.SsdStateIdeal.τ).loc Cert.SsdStateIdeal.main_v2_0) = v0 c
          ∧ r.2.mem ((c.tc : Thread Cert.SsdStateIdeal.nD Cert.SsdStateIdeal.τ).loc Cert.SsdStateIdeal.main_v2_1) = v1 c
          ∧ r.2.mem ((c.tc : Thread Cert.SsdStateIdeal.nD Cert.SsdStateIdeal.τ).loc Cert.SsdStateIdeal.main_arg0) = m ((c.tc : Thread Cert.SsdStateIdeal.nD Cert.SsdStateIdeal.τ).loc Cert.SsdStateIdeal.main_arg0)
          ∧ r.2.mem ((c.tc : Thread Cert.SsdStateIdeal.nD Cert.SsdStateIdeal.τ).loc Cert.SsdStateIdeal.main_arg1) = m ((c.tc : Thread Cert.SsdStateIdeal.nD Cert.SsdStateIdeal.τ).loc Cert.SsdStateIdeal.main_arg1)
          ∧ r.2.mem ((c.tc : Thread Cert.SsdStateIdeal.nD Cert.SsdStateIdeal.τ).loc Cert.SsdStateIdeal.main_arg2) = m ((c.tc : Thread Cert.SsdStateIdeal.nD Cert.SsdStateIdeal.τ).loc Cert.SsdStateIdeal.main_arg2)
          ∧ r.2.mem ((c.tc : Thread Cert.SsdStateIdeal.nD Cert.SsdStateIdeal.τ).loc Cert.SsdStateIdeal.main_arg3) = m ((c.tc : Thread Cert.SsdStateIdeal.nD Cert.SsdStateIdeal.τ).loc Cert.SsdStateIdeal.main_arg3)
          ∧ r.2.mem ((c.tc : Thread Cert.SsdStateIdeal.nD Cert.SsdStateIdeal.τ).loc Cert.SsdStateIdeal.main_arg4) = m ((c.tc : Thread Cert.SsdStateIdeal.nD Cert.SsdStateIdeal.τ).loc Cert.SsdStateIdeal.main_arg4))
      ∧ θ_run (Cert.SsdStateRefIdeal.defs (F := Ideal)) (onTc (τ := Cert.SsdStateRefIdeal.τ) (Cert.SsdStateRefIdeal.main (F := Ideal))) ⟨m', fun _ => 0, g'⟩ (fun r => ∀ c : Dev Cert.SsdStateRefIdeal.nD,
          r.2.mem ((c.tc : Thread Cert.SsdStateRefIdeal.nD Cert.SsdStateRefIdeal.τ).loc Cert.SsdStateRefIdeal.main_v14) = v0 c
          ∧ r.2.mem ((c.tc : Thread Cert.SsdStateRefIdeal.nD Cert.SsdStateRefIdeal.τ).loc Cert.SsdStateRefIdeal.main_v15) = v1 c
          ∧ r.2.mem ((c.tc : Thread Cert.SsdStateRefIdeal.nD Cert.SsdStateRefIdeal.τ).loc Cert.SsdStateRefIdeal.main_arg0) = m' ((c.tc : Thread Cert.SsdStateRefIdeal.nD Cert.SsdStateRefIdeal.τ).loc Cert.SsdStateRefIdeal.main_arg0)
          ∧ r.2.mem ((c.tc : Thread Cert.SsdStateRefIdeal.nD Cert.SsdStateRefIdeal.τ).loc Cert.SsdStateRefIdeal.main_arg1) = m' ((c.tc : Thread Cert.SsdStateRefIdeal.nD Cert.SsdStateRefIdeal.τ).loc Cert.SsdStateRefIdeal.main_arg1)
          ∧ r.2.mem ((c.tc : Thread Cert.SsdStateRefIdeal.nD Cert.SsdStateRefIdeal.τ).loc Cert.SsdStateRefIdeal.main_arg2) = m' ((c.tc : Thread Cert.SsdStateRefIdeal.nD Cert.SsdStateRefIdeal.τ).loc Cert.SsdStateRefIdeal.main_arg2)
          ∧ r.2.mem ((c.tc : Thread Cert.SsdStateRefIdeal.nD Cert.SsdStateRefIdeal.τ).loc Cert.SsdStateRefIdeal.main_arg3) = m' ((c.tc : Thread Cert.SsdStateRefIdeal.nD Cert.SsdStateRefIdeal.τ).loc Cert.SsdStateRefIdeal.main_arg3)
          ∧ r.2.mem ((c.tc : Thread Cert.SsdStateRefIdeal.nD Cert.SsdStateRefIdeal.τ).loc Cert.SsdStateRefIdeal.main_arg4) = m' ((c.tc : Thread Cert.SsdStateRefIdeal.nD Cert.SsdStateRefIdeal.τ).loc Cert.SsdStateRefIdeal.main_arg4))

def preserves_DownSlab_DownSlabIdeal : Prop :=
  True

def algebraic_DownSlabIdeal_DownSlabRefIdeal [hDownSlabIdeal : Cert.DownSlabIdeal.Facts] [hDownSlabRefIdeal : Cert.DownSlabRefIdeal.Facts] : Prop :=
  ∀ (m : (ℓ : Loc Cert.DownSlabIdeal.nD Cert.DownSlabIdeal.τ Cert.DownSlabIdeal.sig) → Buf (Elt Ideal) ℓ) (g : Dev Cert.DownSlabIdeal.nD → PrngReg)
    (m' : (ℓ : Loc Cert.DownSlabRefIdeal.nD Cert.DownSlabRefIdeal.τ Cert.DownSlabRefIdeal.sig) → Buf (Elt Ideal) ℓ) (g' : Dev Cert.DownSlabRefIdeal.nD → PrngReg), Pre_DownSlabIdeal m →
    (∀ c : Dev Cert.DownSlabIdeal.nD,
      m' ((c.tc : Thread Cert.DownSlabRefIdeal.nD Cert.DownSlabRefIdeal.τ).loc Cert.DownSlabRefIdeal.main_arg0) = m ((c.tc : Thread Cert.DownSlabIdeal.nD Cert.DownSlabIdeal.τ).loc Cert.DownSlabIdeal.main_arg0)
      ∧ m' ((c.tc : Thread Cert.DownSlabRefIdeal.nD Cert.DownSlabRefIdeal.τ).loc Cert.DownSlabRefIdeal.main_arg1) = m ((c.tc : Thread Cert.DownSlabIdeal.nD Cert.DownSlabIdeal.τ).loc Cert.DownSlabIdeal.main_arg1)
      ∧ m' ((c.tc : Thread Cert.DownSlabRefIdeal.nD Cert.DownSlabRefIdeal.τ).loc Cert.DownSlabRefIdeal.main_arg2) = m ((c.tc : Thread Cert.DownSlabIdeal.nD Cert.DownSlabIdeal.τ).loc Cert.DownSlabIdeal.main_arg2)
      ∧ m' ((c.tc : Thread Cert.DownSlabRefIdeal.nD Cert.DownSlabRefIdeal.τ).loc Cert.DownSlabRefIdeal.main_arg3) = m ((c.tc : Thread Cert.DownSlabIdeal.nD Cert.DownSlabIdeal.τ).loc Cert.DownSlabIdeal.main_arg3)) →
    ∃ (v0 : (c : Dev Cert.DownSlabIdeal.nD) → Buf (Elt Ideal) ((c.tc : Thread Cert.DownSlabIdeal.nD Cert.DownSlabIdeal.τ).loc Cert.DownSlabIdeal.main_v2_0)) (v1 : (c : Dev Cert.DownSlabIdeal.nD) → Buf (Elt Ideal) ((c.tc : Thread Cert.DownSlabIdeal.nD Cert.DownSlabIdeal.τ).loc Cert.DownSlabIdeal.main_v2_1)) (v2 : (c : Dev Cert.DownSlabIdeal.nD) → Buf (Elt Ideal) ((c.tc : Thread Cert.DownSlabIdeal.nD Cert.DownSlabIdeal.τ).loc Cert.DownSlabIdeal.main_v2_2)),
      θ_run (Cert.DownSlabIdeal.defs (F := Ideal)) (onTc (τ := Cert.DownSlabIdeal.τ) (Cert.DownSlabIdeal.main (F := Ideal))) ⟨m, fun _ => 0, g⟩ (fun r => ∀ c : Dev Cert.DownSlabIdeal.nD,
          r.2.mem ((c.tc : Thread Cert.DownSlabIdeal.nD Cert.DownSlabIdeal.τ).loc Cert.DownSlabIdeal.main_v2_0) = v0 c
          ∧ r.2.mem ((c.tc : Thread Cert.DownSlabIdeal.nD Cert.DownSlabIdeal.τ).loc Cert.DownSlabIdeal.main_v2_1) = v1 c
          ∧ r.2.mem ((c.tc : Thread Cert.DownSlabIdeal.nD Cert.DownSlabIdeal.τ).loc Cert.DownSlabIdeal.main_v2_2) = v2 c
          ∧ r.2.mem ((c.tc : Thread Cert.DownSlabIdeal.nD Cert.DownSlabIdeal.τ).loc Cert.DownSlabIdeal.main_arg0) = m ((c.tc : Thread Cert.DownSlabIdeal.nD Cert.DownSlabIdeal.τ).loc Cert.DownSlabIdeal.main_arg0)
          ∧ r.2.mem ((c.tc : Thread Cert.DownSlabIdeal.nD Cert.DownSlabIdeal.τ).loc Cert.DownSlabIdeal.main_arg1) = m ((c.tc : Thread Cert.DownSlabIdeal.nD Cert.DownSlabIdeal.τ).loc Cert.DownSlabIdeal.main_arg1)
          ∧ r.2.mem ((c.tc : Thread Cert.DownSlabIdeal.nD Cert.DownSlabIdeal.τ).loc Cert.DownSlabIdeal.main_arg2) = m ((c.tc : Thread Cert.DownSlabIdeal.nD Cert.DownSlabIdeal.τ).loc Cert.DownSlabIdeal.main_arg2)
          ∧ r.2.mem ((c.tc : Thread Cert.DownSlabIdeal.nD Cert.DownSlabIdeal.τ).loc Cert.DownSlabIdeal.main_arg3) = m ((c.tc : Thread Cert.DownSlabIdeal.nD Cert.DownSlabIdeal.τ).loc Cert.DownSlabIdeal.main_arg3))
      ∧ θ_run (Cert.DownSlabRefIdeal.defs (F := Ideal)) (onTc (τ := Cert.DownSlabRefIdeal.τ) (Cert.DownSlabRefIdeal.main (F := Ideal))) ⟨m', fun _ => 0, g'⟩ (fun r => ∀ c : Dev Cert.DownSlabRefIdeal.nD,
          r.2.mem ((c.tc : Thread Cert.DownSlabRefIdeal.nD Cert.DownSlabRefIdeal.τ).loc Cert.DownSlabRefIdeal.main_v15) = v0 c
          ∧ r.2.mem ((c.tc : Thread Cert.DownSlabRefIdeal.nD Cert.DownSlabRefIdeal.τ).loc Cert.DownSlabRefIdeal.main_v17) = v1 c
          ∧ r.2.mem ((c.tc : Thread Cert.DownSlabRefIdeal.nD Cert.DownSlabRefIdeal.τ).loc Cert.DownSlabRefIdeal.main_v19) = v2 c
          ∧ r.2.mem ((c.tc : Thread Cert.DownSlabRefIdeal.nD Cert.DownSlabRefIdeal.τ).loc Cert.DownSlabRefIdeal.main_arg0) = m' ((c.tc : Thread Cert.DownSlabRefIdeal.nD Cert.DownSlabRefIdeal.τ).loc Cert.DownSlabRefIdeal.main_arg0)
          ∧ r.2.mem ((c.tc : Thread Cert.DownSlabRefIdeal.nD Cert.DownSlabRefIdeal.τ).loc Cert.DownSlabRefIdeal.main_arg1) = m' ((c.tc : Thread Cert.DownSlabRefIdeal.nD Cert.DownSlabRefIdeal.τ).loc Cert.DownSlabRefIdeal.main_arg1)
          ∧ r.2.mem ((c.tc : Thread Cert.DownSlabRefIdeal.nD Cert.DownSlabRefIdeal.τ).loc Cert.DownSlabRefIdeal.main_arg2) = m' ((c.tc : Thread Cert.DownSlabRefIdeal.nD Cert.DownSlabRefIdeal.τ).loc Cert.DownSlabRefIdeal.main_arg2)
          ∧ r.2.mem ((c.tc : Thread Cert.DownSlabRefIdeal.nD Cert.DownSlabRefIdeal.τ).loc Cert.DownSlabRefIdeal.main_arg3) = m' ((c.tc : Thread Cert.DownSlabRefIdeal.nD Cert.DownSlabRefIdeal.τ).loc Cert.DownSlabRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v2_0)) (v1 : (c : Dev Cert.OutProjIdeal.nD) → Buf (Elt Ideal) ((c.tc : Thread Cert.OutProjIdeal.nD Cert.OutProjIdeal.τ).loc Cert.OutProjIdeal.main_v2_1)) (v2 : (c : Dev Cert.OutProjIdeal.nD) → Buf (Elt Ideal) ((c.tc : Thread Cert.OutProjIdeal.nD Cert.OutProjIdeal.τ).loc Cert.OutProjIdeal.main_v2_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2_0) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_v2_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v5) = v0 c
          ∧ r.2.mem ((c.tc : Thread Cert.OutProjRefIdeal.nD Cert.OutProjRefIdeal.τ).loc Cert.OutProjRefIdeal.main_v8) = v1 c
          ∧ r.2.mem ((c.tc : Thread Cert.OutProjRefIdeal.nD Cert.OutProjRefIdeal.τ).loc Cert.OutProjRefIdeal.main_v11) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_UpSlab_UpSlabIdeal : Prop :=
  True

def algebraic_UpSlabIdeal_UpSlabRefIdeal [hUpSlabIdeal : Cert.UpSlabIdeal.Facts] [hUpSlabRefIdeal : Cert.UpSlabRefIdeal.Facts] : Prop :=
  ∀ (m : (ℓ : Loc Cert.UpSlabIdeal.nD Cert.UpSlabIdeal.τ Cert.UpSlabIdeal.sig) → Buf (Elt Ideal) ℓ) (g : Dev Cert.UpSlabIdeal.nD → PrngReg)
    (m' : (ℓ : Loc Cert.UpSlabRefIdeal.nD Cert.UpSlabRefIdeal.τ Cert.UpSlabRefIdeal.sig) → Buf (Elt Ideal) ℓ) (g' : Dev Cert.UpSlabRefIdeal.nD → PrngReg), Pre_UpSlabIdeal m →
    (∀ c : Dev Cert.UpSlabIdeal.nD,
      m' ((c.tc : Thread Cert.UpSlabRefIdeal.nD Cert.UpSlabRefIdeal.τ).loc Cert.UpSlabRefIdeal.main_arg0) = m ((c.tc : Thread Cert.UpSlabIdeal.nD Cert.UpSlabIdeal.τ).loc Cert.UpSlabIdeal.main_arg0)
      ∧ m' ((c.tc : Thread Cert.UpSlabRefIdeal.nD Cert.UpSlabRefIdeal.τ).loc Cert.UpSlabRefIdeal.main_arg1) = m ((c.tc : Thread Cert.UpSlabIdeal.nD Cert.UpSlabIdeal.τ).loc Cert.UpSlabIdeal.main_arg1)
      ∧ m' ((c.tc : Thread Cert.UpSlabRefIdeal.nD Cert.UpSlabRefIdeal.τ).loc Cert.UpSlabRefIdeal.main_arg2) = m ((c.tc : Thread Cert.UpSlabIdeal.nD Cert.UpSlabIdeal.τ).loc Cert.UpSlabIdeal.main_arg2)) →
    ∃ (v0 : (c : Dev Cert.UpSlabIdeal.nD) → Buf (Elt Ideal) ((c.tc : Thread Cert.UpSlabIdeal.nD Cert.UpSlabIdeal.τ).loc Cert.UpSlabIdeal.main_v2_0)) (v1 : (c : Dev Cert.UpSlabIdeal.nD) → Buf (Elt Ideal) ((c.tc : Thread Cert.UpSlabIdeal.nD Cert.UpSlabIdeal.τ).loc Cert.UpSlabIdeal.main_v2_1)),
      θ_run (Cert.UpSlabIdeal.defs (F := Ideal)) (onTc (τ := Cert.UpSlabIdeal.τ) (Cert.UpSlabIdeal.main (F := Ideal))) ⟨m, fun _ => 0, g⟩ (fun r => ∀ c : Dev Cert.UpSlabIdeal.nD,
          r.2.mem ((c.tc : Thread Cert.UpSlabIdeal.nD Cert.UpSlabIdeal.τ).loc Cert.UpSlabIdeal.main_v2_0) = v0 c
          ∧ r.2.mem ((c.tc : Thread Cert.UpSlabIdeal.nD Cert.UpSlabIdeal.τ).loc Cert.UpSlabIdeal.main_v2_1) = v1 c
          ∧ r.2.mem ((c.tc : Thread Cert.UpSlabIdeal.nD Cert.UpSlabIdeal.τ).loc Cert.UpSlabIdeal.main_arg0) = m ((c.tc : Thread Cert.UpSlabIdeal.nD Cert.UpSlabIdeal.τ).loc Cert.UpSlabIdeal.main_arg0)
          ∧ r.2.mem ((c.tc : Thread Cert.UpSlabIdeal.nD Cert.UpSlabIdeal.τ).loc Cert.UpSlabIdeal.main_arg1) = m ((c.tc : Thread Cert.UpSlabIdeal.nD Cert.UpSlabIdeal.τ).loc Cert.UpSlabIdeal.main_arg1)
          ∧ r.2.mem ((c.tc : Thread Cert.UpSlabIdeal.nD Cert.UpSlabIdeal.τ).loc Cert.UpSlabIdeal.main_arg2) = m ((c.tc : Thread Cert.UpSlabIdeal.nD Cert.UpSlabIdeal.τ).loc Cert.UpSlabIdeal.main_arg2))
      ∧ θ_run (Cert.UpSlabRefIdeal.defs (F := Ideal)) (onTc (τ := Cert.UpSlabRefIdeal.τ) (Cert.UpSlabRefIdeal.main (F := Ideal))) ⟨m', fun _ => 0, g'⟩ (fun r => ∀ c : Dev Cert.UpSlabRefIdeal.nD,
          r.2.mem ((c.tc : Thread Cert.UpSlabRefIdeal.nD Cert.UpSlabRefIdeal.τ).loc Cert.UpSlabRefIdeal.main_v18) = v0 c
          ∧ r.2.mem ((c.tc : Thread Cert.UpSlabRefIdeal.nD Cert.UpSlabRefIdeal.τ).loc Cert.UpSlabRefIdeal.main_v20) = v1 c
          ∧ r.2.mem ((c.tc : Thread Cert.UpSlabRefIdeal.nD Cert.UpSlabRefIdeal.τ).loc Cert.UpSlabRefIdeal.main_arg0) = m' ((c.tc : Thread Cert.UpSlabRefIdeal.nD Cert.UpSlabRefIdeal.τ).loc Cert.UpSlabRefIdeal.main_arg0)
          ∧ r.2.mem ((c.tc : Thread Cert.UpSlabRefIdeal.nD Cert.UpSlabRefIdeal.τ).loc Cert.UpSlabRefIdeal.main_arg1) = m' ((c.tc : Thread Cert.UpSlabRefIdeal.nD Cert.UpSlabRefIdeal.τ).loc Cert.UpSlabRefIdeal.main_arg1)
          ∧ r.2.mem ((c.tc : Thread Cert.UpSlabRefIdeal.nD Cert.UpSlabRefIdeal.τ).loc Cert.UpSlabRefIdeal.main_arg2) = m' ((c.tc : Thread Cert.UpSlabRefIdeal.nD Cert.UpSlabRefIdeal.τ).loc Cert.UpSlabRefIdeal.main_arg2))

def preserves_SsdPost_SsdPostIdeal : Prop :=
  True

def algebraic_SsdPostIdeal_SsdPostRefIdeal [hSsdPostIdeal : Cert.SsdPostIdeal.Facts] [hSsdPostRefIdeal : Cert.SsdPostRefIdeal.Facts] : Prop :=
  ∀ (m : (ℓ : Loc Cert.SsdPostIdeal.nD Cert.SsdPostIdeal.τ Cert.SsdPostIdeal.sig) → Buf (Elt Ideal) ℓ) (g : Dev Cert.SsdPostIdeal.nD → PrngReg)
    (m' : (ℓ : Loc Cert.SsdPostRefIdeal.nD Cert.SsdPostRefIdeal.τ Cert.SsdPostRefIdeal.sig) → Buf (Elt Ideal) ℓ) (g' : Dev Cert.SsdPostRefIdeal.nD → PrngReg), Pre_SsdPostIdeal m →
    (∀ c : Dev Cert.SsdPostIdeal.nD,
      m' ((c.tc : Thread Cert.SsdPostRefIdeal.nD Cert.SsdPostRefIdeal.τ).loc Cert.SsdPostRefIdeal.main_arg0) = m ((c.tc : Thread Cert.SsdPostIdeal.nD Cert.SsdPostIdeal.τ).loc Cert.SsdPostIdeal.main_arg0)
      ∧ m' ((c.tc : Thread Cert.SsdPostRefIdeal.nD Cert.SsdPostRefIdeal.τ).loc Cert.SsdPostRefIdeal.main_arg1) = m ((c.tc : Thread Cert.SsdPostIdeal.nD Cert.SsdPostIdeal.τ).loc Cert.SsdPostIdeal.main_arg1)
      ∧ m' ((c.tc : Thread Cert.SsdPostRefIdeal.nD Cert.SsdPostRefIdeal.τ).loc Cert.SsdPostRefIdeal.main_arg2) = m ((c.tc : Thread Cert.SsdPostIdeal.nD Cert.SsdPostIdeal.τ).loc Cert.SsdPostIdeal.main_arg2)
      ∧ m' ((c.tc : Thread Cert.SsdPostRefIdeal.nD Cert.SsdPostRefIdeal.τ).loc Cert.SsdPostRefIdeal.main_arg3) = m ((c.tc : Thread Cert.SsdPostIdeal.nD Cert.SsdPostIdeal.τ).loc Cert.SsdPostIdeal.main_arg3)
      ∧ m' ((c.tc : Thread Cert.SsdPostRefIdeal.nD Cert.SsdPostRefIdeal.τ).loc Cert.SsdPostRefIdeal.main_arg4) = m ((c.tc : Thread Cert.SsdPostIdeal.nD Cert.SsdPostIdeal.τ).loc Cert.SsdPostIdeal.main_arg4)) →
    ∃ (v0 : (c : Dev Cert.SsdPostIdeal.nD) → Buf (Elt Ideal) ((c.tc : Thread Cert.SsdPostIdeal.nD Cert.SsdPostIdeal.τ).loc Cert.SsdPostIdeal.main_v2)),
      θ_run (Cert.SsdPostIdeal.defs (F := Ideal)) (onTc (τ := Cert.SsdPostIdeal.τ) (Cert.SsdPostIdeal.main (F := Ideal))) ⟨m, fun _ => 0, g⟩ (fun r => ∀ c : Dev Cert.SsdPostIdeal.nD,
          r.2.mem ((c.tc : Thread Cert.SsdPostIdeal.nD Cert.SsdPostIdeal.τ).loc Cert.SsdPostIdeal.main_v2) = v0 c
          ∧ r.2.mem ((c.tc : Thread Cert.SsdPostIdeal.nD Cert.SsdPostIdeal.τ).loc Cert.SsdPostIdeal.main_arg0) = m ((c.tc : Thread Cert.SsdPostIdeal.nD Cert.SsdPostIdeal.τ).loc Cert.SsdPostIdeal.main_arg0)
          ∧ r.2.mem ((c.tc : Thread Cert.SsdPostIdeal.nD Cert.SsdPostIdeal.τ).loc Cert.SsdPostIdeal.main_arg1) = m ((c.tc : Thread Cert.SsdPostIdeal.nD Cert.SsdPostIdeal.τ).loc Cert.SsdPostIdeal.main_arg1)
          ∧ r.2.mem ((c.tc : Thread Cert.SsdPostIdeal.nD Cert.SsdPostIdeal.τ).loc Cert.SsdPostIdeal.main_arg2) = m ((c.tc : Thread Cert.SsdPostIdeal.nD Cert.SsdPostIdeal.τ).loc Cert.SsdPostIdeal.main_arg2)
          ∧ r.2.mem ((c.tc : Thread Cert.SsdPostIdeal.nD Cert.SsdPostIdeal.τ).loc Cert.SsdPostIdeal.main_arg3) = m ((c.tc : Thread Cert.SsdPostIdeal.nD Cert.SsdPostIdeal.τ).loc Cert.SsdPostIdeal.main_arg3)
          ∧ r.2.mem ((c.tc : Thread Cert.SsdPostIdeal.nD Cert.SsdPostIdeal.τ).loc Cert.SsdPostIdeal.main_arg4) = m ((c.tc : Thread Cert.SsdPostIdeal.nD Cert.SsdPostIdeal.τ).loc Cert.SsdPostIdeal.main_arg4))
      ∧ θ_run (Cert.SsdPostRefIdeal.defs (F := Ideal)) (onTc (τ := Cert.SsdPostRefIdeal.τ) (Cert.SsdPostRefIdeal.main (F := Ideal))) ⟨m', fun _ => 0, g'⟩ (fun r => ∀ c : Dev Cert.SsdPostRefIdeal.nD,
          r.2.mem ((c.tc : Thread Cert.SsdPostRefIdeal.nD Cert.SsdPostRefIdeal.τ).loc Cert.SsdPostRefIdeal.main_v22) = v0 c
          ∧ r.2.mem ((c.tc : Thread Cert.SsdPostRefIdeal.nD Cert.SsdPostRefIdeal.τ).loc Cert.SsdPostRefIdeal.main_arg0) = m' ((c.tc : Thread Cert.SsdPostRefIdeal.nD Cert.SsdPostRefIdeal.τ).loc Cert.SsdPostRefIdeal.main_arg0)
          ∧ r.2.mem ((c.tc : Thread Cert.SsdPostRefIdeal.nD Cert.SsdPostRefIdeal.τ).loc Cert.SsdPostRefIdeal.main_arg1) = m' ((c.tc : Thread Cert.SsdPostRefIdeal.nD Cert.SsdPostRefIdeal.τ).loc Cert.SsdPostRefIdeal.main_arg1)
          ∧ r.2.mem ((c.tc : Thread Cert.SsdPostRefIdeal.nD Cert.SsdPostRefIdeal.τ).loc Cert.SsdPostRefIdeal.main_arg2) = m' ((c.tc : Thread Cert.SsdPostRefIdeal.nD Cert.SsdPostRefIdeal.τ).loc Cert.SsdPostRefIdeal.main_arg2)
          ∧ r.2.mem ((c.tc : Thread Cert.SsdPostRefIdeal.nD Cert.SsdPostRefIdeal.τ).loc Cert.SsdPostRefIdeal.main_arg3) = m' ((c.tc : Thread Cert.SsdPostRefIdeal.nD Cert.SsdPostRefIdeal.τ).loc Cert.SsdPostRefIdeal.main_arg3)
          ∧ r.2.mem ((c.tc : Thread Cert.SsdPostRefIdeal.nD Cert.SsdPostRefIdeal.τ).loc Cert.SsdPostRefIdeal.main_arg4) = m' ((c.tc : Thread Cert.SsdPostRefIdeal.nD Cert.SsdPostRefIdeal.τ).loc Cert.SsdPostRefIdeal.main_arg4))

def preserves_SsdPre_SsdPreIdeal : Prop :=
  True

def algebraic_SsdPreIdeal_SsdPreRefIdeal_pre_finite10 [hSsdPreIdeal : Cert.SsdPreIdeal.Facts] [hSsdPreRefIdeal : Cert.SsdPreRefIdeal.Facts] [hPre_finite10 : Cert.Pre_finite10.Facts] : Prop :=
  ∀ (m : (ℓ : Loc Cert.SsdPreIdeal.nD Cert.SsdPreIdeal.τ Cert.SsdPreIdeal.sig) → Buf (Elt Ideal) ℓ) (g : Dev Cert.SsdPreIdeal.nD → PrngReg)
    (m' : (ℓ : Loc Cert.SsdPreRefIdeal.nD Cert.SsdPreRefIdeal.τ Cert.SsdPreRefIdeal.sig) → Buf (Elt Ideal) ℓ) (g' : Dev Cert.SsdPreRefIdeal.nD → PrngReg), Pre_SsdPreIdeal_finite10 m →
    (∀ c : Dev Cert.SsdPreIdeal.nD,
      m' ((c.tc : Thread Cert.SsdPreRefIdeal.nD Cert.SsdPreRefIdeal.τ).loc Cert.SsdPreRefIdeal.main_arg0) = m ((c.tc : Thread Cert.SsdPreIdeal.nD Cert.SsdPreIdeal.τ).loc Cert.SsdPreIdeal.main_arg0)
      ∧ m' ((c.tc : Thread Cert.SsdPreRefIdeal.nD Cert.SsdPreRefIdeal.τ).loc Cert.SsdPreRefIdeal.main_arg1) = m ((c.tc : Thread Cert.SsdPreIdeal.nD Cert.SsdPreIdeal.τ).loc Cert.SsdPreIdeal.main_arg1)
      ∧ m' ((c.tc : Thread Cert.SsdPreRefIdeal.nD Cert.SsdPreRefIdeal.τ).loc Cert.SsdPreRefIdeal.main_arg2) = m ((c.tc : Thread Cert.SsdPreIdeal.nD Cert.SsdPreIdeal.τ).loc Cert.SsdPreIdeal.main_arg2)
      ∧ m' ((c.tc : Thread Cert.SsdPreRefIdeal.nD Cert.SsdPreRefIdeal.τ).loc Cert.SsdPreRefIdeal.main_arg3) = m ((c.tc : Thread Cert.SsdPreIdeal.nD Cert.SsdPreIdeal.τ).loc Cert.SsdPreIdeal.main_arg3)
      ∧ m' ((c.tc : Thread Cert.SsdPreRefIdeal.nD Cert.SsdPreRefIdeal.τ).loc Cert.SsdPreRefIdeal.main_arg4) = m ((c.tc : Thread Cert.SsdPreIdeal.nD Cert.SsdPreIdeal.τ).loc Cert.SsdPreIdeal.main_arg4)
      ∧ m' ((c.tc : Thread Cert.SsdPreRefIdeal.nD Cert.SsdPreRefIdeal.τ).loc Cert.SsdPreRefIdeal.main_arg5) = m ((c.tc : Thread Cert.SsdPreIdeal.nD Cert.SsdPreIdeal.τ).loc Cert.SsdPreIdeal.main_arg5)
      ∧ m' ((c.tc : Thread Cert.SsdPreRefIdeal.nD Cert.SsdPreRefIdeal.τ).loc Cert.SsdPreRefIdeal.main_arg6) = m ((c.tc : Thread Cert.SsdPreIdeal.nD Cert.SsdPreIdeal.τ).loc Cert.SsdPreIdeal.main_arg6)
      ∧ m' ((c.tc : Thread Cert.SsdPreRefIdeal.nD Cert.SsdPreRefIdeal.τ).loc Cert.SsdPreRefIdeal.main_arg7) = m ((c.tc : Thread Cert.SsdPreIdeal.nD Cert.SsdPreIdeal.τ).loc Cert.SsdPreIdeal.main_arg7)) →
    ∃ (v0 : (c : Dev Cert.SsdPreIdeal.nD) → Buf (Elt Ideal) ((c.tc : Thread Cert.SsdPreIdeal.nD Cert.SsdPreIdeal.τ).loc Cert.SsdPreIdeal.main_v21_2)) (v1 : (c : Dev Cert.SsdPreIdeal.nD) → Buf (Elt Ideal) ((c.tc : Thread Cert.SsdPreIdeal.nD Cert.SsdPreIdeal.τ).loc Cert.SsdPreIdeal.main_v21_3)) (v2 : (c : Dev Cert.SsdPreIdeal.nD) → Buf (Elt Ideal) ((c.tc : Thread Cert.SsdPreIdeal.nD Cert.SsdPreIdeal.τ).loc Cert.SsdPreIdeal.main_v21_6)),
      θ_run (Cert.SsdPreIdeal.defs (F := Ideal)) (onTc (τ := Cert.SsdPreIdeal.τ) (Cert.SsdPreIdeal.main (F := Ideal))) ⟨m, fun _ => 0, g⟩ (fun r => ∀ c : Dev Cert.SsdPreIdeal.nD,
          r.2.mem ((c.tc : Thread Cert.SsdPreIdeal.nD Cert.SsdPreIdeal.τ).loc Cert.SsdPreIdeal.main_v21_2) = v0 c
          ∧ r.2.mem ((c.tc : Thread Cert.SsdPreIdeal.nD Cert.SsdPreIdeal.τ).loc Cert.SsdPreIdeal.main_v21_3) = v1 c
          ∧ r.2.mem ((c.tc : Thread Cert.SsdPreIdeal.nD Cert.SsdPreIdeal.τ).loc Cert.SsdPreIdeal.main_v21_6) = v2 c
          ∧ r.2.mem ((c.tc : Thread Cert.SsdPreIdeal.nD Cert.SsdPreIdeal.τ).loc Cert.SsdPreIdeal.main_arg0) = m ((c.tc : Thread Cert.SsdPreIdeal.nD Cert.SsdPreIdeal.τ).loc Cert.SsdPreIdeal.main_arg0)
          ∧ r.2.mem ((c.tc : Thread Cert.SsdPreIdeal.nD Cert.SsdPreIdeal.τ).loc Cert.SsdPreIdeal.main_arg1) = m ((c.tc : Thread Cert.SsdPreIdeal.nD Cert.SsdPreIdeal.τ).loc Cert.SsdPreIdeal.main_arg1)
          ∧ r.2.mem ((c.tc : Thread Cert.SsdPreIdeal.nD Cert.SsdPreIdeal.τ).loc Cert.SsdPreIdeal.main_arg2) = m ((c.tc : Thread Cert.SsdPreIdeal.nD Cert.SsdPreIdeal.τ).loc Cert.SsdPreIdeal.main_arg2)
          ∧ r.2.mem ((c.tc : Thread Cert.SsdPreIdeal.nD Cert.SsdPreIdeal.τ).loc Cert.SsdPreIdeal.main_arg3) = m ((c.tc : Thread Cert.SsdPreIdeal.nD Cert.SsdPreIdeal.τ).loc Cert.SsdPreIdeal.main_arg3)
          ∧ r.2.mem ((c.tc : Thread Cert.SsdPreIdeal.nD Cert.SsdPreIdeal.τ).loc Cert.SsdPreIdeal.main_arg4) = m ((c.tc : Thread Cert.SsdPreIdeal.nD Cert.SsdPreIdeal.τ).loc Cert.SsdPreIdeal.main_arg4)
          ∧ r.2.mem ((c.tc : Thread Cert.SsdPreIdeal.nD Cert.SsdPreIdeal.τ).loc Cert.SsdPreIdeal.main_arg5) = m ((c.tc : Thread Cert.SsdPreIdeal.nD Cert.SsdPreIdeal.τ).loc Cert.SsdPreIdeal.main_arg5)
          ∧ r.2.mem ((c.tc : Thread Cert.SsdPreIdeal.nD Cert.SsdPreIdeal.τ).loc Cert.SsdPreIdeal.main_arg6) = m ((c.tc : Thread Cert.SsdPreIdeal.nD Cert.SsdPreIdeal.τ).loc Cert.SsdPreIdeal.main_arg6)
          ∧ r.2.mem ((c.tc : Thread Cert.SsdPreIdeal.nD Cert.SsdPreIdeal.τ).loc Cert.SsdPreIdeal.main_arg7) = m ((c.tc : Thread Cert.SsdPreIdeal.nD Cert.SsdPreIdeal.τ).loc Cert.SsdPreIdeal.main_arg7))
      ∧ θ_run (Cert.SsdPreRefIdeal.defs (F := Ideal)) (onTc (τ := Cert.SsdPreRefIdeal.τ) (Cert.SsdPreRefIdeal.main (F := Ideal))) ⟨m', fun _ => 0, g'⟩ (fun r => ∀ c : Dev Cert.SsdPreRefIdeal.nD,
          r.2.mem ((c.tc : Thread Cert.SsdPreRefIdeal.nD Cert.SsdPreRefIdeal.τ).loc Cert.SsdPreRefIdeal.main_v39) = v0 c
          ∧ r.2.mem ((c.tc : Thread Cert.SsdPreRefIdeal.nD Cert.SsdPreRefIdeal.τ).loc Cert.SsdPreRefIdeal.main_v42) = v1 c
          ∧ r.2.mem ((c.tc : Thread Cert.SsdPreRefIdeal.nD Cert.SsdPreRefIdeal.τ).loc Cert.SsdPreRefIdeal.main_v43) = v2 c
          ∧ r.2.mem ((c.tc : Thread Cert.SsdPreRefIdeal.nD Cert.SsdPreRefIdeal.τ).loc Cert.SsdPreRefIdeal.main_arg0) = m' ((c.tc : Thread Cert.SsdPreRefIdeal.nD Cert.SsdPreRefIdeal.τ).loc Cert.SsdPreRefIdeal.main_arg0)
          ∧ r.2.mem ((c.tc : Thread Cert.SsdPreRefIdeal.nD Cert.SsdPreRefIdeal.τ).loc Cert.SsdPreRefIdeal.main_arg1) = m' ((c.tc : Thread Cert.SsdPreRefIdeal.nD Cert.SsdPreRefIdeal.τ).loc Cert.SsdPreRefIdeal.main_arg1)
          ∧ r.2.mem ((c.tc : Thread Cert.SsdPreRefIdeal.nD Cert.SsdPreRefIdeal.τ).loc Cert.SsdPreRefIdeal.main_arg2) = m' ((c.tc : Thread Cert.SsdPreRefIdeal.nD Cert.SsdPreRefIdeal.τ).loc Cert.SsdPreRefIdeal.main_arg2)
          ∧ r.2.mem ((c.tc : Thread Cert.SsdPreRefIdeal.nD Cert.SsdPreRefIdeal.τ).loc Cert.SsdPreRefIdeal.main_arg3) = m' ((c.tc : Thread Cert.SsdPreRefIdeal.nD Cert.SsdPreRefIdeal.τ).loc Cert.SsdPreRefIdeal.main_arg3)
          ∧ r.2.mem ((c.tc : Thread Cert.SsdPreRefIdeal.nD Cert.SsdPreRefIdeal.τ).loc Cert.SsdPreRefIdeal.main_arg4) = m' ((c.tc : Thread Cert.SsdPreRefIdeal.nD Cert.SsdPreRefIdeal.τ).loc Cert.SsdPreRefIdeal.main_arg4)
          ∧ r.2.mem ((c.tc : Thread Cert.SsdPreRefIdeal.nD Cert.SsdPreRefIdeal.τ).loc Cert.SsdPreRefIdeal.main_arg5) = m' ((c.tc : Thread Cert.SsdPreRefIdeal.nD Cert.SsdPreRefIdeal.τ).loc Cert.SsdPreRefIdeal.main_arg5)
          ∧ r.2.mem ((c.tc : Thread Cert.SsdPreRefIdeal.nD Cert.SsdPreRefIdeal.τ).loc Cert.SsdPreRefIdeal.main_arg6) = m' ((c.tc : Thread Cert.SsdPreRefIdeal.nD Cert.SsdPreRefIdeal.τ).loc Cert.SsdPreRefIdeal.main_arg6)
          ∧ r.2.mem ((c.tc : Thread Cert.SsdPreRefIdeal.nD Cert.SsdPreRefIdeal.τ).loc Cert.SsdPreRefIdeal.main_arg7) = m' ((c.tc : Thread Cert.SsdPreRefIdeal.nD Cert.SsdPreRefIdeal.τ).loc Cert.SsdPreRefIdeal.main_arg7))

def preserves_LruSeq_LruSeqIdeal : Prop :=
  True

def algebraic_LruSeqIdeal_LruSeqRefIdeal [hLruSeqIdeal : Cert.LruSeqIdeal.Facts] [hLruSeqRefIdeal : Cert.LruSeqRefIdeal.Facts] : Prop :=
  ∀ (m : (ℓ : Loc Cert.LruSeqIdeal.nD Cert.LruSeqIdeal.τ Cert.LruSeqIdeal.sig) → Buf (Elt Ideal) ℓ) (g : Dev Cert.LruSeqIdeal.nD → PrngReg)
    (m' : (ℓ : Loc Cert.LruSeqRefIdeal.nD Cert.LruSeqRefIdeal.τ Cert.LruSeqRefIdeal.sig) → Buf (Elt Ideal) ℓ) (g' : Dev Cert.LruSeqRefIdeal.nD → PrngReg), Pre_LruSeqIdeal m →
    (∀ c : Dev Cert.LruSeqIdeal.nD,
      m' ((c.tc : Thread Cert.LruSeqRefIdeal.nD Cert.LruSeqRefIdeal.τ).loc Cert.LruSeqRefIdeal.main_arg0) = m ((c.tc : Thread Cert.LruSeqIdeal.nD Cert.LruSeqIdeal.τ).loc Cert.LruSeqIdeal.main_arg0)
      ∧ m' ((c.tc : Thread Cert.LruSeqRefIdeal.nD Cert.LruSeqRefIdeal.τ).loc Cert.LruSeqRefIdeal.main_arg1) = m ((c.tc : Thread Cert.LruSeqIdeal.nD Cert.LruSeqIdeal.τ).loc Cert.LruSeqIdeal.main_arg1)
      ∧ m' ((c.tc : Thread Cert.LruSeqRefIdeal.nD Cert.LruSeqRefIdeal.τ).loc Cert.LruSeqRefIdeal.main_arg2) = m ((c.tc : Thread Cert.LruSeqIdeal.nD Cert.LruSeqIdeal.τ).loc Cert.LruSeqIdeal.main_arg2)
      ∧ m' ((c.tc : Thread Cert.LruSeqRefIdeal.nD Cert.LruSeqRefIdeal.τ).loc Cert.LruSeqRefIdeal.main_arg3) = m ((c.tc : Thread Cert.LruSeqIdeal.nD Cert.LruSeqIdeal.τ).loc Cert.LruSeqIdeal.main_arg3)
      ∧ m' ((c.tc : Thread Cert.LruSeqRefIdeal.nD Cert.LruSeqRefIdeal.τ).loc Cert.LruSeqRefIdeal.main_arg4) = m ((c.tc : Thread Cert.LruSeqIdeal.nD Cert.LruSeqIdeal.τ).loc Cert.LruSeqIdeal.main_arg4)
      ∧ m' ((c.tc : Thread Cert.LruSeqRefIdeal.nD Cert.LruSeqRefIdeal.τ).loc Cert.LruSeqRefIdeal.main_arg5) = m ((c.tc : Thread Cert.LruSeqIdeal.nD Cert.LruSeqIdeal.τ).loc Cert.LruSeqIdeal.main_arg5)
      ∧ m' ((c.tc : Thread Cert.LruSeqRefIdeal.nD Cert.LruSeqRefIdeal.τ).loc Cert.LruSeqRefIdeal.main_arg6) = m ((c.tc : Thread Cert.LruSeqIdeal.nD Cert.LruSeqIdeal.τ).loc Cert.LruSeqIdeal.main_arg6)
      ∧ m' ((c.tc : Thread Cert.LruSeqRefIdeal.nD Cert.LruSeqRefIdeal.τ).loc Cert.LruSeqRefIdeal.main_arg7) = m ((c.tc : Thread Cert.LruSeqIdeal.nD Cert.LruSeqIdeal.τ).loc Cert.LruSeqIdeal.main_arg7)
      ∧ m' ((c.tc : Thread Cert.LruSeqRefIdeal.nD Cert.LruSeqRefIdeal.τ).loc Cert.LruSeqRefIdeal.main_arg8) = m ((c.tc : Thread Cert.LruSeqIdeal.nD Cert.LruSeqIdeal.τ).loc Cert.LruSeqIdeal.main_arg8)
      ∧ m' ((c.tc : Thread Cert.LruSeqRefIdeal.nD Cert.LruSeqRefIdeal.τ).loc Cert.LruSeqRefIdeal.main_arg9) = m ((c.tc : Thread Cert.LruSeqIdeal.nD Cert.LruSeqIdeal.τ).loc Cert.LruSeqIdeal.main_arg9)
      ∧ m' ((c.tc : Thread Cert.LruSeqRefIdeal.nD Cert.LruSeqRefIdeal.τ).loc Cert.LruSeqRefIdeal.main_arg10) = m ((c.tc : Thread Cert.LruSeqIdeal.nD Cert.LruSeqIdeal.τ).loc Cert.LruSeqIdeal.main_arg10)
      ∧ m' ((c.tc : Thread Cert.LruSeqRefIdeal.nD Cert.LruSeqRefIdeal.τ).loc Cert.LruSeqRefIdeal.main_arg11) = m ((c.tc : Thread Cert.LruSeqIdeal.nD Cert.LruSeqIdeal.τ).loc Cert.LruSeqIdeal.main_arg11)) →
    ∃ (v0 : (c : Dev Cert.LruSeqIdeal.nD) → Buf (Elt Ideal) ((c.tc : Thread Cert.LruSeqIdeal.nD Cert.LruSeqIdeal.τ).loc Cert.LruSeqIdeal.main_v29_2)),
      θ_run (Cert.LruSeqIdeal.defs (F := Ideal)) (onTc (τ := Cert.LruSeqIdeal.τ) (Cert.LruSeqIdeal.main (F := Ideal))) ⟨m, fun _ => 0, g⟩ (fun r => ∀ c : Dev Cert.LruSeqIdeal.nD,
          r.2.mem ((c.tc : Thread Cert.LruSeqIdeal.nD Cert.LruSeqIdeal.τ).loc Cert.LruSeqIdeal.main_v29_2) = v0 c
          ∧ r.2.mem ((c.tc : Thread Cert.LruSeqIdeal.nD Cert.LruSeqIdeal.τ).loc Cert.LruSeqIdeal.main_arg0) = m ((c.tc : Thread Cert.LruSeqIdeal.nD Cert.LruSeqIdeal.τ).loc Cert.LruSeqIdeal.main_arg0)
          ∧ r.2.mem ((c.tc : Thread Cert.LruSeqIdeal.nD Cert.LruSeqIdeal.τ).loc Cert.LruSeqIdeal.main_arg1) = m ((c.tc : Thread Cert.LruSeqIdeal.nD Cert.LruSeqIdeal.τ).loc Cert.LruSeqIdeal.main_arg1)
          ∧ r.2.mem ((c.tc : Thread Cert.LruSeqIdeal.nD Cert.LruSeqIdeal.τ).loc Cert.LruSeqIdeal.main_arg2) = m ((c.tc : Thread Cert.LruSeqIdeal.nD Cert.LruSeqIdeal.τ).loc Cert.LruSeqIdeal.main_arg2)
          ∧ r.2.mem ((c.tc : Thread Cert.LruSeqIdeal.nD Cert.LruSeqIdeal.τ).loc Cert.LruSeqIdeal.main_arg3) = m ((c.tc : Thread Cert.LruSeqIdeal.nD Cert.LruSeqIdeal.τ).loc Cert.LruSeqIdeal.main_arg3)
          ∧ r.2.mem ((c.tc : Thread Cert.LruSeqIdeal.nD Cert.LruSeqIdeal.τ).loc Cert.LruSeqIdeal.main_arg4) = m ((c.tc : Thread Cert.LruSeqIdeal.nD Cert.LruSeqIdeal.τ).loc Cert.LruSeqIdeal.main_arg4)
          ∧ r.2.mem ((c.tc : Thread Cert.LruSeqIdeal.nD Cert.LruSeqIdeal.τ).loc Cert.LruSeqIdeal.main_arg5) = m ((c.tc : Thread Cert.LruSeqIdeal.nD Cert.LruSeqIdeal.τ).loc Cert.LruSeqIdeal.main_arg5)
          ∧ r.2.mem ((c.tc : Thread Cert.LruSeqIdeal.nD Cert.LruSeqIdeal.τ).loc Cert.LruSeqIdeal.main_arg6) = m ((c.tc : Thread Cert.LruSeqIdeal.nD Cert.LruSeqIdeal.τ).loc Cert.LruSeqIdeal.main_arg6)
          ∧ r.2.mem ((c.tc : Thread Cert.LruSeqIdeal.nD Cert.LruSeqIdeal.τ).loc Cert.LruSeqIdeal.main_arg7) = m ((c.tc : Thread Cert.LruSeqIdeal.nD Cert.LruSeqIdeal.τ).loc Cert.LruSeqIdeal.main_arg7)
          ∧ r.2.mem ((c.tc : Thread Cert.LruSeqIdeal.nD Cert.LruSeqIdeal.τ).loc Cert.LruSeqIdeal.main_arg8) = m ((c.tc : Thread Cert.LruSeqIdeal.nD Cert.LruSeqIdeal.τ).loc Cert.LruSeqIdeal.main_arg8)
          ∧ r.2.mem ((c.tc : Thread Cert.LruSeqIdeal.nD Cert.LruSeqIdeal.τ).loc Cert.LruSeqIdeal.main_arg9) = m ((c.tc : Thread Cert.LruSeqIdeal.nD Cert.LruSeqIdeal.τ).loc Cert.LruSeqIdeal.main_arg9)
          ∧ r.2.mem ((c.tc : Thread Cert.LruSeqIdeal.nD Cert.LruSeqIdeal.τ).loc Cert.LruSeqIdeal.main_arg10) = m ((c.tc : Thread Cert.LruSeqIdeal.nD Cert.LruSeqIdeal.τ).loc Cert.LruSeqIdeal.main_arg10)
          ∧ r.2.mem ((c.tc : Thread Cert.LruSeqIdeal.nD Cert.LruSeqIdeal.τ).loc Cert.LruSeqIdeal.main_arg11) = m ((c.tc : Thread Cert.LruSeqIdeal.nD Cert.LruSeqIdeal.τ).loc Cert.LruSeqIdeal.main_arg11))
      ∧ θ_run (Cert.LruSeqRefIdeal.defs (F := Ideal)) (onTc (τ := Cert.LruSeqRefIdeal.τ) (Cert.LruSeqRefIdeal.main (F := Ideal))) ⟨m', fun _ => 0, g'⟩ (fun r => ∀ c : Dev Cert.LruSeqRefIdeal.nD,
          r.2.mem ((c.tc : Thread Cert.LruSeqRefIdeal.nD Cert.LruSeqRefIdeal.τ).loc Cert.LruSeqRefIdeal.main_v4) = v0 c
          ∧ r.2.mem ((c.tc : Thread Cert.LruSeqRefIdeal.nD Cert.LruSeqRefIdeal.τ).loc Cert.LruSeqRefIdeal.main_arg0) = m' ((c.tc : Thread Cert.LruSeqRefIdeal.nD Cert.LruSeqRefIdeal.τ).loc Cert.LruSeqRefIdeal.main_arg0)
          ∧ r.2.mem ((c.tc : Thread Cert.LruSeqRefIdeal.nD Cert.LruSeqRefIdeal.τ).loc Cert.LruSeqRefIdeal.main_arg1) = m' ((c.tc : Thread Cert.LruSeqRefIdeal.nD Cert.LruSeqRefIdeal.τ).loc Cert.LruSeqRefIdeal.main_arg1)
          ∧ r.2.mem ((c.tc : Thread Cert.LruSeqRefIdeal.nD Cert.LruSeqRefIdeal.τ).loc Cert.LruSeqRefIdeal.main_arg2) = m' ((c.tc : Thread Cert.LruSeqRefIdeal.nD Cert.LruSeqRefIdeal.τ).loc Cert.LruSeqRefIdeal.main_arg2)
          ∧ r.2.mem ((c.tc : Thread Cert.LruSeqRefIdeal.nD Cert.LruSeqRefIdeal.τ).loc Cert.LruSeqRefIdeal.main_arg3) = m' ((c.tc : Thread Cert.LruSeqRefIdeal.nD Cert.LruSeqRefIdeal.τ).loc Cert.LruSeqRefIdeal.main_arg3)
          ∧ r.2.mem ((c.tc : Thread Cert.LruSeqRefIdeal.nD Cert.LruSeqRefIdeal.τ).loc Cert.LruSeqRefIdeal.main_arg4) = m' ((c.tc : Thread Cert.LruSeqRefIdeal.nD Cert.LruSeqRefIdeal.τ).loc Cert.LruSeqRefIdeal.main_arg4)
          ∧ r.2.mem ((c.tc : Thread Cert.LruSeqRefIdeal.nD Cert.LruSeqRefIdeal.τ).loc Cert.LruSeqRefIdeal.main_arg5) = m' ((c.tc : Thread Cert.LruSeqRefIdeal.nD Cert.LruSeqRefIdeal.τ).loc Cert.LruSeqRefIdeal.main_arg5)
          ∧ r.2.mem ((c.tc : Thread Cert.LruSeqRefIdeal.nD Cert.LruSeqRefIdeal.τ).loc Cert.LruSeqRefIdeal.main_arg6) = m' ((c.tc : Thread Cert.LruSeqRefIdeal.nD Cert.LruSeqRefIdeal.τ).loc Cert.LruSeqRefIdeal.main_arg6)
          ∧ r.2.mem ((c.tc : Thread Cert.LruSeqRefIdeal.nD Cert.LruSeqRefIdeal.τ).loc Cert.LruSeqRefIdeal.main_arg7) = m' ((c.tc : Thread Cert.LruSeqRefIdeal.nD Cert.LruSeqRefIdeal.τ).loc Cert.LruSeqRefIdeal.main_arg7)
          ∧ r.2.mem ((c.tc : Thread Cert.LruSeqRefIdeal.nD Cert.LruSeqRefIdeal.τ).loc Cert.LruSeqRefIdeal.main_arg8) = m' ((c.tc : Thread Cert.LruSeqRefIdeal.nD Cert.LruSeqRefIdeal.τ).loc Cert.LruSeqRefIdeal.main_arg8)
          ∧ r.2.mem ((c.tc : Thread Cert.LruSeqRefIdeal.nD Cert.LruSeqRefIdeal.τ).loc Cert.LruSeqRefIdeal.main_arg9) = m' ((c.tc : Thread Cert.LruSeqRefIdeal.nD Cert.LruSeqRefIdeal.τ).loc Cert.LruSeqRefIdeal.main_arg9)
          ∧ r.2.mem ((c.tc : Thread Cert.LruSeqRefIdeal.nD Cert.LruSeqRefIdeal.τ).loc Cert.LruSeqRefIdeal.main_arg10) = m' ((c.tc : Thread Cert.LruSeqRefIdeal.nD Cert.LruSeqRefIdeal.τ).loc Cert.LruSeqRefIdeal.main_arg10)
          ∧ r.2.mem ((c.tc : Thread Cert.LruSeqRefIdeal.nD Cert.LruSeqRefIdeal.τ).loc Cert.LruSeqRefIdeal.main_arg11) = m' ((c.tc : Thread Cert.LruSeqRefIdeal.nD Cert.LruSeqRefIdeal.τ).loc Cert.LruSeqRefIdeal.main_arg11))

def preserves_SsdSeq_SsdSeqIdeal : Prop :=
  True

def algebraic_SsdSeqIdeal_SsdSeqRefIdeal [hSsdSeqIdeal : Cert.SsdSeqIdeal.Facts] [hSsdSeqRefIdeal : Cert.SsdSeqRefIdeal.Facts] : Prop :=
  ∀ (m : (ℓ : Loc Cert.SsdSeqIdeal.nD Cert.SsdSeqIdeal.τ Cert.SsdSeqIdeal.sig) → Buf (Elt Ideal) ℓ) (g : Dev Cert.SsdSeqIdeal.nD → PrngReg)
    (m' : (ℓ : Loc Cert.SsdSeqRefIdeal.nD Cert.SsdSeqRefIdeal.τ Cert.SsdSeqRefIdeal.sig) → Buf (Elt Ideal) ℓ) (g' : Dev Cert.SsdSeqRefIdeal.nD → PrngReg), Pre_SsdSeqIdeal m →
    (∀ c : Dev Cert.SsdSeqIdeal.nD,
      m' ((c.tc : Thread Cert.SsdSeqRefIdeal.nD Cert.SsdSeqRefIdeal.τ).loc Cert.SsdSeqRefIdeal.main_arg0) = m ((c.tc : Thread Cert.SsdSeqIdeal.nD Cert.SsdSeqIdeal.τ).loc Cert.SsdSeqIdeal.main_arg0)
      ∧ m' ((c.tc : Thread Cert.SsdSeqRefIdeal.nD Cert.SsdSeqRefIdeal.τ).loc Cert.SsdSeqRefIdeal.main_arg1) = m ((c.tc : Thread Cert.SsdSeqIdeal.nD Cert.SsdSeqIdeal.τ).loc Cert.SsdSeqIdeal.main_arg1)
      ∧ m' ((c.tc : Thread Cert.SsdSeqRefIdeal.nD Cert.SsdSeqRefIdeal.τ).loc Cert.SsdSeqRefIdeal.main_arg2) = m ((c.tc : Thread Cert.SsdSeqIdeal.nD Cert.SsdSeqIdeal.τ).loc Cert.SsdSeqIdeal.main_arg2)
      ∧ m' ((c.tc : Thread Cert.SsdSeqRefIdeal.nD Cert.SsdSeqRefIdeal.τ).loc Cert.SsdSeqRefIdeal.main_arg3) = m ((c.tc : Thread Cert.SsdSeqIdeal.nD Cert.SsdSeqIdeal.τ).loc Cert.SsdSeqIdeal.main_arg3)
      ∧ m' ((c.tc : Thread Cert.SsdSeqRefIdeal.nD Cert.SsdSeqRefIdeal.τ).loc Cert.SsdSeqRefIdeal.main_arg4) = m ((c.tc : Thread Cert.SsdSeqIdeal.nD Cert.SsdSeqIdeal.τ).loc Cert.SsdSeqIdeal.main_arg4)
      ∧ m' ((c.tc : Thread Cert.SsdSeqRefIdeal.nD Cert.SsdSeqRefIdeal.τ).loc Cert.SsdSeqRefIdeal.main_arg5) = m ((c.tc : Thread Cert.SsdSeqIdeal.nD Cert.SsdSeqIdeal.τ).loc Cert.SsdSeqIdeal.main_arg5)
      ∧ m' ((c.tc : Thread Cert.SsdSeqRefIdeal.nD Cert.SsdSeqRefIdeal.τ).loc Cert.SsdSeqRefIdeal.main_arg6) = m ((c.tc : Thread Cert.SsdSeqIdeal.nD Cert.SsdSeqIdeal.τ).loc Cert.SsdSeqIdeal.main_arg6)
      ∧ m' ((c.tc : Thread Cert.SsdSeqRefIdeal.nD Cert.SsdSeqRefIdeal.τ).loc Cert.SsdSeqRefIdeal.main_arg7) = m ((c.tc : Thread Cert.SsdSeqIdeal.nD Cert.SsdSeqIdeal.τ).loc Cert.SsdSeqIdeal.main_arg7)
      ∧ m' ((c.tc : Thread Cert.SsdSeqRefIdeal.nD Cert.SsdSeqRefIdeal.τ).loc Cert.SsdSeqRefIdeal.main_arg8) = m ((c.tc : Thread Cert.SsdSeqIdeal.nD Cert.SsdSeqIdeal.τ).loc Cert.SsdSeqIdeal.main_arg8)
      ∧ m' ((c.tc : Thread Cert.SsdSeqRefIdeal.nD Cert.SsdSeqRefIdeal.τ).loc Cert.SsdSeqRefIdeal.main_arg9) = m ((c.tc : Thread Cert.SsdSeqIdeal.nD Cert.SsdSeqIdeal.τ).loc Cert.SsdSeqIdeal.main_arg9)
      ∧ m' ((c.tc : Thread Cert.SsdSeqRefIdeal.nD Cert.SsdSeqRefIdeal.τ).loc Cert.SsdSeqRefIdeal.main_arg10) = m ((c.tc : Thread Cert.SsdSeqIdeal.nD Cert.SsdSeqIdeal.τ).loc Cert.SsdSeqIdeal.main_arg10)
      ∧ m' ((c.tc : Thread Cert.SsdSeqRefIdeal.nD Cert.SsdSeqRefIdeal.τ).loc Cert.SsdSeqRefIdeal.main_arg11) = m ((c.tc : Thread Cert.SsdSeqIdeal.nD Cert.SsdSeqIdeal.τ).loc Cert.SsdSeqIdeal.main_arg11)
      ∧ m' ((c.tc : Thread Cert.SsdSeqRefIdeal.nD Cert.SsdSeqRefIdeal.τ).loc Cert.SsdSeqRefIdeal.main_arg12) = m ((c.tc : Thread Cert.SsdSeqIdeal.nD Cert.SsdSeqIdeal.τ).loc Cert.SsdSeqIdeal.main_arg12)) →
    ∃ (v0 : (c : Dev Cert.SsdSeqIdeal.nD) → Buf (Elt Ideal) ((c.tc : Thread Cert.SsdSeqIdeal.nD Cert.SsdSeqIdeal.τ).loc Cert.SsdSeqIdeal.main_v28_2)),
      θ_run (Cert.SsdSeqIdeal.defs (F := Ideal)) (onTc (τ := Cert.SsdSeqIdeal.τ) (Cert.SsdSeqIdeal.main (F := Ideal))) ⟨m, fun _ => 0, g⟩ (fun r => ∀ c : Dev Cert.SsdSeqIdeal.nD,
          r.2.mem ((c.tc : Thread Cert.SsdSeqIdeal.nD Cert.SsdSeqIdeal.τ).loc Cert.SsdSeqIdeal.main_v28_2) = v0 c
          ∧ r.2.mem ((c.tc : Thread Cert.SsdSeqIdeal.nD Cert.SsdSeqIdeal.τ).loc Cert.SsdSeqIdeal.main_arg0) = m ((c.tc : Thread Cert.SsdSeqIdeal.nD Cert.SsdSeqIdeal.τ).loc Cert.SsdSeqIdeal.main_arg0)
          ∧ r.2.mem ((c.tc : Thread Cert.SsdSeqIdeal.nD Cert.SsdSeqIdeal.τ).loc Cert.SsdSeqIdeal.main_arg1) = m ((c.tc : Thread Cert.SsdSeqIdeal.nD Cert.SsdSeqIdeal.τ).loc Cert.SsdSeqIdeal.main_arg1)
          ∧ r.2.mem ((c.tc : Thread Cert.SsdSeqIdeal.nD Cert.SsdSeqIdeal.τ).loc Cert.SsdSeqIdeal.main_arg2) = m ((c.tc : Thread Cert.SsdSeqIdeal.nD Cert.SsdSeqIdeal.τ).loc Cert.SsdSeqIdeal.main_arg2)
          ∧ r.2.mem ((c.tc : Thread Cert.SsdSeqIdeal.nD Cert.SsdSeqIdeal.τ).loc Cert.SsdSeqIdeal.main_arg3) = m ((c.tc : Thread Cert.SsdSeqIdeal.nD Cert.SsdSeqIdeal.τ).loc Cert.SsdSeqIdeal.main_arg3)
          ∧ r.2.mem ((c.tc : Thread Cert.SsdSeqIdeal.nD Cert.SsdSeqIdeal.τ).loc Cert.SsdSeqIdeal.main_arg4) = m ((c.tc : Thread Cert.SsdSeqIdeal.nD Cert.SsdSeqIdeal.τ).loc Cert.SsdSeqIdeal.main_arg4)
          ∧ r.2.mem ((c.tc : Thread Cert.SsdSeqIdeal.nD Cert.SsdSeqIdeal.τ).loc Cert.SsdSeqIdeal.main_arg5) = m ((c.tc : Thread Cert.SsdSeqIdeal.nD Cert.SsdSeqIdeal.τ).loc Cert.SsdSeqIdeal.main_arg5)
          ∧ r.2.mem ((c.tc : Thread Cert.SsdSeqIdeal.nD Cert.SsdSeqIdeal.τ).loc Cert.SsdSeqIdeal.main_arg6) = m ((c.tc : Thread Cert.SsdSeqIdeal.nD Cert.SsdSeqIdeal.τ).loc Cert.SsdSeqIdeal.main_arg6)
          ∧ r.2.mem ((c.tc : Thread Cert.SsdSeqIdeal.nD Cert.SsdSeqIdeal.τ).loc Cert.SsdSeqIdeal.main_arg7) = m ((c.tc : Thread Cert.SsdSeqIdeal.nD Cert.SsdSeqIdeal.τ).loc Cert.SsdSeqIdeal.main_arg7)
          ∧ r.2.mem ((c.tc : Thread Cert.SsdSeqIdeal.nD Cert.SsdSeqIdeal.τ).loc Cert.SsdSeqIdeal.main_arg8) = m ((c.tc : Thread Cert.SsdSeqIdeal.nD Cert.SsdSeqIdeal.τ).loc Cert.SsdSeqIdeal.main_arg8)
          ∧ r.2.mem ((c.tc : Thread Cert.SsdSeqIdeal.nD Cert.SsdSeqIdeal.τ).loc Cert.SsdSeqIdeal.main_arg9) = m ((c.tc : Thread Cert.SsdSeqIdeal.nD Cert.SsdSeqIdeal.τ).loc Cert.SsdSeqIdeal.main_arg9)
          ∧ r.2.mem ((c.tc : Thread Cert.SsdSeqIdeal.nD Cert.SsdSeqIdeal.τ).loc Cert.SsdSeqIdeal.main_arg10) = m ((c.tc : Thread Cert.SsdSeqIdeal.nD Cert.SsdSeqIdeal.τ).loc Cert.SsdSeqIdeal.main_arg10)
          ∧ r.2.mem ((c.tc : Thread Cert.SsdSeqIdeal.nD Cert.SsdSeqIdeal.τ).loc Cert.SsdSeqIdeal.main_arg11) = m ((c.tc : Thread Cert.SsdSeqIdeal.nD Cert.SsdSeqIdeal.τ).loc Cert.SsdSeqIdeal.main_arg11)
          ∧ r.2.mem ((c.tc : Thread Cert.SsdSeqIdeal.nD Cert.SsdSeqIdeal.τ).loc Cert.SsdSeqIdeal.main_arg12) = m ((c.tc : Thread Cert.SsdSeqIdeal.nD Cert.SsdSeqIdeal.τ).loc Cert.SsdSeqIdeal.main_arg12))
      ∧ θ_run (Cert.SsdSeqRefIdeal.defs (F := Ideal)) (onTc (τ := Cert.SsdSeqRefIdeal.τ) (Cert.SsdSeqRefIdeal.main (F := Ideal))) ⟨m', fun _ => 0, g'⟩ (fun r => ∀ c : Dev Cert.SsdSeqRefIdeal.nD,
          r.2.mem ((c.tc : Thread Cert.SsdSeqRefIdeal.nD Cert.SsdSeqRefIdeal.τ).loc Cert.SsdSeqRefIdeal.main_v4) = v0 c
          ∧ r.2.mem ((c.tc : Thread Cert.SsdSeqRefIdeal.nD Cert.SsdSeqRefIdeal.τ).loc Cert.SsdSeqRefIdeal.main_arg0) = m' ((c.tc : Thread Cert.SsdSeqRefIdeal.nD Cert.SsdSeqRefIdeal.τ).loc Cert.SsdSeqRefIdeal.main_arg0)
          ∧ r.2.mem ((c.tc : Thread Cert.SsdSeqRefIdeal.nD Cert.SsdSeqRefIdeal.τ).loc Cert.SsdSeqRefIdeal.main_arg1) = m' ((c.tc : Thread Cert.SsdSeqRefIdeal.nD Cert.SsdSeqRefIdeal.τ).loc Cert.SsdSeqRefIdeal.main_arg1)
          ∧ r.2.mem ((c.tc : Thread Cert.SsdSeqRefIdeal.nD Cert.SsdSeqRefIdeal.τ).loc Cert.SsdSeqRefIdeal.main_arg2) = m' ((c.tc : Thread Cert.SsdSeqRefIdeal.nD Cert.SsdSeqRefIdeal.τ).loc Cert.SsdSeqRefIdeal.main_arg2)
          ∧ r.2.mem ((c.tc : Thread Cert.SsdSeqRefIdeal.nD Cert.SsdSeqRefIdeal.τ).loc Cert.SsdSeqRefIdeal.main_arg3) = m' ((c.tc : Thread Cert.SsdSeqRefIdeal.nD Cert.SsdSeqRefIdeal.τ).loc Cert.SsdSeqRefIdeal.main_arg3)
          ∧ r.2.mem ((c.tc : Thread Cert.SsdSeqRefIdeal.nD Cert.SsdSeqRefIdeal.τ).loc Cert.SsdSeqRefIdeal.main_arg4) = m' ((c.tc : Thread Cert.SsdSeqRefIdeal.nD Cert.SsdSeqRefIdeal.τ).loc Cert.SsdSeqRefIdeal.main_arg4)
          ∧ r.2.mem ((c.tc : Thread Cert.SsdSeqRefIdeal.nD Cert.SsdSeqRefIdeal.τ).loc Cert.SsdSeqRefIdeal.main_arg5) = m' ((c.tc : Thread Cert.SsdSeqRefIdeal.nD Cert.SsdSeqRefIdeal.τ).loc Cert.SsdSeqRefIdeal.main_arg5)
          ∧ r.2.mem ((c.tc : Thread Cert.SsdSeqRefIdeal.nD Cert.SsdSeqRefIdeal.τ).loc Cert.SsdSeqRefIdeal.main_arg6) = m' ((c.tc : Thread Cert.SsdSeqRefIdeal.nD Cert.SsdSeqRefIdeal.τ).loc Cert.SsdSeqRefIdeal.main_arg6)
          ∧ r.2.mem ((c.tc : Thread Cert.SsdSeqRefIdeal.nD Cert.SsdSeqRefIdeal.τ).loc Cert.SsdSeqRefIdeal.main_arg7) = m' ((c.tc : Thread Cert.SsdSeqRefIdeal.nD Cert.SsdSeqRefIdeal.τ).loc Cert.SsdSeqRefIdeal.main_arg7)
          ∧ r.2.mem ((c.tc : Thread Cert.SsdSeqRefIdeal.nD Cert.SsdSeqRefIdeal.τ).loc Cert.SsdSeqRefIdeal.main_arg8) = m' ((c.tc : Thread Cert.SsdSeqRefIdeal.nD Cert.SsdSeqRefIdeal.τ).loc Cert.SsdSeqRefIdeal.main_arg8)
          ∧ r.2.mem ((c.tc : Thread Cert.SsdSeqRefIdeal.nD Cert.SsdSeqRefIdeal.τ).loc Cert.SsdSeqRefIdeal.main_arg9) = m' ((c.tc : Thread Cert.SsdSeqRefIdeal.nD Cert.SsdSeqRefIdeal.τ).loc Cert.SsdSeqRefIdeal.main_arg9)
          ∧ r.2.mem ((c.tc : Thread Cert.SsdSeqRefIdeal.nD Cert.SsdSeqRefIdeal.τ).loc Cert.SsdSeqRefIdeal.main_arg10) = m' ((c.tc : Thread Cert.SsdSeqRefIdeal.nD Cert.SsdSeqRefIdeal.τ).loc Cert.SsdSeqRefIdeal.main_arg10)
          ∧ r.2.mem ((c.tc : Thread Cert.SsdSeqRefIdeal.nD Cert.SsdSeqRefIdeal.τ).loc Cert.SsdSeqRefIdeal.main_arg11) = m' ((c.tc : Thread Cert.SsdSeqRefIdeal.nD Cert.SsdSeqRefIdeal.τ).loc Cert.SsdSeqRefIdeal.main_arg11)
          ∧ r.2.mem ((c.tc : Thread Cert.SsdSeqRefIdeal.nD Cert.SsdSeqRefIdeal.τ).loc Cert.SsdSeqRefIdeal.main_arg12) = m' ((c.tc : Thread Cert.SsdSeqRefIdeal.nD Cert.SsdSeqRefIdeal.τ).loc Cert.SsdSeqRefIdeal.main_arg12))

def Claim : Prop :=
  ∃ (hKernel : Cert.Kernel.Facts) (hKernelIdeal : Cert.KernelIdeal.Facts) (hReferenceIdeal : Cert.ReferenceIdeal.Facts) (hMlpUp : Cert.MlpUp.Facts) (hMlpUpIdeal : Cert.MlpUpIdeal.Facts) (hMlpUpRefIdeal : Cert.MlpUpRefIdeal.Facts) (hMlpDown : Cert.MlpDown.Facts) (hMlpDownIdeal : Cert.MlpDownIdeal.Facts) (hMlpDownRefIdeal : Cert.MlpDownRefIdeal.Facts) (hInProj : Cert.InProj.Facts) (hInProjIdeal : Cert.InProjIdeal.Facts) (hInProjRefIdeal : Cert.InProjRefIdeal.Facts) (hSsdState : Cert.SsdState.Facts) (hSsdStateIdeal : Cert.SsdStateIdeal.Facts) (hSsdStateRefIdeal : Cert.SsdStateRefIdeal.Facts) (hDownSlab : Cert.DownSlab.Facts) (hDownSlabIdeal : Cert.DownSlabIdeal.Facts) (hDownSlabRefIdeal : Cert.DownSlabRefIdeal.Facts) (hOutProj : Cert.OutProj.Facts) (hOutProjIdeal : Cert.OutProjIdeal.Facts) (hOutProjRefIdeal : Cert.OutProjRefIdeal.Facts) (hUpSlab : Cert.UpSlab.Facts) (hUpSlabIdeal : Cert.UpSlabIdeal.Facts) (hUpSlabRefIdeal : Cert.UpSlabRefIdeal.Facts) (hSsdPost : Cert.SsdPost.Facts) (hSsdPostIdeal : Cert.SsdPostIdeal.Facts) (hSsdPostRefIdeal : Cert.SsdPostRefIdeal.Facts) (hSsdPre : Cert.SsdPre.Facts) (hSsdPreIdeal : Cert.SsdPreIdeal.Facts) (hSsdPreRefIdeal : Cert.SsdPreRefIdeal.Facts) (hLruSeq : Cert.LruSeq.Facts) (hLruSeqIdeal : Cert.LruSeqIdeal.Facts) (hLruSeqRefIdeal : Cert.LruSeqRefIdeal.Facts) (hSsdSeq : Cert.SsdSeq.Facts) (hSsdSeqIdeal : Cert.SsdSeqIdeal.Facts) (hSsdSeqRefIdeal : Cert.SsdSeqRefIdeal.Facts) (hPre_finite_lambda : Cert.Pre_finite_lambda.Facts) (hPre_finite4 : Cert.Pre_finite4.Facts) (hPre_finite10 : Cert.Pre_finite10.Facts),
    quiescent_Kernel (hKernel := hKernel)
    ∧ quiescent_KernelIdeal (hKernelIdeal := hKernelIdeal)
    ∧ quiescent_KernelIdeal_pre_finite_lambda (hKernelIdeal := hKernelIdeal) (hPre_finite_lambda := hPre_finite_lambda)
    ∧ quiescent_ReferenceIdeal (hReferenceIdeal := hReferenceIdeal)
    ∧ quiescent_ReferenceIdeal_pre_finite_lambda (hReferenceIdeal := hReferenceIdeal) (hPre_finite_lambda := hPre_finite_lambda)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_InProj (hInProj := hInProj)
    ∧ quiescent_InProjIdeal (hInProjIdeal := hInProjIdeal)
    ∧ quiescent_InProjIdeal_pre_finite4 (hInProjIdeal := hInProjIdeal) (hPre_finite4 := hPre_finite4)
    ∧ quiescent_InProjRefIdeal (hInProjRefIdeal := hInProjRefIdeal)
    ∧ quiescent_InProjRefIdeal_pre_finite4 (hInProjRefIdeal := hInProjRefIdeal) (hPre_finite4 := hPre_finite4)
    ∧ quiescent_SsdState (hSsdState := hSsdState)
    ∧ quiescent_SsdStateIdeal (hSsdStateIdeal := hSsdStateIdeal)
    ∧ quiescent_SsdStateRefIdeal (hSsdStateRefIdeal := hSsdStateRefIdeal)
    ∧ quiescent_DownSlab (hDownSlab := hDownSlab)
    ∧ quiescent_DownSlabIdeal (hDownSlabIdeal := hDownSlabIdeal)
    ∧ quiescent_DownSlabRefIdeal (hDownSlabRefIdeal := hDownSlabRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_UpSlab (hUpSlab := hUpSlab)
    ∧ quiescent_UpSlabIdeal (hUpSlabIdeal := hUpSlabIdeal)
    ∧ quiescent_UpSlabRefIdeal (hUpSlabRefIdeal := hUpSlabRefIdeal)
    ∧ quiescent_SsdPost (hSsdPost := hSsdPost)
    ∧ quiescent_SsdPostIdeal (hSsdPostIdeal := hSsdPostIdeal)
    ∧ quiescent_SsdPostRefIdeal (hSsdPostRefIdeal := hSsdPostRefIdeal)
    ∧ quiescent_SsdPre (hSsdPre := hSsdPre)
    ∧ quiescent_SsdPreIdeal (hSsdPreIdeal := hSsdPreIdeal)
    ∧ quiescent_SsdPreIdeal_pre_finite10 (hSsdPreIdeal := hSsdPreIdeal) (hPre_finite10 := hPre_finite10)
    ∧ quiescent_SsdPreRefIdeal (hSsdPreRefIdeal := hSsdPreRefIdeal)
    ∧ quiescent_SsdPreRefIdeal_pre_finite10 (hSsdPreRefIdeal := hSsdPreRefIdeal) (hPre_finite10 := hPre_finite10)
    ∧ quiescent_LruSeq (hLruSeq := hLruSeq)
    ∧ quiescent_LruSeqIdeal (hLruSeqIdeal := hLruSeqIdeal)
    ∧ quiescent_LruSeqRefIdeal (hLruSeqRefIdeal := hLruSeqRefIdeal)
    ∧ quiescent_SsdSeq (hSsdSeq := hSsdSeq)
    ∧ quiescent_SsdSeqIdeal (hSsdSeqIdeal := hSsdSeqIdeal)
    ∧ quiescent_SsdSeqRefIdeal (hSsdSeqRefIdeal := hSsdSeqRefIdeal)
    ∧ preserves_Kernel_KernelIdeal
    ∧ algebraic_KernelIdeal_ReferenceIdeal_pre_finite_lambda (hKernelIdeal := hKernelIdeal) (hReferenceIdeal := hReferenceIdeal) (hPre_finite_lambda := hPre_finite_lambda)
    ∧ preserves_MlpUp_MlpUpIdeal
    ∧ algebraic_MlpUpIdeal_MlpUpRefIdeal (hMlpUpIdeal := hMlpUpIdeal) (hMlpUpRefIdeal := hMlpUpRefIdeal)
    ∧ preserves_MlpDown_MlpDownIdeal
    ∧ algebraic_MlpDownIdeal_MlpDownRefIdeal (hMlpDownIdeal := hMlpDownIdeal) (hMlpDownRefIdeal := hMlpDownRefIdeal)
    ∧ preserves_InProj_InProjIdeal
    ∧ algebraic_InProjIdeal_InProjRefIdeal_pre_finite4 (hInProjIdeal := hInProjIdeal) (hInProjRefIdeal := hInProjRefIdeal) (hPre_finite4 := hPre_finite4)
    ∧ preserves_SsdState_SsdStateIdeal
    ∧ algebraic_SsdStateIdeal_SsdStateRefIdeal (hSsdStateIdeal := hSsdStateIdeal) (hSsdStateRefIdeal := hSsdStateRefIdeal)
    ∧ preserves_DownSlab_DownSlabIdeal
    ∧ algebraic_DownSlabIdeal_DownSlabRefIdeal (hDownSlabIdeal := hDownSlabIdeal) (hDownSlabRefIdeal := hDownSlabRefIdeal)
    ∧ preserves_OutProj_OutProjIdeal
    ∧ algebraic_OutProjIdeal_OutProjRefIdeal (hOutProjIdeal := hOutProjIdeal) (hOutProjRefIdeal := hOutProjRefIdeal)
    ∧ preserves_UpSlab_UpSlabIdeal
    ∧ algebraic_UpSlabIdeal_UpSlabRefIdeal (hUpSlabIdeal := hUpSlabIdeal) (hUpSlabRefIdeal := hUpSlabRefIdeal)
    ∧ preserves_SsdPost_SsdPostIdeal
    ∧ algebraic_SsdPostIdeal_SsdPostRefIdeal (hSsdPostIdeal := hSsdPostIdeal) (hSsdPostRefIdeal := hSsdPostRefIdeal)
    ∧ preserves_SsdPre_SsdPreIdeal
    ∧ algebraic_SsdPreIdeal_SsdPreRefIdeal_pre_finite10 (hSsdPreIdeal := hSsdPreIdeal) (hSsdPreRefIdeal := hSsdPreRefIdeal) (hPre_finite10 := hPre_finite10)
    ∧ preserves_LruSeq_LruSeqIdeal
    ∧ algebraic_LruSeqIdeal_LruSeqRefIdeal (hLruSeqIdeal := hLruSeqIdeal) (hLruSeqRefIdeal := hLruSeqRefIdeal)
    ∧ preserves_SsdSeq_SsdSeqIdeal
    ∧ algebraic_SsdSeqIdeal_SsdSeqRefIdeal (hSsdSeqIdeal := hSsdSeqIdeal) (hSsdSeqRefIdeal := hSsdSeqRefIdeal)
-- ==== Pre_finite10.lean ====
abbrev S5x128x9216 : Shape := ⟨3, ![5, 128, 9216]⟩
abbrev S5x128x128 : Shape := ⟨3, ![5, 128, 128]⟩
abbrev S1x128x3x3072 : Shape := ⟨4, ![1, 128, 3, 3072]⟩
abbrev S1x4x3072 : Shape := ⟨3, ![1, 4, 3072]⟩
abbrev S1x3072 : Shape := ⟨2, ![1, 3072]⟩
abbrev S1x32 : Shape := ⟨2, ![1, 32]⟩
abbrev S_ : Shape := ⟨0, ![]⟩

class Facts : Prop where
  bcast_S_S5x128x9216 : S_.BroadcastsInDim S5x128x9216 (![] : Fin 0 → Fin S5x128x9216.rank)
  reducesTo_S5x128x9216_S_d0_1_2 : S5x128x9216.ReducesTo [0, 1, 2] S_
  h_S_ : 0 < S_.numel
  bcast_S_S1x128x3x3072 : S_.BroadcastsInDim S1x128x3x3072 (![] : Fin 0 → Fin S1x128x3x3072.rank)
  reducesTo_S1x128x3x3072_S_d0_1_2_3 : S1x128x3x3072.ReducesTo [0, 1, 2, 3] S_
  bcast_S_S1x4x3072 : S_.BroadcastsInDim S1x4x3072 (![] : Fin 0 → Fin S1x4x3072.rank)
  reducesTo_S1x4x3072_S_d0_1_2 : S1x4x3072.ReducesTo [0, 1, 2] S_
  bcast_S_S1x3072 : S_.BroadcastsInDim S1x3072 (![] : Fin 0 → Fin S1x3072.rank)
  reducesTo_S1x3072_S_d0_1 : S1x3072.ReducesTo [0, 1] S_

variable [Facts]

def fn_part1 {F : FTy → Type} [FloatOps F] (main_v13 : IVec S_ 1) (main_v16 : IVec S1x3072 1) : IVec S_ 1 :=
  let main_c_5 : IVec S_ 1 := constantI S_ 1 1#1
  let main_v17 : IVec S_ 1 := (fun x v => Host.reduce IntOp.andi x v reducesTo_S1x3072_S_d0_1 h_S_) main_v16 main_c_5
  let main_v18 : IVec S_ 1 := andi main_v13 main_v17
  main_v18

def fn {F : FTy → Type} [FloatOps F] (main_arg0 : FVec F S5x128x9216 .f32) (main_arg1 : FVec F S5x128x128 .f32) (main_arg2 : FVec F S1x128x3x3072 .f32) (main_arg3 : FVec F S1x4x3072 .f32) (main_arg4 : FVec F S1x3072 .f32) (main_arg5 : FVec F S1x32 .f32) (main_arg6 : FVec F S1x32 .f32) (main_arg7 : FVec F S1x32 .f32) : IVec S_ 1 :=
  let main_v0 : FVec F S5x128x9216 .f32 := Host.absf main_arg0
  let main_cst : FVec F S_ .f32 := constant S_ .f32 0x7F800000#32
  let main_v1 : FVec F S5x128x9216 .f32 := broadcastInDim S5x128x9216 ![] bcast_S_S5x128x9216 main_cst
  let main_v2 : IVec S5x128x9216 1 := cmpf .olt main_v0 main_v1
  let main_c : IVec S_ 1 := constantI S_ 1 1#1
  let main_v3 : IVec S_ 1 := (fun x v => Host.reduce IntOp.andi x v reducesTo_S5x128x9216_S_d0_1_2 h_S_) main_v2 main_c
  let main_v4 : FVec F S1x128x3x3072 .f32 := Host.absf main_arg2
  let main_cst_0 : FVec F S_ .f32 := constant S_ .f32 0x7F800000#32
  let main_v5 : FVec F S1x128x3x3072 .f32 := broadcastInDim S1x128x3x3072 ![] bcast_S_S1x128x3x3072 main_cst_0
  let main_v6 : IVec S1x128x3x3072 1 := cmpf .olt main_v4 main_v5
  let main_c_1 : IVec S_ 1 := constantI S_ 1 1#1
  let main_v7 : IVec S_ 1 := (fun x v => Host.reduce IntOp.andi x v reducesTo_S1x128x3x3072_S_d0_1_2_3 h_S_) main_v6 main_c_1
  let main_v8 : IVec S_ 1 := andi main_v3 main_v7
  let main_v9 : FVec F S1x4x3072 .f32 := Host.absf main_arg3
  let main_cst_2 : FVec F S_ .f32 := constant S_ .f32 0x7F800000#32
  let main_v10 : FVec F S1x4x3072 .f32 := broadcastInDim S1x4x3072 ![] bcast_S_S1x4x3072 main_cst_2
  let main_v11 : IVec S1x4x3072 1 := cmpf .olt main_v9 main_v10
  let main_c_3 : IVec S_ 1 := constantI S_ 1 1#1
  let main_v12 : IVec S_ 1 := (fun x v => Host.reduce IntOp.andi x v reducesTo_S1x4x3072_S_d0_1_2 h_S_) main_v11 main_c_3
  let main_v13 : IVec S_ 1 := andi main_v8 main_v12
  let main_v14 : FVec F S1x3072 .f32 := Host.absf main_arg4
  let main_cst_4 : FVec F S_ .f32 := constant S_ .f32 0x7F800000#32
  let main_v15 : FVec F S1x3072 .f32 := broadcastInDim S1x3072 ![] bcast_S_S1x3072 main_cst_4
  let main_v16 : IVec S1x3072 1 := cmpf .olt main_v14 main_v15
  fn_part1 (F := F) main_v13 main_v16
-- ==== Pre_finite4.lean ====
abbrev S8192x2048 : Shape := ⟨2, ![8192, 2048]⟩
abbrev S1x2048 : Shape := ⟨2, ![1, 2048]⟩
abbrev S1x2048x9248 : Shape := ⟨3, ![1, 2048, 9248]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S1x2048x9248 : S_.BroadcastsInDim S1x2048x9248 (![] : Fin 0 → Fin S1x2048x9248.rank)
  reducesTo_S1x2048x9248_S_d0_1_2 : S1x2048x9248.ReducesTo [0, 1, 2] S_

variable [Facts]

def fn {F : FTy → Type} [FloatOps F] (main_arg0 : FVec F S8192x2048 .f32) (main_arg1 : FVec F S1x2048 .f32) (main_arg2 : FVec F S1x2048x9248 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S1x2048x9248 .f32 := Host.absf main_arg2
  let main_cst_2 : FVec F S_ .f32 := constant S_ .f32 0x7F800000#32
  let main_v10 : FVec F S1x2048x9248 .f32 := broadcastInDim S1x2048x9248 ![] bcast_S_S1x2048x9248 main_cst_2
  let main_v11 : IVec S1x2048x9248 1 := cmpf .olt main_v9 main_v10
  let main_c_3 : IVec S_ 1 := constantI S_ 1 1#1
  let main_v12 : IVec S_ 1 := (fun x v => Host.reduce IntOp.andi x v reducesTo_S1x2048x9248_S_d0_1_2 h_S_) main_v11 main_c_3
  let main_v13 : IVec S_ 1 := andi main_v8 main_v12
  main_v13
-- ==== Pre_finite_lambda.lean ====
abbrev S5x128x9216 : Shape := ⟨3, ![5, 128, 9216]⟩
abbrev S1x128x2048 : Shape := ⟨3, ![1, 128, 2048]⟩
abbrev S1x128x3x2048 : Shape := ⟨4, ![1, 128, 3, 2048]⟩
abbrev S1x4x2048 : Shape := ⟨3, ![1, 4, 2048]⟩
abbrev S1x2048 : Shape := ⟨2, ![1, 2048]⟩
abbrev S1x16x128x128 : Shape := ⟨4, ![1, 16, 128, 128]⟩
abbrev S1x16x128 : Shape := ⟨3, ![1, 16, 128]⟩
abbrev S_ : Shape := ⟨0, ![]⟩

class Facts : Prop where
  bcast_S_S1x2048 : S_.BroadcastsInDim S1x2048 (![] : Fin 0 → Fin S1x2048.rank)

variable [Facts]

def fn {F : FTy → Type} [FloatOps F] (main_arg0 : FVec F S5x128x9216 .f32) (main_arg1 : FVec F S1x128x2048 .f32) (main_arg2 : FVec F S1x128x3x2048 .f32) (main_arg3 : FVec F S1x4x2048 .f32) (main_arg4 : FVec F S1x2048 .f32) (main_arg5 : FVec F S1x16x128x128 .f32) (main_arg6 : FVec F S1x16x128 .f32) (main_arg7 : FVec F S1x16x128x128 .f32) (main_arg8 : FVec F S1x16x128 .f32) (main_arg9 : FVec F S1x2048 .f32) (main_arg10 : FVec F S1x2048 .f32) : IVec S1x2048 1 :=
  let main_v0 : FVec F S1x2048 .f32 := Host.absf main_arg9
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  main_v2
-- ==== Kernel.lean ====
abbrev S5x128x9216 : Shape := ⟨3, ![5, 128, 9216]⟩
abbrev S1x128x2048 : Shape := ⟨3, ![1, 128, 2048]⟩
abbrev S1x128x3x2048 : Shape := ⟨4, ![1, 128, 3, 2048]⟩
abbrev S1x4x2048 : Shape := ⟨3, ![1, 4, 2048]⟩
abbrev S1x2048 : Shape := ⟨2, ![1, 2048]⟩
abbrev S1x16x128x128 : Shape := ⟨4, ![1, 16, 128, 128]⟩
abbrev S1x16x128 : Shape := ⟨3, ![1, 16, 128]⟩
abbrev S4x2048 : Shape := ⟨2, ![4, 2048]⟩
abbrev S2048 : Shape := ⟨1, ![2048]⟩
abbrev S16x128x128 : Shape := ⟨3, ![16, 128, 128]⟩
abbrev S_ : Shape := ⟨0, ![]⟩
abbrev S16x128 : Shape := ⟨2, ![16, 128]⟩
abbrev S128x2048 : Shape := ⟨2, ![128, 2048]⟩
abbrev S128x3x2048 : Shape := ⟨3, ![128, 3, 2048]⟩
abbrev S3x128x2048 : Shape := ⟨3, ![3, 128, 2048]⟩
abbrev S4x128x2048 : Shape := ⟨3, ![4, 128, 2048]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S128x1 : Shape := ⟨2, ![128, 1]⟩

abbrev nBuf : Space → Nat
  | .hbm => 44
  | .vmem => 16
  | .smem => 0
  | _ => 0

abbrev bufTy : (tb : Table) → Fin (tcTables nBuf tb) → BufTy
  | .hbm, ⟨0, _⟩ => ⟨S5x128x9216, .f32⟩
  | .hbm, ⟨1, _⟩ => ⟨S1x128x2048, .f32⟩
  | .hbm, ⟨2, _⟩ => ⟨S1x128x3x2048, .f32⟩
  | .hbm, ⟨3, _⟩ => ⟨S1x4x2048, .f32⟩
  | .hbm, ⟨4, _⟩ => ⟨S1x2048, .f32⟩
  | .hbm, ⟨5, _⟩ => ⟨S1x16x128x128, .f32⟩
  | .hbm, ⟨6, _⟩ => ⟨S1x16x128, .f32⟩
  | .hbm, ⟨7, _⟩ => ⟨S1x16x128x128, .f32⟩
  | .hbm, ⟨8, _⟩ => ⟨S1x16x128, .f32⟩
  | .hbm, ⟨9, _⟩ => ⟨S1x2048, .f32⟩
  | .hbm, ⟨10, _⟩ => ⟨S1x2048, .f32⟩
  | .hbm, ⟨11, _⟩ => ⟨S4x2048, .f32⟩
  | .hbm, ⟨12, _⟩ => ⟨S2048, .f32⟩
  | .hbm, ⟨13, _⟩ => ⟨S1x2048, .f32⟩
  | .hbm, ⟨14, _⟩ => ⟨S16x128x128, .f32⟩
  | .hbm, ⟨15, _⟩ => ⟨S_, .f32⟩
  | .hbm, ⟨16, _⟩ => ⟨S16x128x128, .f32⟩
  | .hbm, ⟨17, _⟩ => ⟨S16x128x128, .f32⟩
  | .hbm, ⟨18, _⟩ => ⟨S16x128x128, .bf16⟩
  | .hbm, ⟨19, _⟩ => ⟨S16x128x128, .f32⟩
  | .hbm, ⟨20, _⟩ => ⟨S_, .f32⟩
  | .hbm, ⟨21, _⟩ => ⟨S16x128x128, .f32⟩
  | .hbm, ⟨22, _⟩ => ⟨S16x128x128, .f32⟩
  | .hbm, ⟨23, _⟩ => ⟨S16x128x128, .bf16⟩
  | .hbm, ⟨24, _⟩ => ⟨S16x128, .f32⟩
  | .hbm, ⟨25, _⟩ => ⟨S_, .f32⟩
  | .hbm, ⟨26, _⟩ => ⟨S16x128, .f32⟩
  | .hbm, ⟨27, _⟩ => ⟨S16x128, .f32⟩
  | .hbm, ⟨28, _⟩ => ⟨S1x2048, .f32⟩
  | .hbm, ⟨29, _⟩ => ⟨S16x128, .f32⟩
  | .hbm, ⟨30, _⟩ => ⟨S_, .f32⟩
  | .hbm, ⟨31, _⟩ => ⟨S16x128, .f32⟩
  | .hbm, ⟨32, _⟩ => ⟨S16x128, .f32⟩
  | .hbm, ⟨33, _⟩ => ⟨S1x2048, .f32⟩
  | .hbm, ⟨34, _⟩ => ⟨S2048, .f32⟩
  | .hbm, ⟨35, _⟩ => ⟨S1x2048, .f32⟩
  | .hbm, ⟨36, _⟩ => ⟨S2048, .f32⟩
  | .hbm, ⟨37, _⟩ => ⟨S1x2048, .f32⟩
  | .hbm, ⟨38, _⟩ => ⟨S128x2048, .f32⟩
  | .hbm, ⟨39, _⟩ => ⟨S128x3x2048, .f32⟩
  | .hbm, ⟨40, _⟩ => ⟨S3x128x2048, .f32⟩
  | .hbm, ⟨41, _⟩ => ⟨S4x128x2048, .bf16⟩
  | .hbm, ⟨42, _⟩ => ⟨S128x2048, .f32⟩
  | .hbm, ⟨43, _⟩ => ⟨S3x128x2048, .f32⟩
  | .local _ .vmem, ⟨0, _⟩ => ⟨S4x128x2048, .f32⟩
  | .local _ .vmem, ⟨1, _⟩ => ⟨S4x128x2048, .f32⟩
  | .local _ .vmem, ⟨2, _⟩ => ⟨S4x2048, .f32⟩
  | .local _ .vmem, ⟨3, _⟩ => ⟨S1x2048, .f32⟩
  | .local _ .vmem, ⟨4, _⟩ => ⟨S16x128x128, .bf16⟩
  | .local _ .vmem, ⟨5, _⟩ => ⟨S16x128x128, .bf16⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S128x2048, .f32⟩
  | .local _ .vmem, ⟨11, _⟩ => ⟨S3x128x2048, .f32⟩
  | .local _ .vmem, ⟨12, _⟩ => ⟨S4x128x2048, .bf16⟩
  | .local _ .vmem, ⟨13, _⟩ => ⟨S128x2048, .f32⟩
  | .local _ .vmem, ⟨14, _⟩ => ⟨S3x128x2048, .f32⟩
  | .local _ .vmem, ⟨15, _⟩ => ⟨S4x128x2048, .f32⟩
  | _, _ => ⟨S5x128x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev main_v26_2 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S4x128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x128x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x128x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S5x128x9216 : Shape := ⟨3, ![5, 128, 9216]⟩
abbrev S1x128x2048 : Shape := ⟨3, ![1, 128, 2048]⟩
abbrev S1x128x3x2048 : Shape := ⟨4, ![1, 128, 3, 2048]⟩
abbrev S1x4x2048 : Shape := ⟨3, ![1, 4, 2048]⟩
abbrev S1x2048 : Shape := ⟨2, ![1, 2048]⟩
abbrev S1x16x128x128 : Shape := ⟨4, ![1, 16, 128, 128]⟩
abbrev S1x16x128 : Shape := ⟨3, ![1, 16, 128]⟩
abbrev S4x128x2048 : Shape := ⟨3, ![4, 128, 2048]⟩
abbrev S128x3x2048 : Shape := ⟨3, ![128, 3, 2048]⟩
abbrev S3x128x2048 : Shape := ⟨3, ![3, 128, 2048]⟩
abbrev S7x128x2048 : Shape := ⟨3, ![7, 128, 2048]⟩
abbrev S4x2048 : Shape := ⟨2, ![4, 2048]⟩
abbrev S2048 : Shape := ⟨1, ![2048]⟩
abbrev S1x1x2048 : Shape := ⟨3, ![1, 1, 2048]⟩
abbrev S4x128x16x128 : Shape := ⟨4, ![4, 128, 16, 128]⟩
abbrev S16x128x128 : Shape := ⟨3, ![16, 128, 128]⟩
abbrev S16x128x4x128 : Shape := ⟨4, ![16, 128, 4, 128]⟩
abbrev S16x128 : Shape := ⟨2, ![16, 128]⟩
abbrev S1x1x16x128 : Shape := ⟨4, ![1, 1, 16, 128]⟩
abbrev S_ : Shape := ⟨0, ![]⟩
abbrev S128x2048 : Shape := ⟨2, ![128, 2048]⟩
abbrev S4x128 : Shape := ⟨2, ![4, 128]⟩
abbrev S4x128x1 : Shape := ⟨3, ![4, 128, 1]⟩

abbrev nBuf : Space → Nat
  | .hbm => 162
  | .vmem => 0
  | .smem => 0
  | _ => 0

abbrev hbmTy0_0 (i : Nat) : BufTy := match i % 128 with
  | 0 => ⟨S5x128x9216, .f32⟩
  | 1 => ⟨S1x128x2048, .f32⟩
  | 2 => ⟨S1x128x3x2048, .f32⟩
  | 3 => ⟨S1x4x2048, .f32⟩
  | 4 => ⟨S1x2048, .f32⟩
  | 5 => ⟨S1x16x128x128, .f32⟩
  | 6 => ⟨S1x16x128, .f32⟩
  | 7 => ⟨S1x16x128x128, .f32⟩
  | 8 => ⟨S1x16x128, .f32⟩
  | 9 => ⟨S1x2048, .f32⟩
  | 10 => ⟨S1x2048, .f32⟩
  | 11 => ⟨S4x128x2048, .f32⟩
  | 12 => ⟨S4x128x2048, .f32⟩
  | 13 => ⟨S128x3x2048, .f32⟩
  | 14 => ⟨S3x128x2048, .f32⟩
  | 15 => ⟨S7x128x2048, .f32⟩
  | 16 => ⟨S4x2048, .f32⟩
  | 17 => ⟨S2048, .f32⟩
  | 18 => ⟨S4x128x2048, .f32⟩
  | 19 => ⟨S1x2048, .f32⟩
  | 20 => ⟨S2048, .f32⟩
  | 21 => ⟨S1x1x2048, .f32⟩
  | 22 => ⟨S4x128x2048, .f32⟩
  | 23 => ⟨S4x128x2048, .f32⟩
  | 24 => ⟨S1x1x2048, .f32⟩
  | 25 => ⟨S4x128x2048, .f32⟩
  | 26 => ⟨S4x128x2048, .f32⟩
  | 27 => ⟨S4x128x2048, .f32⟩
  | 28 => ⟨S1x2048, .f32⟩
  | 29 => ⟨S2048, .f32⟩
  | 30 => ⟨S1x1x2048, .f32⟩
  | 31 => ⟨S4x128x2048, .f32⟩
  | 32 => ⟨S4x128x2048, .f32⟩
  | 33 => ⟨S4x128x2048, .f32⟩
  | 34 => ⟨S4x128x2048, .f32⟩
  | 35 => ⟨S1x2048, .f32⟩
  | 36 => ⟨S2048, .f32⟩
  | 37 => ⟨S1x1x2048, .f32⟩
  | 38 => ⟨S4x128x2048, .f32⟩
  | 39 => ⟨S4x128x2048, .f32⟩
  | 40 => ⟨S4x128x2048, .f32⟩
  | 41 => ⟨S4x128x2048, .f32⟩
  | 42 => ⟨S1x2048, .f32⟩
  | 43 => ⟨S2048, .f32⟩
  | 44 => ⟨S1x1x2048, .f32⟩
  | 45 => ⟨S4x128x2048, .f32⟩
  | 46 => ⟨S4x128x2048, .f32⟩
  | 47 => ⟨S4x128x2048, .f32⟩
  | 48 => ⟨S4x128x16x128, .f32⟩
  | 49 => ⟨S16x128x128, .f32⟩
  | 50 => ⟨S16x128x4x128, .f32⟩
  | 51 => ⟨S4x128x16x128, .f32⟩
  | 52 => ⟨S16x128, .f32⟩
  | 53 => ⟨S1x1x16x128, .f32⟩
  | 54 => ⟨S4x128x16x128, .f32⟩
  | 55 => ⟨S4x128x16x128, .f32⟩
  | 56 => ⟨S4x128x16x128, .f32⟩
  | 57 => ⟨S4x128x16x128, .f32⟩
  | 58 => ⟨S_, .f32⟩
  | 59 => ⟨S4x128x16x128, .f32⟩
  | 60 => ⟨S4x128x16x128, .f32⟩
  | 61 => ⟨S_, .f32⟩
  | 62 => ⟨S4x128x16x128, .f32⟩
  | 63 => ⟨S4x128x16x128, .f32⟩
  | 64 => ⟨S4x128x2048, .f32⟩
  | 65 => ⟨S16x128x128, .f32⟩
  | 66 => ⟨S16x128x4x128, .f32⟩
  | 67 => ⟨S4x128x16x128, .f32⟩
  | 68 => ⟨S16x128, .f32⟩
  | 69 => ⟨S1x1x16x128, .f32⟩
  | 70 => ⟨S4x128x16x128, .f32⟩
  | 71 => ⟨S4x128x16x128, .f32⟩
  | 72 => ⟨S4x128x16x128, .f32⟩
  | 73 => ⟨S4x128x16x128, .f32⟩
  | 74 => ⟨S_, .f32⟩
  | 75 => ⟨S4x128x16x128, .f32⟩
  | 76 => ⟨S4x128x16x128, .f32⟩
  | 77 => ⟨S_, .f32⟩
  | 78 => ⟨S4x128x16x128, .f32⟩
  | 79 => ⟨S4x128x16x128, .f32⟩
  | 80 => ⟨S4x128x2048, .f32⟩
  | 81 => ⟨S_, .f32⟩
  | 82 => ⟨S4x128x2048, .f32⟩
  | 83 => ⟨S4x128x2048, .f32⟩
  | 84 => ⟨S2048, .f32⟩
  | 85 => ⟨S2048, .f32⟩
  | 86 => ⟨S_, .f32⟩
  | 87 => ⟨S2048, .f32⟩
  | 88 => ⟨S2048, .f32⟩
  | 89 => ⟨S2048, .f32⟩
  | 90 => ⟨S2048, .f32⟩
  | 91 => ⟨S2048, .i1⟩
  | 92 => ⟨S2048, .f32⟩
  | 93 => ⟨S2048, .f32⟩
  | 94 => ⟨S2048, .f32⟩
  | 95 => ⟨S2048, .f32⟩
  | 96 => ⟨S2048, .f32⟩
  | 97 => ⟨S2048, .f32⟩
  | 98 => ⟨S2048, .f32⟩
  | 99 => ⟨S2048, .f32⟩
  | 100 => ⟨S1x1x2048, .f32⟩
  | 101 => ⟨S4x128x2048, .f32⟩
  | 102 => ⟨S4x128x2048, .f32⟩
  | 103 => ⟨S4x128x2048, .f32⟩
  | 104 => ⟨S_, .f32⟩
  | 105 => ⟨S4x128x2048, .f32⟩
  | 106 => ⟨S4x128x2048, .f32⟩
  | 107 => ⟨S4x128x2048, .f32⟩
  | 108 => ⟨S4x128x2048, .f32⟩
  | 109 => ⟨S4x128x2048, .f32⟩
  | 110 => ⟨S4x128x2048, .f32⟩
  | 111 => ⟨S4x128x2048, .f32⟩
  | 112 => ⟨S128x2048, .f32⟩
  | 113 => ⟨S1x128x2048, .f32⟩
  | 114 => ⟨S128x2048, .f32⟩
  | 115 => ⟨S128x2048, .f32⟩
  | 116 => ⟨S1x128x2048, .f32⟩
  | 117 => ⟨S128x2048, .f32⟩
  | 118 => ⟨S128x2048, .f32⟩
  | 119 => ⟨S1x128x2048, .f32⟩
  | 120 => ⟨S128x2048, .f32⟩
  | 121 => ⟨S128x2048, .f32⟩
  | 122 => ⟨S1x128x2048, .f32⟩
  | 123 => ⟨S128x2048, .f32⟩
  | 124 => ⟨S128x2048, .f32⟩
  | 125 => ⟨S1x128x2048, .f32⟩
  | 126 => ⟨S128x2048, .f32⟩
  | 127 => ⟨S128x2048, .f32⟩
  | _ => ⟨S5x128x9216, .f32⟩

abbrev hbmTy0_1 (i : Nat) : BufTy := match i % 128 with
  | 0 => ⟨S1x128x2048, .f32⟩
  | 1 => ⟨S128x2048, .f32⟩
  | 2 => ⟨S128x2048, .f32⟩
  | 3 => ⟨S1x128x2048, .f32⟩
  | 4 => ⟨S128x2048, .f32⟩
  | 5 => ⟨S128x2048, .f32⟩
  | 6 => ⟨S1x128x2048, .f32⟩
  | 7 => ⟨S128x2048, .f32⟩
  | 8 => ⟨S128x2048, .f32⟩
  | 9 => ⟨S1x128x2048, .f32⟩
  | 10 => ⟨S1x128x2048, .f32⟩
  | 11 => ⟨S1x128x2048, .f32⟩
  | 12 => ⟨S1x128x2048, .f32⟩
  | 13 => ⟨S4x128x2048, .f32⟩
  | 14 => ⟨S4x128x2048, .f32⟩
  | 15 => ⟨S4x128x2048, .f32⟩
  | 16 => ⟨S_, .f32⟩
  | 17 => ⟨S4x128, .f32⟩
  | 18 => ⟨S4x128x1, .f32⟩
  | 19 => ⟨S_, .f32⟩
  | 20 => ⟨S4x128x1, .f32⟩
  | 21 => ⟨S4x128x1, .f32⟩
  | 22 => ⟨S_, .f32⟩
  | 23 => ⟨S4x128x1, .f32⟩
  | 24 => ⟨S4x128x1, .f32⟩
  | 25 => ⟨S4x128x1, .f32⟩
  | 26 => ⟨S4x128x2048, .f32⟩
  | 27 => ⟨S4x128x2048, .f32⟩
  | 28 => ⟨S2048, .f32⟩
  | 29 => ⟨S1x1x2048, .f32⟩
  | 30 => ⟨S4x128x2048, .f32⟩
  | 31 => ⟨S4x128x2048, .f32⟩
  | 32 => ⟨S4x128x2048, .bf16⟩
  | 33 => ⟨S3x128x2048, .f32⟩
  | _ => ⟨S5x128x9216, .f32⟩

abbrev hbmTy (i : Nat) : BufTy := match i / 128 with
  | 0 => hbmTy0_0 i
  | 1 => hbmTy0_1 i
  | _ => ⟨S5x128x9216, .f32⟩

abbrev bufTy : (tb : Table) → Fin (tcTables nBuf tb) → BufTy
  | .hbm, ⟨i, _⟩ => hbmTy i
  | _, _ => ⟨S5x128x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst : Ref sig .tc := ⟨.hbm, 58, rfl⟩
abbrev main_v47 : Ref sig .tc := ⟨.hbm, 59, rfl⟩
abbrev main_v48 : Ref sig .tc := ⟨.hbm, 60, rfl⟩
abbrev main_cst_0 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_1 : Ref sig .tc := ⟨.hbm, 74, rfl⟩
abbrev main_v61 : Ref sig .tc := ⟨.hbm, 75, rfl⟩
abbrev main_v62 : Ref sig .tc := ⟨.hbm, 76, rfl⟩
abbrev main_cst_2 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_3 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_call0_cst : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_call0_v5 : Ref sig .tc := ⟨.hbm, 92, rfl⟩
abbrev main_call0_v6 : Ref sig .tc := ⟨.hbm, 93, rfl⟩
abbrev main_call0_v7 : Ref sig .tc := ⟨.hbm, 94, rfl⟩
abbrev main_call0_v8 : Ref sig .tc := ⟨.hbm, 95, rfl⟩
abbrev main_call0_v9 : Ref sig .tc := ⟨.hbm, 96, rfl⟩
abbrev main_call0_v10 : Ref sig .tc := ⟨.hbm, 97, rfl⟩
abbrev main_call0_v11 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_4 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_cst_5 : Ref sig .tc := ⟨.hbm, 144, rfl⟩
abbrev main_v114 : Ref sig .tc := ⟨.hbm, 145, rfl⟩
abbrev main_v115 : Ref sig .tc := ⟨.hbm, 146, rfl⟩
abbrev main_cst_6 : Ref sig .tc := ⟨.hbm, 147, rfl⟩
abbrev main_v116 : Ref sig .tc := ⟨.hbm, 148, rfl⟩
abbrev main_v117 : Ref sig .tc := ⟨.hbm, 149, rfl⟩
abbrev main_cst_7 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩

abbrev nD : Nat := 1
abbrev τ : Topo := Topo.v7x

variable {F : FTy → Type} [FloatOps F]
-- ==== MlpUp.lean ====
abbrev S8192x2048 : Shape := ⟨2, ![8192, 2048]⟩
abbrev S1x2048 : Shape := ⟨2, ![1, 2048]⟩
abbrev S1x2048x8192 : Shape := ⟨3, ![1, 2048, 8192]⟩
abbrev S2048 : Shape := ⟨1, ![2048]⟩
abbrev S2048x8192 : Shape := ⟨2, ![2048, 8192]⟩
abbrev S8192x8192 : Shape := ⟨2, ![8192, 8192]⟩
abbrev S1024x2048 : Shape := ⟨2, ![1024, 2048]⟩
abbrev S2048x2048 : Shape := ⟨2, ![2048, 2048]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x8192, .f32⟩
  | .hbm, ⟨3, _⟩ => ⟨S2048, .f32⟩
  | .hbm, ⟨4, _⟩ => ⟨S1x2048, .f32⟩
  | .hbm, ⟨5, _⟩ => ⟨S2048x8192, .f32⟩
  | .hbm, ⟨6, _⟩ => ⟨S2048x8192, .bf16⟩
  | .hbm, ⟨7, _⟩ => ⟨S8192x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlpUpRefIdeal.lean ====
abbrev S8192x2048 : Shape := ⟨2, ![8192, 2048]⟩
abbrev S1x2048 : Shape := ⟨2, ![1, 2048]⟩
abbrev S1x2048x8192 : Shape := ⟨3, ![1, 2048, 8192]⟩
abbrev S_ : Shape := ⟨0, ![]⟩
abbrev S8192 : Shape := ⟨1, ![8192]⟩
abbrev S8192x1 : Shape := ⟨2, ![8192, 1]⟩
abbrev S2048 : Shape := ⟨1, ![2048]⟩
abbrev S2048x8192 : Shape := ⟨2, ![2048, 8192]⟩
abbrev S8192x8192 : Shape := ⟨2, ![8192, 8192]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x8192, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S2048x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_cst : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== MlpDown.lean ====
abbrev S8192x8192 : Shape := ⟨2, ![8192, 8192]⟩
abbrev S1x8192x2048 : Shape := ⟨3, ![1, 8192, 2048]⟩
abbrev S8192x2048 : Shape := ⟨2, ![8192, 2048]⟩
abbrev S2048 : Shape := ⟨1, ![2048]⟩
abbrev S1x2048 : Shape := ⟨2, ![1, 2048]⟩
abbrev S1024x1024 : Shape := ⟨2, ![1024, 1024]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 9
  | .vmem => 9
  | .smem => 0
  | _ => 0

abbrev bufTy : (tb : Table) → Fin (tcTables nBuf tb) → BufTy
  | .hbm, ⟨0, _⟩ => ⟨S8192x8192, .f32⟩
  | .hbm, ⟨1, _⟩ => ⟨S1x8192x2048, .f32⟩
  | .hbm, ⟨2, _⟩ => ⟨S8192x2048, .f32⟩
  | .hbm, ⟨3, _⟩ => ⟨S2048, .f32⟩
  | .hbm, ⟨4, _⟩ => ⟨S8192x8192, .bf16⟩
  | .hbm, ⟨5, _⟩ => ⟨S8192x2048, .f32⟩
  | .hbm, ⟨6, _⟩ => ⟨S8192x2048, .bf16⟩
  | .hbm, ⟨7, _⟩ => ⟨S1x2048, .f32⟩
  | .hbm, ⟨8, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1x2048, .f32⟩
  | .local _ .vmem, ⟨7, _⟩ => ⟨S1024x2048, .f32⟩
  | .local _ .vmem, ⟨8, _⟩ => ⟨S1024x2048, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpDownRefIdeal.lean ====
abbrev S8192x8192 : Shape := ⟨2, ![8192, 8192]⟩
abbrev S1x8192x2048 : Shape := ⟨3, ![1, 8192, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S1x8192x2048, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== InProj.lean ====
abbrev S8192x2048 : Shape := ⟨2, ![8192, 2048]⟩
abbrev S1x2048 : Shape := ⟨2, ![1, 2048]⟩
abbrev S1x2048x9248 : Shape := ⟨3, ![1, 2048, 9248]⟩
abbrev S1x9248x2048 : Shape := ⟨3, ![1, 9248, 2048]⟩
abbrev S9248x2048 : Shape := ⟨2, ![9248, 2048]⟩
abbrev S2048 : Shape := ⟨1, ![2048]⟩
abbrev S9216x2048 : Shape := ⟨2, ![9216, 2048]⟩
abbrev S32x2048 : Shape := ⟨2, ![32, 2048]⟩
abbrev S8192x9216 : Shape := ⟨2, ![8192, 9216]⟩
abbrev S8192x128 : Shape := ⟨2, ![8192, 128]⟩
abbrev S1024x2048 : Shape := ⟨2, ![1024, 2048]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩
abbrev S96x2048 : Shape := ⟨2, ![96, 2048]⟩
abbrev S128x2048 : Shape := ⟨2, ![128, 2048]⟩

abbrev nBuf : Space → Nat
  | .hbm => 12
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x9248, .f32⟩
  | .hbm, ⟨3, _⟩ => ⟨S1x9248x2048, .f32⟩
  | .hbm, ⟨4, _⟩ => ⟨S9248x2048, .f32⟩
  | .hbm, ⟨5, _⟩ => ⟨S9248x2048, .bf16⟩
  | .hbm, ⟨6, _⟩ => ⟨S2048, .f32⟩
  | .hbm, ⟨7, _⟩ => ⟨S1x2048, .f32⟩
  | .hbm, ⟨8, _⟩ => ⟨S9216x2048, .bf16⟩
  | .hbm, ⟨9, _⟩ => ⟨S32x2048, .bf16⟩
  | .hbm, ⟨10, _⟩ => ⟨S8192x9216, .f32⟩
  | .hbm, ⟨11, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S32x2048, .bf16⟩
  | .local _ .vmem, ⟨6, _⟩ => ⟨S1024x1024, .f32⟩
  | .local _ .vmem, ⟨7, _⟩ => ⟨S1024x1024, .f32⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 9], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c2_i32 : BitVec 32 := 2#32
  let v4 : BitVec 1 := Scalar.cmpi .slt arg1 c2_i32
  let v5 : BitVec 1 := Scalar.andi v3 v4
  let v9 : BitVec 32 := Scalar.extui v5
  let c0_i32_2 : BitVec 32 := 0#32
  let v10 : BitVec 1 := Scalar.cmpi .ne v9 c0_i32_2
  v10

def k0_cond3 (i : grid0.Coords) : BitVec 1 :=
  let arg1 : BitVec 32 := BitVec.ofNat 32 (i 1).val
  let c4_i32 : BitVec 32 := 4#32
  let v6 : BitVec 1 := Scalar.cmpi .sge arg1 c4_i32
  let c6_i32 : BitVec 32 := 6#32
  let v7 : BitVec 1 := Scalar.cmpi .slt arg1 c6_i32
  let v8 : BitVec 1 := Scalar.andi v6 v7
  let v11 : BitVec 32 := Scalar.extui v8
  let c0_i32_3 : BitVec 32 := 0#32
  let v12 : BitVec 1 := Scalar.cmpi .ne v11 c0_i32_3
  v12

def k0_cond4 (i : grid0.Coords) : BitVec 1 :=
  let arg1 : BitVec 32 := BitVec.ofNat 32 (i 1).val
  let c0_i32_1 : BitVec 32 := 0#32
  let v3 : BitVec 1 := Scalar.cmpi .sge arg1 c0_i32_1
  let c2_i32 : BitVec 32 := 2#32
  let v4 : BitVec 1 := Scalar.cmpi .slt arg1 c2_i32
  let v5 : BitVec 1 := Scalar.andi v3 v4
  let c4_i32 : BitVec 32 := 4#32
  let v6 : BitVec 1 := Scalar.cmpi .sge arg1 c4_i32
  let c6_i32 : BitVec 32 := 6#32
  let v7 : BitVec 1 := Scalar.cmpi .slt arg1 c6_i32
  let v8 : BitVec 1 := Scalar.andi v6 v7
  let v13 : BitVec 1 := Scalar.ori v5 v8
  let v_true : BitVec 1 := 1#1
  let v14 : BitVec 1 := Scalar.xori v13 v_true
  let v15 : BitVec 32 := Scalar.extui v14
  let c0_i32_4 : BitVec 32 := 0#32
  let v16 : BitVec 1 := Scalar.cmpi .ne v15 c0_i32_4
  v16

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S32x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InProjRefIdeal.lean ====
abbrev S8192x2048 : Shape := ⟨2, ![8192, 2048]⟩
abbrev S1x2048 : Shape := ⟨2, ![1, 2048]⟩
abbrev S1x2048x9248 : Shape := ⟨3, ![1, 2048, 9248]⟩
abbrev S_ : Shape := ⟨0, ![]⟩
abbrev S8192 : Shape := ⟨1, ![8192]⟩
abbrev S8192x1 : Shape := ⟨2, ![8192, 1]⟩
abbrev S2048 : Shape := ⟨1, ![2048]⟩
abbrev S2048x9248 : Shape := ⟨2, ![2048, 9248]⟩
abbrev S8192x9248 : Shape := ⟨2, ![8192, 9248]⟩
abbrev S8192x3072 : Shape := ⟨2, ![8192, 3072]⟩
abbrev S8192x9216 : Shape := ⟨2, ![8192, 9216]⟩
abbrev S8192x32 : Shape := ⟨2, ![8192, 32]⟩
abbrev S8192x96 : Shape := ⟨2, ![8192, 96]⟩
abbrev S8192x128 : Shape := ⟨2, ![8192, 128]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x9248, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S2048x9248, .f32⟩
  | .hbm, ⟨21, _⟩ => ⟨S8192x9248, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x3072, .f32⟩
  | .hbm, ⟨52, _⟩ => ⟨S8192x9216, .f32⟩
  | .hbm, ⟨53, _⟩ => ⟨S8192x32, .f32⟩
  | .hbm, ⟨54, _⟩ => ⟨S_, .f32⟩
  | .hbm, ⟨55, _⟩ => ⟨S8192x96, .f32⟩
  | .hbm, ⟨56, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]
-- ==== SsdState.lean ====
abbrev S128x128 : Shape := ⟨2, ![128, 128]⟩
abbrev S1x128x32x64x128 : Shape := ⟨5, ![1, 128, 32, 64, 128]⟩
abbrev S128x8x512 : Shape := ⟨3, ![128, 8, 512]⟩
abbrev S128x8x2048 : Shape := ⟨3, ![128, 8, 2048]⟩
abbrev S128x32x64x128 : Shape := ⟨4, ![128, 32, 64, 128]⟩
abbrev S128x2048x128 : Shape := ⟨3, ![128, 2048, 128]⟩
abbrev S8x2048x128 : Shape := ⟨3, ![8, 2048, 128]⟩
abbrev S8x8x512 : Shape := ⟨3, ![8, 8, 512]⟩
abbrev S8x8x2048 : Shape := ⟨3, ![8, 8, 2048]⟩
abbrev S1x512x128 : Shape := ⟨3, ![1, 512, 128]⟩
abbrev S512x128 : Shape := ⟨2, ![512, 128]⟩
abbrev S1x8x128 : Shape := ⟨3, ![1, 8, 128]⟩
abbrev S8x128 : Shape := ⟨2, ![8, 128]⟩
abbrev S8x512 : Shape := ⟨2, ![8, 512]⟩
abbrev S1x8x512 : Shape := ⟨3, ![1, 8, 512]⟩
abbrev S1x1 : Shape := ⟨2, ![1, 1]⟩
abbrev S1x64x128 : Shape := ⟨3, ![1, 64, 128]⟩
abbrev S64x128 : Shape := ⟨2, ![64, 128]⟩

abbrev nBuf : Space → Nat
  | .hbm => 9
  | .vmem => 12
  | .smem => 1
  | _ => 0

abbrev bufTy : (tb : Table) → Fin (tcTables nBuf tb) → BufTy
  | .hbm, ⟨0, _⟩ => ⟨S128x128, .f32⟩
  | .hbm, ⟨1, _⟩ => ⟨S1x128x32x64x128, .f32⟩
  | .hbm, ⟨2, _⟩ => ⟨S128x8x512, .f32⟩
  | .hbm, ⟨3, _⟩ => ⟨S128x8x512, .f32⟩
  | .hbm, ⟨4, _⟩ => ⟨S128x8x2048, .f32⟩
  | .hbm, ⟨5, _⟩ => ⟨S128x32x64x128, .f32⟩
  | .hbm, ⟨6, _⟩ => ⟨S128x2048x128, .f32⟩
  | .hbm, ⟨7, _⟩ => ⟨S128x2048x128, .f32⟩
  | .hbm, ⟨8, _⟩ => ⟨S128x8x2048, .f32⟩
  | .local _ .vmem, ⟨0, _⟩ => ⟨S8x2048x128, .f32⟩
  | .local _ .vmem, ⟨1, _⟩ => ⟨S8x2048x128, .f32⟩
  | .local _ .vmem, ⟨2, _⟩ => ⟨S8x8x512, .f32⟩
  | .local _ .vmem, ⟨3, _⟩ => ⟨S8x8x512, .f32⟩
  | .local _ .vmem, ⟨4, _⟩ => ⟨S8x8x512, .f32⟩
  | .local _ .vmem, ⟨5, _⟩ => ⟨S8x8x512, .f32⟩
  | .local _ .vmem, ⟨6, _⟩ => ⟨S8x8x2048, .f32⟩
  | .local _ .vmem, ⟨7, _⟩ => ⟨S8x8x2048, .f32⟩
  | .local _ .vmem, ⟨8, _⟩ => ⟨S8x2048x128, .f32⟩
  | .local _ .vmem, ⟨9, _⟩ => ⟨S8x2048x128, .f32⟩
  | .local _ .vmem, ⟨10, _⟩ => ⟨S8x8x2048, .f32⟩
  | .local _ .vmem, ⟨11, _⟩ => ⟨S8x8x2048, .f32⟩
  | .local _ .smem, ⟨0, _⟩ => ⟨S128x128, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def k0_off1 (i : grid0.Coords) (c0_i32 : BitVec 32) : Fin 2 → Nat :=
  let arg0 : BitVec 32 := BitVec.ofNat 32 (i 0).val
  let c8_i32 : BitVec 32 := 8#32
  let v17 : BitVec 32 := Scalar.muli arg0 c8_i32
  let v18 : BitVec 32 := Scalar.addi v17 c0_i32
  let v19 : Index := Scalar.indexCast v18
  let c0_15 : Index := 0#32
  ![v19.toNat, 0]
def k0_off2 (i : grid0.Coords) (c0_i32_23 : BitVec 32) : Fin 2 → Nat :=
  let arg0 : BitVec 32 := BitVec.ofNat 32 (i 0).val
  let c8_i32_22 : BitVec 32 := 8#32
  let v30 : BitVec 32 := Scalar.muli arg0 c8_i32_22
  let v31 : BitVec 32 := Scalar.addi v30 c0_i32_23
  let v32 : Index := Scalar.indexCast v31
  let c1 : Index := 1#32
  ![v32.toNat, 1]
def k0_off3 (i : grid0.Coords) (c0_i32_30 : BitVec 32) : Fin 2 → Nat :=
  let arg0 : BitVec 32 := BitVec.ofNat 32 (i 0).val
  let c8_i32_29 : BitVec 32 := 8#32
  let v43 : BitVec 32 := Scalar.muli arg0 c8_i32_29
  let v44 : BitVec 32 := Scalar.addi v43 c0_i32_30
  let v45 : Index := Scalar.indexCast v44
  let c2 : Index := 2#32
  ![v45.toNat, 2]
def k0_off4 (i : grid0.Coords) (c0_i32_37 : BitVec 32) : Fin 2 → Nat :=
  let arg0 : BitVec 32 := BitVec.ofNat 32 (i 0).val
  let c8_i32_36 : BitVec 32 := 8#32
  let v56 : BitVec 32 := Scalar.muli arg0 c8_i32_36
  let v57 : BitVec 32 := Scalar.addi v56 c0_i32_37
  let v58 : Index := Scalar.indexCast v57
  let c3 : Index := 3#32
  ![v58.toNat, 3]
def k0_off5 (i : grid0.Coords) (c0_i32_44 : BitVec 32) : Fin 2 → Nat :=
  let arg0 : BitVec 32 := BitVec.ofNat 32 (i 0).val
  let c8_i32_43 : BitVec 32 := 8#32
  let v69 : BitVec 32 := Scalar.muli arg0 c8_i32_43
  let v70 : BitVec 32 := Scalar.addi v69 c0_i32_44
  let v71 : Index := Scalar.indexCast v70
  let c4 : Index := 4#32
  ![v71.toNat, 4]
def k0_off6 (i : grid0.Coords) (c0_i32_51 : BitVec 32) : Fin 2 → Nat :=
  let arg0 : BitVec 32 := BitVec.ofNat 32 (i 0).val
  let c8_i32_50 : BitVec 32 := 8#32
  let v82 : BitVec 32 := Scalar.muli arg0 c8_i32_50
  let v83 : BitVec 32 := Scalar.addi v82 c0_i32_51
  let v84 : Index := Scalar.indexCast v83
  let c5 : Index := 5#32
  ![v84.toNat, 5]
def k0_off7 (i : grid0.Coords) (c0_i32_58 : BitVec 32) : Fin 2 → Nat :=
  let arg0 : BitVec 32 := BitVec.ofNat 32 (i 0).val
  let c8_i32_57 : BitVec 32 := 8#32
  let v95 : BitVec 32 := Scalar.muli arg0 c8_i32_57
  let v96 : BitVec 32 := Scalar.addi v95 c0_i32_58
  let v97 : Index := Scalar.indexCast v96
  let c6 : Index := 6#32
  ![v97.toNat, 6]
def k0_off8 (i : grid0.Coords) (c0_i32_65 : BitVec 32) : Fin 2 → Nat :=
  let arg0 : BitVec 32 := BitVec.ofNat 32 (i 0).val
  let c8_i32_64 : BitVec 32 := 8#32
  let v108 : BitVec 32 := Scalar.muli arg0 c8_i32_64
  let v109 : BitVec 32 := Scalar.addi v108 c0_i32_65
  let v110 : Index := Scalar.indexCast v109
  let c7 : Index := 7#32
  ![v110.toNat, 7]
def k0_off9 (i : grid0.Coords) (c0_i32_88 : BitVec 32) : Fin 2 → Nat :=
  let arg0 : BitVec 32 := BitVec.ofNat 32 (i 0).val
  let c8_i32_87 : BitVec 32 := 8#32
  let v138 : BitVec 32 := Scalar.muli arg0 c8_i32_87
  let v139 : BitVec 32 := Scalar.addi v138 c0_i32_88
  let v140 : Index := Scalar.indexCast v139
  let c8 : Index := 8#32
  ![v140.toNat, 8]
def k0_off10 (i : grid0.Coords) (c0_i32_96 : BitVec 32) : Fin 2 → Nat :=
  let arg0 : BitVec 32 := BitVec.ofNat 32 (i 0).val
  let c8_i32_95 : BitVec 32 := 8#32
  let v151 : BitVec 32 := Scalar.muli arg0 c8_i32_95
  let v152 : BitVec 32 := Scalar.addi v151 c0_i32_96
  let v153 : Index := Scalar.indexCast v152
  let c9 : Index := 9#32
  ![v153.toNat, 9]
def k0_off11 (i : grid0.Coords) (c0_i32_103 : BitVec 32) : Fin 2 → Nat :=
  let arg0 : BitVec 32 := BitVec.ofNat 32 (i 0).val
  let c8_i32_102 : BitVec 32 := 8#32
  let v164 : BitVec 32 := Scalar.muli arg0 c8_i32_102
  let v165 : BitVec 32 := Scalar.addi v164 c0_i32_103
  let v166 : Index := Scalar.indexCast v165
  let c10 : Index := 10#32
  ![v166.toNat, 10]
def k0_off12 (i : grid0.Coords) (c0_i32_110 : BitVec 32) : Fin 2 → Nat :=
  let arg0 : BitVec 32 := BitVec.ofNat 32 (i 0).val
  let c8_i32_109 : BitVec 32 := 8#32
  let v177 : BitVec 32 := Scalar.muli arg0 c8_i32_109
  let v178 : BitVec 32 := Scalar.addi v177 c0_i32_110
  let v179 : Index := Scalar.indexCast v178
  let c11 : Index := 11#32
  ![v179.toNat, 11]
def k0_off13 (i : grid0.Coords) (c0_i32_117 : BitVec 32) : Fin 2 → Nat :=
  let arg0 : BitVec 32 := BitVec.ofNat 32 (i 0).val
  let c8_i32_116 : BitVec 32 := 8#32
  let v190 : BitVec 32 := Scalar.muli arg0 c8_i32_116
  let v191 : BitVec 32 := Scalar.addi v190 c0_i32_117
  let v192 : Index := Scalar.indexCast v191
  let c12 : Index := 12#32
  ![v192.toNat, 12]
def k0_off14 (i : grid0.Coords) (c0_i32_124 : BitVec 32) : Fin 2 → Nat :=
  let arg0 : BitVec 32 := BitVec.ofNat 32 (i 0).val
  let c8_i32_123 : BitVec 32 := 8#32
  let v203 : BitVec 32 := Scalar.muli arg0 c8_i32_123
  let v204 : BitVec 32 := Scalar.addi v203 c0_i32_124
  let v205 : Index := Scalar.indexCast v204
  let c13 : Index := 13#32
  ![v205.toNat, 13]
def k0_off15 (i : grid0.Coords) (c0_i32_131 : BitVec 32) : Fin 2 → Nat :=
  let arg0 : BitVec 32 := BitVec.ofNat 32 (i 0).val
  let c8_i32_130 : BitVec 32 := 8#32
  let v216 : BitVec 32 := Scalar.muli arg0 c8_i32_130
  let v217 : BitVec 32 := Scalar.addi v216 c0_i32_131
  let v218 : Index := Scalar.indexCast v217
  let c14 : Index := 14#32
  ![v218.toNat, 14]
def k0_off16 (i : grid0.Coords) (c0_i32_138 : BitVec 32) : Fin 2 → Nat :=
  let arg0 : BitVec 32 := BitVec.ofNat 32 (i 0).val
  let c8_i32_137 : BitVec 32 := 8#32
  let v229 : BitVec 32 := Scalar.muli arg0 c8_i32_137
  let v230 : BitVec 32 := Scalar.addi v229 c0_i32_138
  let v231 : Index := Scalar.indexCast v230
  let c15 : Index := 15#32
  ![v231.toNat, 15]
def k0_off17 (i : grid0.Coords) (c0_i32_161 : BitVec 32) : Fin 2 → Nat :=
  let arg0 : BitVec 32 := BitVec.ofNat 32 (i 0).val
  let c8_i32_160 : BitVec 32 := 8#32
  let v259 : BitVec 32 := Scalar.muli arg0 c8_i32_160
  let v260 : BitVec 32 := Scalar.addi v259 c0_i32_161
  let v261 : Index := Scalar.indexCast v260
  let c16 : Index := 16#32
  ![v261.toNat, 16]
def k0_off18 (i : grid0.Coords) (c0_i32_169 : BitVec 32) : Fin 2 → Nat :=
  let arg0 : BitVec 32 := BitVec.ofNat 32 (i 0).val
  let c8_i32_168 : BitVec 32 := 8#32
  let v272 : BitVec 32 := Scalar.muli arg0 c8_i32_168
  let v273 : BitVec 32 := Scalar.addi v272 c0_i32_169
  let v274 : Index := Scalar.indexCast v273
  let c17 : Index := 17#32
  ![v274.toNat, 17]
def k0_off19 (i : grid0.Coords) (c0_i32_176 : BitVec 32) : Fin 2 → Nat :=
  let arg0 : BitVec 32 := BitVec.ofNat 32 (i 0).val
  let c8_i32_175 : BitVec 32 := 8#32
  let v285 : BitVec 32 := Scalar.muli arg0 c8_i32_175
  let v286 : BitVec 32 := Scalar.addi v285 c0_i32_176
  let v287 : Index := Scalar.indexCast v286
  let c18 : Index := 18#32
  ![v287.toNat, 18]
def k0_off20 (i : grid0.Coords) (c0_i32_183 : BitVec 32) : Fin 2 → Nat :=
  let arg0 : BitVec 32 := BitVec.ofNat 32 (i 0).val
  let c8_i32_182 : BitVec 32 := 8#32
  let v298 : BitVec 32 := Scalar.muli arg0 c8_i32_182
  let v299 : BitVec 32 := Scalar.addi v298 c0_i32_183
  let v300 : Index := Scalar.indexCast v299
  let c19 : Index := 19#32
  ![v300.toNat, 19]
def k0_off21 (i : grid0.Coords) (c0_i32_190 : BitVec 32) : Fin 2 → Nat :=
  let arg0 : BitVec 32 := BitVec.ofNat 32 (i 0).val
  let c8_i32_189 : BitVec 32 := 8#32
  let v311 : BitVec 32 := Scalar.muli arg0 c8_i32_189
  let v312 : BitVec 32 := Scalar.addi v311 c0_i32_190
  let v313 : Index := Scalar.indexCast v312
  let c20 : Index := 20#32
  ![v313.toNat, 20]
def k0_off22 (i : grid0.Coords) (c0_i32_197 : BitVec 32) : Fin 2 → Nat :=
  let arg0 : BitVec 32 := BitVec.ofNat 32 (i 0).val
  let c8_i32_196 : BitVec 32 := 8#32
  let v324 : BitVec 32 := Scalar.muli arg0 c8_i32_196
  let v325 : BitVec 32 := Scalar.addi v324 c0_i32_197
  let v326 : Index := Scalar.indexCast v325
  let c21 : Index := 21#32
  ![v326.toNat, 21]
def k0_off23 (i : grid0.Coords) (c0_i32_204 : BitVec 32) : Fin 2 → Nat :=
  let arg0 : BitVec 32 := BitVec.ofNat 32 (i 0).val
  let c8_i32_203 : BitVec 32 := 8#32
  let v337 : BitVec 32 := Scalar.muli arg0 c8_i32_203
  let v338 : BitVec 32 := Scalar.addi v337 c0_i32_204
  let v339 : Index := Scalar.indexCast v338
  let c22 : Index := 22#32
  ![v339.toNat, 22]
def k0_off24 (i : grid0.Coords) (c0_i32_211 : BitVec 32) : Fin 2 → Nat :=
  let arg0 : BitVec 32 := BitVec.ofNat 32 (i 0).val
  let c8_i32_210 : BitVec 32 := 8#32
  let v350 : BitVec 32 := Scalar.muli arg0 c8_i32_210
  let v351 : BitVec 32 := Scalar.addi v350 c0_i32_211
  let v352 : Index := Scalar.indexCast v351
  let c23 : Index := 23#32
  ![v352.toNat, 23]
def k0_off25 (i : grid0.Coords) (c0_i32_234 : BitVec 32) : Fin 2 → Nat :=
  let arg0 : BitVec 32 := BitVec.ofNat 32 (i 0).val
  let c8_i32_233 : BitVec 32 := 8#32
  let v380 : BitVec 32 := Scalar.muli arg0 c8_i32_233
  let v381 : BitVec 32 := Scalar.addi v380 c0_i32_234
  let v382 : Index := Scalar.indexCast v381
  let c24 : Index := 24#32
  ![v382.toNat, 24]
def k0_off26 (i : grid0.Coords) (c0_i32_242 : BitVec 32) : Fin 2 → Nat :=
  let arg0 : BitVec 32 := BitVec.ofNat 32 (i 0).val
  let c8_i32_241 : BitVec 32 := 8#32
  let v393 : BitVec 32 := Scalar.muli arg0 c8_i32_241
  let v394 : BitVec 32 := Scalar.addi v393 c0_i32_242
  let v395 : Index := Scalar.indexCast v394
  let c25 : Index := 25#32
  ![v395.toNat, 25]
def k0_off27 (i : grid0.Coords) (c0_i32_249 : BitVec 32) : Fin 2 → Nat :=
  let arg0 : BitVec 32 := BitVec.ofNat 32 (i 0).val
  let c8_i32_248 : BitVec 32 := 8#32
  let v406 : BitVec 32 := Scalar.muli arg0 c8_i32_248
  let v407 : BitVec 32 := Scalar.addi v406 c0_i32_249
  let v408 : Index := Scalar.indexCast v407
  let c26 : Index := 26#32
  ![v408.toNat, 26]
def k0_off28 (i : grid0.Coords) (c0_i32_256 : BitVec 32) : Fin 2 → Nat :=
  let arg0 : BitVec 32 := BitVec.ofNat 32 (i 0).val
  let c8_i32_255 : BitVec 32 := 8#32
  let v419 : BitVec 32 := Scalar.muli arg0 c8_i32_255
  let v420 : BitVec 32 := Scalar.addi v419 c0_i32_256
  let v421 : Index := Scalar.indexCast v420
  let c27 : Index := 27#32
  ![v421.toNat, 27]
def k0_off29 (i : grid0.Coords) (c0_i32_263 : BitVec 32) : Fin 2 → Nat :=
  let arg0 : BitVec 32 := BitVec.ofNat 32 (i 0).val
  let c8_i32_262 : BitVec 32 := 8#32
  let v432 : BitVec 32 := Scalar.muli arg0 c8_i32_262
  let v433 : BitVec 32 := Scalar.addi v432 c0_i32_263
  let v434 : Index := Scalar.indexCast v433
  let c28 : Index := 28#32
  ![v434.toNat, 28]
def k0_off30 (i : grid0.Coords) (c0_i32_270 : BitVec 32) : Fin 2 → Nat :=
  let arg0 : BitVec 32 := BitVec.ofNat 32 (i 0).val
  let c8_i32_269 : BitVec 32 := 8#32
  let v445 : BitVec 32 := Scalar.muli arg0 c8_i32_269
  let v446 : BitVec 32 := Scalar.addi v445 c0_i32_270
  let v447 : Index := Scalar.indexCast v446
  let c29 : Index := 29#32
  ![v447.toNat, 29]
def k0_off31 (i : grid0.Coords) (c0_i32_277 : BitVec 32) : Fin 2 → Nat :=
  let arg0 : BitVec 32 := BitVec.ofNat 32 (i 0).val
  let c8_i32_276 : BitVec 32 := 8#32
  let v458 : BitVec 32 := Scalar.muli arg0 c8_i32_276
  let v459 : BitVec 32 := Scalar.addi v458 c0_i32_277
  let v460 : Index := Scalar.indexCast v459
  let c30 : Index := 30#32
  ![v460.toNat, 30]
def k0_off32 (i : grid0.Coords) (c0_i32_284 : BitVec 32) : Fin 2 → Nat :=
  let arg0 : BitVec 32 := BitVec.ofNat 32 (i 0).val
  let c8_i32_283 : BitVec 32 := 8#32
  let v471 : BitVec 32 := Scalar.muli arg0 c8_i32_283
  let v472 : BitVec 32 := Scalar.addi v471 c0_i32_284
  let v473 : Index := Scalar.indexCast v472
  let c31 : Index := 31#32
  ![v473.toNat, 31]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SsdStateRefIdeal.lean ====
abbrev S128x128 : Shape := ⟨2, ![128, 128]⟩
abbrev S1x128x32x64x128 : Shape := ⟨5, ![1, 128, 32, 64, 128]⟩
abbrev S128x8x512 : Shape := ⟨3, ![128, 8, 512]⟩
abbrev S128x8x2048 : Shape := ⟨3, ![128, 8, 2048]⟩
abbrev S128x32x64x128 : Shape := ⟨4, ![128, 32, 64, 128]⟩
abbrev S128x8x4x8x64 : Shape := ⟨5, ![128, 8, 4, 8, 64]⟩
abbrev S128x8x4x128 : Shape := ⟨4, ![128, 8, 4, 128]⟩
abbrev S128x4x8x64x128 : Shape := ⟨5, ![128, 4, 8, 64, 128]⟩
abbrev S128x32 : Shape := ⟨2, ![128, 32]⟩
abbrev S128x32x1x1 : Shape := ⟨4, ![128, 32, 1, 1]⟩
abbrev S128x4x8x64x8 : Shape := ⟨5, ![128, 4, 8, 64, 8]⟩
abbrev S128x2048x128 : Shape := ⟨3, ![128, 2048, 128]⟩

abbrev nBuf : Space → Nat
  | .hbm => 21
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S1x128x32x64x128, .f32⟩
  | .hbm, ⟨2, _⟩ => ⟨S128x8x512, .f32⟩
  | .hbm, ⟨3, _⟩ => ⟨S128x8x512, .f32⟩
  | .hbm, ⟨4, _⟩ => ⟨S128x8x2048, .f32⟩
  | .hbm, ⟨5, _⟩ => ⟨S128x32x64x128, .f32⟩
  | .hbm, ⟨6, _⟩ => ⟨S128x8x4x8x64, .f32⟩
  | .hbm, ⟨7, _⟩ => ⟨S128x8x4x128, .f32⟩
  | .hbm, ⟨8, _⟩ => ⟨S128x8x4x128, .f32⟩
  | .hbm, ⟨9, _⟩ => ⟨S128x4x8x64x128, .f32⟩
  | .hbm, ⟨10, _⟩ => ⟨S128x32x64x128, .f32⟩
  | .hbm, ⟨11, _⟩ => ⟨S128x32, .f32⟩
  | .hbm, ⟨12, _⟩ => ⟨S128x32x1x1, .f32⟩
  | .hbm, ⟨13, _⟩ => ⟨S128x32x64x128, .f32⟩
  | .hbm, ⟨14, _⟩ => ⟨S128x32x64x128, .f32⟩
  | .hbm, ⟨15, _⟩ => ⟨S128x32x64x128, .f32⟩
  | .hbm, ⟨16, _⟩ => ⟨S128x4x8x64x128, .f32⟩
  | .hbm, ⟨17, _⟩ => ⟨S128x4x8x64x8, .f32⟩
  | .hbm, ⟨18, _⟩ => ⟨S128x8x4x8x64, .f32⟩
  | .hbm, ⟨19, _⟩ => ⟨S128x2048x128, .f32⟩
  | .hbm, ⟨20, _⟩ => ⟨S128x8x2048, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== DownSlab.lean ====
abbrev S512x8192 : Shape := ⟨2, ![512, 8192]⟩
abbrev S1x8192x2048 : Shape := ⟨3, ![1, 8192, 2048]⟩
abbrev S512x2048 : Shape := ⟨2, ![512, 2048]⟩
abbrev S2048 : Shape := ⟨1, ![2048]⟩
abbrev S1x2048 : Shape := ⟨2, ![1, 2048]⟩
abbrev S8192x2048 : Shape := ⟨2, ![8192, 2048]⟩
abbrev S128x4x2048 : Shape := ⟨3, ![128, 4, 2048]⟩
abbrev S512x512 : Shape := ⟨2, ![512, 512]⟩
abbrev S1x512x2048 : Shape := ⟨3, ![1, 512, 2048]⟩
abbrev S512 : Shape := ⟨1, ![512]⟩
abbrev S512x1 : Shape := ⟨2, ![512, 1]⟩
abbrev S128x2048 : Shape := ⟨2, ![128, 2048]⟩
abbrev S128x1x2048 : Shape := ⟨3, ![128, 1, 2048]⟩

abbrev nBuf : Space → Nat
  | .hbm => 9
  | .vmem => 10
  | .smem => 0
  | _ => 0

abbrev bufTy : (tb : Table) → Fin (tcTables nBuf tb) → BufTy
  | .hbm, ⟨0, _⟩ => ⟨S512x8192, .f32⟩
  | .hbm, ⟨1, _⟩ => ⟨S1x8192x2048, .f32⟩
  | .hbm, ⟨2, _⟩ => ⟨S512x2048, .f32⟩
  | .hbm, ⟨3, _⟩ => ⟨S2048, .f32⟩
  | .hbm, ⟨4, _⟩ => ⟨S512x8192, .bf16⟩
  | .hbm, ⟨5, _⟩ => ⟨S1x2048, .f32⟩
  | .hbm, ⟨6, _⟩ => ⟨S512x2048, .f32⟩
  | .hbm, ⟨7, _⟩ => ⟨S8192x2048, .bf16⟩
  | .hbm, ⟨8, _⟩ => ⟨S128x4x2048, .f32⟩
  | .local _ .vmem, ⟨0, _⟩ => ⟨S512x512, .bf16⟩
  | .local _ .vmem, ⟨1, _⟩ => ⟨S512x512, .bf16⟩
  | .local _ .vmem, ⟨2, _⟩ => ⟨S1x512x2048, .f32⟩
  | .local _ .vmem, ⟨3, _⟩ => ⟨S1x512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .vmem, ⟨9, _⟩ => ⟨S128x4x2048, .f32⟩
  | _, _ => ⟨S512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_11 : BitVec 32 := 0#32
  let v16 : BitVec 1 := Scalar.cmpi .ne v15 c0_i32_11
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S128x4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DownSlabRefIdeal.lean ====
abbrev S512x8192 : Shape := ⟨2, ![512, 8192]⟩
abbrev S1x8192x2048 : Shape := ⟨3, ![1, 8192, 2048]⟩
abbrev S512x2048 : Shape := ⟨2, ![512, 2048]⟩
abbrev S2048 : Shape := ⟨1, ![2048]⟩
abbrev S8192x2048 : Shape := ⟨2, ![8192, 2048]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S4x128x2048 : Shape := ⟨3, ![4, 128, 2048]⟩
abbrev S128x4x2048 : Shape := ⟨3, ![128, 4, 2048]⟩

abbrev nBuf : Space → Nat
  | .hbm => 27
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S1x8192x2048, .f32⟩
  | .hbm, ⟨2, _⟩ => ⟨S512x2048, .f32⟩
  | .hbm, ⟨3, _⟩ => ⟨S2048, .f32⟩
  | .hbm, ⟨4, _⟩ => ⟨S8192x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S_, .f32⟩
  | .hbm, ⟨15, _⟩ => ⟨S512x1, .f32⟩
  | .hbm, ⟨16, _⟩ => ⟨S512x1, .f32⟩
  | .hbm, ⟨17, _⟩ => ⟨S512x1, .f32⟩
  | .hbm, ⟨18, _⟩ => ⟨S512x2048, .f32⟩
  | .hbm, ⟨19, _⟩ => ⟨S512x2048, .f32⟩
  | .hbm, ⟨20, _⟩ => ⟨S1x2048, .f32⟩
  | .hbm, ⟨21, _⟩ => ⟨S512x2048, .f32⟩
  | .hbm, ⟨22, _⟩ => ⟨S512x2048, .f32⟩
  | .hbm, ⟨23, _⟩ => ⟨S8192x2048, .f32⟩
  | .hbm, ⟨24, _⟩ => ⟨S8192x2048, .bf16⟩
  | .hbm, ⟨25, _⟩ => ⟨S4x128x2048, .f32⟩
  | .hbm, ⟨26, _⟩ => ⟨S128x4x2048, .f32⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== OutProj.lean ====
abbrev S512x2048 : Shape := ⟨2, ![512, 2048]⟩
abbrev S1x4096x2048 : Shape := ⟨3, ![1, 4096, 2048]⟩
abbrev S128x4x2048 : Shape := ⟨3, ![128, 4, 2048]⟩
abbrev S2048x2048 : Shape := ⟨2, ![2048, 2048]⟩
abbrev S1x2048x512 : Shape := ⟨3, ![1, 2048, 512]⟩
abbrev S128x4x512 : Shape := ⟨3, ![128, 4, 512]⟩
abbrev S512x512 : Shape := ⟨2, ![512, 512]⟩
abbrev S2048x512 : Shape := ⟨2, ![2048, 512]⟩
abbrev S128x1x512 : Shape := ⟨3, ![128, 1, 512]⟩
abbrev S128x512 : Shape := ⟨2, ![128, 512]⟩

abbrev nBuf : Space → Nat
  | .hbm => 9
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S1x4096x2048, .f32⟩
  | .hbm, ⟨3, _⟩ => ⟨S128x4x2048, .f32⟩
  | .hbm, ⟨4, _⟩ => ⟨S512x2048, .bf16⟩
  | .hbm, ⟨5, _⟩ => ⟨S512x2048, .bf16⟩
  | .hbm, ⟨6, _⟩ => ⟨S512x2048, .f32⟩
  | .hbm, ⟨7, _⟩ => ⟨S2048x2048, .bf16⟩
  | .hbm, ⟨8, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S128x4x512, .f32⟩
  | .local _ .vmem, ⟨7, _⟩ => ⟨S128x4x512, .f32⟩
  | .local _ .vmem, ⟨8, _⟩ => ⟨S512x512, .f32⟩
  | .local _ .vmem, ⟨9, _⟩ => ⟨S512x512, .f32⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjRefIdeal.lean ====
abbrev S512x2048 : Shape := ⟨2, ![512, 2048]⟩
abbrev S1x4096x2048 : Shape := ⟨3, ![1, 4096, 2048]⟩
abbrev S128x4x2048 : Shape := ⟨3, ![128, 4, 2048]⟩
abbrev S512x4096 : Shape := ⟨2, ![512, 4096]⟩
abbrev S4096x2048 : Shape := ⟨2, ![4096, 2048]⟩
abbrev S4x128x2048 : Shape := ⟨3, ![4, 128, 2048]⟩
abbrev S1x2048x2048 : Shape := ⟨3, ![1, 2048, 2048]⟩
abbrev S2048x2048 : Shape := ⟨2, ![2048, 2048]⟩

abbrev nBuf : Space → Nat
  | .hbm => 16
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S1x4096x2048, .f32⟩
  | .hbm, ⟨3, _⟩ => ⟨S128x4x2048, .f32⟩
  | .hbm, ⟨4, _⟩ => ⟨S512x4096, .f32⟩
  | .hbm, ⟨5, _⟩ => ⟨S4096x2048, .f32⟩
  | .hbm, ⟨6, _⟩ => ⟨S512x2048, .f32⟩
  | .hbm, ⟨7, _⟩ => ⟨S4x128x2048, .f32⟩
  | .hbm, ⟨8, _⟩ => ⟨S512x2048, .f32⟩
  | .hbm, ⟨9, _⟩ => ⟨S512x2048, .f32⟩
  | .hbm, ⟨10, _⟩ => ⟨S1x2048x2048, .f32⟩
  | .hbm, ⟨11, _⟩ => ⟨S2048x2048, .f32⟩
  | .hbm, ⟨12, _⟩ => ⟨S2048x2048, .bf16⟩
  | .hbm, ⟨13, _⟩ => ⟨S1x2048x2048, .f32⟩
  | .hbm, ⟨14, _⟩ => ⟨S2048x2048, .f32⟩
  | .hbm, ⟨15, _⟩ => ⟨S2048x2048, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== UpSlab.lean ====
abbrev S512x2048 : Shape := ⟨2, ![512, 2048]⟩
abbrev S1x2048 : Shape := ⟨2, ![1, 2048]⟩
abbrev S1x2048x8192 : Shape := ⟨3, ![1, 2048, 8192]⟩
abbrev S2048 : Shape := ⟨1, ![2048]⟩
abbrev S512x8192 : Shape := ⟨2, ![512, 8192]⟩
abbrev S2048x8192 : Shape := ⟨2, ![2048, 8192]⟩
abbrev S1x2048x1024 : Shape := ⟨3, ![1, 2048, 1024]⟩
abbrev S512x1024 : Shape := ⟨2, ![512, 1024]⟩
abbrev S2048x1024 : Shape := ⟨2, ![2048, 1024]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S512x2048, .f32⟩
  | .hbm, ⟨1, _⟩ => ⟨S1x2048, .f32⟩
  | .hbm, ⟨2, _⟩ => ⟨S1x2048x8192, .f32⟩
  | .hbm, ⟨3, _⟩ => ⟨S2048, .f32⟩
  | .hbm, ⟨4, _⟩ => ⟨S1x2048, .f32⟩
  | .hbm, ⟨5, _⟩ => ⟨S512x8192, .bf16⟩
  | .hbm, ⟨6, _⟩ => ⟨S2048x8192, .bf16⟩
  | .local _ .vmem, ⟨0, _⟩ => ⟨S512x2048, .f32⟩
  | .local _ .vmem, ⟨1, _⟩ => ⟨S1x2048, .f32⟩
  | .local _ .vmem, ⟨2, _⟩ => ⟨S1x2048x1024, .f32⟩
  | .local _ .vmem, ⟨3, _⟩ => ⟨S1x2048x1024, .f32⟩
  | .local _ .vmem, ⟨4, _⟩ => ⟨S512x1024, .bf16⟩
  | .local _ .vmem, ⟨5, _⟩ => ⟨S512x1024, .bf16⟩
  | .local _ .vmem, ⟨6, _⟩ => ⟨S2048x1024, .bf16⟩
  | .local _ .vmem, ⟨7, _⟩ => ⟨S2048x1024, .bf16⟩
  | .local _ .vmem, ⟨8, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== UpSlabRefIdeal.lean ====
abbrev S512x2048 : Shape := ⟨2, ![512, 2048]⟩
abbrev S1x2048 : Shape := ⟨2, ![1, 2048]⟩
abbrev S1x2048x8192 : Shape := ⟨3, ![1, 2048, 8192]⟩
abbrev S_ : Shape := ⟨0, ![]⟩
abbrev S512 : Shape := ⟨1, ![512]⟩
abbrev S512x1 : Shape := ⟨2, ![512, 1]⟩
abbrev S2048 : Shape := ⟨1, ![2048]⟩
abbrev S2048x8192 : Shape := ⟨2, ![2048, 8192]⟩
abbrev S512x8192 : Shape := ⟨2, ![512, 8192]⟩

abbrev nBuf : Space → Nat
  | .hbm => 29
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S1x2048, .f32⟩
  | .hbm, ⟨2, _⟩ => ⟨S1x2048x8192, .f32⟩
  | .hbm, ⟨3, _⟩ => ⟨S512x2048, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x2048, .f32⟩
  | .hbm, ⟨15, _⟩ => ⟨S512x2048, .f32⟩
  | .hbm, ⟨16, _⟩ => ⟨S2048, .f32⟩
  | .hbm, ⟨17, _⟩ => ⟨S1x2048, .f32⟩
  | .hbm, ⟨18, _⟩ => ⟨S512x2048, .f32⟩
  | .hbm, ⟨19, _⟩ => ⟨S512x2048, .f32⟩
  | .hbm, ⟨20, _⟩ => ⟨S2048x8192, .f32⟩
  | .hbm, ⟨21, _⟩ => ⟨S512x8192, .f32⟩
  | .hbm, ⟨22, _⟩ => ⟨S_, .f32⟩
  | .hbm, ⟨23, _⟩ => ⟨S512x8192, .f32⟩
  | .hbm, ⟨24, _⟩ => ⟨S512x8192, .f32⟩
  | .hbm, ⟨25, _⟩ => ⟨S512x8192, .f32⟩
  | .hbm, ⟨26, _⟩ => ⟨S512x8192, .bf16⟩
  | .hbm, ⟨27, _⟩ => ⟨S2048x8192, .f32⟩
  | .hbm, ⟨28, _⟩ => ⟨S2048x8192, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_cst : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== SsdPost.lean ====
abbrev S4x128x2048 : Shape := ⟨3, ![4, 128, 2048]⟩
abbrev S128x8x2048 : Shape := ⟨3, ![128, 8, 2048]⟩
abbrev S5x128x9216 : Shape := ⟨3, ![5, 128, 9216]⟩
abbrev S1x2048 : Shape := ⟨2, ![1, 2048]⟩
abbrev S2048 : Shape := ⟨1, ![2048]⟩
abbrev S1x128x512 : Shape := ⟨3, ![1, 128, 512]⟩
abbrev S128x512 : Shape := ⟨2, ![128, 512]⟩
abbrev S128x1x512 : Shape := ⟨3, ![128, 1, 512]⟩
abbrev S1x512 : Shape := ⟨2, ![1, 512]⟩
abbrev S128 : Shape := ⟨1, ![128]⟩
abbrev S128x1 : Shape := ⟨2, ![128, 1]⟩

abbrev nBuf : Space → Nat
  | .hbm => 8
  | .vmem => 6
  | .smem => 0
  | _ => 0

abbrev bufTy : (tb : Table) → Fin (tcTables nBuf tb) → BufTy
  | .hbm, ⟨0, _⟩ => ⟨S4x128x2048, .f32⟩
  | .hbm, ⟨1, _⟩ => ⟨S4x128x2048, .f32⟩
  | .hbm, ⟨2, _⟩ => ⟨S128x8x2048, .f32⟩
  | .hbm, ⟨3, _⟩ => ⟨S5x128x9216, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S4x128x2048, .bf16⟩
  | .local _ .vmem, ⟨0, _⟩ => ⟨S4x128x2048, .f32⟩
  | .local _ .vmem, ⟨1, _⟩ => ⟨S4x128x2048, .f32⟩
  | .local _ .vmem, ⟨2, _⟩ => ⟨S128x8x2048, .f32⟩
  | .local _ .vmem, ⟨3, _⟩ => ⟨S4x128x2048, .f32⟩
  | .local _ .vmem, ⟨4, _⟩ => ⟨S1x2048, .f32⟩
  | .local _ .vmem, ⟨5, _⟩ => ⟨S4x128x2048, .bf16⟩
  | _, _ => ⟨S4x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S4x128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== SsdPostRefIdeal.lean ====
abbrev S4x128x2048 : Shape := ⟨3, ![4, 128, 2048]⟩
abbrev S128x8x2048 : Shape := ⟨3, ![128, 8, 2048]⟩
abbrev S5x128x9216 : Shape := ⟨3, ![5, 128, 9216]⟩
abbrev S1x2048 : Shape := ⟨2, ![1, 2048]⟩
abbrev S128x4x2048 : Shape := ⟨3, ![128, 4, 2048]⟩
abbrev S4x128x4x512 : Shape := ⟨4, ![4, 128, 4, 512]⟩
abbrev S_ : Shape := ⟨0, ![]⟩
abbrev S4x128x4 : Shape := ⟨3, ![4, 128, 4]⟩
abbrev S4x128x4x1 : Shape := ⟨4, ![4, 128, 4, 1]⟩
abbrev S2048 : Shape := ⟨1, ![2048]⟩
abbrev S1x1x2048 : Shape := ⟨3, ![1, 1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4x128x2048, .f32⟩
  | .hbm, ⟨1, _⟩ => ⟨S4x128x2048, .f32⟩
  | .hbm, ⟨2, _⟩ => ⟨S128x8x2048, .f32⟩
  | .hbm, ⟨3, _⟩ => ⟨S5x128x9216, .f32⟩
  | .hbm, ⟨4, _⟩ => ⟨S1x2048, .f32⟩
  | .hbm, ⟨5, _⟩ => ⟨S128x4x2048, .f32⟩
  | .hbm, ⟨6, _⟩ => ⟨S4x128x2048, .f32⟩
  | .hbm, ⟨7, _⟩ => ⟨S4x128x2048, .f32⟩
  | .hbm, ⟨8, _⟩ => ⟨S4x128x2048, .f32⟩
  | .hbm, ⟨9, _⟩ => ⟨S4x128x2048, .f32⟩
  | .hbm, ⟨10, _⟩ => ⟨S4x128x2048, .f32⟩
  | .hbm, ⟨11, _⟩ => ⟨S4x128x4x512, .f32⟩
  | .hbm, ⟨12, _⟩ => ⟨S4x128x4x512, .f32⟩
  | .hbm, ⟨13, _⟩ => ⟨S_, .f32⟩
  | .hbm, ⟨14, _⟩ => ⟨S4x128x4, .f32⟩
  | .hbm, ⟨15, _⟩ => ⟨S4x128x4x1, .f32⟩
  | .hbm, ⟨16, _⟩ => ⟨S_, .f32⟩
  | .hbm, ⟨17, _⟩ => ⟨S4x128x4x1, .f32⟩
  | .hbm, ⟨18, _⟩ => ⟨S4x128x4x1, .f32⟩
  | .hbm, ⟨19, _⟩ => ⟨S_, .f32⟩
  | .hbm, ⟨20, _⟩ => ⟨S4x128x4x1, .f32⟩
  | .hbm, ⟨21, _⟩ => ⟨S4x128x4x1, .f32⟩
  | .hbm, ⟨22, _⟩ => ⟨S4x128x4x1, .f32⟩
  | .hbm, ⟨23, _⟩ => ⟨S4x128x4x512, .f32⟩
  | .hbm, ⟨24, _⟩ => ⟨S4x128x4x512, .f32⟩
  | .hbm, ⟨25, _⟩ => ⟨S4x128x2048, .f32⟩
  | .hbm, ⟨26, _⟩ => ⟨S2048, .f32⟩
  | .hbm, ⟨27, _⟩ => ⟨S1x1x2048, .f32⟩
  | .hbm, ⟨28, _⟩ => ⟨S4x128x2048, .f32⟩
  | .hbm, ⟨29, _⟩ => ⟨S4x128x2048, .f32⟩
  | .hbm, ⟨30, _⟩ => ⟨S4x128x2048, .bf16⟩
  | _, _ => ⟨S4x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== SsdPre.lean ====
abbrev S5x128x9216 : Shape := ⟨3, ![5, 128, 9216]⟩
abbrev S5x128x128 : Shape := ⟨3, ![5, 128, 128]⟩
abbrev S1x128x3x3072 : Shape := ⟨4, ![1, 128, 3, 3072]⟩
abbrev S1x4x3072 : Shape := ⟨3, ![1, 4, 3072]⟩
abbrev S1x3072 : Shape := ⟨2, ![1, 3072]⟩
abbrev S1x32 : Shape := ⟨2, ![1, 32]⟩
abbrev S4x3072 : Shape := ⟨2, ![4, 3072]⟩
abbrev S3072 : Shape := ⟨1, ![3072]⟩
abbrev S32 : Shape := ⟨1, ![32]⟩
abbrev S_ : Shape := ⟨0, ![]⟩
abbrev S1x128 : Shape := ⟨2, ![1, 128]⟩
abbrev S32x64 : Shape := ⟨2, ![32, 64]⟩
abbrev S2048 : Shape := ⟨1, ![2048]⟩
abbrev S1x2048 : Shape := ⟨2, ![1, 2048]⟩
abbrev S128x2048 : Shape := ⟨2, ![128, 2048]⟩
abbrev S384x2048 : Shape := ⟨2, ![384, 2048]⟩
abbrev S128x3x3072 : Shape := ⟨3, ![128, 3, 3072]⟩
abbrev S3x128x3072 : Shape := ⟨3, ![3, 128, 3072]⟩
abbrev S4x128x2048 : Shape := ⟨3, ![4, 128, 2048]⟩
abbrev S128x8x512 : Shape := ⟨3, ![128, 8, 512]⟩
abbrev S128x8x2048 : Shape := ⟨3, ![128, 8, 2048]⟩
abbrev S128x128 : Shape := ⟨2, ![128, 128]⟩
abbrev S4x128x3072 : Shape := ⟨3, ![4, 128, 3072]⟩
abbrev S4x128x128 : Shape := ⟨3, ![4, 128, 128]⟩
abbrev S1x128x128 : Shape := ⟨3, ![1, 128, 128]⟩
abbrev S128x384 : Shape := ⟨2, ![128, 384]⟩
abbrev S1x128x2048 : Shape := ⟨3, ![1, 128, 2048]⟩
abbrev S128x1x2048 : Shape := ⟨3, ![128, 1, 2048]⟩
abbrev S1x128x512 : Shape := ⟨3, ![1, 128, 512]⟩
abbrev S128x512 : Shape := ⟨2, ![128, 512]⟩
abbrev S128x1x512 : Shape := ⟨3, ![128, 1, 512]⟩
abbrev S128 : Shape := ⟨1, ![128]⟩
abbrev S128x1 : Shape := ⟨2, ![128, 1]⟩

abbrev nBuf : Space → Nat
  | .hbm => 57
  | .vmem => 17
  | .smem => 0
  | _ => 0

abbrev bufTy : (tb : Table) → Fin (tcTables nBuf tb) → BufTy
  | .hbm, ⟨0, _⟩ => ⟨S5x128x9216, .f32⟩
  | .hbm, ⟨1, _⟩ => ⟨S5x128x128, .f32⟩
  | .hbm, ⟨2, _⟩ => ⟨S1x128x3x3072, .f32⟩
  | .hbm, ⟨3, _⟩ => ⟨S1x4x3072, .f32⟩
  | .hbm, ⟨4, _⟩ => ⟨S1x3072, .f32⟩
  | .hbm, ⟨5, _⟩ => ⟨S1x32, .f32⟩
  | .hbm, ⟨6, _⟩ => ⟨S1x32, .f32⟩
  | .hbm, ⟨7, _⟩ => ⟨S1x32, .f32⟩
  | .hbm, ⟨8, _⟩ => ⟨S4x3072, .f32⟩
  | .hbm, ⟨9, _⟩ => ⟨S3072, .f32⟩
  | .hbm, ⟨10, _⟩ => ⟨S1x3072, .f32⟩
  | .hbm, ⟨11, _⟩ => ⟨S32, .f32⟩
  | .hbm, ⟨12, _⟩ => ⟨S1x32, .f32⟩
  | .hbm, ⟨13, _⟩ => ⟨S_, .i32⟩
  | .hbm, ⟨14, _⟩ => ⟨S_, .f32⟩
  | .hbm, ⟨15, _⟩ => ⟨S1x128, .f32⟩
  | .hbm, ⟨16, _⟩ => ⟨S32, .f32⟩
  | .hbm, ⟨17, _⟩ => ⟨S1x32, .f32⟩
  | .hbm, ⟨18, _⟩ => ⟨S_, .i32⟩
  | .hbm, ⟨19, _⟩ => ⟨S_, .f32⟩
  | .hbm, ⟨20, _⟩ => ⟨S1x128, .f32⟩
  | .hbm, ⟨21, _⟩ => ⟨S32, .f32⟩
  | .hbm, ⟨22, _⟩ => ⟨S32x64, .f32⟩
  | .hbm, ⟨23, _⟩ => ⟨S2048, .f32⟩
  | .hbm, ⟨24, _⟩ => ⟨S1x2048, .f32⟩
  | .hbm, ⟨25, _⟩ => ⟨S128x2048, .i32⟩
  | .hbm, ⟨26, _⟩ => ⟨S128x2048, .i32⟩
  | .hbm, ⟨27, _⟩ => ⟨S_, .i32⟩
  | .hbm, ⟨28, _⟩ => ⟨S_, .i32⟩
  | .hbm, ⟨29, _⟩ => ⟨S128x2048, .i32⟩
  | .hbm, ⟨30, _⟩ => ⟨S128x2048, .i32⟩
  | .hbm, ⟨31, _⟩ => ⟨S128x2048, .i32⟩
  | .hbm, ⟨32, _⟩ => ⟨S_, .i32⟩
  | .hbm, ⟨33, _⟩ => ⟨S128x2048, .i32⟩
  | .hbm, ⟨34, _⟩ => ⟨S128x2048, .i1⟩
  | .hbm, ⟨35, _⟩ => ⟨S128x2048, .i32⟩
  | .hbm, ⟨36, _⟩ => ⟨S128x2048, .i32⟩
  | .hbm, ⟨37, _⟩ => ⟨S_, .i32⟩
  | .hbm, ⟨38, _⟩ => ⟨S128x2048, .i32⟩
  | .hbm, ⟨39, _⟩ => ⟨S128x2048, .i1⟩
  | .hbm, ⟨40, _⟩ => ⟨S128x2048, .i1⟩
  | .hbm, ⟨41, _⟩ => ⟨S_, .i32⟩
  | .hbm, ⟨42, _⟩ => ⟨S128x2048, .i32⟩
  | .hbm, ⟨43, _⟩ => ⟨S128x2048, .i32⟩
  | .hbm, ⟨44, _⟩ => ⟨S128x2048, .i32⟩
  | .hbm, ⟨45, _⟩ => ⟨S128x2048, .i1⟩
  | .hbm, ⟨46, _⟩ => ⟨S128x2048, .bf16⟩
  | .hbm, ⟨47, _⟩ => ⟨S384x2048, .bf16⟩
  | .hbm, ⟨48, _⟩ => ⟨S128x3x3072, .f32⟩
  | .hbm, ⟨49, _⟩ => ⟨S3x128x3072, .f32⟩
  | .hbm, ⟨50, _⟩ => ⟨S4x128x2048, .f32⟩
  | .hbm, ⟨51, _⟩ => ⟨S4x128x2048, .f32⟩
  | .hbm, ⟨52, _⟩ => ⟨S128x8x512, .f32⟩
  | .hbm, ⟨53, _⟩ => ⟨S128x8x512, .f32⟩
  | .hbm, ⟨54, _⟩ => ⟨S128x8x2048, .f32⟩
  | .hbm, ⟨55, _⟩ => ⟨S128x128, .f32⟩
  | .hbm, ⟨56, _⟩ => ⟨S3x128x3072, .f32⟩
  | .local _ .vmem, ⟨0, _⟩ => ⟨S4x128x3072, .f32⟩
  | .local _ .vmem, ⟨1, _⟩ => ⟨S4x128x128, .f32⟩
  | .local _ .vmem, ⟨2, _⟩ => ⟨S3x128x3072, .f32⟩
  | .local _ .vmem, ⟨3, _⟩ => ⟨S4x3072, .f32⟩
  | .local _ .vmem, ⟨4, _⟩ => ⟨S1x3072, .f32⟩
  | .local _ .vmem, ⟨5, _⟩ => ⟨S1x128, .f32⟩
  | .local _ .vmem, ⟨6, _⟩ => ⟨S1x128, .f32⟩
  | .local _ .vmem, ⟨7, _⟩ => ⟨S1x2048, .f32⟩
  | .local _ .vmem, ⟨8, _⟩ => ⟨S384x2048, .bf16⟩
  | .local _ .vmem, ⟨9, _⟩ => ⟨S4x128x2048, .f32⟩
  | .local _ .vmem, ⟨10, _⟩ => ⟨S4x128x2048, .f32⟩
  | .local _ .vmem, ⟨11, _⟩ => ⟨S128x8x512, .f32⟩
  | .local _ .vmem, ⟨12, _⟩ => ⟨S128x8x512, .f32⟩
  | .local _ .vmem, ⟨13, _⟩ => ⟨S128x8x2048, .f32⟩
  | .local _ .vmem, ⟨14, _⟩ => ⟨S128x128, .f32⟩
  | .local _ .vmem, ⟨15, _⟩ => ⟨S3x128x3072, .f32⟩
  | .local _ .vmem, ⟨16, _⟩ => ⟨S4x128x3072, .f32⟩
  | _, _ => ⟨S5x128x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_v5 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_c : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_c_0 : Ref sig .tc := ⟨.hbm, 41, rfl⟩
abbrev main_call2_v12 : Ref sig .tc := ⟨.hbm, 42, rfl⟩
abbrev main_call2_v13 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21_0 : Ref sig .tc := ⟨.hbm, 50, rfl⟩
abbrev main_v21_1 : Ref sig .tc := ⟨.hbm, 51, rfl⟩
abbrev main_v21_2 : Ref sig .tc := ⟨.hbm, 52, rfl⟩
abbrev main_v21_3 : Ref sig .tc := ⟨.hbm, 53, rfl⟩
abbrev main_v21_4 : Ref sig .tc := ⟨.hbm, 54, rfl⟩
abbrev main_v21_5 : Ref sig .tc := ⟨.hbm, 55, rfl⟩
abbrev main_v21_6 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S4x128x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x128x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x8x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x8x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S3x128x3072 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== SsdPreRefIdeal.lean ====
abbrev S5x128x9216 : Shape := ⟨3, ![5, 128, 9216]⟩
abbrev S5x128x128 : Shape := ⟨3, ![5, 128, 128]⟩
abbrev S1x128x3x3072 : Shape := ⟨4, ![1, 128, 3, 3072]⟩
abbrev S1x4x3072 : Shape := ⟨3, ![1, 4, 3072]⟩
abbrev S1x3072 : Shape := ⟨2, ![1, 3072]⟩
abbrev S1x32 : Shape := ⟨2, ![1, 32]⟩
abbrev S4x128x3072 : Shape := ⟨3, ![4, 128, 3072]⟩
abbrev S128x3x3072 : Shape := ⟨3, ![128, 3, 3072]⟩
abbrev S3x128x3072 : Shape := ⟨3, ![3, 128, 3072]⟩
abbrev S7x128x3072 : Shape := ⟨3, ![7, 128, 3072]⟩
abbrev S4x3072 : Shape := ⟨2, ![4, 3072]⟩
abbrev S3072 : Shape := ⟨1, ![3072]⟩
abbrev S1x1x3072 : Shape := ⟨3, ![1, 1, 3072]⟩
abbrev S_ : Shape := ⟨0, ![]⟩
abbrev S4x128x512 : Shape := ⟨3, ![4, 128, 512]⟩
abbrev S8x128x512 : Shape := ⟨3, ![8, 128, 512]⟩
abbrev S128x8x512 : Shape := ⟨3, ![128, 8, 512]⟩

abbrev nBuf : Space → Nat
  | .hbm => 64
  | .vmem => 0
  | .smem => 0
  | _ => 0

abbrev bufTy : (tb : Table) → Fin (tcTables nBuf tb) → BufTy
  | .hbm, ⟨0, _⟩ => ⟨S5x128x9216, .f32⟩
  | .hbm, ⟨1, _⟩ => ⟨S5x128x128, .f32⟩
  | .hbm, ⟨2, _⟩ => ⟨S1x128x3x3072, .f32⟩
  | .hbm, ⟨3, _⟩ => ⟨S1x4x3072, .f32⟩
  | .hbm, ⟨4, _⟩ => ⟨S1x3072, .f32⟩
  | .hbm, ⟨5, _⟩ => ⟨S1x32, .f32⟩
  | .hbm, ⟨6, _⟩ => ⟨S1x32, .f32⟩
  | .hbm, ⟨7, _⟩ => ⟨S1x32, .f32⟩
  | .hbm, ⟨8, _⟩ => ⟨S4x128x3072, .f32⟩
  | .hbm, ⟨9, _⟩ => ⟨S128x3x3072, .f32⟩
  | .hbm, ⟨10, _⟩ => ⟨S3x128x3072, .f32⟩
  | .hbm, ⟨11, _⟩ => ⟨S7x128x3072, .f32⟩
  | .hbm, ⟨12, _⟩ => ⟨S4x3072, .f32⟩
  | .hbm, ⟨13, _⟩ => ⟨S3072, .f32⟩
  | .hbm, ⟨14, _⟩ => ⟨S4x128x3072, .f32⟩
  | .hbm, ⟨15, _⟩ => ⟨S1x3072, .f32⟩
  | .hbm, ⟨16, _⟩ => ⟨S3072, .f32⟩
  | .hbm, ⟨17, _⟩ => ⟨S1x1x3072, .f32⟩
  | .hbm, ⟨18, _⟩ => ⟨S4x128x3072, .f32⟩
  | .hbm, ⟨19, _⟩ => ⟨S4x128x3072, .f32⟩
  | .hbm, ⟨20, _⟩ => ⟨S1x1x3072, .f32⟩
  | .hbm, ⟨21, _⟩ => ⟨S4x128x3072, .f32⟩
  | .hbm, ⟨22, _⟩ => ⟨S4x128x3072, .f32⟩
  | .hbm, ⟨23, _⟩ => ⟨S4x128x3072, .f32⟩
  | .hbm, ⟨24, _⟩ => ⟨S1x3072, .f32⟩
  | .hbm, ⟨25, _⟩ => ⟨S3072, .f32⟩
  | .hbm, ⟨26, _⟩ => ⟨S1x1x3072, .f32⟩
  | .hbm, ⟨27, _⟩ => ⟨S4x128x3072, .f32⟩
  | .hbm, ⟨28, _⟩ => ⟨S4x128x3072, .f32⟩
  | .hbm, ⟨29, _⟩ => ⟨S4x128x3072, .f32⟩
  | .hbm, ⟨30, _⟩ => ⟨S4x128x3072, .f32⟩
  | .hbm, ⟨31, _⟩ => ⟨S1x3072, .f32⟩
  | .hbm, ⟨32, _⟩ => ⟨S3072, .f32⟩
  | .hbm, ⟨33, _⟩ => ⟨S1x1x3072, .f32⟩
  | .hbm, ⟨34, _⟩ => ⟨S4x128x3072, .f32⟩
  | .hbm, ⟨35, _⟩ => ⟨S4x128x3072, .f32⟩
  | .hbm, ⟨36, _⟩ => ⟨S4x128x3072, .f32⟩
  | .hbm, ⟨37, _⟩ => ⟨S4x128x3072, .f32⟩
  | .hbm, ⟨38, _⟩ => ⟨S1x3072, .f32⟩
  | .hbm, ⟨39, _⟩ => ⟨S3072, .f32⟩
  | .hbm, ⟨40, _⟩ => ⟨S1x1x3072, .f32⟩
  | .hbm, ⟨41, _⟩ => ⟨S4x128x3072, .f32⟩
  | .hbm, ⟨42, _⟩ => ⟨S4x128x3072, .f32⟩
  | .hbm, ⟨43, _⟩ => ⟨S4x128x3072, .f32⟩
  | .hbm, ⟨44, _⟩ => ⟨S4x128x3072, .f32⟩
  | .hbm, ⟨45, _⟩ => ⟨S4x128x3072, .f32⟩
  | .hbm, ⟨46, _⟩ => ⟨S_, .f32⟩
  | .hbm, ⟨47, _⟩ => ⟨S4x128x3072, .f32⟩
  | .hbm, ⟨48, _⟩ => ⟨S4x128x3072, .f32⟩
  | .hbm, ⟨49, _⟩ => ⟨S_, .f32⟩
  | .hbm, ⟨50, _⟩ => ⟨S4x128x3072, .f32⟩
  | .hbm, ⟨51, _⟩ => ⟨S4x128x3072, .f32⟩
  | .hbm, ⟨52, _⟩ => ⟨S4x128x3072, .f32⟩
  | .hbm, ⟨53, _⟩ => ⟨S4x128x512, .f32⟩
  | .hbm, ⟨54, _⟩ => ⟨S_, .i32⟩
  | .hbm, ⟨55, _⟩ => ⟨S_, .f32⟩
  | .hbm, ⟨56, _⟩ => ⟨S8x128x512, .f32⟩
  | .hbm, ⟨57, _⟩ => ⟨S128x8x512, .f32⟩
  | .hbm, ⟨58, _⟩ => ⟨S4x128x512, .f32⟩
  | .hbm, ⟨59, _⟩ => ⟨S_, .i32⟩
  | .hbm, ⟨60, _⟩ => ⟨S_, .f32⟩
  | .hbm, ⟨61, _⟩ => ⟨S8x128x512, .f32⟩
  | .hbm, ⟨62, _⟩ => ⟨S128x8x512, .f32⟩
  | .hbm, ⟨63, _⟩ => ⟨S3x128x3072, .f32⟩
  | _, _ => ⟨S5x128x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v36 : Ref sig .tc := ⟨.hbm, 52, rfl⟩
abbrev main_v37 : Ref sig .tc := ⟨.hbm, 53, rfl⟩
abbrev main_c : Ref sig .tc := ⟨.hbm, 54, rfl⟩
abbrev main_call1_v0 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_0 : Ref sig .tc := ⟨.hbm, 59, rfl⟩
abbrev main_call2_v0 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== LruSeq.lean ====
abbrev S8192x9216 : Shape := ⟨2, ![8192, 9216]⟩
abbrev S1x1x2048 : Shape := ⟨3, ![1, 1, 2048]⟩
abbrev S1x3x2048 : Shape := ⟨3, ![1, 3, 2048]⟩
abbrev S1x4x2048 : Shape := ⟨3, ![1, 4, 2048]⟩
abbrev S1x2048 : Shape := ⟨2, ![1, 2048]⟩
abbrev S1x16x128x128 : Shape := ⟨4, ![1, 16, 128, 128]⟩
abbrev S1x16x128 : Shape := ⟨3, ![1, 16, 128]⟩
abbrev S1x4096x2048 : Shape := ⟨3, ![1, 4096, 2048]⟩
abbrev S4x2048 : Shape := ⟨2, ![4, 2048]⟩
abbrev S2048 : Shape := ⟨1, ![2048]⟩
abbrev S16x128x128 : Shape := ⟨3, ![16, 128, 128]⟩
abbrev S_ : Shape := ⟨0, ![]⟩
abbrev S16x128 : Shape := ⟨2, ![16, 128]⟩
abbrev S3x2048 : Shape := ⟨2, ![3, 2048]⟩
abbrev S16x2048 : Shape := ⟨2, ![16, 2048]⟩
abbrev S1x2048x2048 : Shape := ⟨3, ![1, 2048, 2048]⟩
abbrev S2048x2048 : Shape := ⟨2, ![2048, 2048]⟩
abbrev S8192x2048 : Shape := ⟨2, ![8192, 2048]⟩
abbrev S4x1x2048 : Shape := ⟨3, ![4, 1, 2048]⟩
abbrev S4x3x2048 : Shape := ⟨3, ![4, 3, 2048]⟩
abbrev S256x2048 : Shape := ⟨2, ![256, 2048]⟩
abbrev S272x2048 : Shape := ⟨2, ![272, 2048]⟩
abbrev S2x136x128 : Shape := ⟨3, ![2, 136, 128]⟩
abbrev S128x128 : Shape := ⟨2, ![128, 128]⟩
abbrev S1x128 : Shape := ⟨2, ![1, 128]⟩
abbrev S136x128 : Shape := ⟨2, ![136, 128]⟩
abbrev S1x136x128 : Shape := ⟨3, ![1, 136, 128]⟩
abbrev S1x128x128 : Shape := ⟨3, ![1, 128, 128]⟩
abbrev S16x8x128 : Shape := ⟨3, ![16, 8, 128]⟩
abbrev S1x8x128 : Shape := ⟨3, ![1, 8, 128]⟩
abbrev S8x128 : Shape := ⟨2, ![8, 128]⟩
abbrev S2048x256 : Shape := ⟨2, ![2048, 256]⟩
abbrev S256x256 : Shape := ⟨2, ![256, 256]⟩
abbrev S256x128 : Shape := ⟨2, ![256, 128]⟩
abbrev S256 : Shape := ⟨1, ![256]⟩
abbrev S256x1 : Shape := ⟨2, ![256, 1]⟩

abbrev nBuf : Space → Nat
  | .hbm => 50
  | .vmem => 26
  | .smem => 0
  | _ => 0

abbrev bufTy : (tb : Table) → Fin (tcTables nBuf tb) → BufTy
  | .hbm, ⟨0, _⟩ => ⟨S8192x9216, .f32⟩
  | .hbm, ⟨1, _⟩ => ⟨S1x1x2048, .f32⟩
  | .hbm, ⟨2, _⟩ => ⟨S1x3x2048, .f32⟩
  | .hbm, ⟨3, _⟩ => ⟨S1x4x2048, .f32⟩
  | .hbm, ⟨4, _⟩ => ⟨S1x2048, .f32⟩
  | .hbm, ⟨5, _⟩ => ⟨S1x16x128x128, .f32⟩
  | .hbm, ⟨6, _⟩ => ⟨S1x16x128, .f32⟩
  | .hbm, ⟨7, _⟩ => ⟨S1x16x128x128, .f32⟩
  | .hbm, ⟨8, _⟩ => ⟨S1x16x128, .f32⟩
  | .hbm, ⟨9, _⟩ => ⟨S1x2048, .f32⟩
  | .hbm, ⟨10, _⟩ => ⟨S1x2048, .f32⟩
  | .hbm, ⟨11, _⟩ => ⟨S1x4096x2048, .f32⟩
  | .hbm, ⟨12, _⟩ => ⟨S4x2048, .f32⟩
  | .hbm, ⟨13, _⟩ => ⟨S2048, .f32⟩
  | .hbm, ⟨14, _⟩ => ⟨S1x2048, .f32⟩
  | .hbm, ⟨15, _⟩ => ⟨S16x128x128, .f32⟩
  | .hbm, ⟨16, _⟩ => ⟨S_, .f32⟩
  | .hbm, ⟨17, _⟩ => ⟨S16x128x128, .f32⟩
  | .hbm, ⟨18, _⟩ => ⟨S16x128x128, .f32⟩
  | .hbm, ⟨19, _⟩ => ⟨S16x128x128, .bf16⟩
  | .hbm, ⟨20, _⟩ => ⟨S16x128x128, .f32⟩
  | .hbm, ⟨21, _⟩ => ⟨S_, .f32⟩
  | .hbm, ⟨22, _⟩ => ⟨S16x128x128, .f32⟩
  | .hbm, ⟨23, _⟩ => ⟨S16x128x128, .f32⟩
  | .hbm, ⟨24, _⟩ => ⟨S16x128x128, .bf16⟩
  | .hbm, ⟨25, _⟩ => ⟨S16x128, .f32⟩
  | .hbm, ⟨26, _⟩ => ⟨S_, .f32⟩
  | .hbm, ⟨27, _⟩ => ⟨S16x128, .f32⟩
  | .hbm, ⟨28, _⟩ => ⟨S16x128, .f32⟩
  | .hbm, ⟨29, _⟩ => ⟨S1x2048, .f32⟩
  | .hbm, ⟨30, _⟩ => ⟨S16x128, .f32⟩
  | .hbm, ⟨31, _⟩ => ⟨S_, .f32⟩
  | .hbm, ⟨32, _⟩ => ⟨S16x128, .f32⟩
  | .hbm, ⟨33, _⟩ => ⟨S16x128, .f32⟩
  | .hbm, ⟨34, _⟩ => ⟨S1x2048, .f32⟩
  | .hbm, ⟨35, _⟩ => ⟨S2048, .f32⟩
  | .hbm, ⟨36, _⟩ => ⟨S1x2048, .f32⟩
  | .hbm, ⟨37, _⟩ => ⟨S2048, .f32⟩
  | .hbm, ⟨38, _⟩ => ⟨S1x2048, .f32⟩
  | .hbm, ⟨39, _⟩ => ⟨S1x2048, .f32⟩
  | .hbm, ⟨40, _⟩ => ⟨S3x2048, .f32⟩
  | .hbm, ⟨41, _⟩ => ⟨S_, .i32⟩
  | .hbm, ⟨42, _⟩ => ⟨S_, .f32⟩
  | .hbm, ⟨43, _⟩ => ⟨S16x2048, .f32⟩
  | .hbm, ⟨44, _⟩ => ⟨S1x2048x2048, .f32⟩
  | .hbm, ⟨45, _⟩ => ⟨S2048x2048, .f32⟩
  | .hbm, ⟨46, _⟩ => ⟨S2048x2048, .bf16⟩
  | .hbm, ⟨47, _⟩ => ⟨S8192x2048, .f32⟩
  | .hbm, ⟨48, _⟩ => ⟨S4x1x2048, .f32⟩
  | .hbm, ⟨49, _⟩ => ⟨S4x3x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S4x2048, .f32⟩
  | .local _ .vmem, ⟨5, _⟩ => ⟨S1x2048, .f32⟩
  | .local _ .vmem, ⟨6, _⟩ => ⟨S16x128x128, .bf16⟩
  | .local _ .vmem, ⟨7, _⟩ => ⟨S16x128x128, .bf16⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S16x2048, .f32⟩
  | .local _ .vmem, ⟨14, _⟩ => ⟨S2048x2048, .bf16⟩
  | .local _ .vmem, ⟨15, _⟩ => ⟨S256x2048, .f32⟩
  | .local _ .vmem, ⟨16, _⟩ => ⟨S256x2048, .f32⟩
  | .local _ .vmem, ⟨17, _⟩ => ⟨S1x1x2048, .f32⟩
  | .local _ .vmem, ⟨18, _⟩ => ⟨S1x1x2048, .f32⟩
  | .local _ .vmem, ⟨19, _⟩ => ⟨S1x3x2048, .f32⟩
  | .local _ .vmem, ⟨20, _⟩ => ⟨S1x3x2048, .f32⟩
  | .local _ .vmem, ⟨21, _⟩ => ⟨S272x2048, .f32⟩
  | .local _ .vmem, ⟨22, _⟩ => ⟨S1x2048, .f32⟩
  | .local _ .vmem, ⟨23, _⟩ => ⟨S256x2048, .f32⟩
  | .local _ .vmem, ⟨24, _⟩ => ⟨S2x136x128, .f32⟩
  | .local _ .vmem, ⟨25, _⟩ => ⟨S256x2048, .bf16⟩
  | _, _ => ⟨S8192x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c : Ref sig .tc := ⟨.hbm, 41, rfl⟩
abbrev main_call0_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29_0 : Ref sig .tc := ⟨.hbm, 47, rfl⟩
abbrev main_v29_1 : Ref sig .tc := ⟨.hbm, 48, rfl⟩
abbrev main_v29_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let v1 : BitVec 32 := Scalar.addi c0_i32 v0
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let v1 : BitVec 32 := Scalar.addi c0_i32 v0
  let c1_i32 : BitVec 32 := 1#32
  let c0_i32_0 : BitVec 32 := 0#32
  ![v1.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 3 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_15 (i : grid0.Coords) : Fin 3 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x3x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== LruSeqRefIdeal.lean ====
abbrev S8192x9216 : Shape := ⟨2, ![8192, 9216]⟩
abbrev S1x1x2048 : Shape := ⟨3, ![1, 1, 2048]⟩
abbrev S1x3x2048 : Shape := ⟨3, ![1, 3, 2048]⟩
abbrev S1x4x2048 : Shape := ⟨3, ![1, 4, 2048]⟩
abbrev S1x2048 : Shape := ⟨2, ![1, 2048]⟩
abbrev S1x16x128x128 : Shape := ⟨4, ![1, 16, 128, 128]⟩
abbrev S1x16x128 : Shape := ⟨3, ![1, 16, 128]⟩
abbrev S1x4096x2048 : Shape := ⟨3, ![1, 4096, 2048]⟩
abbrev S8192x2048 : Shape := ⟨2, ![8192, 2048]⟩
abbrev S4x2048x2048 : Shape := ⟨3, ![4, 2048, 2048]⟩
abbrev S4x3x2048 : Shape := ⟨3, ![4, 3, 2048]⟩
abbrev S4x2051x2048 : Shape := ⟨3, ![4, 2051, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8192x9216, .f32⟩
  | .hbm, ⟨1, _⟩ => ⟨S1x1x2048, .f32⟩
  | .hbm, ⟨2, _⟩ => ⟨S1x3x2048, .f32⟩
  | .hbm, ⟨3, _⟩ => ⟨S1x4x2048, .f32⟩
  | .hbm, ⟨4, _⟩ => ⟨S1x2048, .f32⟩
  | .hbm, ⟨5, _⟩ => ⟨S1x16x128x128, .f32⟩
  | .hbm, ⟨6, _⟩ => ⟨S1x16x128, .f32⟩
  | .hbm, ⟨7, _⟩ => ⟨S1x16x128x128, .f32⟩
  | .hbm, ⟨8, _⟩ => ⟨S1x16x128, .f32⟩
  | .hbm, ⟨9, _⟩ => ⟨S1x2048, .f32⟩
  | .hbm, ⟨10, _⟩ => ⟨S1x2048, .f32⟩
  | .hbm, ⟨11, _⟩ => ⟨S1x4096x2048, .f32⟩
  | .hbm, ⟨12, _⟩ => ⟨S8192x2048, .f32⟩
  | .hbm, ⟨13, _⟩ => ⟨S4x2048x2048, .f32⟩
  | .hbm, ⟨14, _⟩ => ⟨S4x3x2048, .f32⟩
  | .hbm, ⟨15, _⟩ => ⟨S4x2051x2048, .f32⟩
  | .hbm, ⟨16, _⟩ => ⟨S4x3x2048, .f32⟩
  | _, _ => ⟨S8192x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]
-- ==== SsdSeq.lean ====
abbrev S8192x9216 : Shape := ⟨2, ![8192, 9216]⟩
abbrev S8192x128 : Shape := ⟨2, ![8192, 128]⟩
abbrev S1x128x2048 : Shape := ⟨3, ![1, 128, 2048]⟩
abbrev S1x3x3072 : Shape := ⟨3, ![1, 3, 3072]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S1x4096x2048 : Shape := ⟨3, ![1, 4096, 2048]⟩
abbrev S8192x2048 : Shape := ⟨2, ![8192, 2048]⟩
abbrev S4x2048x2048 : Shape := ⟨3, ![4, 2048, 2048]⟩
abbrev S4x3072 : Shape := ⟨2, ![4, 3072]⟩
abbrev S3072 : Shape := ⟨1, ![3072]⟩
abbrev S32 : Shape := ⟨1, ![32]⟩
abbrev S_ : Shape := ⟨0, ![]⟩
abbrev S1x128 : Shape := ⟨2, ![1, 128]⟩
abbrev S32x64 : Shape := ⟨2, ![32, 64]⟩
abbrev S2048 : Shape := ⟨1, ![2048]⟩
abbrev S128x2048 : Shape := ⟨2, ![128, 2048]⟩
abbrev S384x2048 : Shape := ⟨2, ![384, 2048]⟩
abbrev S3x3072 : Shape := ⟨2, ![3, 3072]⟩
abbrev S16x3072 : Shape := ⟨2, ![16, 3072]⟩
abbrev S1x2048x2048 : Shape := ⟨3, ![1, 2048, 2048]⟩
abbrev S2048x2048 : Shape := ⟨2, ![2048, 2048]⟩
abbrev S4x128x2048 : Shape := ⟨3, ![4, 128, 2048]⟩
abbrev S4x3x3072 : Shape := ⟨3, ![4, 3, 3072]⟩
abbrev S256x2048 : Shape := ⟨2, ![256, 2048]⟩
abbrev S256x3072 : Shape := ⟨2, ![256, 3072]⟩
abbrev S256x128 : Shape := ⟨2, ![256, 128]⟩
abbrev S272x3072 : Shape := ⟨2, ![272, 3072]⟩
abbrev S264x2048 : Shape := ⟨2, ![264, 2048]⟩
abbrev S2x136x128 : Shape := ⟨3, ![2, 136, 128]⟩
abbrev S3x128x128 : Shape := ⟨3, ![3, 128, 128]⟩
abbrev S136x128 : Shape := ⟨2, ![136, 128]⟩
abbrev S1x136x128 : Shape := ⟨3, ![1, 136, 128]⟩
abbrev S128x128 : Shape := ⟨2, ![128, 128]⟩
abbrev S128x384 : Shape := ⟨2, ![128, 384]⟩
abbrev S8x128 : Shape := ⟨2, ![8, 128]⟩
abbrev S264x128 : Shape := ⟨2, ![264, 128]⟩
abbrev S264x384 : Shape := ⟨2, ![264, 384]⟩
abbrev S1x128x128 : Shape := ⟨3, ![1, 128, 128]⟩
abbrev S128x512 : Shape := ⟨2, ![128, 512]⟩
abbrev S1x128x1 : Shape := ⟨3, ![1, 128, 1]⟩
abbrev S128x1 : Shape := ⟨2, ![128, 1]⟩
abbrev S1x1x128 : Shape := ⟨3, ![1, 1, 128]⟩
abbrev S128x256 : Shape := ⟨2, ![128, 256]⟩
abbrev S128 : Shape := ⟨1, ![128]⟩
abbrev S1x512 : Shape := ⟨2, ![1, 512]⟩
abbrev S256x256 : Shape := ⟨2, ![256, 256]⟩
abbrev S2048x256 : Shape := ⟨2, ![2048, 256]⟩

abbrev nBuf : Space → Nat
  | .hbm => 67
  | .vmem => 35
  | .smem => 0
  | _ => 0

abbrev bufTy : (tb : Table) → Fin (tcTables nBuf tb) → BufTy
  | .hbm, ⟨0, _⟩ => ⟨S8192x9216, .f32⟩
  | .hbm, ⟨1, _⟩ => ⟨S8192x128, .f32⟩
  | .hbm, ⟨2, _⟩ => ⟨S1x128x2048, .f32⟩
  | .hbm, ⟨3, _⟩ => ⟨S1x3x3072, .f32⟩
  | .hbm, ⟨4, _⟩ => ⟨S1x4x3072, .f32⟩
  | .hbm, ⟨5, _⟩ => ⟨S1x3072, .f32⟩
  | .hbm, ⟨6, _⟩ => ⟨S1x32, .f32⟩
  | .hbm, ⟨7, _⟩ => ⟨S1x32, .f32⟩
  | .hbm, ⟨8, _⟩ => ⟨S1x32, .f32⟩
  | .hbm, ⟨9, _⟩ => ⟨S1x2048, .f32⟩
  | .hbm, ⟨10, _⟩ => ⟨S1x4096x2048, .f32⟩
  | .hbm, ⟨11, _⟩ => ⟨S8192x2048, .f32⟩
  | .hbm, ⟨12, _⟩ => ⟨S4x2048x2048, .f32⟩
  | .hbm, ⟨13, _⟩ => ⟨S4x3072, .f32⟩
  | .hbm, ⟨14, _⟩ => ⟨S3072, .f32⟩
  | .hbm, ⟨15, _⟩ => ⟨S1x3072, .f32⟩
  | .hbm, ⟨16, _⟩ => ⟨S32, .f32⟩
  | .hbm, ⟨17, _⟩ => ⟨S1x32, .f32⟩
  | .hbm, ⟨18, _⟩ => ⟨S_, .i32⟩
  | .hbm, ⟨19, _⟩ => ⟨S_, .f32⟩
  | .hbm, ⟨20, _⟩ => ⟨S1x128, .f32⟩
  | .hbm, ⟨21, _⟩ => ⟨S32, .f32⟩
  | .hbm, ⟨22, _⟩ => ⟨S1x32, .f32⟩
  | .hbm, ⟨23, _⟩ => ⟨S_, .i32⟩
  | .hbm, ⟨24, _⟩ => ⟨S_, .f32⟩
  | .hbm, ⟨25, _⟩ => ⟨S1x128, .f32⟩
  | .hbm, ⟨26, _⟩ => ⟨S32, .f32⟩
  | .hbm, ⟨27, _⟩ => ⟨S32x64, .f32⟩
  | .hbm, ⟨28, _⟩ => ⟨S2048, .f32⟩
  | .hbm, ⟨29, _⟩ => ⟨S1x2048, .f32⟩
  | .hbm, ⟨30, _⟩ => ⟨S2048, .f32⟩
  | .hbm, ⟨31, _⟩ => ⟨S1x2048, .f32⟩
  | .hbm, ⟨32, _⟩ => ⟨S128x2048, .i32⟩
  | .hbm, ⟨33, _⟩ => ⟨S128x2048, .i32⟩
  | .hbm, ⟨34, _⟩ => ⟨S_, .i32⟩
  | .hbm, ⟨35, _⟩ => ⟨S_, .i32⟩
  | .hbm, ⟨36, _⟩ => ⟨S128x2048, .i32⟩
  | .hbm, ⟨37, _⟩ => ⟨S128x2048, .i32⟩
  | .hbm, ⟨38, _⟩ => ⟨S128x2048, .i32⟩
  | .hbm, ⟨39, _⟩ => ⟨S_, .i32⟩
  | .hbm, ⟨40, _⟩ => ⟨S128x2048, .i32⟩
  | .hbm, ⟨41, _⟩ => ⟨S128x2048, .i1⟩
  | .hbm, ⟨42, _⟩ => ⟨S128x2048, .i32⟩
  | .hbm, ⟨43, _⟩ => ⟨S128x2048, .i32⟩
  | .hbm, ⟨44, _⟩ => ⟨S_, .i32⟩
  | .hbm, ⟨45, _⟩ => ⟨S128x2048, .i32⟩
  | .hbm, ⟨46, _⟩ => ⟨S128x2048, .i1⟩
  | .hbm, ⟨47, _⟩ => ⟨S128x2048, .i1⟩
  | .hbm, ⟨48, _⟩ => ⟨S_, .i32⟩
  | .hbm, ⟨49, _⟩ => ⟨S128x2048, .i32⟩
  | .hbm, ⟨50, _⟩ => ⟨S128x2048, .i32⟩
  | .hbm, ⟨51, _⟩ => ⟨S128x2048, .i32⟩
  | .hbm, ⟨52, _⟩ => ⟨S128x2048, .i1⟩
  | .hbm, ⟨53, _⟩ => ⟨S128x2048, .bf16⟩
  | .hbm, ⟨54, _⟩ => ⟨S384x2048, .bf16⟩
  | .hbm, ⟨55, _⟩ => ⟨S128x2048, .f32⟩
  | .hbm, ⟨56, _⟩ => ⟨S3x3072, .f32⟩
  | .hbm, ⟨57, _⟩ => ⟨S_, .i32⟩
  | .hbm, ⟨58, _⟩ => ⟨S_, .f32⟩
  | .hbm, ⟨59, _⟩ => ⟨S16x3072, .f32⟩
  | .hbm, ⟨60, _⟩ => ⟨S1x2048x2048, .f32⟩
  | .hbm, ⟨61, _⟩ => ⟨S2048x2048, .f32⟩
  | .hbm, ⟨62, _⟩ => ⟨S2048x2048, .bf16⟩
  | .hbm, ⟨63, _⟩ => ⟨S8192x2048, .f32⟩
  | .hbm, ⟨64, _⟩ => ⟨S8192x2048, .f32⟩
  | .hbm, ⟨65, _⟩ => ⟨S4x128x2048, .f32⟩
  | .hbm, ⟨66, _⟩ => ⟨S4x3x3072, .f32⟩
  | .local _ .vmem, ⟨0, _⟩ => ⟨S256x2048, .f32⟩
  | .local _ .vmem, ⟨1, _⟩ => ⟨S256x2048, .f32⟩
  | .local _ .vmem, ⟨2, _⟩ => ⟨S256x3072, .f32⟩
  | .local _ .vmem, ⟨3, _⟩ => ⟨S256x3072, .f32⟩
  | .local _ .vmem, ⟨4, _⟩ => ⟨S256x128, .f32⟩
  | .local _ .vmem, ⟨5, _⟩ => ⟨S256x128, .f32⟩
  | .local _ .vmem, ⟨6, _⟩ => ⟨S4x3072, .f32⟩
  | .local _ .vmem, ⟨7, _⟩ => ⟨S1x3072, .f32⟩
  | .local _ .vmem, ⟨8, _⟩ => ⟨S1x128, .f32⟩
  | .local _ .vmem, ⟨9, _⟩ => ⟨S1x128, .f32⟩
  | .local _ .vmem, ⟨10, _⟩ => ⟨S1x2048, .f32⟩
  | .local _ .vmem, ⟨11, _⟩ => ⟨S1x2048, .f32⟩
  | .local _ .vmem, ⟨12, _⟩ => ⟨S384x2048, .bf16⟩
  | .local _ .vmem, ⟨13, _⟩ => ⟨S128x2048, .f32⟩
  | .local _ .vmem, ⟨14, _⟩ => ⟨S16x3072, .f32⟩
  | .local _ .vmem, ⟨15, _⟩ => ⟨S2048x2048, .bf16⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S1x128x2048, .f32⟩
  | .local _ .vmem, ⟨23, _⟩ => ⟨S1x128x2048, .f32⟩
  | .local _ .vmem, ⟨24, _⟩ => ⟨S1x3x3072, .f32⟩
  | .local _ .vmem, ⟨25, _⟩ => ⟨S1x3x3072, .f32⟩
  | .local _ .vmem, ⟨26, _⟩ => ⟨S272x3072, .f32⟩
  | .local _ .vmem, ⟨27, _⟩ => ⟨S256x3072, .f32⟩
  | .local _ .vmem, ⟨28, _⟩ => ⟨S264x2048, .f32⟩
  | .local _ .vmem, ⟨29, _⟩ => ⟨S256x2048, .f32⟩
  | .local _ .vmem, ⟨30, _⟩ => ⟨S128x2048, .f32⟩
  | .local _ .vmem, ⟨31, _⟩ => ⟨S2x136x128, .f32⟩
  | .local _ .vmem, ⟨32, _⟩ => ⟨S3x128x128, .f32⟩
  | .local _ .vmem, ⟨33, _⟩ => ⟨S256x2048, .bf16⟩
  | .local _ .vmem, ⟨34, _⟩ => ⟨S256x2048, .bf16⟩
  | _, _ => ⟨S8192x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_call1_v0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_c : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_0 : Ref sig .tc := ⟨.hbm, 48, rfl⟩
abbrev main_call2_v12 : Ref sig .tc := ⟨.hbm, 49, rfl⟩
abbrev main_call2_v13 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_c_2 : Ref sig .tc := ⟨.hbm, 57, rfl⟩
abbrev main_call3_v0 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28_0 : Ref sig .tc := ⟨.hbm, 64, rfl⟩
abbrev main_v28_1 : Ref sig .tc := ⟨.hbm, 65, rfl⟩
abbrev main_v28_2 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_scratch8 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let v1 : BitVec 32 := Scalar.addi c0_i32 v0
  let c2_i32 : BitVec 32 := 2#32
  let c0_i32_0 : BitVec 32 := 0#32
  ![v1.toNat, c2_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let v1 : BitVec 32 := Scalar.addi c0_i32 v0
  let c2_i32 : BitVec 32 := 2#32
  let c0_i32_0 : BitVec 32 := 0#32
  ![v1.toNat, c2_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let v1 : BitVec 32 := Scalar.addi c0_i32 v0
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 3 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_17 (i : grid0.Coords) : Fin 3 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x3x3072 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== SsdSeqRefIdeal.lean ====
abbrev S8192x9216 : Shape := ⟨2, ![8192, 9216]⟩
abbrev S8192x128 : Shape := ⟨2, ![8192, 128]⟩
abbrev S1x128x2048 : Shape := ⟨3, ![1, 128, 2048]⟩
abbrev S1x3x3072 : Shape := ⟨3, ![1, 3, 3072]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S1x4096x2048 : Shape := ⟨3, ![1, 4096, 2048]⟩
abbrev S8192x2048 : Shape := ⟨2, ![8192, 2048]⟩
abbrev S4x2048x2048 : Shape := ⟨3, ![4, 2048, 2048]⟩
abbrev S8192x3072 : Shape := ⟨2, ![8192, 3072]⟩
abbrev S4x2048x3072 : Shape := ⟨3, ![4, 2048, 3072]⟩
abbrev S4x3x3072 : Shape := ⟨3, ![4, 3, 3072]⟩
abbrev S4x2051x3072 : Shape := ⟨3, ![4, 2051, 3072]⟩

abbrev nBuf : Space → Nat
  | .hbm => 18
  | .vmem => 0
  | .smem => 0
  | _ => 0

abbrev bufTy : (tb : Table) → Fin (tcTables nBuf tb) → BufTy
  | .hbm, ⟨0, _⟩ => ⟨S8192x9216, .f32⟩
  | .hbm, ⟨1, _⟩ => ⟨S8192x128, .f32⟩
  | .hbm, ⟨2, _⟩ => ⟨S1x128x2048, .f32⟩
  | .hbm, ⟨3, _⟩ => ⟨S1x3x3072, .f32⟩
  | .hbm, ⟨4, _⟩ => ⟨S1x4x3072, .f32⟩
  | .hbm, ⟨5, _⟩ => ⟨S1x3072, .f32⟩
  | .hbm, ⟨6, _⟩ => ⟨S1x32, .f32⟩
  | .hbm, ⟨7, _⟩ => ⟨S1x32, .f32⟩
  | .hbm, ⟨8, _⟩ => ⟨S1x32, .f32⟩
  | .hbm, ⟨9, _⟩ => ⟨S1x2048, .f32⟩
  | .hbm, ⟨10, _⟩ => ⟨S1x4096x2048, .f32⟩
  | .hbm, ⟨11, _⟩ => ⟨S8192x2048, .f32⟩
  | .hbm, ⟨12, _⟩ => ⟨S4x2048x2048, .f32⟩
  | .hbm, ⟨13, _⟩ => ⟨S8192x3072, .f32⟩
  | .hbm, ⟨14, _⟩ => ⟨S4x2048x3072, .f32⟩
  | .hbm, ⟨15, _⟩ => ⟨S4x3x3072, .f32⟩
  | .hbm, ⟨16, _⟩ => ⟨S4x2051x3072, .f32⟩
  | .hbm, ⟨17, _⟩ => ⟨S4x3x3072, .f32⟩
  | _, _ => ⟨S8192x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩

abbrev nD : Nat := 1
abbrev τ : Topo := Topo.v7x

variable {F : FTy → Type} [FloatOps F]
-- ==== Proof.SlabHeads.lean ====
/-
  The slab kernel's stores as one function of the head.  The kernel unrolls its sixteen heads and, in each, its four
  steps; every head is the same text on its own 128 columns.  Here the text is written once, for a head `k`, and the
  lists of stores the run leaves are shown to be that function's values over the heads.
-/
module

public import proofs.«01_k».proof.Proof.Gen.KernelIdeal.Frame

@[expose] public section

set_option maxRecDepth 16384

noncomputable section

namespace Cert.KernelIdeal.Gen

open Idealize.ShloMosaic Idealize.ShloMosaic.TcCoe
open Idealize.SL.Sem

variable {F : FTy → Type} [FloatOps F]

namespace Slab

/-- A buffer held at the contents that read `val`. -/
structure Held (F : FTy → Type) (s : Shape) (e : EltTy) where
  ref : Memref sig .tc .vmem s e
  whole : ref.IsWhole
  val : Vec F s e

/-- What the kernel is given: its windows' staging buffers, each held at the contents of its block. -/
structure Given (F : FTy → Type) where
  gate : Held F S4x128x2048 .f32
  x : Held F S4x128x2048 .f32
  taps : Held F S4x2048 .f32
  bias : Held F S1x2048 .f32
  wa : Held F S16x128x128 .bf16
  wx : Held F S16x128x128 .bf16
  ba : Held F S1x2048 .f32
  bx : Held F S1x2048 .f32
  lam : Held F S1x2048 .f32
  g : Held F S1x2048 .f32
  h0 : Held F S128x2048 .f32
  tail : Held F S3x128x2048 .f32

variable (w : Given F)

/-! Where a head's columns lie. -/

theorem inb_row {r : ℕ} (j : ℕ) (hj : j < r) (k : Fin 16) : ∀ a, (![j, 128 * k.val] : Fin 2 → ℕ) a + S1x128.size a ≤ (⟨2, ![r, 2048]⟩ : Shape).size a := by
  have := k.isLt
  intro a
  match a with
  | ⟨0, _⟩ => show j + 1 ≤ r; omega
  | ⟨1, _⟩ => show 128 * k.val + 128 ≤ 2048; omega

theorem inb_plane (k : Fin 16) : ∀ a, (![0, 128 * k.val] : Fin 2 → ℕ) a + S128x128.size a ≤ S128x2048.size a := by
  have := k.isLt
  intro a
  match a with
  | ⟨0, _⟩ => show 0 + 128 ≤ 128; omega
  | ⟨1, _⟩ => show 128 * k.val + 128 ≤ 2048; omega

theorem inb_slab {r : ℕ} (j : Fin r) (k : Fin 16) :
    ∀ a, (![j.val, 0, 128 * k.val] : Fin 3 → ℕ) a + S1x128x128.size a ≤ (⟨3, ![r, 128, 2048]⟩ : Shape).size a := by
  have := k.isLt
  have := j.isLt
  intro a
  match a with
  | ⟨0, _⟩ => show j.val + 1 ≤ r; omega
  | ⟨1, _⟩ => show 0 + 128 ≤ 128; omega
  | ⟨2, _⟩ => show 128 * k.val + 128 ≤ 2048; omega

theorem inb_head (k : Fin 16) : ∀ a, (![k.val, 0, 0] : Fin 3 → ℕ) a + S1x128x128.size a ≤ S16x128x128.size a := by
  have := k.isLt
  intro a
  match a with
  | ⟨0, _⟩ => show k.val + 1 ≤ 16; omega
  | ⟨1, _⟩ => show 0 + 128 ≤ 128; omega
  | ⟨2, _⟩ => show 0 + 128 ≤ 128; omega

theorem inb_step (s : Fin 4) : ∀ a, (![s.val, 0, 0] : Fin 3 → ℕ) a + S1x128x2048.size a ≤ S4x128x2048.size a := by
  have := s.isLt
  intro a
  match a with
  | ⟨0, _⟩ => show s.val + 1 ≤ 4; omega
  | ⟨1, _⟩ => show 0 + 128 ≤ 128; omega
  | ⟨2, _⟩ => show 0 + 2048 ≤ 2048; omega

/-! A head's loads. -/

/-- What a load of a rectangle of a held buffer reads. -/
def Held.load {s : Shape} {e : EltTy} (m : Held F s e) (r : Rect s) : Vec F r.shape e :=
  View.readAt (Elt F) m.ref.view r.toLoadRect (m.whole.unread m.val)

/-- The head's columns of row `j`. -/
def row {n : ℕ} (m : Held F ⟨2, ![n, 2048]⟩ .f32) (k : Fin 16) (j : Fin n) : Vec F S1x128 .f32 :=
  m.load (Rect.unit ![j.val, 128 * k.val] S1x128.size (inb_row j.val j.isLt k))

/-- The head's matrix. -/
def mat (m : Held F S16x128x128 .bf16) (k : Fin 16) : Vec F S1x128x128 .bf16 :=
  m.load (Rect.unit ![k.val, 0, 0] S1x128x128.size (inb_head k))

/-- The head's columns of plane `j`. -/
def plane {n : ℕ} (m : Held F ⟨3, ![n, 128, 2048]⟩ .f32) (k : Fin 16) (j : Fin n) : Vec F S1x128x128 .f32 :=
  m.load (Rect.unit ![j.val, 0, 128 * k.val] S1x128x128.size (inb_slab j k))

/-- The head's columns of the hidden state before the call. -/
def hid (m : Held F S128x2048 .f32) (k : Fin 16) : Vec F S128x128 .f32 :=
  m.load (Rect.unit ![0, 128 * k.val] S128x128.size (inb_plane k))

/-! A head's values. -/

/-- One step of the gated recurrence from the convolved input `xc` and the state `h`. -/
def step (hsp : FVec F S1x128 .f32) (h xc : FVec F S128x128 .f32) (wa wx : Vec F S1x128x128 .bf16) (ba bx : Vec F S1x128 .f32) : FVec F S128x128 .f32 :=
  k0_pay18 hsp h xc (k0_pay13 wx) (k0_pay14 ba) (k0_pay15 bx) (truncf .bf16 xc bitsLt_bf16_f32)
    (matmul dot_S128x128_S128x128_S128x128_1_0_0_1_n_n none (truncf .bf16 xc bitsLt_bf16_f32) (k0_pay13 wa) (constant S128x128 .f32 0x00000000#32))

/-- The inputs of the convolution in order: the three past ones, then the four of this call. -/
def ext (k : Fin 16) : ℕ → FVec F S128x128 .f32
  | 0 => k0_pay2 (plane w.tail k 0)
  | 1 => k0_pay2 (plane w.tail k 1)
  | 2 => k0_pay2 (plane w.tail k 2)
  | 3 => k0_pay2 (plane w.x k 0)
  | 4 => k0_pay2 (plane w.x k 1)
  | 5 => k0_pay2 (plane w.x k 2)
  | _ => k0_pay2 (plane w.x k 3)

/-- The convolved input of step `s`. -/
def conv (k : Fin 16) (s : ℕ) : FVec F S128x128 .f32 :=
  k0_pay12 (ext w k s) (ext w k (s + 1)) (ext w k (s + 2)) (ext w k (s + 3))
    (row w.bias k 0) (row w.taps k 0) (row w.taps k 1) (row w.taps k 2) (row w.taps k 3)

/-- Half the decay at a recurrence gate of one: four times the softplus of the negated parameter. -/
def rate (k : Fin 16) : FVec F S1x128 .f32 := k0_pay10 (k0_pay9 (row w.lam k 0)) (Scalar.ofBits .f32 0x40800000#32)

/-- The hidden state after `s` steps. -/
def state (k : Fin 16) : ℕ → FVec F S128x128 .f32
  | 0 => k0_pay11 (hid w.h0 k)
  | s + 1 => step (rate w k) (state k s) (conv w k s) (mat w.wa k) (mat w.wx k) (row w.ba k 0) (row w.bx k 0)

/-- The gated output of step `s`, as it is stored. -/
def gated (k : Fin 16) (s : Fin 4) : FVec F S1x128x128 .f32 :=
  shapeCast S1x128x128 (mulf (state w k (s.val + 1)) (k0_pay2 (plane w.gate k s))) shapeCasts_S128x128_S1x128x128

/-! The stores, last first. -/

def heads : List (Fin 16) := [15, 14, 13, 12, 11, 10, 9, 8, 7, 6, 5, 4, 3, 2, 1, 0]

/-- The stores of the hidden state. -/
def storesH : List (View.Piece (Elt F) S128x2048 .f32) := heads.map fun k =>
  ⟨Rect.unit ![0, 128 * k.val] S128x128.size (inb_plane k), state w k 4⟩

/-- The stores of the inputs the convolution keeps. -/
def storesT : List (View.Piece (Elt F) S3x128x2048 .f32) := heads.flatMap fun k => ([2, 1, 0] : List (Fin 3)).map fun j =>
  ⟨Rect.unit ![j.val, 0, 128 * k.val] S1x128x128.size (inb_slab j k),
    shapeCast S1x128x128 (k0_pay2 (plane w.x k j.succ)) shapeCasts_S128x128_S1x128x128⟩

/-- The stores of the gated output. -/
def storesY : List (View.Piece (Elt F) S4x128x2048 .f32) := heads.flatMap fun k => ([3, 2, 1, 0] : List (Fin 4)).map fun s =>
  ⟨Rect.unit ![s.val, 0, 128 * k.val] S1x128x128.size (inb_slab s k), gated w k s⟩

/-- The stores of the normed output: each step's gated output read back whole from the buffer `m` and normed. -/
def storesO (m : Memref sig .tc .vmem S4x128x2048 .f32) : List (View.Piece (Elt F) S4x128x2048 .bf16) := ([3, 2, 1, 0] : List (Fin 4)).map fun s =>
  ⟨Rect.unit ![s.val, 0, 0] S1x128x2048.size (inb_step s),
    k0_pay701 (m.view.readCov (storesY w) (Rect.unit (s := S4x128x2048) ![s.val, 0, 0] S1x128x2048.size (inb_step s)).toLoadRect)
      (w.g.load (Rect.unit ![0, 0] S1x2048.size inb_S1x2048_S1x2048_0_0))⟩

end Slab

open Slab in
theorem storesH_eq (c : Dev nD) (i : grid0.Coords) (arg1 : Memref sig .tc .vmem S4x128x2048 .f32) (harg1 : arg1.IsWhole) (arg2 : Memref sig .tc .vmem S4x128x2048 .f32) (harg2 : arg2.IsWhole) (arg3 : Memref sig .tc .vmem S4x2048 .f32) (harg3 : arg3.IsWhole) (arg4 : Memref sig .tc .vmem S1x2048 .f32) (harg4 : arg4.IsWhole) (arg5 : Memref sig .tc .vmem S16x128x128 .bf16) (harg5 : arg5.IsWhole) (arg6 : Memref sig .tc .vmem S16x128x128 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S128x2048 .f32) (harg11 : arg11.IsWhole) (arg12 : Memref sig .tc .vmem S3x128x2048 .f32) (harg12 : arg12.IsWhole) (arg13 : Memref sig .tc .vmem S4x128x2048 .bf16) (harg13 : arg13.IsWhole) (arg14 : Memref sig .tc .vmem S128x2048 .f32) (harg14 : arg14.IsWhole) (arg15 : Memref sig .tc .vmem S3x128x2048 .f32) (harg15 : arg15.IsWhole) (arg16 : Memref sig .tc .vmem S4x128x2048 .f32) (harg16 : arg16.IsWhole)
    (x0 : Vec F S4x128x2048 .f32) (x1 : Vec F S4x128x2048 .f32) (x2 : Vec F S4x2048 .f32) (x3 : Vec F S1x2048 .f32) (x4 : Vec F S16x128x128 .bf16) (x5 : Vec F S16x128x128 .bf16) (x6 : Vec F S1x2048 .f32) (x7 : Vec F S1x2048 .f32) (x8 : Vec F S1x2048 .f32) (x9 : Vec F S1x2048 .f32) (x10 : Vec F S128x2048 .f32) (x11 : Vec F S3x128x2048 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11).2.1
      = storesH ⟨⟨arg1, harg1, x0⟩, ⟨arg2, harg2, x1⟩, ⟨arg3, harg3, x2⟩, ⟨arg4, harg4, x3⟩, ⟨arg5, harg5, x4⟩, ⟨arg6, harg6, x5⟩, ⟨arg7, harg7, x6⟩, ⟨arg8, harg8, x7⟩, ⟨arg9, harg9, x8⟩, ⟨arg10, harg10, x9⟩, ⟨arg11, harg11, x10⟩, ⟨arg12, harg12, x11⟩⟩ := by
  sl_kernel_rfl

open Slab in
theorem storesT_eq (c : Dev nD) (i : grid0.Coords) (arg1 : Memref sig .tc .vmem S4x128x2048 .f32) (harg1 : arg1.IsWhole) (arg2 : Memref sig .tc .vmem S4x128x2048 .f32) (harg2 : arg2.IsWhole) (arg3 : Memref sig .tc .vmem S4x2048 .f32) (harg3 : arg3.IsWhole) (arg4 : Memref sig .tc .vmem S1x2048 .f32) (harg4 : arg4.IsWhole) (arg5 : Memref sig .tc .vmem S16x128x128 .bf16) (harg5 : arg5.IsWhole) (arg6 : Memref sig .tc .vmem S16x128x128 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S128x2048 .f32) (harg11 : arg11.IsWhole) (arg12 : Memref sig .tc .vmem S3x128x2048 .f32) (harg12 : arg12.IsWhole) (arg13 : Memref sig .tc .vmem S4x128x2048 .bf16) (harg13 : arg13.IsWhole) (arg14 : Memref sig .tc .vmem S128x2048 .f32) (harg14 : arg14.IsWhole) (arg15 : Memref sig .tc .vmem S3x128x2048 .f32) (harg15 : arg15.IsWhole) (arg16 : Memref sig .tc .vmem S4x128x2048 .f32) (harg16 : arg16.IsWhole)
    (x0 : Vec F S4x128x2048 .f32) (x1 : Vec F S4x128x2048 .f32) (x2 : Vec F S4x2048 .f32) (x3 : Vec F S1x2048 .f32) (x4 : Vec F S16x128x128 .bf16) (x5 : Vec F S16x128x128 .bf16) (x6 : Vec F S1x2048 .f32) (x7 : Vec F S1x2048 .f32) (x8 : Vec F S1x2048 .f32) (x9 : Vec F S1x2048 .f32) (x10 : Vec F S128x2048 .f32) (x11 : Vec F S3x128x2048 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11).2.2.1
      = storesT ⟨⟨arg1, harg1, x0⟩, ⟨arg2, harg2, x1⟩, ⟨arg3, harg3, x2⟩, ⟨arg4, harg4, x3⟩, ⟨arg5, harg5, x4⟩, ⟨arg6, harg6, x5⟩, ⟨arg7, harg7, x6⟩, ⟨arg8, harg8, x7⟩, ⟨arg9, harg9, x8⟩, ⟨arg10, harg10, x9⟩, ⟨arg11, harg11, x10⟩, ⟨arg12, harg12, x11⟩⟩ := by
  sl_kernel_rfl

open Slab in
theorem storesO_eq (c : Dev nD) (i : grid0.Coords) (arg1 : Memref sig .tc .vmem S4x128x2048 .f32) (harg1 : arg1.IsWhole) (arg2 : Memref sig .tc .vmem S4x128x2048 .f32) (harg2 : arg2.IsWhole) (arg3 : Memref sig .tc .vmem S4x2048 .f32) (harg3 : arg3.IsWhole) (arg4 : Memref sig .tc .vmem S1x2048 .f32) (harg4 : arg4.IsWhole) (arg5 : Memref sig .tc .vmem S16x128x128 .bf16) (harg5 : arg5.IsWhole) (arg6 : Memref sig .tc .vmem S16x128x128 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S128x2048 .f32) (harg11 : arg11.IsWhole) (arg12 : Memref sig .tc .vmem S3x128x2048 .f32) (harg12 : arg12.IsWhole) (arg13 : Memref sig .tc .vmem S4x128x2048 .bf16) (harg13 : arg13.IsWhole) (arg14 : Memref sig .tc .vmem S128x2048 .f32) (harg14 : arg14.IsWhole) (arg15 : Memref sig .tc .vmem S3x128x2048 .f32) (harg15 : arg15.IsWhole) (arg16 : Memref sig .tc .vmem S4x128x2048 .f32) (harg16 : arg16.IsWhole)
    (x0 : Vec F S4x128x2048 .f32) (x1 : Vec F S4x128x2048 .f32) (x2 : Vec F S4x2048 .f32) (x3 : Vec F S1x2048 .f32) (x4 : Vec F S16x128x128 .bf16) (x5 : Vec F S16x128x128 .bf16) (x6 : Vec F S1x2048 .f32) (x7 : Vec F S1x2048 .f32) (x8 : Vec F S1x2048 .f32) (x9 : Vec F S1x2048 .f32) (x10 : Vec F S128x2048 .f32) (x11 : Vec F S3x128x2048 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11).1
      = storesO ⟨⟨arg1, harg1, x0⟩, ⟨arg2, harg2, x1⟩, ⟨arg3, harg3, x2⟩, ⟨arg4, harg4, x3⟩, ⟨arg5, harg5, x4⟩, ⟨arg6, harg6, x5⟩, ⟨arg7, harg7, x6⟩, ⟨arg8, harg8, x7⟩, ⟨arg9, harg9, x8⟩, ⟨arg10, harg10, x9⟩, ⟨arg11, harg11, x10⟩, ⟨arg12, harg12, x11⟩⟩ arg16 := by
  sl_kernel_rfl

end Cert.KernelIdeal.Gen

end
-- ==== Proof.Rms.lean ====
/-
  Numbers that several of the programs have in common: the root mean square a row is divided by, an element of the
  MLP's hidden layer, and a long sum taken block by block.
-/
module

public import Idealize.ShloMosaic.PureOps.Ideal

@[expose] public section

noncomputable section

namespace Cert.Proof

open Idealize.ShloMosaic

/-- The reciprocal root mean square of a row of 2048 numbers, as kernels and references take it. -/
def invRms (x : Fin 2048 → EReal) : EReal :=
  Ideal.rsqrt (Ideal.div (∑ k, x k * x k) (Ideal.ofBits .f32 0x45000000#32) + Ideal.ofBits .f32 0x358637BD#32)

/-- One element of the hidden layer: the normalised row times a column of the weight, its positive part squared. -/
def hidden (x g w : Fin 2048 → EReal) : EReal :=
  max (∑ k, x k * invRms x * g k * w k) 0 * max (∑ k, x k * invRms x * g k * w k) 0

/-- The sum of the first `n` numbers of a row (those past its end count as zero). -/
def head {N : ℕ} (f : Fin N → EReal) (n : ℕ) : EReal :=
  ∑ k ∈ Finset.range n, if h : k < N then f ⟨k, h⟩ else 0

theorem head_zero {N : ℕ} (f : Fin N → EReal) : head f 0 = 0 := Finset.sum_range_zero _

theorem head_all {N : ℕ} (f : Fin N → EReal) : head f N = ∑ k, f k := by
  unfold head
  rw [← Fin.sum_univ_eq_sum_range (fun k => if h : k < N then f ⟨k, h⟩ else 0) N]
  exact Finset.sum_congr rfl fun k _ => dif_pos k.isLt

/-- One more block of `B` numbers. -/
theorem head_add {N B : ℕ} (f : Fin N → EReal) (n : ℕ) (g : Fin B → EReal)
    (hg : ∀ k : Fin B, ∃ h : n + k.val < N, g k = f ⟨n + k.val, h⟩) : head f (n + B) = head f n + ∑ k, g k := by
  unfold head
  rw [Finset.sum_range_add, ← Fin.sum_univ_eq_sum_range (fun k => if h : n + k < N then f ⟨n + k, h⟩ else 0) B]
  refine congrArg _ (Finset.sum_congr rfl fun k _ => ?_)
  obtain ⟨h, e⟩ := hg k
  rw [dif_pos h, e]

end Cert.Proof

end
-- ==== Proof.Reals.lean ====
/-
  Extended reals that are real numbers: which operations keep them real, and what a precondition "every number is finite"
  says of an array.
-/
module

public import proofs.«01_k».proof.Proof.Rms
public import Idealize.ShloMosaic.Lib.ReduceAll
public import Idealize.ShloMosaic.Lib.Affine
public import Idealize.ShloMosaic.Lib.IdealHost
public import Idealize.ShloMosaic.Lib.Pointwise

@[expose] public section

noncomputable section

namespace Cert.Proof

open Idealize.ShloMosaic

/-- An extended real that is a real number. -/
def IsReal (x : EReal) : Prop := ∃ r : ℝ, x = (r : EReal)

theorem IsReal.mul {x y : EReal} : IsReal x → IsReal y → IsReal (x * y)
  | ⟨a, ha⟩, ⟨b, hb⟩ => ⟨a * b, by rw [ha, hb, EReal.coe_mul]⟩

theorem IsReal.sum {n : ℕ} {f : Fin n → EReal} (h : ∀ k, IsReal (f k)) : IsReal (∑ k, f k) := by
  choose g hg using h
  refine ⟨∑ k, g k, ?_⟩
  have e : f = fun k => ((g k : ℝ) : EReal) := funext hg
  subst e
  exact (map_sum (⟨⟨Real.toEReal, EReal.coe_zero⟩, fun a b => EReal.coe_add a b⟩ : ℝ →+ EReal) g Finset.univ).symm

/-- Below infinity in absolute value: real. -/
theorem isReal_of_abs {x : EReal} (h : max x (-x) < ⊤) : IsReal x := by
  induction x with
  | bot => exact absurd h (by simp)
  | top => exact absurd h (by simp)
  | coe r => exact ⟨r, rfl⟩

/-- What "the absolute value is below infinity" says of a number. -/
theorem isReal_of_lt {x y : EReal} (hy : y = ⊤) (e : Ideal.cmp .olt (max x (-x)) y = 1#1) : IsReal x := by
  rw [hy] at e
  refine isReal_of_abs ?_
  by_contra hn
  unfold Ideal.cmp at e
  simp [hn] at e

/-- What "every number's absolute value is below infinity" says of an array. -/
theorem isReal_of_all {s t u : Shape} {axes : List (Fin s.rank)} [Subsingleton t.Idx] (x : FVec Ideal s .f32) (y : FVec Ideal s .f32)
    (hy : ∀ i, y i = ⊤) (init : u.Idx → BitVec 1) (h : s.ReducesTo axes t) (hu : 0 < u.numel) (j : t.Idx)
    (e : Host.reduce IntOp.andi (cmpf .olt (Host.absf x) y) init h hu j = 1#1) (i : s.Idx) : IsReal (x i) :=
  isReal_of_lt (hy i) (Host.reduce_andi_all _ init h hu j e i)

theorem ofBits_inf : Ideal.ofBits .f32 0x7F800000#32 = ⊤ := by
  simp [Ideal.ofBits, Ideal.ieee]

theorem ofBits_half : Ideal.ofBits .f32 0x3F000000#32 = ((1 / 2 : ℝ) : EReal) := by
  simp [Ideal.ofBits, Ideal.ieee]
  rw [← EReal.coe_mul]
  norm_num

theorem ofBits_2048 : Ideal.ofBits .f32 0x45000000#32 = ((2048 : ℝ) : EReal) := by
  simp [Ideal.ofBits, Ideal.ieee]
  rw [← EReal.coe_mul]
  norm_num

theorem ofBits_eps : ∃ e : ℝ, 0 < e ∧ Ideal.ofBits .f32 0x358637BD#32 = (e : EReal) := by
  refine ⟨_, ?_, by simp [Ideal.ofBits, Ideal.ieee]; rfl⟩
  norm_num

/-- The reciprocal root mean square of a row of real numbers is real: what is under the root is positive. -/
theorem isReal_invRms {x : Fin 2048 → EReal} (h : ∀ k, IsReal (x k)) : IsReal (invRms x) := by
  choose g hg using h
  obtain rfl : x = fun k => ((g k : ℝ) : EReal) := funext hg
  obtain ⟨e, he, hE⟩ := ofBits_eps
  have hs : (∑ k, ((g k : ℝ) : EReal) * ((g k : ℝ) : EReal)) = ((∑ k, g k * g k : ℝ) : EReal) := by
    have := map_sum (⟨⟨Real.toEReal, EReal.coe_zero⟩, fun a b => EReal.coe_add a b⟩ : ℝ →+ EReal) (fun k => g k * g k) Finset.univ
    refine Eq.trans (Finset.sum_congr rfl fun k _ => (EReal.coe_mul _ _).symm) this.symm
  unfold invRms
  rw [hs, ofBits_2048, hE, Ideal.div_coe (by norm_num), ← EReal.coe_mul, ← EReal.coe_add, Ideal.rsqrt_coe]
  have hpos : 0 < (∑ k, g k * g k) * (1 / 2048) + e := by
    have : 0 ≤ ∑ k, g k * g k := Finset.sum_nonneg fun k _ => mul_self_nonneg _
    positivity
  rw [if_neg (not_lt.2 hpos.le), if_neg hpos.ne']
  exact ⟨_, rfl⟩

/-- Two ways of writing `y · σ(y)` for a real number. -/
theorem silu_eq {y : EReal} (h : IsReal y) :
    Ideal.ofBits .f32 0x3F000000#32 * y * Ideal.tanh (Ideal.ofBits .f32 0x3F000000#32 * y) + Ideal.ofBits .f32 0x3F000000#32 * y
      = y * Ideal.div 1 (1 + Ideal.exp (-y)) := by
  obtain ⟨r, rfl⟩ := h
  have e : Ideal.div 1 (1 + Ideal.exp (-(r : EReal))) = (((1 + Real.exp (-r))⁻¹ : ℝ) : EReal) := Ideal.logistic_coe r
  rw [e, ofBits_half, ← EReal.coe_mul, Ideal.tanh_coe, ← EReal.coe_mul, ← EReal.coe_mul, ← EReal.coe_add]
  refine congrArg _ ?_
  have h1 : Real.exp (-r) = Real.exp (-(1 / 2 * r)) * Real.exp (-(1 / 2 * r)) := by rw [← Real.exp_add]; ring_nf
  have h2 : Real.exp (1 / 2 * r) * Real.exp (-(1 / 2 * r)) = 1 := by rw [← Real.exp_add]; simp
  have p1 := Real.exp_pos (1 / 2 * r)
  have p2 := Real.exp_pos (-(1 / 2 * r))
  rw [Real.tanh_eq_sinh_div_cosh, Real.sinh_eq, Real.cosh_eq, h1]
  generalize Real.exp (1 / 2 * r) = a at *
  generalize Real.exp (-(1 / 2 * r)) = b at *
  have hb : 1 + b * b ≠ 0 := by positivity
  have hab : (a + b) / 2 ≠ 0 := by positivity
  field_simp
  linear_combination (2 * r * b) * h2

end Cert.Proof

end
-- ==== Proof.Gates.lean ====
/-
  The gates of the recurrence as numbers.  The kernel takes both gates from a hyperbolic tangent of half the argument, the
  decay's logarithm from that tangent, and the input's scale as `tanh n · (1 + e^(-2n))`; the reference writes logistic
  functions and `sqrt(-expm1(2 log a))`.  Here the two are the same, for any extended reals but a finite rate.
-/
module

public import proofs.«01_k».proof.Proof.Reals

@[expose] public section

noncomputable section

namespace Cert.Proof.LruSlab

open Idealize.ShloMosaic

/-- One half, as the kernel writes it. -/
abbrev half : EReal := Ideal.ofBits .f32 0x3F000000#32

theorem ofBits_4 : Ideal.ofBits .f32 0x40800000#32 = ((4 : ℝ) : EReal) := by
  simp [Ideal.ofBits, Ideal.ieee]
  rw [← EReal.coe_mul]
  norm_num

theorem ofBits_2 : Ideal.ofBits .f32 0x40000000#32 = ((2 : ℝ) : EReal) := by
  simp [Ideal.ofBits, Ideal.ieee]
  rw [← EReal.coe_mul]
  norm_num

theorem ofBits_neg8 : Ideal.ofBits .f32 0xC1000000#32 = ((-8 : ℝ) : EReal) := by
  simp [Ideal.ofBits, Ideal.ieee]
  rw [← EReal.coe_mul]
  norm_num

/-- The logistic function. -/
def logistic (z : EReal) : EReal := Ideal.div 1 (1 + Ideal.exp (-z))

/-- Half the tangent of half the argument, and a half: the logistic function, a real number between zero and one. -/
theorem gate_eq (z : EReal) : ∃ s : ℝ, 0 ≤ s ∧ logistic z = (s : EReal) ∧ Ideal.tanh (half * z) = ((2 * s - 1 : ℝ) : EReal) := by
  unfold logistic half
  rw [ofBits_half]
  induction z with
  | bot =>
    refine ⟨0, le_rfl, ?_, ?_⟩
    · exact Ideal.logistic_bot
    · rw [EReal.coe_mul_bot_of_pos (by norm_num), Ideal.tanh_bot]
      norm_num
  | top =>
    refine ⟨1, zero_le_one, ?_, ?_⟩
    · exact Ideal.logistic_top
    · rw [EReal.coe_mul_top_of_pos (by norm_num), Ideal.tanh_top]
      norm_num
  | coe r =>
    refine ⟨(1 + Real.exp (-r))⁻¹, by positivity, Ideal.logistic_coe r, ?_⟩
    rw [← EReal.coe_mul, Ideal.tanh_coe]
    refine congrArg _ ?_
    have h1 : Real.exp (-r) = Real.exp (-(1 / 2 * r)) * Real.exp (-(1 / 2 * r)) := by rw [← Real.exp_add]; ring_nf
    have h2 : Real.exp (1 / 2 * r) * Real.exp (-(1 / 2 * r)) = 1 := by rw [← Real.exp_add]; simp
    have p1 := Real.exp_pos (1 / 2 * r)
    have p2 := Real.exp_pos (-(1 / 2 * r))
    rw [Real.tanh_eq_sinh_div_cosh, Real.sinh_eq, Real.cosh_eq, h1]
    generalize Real.exp (1 / 2 * r) = a at *
    generalize Real.exp (-(1 / 2 * r)) = b at *
    have hb : 1 + b * b ≠ 0 := by positivity
    have hab : (a + b) / 2 ≠ 0 := by positivity
    field_simp
    linear_combination (2 * b) * h2

/-- The input's scale, the kernel's way, is a square root. -/
theorem scale_eq {n : ℝ} (hn : 0 ≤ n) :
    Ideal.tanh (n : EReal) * (1 + Ideal.exp ((-n : ℝ) : EReal) * Ideal.exp ((-n : ℝ) : EReal)) = ((1 - Real.exp (-2 * n) : ℝ) : EReal)
      ∧ 0 ≤ 1 - Real.exp (-2 * n) := by
  refine ⟨?_, sub_nonneg.2 (Real.exp_le_one_iff.2 (by linarith))⟩
  rw [Ideal.tanh_coe, Ideal.exp_coe, ← EReal.coe_mul, show (1 : EReal) = ((1 : ℝ) : EReal) from rfl, ← EReal.coe_add, ← EReal.coe_mul]
  refine congrArg _ ?_
  have h1 : Real.exp (-2 * n) = Real.exp (-n) * Real.exp (-n) := by rw [← Real.exp_add]; ring_nf
  have h2 : Real.exp n * Real.exp (-n) = 1 := by rw [← Real.exp_add]; simp
  have p1 := Real.exp_pos n
  have p2 := Real.exp_pos (-n)
  rw [Real.tanh_eq_sinh_div_cosh, Real.sinh_eq, Real.cosh_eq, h1]
  generalize Real.exp n = a at *
  generalize Real.exp (-n) = b at *
  have hab : (a + b) / 2 ≠ 0 := by positivity
  field_simp
  linear_combination (2 * b) * h2

/-- A number that is not negative times its reciprocal root, where it is positive, is its root. -/
theorem root_eq {q : ℝ} (hq : 0 ≤ q) : (if (0 : EReal) < (q : EReal) then (q : EReal) * Ideal.rsqrt (q : EReal) else 0) = Ideal.sqrt (q : EReal) := by
  rw [Ideal.sqrt_coe, if_neg (not_lt.2 hq), Ideal.rsqrt_coe, if_neg (not_lt.2 hq)]
  rcases hq.eq_or_lt with rfl | h
  · simp
  · rw [if_pos (EReal.coe_pos.2 h), if_neg h.ne', ← EReal.coe_mul]
    refine congrArg _ ?_
    have := Real.mul_self_sqrt hq
    have hs := (Real.sqrt_pos.2 h).ne'
    field_simp
    linarith [this, sq (Real.sqrt q)]

/-- One step, the kernel's way: from half the gates' arguments and half the rate. -/
def stepK (p h x ya yx : EReal) : EReal :=
  Ideal.exp (0 - (Ideal.tanh ya * p + p)) * h
    + (if 0 < Ideal.tanh (Ideal.tanh ya * p + p) * (1 + Ideal.exp (0 - (Ideal.tanh ya * p + p)) * Ideal.exp (0 - (Ideal.tanh ya * p + p)))
        then Ideal.tanh (Ideal.tanh ya * p + p) * (1 + Ideal.exp (0 - (Ideal.tanh ya * p + p)) * Ideal.exp (0 - (Ideal.tanh ya * p + p)))
          * Ideal.rsqrt (Ideal.tanh (Ideal.tanh ya * p + p) * (1 + Ideal.exp (0 - (Ideal.tanh ya * p + p)) * Ideal.exp (0 - (Ideal.tanh ya * p + p))))
        else 0) * (half * Ideal.tanh yx + half) * x

/-- The logarithm of the decay, the reference's way. -/
def logA (sp za : EReal) : EReal := Ideal.ofBits .f32 0xC1000000#32 * logistic za * sp

/-- One step, the reference's way. -/
def stepR (sp h x za zx : EReal) : EReal :=
  Ideal.exp (logA sp za) * h + Ideal.sqrt (-(Ideal.exp (Ideal.ofBits .f32 0x40000000#32 * logA sp za) - 1)) * logistic zx * x

/-- The two are the same. -/
theorem step_eq {sp : ℝ} (hsp : 0 ≤ sp) (h x za zx : EReal) :
    stepK (Ideal.ofBits .f32 0x40800000#32 * (sp : EReal)) h x (half * za) (half * zx) = stepR (sp : EReal) h x za zx := by
  obtain ⟨s, hs, e1, e2⟩ := gate_eq za
  obtain ⟨u, -, e3, e4⟩ := gate_eq zx
  have hn : 0 ≤ 8 * s * sp := by positivity
  have en : ((2 * s - 1 : ℝ) : EReal) * (((4 : ℝ) : EReal) * (sp : EReal)) + ((4 : ℝ) : EReal) * (sp : EReal) = ((8 * s * sp : ℝ) : EReal) := by
    rw [← EReal.coe_mul, ← EReal.coe_mul, ← EReal.coe_add]
    exact congrArg _ (by ring)
  have e0 : (0 : EReal) - ((8 * s * sp : ℝ) : EReal) = ((-(8 * s * sp) : ℝ) : EReal) := by rw [zero_sub, EReal.coe_neg]
  have ei : half * ((2 * u - 1 : ℝ) : EReal) + half = (u : EReal) := by
    unfold half
    rw [ofBits_half, ← EReal.coe_mul, ← EReal.coe_add]
    exact congrArg _ (by ring)
  have el : logA (sp : EReal) za = ((-(8 * s * sp) : ℝ) : EReal) := by
    unfold logA
    rw [ofBits_neg8, e1, ← EReal.coe_mul, ← EReal.coe_mul]
    exact congrArg _ (by ring)
  have e5 : -(Ideal.exp (((2 : ℝ) : EReal) * ((-(8 * s * sp) : ℝ) : EReal)) - 1) = ((1 - Real.exp (-2 * (8 * s * sp)) : ℝ) : EReal) := by
    rw [← EReal.coe_mul, Ideal.exp_coe, show (1 : EReal) = ((1 : ℝ) : EReal) from rfl, ← EReal.coe_sub, ← EReal.coe_neg]
    exact congrArg _ (by ring_nf)
  unfold stepK stepR
  rw [e2, e4, ofBits_4, en, e0, (scale_eq hn).1, root_eq (scale_eq hn).2, ei, el, ofBits_2, e5, e3]

theorem coe_max (x y : ℝ) : ((max x y : ℝ) : EReal) = max (x : EReal) (y : EReal) := EReal.coe_strictMono.monotone.map_max

/-- The softplus of the negated parameter, for a real parameter: a real number that is not negative. -/
theorem softplus_coe (l : ℝ) : ∃ sp : ℝ, 0 ≤ sp ∧
    max (-(l : EReal)) 0 + Ideal.log1p (Ideal.exp (-(max (-(l : EReal)) (-(-(l : EReal)))))) = (sp : EReal) := by
  have hpos : 0 < 1 + Real.exp (-(max (-l) (- -l))) := by positivity
  refine ⟨max (-l) 0 + Real.log (1 + Real.exp (-(max (-l) (- -l)))), add_nonneg (le_max_right _ _) (Real.log_nonneg ?_), ?_⟩
  · linarith [Real.exp_pos (-(max (-l) (- -l)))]
  · rw [← EReal.coe_neg, ← EReal.coe_neg, ← coe_max, ← EReal.coe_neg, Ideal.exp_coe, EReal.coe_add]
    unfold Ideal.log1p
    rw [show (1 : EReal) = ((1 : ℝ) : EReal) from rfl, show (0 : EReal) = ((0 : ℝ) : EReal) from rfl, ← coe_max, ← EReal.coe_add, Ideal.log_coe,
      if_neg (not_le.2 hpos)]

/-- A half of every term is a half of the whole. -/
theorem half_dot {n : ℕ} (x w : Fin n → EReal) (b : EReal) : (∑ i, x i * (half * w i)) + half * b = half * ((∑ i, x i * w i) + b) := by
  have h0 : (0 : EReal) ≤ half := by unfold half; rw [ofBits_half]; exact EReal.coe_nonneg.2 (by norm_num)
  have ht : half ≠ ⊤ := by unfold half; rw [ofBits_half]; exact EReal.coe_ne_top _
  have hs : ∀ s : Finset (Fin n), ∑ i ∈ s, x i * (half * w i) = half * ∑ i ∈ s, x i * w i := by
    classical
    intro s
    induction s using Finset.induction_on with
    | empty => simp
    | insert a s ha ih => rw [Finset.sum_insert ha, Finset.sum_insert ha, ih, EReal.left_distrib_of_nonneg_of_ne_top h0 ht, mul_left_comm]
  rw [hs, EReal.left_distrib_of_nonneg_of_ne_top h0 ht]

end Cert.Proof.LruSlab

end
-- ==== Proof.SlabRead.lean ====
/-
  What the slab kernel stores, element by element.  A head's values are read at a row and a lane of the head; the
  lists of stores then leave, at column `n`, the value of head `n / 128` at lane `n % 128`.
-/
module

public import proofs.«01_k».proof.Proof.SlabHeads
public import proofs.«01_k».proof.Proof.Gates
public import proofs.«01_k».proof.Proof.Rms
public import Idealize.ShloMosaic.Lib.Pipeline.Value
public import Idealize.ShloMosaic.Lib.WholeRead
public import Idealize.ShloMosaic.Lib.Pointwise

@[expose] public section

set_option maxRecDepth 16384

noncomputable section

namespace Cert.KernelIdeal.Gen.Slab

open Idealize.ShloMosaic Idealize.ShloMosaic.TcCoe
open Idealize.SL.Sem
open Cert.Proof Cert.Proof.LruSlab

/-! ## Columns -/

/-- The head a column lies in, and its lane there. -/
def headOf (n : Fin 2048) : Fin 16 := ⟨n.val / 128, by have := n.isLt; omega⟩
def laneOf (n : Fin 2048) : Fin 128 := ⟨n.val % 128, Nat.mod_lt _ (by norm_num)⟩

/-- The column of a head's lane. -/
def col (k : Fin 16) (j : Fin 128) : Fin 2048 := ⟨128 * k.val + j.val, by have := k.isLt; have := j.isLt; omega⟩

theorem headOf_col (k : Fin 16) (j : Fin 128) : headOf (col k j) = k := by
  apply Fin.ext; show (128 * k.val + j.val) / 128 = k.val; have := j.isLt; omega

theorem laneOf_col (k : Fin 16) (j : Fin 128) : laneOf (col k j) = j := by
  apply Fin.ext; show (128 * k.val + j.val) % 128 = j.val; have := j.isLt; omega

theorem col_head (n : Fin 2048) : col (headOf n) (laneOf n) = n := by
  apply Fin.ext; show 128 * (n.val / 128) + n.val % 128 = n.val; omega

/-! ## Loads -/

theorem row_at {n : ℕ} (m : Held Ideal ⟨2, ![n, 2048]⟩ .f32) (k : Fin 16) (j : Fin n) (i : Fin 128) : row m k j (ix2 0 i) = m.val (ix2 j (col k i)) := by
  unfold row Held.load
  rw [Memref.IsWhole.readAt_unread]
  refine congrArg m.val (funext fun a => Fin.ext ?_)
  match a with
  | ⟨0, _⟩ => show j.val + 1 * 0 = j.val; omega
  | ⟨1, _⟩ => show 128 * k.val + 1 * i.val = 128 * k.val + i.val; omega

theorem mat_at (m : Held Ideal S16x128x128 .bf16) (k : Fin 16) (x j : Fin 128) : mat m k (ix3 0 x j) = m.val (ix3 k x j) := by
  unfold mat Held.load
  rw [Memref.IsWhole.readAt_unread]
  refine congrArg m.val (funext fun a => Fin.ext ?_)
  match a with
  | ⟨0, _⟩ => show k.val + 1 * 0 = k.val; omega
  | ⟨1, _⟩ => show 0 + 1 * x.val = x.val; omega
  | ⟨2, _⟩ => show 0 + 1 * j.val = j.val; omega

theorem plane_at {n : ℕ} (m : Held Ideal ⟨3, ![n, 128, 2048]⟩ .f32) (k : Fin 16) (t : Fin n) (b j : Fin 128) :
    plane m k t (ix3 0 b j) = m.val (ix3 t b (col k j)) := by
  unfold plane Held.load
  rw [Memref.IsWhole.readAt_unread]
  refine congrArg m.val (funext fun a => Fin.ext ?_)
  match a with
  | ⟨0, _⟩ => show t.val + 1 * 0 = t.val; omega
  | ⟨1, _⟩ => show 0 + 1 * b.val = b.val; omega
  | ⟨2, _⟩ => show 128 * k.val + 1 * j.val = 128 * k.val + j.val; omega

theorem hid_at (m : Held Ideal S128x2048 .f32) (k : Fin 16) (b j : Fin 128) : hid m k (ix2 b j) = m.val (ix2 b (col k j)) := by
  unfold hid Held.load
  rw [Memref.IsWhole.readAt_unread]
  refine congrArg m.val (funext fun a => Fin.ext ?_)
  match a with
  | ⟨0, _⟩ => show 0 + 1 * b.val = b.val; omega
  | ⟨1, _⟩ => show 128 * k.val + 1 * j.val = 128 * k.val + j.val; omega

/-! ## A head's values as numbers -/

variable (w : Given Ideal)

/-- The convolution's inputs in order: the three past ones, then the four of this call. -/
def extV (b : Fin 128) (n : Fin 2048) : ℕ → EReal
  | 0 => w.tail.val (ix3 0 b n)
  | 1 => w.tail.val (ix3 1 b n)
  | 2 => w.tail.val (ix3 2 b n)
  | 3 => w.x.val (ix3 0 b n)
  | 4 => w.x.val (ix3 1 b n)
  | 5 => w.x.val (ix3 2 b n)
  | _ => w.x.val (ix3 3 b n)

/-- The convolved input of step `s`. -/
def convV (b : Fin 128) (n : Fin 2048) (s : ℕ) : EReal :=
  w.bias.val (ix2 0 n) + extV w b n s * w.taps.val (ix2 0 n) + extV w b n (s + 1) * w.taps.val (ix2 1 n)
    + extV w b n (s + 2) * w.taps.val (ix2 2 n) + extV w b n (s + 3) * w.taps.val (ix2 3 n)

/-- Half the decay's rate, from the parameter. -/
def rateV (l : EReal) : EReal := Ideal.ofBits .f32 0x40800000#32 * (max (-l) 0 + Ideal.log1p (Ideal.exp (-(max (-l) (-(-l))))))

/-- A gate's argument: the head's product and the bias. -/
def argV (wt : Held Ideal S16x128x128 .bf16) (bt : Held Ideal S1x2048 .f32) (b : Fin 128) (n : Fin 2048) (s : ℕ) : EReal :=
  (∑ x, convV w b (col (headOf n) x) s * wt.val (ix3 (headOf n) x (laneOf n))) + bt.val (ix2 0 n)

/-- The hidden state after `s` steps. -/
def stateV (b : Fin 128) (n : Fin 2048) : ℕ → EReal
  | 0 => w.h0.val (ix2 b n)
  | s + 1 => stepK (rateV (w.lam.val (ix2 0 n))) (stateV b n s) (convV w b n s) (argV w w.wa w.ba b n s) (argV w w.wx w.bx b n s)

/-- The gated output of step `s`. -/
def gatedV (s : Fin 4) (b : Fin 128) (n : Fin 2048) : EReal := stateV w b n (s.val + 1) * w.gate.val (ix3 s b n)

theorem pay2_at (v : Vec Ideal S1x128x128 .f32) (b j : Fin 128) : k0_pay2 v (ix2 b j) = v (ix3 0 b j) := by
  unfold k0_pay2
  pointwise

theorem pay11_at (v : Vec Ideal S128x128 .f32) (b j : Fin 128) : k0_pay11 v (ix2 b j) = v (ix2 b j) := by
  unfold k0_pay11
  pointwise

theorem cast_at (v : FVec Ideal S128x128 .f32) (z : Fin 1) (b j : Fin 128) :
    shapeCast S1x128x128 v shapeCasts_S128x128_S1x128x128 (ix3 z b j) = v (ix2 b j) := by
  pointwise

theorem ext_at (k : Fin 16) (b j : Fin 128) (s : ℕ) : ext w k s (ix2 b j) = extV w b (col k j) s := by
  match s with
  | 0 => exact (pay2_at _ _ _).trans (plane_at _ _ _ _ _)
  | 1 => exact (pay2_at _ _ _).trans (plane_at _ _ _ _ _)
  | 2 => exact (pay2_at _ _ _).trans (plane_at _ _ _ _ _)
  | 3 => exact (pay2_at _ _ _).trans (plane_at _ _ _ _ _)
  | 4 => exact (pay2_at _ _ _).trans (plane_at _ _ _ _ _)
  | 5 => exact (pay2_at _ _ _).trans (plane_at _ _ _ _ _)
  | _ + 6 => exact (pay2_at _ _ _).trans (plane_at _ _ _ _ _)

theorem pay12_at (e0 e1 e2 e3 : FVec Ideal S128x128 .f32) (c w0 w1 w2 w3 : Vec Ideal S1x128 .f32) (b j : Fin 128) :
    k0_pay12 e0 e1 e2 e3 c w0 w1 w2 w3 (ix2 b j)
      = c (ix2 0 j) + e0 (ix2 b j) * w0 (ix2 0 j) + e1 (ix2 b j) * w1 (ix2 0 j) + e2 (ix2 b j) * w2 (ix2 0 j) + e3 (ix2 b j) * w3 (ix2 0 j) := by
  unfold k0_pay12
  pointwise

theorem conv_at (k : Fin 16) (b j : Fin 128) (s : ℕ) : conv w k s (ix2 b j) = convV w b (col k j) s := by
  unfold conv convV
  rw [pay12_at]
  simp only [ext_at, row_at]

theorem step_at (hsp : FVec Ideal S1x128 .f32) (h xc : FVec Ideal S128x128 .f32) (wa wx : Vec Ideal S1x128x128 .bf16) (ba bx : Vec Ideal S1x128 .f32)
    (b j : Fin 128) :
    step hsp h xc wa wx ba bx (ix2 b j) = stepK (hsp (ix2 0 j)) (h (ix2 b j)) (xc (ix2 b j))
      ((∑ x, xc (ix2 b x) * wa (ix3 0 x j)) + ba (ix2 0 j)) ((∑ x, xc (ix2 b x) * wx (ix3 0 x j)) + bx (ix2 0 j)) := by
  unfold step stepK k0_pay18 k0_pay13 k0_pay14 k0_pay15
  pointwise

theorem rate_at (k : Fin 16) (j : Fin 128) : rate w k (ix2 0 j) = rateV (w.lam.val (ix2 0 (col k j))) := by
  unfold rate rateV
  rw [← row_at w.lam k 0 j]
  generalize row w.lam k 0 = v
  unfold k0_pay10 k0_pay9
  pointwise
  rw [if_neg (fun h => h rfl), zero_sub, zero_sub]
  rfl

theorem state_succ (k : Fin 16) (s : ℕ) :
    state w k (s + 1) = step (rate w k) (state w k s) (conv w k s) (mat w.wa k) (mat w.wx k) (row w.ba k 0) (row w.bx k 0) := rfl

theorem stateV_succ (b : Fin 128) (n : Fin 2048) (s : ℕ) :
    stateV w b n (s + 1)
      = stepK (rateV (w.lam.val (ix2 0 n))) (stateV w b n s) (convV w b n s) (argV w w.wa w.ba b n s) (argV w w.wx w.bx b n s) := rfl

theorem state_at (k : Fin 16) (b j : Fin 128) (s : ℕ) : state w k s (ix2 b j) = stateV w b (col k j) s := by
  induction s with
  | zero => exact (pay11_at _ _ _).trans (hid_at _ _ _ _)
  | succ s ih =>
    rw [state_succ, stateV_succ, step_at, ih]
    unfold argV
    simp only [rate_at, conv_at, mat_at, row_at, headOf_col, laneOf_col]

theorem gated_at (k : Fin 16) (s : Fin 4) (z : Fin 1) (b j : Fin 128) : gated w k s (ix3 z b j) = gatedV w s b (col k j) := by
  unfold gated gatedV
  rw [cast_at]
  show state w k (s.val + 1) (ix2 b j) * k0_pay2 (plane w.gate k s) (ix2 b j) = _
  rw [state_at, pay2_at, plane_at]

/-! ## What the stores leave -/

theorem mem_heads (k : Fin 16) : k ∈ heads := by revert k; decide

/-- Where an element of a head's plane lies. -/
theorem emb_plane (k : Fin 16) (b j : Fin 128) :
    (Rect.unit (s := S128x2048) ![0, 128 * k.val] S128x128.size (inb_plane k)).emb (ix2 b j) = ix2 b (col k j) := by
  funext a; apply Fin.ext
  match a with
  | ⟨0, _⟩ => show 0 + 1 * b.val = b.val; omega
  | ⟨1, _⟩ => show 128 * k.val + 1 * j.val = 128 * k.val + j.val; omega

/-- Where an element of a head's columns of plane `t` lies. -/
theorem emb_slab {r : ℕ} (t : Fin r) (k : Fin 16) (z : Fin 1) (b j : Fin 128) :
    (Rect.unit (s := ⟨3, ![r, 128, 2048]⟩) ![t.val, 0, 128 * k.val] S1x128x128.size (inb_slab t k)).emb (ix3 z b j) = ix3 t b (col k j) := by
  funext a; apply Fin.ext
  match a with
  | ⟨0, _⟩ => show t.val + 1 * z.val = t.val; omega
  | ⟨1, _⟩ => show 0 + 1 * b.val = b.val; omega
  | ⟨2, _⟩ => show 128 * k.val + 1 * j.val = 128 * k.val + j.val; omega

/-- Where an element of plane `s` lies. -/
theorem emb_step (s : Fin 4) (z : Fin 1) (b : Fin 128) (n : Fin 2048) :
    (Rect.unit (s := S4x128x2048) ![s.val, 0, 0] S1x128x2048.size (inb_step s)).emb (ix3 z b n) = ix3 s b n := by
  funext a; apply Fin.ext
  match a with
  | ⟨0, _⟩ => show s.val + 1 * z.val = s.val; omega
  | ⟨1, _⟩ => show 0 + 1 * b.val = b.val; omega
  | ⟨2, _⟩ => show 0 + 1 * n.val = n.val; omega

/-- The three results as functions of the whole index. -/
def resH : S128x2048.Idx → EReal := fun y => stateV w (y 0) (y 1) 4
def resT : S3x128x2048.Idx → EReal := fun y => w.x.val (ix3 (Fin.succ (n := 3) (y 0)) (y 1) (y 2))
def resY : S4x128x2048.Idx → EReal := fun y => gatedV w (y 0) (y 1) (y 2)
def resO : S4x128x2048.Idx → EReal := fun y => gatedV w (y 0) (y 1) (y 2) * invRms (gatedV w (y 0) (y 1)) * w.g.val (ix2 0 (y 2))

theorem eta2 {p q : ℕ} (x : (⟨2, ![p, q]⟩ : Shape).Idx) : ∃ (a : Fin p) (b : Fin q), x = ix2 a b :=
  ⟨x 0, x 1, by funext a; match a with | ⟨0, _⟩ => rfl | ⟨1, _⟩ => rfl⟩

theorem eta3 {p q r : ℕ} (x : (⟨3, ![p, q, r]⟩ : Shape).Idx) : ∃ (a : Fin p) (b : Fin q) (c : Fin r), x = ix3 a b c :=
  ⟨x 0, x 1, x 2, by funext a; match a with | ⟨0, _⟩ => rfl | ⟨1, _⟩ => rfl | ⟨2, _⟩ => rfl⟩

theorem mem_plane (b : Fin 128) (n : Fin 2048) :
    (ix2 b n : S128x2048.Idx) ∈ (Rect.unit (s := S128x2048) ![0, 128 * (headOf n).val] S128x128.size (inb_plane (headOf n))).set := by
  have hb := b.isLt
  refine Rect.mem_set_unit.2 fun a => ?_
  match a with
  | ⟨0, _⟩ => show 0 ≤ b.val ∧ b.val < 0 + 128; omega
  | ⟨1, _⟩ => show 128 * (n.val / 128) ≤ n.val ∧ n.val < 128 * (n.val / 128) + 128; omega

theorem mem_slab {r : ℕ} (t : Fin r) (b : Fin 128) (n : Fin 2048) :
    (ix3 t b n : (⟨3, ![r, 128, 2048]⟩ : Shape).Idx)
      ∈ (Rect.unit (s := ⟨3, ![r, 128, 2048]⟩) ![t.val, 0, 128 * (headOf n).val] S1x128x128.size (inb_slab t (headOf n))).set := by
  have hb := b.isLt
  refine Rect.mem_set_unit.2 fun a => ?_
  match a with
  | ⟨0, _⟩ => show t.val ≤ t.val ∧ t.val < t.val + 1; omega
  | ⟨1, _⟩ => show 0 ≤ b.val ∧ b.val < 0 + 128; omega
  | ⟨2, _⟩ => show 128 * (n.val / 128) ≤ n.val ∧ n.val < 128 * (n.val / 128) + 128; omega

theorem mem_step (s : Fin 4) (b : Fin 128) (n : Fin 2048) :
    (ix3 s b n : S4x128x2048.Idx) ∈ (Rect.unit (s := S4x128x2048) ![s.val, 0, 0] S1x128x2048.size (inb_step s)).set := by
  have hb := b.isLt
  have hn := n.isLt
  refine Rect.mem_set_unit.2 fun a => ?_
  match a with
  | ⟨0, _⟩ => show s.val ≤ s.val ∧ s.val < s.val + 1; omega
  | ⟨1, _⟩ => show 0 ≤ b.val ∧ b.val < 0 + 128; omega
  | ⟨2, _⟩ => show 0 ≤ n.val ∧ n.val < 0 + 2048; omega

/-- The hidden state the stores leave. -/
theorem canonH (y : S128x2048.Idx) : View.canon (storesH w) y = resH w y := by
  refine View.canon_apply_of_pieces (Val := Elt Ideal) (e := .f32) (resH w) _ ?_ y ?_
  · intro p hp
    obtain ⟨k, -, rfl⟩ := List.mem_map.1 hp
    have key : ∀ x : S128x128.Idx, state w k 4 x = resH w ((Rect.unit (s := S128x2048) ![0, 128 * k.val] S128x128.size (inb_plane k)).emb x) := by
      intro x
      obtain ⟨b, i, rfl⟩ := eta2 (p := 128) (q := 128) x
      rw [emb_plane, state_at]
      rfl
    exact key
  · obtain ⟨b, n, rfl⟩ := eta2 (p := 128) (q := 2048) y
    exact ⟨_, List.mem_map.2 ⟨headOf n, mem_heads _, rfl⟩, mem_plane b n⟩

/-- The convolution's kept inputs. -/
theorem canonT (y : S3x128x2048.Idx) : View.canon (storesT w) y = resT w y := by
  refine View.canon_apply_of_pieces (Val := Elt Ideal) (e := .f32) (resT w) _ ?_ y ?_
  · intro p hp
    obtain ⟨k, -, hp⟩ := List.mem_flatMap.1 hp
    obtain ⟨j, -, rfl⟩ := List.mem_map.1 hp
    have key : ∀ x : S1x128x128.Idx, shapeCast S1x128x128 (k0_pay2 (plane w.x k j.succ)) shapeCasts_S128x128_S1x128x128 x
        = resT w ((Rect.unit (s := S3x128x2048) ![j.val, 0, 128 * k.val] S1x128x128.size (inb_slab j k)).emb x) := by
      intro x
      obtain ⟨z, b, i, rfl⟩ := eta3 (p := 1) (q := 128) (r := 128) x
      rw [emb_slab, cast_at, pay2_at, plane_at]
      rfl
    exact key
  · have hj : ∀ j : Fin 3, j ∈ ([2, 1, 0] : List (Fin 3)) := by decide
    obtain ⟨t, b, n, rfl⟩ := eta3 (p := 3) (q := 128) (r := 2048) y
    exact ⟨_, List.mem_flatMap.2 ⟨headOf n, mem_heads _, List.mem_map.2 ⟨t, hj _, rfl⟩⟩, mem_slab t b n⟩

/-- The gated outputs. -/
theorem canonY (y : S4x128x2048.Idx) : View.canon (storesY w) y = resY w y := by
  refine View.canon_apply_of_pieces (Val := Elt Ideal) (e := .f32) (resY w) _ ?_ y ?_
  · intro p hp
    obtain ⟨k, -, hp⟩ := List.mem_flatMap.1 hp
    obtain ⟨j, -, rfl⟩ := List.mem_map.1 hp
    have key : ∀ x : S1x128x128.Idx, gated w k j x
        = resY w ((Rect.unit (s := S4x128x2048) ![j.val, 0, 128 * k.val] S1x128x128.size (inb_slab j k)).emb x) := by
      intro x
      obtain ⟨z, b, i, rfl⟩ := eta3 (p := 1) (q := 128) (r := 128) x
      rw [emb_slab, gated_at]
      rfl
    exact key
  · have hj : ∀ j : Fin 4, j ∈ ([3, 2, 1, 0] : List (Fin 4)) := by decide
    obtain ⟨t, b, n, rfl⟩ := eta3 (p := 4) (q := 128) (r := 2048) y
    exact ⟨_, List.mem_flatMap.2 ⟨headOf n, mem_heads _, List.mem_map.2 ⟨t, hj _, rfl⟩⟩, mem_slab t b n⟩

/-- The normed output of one step from its gated outputs. -/
theorem norm_at (v : Vec Ideal S1x128x2048 .f32) (g : Vec Ideal S1x2048 .f32) (z : Fin 1) (b : Fin 128) (n : Fin 2048) :
    k0_pay701 v g (ix3 z b n) = v (ix3 0 b n) * invRms (fun n => v (ix3 0 b n)) * g (ix2 0 n) := by
  unfold k0_pay701 invRms
  pointwise

/-- A step's gated outputs read back. -/
theorem back_at (m : Memref sig .tc .vmem S4x128x2048 .f32) (j : Fin 4) (b : Fin 128) (n : Fin 2048) :
    m.view.readCov (storesY w) (Rect.unit (s := S4x128x2048) ![j.val, 0, 0] S1x128x2048.size (inb_step j)).toLoadRect (ix3 0 b n) = gatedV w j b n := by
  rw [View.readCov_eq_canon']
  refine (congrArg (View.canon (storesY w)) (emb_step j 0 b n)).trans ?_
  exact canonY w _

/-- The norm's weight read whole. -/
theorem weight_at (n : Fin 2048) : w.g.load (Rect.unit ![0, 0] S1x2048.size inb_S1x2048_S1x2048_0_0) (ix2 0 n) = w.g.val (ix2 0 n) := by
  unfold Held.load
  rw [Memref.IsWhole.readAt_unread]
  refine congrArg w.g.val (funext fun a => Fin.ext ?_)
  match a with
  | ⟨0, _⟩ => rfl
  | ⟨1, _⟩ => show 0 + 1 * n.val = n.val; omega

/-- The normed outputs. -/
theorem canonO (m : Memref sig .tc .vmem S4x128x2048 .f32) (y : S4x128x2048.Idx) : View.canon (storesO w m) y = resO w y := by
  refine View.canon_apply_of_pieces (Val := Elt Ideal) (e := .bf16) (resO w) _ ?_ y ?_
  · intro p hp
    obtain ⟨j, -, rfl⟩ := List.mem_map.1 hp
    have key : ∀ x : S1x128x2048.Idx,
        k0_pay701 (m.view.readCov (storesY w) (Rect.unit (s := S4x128x2048) ![j.val, 0, 0] S1x128x2048.size (inb_step j)).toLoadRect)
            (w.g.load (Rect.unit ![0, 0] S1x2048.size inb_S1x2048_S1x2048_0_0)) x
          = resO w ((Rect.unit (s := S4x128x2048) ![j.val, 0, 0] S1x128x2048.size (inb_step j)).emb x) := by
      intro x
      obtain ⟨z, b, i, rfl⟩ := eta3 (p := 1) (q := 128) (r := 2048) x
      rw [emb_step, norm_at, weight_at]
      exact congrArg (· * w.g.val (ix2 0 i)) (congrArg₂ (· * ·) (back_at w m j b i) (congrArg invRms (funext fun n => back_at w m j b n)))
    exact key
  · have hj : ∀ j : Fin 4, j ∈ ([3, 2, 1, 0] : List (Fin 4)) := by decide
    obtain ⟨t, b, n, rfl⟩ := eta3 (p := 4) (q := 128) (r := 2048) y
    exact ⟨_, List.mem_map.2 ⟨t, hj _, rfl⟩, mem_step t b n⟩

end Cert.KernelIdeal.Gen.Slab

end
-- ==== Proof.SlabOut.lean ====
/-
  What the slab kernel's result arrays end holding: the one grid point's stores.
-/
module

public import proofs.«01_k».proof.Proof.SlabRead
public import proofs.«01_k».proof.Proof.Gen.KernelIdeal.Value
public import Idealize.ShloMosaic.Lib.Pipeline.Value
public import Idealize.ShloMosaic.Lib.Pipeline.ValueKit.Geometry

@[expose] public section

set_option maxRecDepth 16384

noncomputable section

namespace Cert.Proof.LruSlab

open Idealize.ShloMosaic Idealize.ShloMosaic.TcCoe Idealize.SL.Sem
open Cert.KernelIdeal Cert.KernelIdeal.Gen Cert.KernelIdeal.Gen.Slab

variable (m : (ℓ : Loc nD τ sig) → Buf (Elt Ideal) ℓ) (ρ : Dev nD → PrngReg) (c : Dev nD)

/-- What the point is given. -/
def given (t : Fin cfg0.N) : Given Ideal :=
  ⟨⟨ms0_0 t, hs0_0 t, X0_0 m c t⟩, ⟨ms0_1 t, hs0_1 t, X0_1 m c t⟩, ⟨ms0_2 t, hs0_2 t, iblk m c 2 t⟩, ⟨ms0_3 t, hs0_3 t, iblk m c 3 t⟩,
    ⟨ms0_4 t, hs0_4 t, iblk m c 4 t⟩, ⟨ms0_5 t, hs0_5 t, iblk m c 5 t⟩, ⟨ms0_6 t, hs0_6 t, iblk m c 6 t⟩, ⟨ms0_7 t, hs0_7 t, iblk m c 7 t⟩,
    ⟨ms0_8 t, hs0_8 t, iblk m c 8 t⟩, ⟨ms0_9 t, hs0_9 t, iblk m c 9 t⟩, ⟨ms0_10 t, hs0_10 t, iblk m c 10 t⟩, ⟨ms0_11 t, hs0_11 t, iblk m c 11 t⟩⟩

theorem outO (t : Fin cfg0.N) : (outsAt0 m c t).1 = resO (given m c t) := by
  unfold outsAt0 out0_A_12
  dsimp only
  rw [View.read_writes_junk_eq_canon, storesO_eq]
  exact funext fun y => canonO (given m c t) _ y

theorem outH (t : Fin cfg0.N) : (outsAt0 m c t).2.1 = resH (given m c t) := by
  unfold outsAt0 out0_A_13
  dsimp only
  rw [View.read_writes_junk_eq_canon, storesH_eq]
  exact funext fun y => canonH (given m c t) y

theorem outT (t : Fin cfg0.N) : (outsAt0 m c t).2.2 = resT (given m c t) := by
  unfold outsAt0 out0_A_14
  dsimp only
  rw [View.read_writes_junk_eq_canon, storesT_eq]
  exact funext fun y => canonT (given m c t) y

/-- The one point. -/
abbrev pt : Fin cfg0.N := t0_0

theorem finalO : (dats m 0 c).arrAt 12 cfg0.N = resO (given m c pt) :=
  (dats m 0 c).arrAt_eq_of_after_last 12 pt (by decide +kernel) (resO (given m c pt)) (fun j => by
    rw [after0_12, outO]
    rfl)

theorem finalH : (dats m 0 c).arrAt 13 cfg0.N = resH (given m c pt) :=
  (dats m 0 c).arrAt_eq_of_after_last 13 pt (by decide +kernel) (resH (given m c pt)) (fun j => by
    rw [after0_13, outH]
    rfl)

theorem finalT : (dats m 0 c).arrAt 14 cfg0.N = resT (given m c pt) :=
  (dats m 0 c).arrAt_eq_of_after_last 14 pt (by decide +kernel) (resT (given m c pt)) (fun j => by
    rw [after0_14, outT]
    rfl)

end Cert.Proof.LruSlab

end
-- ==== Proof.SlabBlocks.lean ====
/-
  What the slab kernel's one grid point is given: its windows' blocks, element by element, from the call's arguments.
-/
module

public import proofs.«01_k».proof.Proof.Gen.KernelIdeal.Value
public import proofs.«01_k».proof.Proof.Gates
public import Idealize.ShloMosaic.Lib.Pipeline.Value
public import Idealize.ShloMosaic.Lib.Pointwise

@[expose] public section

set_option maxRecDepth 16384

noncomputable section

namespace Cert.Proof.LruSlab

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The arguments: the projected columns, the hidden state, the convolution's past inputs, its taps and bias, the gates'
weights and biases (of the recurrence, then of the input), the decay's parameter and the norm's weight. -/
abbrev A0 : S5x128x9216.Idx → EReal := m ((c : Thread nD τ).loc main_arg0)
abbrev A1 : S1x128x2048.Idx → EReal := m ((c : Thread nD τ).loc main_arg1)
abbrev A2 : S1x128x3x2048.Idx → EReal := m ((c : Thread nD τ).loc main_arg2)
abbrev A3 : S1x4x2048.Idx → EReal := m ((c : Thread nD τ).loc main_arg3)
abbrev A4 : S1x2048.Idx → EReal := m ((c : Thread nD τ).loc main_arg4)
abbrev A5 : S1x16x128x128.Idx → EReal := m ((c : Thread nD τ).loc main_arg5)
abbrev A6 : S1x16x128.Idx → EReal := m ((c : Thread nD τ).loc main_arg6)
abbrev A7 : S1x16x128x128.Idx → EReal := m ((c : Thread nD τ).loc main_arg7)
abbrev A8 : S1x16x128.Idx → EReal := m ((c : Thread nD τ).loc main_arg8)
abbrev A9 : S1x2048.Idx → EReal := m ((c : Thread nD τ).loc main_arg9)
abbrev A10 : S1x2048.Idx → EReal := m ((c : Thread nD τ).loc main_arg10)

theorem places : ∀ t : Fin cfg0.N, win0_0.index t = ![0, 0, 0] ∧ win0_1.index t = ![0, 0, 1] ∧ win0_2.index t = ![0, 0] ∧ win0_3.index t = ![0, 0]
    ∧ win0_4.index t = ![0, 0, 0] ∧ win0_5.index t = ![0, 0, 0] ∧ win0_6.index t = ![0, 0] ∧ win0_7.index t = ![0, 0] ∧ win0_8.index t = ![0, 0]
    ∧ win0_9.index t = ![0, 0] ∧ win0_10.index t = ![0, 0] ∧ win0_11.index t = ![0, 0, 0] ∧ win0_12.index t = ![0, 0, 0] ∧ win0_13.index t = ![0, 0]
    ∧ win0_14.index t = ![0, 0, 0] := (by decide +kernel : ∀ t : Fin grid0.N, _)

/-! ## The arrays the host prepares -/

theorem V_main_v0_at (j : Fin 4) (n : Fin 2048) : (V m c main_v0 : S4x2048.Idx → EReal) (ix2 j n) = A3 m c (ix3 0 j n) := by
  have e : (V m c main_v0 : S4x2048.Idx → EReal) = shapeCast S4x2048 (A3 m c) shapeCasts_S1x4x2048_S4x2048 := by
    unfold V hostOps0
    after_results
    rfl
  rw [e]
  pointwise

/-- A row taken to a vector and back. -/
theorem row_back (v : S1x2048.Idx → EReal) (n : Fin 2048) :
    (shapeCast S1x2048 (shapeCast S2048 v shapeCasts_S1x2048_S2048) shapeCasts_S2048_S1x2048 : S1x2048.Idx → EReal) (ix2 0 n) = v (ix2 0 n) := by
  pointwise

theorem V_main_v2_at (n : Fin 2048) : (V m c main_v2 : S1x2048.Idx → EReal) (ix2 0 n) = A4 m c (ix2 0 n) := by
  have e : (V m c main_v2 : S1x2048.Idx → EReal) = shapeCast S1x2048 (shapeCast S2048 (A4 m c) shapeCasts_S1x2048_S2048) shapeCasts_S2048_S1x2048 := by
    unfold V hostOps0
    after_results
    rfl
  rw [e, row_back]

theorem V_main_v20_at (n : Fin 2048) : (V m c main_v20 : S1x2048.Idx → EReal) (ix2 0 n) = A9 m c (ix2 0 n) := by
  have e : (V m c main_v20 : S1x2048.Idx → EReal) = shapeCast S1x2048 (shapeCast S2048 (A9 m c) shapeCasts_S1x2048_S2048) shapeCasts_S2048_S1x2048 := by
    unfold V hostOps0
    after_results
    rfl
  rw [e, row_back]

theorem V_main_v22_at (n : Fin 2048) : (V m c main_v22 : S1x2048.Idx → EReal) (ix2 0 n) = A10 m c (ix2 0 n) := by
  have e : (V m c main_v22 : S1x2048.Idx → EReal) = shapeCast S1x2048 (shapeCast S2048 (A10 m c) shapeCasts_S1x2048_S2048) shapeCasts_S2048_S1x2048 := by
    unfold V hostOps0
    after_results
    rfl
  rw [e, row_back]

/-- Half a gate's weight. -/
def halfW (v : S1x16x128x128.Idx → EReal) : FVec Ideal S16x128x128 .bf16 :=
  truncf .bf16 (mulf (broadcastInDim S16x128x128 ![] bcast_S_S16x128x128 (constant S_ .f32 0x3F000000#32 : FVec Ideal S_ .f32) : FVec Ideal S16x128x128 .f32)
    (shapeCast S16x128x128 v shapeCasts_S1x16x128x128_S16x128x128 : FVec Ideal S16x128x128 .f32)) bitsLt_bf16_f32

theorem halfW_at (v : S1x16x128x128.Idx → EReal) (k : Fin 16) (x j : Fin 128) : halfW v (ix3 k x j) = half * v (ix4 0 k x j) := by
  unfold halfW
  pointwise

/-- Half a gate's bias, as a row. -/
def halfB (v : S1x16x128.Idx → EReal) : FVec Ideal S1x2048 .f32 :=
  shapeCast S1x2048 (mulf (broadcastInDim S16x128 ![] bcast_S_S16x128 (constant S_ .f32 0x3F000000#32 : FVec Ideal S_ .f32) : FVec Ideal S16x128 .f32)
    (shapeCast S16x128 v shapeCasts_S1x16x128_S16x128 : FVec Ideal S16x128 .f32)) shapeCasts_S16x128_S1x2048

theorem halfB_at (v : S1x16x128.Idx → EReal) (n : Fin 2048) :
    halfB v (ix2 0 n) = half * v (ix3 0 ⟨n.val / 128, by have := n.isLt; omega⟩ ⟨n.val % 128, Nat.mod_lt _ (by norm_num)⟩) := by
  unfold halfB
  pointwise

theorem V_main_v6_eq : (V m c main_v6 : S16x128x128.Idx → EReal) = halfW (A5 m c) := by
  unfold V hostOps0
  after_results
  rfl

theorem V_main_v10_eq : (V m c main_v10 : S16x128x128.Idx → EReal) = halfW (A7 m c) := by
  unfold V hostOps0
  after_results
  rfl

theorem V_main_v14_eq : (V m c main_v14 : S1x2048.Idx → EReal) = halfB (A6 m c) := by
  unfold V hostOps0
  after_results
  rfl

theorem V_main_v18_eq : (V m c main_v18 : S1x2048.Idx → EReal) = halfB (A8 m c) := by
  unfold V hostOps0
  after_results
  rfl

theorem V_main_v23_at (b : Fin 128) (n : Fin 2048) : (V m c main_v23 : S128x2048.Idx → EReal) (ix2 b n) = A1 m c (ix3 0 b n) := by
  have e : (V m c main_v23 : S128x2048.Idx → EReal) = shapeCast S128x2048 (A1 m c) shapeCasts_S1x128x2048_S128x2048 := by
    unfold V hostOps0
    after_results
    rfl
  rw [e]
  pointwise

theorem V_main_v25_at (t : Fin 3) (b : Fin 128) (n : Fin 2048) : (V m c main_v25 : S3x128x2048.Idx → EReal) (ix3 t b n) = A2 m c (ix4 0 b t n) := by
  have e : (V m c main_v25 : S3x128x2048.Idx → EReal)
      = transpose S3x128x2048 [1, 0, 2] (shapeCast S128x3x2048 (A2 m c) shapeCasts_S1x128x3x2048_S128x3x2048) transposes_S128x3x2048_S3x128x2048_1_0_2 := by
    unfold V hostOps0
    after_results
    rfl
  rw [e]
  pointwise

/-! ## The blocks -/

section
variable (t : Fin cfg0.N)

/-- The gate columns: the first 2048. -/
theorem X0_0_at (s : Fin 4) (b : Fin 128) (n : Fin 2048) :
    (X0_0 m c t : S4x128x2048.Idx → EReal) (ix3 s b n)
      = A0 m c (ix3 ⟨s.val, by have := s.isLt; omega⟩ b ⟨n.val, by have := n.isLt; omega⟩) := by
  unfold X0_0 Pipeline.Window.fill
  rw [dif_pos (moved0_0 t _)]
  show V m c main_arg0 (((cfg0.win 0).blk t).view.emb _) = _
  rw [V_main_arg0]
  refine congrArg (A0 m c) (funext fun a => Fin.ext ?_)
  match a with
  | ⟨0, _⟩ => show win0_0.index t (0 : Fin 3) * 4 + 1 * s.val = s.val; rw [congrFun (places t).1 0]; show 0 * 4 + 1 * s.val = _; omega
  | ⟨1, _⟩ => show win0_0.index t (1 : Fin 3) * 128 + 1 * b.val = b.val; rw [congrFun (places t).1 1]; show 0 * 128 + 1 * b.val = _; omega
  | ⟨2, _⟩ => show win0_0.index t (2 : Fin 3) * 2048 + 1 * n.val = n.val; rw [congrFun (places t).1 2]; show 0 * 2048 + 1 * n.val = _; omega

/-- The input columns: the next 2048. -/
theorem X0_1_at (s : Fin 4) (b : Fin 128) (n : Fin 2048) :
    (X0_1 m c t : S4x128x2048.Idx → EReal) (ix3 s b n)
      = A0 m c (ix3 ⟨s.val, by have := s.isLt; omega⟩ b ⟨2048 + n.val, by have := n.isLt; omega⟩) := by
  unfold X0_1 Pipeline.Window.fill
  rw [dif_pos (moved0_1 t _)]
  show V m c main_arg0 (((cfg0.win 1).blk t).view.emb _) = _
  rw [V_main_arg0]
  refine congrArg (A0 m c) (funext fun a => Fin.ext ?_)
  match a with
  | ⟨0, _⟩ => show win0_1.index t (0 : Fin 3) * 4 + 1 * s.val = s.val; rw [congrFun (places t).2.1 0]; show 0 * 4 + 1 * s.val = _; omega
  | ⟨1, _⟩ => show win0_1.index t (1 : Fin 3) * 128 + 1 * b.val = b.val; rw [congrFun (places t).2.1 1]; show 0 * 128 + 1 * b.val = _; omega
  | ⟨2, _⟩ => show win0_1.index t (2 : Fin 3) * 2048 + 1 * n.val = 2048 + n.val; rw [congrFun (places t).2.1 2]; show 1 * 2048 + 1 * n.val = _; omega

theorem iblk_2_at (j : Fin 4) (n : Fin 2048) : (iblk m c 2 t : S4x2048.Idx → EReal) (ix2 j n) = A3 m c (ix3 0 j n) := by
  rw [← V_main_v0_at m c]
  show V m c main_v0 (((cfg0.win 2).blk t).view.emb (ix2 j n)) = _
  refine congrArg (V m c main_v0) (funext fun a => Fin.ext ?_)
  match a with
  | ⟨0, _⟩ => show win0_2.index t (0 : Fin 2) * 4 + 1 * j.val = j.val; rw [congrFun (places t).2.2.1 0]; show 0 * 4 + 1 * j.val = _; omega
  | ⟨1, _⟩ => show win0_2.index t (1 : Fin 2) * 2048 + 1 * n.val = n.val; rw [congrFun (places t).2.2.1 1]; show 0 * 2048 + 1 * n.val = _; omega

theorem iblk_3_at (n : Fin 2048) : (iblk m c 3 t : S1x2048.Idx → EReal) (ix2 0 n) = A4 m c (ix2 0 n) := by
  rw [← V_main_v2_at m c]
  show V m c main_v2 (((cfg0.win 3).blk t).view.emb (ix2 0 n)) = _
  refine congrArg (V m c main_v2) (funext fun a => Fin.ext ?_)
  match a with
  | ⟨0, _⟩ => show win0_3.index t (0 : Fin 2) * 1 + 1 * 0 = 0; rw [congrFun (places t).2.2.2.1 0]; show 0 * 1 + 1 * 0 = _; omega
  | ⟨1, _⟩ => show win0_3.index t (1 : Fin 2) * 2048 + 1 * n.val = n.val; rw [congrFun (places t).2.2.2.1 1]; show 0 * 2048 + 1 * n.val = _; omega

theorem iblk_8_at (n : Fin 2048) : (iblk m c 8 t : S1x2048.Idx → EReal) (ix2 0 n) = A9 m c (ix2 0 n) := by
  rw [← V_main_v20_at m c]
  show V m c main_v20 (((cfg0.win 8).blk t).view.emb (ix2 0 n)) = _
  refine congrArg (V m c main_v20) (funext fun a => Fin.ext ?_)
  match a with
  | ⟨0, _⟩ => show win0_8.index t (0 : Fin 2) * 1 + 1 * 0 = 0; rw [congrFun (places t).2.2.2.2.2.2.2.2.1 0]; show 0 * 1 + 1 * 0 = _; omega
  | ⟨1, _⟩ => show win0_8.index t (1 : Fin 2) * 2048 + 1 * n.val = n.val; rw [congrFun (places t).2.2.2.2.2.2.2.2.1 1]; show 0 * 2048 + 1 * n.val = _; omega

theorem iblk_9_at (n : Fin 2048) : (iblk m c 9 t : S1x2048.Idx → EReal) (ix2 0 n) = A10 m c (ix2 0 n) := by
  rw [← V_main_v22_at m c]
  show V m c main_v22 (((cfg0.win 9).blk t).view.emb (ix2 0 n)) = _
  refine congrArg (V m c main_v22) (funext fun a => Fin.ext ?_)
  match a with
  | ⟨0, _⟩ => show win0_9.index t (0 : Fin 2) * 1 + 1 * 0 = 0; rw [congrFun (places t).2.2.2.2.2.2.2.2.2.1 0]; show 0 * 1 + 1 * 0 = _; omega
  | ⟨1, _⟩ => show win0_9.index t (1 : Fin 2) * 2048 + 1 * n.val = n.val; rw [congrFun (places t).2.2.2.2.2.2.2.2.2.1 1]; show 0 * 2048 + 1 * n.val = _; omega

theorem iblk_10_at (b : Fin 128) (n : Fin 2048) : (iblk m c 10 t : S128x2048.Idx → EReal) (ix2 b n) = A1 m c (ix3 0 b n) := by
  rw [← V_main_v23_at m c]
  show V m c main_v23 (((cfg0.win 10).blk t).view.emb (ix2 b n)) = _
  refine congrArg (V m c main_v23) (funext fun a => Fin.ext ?_)
  match a with
  | ⟨0, _⟩ => show win0_10.index t (0 : Fin 2) * 128 + 1 * b.val = b.val; rw [congrFun (places t).2.2.2.2.2.2.2.2.2.2.1 0]; show 0 * 128 + 1 * b.val = _; omega
  | ⟨1, _⟩ => show win0_10.index t (1 : Fin 2) * 2048 + 1 * n.val = n.val; rw [congrFun (places t).2.2.2.2.2.2.2.2.2.2.1 1]; show 0 * 2048 + 1 * n.val = _; omega

theorem iblk_6_at (n : Fin 2048) : (iblk m c 6 t : S1x2048.Idx → EReal) (ix2 0 n) = half * A6 m c (ix3 0 ⟨n.val / 128, by have := n.isLt; omega⟩ ⟨n.val % 128, Nat.mod_lt _ (by norm_num)⟩) := by
  rw [← halfB_at, ← V_main_v14_eq]
  show V m c main_v14 (((cfg0.win 6).blk t).view.emb (ix2 0 n)) = _
  refine congrArg (V m c main_v14) (funext fun a => Fin.ext ?_)
  match a with
  | ⟨0, _⟩ => show win0_6.index t (0 : Fin 2) * 1 + 1 * 0 = 0; rw [congrFun (places t).2.2.2.2.2.2.1 0]; show 0 * 1 + 1 * 0 = _; omega
  | ⟨1, _⟩ => show win0_6.index t (1 : Fin 2) * 2048 + 1 * n.val = n.val; rw [congrFun (places t).2.2.2.2.2.2.1 1]; show 0 * 2048 + 1 * n.val = _; omega

theorem iblk_7_at (n : Fin 2048) : (iblk m c 7 t : S1x2048.Idx → EReal) (ix2 0 n) = half * A8 m c (ix3 0 ⟨n.val / 128, by have := n.isLt; omega⟩ ⟨n.val % 128, Nat.mod_lt _ (by norm_num)⟩) := by
  rw [← halfB_at, ← V_main_v18_eq]
  show V m c main_v18 (((cfg0.win 7).blk t).view.emb (ix2 0 n)) = _
  refine congrArg (V m c main_v18) (funext fun a => Fin.ext ?_)
  match a with
  | ⟨0, _⟩ => show win0_7.index t (0 : Fin 2) * 1 + 1 * 0 = 0; rw [congrFun (places t).2.2.2.2.2.2.2.1 0]; show 0 * 1 + 1 * 0 = _; omega
  | ⟨1, _⟩ => show win0_7.index t (1 : Fin 2) * 2048 + 1 * n.val = n.val; rw [congrFun (places t).2.2.2.2.2.2.2.1 1]; show 0 * 2048 + 1 * n.val = _; omega

theorem iblk_4_at (k : Fin 16) (x j : Fin 128) : (iblk m c 4 t : S16x128x128.Idx → EReal) (ix3 k x j) = half * A5 m c (ix4 0 k x j) := by
  rw [← halfW_at, ← V_main_v6_eq]
  show V m c main_v6 (((cfg0.win 4).blk t).view.emb (ix3 k x j)) = _
  refine congrArg (V m c main_v6) (funext fun a => Fin.ext ?_)
  match a with
  | ⟨0, _⟩ => show win0_4.index t (0 : Fin 3) * 16 + 1 * k.val = k.val; rw [congrFun (places t).2.2.2.2.1 0]; show 0 * 16 + 1 * k.val = _; omega
  | ⟨1, _⟩ => show win0_4.index t (1 : Fin 3) * 128 + 1 * x.val = x.val; rw [congrFun (places t).2.2.2.2.1 1]; show 0 * 128 + 1 * x.val = _; omega
  | ⟨2, _⟩ => show win0_4.index t (2 : Fin 3) * 128 + 1 * j.val = j.val; rw [congrFun (places t).2.2.2.2.1 2]; show 0 * 128 + 1 * j.val = _; omega

theorem iblk_5_at (k : Fin 16) (x j : Fin 128) : (iblk m c 5 t : S16x128x128.Idx → EReal) (ix3 k x j) = half * A7 m c (ix4 0 k x j) := by
  rw [← halfW_at, ← V_main_v10_eq]
  show V m c main_v10 (((cfg0.win 5).blk t).view.emb (ix3 k x j)) = _
  refine congrArg (V m c main_v10) (funext fun a => Fin.ext ?_)
  match a with
  | ⟨0, _⟩ => show win0_5.index t (0 : Fin 3) * 16 + 1 * k.val = k.val; rw [congrFun (places t).2.2.2.2.2.1 0]; show 0 * 16 + 1 * k.val = _; omega
  | ⟨1, _⟩ => show win0_5.index t (1 : Fin 3) * 128 + 1 * x.val = x.val; rw [congrFun (places t).2.2.2.2.2.1 1]; show 0 * 128 + 1 * x.val = _; omega
  | ⟨2, _⟩ => show win0_5.index t (2 : Fin 3) * 128 + 1 * j.val = j.val; rw [congrFun (places t).2.2.2.2.2.1 2]; show 0 * 128 + 1 * j.val = _; omega

theorem iblk_11_at (s : Fin 3) (b : Fin 128) (n : Fin 2048) : (iblk m c 11 t : S3x128x2048.Idx → EReal) (ix3 s b n) = A2 m c (ix4 0 b s n) := by
  rw [← V_main_v25_at m c]
  show V m c main_v25 (((cfg0.win 11).blk t).view.emb (ix3 s b n)) = _
  refine congrArg (V m c main_v25) (funext fun a => Fin.ext ?_)
  match a with
  | ⟨0, _⟩ => show win0_11.index t (0 : Fin 3) * 3 + 1 * s.val = s.val; rw [congrFun (places t).2.2.2.2.2.2.2.2.2.2.2.1 0]; show 0 * 3 + 1 * s.val = _; omega
  | ⟨1, _⟩ => show win0_11.index t (1 : Fin 3) * 128 + 1 * b.val = b.val; rw [congrFun (places t).2.2.2.2.2.2.2.2.2.2.2.1 1]; show 0 * 128 + 1 * b.val = _; omega
  | ⟨2, _⟩ => show win0_11.index t (2 : Fin 3) * 2048 + 1 * n.val = n.val; rw [congrFun (places t).2.2.2.2.2.2.2.2.2.2.2.1 2]; show 0 * 2048 + 1 * n.val = _; omega

end

end Cert.Proof.LruSlab

end
-- ==== Proof.SlabRef.lean ====
/-
  The reference, element by element: the convolved inputs, the two gates, the decay and the states as numbers.
-/
module

public import proofs.«01_k».proof.Proof.Gen.ReferenceIdeal.Read
public import proofs.«01_k».proof.Proof.SlabRead
public import Idealize.ShloMosaic.Lib.Pointwise

@[expose] public section

set_option maxRecDepth 16384

noncomputable section

namespace Cert.Proof.LruSlab

open Idealize.ShloMosaic Idealize.ShloMosaic.TcCoe Idealize.SL.Sem
open Cert.ReferenceIdeal Cert.ReferenceIdeal.Read
open Cert.KernelIdeal.Gen.Slab (headOf laneOf col)

variable (x0 : (⟨S5x128x9216, .f32⟩ : BufTy).Contents (Elt Ideal)) (x1 : (⟨S1x128x2048, .f32⟩ : BufTy).Contents (Elt Ideal))
  (x2 : (⟨S1x128x3x2048, .f32⟩ : BufTy).Contents (Elt Ideal)) (x3 : (⟨S1x4x2048, .f32⟩ : BufTy).Contents (Elt Ideal))
  (x4 : (⟨S1x2048, .f32⟩ : BufTy).Contents (Elt Ideal)) (x5 : (⟨S1x16x128x128, .f32⟩ : BufTy).Contents (Elt Ideal))
  (x6 : (⟨S1x16x128, .f32⟩ : BufTy).Contents (Elt Ideal)) (x7 : (⟨S1x16x128x128, .f32⟩ : BufTy).Contents (Elt Ideal))
  (x8 : (⟨S1x16x128, .f32⟩ : BufTy).Contents (Elt Ideal)) (x9 x10 : (⟨S1x2048, .f32⟩ : BufTy).Contents (Elt Ideal))

/-- Column `n` of the input columns. -/
abbrev inCol (n : Fin 2048) : Fin 9216 := ⟨2048 + n.val, by have := n.isLt; omega⟩

/-- The convolution's inputs in order. -/
def extR (b : Fin 128) (n : Fin 2048) : ℕ → EReal
  | 0 => x2 (ix4 0 b 0 n)
  | 1 => x2 (ix4 0 b 1 n)
  | 2 => x2 (ix4 0 b 2 n)
  | 3 => x0 (ix3 0 b (inCol n))
  | 4 => x0 (ix3 1 b (inCol n))
  | 5 => x0 (ix3 2 b (inCol n))
  | _ => x0 (ix3 3 b (inCol n))

/-- The convolved input of step `s`. -/
def convR (b : Fin 128) (n : Fin 2048) (s : ℕ) : EReal :=
  x4 (ix2 0 n) + extR x0 x2 b n s * x3 (ix3 0 0 n) + extR x0 x2 b n (s + 1) * x3 (ix3 0 1 n)
    + extR x0 x2 b n (s + 2) * x3 (ix3 0 2 n) + extR x0 x2 b n (s + 3) * x3 (ix3 0 3 n)

/-- A gate's argument. -/
def argR (wt : (⟨S1x16x128x128, .f32⟩ : BufTy).Contents (Elt Ideal)) (bt : (⟨S1x16x128, .f32⟩ : BufTy).Contents (Elt Ideal))
    (b : Fin 128) (n : Fin 2048) (s : ℕ) : EReal :=
  (∑ x : Fin 128, convR x0 x2 x3 x4 b (col (headOf n) x) s * wt (ix4 0 (headOf n) x (laneOf n))) + bt (ix3 0 (headOf n) (laneOf n))

/-- The softplus of the negated parameter. -/
def softplus (l : EReal) : EReal := max (-l) 0 + Ideal.log1p (Ideal.exp (-(max (-l) (-(-l)))))

/-- The hidden state after `s` steps. -/
def stateR (b : Fin 128) (n : Fin 2048) : ℕ → EReal
  | 0 => x1 (ix3 0 b n)
  | s + 1 => stepR (softplus (x9 (ix2 0 n))) (stateR b n s) (convR x0 x2 x3 x4 b n s) (argR x0 x2 x3 x4 x5 x6 b n s) (argR x0 x2 x3 x4 x7 x8 b n s)

/-- The gated output of step `s`. -/
def gatedR (s : Fin 4) (b : Fin 128) (n : Fin 2048) : EReal :=
  stateR x0 x1 x2 x3 x4 x5 x6 x7 x8 x9 b n (s.val + 1) * x0 (ix3 ⟨s.val, by have := s.isLt; omega⟩ b ⟨n.val, by have := n.isLt; omega⟩)

theorem v4_at (t : Fin 7) (b : Fin 128) (n : Fin 2048) : val_main_v4 (F := Ideal) x0 x2 (ix3 t b n)
    = if h : t.val < 3 then x2 (ix4 0 b ⟨t.val, h⟩ n) else x0 (ix3 ⟨t.val - 3, by omega⟩ b ⟨2048 + n.val, by omega⟩) := by
  unfold val_main_v4 val_main_v3 val_main_v2 val_main_v1
  pointwise

theorem v4_ext (t : Fin 7) (b : Fin 128) (n : Fin 2048) : val_main_v4 (F := Ideal) x0 x2 (ix3 t b n) = extR x0 x2 b n t.val := by
  rw [v4_at]
  match t with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

theorem v36_at (s : Fin 4) (b : Fin 128) (n : Fin 2048) : val_main_v36 (F := Ideal) x0 x2 x3 x4 (ix3 s b n) = convR x0 x2 x3 x4 b n s.val := by
  unfold convR
  rw [Nat.add_comm s.val 1, Nat.add_comm s.val 2, Nat.add_comm s.val 3]
  simp only [← v4_ext x0 x2 ⟨s.val, by omega⟩ b n, ← v4_ext x0 x2 ⟨1 + s.val, by omega⟩ b n, ← v4_ext x0 x2 ⟨2 + s.val, by omega⟩ b n,
    ← v4_ext x0 x2 ⟨3 + s.val, by omega⟩ b n]
  unfold val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5
  generalize val_main_v4 (F := Ideal) x0 x2 = e
  pointwise

theorem v51_at (s : Fin 4) (b : Fin 128) (n : Fin 2048) :
    val_main_v51 (F := Ideal) x0 x2 x3 x4 x5 x6 (ix3 s b n) = logistic (argR x0 x2 x3 x4 x5 x6 b n s.val) := by
  have e : ∀ x : Fin 128, convR x0 x2 x3 x4 b (col (headOf n) x) s.val * x5 (ix4 0 (headOf n) x (laneOf n))
      = x5 (ix4 0 (headOf n) x (laneOf n)) * val_main_v36 (F := Ideal) x0 x2 x3 x4 (ix3 s b ⟨n.val / 128 * 128 + x.val, by have := n.isLt; have := x.isLt; omega⟩) := by
    intro x
    rw [v36_at, mul_comm]
    refine congrArg (fun n' => x5 (ix4 0 (headOf n) x (laneOf n)) * convR x0 x2 x3 x4 b n' s.val) (Fin.ext ?_)
    show 128 * (n.val / 128) + x.val = n.val / 128 * 128 + x.val
    omega
  unfold argR
  simp only [e]
  unfold logistic headOf laneOf val_main_v51 val_main_v50 val_main_v49 val_main_v48 val_main_v47 val_main_v46 val_main_v45 val_main_v44 val_main_v43 val_main_v42 val_main_v41 val_main_v40 val_main_v39 val_main_v38 val_main_v37 val_main_cst val_main_cst_0
  generalize val_main_v36 (F := Ideal) x0 x2 x3 x4 = y
  pointwise

theorem v65_at (s : Fin 4) (b : Fin 128) (n : Fin 2048) :
    val_main_v65 (F := Ideal) x0 x2 x3 x4 x7 x8 (ix3 s b n) = logistic (argR x0 x2 x3 x4 x7 x8 b n s.val) := by
  have e : ∀ x : Fin 128, convR x0 x2 x3 x4 b (col (headOf n) x) s.val * x7 (ix4 0 (headOf n) x (laneOf n))
      = x7 (ix4 0 (headOf n) x (laneOf n)) * val_main_v36 (F := Ideal) x0 x2 x3 x4 (ix3 s b ⟨n.val / 128 * 128 + x.val, by have := n.isLt; have := x.isLt; omega⟩) := by
    intro x
    rw [v36_at, mul_comm]
    refine congrArg (fun n' => x7 (ix4 0 (headOf n) x (laneOf n)) * convR x0 x2 x3 x4 b n' s.val) (Fin.ext ?_)
    show 128 * (n.val / 128) + x.val = n.val / 128 * 128 + x.val
    omega
  unfold argR
  simp only [e]
  unfold logistic headOf laneOf val_main_v65 val_main_v64 val_main_v63 val_main_v62 val_main_v61 val_main_v60 val_main_v59 val_main_v58 val_main_v57 val_main_v56 val_main_v55 val_main_v54 val_main_v53 val_main_v52 val_main_v37 val_main_cst_1 val_main_cst_2
  generalize val_main_v36 (F := Ideal) x0 x2 x3 x4 = y
  pointwise

theorem v73_at (s : Fin 4) (b : Fin 128) (n : Fin 2048) :
    val_main_v73 (F := Ideal) x0 x2 x3 x4 x5 x6 x9 (ix3 s b n) = logA (softplus (x9 (ix2 0 n))) (argR x0 x2 x3 x4 x5 x6 b n s.val) := by
  unfold logA softplus
  rw [← v51_at]
  unfold val_main_v73 val_main_v72 val_main_v71 val_main_v70 val_main_call0_v11 val_main_call0_v10 val_main_call0_v9 val_main_call0_v8 val_main_call0_v7 val_main_call0_v6 val_main_call0_v5 val_main_call0_v4 val_main_call0_v3 val_main_call0_v2 val_main_call0_v1 val_main_call0_v0 val_main_call0_cst val_main_v69 val_main_v68 val_main_v67 val_main_v66 val_main_cst_3
  generalize val_main_v51 (F := Ideal) x0 x2 x3 x4 x5 x6 = y
  pointwise
  rw [if_neg (fun h => h rfl)]
  rfl

theorem v88_at (b : Fin 128) (n : Fin 2048) :
    val_main_v88 (F := Ideal) x0 x1 x2 x3 x4 x5 x6 x7 x8 x9 (ix2 b n) = stateR x0 x1 x2 x3 x4 x5 x6 x7 x8 x9 b n 1 := by
  show _ = stepR (softplus (x9 (ix2 0 n))) (stateR x0 x1 x2 x3 x4 x5 x6 x7 x8 x9 b n 0) (convR x0 x2 x3 x4 b n ((0 : Fin 4)).val)
    (argR x0 x2 x3 x4 x5 x6 b n ((0 : Fin 4)).val) (argR x0 x2 x3 x4 x7 x8 b n ((0 : Fin 4)).val)
  unfold stepR
  rw [← v73_at, ← v65_at, ← v36_at]
  unfold val_main_v88 val_main_v87 val_main_v86 val_main_v85 val_main_v84 val_main_v83 val_main_v82 val_main_v81 val_main_v80 val_main_v79 val_main_v78 val_main_v77 val_main_v76 val_main_v75 val_main_v74 val_main_cst_4
  generalize val_main_v73 (F := Ideal) x0 x2 x3 x4 x5 x6 x9 = y73
  generalize val_main_v65 (F := Ideal) x0 x2 x3 x4 x7 x8 = y65
  generalize val_main_v36 (F := Ideal) x0 x2 x3 x4 = y36
  pointwise
  rfl

theorem v94_at (b : Fin 128) (n : Fin 2048) :
    val_main_v94 (F := Ideal) x0 x1 x2 x3 x4 x5 x6 x7 x8 x9 (ix2 b n) = stateR x0 x1 x2 x3 x4 x5 x6 x7 x8 x9 b n 2 := by
  show _ = stepR (softplus (x9 (ix2 0 n))) (stateR x0 x1 x2 x3 x4 x5 x6 x7 x8 x9 b n 1) (convR x0 x2 x3 x4 b n ((1 : Fin 4)).val)
    (argR x0 x2 x3 x4 x5 x6 b n ((1 : Fin 4)).val) (argR x0 x2 x3 x4 x7 x8 b n ((1 : Fin 4)).val)
  unfold stepR
  rw [← v73_at, ← v65_at, ← v36_at, ← v88_at]
  unfold val_main_v94 val_main_v93 val_main_v92 val_main_v91 val_main_v90 val_main_v89 val_main_v81 val_main_v80 val_main_v79 val_main_v78 val_main_v77 val_main_v76 val_main_v75 val_main_v74 val_main_cst_4
  generalize val_main_v73 (F := Ideal) x0 x2 x3 x4 x5 x6 x9 = y73
  generalize val_main_v65 (F := Ideal) x0 x2 x3 x4 x7 x8 = y65
  generalize val_main_v36 (F := Ideal) x0 x2 x3 x4 = y36
  generalize val_main_v88 (F := Ideal) x0 x1 x2 x3 x4 x5 x6 x7 x8 x9 = h
  pointwise

theorem v100_at (b : Fin 128) (n : Fin 2048) :
    val_main_v100 (F := Ideal) x0 x1 x2 x3 x4 x5 x6 x7 x8 x9 (ix2 b n) = stateR x0 x1 x2 x3 x4 x5 x6 x7 x8 x9 b n 3 := by
  show _ = stepR (softplus (x9 (ix2 0 n))) (stateR x0 x1 x2 x3 x4 x5 x6 x7 x8 x9 b n 2) (convR x0 x2 x3 x4 b n ((2 : Fin 4)).val)
    (argR x0 x2 x3 x4 x5 x6 b n ((2 : Fin 4)).val) (argR x0 x2 x3 x4 x7 x8 b n ((2 : Fin 4)).val)
  unfold stepR
  rw [← v73_at, ← v65_at, ← v36_at, ← v94_at]
  unfold val_main_v100 val_main_v99 val_main_v98 val_main_v97 val_main_v96 val_main_v95 val_main_v81 val_main_v80 val_main_v79 val_main_v78 val_main_v77 val_main_v76 val_main_v75 val_main_v74 val_main_cst_4
  generalize val_main_v73 (F := Ideal) x0 x2 x3 x4 x5 x6 x9 = y73
  generalize val_main_v65 (F := Ideal) x0 x2 x3 x4 x7 x8 = y65
  generalize val_main_v36 (F := Ideal) x0 x2 x3 x4 = y36
  generalize val_main_v94 (F := Ideal) x0 x1 x2 x3 x4 x5 x6 x7 x8 x9 = h
  pointwise

theorem v106_at (b : Fin 128) (n : Fin 2048) :
    val_main_v106 (F := Ideal) x0 x1 x2 x3 x4 x5 x6 x7 x8 x9 (ix2 b n) = stateR x0 x1 x2 x3 x4 x5 x6 x7 x8 x9 b n 4 := by
  show _ = stepR (softplus (x9 (ix2 0 n))) (stateR x0 x1 x2 x3 x4 x5 x6 x7 x8 x9 b n 3) (convR x0 x2 x3 x4 b n ((3 : Fin 4)).val)
    (argR x0 x2 x3 x4 x5 x6 b n ((3 : Fin 4)).val) (argR x0 x2 x3 x4 x7 x8 b n ((3 : Fin 4)).val)
  unfold stepR
  rw [← v73_at, ← v65_at, ← v36_at, ← v100_at]
  unfold val_main_v106 val_main_v105 val_main_v104 val_main_v103 val_main_v102 val_main_v101 val_main_v81 val_main_v80 val_main_v79 val_main_v78 val_main_v77 val_main_v76 val_main_v75 val_main_v74 val_main_cst_4
  generalize val_main_v73 (F := Ideal) x0 x2 x3 x4 x5 x6 x9 = y73
  generalize val_main_v65 (F := Ideal) x0 x2 x3 x4 x7 x8 = y65
  generalize val_main_v36 (F := Ideal) x0 x2 x3 x4 = y36
  generalize val_main_v100 (F := Ideal) x0 x1 x2 x3 x4 x5 x6 x7 x8 x9 = h
  pointwise

theorem v111_at (s : Fin 4) (b : Fin 128) (n : Fin 2048) :
    val_main_v111 (F := Ideal) x0 x1 x2 x3 x4 x5 x6 x7 x8 x9 (ix3 s b n) = stateR x0 x1 x2 x3 x4 x5 x6 x7 x8 x9 b n (s.val + 1) := by
  unfold val_main_v111 val_main_v110 val_main_v109 val_main_v108 val_main_v107
  pointwise
  match s with
  | ⟨0, _⟩ => exact v88_at x0 x1 x2 x3 x4 x5 x6 x7 x8 x9 b n
  | ⟨1, _⟩ => exact v94_at x0 x1 x2 x3 x4 x5 x6 x7 x8 x9 b n
  | ⟨2, _⟩ => exact v100_at x0 x1 x2 x3 x4 x5 x6 x7 x8 x9 b n
  | ⟨3, _⟩ => exact v106_at x0 x1 x2 x3 x4 x5 x6 x7 x8 x9 b n

theorem v127_at (s : Fin 4) (b : Fin 128) (n : Fin 2048) :
    val_main_v127 (F := Ideal) x0 x1 x2 x3 x4 x5 x6 x7 x8 x9 x10 (ix3 s b n)
      = gatedR x0 x1 x2 x3 x4 x5 x6 x7 x8 x9 s b n * invRms (gatedR x0 x1 x2 x3 x4 x5 x6 x7 x8 x9 s b) * x10 (ix2 0 n) := by
  unfold invRms gatedR
  simp only [← v111_at]
  unfold val_main_v127 val_main_v126 val_main_v125 val_main_v124 val_main_v123 val_main_v122 val_main_v121 val_main_v120 val_main_v119 val_main_v118 val_main_v117 val_main_v116 val_main_v115 val_main_v114 val_main_v113 val_main_v112 val_main_v0 val_main_cst_5 val_main_cst_6 val_main_cst_7
  generalize val_main_v111 (F := Ideal) x0 x1 x2 x3 x4 x5 x6 x7 x8 x9 = y
  pointwise

theorem v128_at (t : Fin 3) (b : Fin 128) (n : Fin 2048) :
    val_main_v128 (F := Ideal) x0 x2 (ix3 t b n) = x0 (ix3 ⟨t.val + 1, by have := t.isLt; omega⟩ b (inCol n)) := by
  have e : val_main_v128 (F := Ideal) x0 x2 (ix3 t b n) = val_main_v4 (F := Ideal) x0 x2 (ix3 ⟨4 + t.val, by have := t.isLt; omega⟩ b n) := by
    unfold val_main_v128
    generalize val_main_v4 (F := Ideal) x0 x2 = y
    pointwise
  rw [e, v4_ext]
  match t with
  | ⟨0, _⟩ => rfl
  | ⟨1, _⟩ => rfl
  | ⟨2, _⟩ => rfl

end Cert.Proof.LruSlab

end
-- ==== Proof.LruSlab.lean ====
/-
  The slab kernel's three results are the reference's: the blocks of the kernel's one point give it the reference's
  convolved inputs, half of its gates' arguments and its rate, so the states, the outputs and the new past inputs agree.
-/
module

public import proofs.«01_k».proof.Defs
public import proofs.«01_k».proof.Proof.Gen.ReferenceIdeal.Run
public import proofs.«01_k».proof.Proof.Gen.Pre_finite_lambda
public import proofs.«01_k».proof.Proof.SlabOut
public import proofs.«01_k».proof.Proof.SlabBlocks
public import proofs.«01_k».proof.Proof.SlabRef
public import Idealize.ShloMosaic.Lib.Quiescent

@[expose] public section

set_option maxRecDepth 16384

noncomputable section

namespace Cert.Proof.LruSlab

open Idealize.ShloMosaic Idealize.ShloMosaic.TcCoe Idealize.SL.Sem

section
open Cert.KernelIdeal Cert.KernelIdeal.Gen Cert.KernelIdeal.Gen.Slab

variable (m : (ℓ : Loc nD τ sig) → Buf (Elt Ideal) ℓ) (ρ : Dev nD → PrngReg) (c : Dev nD)

/-! ## The point's values are the reference's -/

theorem ext_eq (b : Fin 128) (n : Fin 2048) (s : ℕ) : extV (given m c pt) b n s = extR (A0 m c) (A2 m c) b n s := by
  match s with
  | 0 => exact iblk_11_at m c pt 0 b n
  | 1 => exact iblk_11_at m c pt 1 b n
  | 2 => exact iblk_11_at m c pt 2 b n
  | 3 => exact X0_1_at m c pt 0 b n
  | 4 => exact X0_1_at m c pt 1 b n
  | 5 => exact X0_1_at m c pt 2 b n
  | _ + 6 => exact X0_1_at m c pt 3 b n

theorem conv_eq (b : Fin 128) (n : Fin 2048) (s : ℕ) :
    convV (given m c pt) b n s = convR (A0 m c) (A2 m c) (A3 m c) (A4 m c) b n s := by
  have h : ∀ j : Fin 4, (given m c pt).taps.val (ix2 j n) = A3 m c (ix3 0 j n) := fun j => iblk_2_at m c pt j n
  have h' : (given m c pt).bias.val (ix2 0 n) = A4 m c (ix2 0 n) := iblk_3_at m c pt n
  unfold convV convR
  simp only [ext_eq, h, h']

theorem argA_eq (b : Fin 128) (n : Fin 2048) (s : ℕ) :
    argV (given m c pt) (given m c pt).wa (given m c pt).ba b n s = half * argR (A0 m c) (A2 m c) (A3 m c) (A4 m c) (A5 m c) (A6 m c) b n s := by
  have h : ∀ x : Fin 128, (given m c pt).wa.val (ix3 (headOf n) x (laneOf n)) = half * A5 m c (ix4 0 (headOf n) x (laneOf n)) :=
    fun x => iblk_4_at m c pt (headOf n) x (laneOf n)
  have h' : (given m c pt).ba.val (ix2 0 n) = half * A6 m c (ix3 0 (headOf n) (laneOf n)) := iblk_6_at m c pt n
  unfold argV argR
  simp only [conv_eq, h, h']
  exact half_dot _ _ _

theorem argX_eq (b : Fin 128) (n : Fin 2048) (s : ℕ) :
    argV (given m c pt) (given m c pt).wx (given m c pt).bx b n s = half * argR (A0 m c) (A2 m c) (A3 m c) (A4 m c) (A7 m c) (A8 m c) b n s := by
  have h : ∀ x : Fin 128, (given m c pt).wx.val (ix3 (headOf n) x (laneOf n)) = half * A7 m c (ix4 0 (headOf n) x (laneOf n)) :=
    fun x => iblk_5_at m c pt (headOf n) x (laneOf n)
  have h' : (given m c pt).bx.val (ix2 0 n) = half * A8 m c (ix3 0 (headOf n) (laneOf n)) := iblk_7_at m c pt n
  unfold argV argR
  simp only [conv_eq, h, h']
  exact half_dot _ _ _

/-- The reference's states over this memory's arguments. -/
abbrev stateM (b : Fin 128) (n : Fin 2048) (s : ℕ) : EReal :=
  stateR (A0 m c) (A1 m c) (A2 m c) (A3 m c) (A4 m c) (A5 m c) (A6 m c) (A7 m c) (A8 m c) (A9 m c) b n s

abbrev gatedM (s : Fin 4) (b : Fin 128) (n : Fin 2048) : EReal :=
  gatedR (A0 m c) (A1 m c) (A2 m c) (A3 m c) (A4 m c) (A5 m c) (A6 m c) (A7 m c) (A8 m c) (A9 m c) s b n

/-- The decay's parameter is finite. -/
def Finite : Prop := ∀ n : Fin 2048, IsReal (A9 m c (ix2 0 n))

theorem stateM_eq (hf : Finite m c) (b : Fin 128) (n : Fin 2048) (s : ℕ) : stateV (given m c pt) b n s = stateM m c b n s := by
  obtain ⟨l, hl⟩ := hf n
  obtain ⟨sp, hsp, e⟩ := softplus_coe l
  have el : (given m c pt).lam.val (ix2 0 n) = (l : EReal) := (iblk_8_at m c pt n).trans hl
  have es : softplus (A9 m c (ix2 0 n)) = (sp : EReal) := by rw [hl]; exact e
  have er : rateV (l : EReal) = Ideal.ofBits .f32 0x40800000#32 * (sp : EReal) := by unfold rateV; rw [e]
  induction s with
  | zero => exact iblk_10_at m c pt b n
  | succ s ih =>
    rw [stateV_succ, ih, el, er, conv_eq, argA_eq, argX_eq, step_eq hsp, ← es]
    rfl

theorem gatedM_eq (hf : Finite m c) (s : Fin 4) (b : Fin 128) (n : Fin 2048) : gatedV (given m c pt) s b n = gatedM m c s b n :=
  congrArg₂ (· * ·) (stateM_eq m c hf b n (s.val + 1)) (X0_0_at m c pt s b n)

/-! ## The run -/

/-- The normed outputs. -/
def result0 : Buf (Elt Ideal) ((c : Thread nD τ).loc main_v26_0) := resO (given m c pt)

/-- The last hidden state. -/
def result1 : Buf (Elt Ideal) ((c : Thread nD τ).loc main_v26_1) := resH (given m c pt)

/-- The convolution's new past inputs. -/
def result2 : Buf (Elt Ideal) ((c : Thread nD τ).loc main_v26_2) := resT (given m c pt)

/-- What the precondition says. -/
theorem finite_of_pre (h : Cert.Pre_KernelIdeal_finite_lambda m) : Finite m c := fun n =>
  isReal_of_lt ofBits_inf (congrFun (h c) (ix2 0 n))

end

/-- The kernel's three results are the reference's. -/
theorem algebraic : Cert.algebraic_KernelIdeal_ReferenceIdeal_pre_finite_lambda := by
  intro m ρ m' ρ' hpre hagree
  have hf := fun c => finite_of_pre m c hpre
  refine ⟨fun c => result0 m c, fun c => result1 m c, fun c => result2 m c,
    (θ_run _ _ _).mono (fun _ h c => ⟨(h c).1.trans (finalO m c), (h c).2.1.trans (finalH m c), (h c).2.2.1.trans (finalT m c), (h c).2.2.2⟩)
      (Cert.KernelIdeal.Value.run_blocks (F := Ideal) m ρ),
    (θ_run _ _ _).mono (fun _ h c => ⟨(h c).1.trans ?_, (h c).2.1.trans ?_, (h c).2.2.1.trans ?_, (h c).2.2.2⟩)
      (Cert.ReferenceIdeal.Value.run (F := Ideal) m' ρ')⟩
  all_goals obtain ⟨a0, a1, a2, a3, a4, a5, a6, a7, a8, a9, a10⟩ :
      StableHlo.launchContents m' c (Proc.devRef .tc Cert.ReferenceIdeal.main_arg0) = A0 m c
      ∧ StableHlo.launchContents m' c (Proc.devRef .tc Cert.ReferenceIdeal.main_arg1) = A1 m c
      ∧ StableHlo.launchContents m' c (Proc.devRef .tc Cert.ReferenceIdeal.main_arg2) = A2 m c
      ∧ StableHlo.launchContents m' c (Proc.devRef .tc Cert.ReferenceIdeal.main_arg3) = A3 m c
      ∧ StableHlo.launchContents m' c (Proc.devRef .tc Cert.ReferenceIdeal.main_arg4) = A4 m c
      ∧ StableHlo.launchContents m' c (Proc.devRef .tc Cert.ReferenceIdeal.main_arg5) = A5 m c
      ∧ StableHlo.launchContents m' c (Proc.devRef .tc Cert.ReferenceIdeal.main_arg6) = A6 m c
      ∧ StableHlo.launchContents m' c (Proc.devRef .tc Cert.ReferenceIdeal.main_arg7) = A7 m c
      ∧ StableHlo.launchContents m' c (Proc.devRef .tc Cert.ReferenceIdeal.main_arg8) = A8 m c
      ∧ StableHlo.launchContents m' c (Proc.devRef .tc Cert.ReferenceIdeal.main_arg9) = A9 m c
      ∧ StableHlo.launchContents m' c (Proc.devRef .tc Cert.ReferenceIdeal.main_arg10) = A10 m c := hagree c
  · rw [Cert.ReferenceIdeal.Read.val_main_v127_eq, a0, a1, a2, a3, a4, a5, a6, a7, a8, a9, a10]
    funext j
    obtain ⟨s, b, n, rfl⟩ := Cert.KernelIdeal.Gen.Slab.eta3 (p := 4) (q := 128) (r := 2048) j
    refine (v127_at _ _ _ _ _ _ _ _ _ _ _ s b n).trans ?_
    show _ = Cert.KernelIdeal.Gen.Slab.gatedV (given m c pt) s b n * invRms (Cert.KernelIdeal.Gen.Slab.gatedV (given m c pt) s b)
      * (given m c pt).g.val (ix2 0 n)
    rw [show Cert.KernelIdeal.Gen.Slab.gatedV (given m c pt) s b = gatedM m c s b from funext fun n => gatedM_eq m c (hf c) s b n,
      show (given m c pt).g.val (ix2 0 n) = A10 m c (ix2 0 n) from iblk_9_at m c pt n]
  · rw [Cert.ReferenceIdeal.Read.val_main_v106_eq, a0, a1, a2, a3, a4, a5, a6, a7, a8, a9]
    funext j
    obtain ⟨b, n, rfl⟩ := Cert.KernelIdeal.Gen.Slab.eta2 (p := 128) (q := 2048) j
    exact (v106_at _ _ _ _ _ _ _ _ _ _ b n).trans (stateM_eq m c (hf c) b n 4).symm
  · rw [Cert.ReferenceIdeal.Read.val_main_v128_eq, a0, a2]
    funext j
    obtain ⟨t, b, n, rfl⟩ := Cert.KernelIdeal.Gen.Slab.eta3 (p := 3) (q := 128) (r := 2048) j
    refine (v128_at _ _ t b n).trans ?_
    exact (X0_1_at m c pt (Fin.succ (n := 3) t) b n).symm

/-- The reference runs, leaves its arguments, and has no semaphore. -/
theorem frame_ref : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

end Cert.Proof.LruSlab

end
-- ==== Proof.MlpUp.lean ====
/-
  The first product of the MLP. The kernel walks a grid of 8 row blocks by 4 column blocks; at the first column block of
  a row block it normalises the 1024 rows into a scratch, and at every point it multiplies the scratch by 2048 columns of
  the weight and writes the squared positive part. This file says what the result array ends holding (`result_run`), and
  that it is the reference's result (`algebraic`).
-/
module

public import proofs.«01_k».proof.Defs
public import proofs.«01_k».proof.Proof.Gen.MlpUpIdeal.Value
public import proofs.«01_k».proof.Proof.Gen.MlpUpRefIdeal.Run
public import proofs.«01_k».proof.Proof.Gen.MlpUpRefIdeal.Read
public import proofs.«01_k».proof.Proof.Rms
public import Idealize.ShloMosaic.Lib.Pipeline.Value
public import Idealize.ShloMosaic.Lib.Pointwise
public import Idealize.ShloMosaic.Lib.Quiescent

@[expose] public section

set_option maxRecDepth 16384

noncomputable section

namespace Cert.Proof.MlpUp

open Idealize.ShloMosaic Idealize.ShloMosaic.TcCoe Idealize.SL.Sem
open Cert.MlpUpIdeal Cert.MlpUpIdeal.Gen
open Idealize.ShloMosaic.Pipeline (Dat)

/-! ## The numbers -/

/-- What the first column block stores into the scratch. -/
theorem pay1_at (X : Vec Ideal S1024x2048 .f32) (g : Vec Ideal S1x2048 .f32) (r : Fin 1024) (k : Fin 2048) :
    k0_pay1 (F := Ideal) X g (ix2 r k) = X (ix2 r k) * invRms (fun k => X (ix2 r k)) * g (ix2 0 k) := by
  unfold k0_pay1 invRms
  pointwise

/-- What every point stores into its block of the result. -/
theorem pay2_at (X : Vec Ideal S1024x2048 .bf16) (w : Vec Ideal S2048x2048 .bf16) (r : Fin 1024) (q : Fin 2048) :
    k0_pay2 (F := Ideal) X w (ix2 r q)
      = max (∑ k, X (ix2 r k) * w (ix2 k q)) 0 * max (∑ k, X (ix2 r k) * w (ix2 k q)) 0 := by
  unfold k0_pay2
  pointwise

section
open Cert.MlpUpRefIdeal.Read

/-- The reference's result, element by element. -/
theorem ref_at (x0 : (⟨S8192x2048, .f32⟩ : BufTy).Contents (Elt Ideal)) (x1 : (⟨S1x2048, .f32⟩ : BufTy).Contents (Elt Ideal))
    (x2 : (⟨S1x2048x8192, .f32⟩ : BufTy).Contents (Elt Ideal)) (r q : Fin 8192) :
    val_main_v18 (F := Ideal) x0 x1 x2 (ix2 r q)
      = hidden (fun k => x0 (ix2 r k)) (fun k => x1 (ix2 0 k)) (fun k => x2 (ix3 0 k q)) := by
  unfold hidden invRms val_main_v18 val_main_v17 val_main_v16 val_main_v15 val_main_v14 val_main_v13 val_main_v12
    val_main_v11 val_main_v10 val_main_v9 val_main_v8 val_main_v7 val_main_v6 val_main_v5 val_main_v4 val_main_v3
    val_main_v2 val_main_v1 val_main_v0 val_main_cst val_main_cst_0 val_main_cst_1 val_main_call0_v0 val_main_call0_cst
  pointwise
end

/-! ## What each point leaves -/

section
variable {F : FTy → Type} [FloatOps F]
variable (m : (ℓ : Loc nD τ sig) → Buf (Elt F) ℓ) (ρ : Dev nD → PrngReg) (c : Dev nD)

theorem hz : (![0, 0] : Fin 2 → Nat) = fun _ => 0 := funext fun a => match a with | 0 => rfl | 1 => rfl

/-- The first column block leaves the normalised rows in the scratch. -/
theorem scratch_A (i : grid0.Coords) (a2 : Memref sig .tc .vmem S1024x2048 .f32) (h2 : a2.IsWhole) (a3 : Memref sig .tc .vmem S1x2048 .f32) (h3 : a3.IsWhole)
    (a4 : Memref sig .tc .vmem S2048x2048 .bf16) (h4 : a4.IsWhole) (a5 : Memref sig .tc .vmem S1024x2048 .bf16) (h5 : a5.IsWhole)
    (a6 : Memref sig .tc .vmem S1024x2048 .bf16) (h6 : a6.IsWhole) (hc : cond0_0 i)
    (x0 : Vec F S1024x2048 .f32) (x1 : Vec F S1x2048 .f32) (x2 : Vec F S2048x2048 .bf16) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S1024x2048) hz,
    View.ld_unit_zero (S := S1x2048) hz]

/-- The first column block leaves the product of the normalised rows it has just stored. -/
theorem out_A (i : grid0.Coords) (a2 : Memref sig .tc .vmem S1024x2048 .f32) (h2 : a2.IsWhole) (a3 : Memref sig .tc .vmem S1x2048 .f32) (h3 : a3.IsWhole)
    (a4 : Memref sig .tc .vmem S2048x2048 .bf16) (h4 : a4.IsWhole) (a5 : Memref sig .tc .vmem S1024x2048 .bf16) (h5 : a5.IsWhole)
    (a6 : Memref sig .tc .vmem S1024x2048 .bf16) (h6 : a6.IsWhole) (hc : cond0_0 i)
    (x0 : Vec F S1024x2048 .f32) (x1 : Vec F S1x2048 .f32) (x2 : Vec F S2048x2048 .bf16) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz, View.readCov_unit_zero (S := S1024x2048) _ hz]
  simp only [View.readAt_eq_ld, h2.read_unread, h3.read_unread, h4.read_unread, View.ld_unit_zero (S := S1024x2048) hz,
    View.ld_unit_zero (S := S1x2048) hz, View.ld_unit_zero (S := S2048x2048) hz]

/-- A later column block leaves the scratch as it was. -/
theorem scratch_B (i : grid0.Coords) (a2 : Memref sig .tc .vmem S1024x2048 .f32) (h2 : a2.IsWhole) (a3 : Memref sig .tc .vmem S1x2048 .f32) (h3 : a3.IsWhole)
    (a4 : Memref sig .tc .vmem S2048x2048 .bf16) (h4 : a4.IsWhole) (a5 : Memref sig .tc .vmem S1024x2048 .bf16) (h5 : a5.IsWhole)
    (a6 : Memref sig .tc .vmem S1024x2048 .bf16) (h6 : a6.IsWhole) (hc : ¬cond0_0 i)
    (x0 : Vec F S1024x2048 .f32) (x1 : Vec F S1x2048 .f32) (x2 : Vec F S2048x2048 .bf16) (s : Vec F S1024x2048 .bf16) :
    sout0_B_0 c i a2 h2 a3 h3 a4 h4 a5 h5 a6 h6 hc x0 x1 x2 s = s := by
  unfold sout0_B_0
  rfl

/-- A later column block leaves the product of the scratch. -/
theorem out_B (i : grid0.Coords) (a2 : Memref sig .tc .vmem S1024x2048 .f32) (h2 : a2.IsWhole) (a3 : Memref sig .tc .vmem S1x2048 .f32) (h3 : a3.IsWhole)
    (a4 : Memref sig .tc .vmem S2048x2048 .bf16) (h4 : a4.IsWhole) (a5 : Memref sig .tc .vmem S1024x2048 .bf16) (h5 : a5.IsWhole)
    (a6 : Memref sig .tc .vmem S1024x2048 .bf16) (h6 : a6.IsWhole) (hc : ¬cond0_0 i)
    (x0 : Vec F S1024x2048 .f32) (x1 : Vec F S1x2048 .f32) (x2 : Vec F S2048x2048 .bf16) (s : Vec F S1024x2048 .bf16) :
    out0_B_3 c i a2 h2 a3 h3 a4 h4 a5 h5 a6 h6 hc x0 x1 x2 s = k0_pay2 s x2 := by
  unfold out0_B_3
  rw [View.read_writes_eq_canon _ _ _ (cover0_B_3 c i a2 h2 a3 h3 a4 h4 a5 h5 a6 h6 hc x0 x1 x2 s)]
  unfold kernelRun0_B
  dsimp only
  sl_unfold_words
  rw [View.canon_unit_zero hz]
  simp only [View.readAt_eq_ld, h6.read_unread, h4.read_unread, View.ld_unit_zero (S := S1024x2048) hz,
    View.ld_unit_zero (S := S2048x2048) hz]

/-- Where the three moving windows stand at a point. -/
theorem places : ∀ t : Fin cfg0.N, win0_0.index t = ![t.val / 4, 0] ∧ win0_2.index t = ![0, t.val % 4] ∧ win0_3.index t = ![t.val / 4, t.val % 4] :=
  (by decide +kernel : ∀ t : Fin grid0.N, _)
theorem place1 : ∀ t : Fin cfg0.N, win0_1.index t = ![0, 0] := (by decide +kernel : ∀ t : Fin grid0.N, _)

/-- The rows' block is the same through the column blocks of a row block. -/
theorem iblk_0_at (t : Fin cfg0.N) (r : Fin 1024) (k : Fin 2048) (R : Fin 8192) (hR : R.val = 1024 * (t.val / 4) + r.val) :
    iblk m c 0 t (ix2 r k) = m ((c : Thread nD τ).loc main_arg0) (ix2 R k) := by
  show V m c main_arg0 (((cfg0.win 0).blk t).view.emb (ix2 r k)) = _
  rw [V_main_arg0]
  refine congrArg _ (funext fun a => Fin.ext ?_)
  match a with
  | ⟨0, _⟩ => show win0_0.index t (0 : Fin 2) * 1024 + 1 * r.val = R.val; rw [congrFun (places t).1 0, hR]; show t.val / 4 * 1024 + 1 * r.val = _; omega
  | ⟨1, _⟩ => show win0_0.index t (1 : Fin 2) * 2048 + 1 * k.val = k.val; rw [congrFun (places t).1 1]; show 0 * 2048 + 1 * k.val = _; omega

/-- So the normalised rows are those of the row block. -/
abbrev rows (t : Fin cfg0.N) : Vec F S1024x2048 .bf16 := k0_pay1 (iblk m c 0 t) (iblk m c 1 t)

theorem rows_eq (t t' : Fin cfg0.N) (h : t.val / 4 = t'.val / 4) : rows m c t = rows m c t' := by
  have e0 : iblk m c 0 t = iblk m c 0 t' := by
    funext j
    have ej : (j : S1024x2048.Idx) = ix2 (j 0) (j 1) := by funext a; match a with | ⟨0, _⟩ => rfl | ⟨1, _⟩ => rfl
    have hN : t.val < 32 := lt_of_lt_of_eq t.isLt N_0
    have hj : (j 0).val < 1024 := (j 0).isLt
    have a := iblk_0_at m c t (j 0) (j 1) ⟨1024 * (t.val / 4) + (j 0).val, by omega⟩ rfl
    have b := iblk_0_at m c t' (j 0) (j 1) ⟨1024 * (t.val / 4) + (j 0).val, by omega⟩ (by rw [← h])
    exact (congrArg (iblk m c 0 t) ej).trans (a.trans (b.symm.trans (congrArg (iblk m c 0 t') ej.symm)))
  have e1 : iblk m c 1 t = iblk m c 1 t' := by
    funext j
    show V m c main_v1 (((cfg0.win 1).blk t).view.emb j) = V m c main_v1 (((cfg0.win 1).blk t').view.emb j)
    refine congrArg (V m c main_v1) (funext fun a => Fin.ext ?_)
    show win0_1.index t a * S1x2048.size a + 1 * (j a).val = win0_1.index t' a * S1x2048.size a + 1 * (j a).val
    rw [place1, place1]
  unfold rows
  rw [e0, e1]

/-- After every point the scratch holds the normalised rows of its row block: stored at the first column block, kept at
    the later ones. -/
theorem scratch_eq : ∀ (n : ℕ) (h : n < cfg0.N), (outsAt0 m c n h).2 = rows m c ⟨n, h⟩
  | 0, h => by rw [outsAt0_A m c ⟨0, h⟩ rfl]; dsimp only; rw [scratch_A]
  | n + 1, h => by
    by_cases h0 : (n + 1) % 4 = 0
    · rw [outsAt0_A m c ⟨n + 1, h⟩ h0]; dsimp only; rw [scratch_A]
    · rw [outsAt0_B m c ⟨n + 1, h⟩ h0]
      dsimp only
      rw [scratch_B]
      have e := scratch_eq n (Nat.lt_of_succ_lt h)
      exact e.trans (rows_eq m c _ _ (by show n / 4 = (n + 1) / 4; omega))

/-- What every point leaves in its block of the result. -/
theorem out_eq (t : Fin cfg0.N) : (outsAt0 m c t.val t.isLt).1 = k0_pay2 (rows m c t) (iblk m c 2 t) := by
  by_cases h0 : t.val % 4 = 0
  · rw [outsAt0_A m c t h0]; dsimp only; rw [out_A]
  · have e := scratch_eq m c t.val t.isLt
    rw [outsAt0_B m c t h0] at e ⊢
    dsimp only at e ⊢
    rw [scratch_B] at e
    rw [out_B, e]

end

section
variable (m : (ℓ : Loc nD τ sig) → Buf (Elt Ideal) ℓ) (ρ : Dev nD → PrngReg) (c : Dev nD)

/-- The three arguments. -/
abbrev X : S8192x2048.Idx → EReal := m ((c : Thread nD τ).loc main_arg0)
abbrev G : S1x2048.Idx → EReal := m ((c : Thread nD τ).loc main_arg1)
abbrev W : S1x2048x8192.Idx → EReal := m ((c : Thread nD τ).loc main_arg2)

/-- The host's copy of the weight holds the weight. -/
theorem V_main_v3_at (k : Fin 2048) (q : Fin 8192) :
    (V m c main_v3 : S2048x8192.Idx → EReal) (ix2 k q) = W m c (ix3 0 k q) := by
  have e : (V m c main_v3 : S2048x8192.Idx → EReal)
      = (truncf .bf16 (shapeCast S2048x8192 (W m c) shapeCasts_S1x2048x8192_S2048x8192 : FVec Ideal S2048x8192 .f32) bitsLt_bf16_f32 : FVec Ideal S2048x8192 .bf16) := by
    unfold V hostOps0
    after_results
    rfl
  rw [e]
  pointwise

/-- The host's copy of the norm's weight holds it. -/
theorem V_main_v1_at (k : Fin 2048) :
    (V m c main_v1 : S1x2048.Idx → EReal) (ix2 0 k) = G m c (ix2 0 k) := by
  have e : (V m c main_v1 : S1x2048.Idx → EReal)
      = shapeCast S1x2048 (shapeCast S2048 (G m c) shapeCasts_S1x2048_S2048 : FVec Ideal S2048 .f32) shapeCasts_S2048_S1x2048 := by
    unfold V hostOps0
    after_results
    rfl
  rw [e]
  pointwise

theorem iblk_1_at (t : Fin cfg0.N) (k : Fin 2048) :
    (iblk m c 1 t : S1x2048.Idx → EReal) (ix2 0 k) = G m c (ix2 0 k) := by
  rw [← V_main_v1_at m c]
  show V m c main_v1 (((cfg0.win 1).blk t).view.emb (ix2 0 k)) = _
  refine congrArg (V m c main_v1) (funext fun a => Fin.ext ?_)
  match a with
  | ⟨0, _⟩ => show win0_1.index t (0 : Fin 2) * 1 + 1 * 0 = 0; rw [congrFun (place1 t) 0]; rfl
  | ⟨1, _⟩ => show win0_1.index t (1 : Fin 2) * 2048 + 1 * k.val = k.val; rw [congrFun (place1 t) 1]; show 0 * 2048 + 1 * k.val = _; omega

theorem iblk_2_at (t : Fin cfg0.N) (k q : Fin 2048) (Q : Fin 8192) (hQ : Q.val = 2048 * (t.val % 4) + q.val) :
    (iblk m c 2 t : S2048x2048.Idx → EReal) (ix2 k q) = W m c (ix3 0 k Q) := by
  rw [← V_main_v3_at m c]
  show V m c main_v3 (((cfg0.win 2).blk t).view.emb (ix2 k q)) = _
  refine congrArg (V m c main_v3) (funext fun a => Fin.ext ?_)
  match a with
  | ⟨0, _⟩ => show win0_2.index t (0 : Fin 2) * 2048 + 1 * k.val = k.val; rw [congrFun (places t).2.1 0]; show 0 * 2048 + 1 * k.val = _; omega
  | ⟨1, _⟩ => show win0_2.index t (1 : Fin 2) * 2048 + 1 * q.val = Q.val; rw [congrFun (places t).2.1 1, hQ]; show t.val % 4 * 2048 + 1 * q.val = _; omega

/-- They are the reference's normalised rows: an element depends on the row block only. -/
theorem rows_at (t : Fin cfg0.N) (r : Fin 1024) (k : Fin 2048) (R : Fin 8192) (hR : R.val = 1024 * (t.val / 4) + r.val) :
    rows m c t (ix2 r k) = X m c (ix2 R k) * invRms (fun k => X m c (ix2 R k))
      * G m c (ix2 0 k) := by
  unfold rows
  have e : ∀ k, (iblk m c 0 t : S1024x2048.Idx → EReal) (ix2 r k) = X m c (ix2 R k) := fun k => iblk_0_at m c t r k R hR
  rw [pay1_at, iblk_1_at]
  simp only [e]

/-! ## The result array -/

/-- The hidden layer of the arguments. -/
def result : Buf (Elt Ideal) ((c : Thread nD τ).loc main_v4) := fun i : S8192x8192.Idx =>
  hidden (fun k => X m c (ix2 (i 0) k))
    (fun k => G m c (ix2 0 k))
    (fun k => W m c (ix3 0 k (i 1)))

theorem flushed_eq (t : Fin cfg0.N) :
    (dats m 0 c).flushed 3 t = ((cfg0.win 3).blk t).view.read (Elt Ideal) (result m c) := by
  rw [Cert.MlpUpIdeal.Value.flushed3, out_eq]
  have hN : t.val < 32 := lt_of_lt_of_eq t.isLt N_0
  funext j
  have key : ∀ (r : Fin 1024) (q : Fin 2048), k0_pay2 (rows m c t) (iblk m c 2 t) (ix2 r q) = result m c (((cfg0.win 3).blk t).view.emb (ix2 r q)) := by
    intro r q
    have hr := r.isLt
    have hq := q.isLt
    have e : ((cfg0.win 3).blk t).view.emb (ix2 r q)
        = (ix2 (⟨1024 * (t.val / 4) + r.val, by omega⟩ : Fin 8192) (⟨2048 * (t.val % 4) + q.val, by omega⟩ : Fin 8192) : S8192x8192.Idx) := by
      funext a; apply Fin.ext
      match a with
      | ⟨0, _⟩ => show win0_3.index t (0 : Fin 2) * 1024 + 1 * r.val = 1024 * (t.val / 4) + r.val; rw [congrFun (places t).2.2 0]; show t.val / 4 * 1024 + 1 * r.val = _; omega
      | ⟨1, _⟩ => show win0_3.index t (1 : Fin 2) * 2048 + 1 * q.val = 2048 * (t.val % 4) + q.val; rw [congrFun (places t).2.2 1]; show t.val % 4 * 2048 + 1 * q.val = _; omega
    rw [e, pay2_at]
    unfold result hidden
    have e0 : ∀ k, rows m c t (ix2 r k) * (iblk m c 2 t : S2048x2048.Idx → EReal) (ix2 k q) = _ * W m c (ix3 0 k _) :=
      fun k => congrArg₂ (· * ·) (rows_at m c t r k ⟨1024 * (t.val / 4) + r.val, by omega⟩ rfl) (iblk_2_at m c t k q ⟨2048 * (t.val % 4) + q.val, by omega⟩ rfl)
    rw [Finset.sum_congr rfl fun k _ => e0 k]
    rfl
  have ej : (j : S1024x2048.Idx) = ix2 (j 0) (j 1) := by funext a; match a with | ⟨0, _⟩ => rfl | ⟨1, _⟩ => rfl
  show k0_pay2 (rows m c t) (iblk m c 2 t) j = result m c (((cfg0.win 3).blk t).view.emb j)
  rw [ej]
  exact key _ _

theorem final_eq : (dats m 0 c).arrAt 3 cfg0.N = result m c :=
  (dats m 0 c).arrAt_eq_of_cover 3 _ (fun t _ => flushed_eq m c t)
    (fun i => (Cert.MlpUpIdeal.Value.covered_iff3 i).2 (by
      have h0 : (i 0).val < 8192 := (i 0).isLt; have h1 : (i 1).val < 8192 := (i 1).isLt; omega))

/-- The kernel runs, its result array ends holding the hidden layer, and its arguments are as they were. -/
theorem result_run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_eq m c), (h c).2⟩) (Cert.MlpUpIdeal.Value.run_blocks m ρ)

end

/-- The kernel's result is the reference's. -/
theorem algebraic : Cert.algebraic_MlpUpIdeal_MlpUpRefIdeal := by
  intro m ρ m' ρ' _ hagree
  refine ⟨fun c => result m c, result_run m ρ, (θ_run _ _ _).mono (fun _ h c => ⟨(h c).1.trans ?_, (h c).2⟩)
    (Cert.MlpUpRefIdeal.Value.run (F := Ideal) m' ρ')⟩
  rw [Cert.MlpUpRefIdeal.Read.val_main_v18_eq, (hagree c).1, (hagree c).2.1, (hagree c).2.2]
  funext j
  have ej : (j : S8192x8192.Idx) = ix2 (j 0) (j 1) := by funext a; match a with | ⟨0, _⟩ => rfl | ⟨1, _⟩ => rfl
  rw [ej]
  exact ref_at _ _ _ _ _

/-- The reference runs, leaves its arguments, and has no semaphore. -/
theorem frame_ref : Cert.quiescent_MlpUpRefIdeal := fun m ρ _ =>
  (θ_run Cert.MlpUpRefIdeal.defs _ _).mono (fun r h => ⟨fun c => (h c).2, sem_eq_zero_of_no_sems (by decide) r.2⟩)
    (Cert.MlpUpRefIdeal.Value.run (F := Ideal) m ρ)

end Cert.Proof.MlpUp

end
-- ==== Proof.MlpDown.lean ====
/-
  The second product of the MLP, with the residual and the last norm. The kernel walks a grid of 8 row blocks by 8 blocks
  of the contracted axis; the output block of a row block starts as the residual, gains one partial product at every
  point, and is normalised in place at the last. This file says what the result array ends holding (`result_run`), and
  that it is the reference's result (`algebraic`).
-/
module

public import proofs.«01_k».proof.Defs
public import proofs.«01_k».proof.Proof.Gen.MlpDownIdeal.Value
public import proofs.«01_k».proof.Proof.Gen.MlpDownRefIdeal.Run
public import proofs.«01_k».proof.Proof.Gen.MlpDownRefIdeal.Read
public import proofs.«01_k».proof.Proof.Rms
public import Idealize.ShloMosaic.Lib.Pipeline.Value
public import Idealize.ShloMosaic.Lib.Pointwise
public import Idealize.ShloMosaic.Lib.Quiescent

@[expose] public section

set_option maxRecDepth 16384

noncomputable section

namespace Cert.Proof.MlpDown

open Idealize.ShloMosaic Idealize.ShloMosaic.TcCoe Idealize.SL.Sem
open Cert.MlpDownIdeal Cert.MlpDownIdeal.Gen
open Idealize.ShloMosaic.Pipeline (Dat)

/-! ## The numbers -/

/-- What a point adds to the output block. -/
theorem pay1_at (acc : Vec Ideal S1024x2048 .f32) (h : Vec Ideal S1024x1024 .bf16) (w : Vec Ideal S1024x2048 .bf16) (r : Fin 1024) (q : Fin 2048) :
    k0_pay1 (F := Ideal) acc h w (ix2 r q) = acc (ix2 r q) + ∑ k, h (ix2 r k) * w (ix2 k q) := by
  unfold k0_pay1
  pointwise

/-- What the last point of a row block makes of it. -/
theorem pay2_at (acc : Vec Ideal S1024x2048 .f32) (g : Vec Ideal S1x2048 .f32) (r : Fin 1024) (q : Fin 2048) :
    k0_pay2 (F := Ideal) acc g (ix2 r q) = acc (ix2 r q) * invRms (fun k => acc (ix2 r k)) * g (ix2 0 q) := by
  unfold k0_pay2 invRms
  pointwise

section
open Cert.MlpDownRefIdeal.Read

/-- The reference's result, element by element. -/
theorem ref_at (x0 : (⟨S8192x8192, .f32⟩ : BufTy).Contents (Elt Ideal)) (x1 : (⟨S1x8192x2048, .f32⟩ : BufTy).Contents (Elt Ideal))
    (x2 : (⟨S8192x2048, .f32⟩ : BufTy).Contents (Elt Ideal)) (x3 : (⟨S2048, .f32⟩ : BufTy).Contents (Elt Ideal)) (r : Fin 8192) (q : Fin 2048) :
    val_main_v15 (F := Ideal) x0 x1 x2 x3 (ix2 r q)
      = (x2 (ix2 r q) + ∑ k, x0 (ix2 r k) * x1 (ix3 0 k q))
        * invRms (fun q => x2 (ix2 r q) + ∑ k, x0 (ix2 r k) * x1 (ix3 0 k q)) * x3 (ix1 q) := by
  unfold invRms val_main_v15 val_main_v14 val_main_v13 val_main_v12
    val_main_v11 val_main_v10 val_main_v9 val_main_v8 val_main_v7 val_main_v6 val_main_v5 val_main_v4 val_main_v3
    val_main_v2 val_main_v1 val_main_v0 val_main_cst val_main_cst_0 val_main_cst_1
  pointwise
end

/-! ## The blocks a point reads -/

section
variable (m : (ℓ : Loc nD τ sig) → Buf (Elt Ideal) ℓ) (ρ : Dev nD → PrngReg) (c : Dev nD)

/-- The four arguments: the hidden layer, the weight, the residual and the norm's weight. -/
abbrev H : S8192x8192.Idx → EReal := m ((c : Thread nD τ).loc main_arg0)
abbrev W : S1x8192x2048.Idx → EReal := m ((c : Thread nD τ).loc main_arg1)
abbrev X : S8192x2048.Idx → EReal := m ((c : Thread nD τ).loc main_arg2)
abbrev G : S2048.Idx → EReal := m ((c : Thread nD τ).loc main_arg3)

theorem places : ∀ t : Fin cfg0.N, win0_0.index t = ![t.val / 8, t.val % 8] ∧ win0_1.index t = ![t.val % 8, 0] ∧ win0_2.index t = ![t.val / 8, 0]
    ∧ win0_3.index t = ![0, 0] ∧ win0_4.index t = ![t.val / 8, 0] := (by decide +kernel : ∀ t : Fin grid0.N, _)

theorem V_main_v0_at (i : S8192x8192.Idx) : (V m c main_v0 : S8192x8192.Idx → EReal) i = H m c i := by
  have e : (V m c main_v0 : S8192x8192.Idx → EReal) = (truncf .bf16 (H m c : FVec Ideal S8192x8192 .f32) bitsLt_bf16_f32 : FVec Ideal S8192x8192 .bf16) := by
    unfold V hostOps0
    after_results
  rw [e]
  rfl

theorem V_main_v2_at (k : Fin 8192) (q : Fin 2048) : (V m c main_v2 : S8192x2048.Idx → EReal) (ix2 k q) = W m c (ix3 0 k q) := by
  have e : (V m c main_v2 : S8192x2048.Idx → EReal)
      = (truncf .bf16 (shapeCast S8192x2048 (W m c) shapeCasts_S1x8192x2048_S8192x2048 : FVec Ideal S8192x2048 .f32) bitsLt_bf16_f32 : FVec Ideal S8192x2048 .bf16) := by
    unfold V hostOps0
    after_results
    rfl
  rw [e]
  pointwise

theorem V_main_v3_at (k : Fin 2048) : (V m c main_v3 : S1x2048.Idx → EReal) (ix2 0 k) = G m c (ix1 k) := by
  have e : (V m c main_v3 : S1x2048.Idx → EReal) = shapeCast S1x2048 (G m c) shapeCasts_S2048_S1x2048 := by
    unfold V hostOps0
    after_results
    rfl
  rw [e]
  pointwise

theorem iblk_0_at (t : Fin cfg0.N) (r k : Fin 1024) (R K : Fin 8192) (hR : R.val = 1024 * (t.val / 8) + r.val) (hK : K.val = 1024 * (t.val % 8) + k.val) :
    (iblk m c 0 t : S1024x1024.Idx → EReal) (ix2 r k) = H m c (ix2 R K) := by
  rw [← V_main_v0_at m c]
  show V m c main_v0 (((cfg0.win 0).blk t).view.emb (ix2 r k)) = _
  refine congrArg (V m c main_v0) (funext fun a => Fin.ext ?_)
  match a with
  | ⟨0, _⟩ => show win0_0.index t (0 : Fin 2) * 1024 + 1 * r.val = R.val; rw [congrFun (places t).1 0, hR]; show t.val / 8 * 1024 + 1 * r.val = _; omega
  | ⟨1, _⟩ => show win0_0.index t (1 : Fin 2) * 1024 + 1 * k.val = K.val; rw [congrFun (places t).1 1, hK]; show t.val % 8 * 1024 + 1 * k.val = _; omega

theorem iblk_1_at (t : Fin cfg0.N) (k : Fin 1024) (q : Fin 2048) (K : Fin 8192) (hK : K.val = 1024 * (t.val % 8) + k.val) :
    (iblk m c 1 t : S1024x2048.Idx → EReal) (ix2 k q) = W m c (ix3 0 K q) := by
  rw [← V_main_v2_at m c]
  show V m c main_v2 (((cfg0.win 1).blk t).view.emb (ix2 k q)) = _
  refine congrArg (V m c main_v2) (funext fun a => Fin.ext ?_)
  match a with
  | ⟨0, _⟩ => show win0_1.index t (0 : Fin 2) * 1024 + 1 * k.val = K.val; rw [congrFun (places t).2.1 0, hK]; show t.val % 8 * 1024 + 1 * k.val = _; omega
  | ⟨1, _⟩ => show win0_1.index t (1 : Fin 2) * 2048 + 1 * q.val = q.val; rw [congrFun (places t).2.1 1]; show 0 * 2048 + 1 * q.val = _; omega

theorem iblk_2_at (t : Fin cfg0.N) (r : Fin 1024) (q : Fin 2048) (R : Fin 8192) (hR : R.val = 1024 * (t.val / 8) + r.val) :
    (iblk m c 2 t : S1024x2048.Idx → EReal) (ix2 r q) = X m c (ix2 R q) := by
  show V m c main_arg2 (((cfg0.win 2).blk t).view.emb (ix2 r q)) = _
  rw [V_main_arg2]
  refine congrArg (X m c) (funext fun a => Fin.ext ?_)
  match a with
  | ⟨0, _⟩ => show win0_2.index t (0 : Fin 2) * 1024 + 1 * r.val = R.val; rw [congrFun (places t).2.2.1 0, hR]; show t.val / 8 * 1024 + 1 * r.val = _; omega
  | ⟨1, _⟩ => show win0_2.index t (1 : Fin 2) * 2048 + 1 * q.val = q.val; rw [congrFun (places t).2.2.1 1]; show 0 * 2048 + 1 * q.val = _; omega

theorem iblk_3_at (t : Fin cfg0.N) (q : Fin 2048) : (iblk m c 3 t : S1x2048.Idx → EReal) (ix2 0 q) = G m c (ix1 q) := by
  rw [← V_main_v3_at m c]
  show V m c main_v3 (((cfg0.win 3).blk t).view.emb (ix2 0 q)) = _
  refine congrArg (V m c main_v3) (funext fun a => Fin.ext ?_)
  match a with
  | ⟨0, _⟩ => show win0_3.index t (0 : Fin 2) * 1 + 1 * 0 = 0; rw [congrFun (places t).2.2.2.1 0]; rfl
  | ⟨1, _⟩ => show win0_3.index t (1 : Fin 2) * 2048 + 1 * q.val = q.val; rw [congrFun (places t).2.2.2.1 1]; show 0 * 2048 + 1 * q.val = _; omega

/-! ## The output block through a row block -/

/-- The residual and the first `n` products of element `R`, `q`. -/
def part (R : Fin 8192) (q : Fin 2048) (n : ℕ) : EReal :=
  X m c (ix2 R q) + head (fun k : Fin 8192 => H m c (ix2 R k) * W m c (ix3 0 k q)) n

/-- A block of 1024 more products takes the sum one block further. -/
theorem part_add (n : ℕ) (acc : Vec Ideal S1024x2048 .f32) (h : Vec Ideal S1024x1024 .bf16) (w : Vec Ideal S1024x2048 .bf16)
    (r : Fin 1024) (q : Fin 2048) (R : Fin 8192) (hn : n + 1024 ≤ 8192) (ha : acc (ix2 r q) = part m c R q n)
    (hh : ∀ (k : Fin 1024) (K : Fin 8192), K.val = n + k.val → h (ix2 r k) = H m c (ix2 R K))
    (hw : ∀ (k : Fin 1024) (K : Fin 8192), K.val = n + k.val → w (ix2 k q) = W m c (ix3 0 K q)) :
    k0_pay1 (F := Ideal) acc h w (ix2 r q) = part m c R q (n + 1024) := by
  rw [pay1_at, ha]
  unfold part
  rw [head_add _ n (fun k : Fin 1024 => h (ix2 r k) * w (ix2 k q)) (fun k => ⟨by have := k.isLt; omega,
    congrArg₂ (· * ·) (hh k ⟨n + k.val, by have := k.isLt; omega⟩ rfl) (hw k ⟨n + k.val, by have := k.isLt; omega⟩ rfl)⟩), add_assoc]

/-- A point takes the residual and the products of the blocks before it to one block further. -/
theorem pay1_part (t : Fin cfg0.N) (acc : Vec Ideal S1024x2048 .f32) (r : Fin 1024) (q : Fin 2048) (R : Fin 8192) (hR : R.val = 1024 * (t.val / 8) + r.val)
    (h : acc (ix2 r q) = part m c R q (1024 * (t.val % 8))) :
    k0_pay1 (F := Ideal) acc (iblk m c 0 t) (iblk m c 1 t) (ix2 r q) = part m c R q (1024 * (t.val % 8) + 1024) :=
  part_add m c _ acc _ _ r q R (by omega) h (fun k K hK => iblk_0_at m c t r k R K hR hK) (fun k K hK => iblk_1_at m c t k q K hK)

/-- Before the last point of a row block, the output block holds the partial sums. -/
theorem out_part : ∀ (n : ℕ) (h : n < cfg0.N), n % 8 ≠ 7 → ∀ (r : Fin 1024) (q : Fin 2048) (R : Fin 8192), R.val = 1024 * (n / 8) + r.val →
    (outsAt0 m c n h : S1024x2048.Idx → EReal) (ix2 r q) = part m c R q (1024 * (n % 8) + 1024) := by
  intro n
  induction n with
  | zero =>
    intro h h7 r q R hR
    rw [outsAt0_A m c ⟨0, h⟩ rfl (by show ¬0 % 8 = 7; decide), Value.out_A_4_eq]
    refine pay1_part m c ⟨0, h⟩ _ r q R hR ?_
    rw [iblk_2_at m c ⟨0, h⟩ r q R hR]
    show _ = part m c R q 0
    unfold part
    rw [head_zero, add_zero]
  | succ n ih =>
    intro h h7 r q R hR
    by_cases h0 : (n + 1) % 8 = 0
    · rw [outsAt0_A m c ⟨n + 1, h⟩ h0 h7, Value.out_A_4_eq]
      refine pay1_part m c ⟨n + 1, h⟩ _ r q R hR ?_
      rw [iblk_2_at m c ⟨n + 1, h⟩ r q R hR]
      show _ = part m c R q (1024 * ((n + 1) % 8))
      unfold part
      rw [h0, Nat.mul_zero, head_zero, add_zero]
    · rw [outsAt0_B m c ⟨n + 1, h⟩ h0 h7, Value.out_B_4_eq]
      refine pay1_part m c ⟨n + 1, h⟩ _ r q R hR ?_
      refine (ih (Nat.lt_of_succ_lt h) (by omega) r q R (by rw [hR]; show _ = 1024 * (n / 8) + r.val; omega)).trans (congrArg (part m c R q) ?_)
      show _ = 1024 * ((n + 1) % 8)
      omega

/-- An element of the result: the residual and all the products, divided by the row's root mean square. -/
def whole (R : Fin 8192) (q : Fin 2048) : EReal := X m c (ix2 R q) + ∑ k : Fin 8192, H m c (ix2 R k) * W m c (ix3 0 k q)

theorem part_whole (R : Fin 8192) (q : Fin 2048) : part m c R q 8192 = whole m c R q := by
  unfold part whole
  rw [head_all]

def result : Buf (Elt Ideal) ((c : Thread nD τ).loc main_v4) := fun i : S8192x2048.Idx =>
  whole m c (i 0) (i 1) * invRms (whole m c (i 0)) * G m c (ix1 (i 1))

/-- The last point of a row block leaves the result's rows. -/
theorem out_last (t : Fin cfg0.N) (h7 : t.val % 8 = 7) (r : Fin 1024) (q : Fin 2048) (R : Fin 8192) (hR : R.val = 1024 * (t.val / 8) + r.val) :
    (outsAt0 m c t.val t.isLt : S1024x2048.Idx → EReal) (ix2 r q) = result m c (ix2 R q) := by
  have hN : t.val < 64 := lt_of_lt_of_eq t.isLt N_0
  rw [outsAt0_C m c t (by omega) h7, Value.out_C_4_eq, pay2_at, iblk_3_at]
  have e : ∀ q, k0_pay1 (F := Ideal) (outsAt0 m c (t.val - 1) (Nat.lt_of_le_of_lt (Nat.sub_le _ _) t.isLt)) (iblk m c 0 t) (iblk m c 1 t) (ix2 r q)
      = whole m c R q := by
    intro q
    rw [pay1_part m c t _ r q R hR, h7, part_whole]
    refine (out_part m c (t.val - 1) _ (by omega) r q R (by rw [hR]; omega)).trans (congrArg (part m c R q) ?_)
    omega
  simp only [e]
  rfl

/-! ## The result array -/

theorem flushed_eq (t : Fin cfg0.N) (hf : (cfg0.win 4).flush t = true) :
    (dats m 0 c).flushed 4 t = ((cfg0.win 4).blk t).view.read (Elt Ideal) (result m c) := by
  have h7 : t.val % 8 = 7 := (flush0_4 t).mp hf
  have hN : t.val < 64 := lt_of_lt_of_eq t.isLt N_0
  rw [Value.flushed4]
  funext j
  have key : ∀ (r : Fin 1024) (q : Fin 2048), (outsAt0 m c t.val t.isLt : S1024x2048.Idx → EReal) (ix2 r q)
      = result m c (((cfg0.win 4).blk t).view.emb (ix2 r q)) := by
    intro r q
    have hr := r.isLt
    have e : ((cfg0.win 4).blk t).view.emb (ix2 r q) = (ix2 (⟨1024 * (t.val / 8) + r.val, by omega⟩ : Fin 8192) q : S8192x2048.Idx) := by
      funext a; apply Fin.ext
      match a with
      | ⟨0, _⟩ => show win0_4.index t (0 : Fin 2) * 1024 + 1 * r.val = 1024 * (t.val / 8) + r.val; rw [congrFun (places t).2.2.2.2 0]; show t.val / 8 * 1024 + 1 * r.val = _; omega
      | ⟨1, _⟩ => show win0_4.index t (1 : Fin 2) * 2048 + 1 * q.val = q.val; rw [congrFun (places t).2.2.2.2 1]; show 0 * 2048 + 1 * q.val = _; omega
    rw [e]
    exact out_last m c t h7 r q _ rfl
  have ej : (j : S1024x2048.Idx) = ix2 (j 0) (j 1) := by funext a; match a with | ⟨0, _⟩ => rfl | ⟨1, _⟩ => rfl
  show (outsAt0 m c t.val t.isLt : S1024x2048.Idx → EReal) j = result m c (((cfg0.win 4).blk t).view.emb j)
  rw [ej]
  exact key _ _

theorem final_eq : (dats m 0 c).arrAt 4 cfg0.N = result m c :=
  (dats m 0 c).arrAt_eq_of_cover 4 _ (fun t ht => flushed_eq m c t ht)
    (fun i => (Value.covered_iff4 i).2 (by
      have h0 : (i 0).val < 8192 := (i 0).isLt; have h1 : (i 1).val < 2048 := (i 1).isLt; omega))

/-- The kernel runs, its result array ends holding the normalised rows, and its arguments are as they were. -/
theorem result_run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_eq m c), (h c).2⟩) (Value.run_blocks m ρ)

end

/-- The kernel's result is the reference's. -/
theorem algebraic : Cert.algebraic_MlpDownIdeal_MlpDownRefIdeal := by
  intro m ρ m' ρ' _ hagree
  refine ⟨fun c => result m c, result_run m ρ, (θ_run _ _ _).mono (fun _ h c => ⟨(h c).1.trans ?_, (h c).2⟩)
    (Cert.MlpDownRefIdeal.Value.run (F := Ideal) m' ρ')⟩
  rw [Cert.MlpDownRefIdeal.Read.val_main_v15_eq, (hagree c).1, (hagree c).2.1, (hagree c).2.2.1, (hagree c).2.2.2]
  funext j
  have ej : (j : S8192x2048.Idx) = ix2 (j 0) (j 1) := by funext a; match a with | ⟨0, _⟩ => rfl | ⟨1, _⟩ => rfl
  rw [ej]
  exact ref_at _ _ _ _ _ _

/-- The reference runs, leaves its arguments, and has no semaphore. -/
theorem frame_ref : Cert.quiescent_MlpDownRefIdeal := fun m ρ _ =>
  (θ_run Cert.MlpDownRefIdeal.defs _ _).mono (fun r h => ⟨fun c => (h c).2, sem_eq_zero_of_no_sems (by decide) r.2⟩)
    (Cert.MlpDownRefIdeal.Value.run (F := Ideal) m ρ)

end Cert.Proof.MlpDown

end
-- ==== Proof.InProjRun.lean ====
/-
  The input projection's run, over any floats. The kernel walks a grid of 8 row blocks by 9 column blocks. At the first
  column block of a row block it normalises the 1024 rows into a scratch and multiplies them by the last 32 columns of
  the weight (the step sizes); at every point it multiplies the scratch by 1024 columns of the weight and applies that
  column block's activation. The step sizes are written back at the LAST column block, eight points after they were
  stored, so the run carries them along: this file says what every buffer holds at every point, and what the two result
  arrays end holding.
-/
module

public import proofs.«01_k».proof.Proof.Gen.InProjIdeal.Launch
public import proofs.«01_k».proof.Proof.Gen.InProjIdeal.Skeleton
public import proofs.«01_k».proof.Proof.Gen.InProjIdeal.Points
public import proofs.«01_k».proof.Proof.Gen.InProjIdeal.Frame
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.InProjRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which branch runs at which point -/

theorem first_iff (t : Fin cfg0.N) : k0_cond1 (grid0.coords t) = 1#1 ↔ t.val % 9 = 0 :=
  (by decide +kernel : ∀ t : Fin grid0.N, k0_cond1 (grid0.coords t) = 1#1 ↔ t.val % 9 = 0) t

theorem gelu_iff (t : Fin cfg0.N) : k0_cond2 (grid0.coords t) = 1#1 ↔ t.val % 9 ≤ 1 :=
  (by decide +kernel : ∀ t : Fin grid0.N, k0_cond2 (grid0.coords t) = 1#1 ↔ t.val % 9 ≤ 1) t

theorem silu_iff (t : Fin cfg0.N) : k0_cond3 (grid0.coords t) = 1#1 ↔ 4 ≤ t.val % 9 ∧ t.val % 9 ≤ 5 :=
  (by decide +kernel : ∀ t : Fin grid0.N, k0_cond3 (grid0.coords t) = 1#1 ↔ 4 ≤ t.val % 9 ∧ t.val % 9 ≤ 5) t

theorem plain_iff (t : Fin cfg0.N) :
    k0_cond4 (grid0.coords t) = 1#1 ↔ ¬t.val % 9 ≤ 1 ∧ ¬(4 ≤ t.val % 9 ∧ t.val % 9 ≤ 5) :=
  (by decide +kernel : ∀ t : Fin grid0.N,
    k0_cond4 (grid0.coords t) = 1#1 ↔ ¬t.val % 9 ≤ 1 ∧ ¬(4 ≤ t.val % 9 ∧ t.val % 9 ≤ 5)) t

/-- The block the point writes: the scratch times the weight's block, through the column block's activation. -/
def act (i : grid0.Coords) (s w : Vec F S1024x2048 .bf16) : Vec F S1024x1024 .f32 :=
  if k0_cond2 i = 1#1 then k0_pay3 s w else if k0_cond3 i = 1#1 then k0_pay4 s w else k0_pay5 s w

/-! ## The body on any staging buffers -/

theorem zeros2 : (![0, 0] : Fin 2 → Nat) = fun _ => 0 := by decide

/-- A buffer stored whole, at offset zero, reads as what was stored. -/
theorem stored {sh : Shape} {e : EltTy} {sp : Space} (v : View sig .tc sp sh e) (f : v.ty.Contents (Elt F))
    {off : Fin sh.rank → Nat} (h : off = fun _ => 0) (inb : ∀ a, off a + sh.size a ≤ sh.size a) (w : sh.Idx → Elt F e) :
    v.read (Elt F) (v.writes (Elt F) f [(⟨Rect.unit off sh.size inb, w⟩ : View.Piece (Elt F) sh e)]) = w := by
  rw [View.read_writes_eq_canon v f _ (fun y => ⟨_, List.mem_singleton_self _, View.mem_set_unit_zero h inb y⟩),
    View.canon_unit_zero h inb w]

/-- A whole buffer loaded whole, at offset zero, gives its contents. -/
theorem loaded {sh : Shape} {e : EltTy} {sp : Space} (a : Memref sig .tc sp sh e) (ha : a.IsWhole)
    {off : Fin sh.rank → Nat} (h : off = fun _ => 0) (inb : ∀ a, off a + sh.size a ≤ sh.size a) (x : sh.Idx → Elt F e) :
    View.readAt (Elt F) a.view (Rect.unit off sh.size inb).toLoadRect (ha.unread x) = x := by
  have e := View.readAt_eq_ld (Val := Elt F) a.view (ha.unread x) (Rect.unit off sh.size inb)
  rw [ha.read_unread] at e
  exact e.trans (View.ld_unit_zero h inb x)

/-- At the first column block: the rows are normalised into the scratch, the step sizes and the block are stored. -/
theorem first_body (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S1024x2048 .bf16)
    (harg4 : arg4.IsWhole) (arg5 : Memref sig .tc .vmem S32x2048 .bf16) (harg5 : arg5.IsWhole)
    (arg6 : Memref sig .tc .vmem S1024x1024 .f32) (harg6 : arg6.IsWhole) (arg7 : Memref sig .tc .vmem S1024x128 .f32)
    (harg7 : arg7.IsWhole) (arg8 : Memref sig .tc .vmem S1024x2048 .bf16) (harg8 : arg8.IsWhole)
    (h1 : k0_cond1 i = 1#1) (h2 : k0_cond2 i = 1#1) (h3 : ¬k0_cond3 i = 1#1) (h4 : ¬k0_cond4 i = 1#1)
    (x : Vec F S1024x2048 .f32) (g : Vec F S1x2048 .f32) (w : Vec F S1024x2048 .bf16) (wdt : Vec F S32x2048 .bf16)
    (E : Set ℕ) (K : PUnit → sProp 𝕄) :
    iprop(owns (c : Thread nD τ) arg2 fullShare x ∗ owns (c : Thread nD τ) arg3 fullShare g
        ∗ owns (c : Thread nD τ) arg4 fullShare w ∗ owns (c : Thread nD τ) arg5 fullShare wdt
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x ∗ owns (c : Thread nD τ) arg3 fullShare g
            ∗ owns (c : Thread nD τ) arg4 fullShare w ∗ owns (c : Thread nD τ) arg5 fullShare wdt
            ∗ owns (c : Thread nD τ) arg6 fullShare (act i (k0_pay1 x g) w)
            ∗ owns (c : Thread nD τ) arg7 fullShare (k0_pay2 wdt (k0_pay1 x g))
            ∗ owns (c : Thread nD τ) arg8 fullShare (k0_pay1 x g)) -∗ K ⟨⟩))
      ⊢ wp frame (wpE (defs₀ (F := F)) Variants.none c none) E
          (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3
  obtain rfl := harg4.eq_unread hf4; obtain rfl := harg5.eq_unread hf5
  sl_exec (disch := first | sl_exact h1 | sl_exact h2 | sl_exact h3 | sl_exact h4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [stored _ _ zeros2, View.readCov_unit_zero _ zeros2, loaded arg2 harg2 zeros2, loaded arg3 harg3 zeros2,
      loaded arg4 harg4 zeros2]
    exact (if_pos h2).symm
  isplitl [H7]
  · iexists _; isplitr
    swap; · iexact H7
    ipureintro
    sl_unfold_words
    rw [stored _ _ zeros2, View.readCov_unit_zero _ zeros2, loaded arg2 harg2 zeros2, loaded arg3 harg3 zeros2,
      loaded arg5 harg5 zeros2]
  iexists _; isplitr
  swap; · iexact H8
  ipureintro
  sl_unfold_words
  rw [stored _ _ zeros2, loaded arg2 harg2 zeros2, loaded arg3 harg3 zeros2]

/-- At a later column block: the block is stored, and nothing else is touched. -/
theorem later_body (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S1024x2048 .bf16)
    (harg4 : arg4.IsWhole) (arg5 : Memref sig .tc .vmem S32x2048 .bf16) (harg5 : arg5.IsWhole)
    (arg6 : Memref sig .tc .vmem S1024x1024 .f32) (harg6 : arg6.IsWhole) (arg7 : Memref sig .tc .vmem S1024x128 .f32)
    (harg7 : arg7.IsWhole) (arg8 : Memref sig .tc .vmem S1024x2048 .bf16) (harg8 : arg8.IsWhole)
    (h1 : ¬k0_cond1 i = 1#1) (h23 : k0_cond2 i = 1#1 → ¬k0_cond3 i = 1#1)
    (h4 : k0_cond4 i = 1#1 ↔ ¬k0_cond2 i = 1#1 ∧ ¬k0_cond3 i = 1#1)
    (w : Vec F S1024x2048 .bf16) (s : Vec F S1024x2048 .bf16)
    (E : Set ℕ) (K : PUnit → sProp 𝕄) :
    iprop(owns (c : Thread nD τ) arg4 fullShare w
        ∗ (∃ d, owns (c : Thread nD τ) arg6 fullShare d) ∗ owns (c : Thread nD τ) arg8 fullShare s
        ∗ (iprop(owns (c : Thread nD τ) arg4 fullShare w
            ∗ owns (c : Thread nD τ) arg6 fullShare (act i s w)
            ∗ owns (c : Thread nD τ) arg8 fullShare s) -∗ K ⟨⟩))
      ⊢ wp frame (wpE (defs₀ (F := F)) Variants.none c none) E
          (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f4, %hf4, H4⟩, ⟨%d6, %f6, -, H6⟩, ⟨%f8, %hf8, H8⟩, Hk⟩
  obtain rfl := harg4.eq_unread hf4; obtain rfl := harg8.eq_unread hf8
  have hcase : (k0_cond2 i = 1#1 ∧ ¬k0_cond3 i = 1#1 ∧ ¬k0_cond4 i = 1#1)
      ∨ (¬k0_cond2 i = 1#1 ∧ k0_cond3 i = 1#1 ∧ ¬k0_cond4 i = 1#1)
      ∨ (¬k0_cond2 i = 1#1 ∧ ¬k0_cond3 i = 1#1 ∧ k0_cond4 i = 1#1) := by tauto
  rcases hcase with ⟨h2, h3, h4⟩ | ⟨h2, h3, h4⟩ | ⟨h2, h3, h4⟩
  all_goals
    sl_exec (disch := first | sl_exact h1 | sl_exact h2 | sl_exact h3 | sl_exact h4)
    sl_step
    iapply Hk
    isplitl [H4]
    · iexists _; isplitr; · ipureintro; exact harg4.read_unread _
      iexact H4
    isplitl [H6]
    · iexists _; isplitr
      swap; · iexact H6
      ipureintro
      try sl_unfold_words
      rw [stored _ _ zeros2, loaded arg8 harg8 zeros2, loaded arg4 harg4 zeros2]
      first
      | exact (if_pos h2).symm
      | exact ((if_neg h2).trans (if_pos h3)).symm
      | exact ((if_neg h2).trans (if_neg h3)).symm
    iexists _; isplitr; · ipureintro; exact harg8.read_unread _
    iexact H8

/-! ## What every buffer holds at every point -/

/-- The scratch after point `t`: the normalised rows of the point's row block. -/
def rowsAt (c : Dev nD) (t : Fin cfg0.N) : Vec F S1024x2048 .bf16 := k0_pay1 (iblk m c 0 t) (iblk m c 1 t)

/-- The step sizes' buffer after point `t`. -/
def dtAt (c : Dev nD) (t : Fin cfg0.N) : Vec F S1024x128 .f32 := k0_pay2 (iblk m c 3 t) (rowsAt m c t)

/-- The block the point writes. -/
def outAt (c : Dev nD) (t : Fin cfg0.N) : Vec F S1024x1024 .f32 := act (grid0.coords t) (rowsAt m c t) (iblk m c 2 t)

/-- Where the windows' blocks lie. -/
theorem places : ∀ t : Fin cfg0.N, win0_0.index t = ![t.val / 9, 0] ∧ win0_1.index t = ![0, 0]
    ∧ win0_2.index t = ![t.val % 9, 0] ∧ win0_3.index t = ![0, 0] ∧ win0_4.index t = ![t.val / 9, t.val % 9]
    ∧ win0_5.index t = ![t.val / 9, 0] :=
  (by decide +kernel : ∀ t : Fin grid0.N, win0_0.index t = ![t.val / 9, 0] ∧ win0_1.index t = ![0, 0]
    ∧ win0_2.index t = ![t.val % 9, 0] ∧ win0_3.index t = ![0, 0] ∧ win0_4.index t = ![t.val / 9, t.val % 9]
    ∧ win0_5.index t = ![t.val / 9, 0])

/-- Blocks of one index read the same, when the window is uncut. -/
theorem iblk_congr0 (c : Dev nD) (t t' : Fin cfg0.N) (h : t.val / 9 = t'.val / 9) : iblk m c 0 t = iblk m c 0 t' := by
  funext j
  show V m c main_arg0 (((cfg0.win 0).blk t).view.emb j) = V m c main_arg0 (((cfg0.win 0).blk t').view.emb j)
  refine congrArg _ (funext fun a => Fin.ext ?_)
  have e : win0_0.index t a = win0_0.index t' a := by rw [(places t).1, (places t').1, h]
  show win0_0.index t a * S1024x2048.size a + 1 * (j a).val = win0_0.index t' a * S1024x2048.size a + 1 * (j a).val
  rw [e]

theorem iblk_congr1 (c : Dev nD) (t t' : Fin cfg0.N) : iblk m c 1 t = iblk m c 1 t' := by
  funext j
  show V m c main_v4 (((cfg0.win 1).blk t).view.emb j) = V m c main_v4 (((cfg0.win 1).blk t').view.emb j)
  refine congrArg _ (funext fun a => Fin.ext ?_)
  have e : win0_1.index t a = win0_1.index t' a := by rw [(places t).2.1, (places t').2.1]
  show win0_1.index t a * S1x2048.size a + 1 * (j a).val = win0_1.index t' a * S1x2048.size a + 1 * (j a).val
  rw [e]

theorem iblk_congr3 (c : Dev nD) (t t' : Fin cfg0.N) : iblk m c 3 t = iblk m c 3 t' := by
  funext j
  show V m c main_v6 (((cfg0.win 3).blk t).view.emb j) = V m c main_v6 (((cfg0.win 3).blk t').view.emb j)
  refine congrArg _ (funext fun a => Fin.ext ?_)
  have e : win0_3.index t a = win0_3.index t' a := by rw [(places t).2.2.2.1, (places t').2.2.2.1]
  show win0_3.index t a * S32x2048.size a + 1 * (j a).val = win0_3.index t' a * S32x2048.size a + 1 * (j a).val
  rw [e]

/-- The scratch stays as it is through a row block, … -/
theorem rowsAt_congr (c : Dev nD) (t t' : Fin cfg0.N) (h : t.val / 9 = t'.val / 9) : rowsAt m c t = rowsAt m c t' :=
  congrArg₂ (fun (a : Vec F S1024x2048 .f32) (b : Vec F S1x2048 .f32) => k0_pay1 a b) (iblk_congr0 m c t t' h) (iblk_congr1 m c t t')

/-- … and so do the step sizes. -/
theorem dtAt_congr (c : Dev nD) (t t' : Fin cfg0.N) (h : t.val / 9 = t'.val / 9) : dtAt m c t = dtAt m c t' :=
  congrArg₂ (fun (a : Vec F S32x2048 .bf16) (b : Vec F S1024x2048 .bf16) => k0_pay2 a b) (iblk_congr3 m c t t') (rowsAt_congr m c t t' h)

/-! ## The pipeline's proof data -/

abbrev scratch : Memref sig .tc .vmem S1024x2048 .bf16 := Memref.whole cc0_scratch0

theorem region_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-- Before the first point the scratch holds anything; after point `n` it holds that point's rows. -/
def Inv (c : Dev nD) : (n : ℕ) → n ≤ cfg0.N → sProp 𝕄
  | 0, _ => Pipeline.ΦA spec0 c
  | n + 1, hn => iprop(iprop(owns (c : Thread nD τ) scratch fullShare (rowsAt m c ⟨n, hn⟩)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop(owns (c : Thread nD τ) scratch fullShare (rowsAt m c ⟨n, hn⟩)) ∗ (∃ r, prngReg c r)) := rfl

theorem Inv_pos (c : Dev nD) (n : ℕ) (h : n ≤ cfg0.N) (hz : n ≠ 0) :
    Inv m c n h = iprop(iprop(owns (c : Thread nD τ) scratch fullShare (rowsAt m c ⟨n - 1, by omega⟩)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
    | ⟨5, _⟩ => dtAt m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]
theorem after_5 (c : Dev nD) (t : Fin cfg0.N) : (dats m 0 c).after 5 t = dtAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The first output is stored at every point, … -/
theorem live_4 (t : Fin cfg0.N) : cfg0.idle 4 (grid0.coords t) = false :=
  (by decide +kernel : ∀ t : Fin grid0.N, idle0 4 (grid0.coords t) = false) t

/-- … the second at the first column block only. -/
theorem idle_5 (t : Fin cfg0.N) : cfg0.idle 5 (grid0.coords t) = decide (t.val % 9 ≠ 0) :=
  (by decide +kernel : ∀ t : Fin grid0.N, idle0 5 (grid0.coords t) = decide (t.val % 9 ≠ 0)) t

/-- At a later column block the step sizes' buffer still holds what the first column block stored: no point between
    stored into it or wrote it back. -/
theorem before_5 (c : Dev nD) (n : ℕ) : ∀ (hn : n < cfg0.N), n % 9 ≠ 0 → ∀ d,
    (dats m 0 c).before 5 ⟨n, hn⟩ d = dtAt m c ⟨n, hn⟩ := by
  induction n with
  | zero => intro _ h; exact absurd rfl h
  | succ n ih =>
    intro hn h d
    have hlt : n < cfg0.N := Nat.lt_of_succ_lt hn
    rw [(dats m 0 c).before_of_pos 5 ⟨n + 1, hn⟩ (by show n + 1 ≠ 0; omega) ((cfg0.win 5).fetch_out rfl _)]
    have hf : (cfg0.win 5).flush ⟨n, hlt⟩ = false :=
      Bool.eq_false_iff.mpr fun h' => by have := (flush0_5 _).mp h'; dsimp only at this; omega
    have hd : dtAt m c ⟨n, hlt⟩ = dtAt m c ⟨n + 1, hn⟩ := dtAt_congr m c _ _ (by show n / 9 = (n + 1) / 9; omega)
    show (if (cfg0.win 5).flush ⟨n, hlt⟩ = true then d else (dats m 0 c).left 5 ⟨n, hlt⟩ d) = _
    rw [hf, if_neg Bool.false_ne_true]
    unfold Dat.left
    have hi := idle_5 ⟨n, hlt⟩
    by_cases h0 : n % 9 = 0
    · have hi' : cfg0.idle 5 (cfg0.grid.coords ⟨n, hlt⟩) = false := by
        rw [show cfg0.idle 5 (cfg0.grid.coords ⟨n, hlt⟩) = _ from hi]; simpa using h0
      rw [hi']; dsimp only
      rw [← hd, ← after_5 m c ⟨n, hlt⟩]
      rfl
    · have hi' : cfg0.idle 5 (cfg0.grid.coords ⟨n, hlt⟩) = true := by
        rw [show cfg0.idle 5 (cfg0.grid.coords ⟨n, hlt⟩) = _ from hi]; simpa using h0
      rw [hi']; dsimp only
      exact (ih hlt h0 d).trans hd

/-- The step sizes' buffer after the body, as the body's obligation states it. -/
theorem leaves_5 (c : Dev nD) (t : Fin cfg0.N) :
    owns (c : Thread nD τ) (win0_5.stage (cfg0.slots t 5)) fullShare (dtAt m c t) ⊢ ((dats m 0 c).leavesExact 5 t : sProp 𝕄) := by
  unfold Dat.leavesExact
  rw [← after_5 m c t]
  by_cases h0 : t.val % 9 = 0
  · have hi : cfg0.idle 5 (cfg0.grid.coords t) = false := by
      rw [show cfg0.idle 5 (cfg0.grid.coords t) = _ from idle_5 t]; simpa using h0
    rw [hi]
  · have hi : cfg0.idle 5 (cfg0.grid.coords t) = true := by
      rw [show cfg0.idle 5 (cfg0.grid.coords t) = _ from idle_5 t]; simpa using h0
    rw [hi]
    cases (cfg0.win 5).flush t
    · dsimp only
      iintro H; iexists dtAt m c t
      rw [before_5 m c t.val t.isLt h0, after_5]; iexact H
    · exact .rfl

theorem leaves_4 (c : Dev nD) (t : Fin cfg0.N) :
    owns (c : Thread nD τ) (win0_4.stage (cfg0.slots t 4)) fullShare (outAt m c t) ⊢ ((dats m 0 c).leavesExact 4 t : sProp 𝕄) := by
  unfold Dat.leavesExact
  rw [← after_4 m c t, show cfg0.idle 4 (cfg0.grid.coords t) = false from live_4 t]

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (outAt m c t)
    ∗ owns (c : Thread nD τ) (win0_5.stage (cfg0.slots t 5)) fullShare (dtAt m c t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = Inv m c (t.val + 1) t.isLt from rfl, Inv_succ]
  have hscr : ∀ P : sProp 𝕄, (iprop((∃ d, owns (c : Thread nD τ) scratch fullShare d) ∗ (∃ r, prngReg c r)) ⊢ P) →
      ((dats m 0 c).Φ t.castSucc ⊢ P) := fun P hP => by
    rw [Inv_castSucc m c t]
    by_cases hz : t.val = 0
    · rw [Inv_zero m c _ _ hz, region_eq]; exact hP
    · rw [Inv_pos m c _ _ hz]
      refine Idealize.SL.BI.BIBase.Entails.trans ?_ hP
      iintro ⟨H, Hg⟩
      isplitl [H]; · iexists _; iexact H
      iexact Hg
  by_cases h0 : t.val % 9 = 0
  · have hstep : (dats m 0 c).Φ t.castSucc ⊢ iprop((∃ d, owns (c : Thread nD τ) scratch fullShare d) ∗ (∃ r, prngReg c r)) :=
      hscr _ .rfl
    iintro ⟨HΦ, Ho, ⟨%d0, H0⟩, ⟨%d1, H1⟩, ⟨%d2, H2⟩, ⟨%d3, H3⟩, ⟨%d4, H4⟩, ⟨%d5, H5⟩⟩
    ihave HΦ' := hstep $$ HΦ
    icases HΦ' with ⟨HS, Hg⟩
    iapply (first_body c (grid0.coords t) _ _ _ _ _ _ _ _ _ _ _ _ _ _ ((first_iff t).mpr h0) ((gelu_iff t).mpr (by omega))
      (fun h => by have := (silu_iff t).mp h; omega) (fun h => by have := (plain_iff t).mp h; omega)
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun h => h0 (by rw [h])
    rw [Inv_castSucc m c t, Inv_pos m c _ _ hz,
      rowsAt_congr m c ⟨t.val - 1, by omega⟩ t (by show (t.val - 1) / 9 = t.val / 9; omega)]
    simp only [fun d => before_5 m c t.val t.isLt h0 d]
    iintro ⟨⟨HS, Hg⟩, Ho, ⟨%d0, H0⟩, ⟨%d1, H1⟩, ⟨%d2, H2⟩, ⟨%d3, H3⟩, ⟨%d4, H4⟩, ⟨%d5, H5⟩⟩
    iapply (later_body c (grid0.coords t) _ _ _ _ _ _ _ _ _ _ _ _ _ _ (fun h => h0 ((first_iff t).mp h))
      (fun h h' => by have := (gelu_iff t).mp h; have := (silu_iff t).mp h'; omega)
      (by rw [plain_iff, gelu_iff, silu_iff]) (iblk m c 2 t) (rowsAt m c t) Set.univ _)
    isplitl [H2]; · iexact H2
    isplitl [H4]; · iexists _; iexact H4
    isplitl [HS]; · iexact HS
    iintro ⟨H2, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

/-- The post the loop asks for: the two outputs' buffers as `leaves_4` and `leaves_5` restate them. -/
theorem post_loop (c : Dev nD) (t : Fin cfg0.N) :
    bodyPost m c t ⊢ iprop((dats m 0 c).Φ t.succ ∗ (dats m 0 c).owesAt () t.succ
      ∗ (dats m 0 c).leavesExact 0 t ∗ (dats m 0 c).leavesExact 1 t ∗ (dats m 0 c).leavesExact 2 t
      ∗ (dats m 0 c).leavesExact 3 t ∗ (dats m 0 c).leavesExact 4 t ∗ (dats m 0 c).leavesExact 5 t) := by
  have h4 := leaves_4 m c t
  have h5 := leaves_5 m c t
  unfold bodyPost
  rw [← after_0 m c t, ← after_1 m c t, ← after_2 m c t, ← after_3 m c t]
  iintro ⟨HΦ, Ho, H0, H1, H2, H3, H4, H5⟩
  ihave H4' := h4 $$ H4
  ihave H5' := h5 $$ H5
  isplitl [HΦ]; · iexact HΦ
  isplitl [Ho]; · iexact Ho
  isplitl [H0]; · iexact H0
  isplitl [H1]; · iexact H1
  isplitl [H2]; · iexact H2
  isplitl [H3]; · iexact H3
  isplitl [H4']; · iexact H4'
  iexact H5'

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => post_loop m c t

theorem hin (c : Dev nD) : Pipeline.ΦA spec0 c ⊢ (dats m 0 c).Φ 0 := by
  rw [show (dats m 0 c).Φ 0 = Inv m c 0 (Nat.zero_le _) from rfl, Inv_zero m c 0 _ rfl]

theorem hout (c : Dev nD) : (dats m 0 c).Φ (Fin.last cfg0.N) ⊢ Pipeline.ΦA spec0 c := by
  rw [show (dats m 0 c).Φ (Fin.last cfg0.N) = Inv m c cfg0.N (Nat.le_refl _) from rfl,
    Inv_pos m c _ _ (by have : cfg0.N = 72 := N_0; omega), region_eq]
  iintro ⟨H, Hg⟩
  isplitl [H]
  · iexists _; iexact H
  iexact Hg

/-! ## The run -/

set_option backward.isDefEq.respectTransparency.types false in
/-- Every execution ends with each array at what the write-backs leave and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.InProjRun

end
-- ==== Proof.InProj.lean ====
/-
  The input projection: what its two result arrays end holding, and that this is the reference's. The projected columns
  are taken through one of three activations according to their column block: a gelu, a silu, or none. The kernel writes
  the silu as `h · tanh h + h` with `h` half the number, the reference as the number times its logistic: these agree on
  real numbers and not at minus infinity, so the claim asks that the arguments are finite.
-/
module

public import proofs.«01_k».proof.Defs
public import proofs.«01_k».proof.Proof.InProjRun
public import proofs.«01_k».proof.Proof.Reals
public import proofs.«01_k».proof.Proof.Gen.InProjRefIdeal.Run
public import proofs.«01_k».proof.Proof.Gen.InProjRefIdeal.Read
public import proofs.«01_k».proof.Proof.Gen.Pre_finite4
public import Idealize.ShloMosaic.Lib.Pointwise
public import Idealize.ShloMosaic.Lib.Quiescent

@[expose] public section

set_option maxRecDepth 16384

noncomputable section

namespace Cert.Proof.InProj

open Idealize.ShloMosaic Idealize.ShloMosaic.TcCoe Idealize.SL.Sem
open Cert.InProjIdeal Cert.InProjIdeal.Gen
open Cert.Proof.InProjRun
open Idealize.ShloMosaic.Pipeline (Dat)

/-! ## The numbers -/

/-- The normalised row times a column of the weight. -/
def proj (x g w : Fin 2048 → EReal) : EReal := ∑ k, x k * invRms x * g k * w k

/-- The gelu by its tangent formula. -/
def gelu (y : EReal) : EReal :=
  y * (Ideal.ofBits .f32 0x3F000000#32 * (1 + Ideal.tanh (Ideal.ofBits .f32 0x3F4C422A#32
    * (y + Ideal.ofBits .f32 0x3D372713#32 * (y * y * y)))))

/-- A number times its logistic. -/
def silu (y : EReal) : EReal := y * Ideal.div 1 (1 + Ideal.exp (-y))

/-- The activation of column `q`. -/
def actAt (q : ℕ) (y : EReal) : EReal :=
  if q < 2048 then gelu y else if 4096 ≤ q ∧ q < 6144 then silu y else y

theorem isReal_proj {x g w : Fin 2048 → EReal} (hx : ∀ k, IsReal (x k)) (hg : ∀ k, IsReal (g k)) (hw : ∀ k, IsReal (w k)) :
    IsReal (proj x g w) :=
  IsReal.sum fun k => (((hx k).mul (isReal_invRms hx)).mul (hg k)).mul (hw k)

theorem pay1_at (X : Vec Ideal S1024x2048 .f32) (g : Vec Ideal S1x2048 .f32) (r : Fin 1024) (k : Fin 2048) :
    k0_pay1 (F := Ideal) X g (ix2 r k) = X (ix2 r k) * invRms (fun k => X (ix2 r k)) * g (ix2 0 k) := by
  unfold k0_pay1 invRms
  pointwise

/-- The step sizes: 32 columns, and zeros behind them. -/
theorem pay2_at (w : Vec Ideal S32x2048 .bf16) (s : Vec Ideal S1024x2048 .bf16) (r : Fin 1024) (q : Fin 128) :
    k0_pay2 (F := Ideal) w s (ix2 r q) = if h : q.val < 32 then ∑ k, s (ix2 r k) * w (ix2 ⟨q.val, h⟩ k) else 0 := by
  unfold k0_pay2
  pointwise
  by_cases h : q.val < 32
  · simp only [h, dite_true]
  · simp only [h, dite_false, mul_zero, Finset.sum_const_zero]

theorem pay3_at (s w : Vec Ideal S1024x2048 .bf16) (r q : Fin 1024) :
    k0_pay3 (F := Ideal) s w (ix2 r q) = gelu (∑ k, s (ix2 r k) * w (ix2 q k)) := by
  unfold k0_pay3 gelu
  pointwise
  rw [mul_assoc (∑ k, _) (∑ k, _) (∑ k, _)]

theorem pay4_at (s w : Vec Ideal S1024x2048 .bf16) (r q : Fin 1024) (h : IsReal (∑ k, s (ix2 r k) * w (ix2 q k))) :
    k0_pay4 (F := Ideal) s w (ix2 r q) = silu (∑ k, s (ix2 r k) * w (ix2 q k)) := by
  unfold k0_pay4 silu
  pointwise
  exact silu_eq h

theorem pay5_at (s w : Vec Ideal S1024x2048 .bf16) (r q : Fin 1024) :
    k0_pay5 (F := Ideal) s w (ix2 r q) = ∑ k, s (ix2 r k) * w (ix2 q k) := by
  unfold k0_pay5
  pointwise

section
open Cert.InProjRefIdeal.Read

variable (x0 : (⟨S8192x2048, .f32⟩ : BufTy).Contents (Elt Ideal)) (x1 : (⟨S1x2048, .f32⟩ : BufTy).Contents (Elt Ideal))
  (x2 : (⟨S1x2048x9248, .f32⟩ : BufTy).Contents (Elt Ideal)) (r : Fin 8192)

theorem v15_at (q : Fin 9248) :
    val_main_v15 (F := Ideal) x0 x1 x2 (ix2 r q)
      = proj (fun k => x0 (ix2 r k)) (fun k => x1 (ix2 0 k)) (fun k => x2 (ix3 0 k q)) := by
  unfold proj invRms val_main_v15 val_main_v14 val_main_v13 val_main_v12
    val_main_v11 val_main_v10 val_main_v9 val_main_v8 val_main_v7 val_main_v6 val_main_v5 val_main_v4 val_main_v3
    val_main_v2 val_main_v1 val_main_v0 val_main_cst val_main_cst_0 val_main_cst_1
  pointwise

theorem v31_at (q : Fin 2048) :
    val_main_v31 (F := Ideal) x0 x1 x2 (ix2 r q) = val_main_v15 (F := Ideal) x0 x1 x2 (ix2 r ⟨4096 + q.val, by omega⟩) := by
  unfold val_main_v31
  pointwise

/-- The reference's first result, element by element. -/
theorem v34_at (q : Fin 9216) :
    val_main_v34 (F := Ideal) x0 x1 x2 (ix2 r q)
      = actAt q.val (proj (fun k => x0 (ix2 r k)) (fun k => x1 (ix2 0 k)) (fun k => x2 (ix3 0 k ⟨q.val, by omega⟩))) := by
  rw [← v15_at]
  unfold val_main_v34 val_main_v33 val_main_v32 val_main_call0_v5 val_main_call0_v4 val_main_call0_v3
    val_main_call0_v2 val_main_call0_v1 val_main_call0_v0 val_main_call0_cst val_main_call0_cst_0 val_main_v30
    val_main_v29 val_main_v28 val_main_v27 val_main_v26 val_main_v25 val_main_v24 val_main_v23 val_main_v22
    val_main_v21 val_main_v20 val_main_v19 val_main_v18 val_main_v17 val_main_v16 val_main_cst_2 val_main_cst_3
    val_main_cst_4 val_main_cst_5
  pointwise
  simp only [v31_at]
  unfold actAt gelu silu
  have hq := q.isLt
  by_cases h1 : q.val < 2048
  · simp only [h1, dite_true, if_true]
  · by_cases h2 : q.val < 4096
    · have e : (⟨2048 + (q.val - 2048), by omega⟩ : Fin 9248) = ⟨q.val, by omega⟩ := Fin.ext (by simp; omega)
      simp only [h1, dite_false, if_false, show q.val - 2048 < 2048 by omega, dite_true, show ¬4096 ≤ q.val by omega, false_and, e]
    · by_cases h3 : q.val < 6144
      · have e : (⟨4096 + (q.val - 2048 - 2048), by omega⟩ : Fin 9248) = ⟨q.val, by omega⟩ := Fin.ext (by simp; omega)
        simp only [h1, dite_false, if_false, show ¬q.val - 2048 < 2048 by omega, show q.val - 2048 - 2048 < 2048 by omega, dite_true,
          show 4096 ≤ q.val by omega, h3, and_self, if_true, e]
      · have e : (⟨6144 + (q.val - 2048 - 2048 - 2048), by omega⟩ : Fin 9248) = ⟨q.val, by omega⟩ := Fin.ext (by simp; omega)
        simp only [h1, dite_false, if_false, show ¬q.val - 2048 < 2048 by omega, show ¬q.val - 2048 - 2048 < 2048 by omega,
          h3, and_false, e]

/-- The reference's second result. -/
theorem v37_at (q : Fin 128) :
    val_main_v37 (F := Ideal) x0 x1 x2 (ix2 r q) = if h : q.val < 32 then
      proj (fun k => x0 (ix2 r k)) (fun k => x1 (ix2 0 k)) (fun k => x2 (ix3 0 k ⟨9216 + q.val, by omega⟩)) else 0 := by
  unfold val_main_v37 val_main_v36 val_main_v35 val_main_cst_6
  pointwise
  simp only [v15_at]
end

/-! ## What the kernel finds in its windows -/

section
variable (m : (ℓ : Loc nD τ sig) → Buf (Elt Ideal) ℓ) (ρ : Dev nD → PrngReg) (c : Dev nD)

/-- The three arguments. -/
abbrev X : S8192x2048.Idx → EReal := m ((c : Thread nD τ).loc main_arg0)
abbrev G : S1x2048.Idx → EReal := m ((c : Thread nD τ).loc main_arg1)
abbrev W : S1x2048x9248.Idx → EReal := m ((c : Thread nD τ).loc main_arg2)

/-- The host's copy of the weight, transposed: the one the kernel's two weight windows are cut out of. -/
abbrev Wt : FVec Ideal S9248x2048 .bf16 :=
  truncf .bf16 (shapeCast S9248x2048 (transpose S1x9248x2048 [0, 2, 1] (W m c) transposes_S1x2048x9248_S1x9248x2048_0_2_1
    : FVec Ideal S1x9248x2048 .f32) shapeCasts_S1x9248x2048_S9248x2048 : FVec Ideal S9248x2048 .f32) bitsLt_bf16_f32

theorem Wt_at (q : Fin 9248) (k : Fin 2048) : Wt m c (ix2 q k) = W m c (ix3 0 k q) := by
  unfold Wt
  pointwise

/-- Its first 9216 rows … -/
theorem V_main_v5_at (q : Fin 9216) (k : Fin 2048) :
    (V m c main_v5 : S9216x2048.Idx → EReal) (ix2 q k) = W m c (ix3 0 k ⟨q.val, by omega⟩) := by
  have e : (V m c main_v5 : S9216x2048.Idx → EReal)
      = (extractStridedSlice S9216x2048 ![0, 0] (Wt m c) slices_S9248x2048_S9216x2048_0_0 : FVec Ideal S9216x2048 .bf16) := by
    unfold V hostOps0
    after_results
    rfl
  rw [e, ← Wt_at]
  pointwise

/-- … and its last 32. -/
theorem V_main_v6_at (q : Fin 32) (k : Fin 2048) :
    (V m c main_v6 : S32x2048.Idx → EReal) (ix2 q k) = W m c (ix3 0 k ⟨9216 + q.val, by omega⟩) := by
  have e : (V m c main_v6 : S32x2048.Idx → EReal)
      = (extractStridedSlice S32x2048 ![9216, 0] (Wt m c) slices_S9248x2048_S32x2048_9216_0 : FVec Ideal S32x2048 .bf16) := by
    unfold V hostOps0
    after_results
    rfl
  rw [e, ← Wt_at]
  pointwise

/-- The host's copy of the norm's weight holds it. -/
theorem V_main_v4_at (k : Fin 2048) :
    (V m c main_v4 : S1x2048.Idx → EReal) (ix2 0 k) = G m c (ix2 0 k) := by
  have e : (V m c main_v4 : S1x2048.Idx → EReal)
      = shapeCast S1x2048 (shapeCast S2048 (G m c) shapeCasts_S1x2048_S2048 : FVec Ideal S2048 .f32) shapeCasts_S2048_S1x2048 := by
    unfold V hostOps0
    after_results
    rfl
  rw [e]
  pointwise

theorem iblk_0_at (t : Fin cfg0.N) (r : Fin 1024) (k : Fin 2048) (R : Fin 8192) (hR : R.val = 1024 * (t.val / 9) + r.val) :
    (iblk m c 0 t : S1024x2048.Idx → EReal) (ix2 r k) = X m c (ix2 R k) := by
  show V m c main_arg0 (((cfg0.win 0).blk t).view.emb (ix2 r k)) = _
  rw [V_main_arg0]
  refine congrArg (X m c) (funext fun a => Fin.ext ?_)
  match a with
  | ⟨0, _⟩ => show win0_0.index t (0 : Fin 2) * 1024 + 1 * r.val = R.val; rw [congrFun (places t).1 0, hR]; show t.val / 9 * 1024 + 1 * r.val = _; omega
  | ⟨1, _⟩ => show win0_0.index t (1 : Fin 2) * 2048 + 1 * k.val = k.val; rw [congrFun (places t).1 1]; show 0 * 2048 + 1 * k.val = _; omega

theorem iblk_1_at (t : Fin cfg0.N) (k : Fin 2048) : (iblk m c 1 t : S1x2048.Idx → EReal) (ix2 0 k) = G m c (ix2 0 k) := by
  rw [← V_main_v4_at m c]
  show V m c main_v4 (((cfg0.win 1).blk t).view.emb (ix2 0 k)) = _
  refine congrArg (V m c main_v4) (funext fun a => Fin.ext ?_)
  match a with
  | ⟨0, _⟩ => show win0_1.index t (0 : Fin 2) * 1 + 1 * 0 = 0; rw [congrFun (places t).2.1 0]; rfl
  | ⟨1, _⟩ => show win0_1.index t (1 : Fin 2) * 2048 + 1 * k.val = k.val; rw [congrFun (places t).2.1 1]; show 0 * 2048 + 1 * k.val = _; omega

theorem iblk_2_at (t : Fin cfg0.N) (q : Fin 1024) (k : Fin 2048) (Q : Fin 9248) (hQ : Q.val = 1024 * (t.val % 9) + q.val) :
    (iblk m c 2 t : S1024x2048.Idx → EReal) (ix2 q k) = W m c (ix3 0 k Q) := by
  have hq := q.isLt
  have e : Q = ⟨(⟨1024 * (t.val % 9) + q.val, by omega⟩ : Fin 9216).val, by omega⟩ := Fin.ext hQ
  rw [e, ← V_main_v5_at m c]
  show V m c main_v5 (((cfg0.win 2).blk t).view.emb (ix2 q k)) = _
  refine congrArg (V m c main_v5) (funext fun a => Fin.ext ?_)
  match a with
  | ⟨0, _⟩ => show win0_2.index t (0 : Fin 2) * 1024 + 1 * q.val = 1024 * (t.val % 9) + q.val; rw [congrFun (places t).2.2.1 0]; show t.val % 9 * 1024 + 1 * q.val = _; omega
  | ⟨1, _⟩ => show win0_2.index t (1 : Fin 2) * 2048 + 1 * k.val = k.val; rw [congrFun (places t).2.2.1 1]; show 0 * 2048 + 1 * k.val = _; omega

theorem iblk_3_at (t : Fin cfg0.N) (q : Fin 32) (k : Fin 2048) :
    (iblk m c 3 t : S32x2048.Idx → EReal) (ix2 q k) = W m c (ix3 0 k ⟨9216 + q.val, by omega⟩) := by
  rw [← V_main_v6_at m c]
  show V m c main_v6 (((cfg0.win 3).blk t).view.emb (ix2 q k)) = _
  refine congrArg (V m c main_v6) (funext fun a => Fin.ext ?_)
  match a with
  | ⟨0, _⟩ => show win0_3.index t (0 : Fin 2) * 32 + 1 * q.val = q.val; rw [congrFun (places t).2.2.2.1 0]; show 0 * 32 + 1 * q.val = _; omega
  | ⟨1, _⟩ => show win0_3.index t (1 : Fin 2) * 2048 + 1 * k.val = k.val; rw [congrFun (places t).2.2.2.1 1]; show 0 * 2048 + 1 * k.val = _; omega

/-- The normalised rows in the scratch. -/
theorem rows_at (t : Fin cfg0.N) (r : Fin 1024) (k : Fin 2048) (R : Fin 8192) (hR : R.val = 1024 * (t.val / 9) + r.val) :
    rowsAt m c t (ix2 r k) = X m c (ix2 R k) * invRms (fun k => X m c (ix2 R k)) * G m c (ix2 0 k) := by
  unfold rowsAt
  have e : ∀ k, (iblk m c 0 t : S1024x2048.Idx → EReal) (ix2 r k) = X m c (ix2 R k) := fun k => iblk_0_at m c t r k R hR
  rw [pay1_at, iblk_1_at]
  simp only [e]

/-! ## The result arrays -/

/-- Row `R` of the tokens times column `Q` of the weight. -/
abbrev projAt (R : Fin 8192) (Q : Fin 9248) : EReal :=
  proj (fun k => X m c (ix2 R k)) (fun k => G m c (ix2 0 k)) (fun k => W m c (ix3 0 k Q))

/-- The projected columns, activated. -/
def result0 : Buf (Elt Ideal) ((c : Thread nD τ).loc main_v7_0) := fun i : S8192x9216.Idx =>
  actAt (i 1).val (projAt m c (i 0) ⟨(i 1).val, Nat.lt_of_lt_of_le (i 1).isLt (show 9216 ≤ 9248 by omega)⟩)

/-- The step sizes. -/
def result1 : Buf (Elt Ideal) ((c : Thread nD τ).loc main_v7_1) := fun i : S8192x128.Idx =>
  if h : (i 1).val < 32 then projAt m c (i 0) ⟨9216 + (i 1).val, by omega⟩ else (0 : EReal)

/-- The arguments are finite. -/
def Finite : Prop :=
  (∀ (R : Fin 8192) k, IsReal (X m c (ix2 R k))) ∧ (∀ k, IsReal (G m c (ix2 0 k))) ∧ ∀ k Q, IsReal (W m c (ix3 0 k Q))

/-- What the precondition says. -/
theorem finite_of_pre (h : Cert.Pre_InProjIdeal_finite4 m) : Finite m c := by
  have h0 := congrFun (h c) (Shape.Idx.first Cert.Pre_finite4.Gen.h_S_)
  haveI : Subsingleton Cert.Pre_finite4.S_.Idx := ⟨fun a b => funext fun d => absurd d.isLt (Nat.not_lt_zero _)⟩
  obtain ⟨h12, h3⟩ := IntOp.andi_eq_one.1 h0
  obtain ⟨h1, h2⟩ := IntOp.andi_eq_one.1 h12
  exact ⟨fun R k => isReal_of_all _ _ (fun _ => ofBits_inf) _ _ _ _ h1 (ix2 R k),
    fun k => isReal_of_all _ _ (fun _ => ofBits_inf) _ _ _ _ h2 (ix2 0 k),
    fun k Q => isReal_of_all _ _ (fun _ => ofBits_inf) _ _ _ _ h3 (ix3 0 k Q)⟩

/-- What a point writes into its block of the columns. -/
theorem out_at (hf : Finite m c) (t : Fin cfg0.N) (r q : Fin 1024) (R : Fin 8192) (Q : Fin 9248)
    (hR : R.val = 1024 * (t.val / 9) + r.val) (hQ : Q.val = 1024 * (t.val % 9) + q.val) :
    outAt m c t (ix2 r q) = actAt Q.val (projAt m c R Q) := by
  have e : (∑ k, (rowsAt m c t : S1024x2048.Idx → EReal) (ix2 r k) * (iblk m c 2 t : S1024x2048.Idx → EReal) (ix2 q k)) = projAt m c R Q :=
    Finset.sum_congr rfl fun k _ => congrArg₂ (· * ·) (rows_at m c t r k R hR) (iblk_2_at m c t q k Q hQ)
  have hr : IsReal (projAt m c R Q) := isReal_proj (hf.1 R) hf.2.1 (fun k => hf.2.2 k Q)
  have hq := q.isLt
  unfold outAt act actAt
  by_cases h1 : t.val % 9 ≤ 1
  · rw [if_pos ((gelu_iff t).2 h1), if_pos (show Q.val < 2048 by omega)]
    exact (pay3_at _ _ r q).trans (congrArg gelu e)
  · rw [if_neg (fun h => h1 ((gelu_iff t).1 h)), if_neg (show ¬Q.val < 2048 by omega)]
    by_cases h2 : 4 ≤ t.val % 9 ∧ t.val % 9 ≤ 5
    · rw [if_pos ((silu_iff t).2 h2), if_pos (show 4096 ≤ Q.val ∧ Q.val < 6144 by omega)]
      exact (pay4_at _ _ r q (by rw [e]; exact hr)).trans (congrArg silu e)
    · rw [if_neg (fun h => h2 ((silu_iff t).1 h)), if_neg (show ¬(4096 ≤ Q.val ∧ Q.val < 6144) by omega)]
      exact (pay5_at _ _ r q).trans e

theorem flushed_4 (hf : Finite m c) (t : Fin cfg0.N) :
    (dats m 0 c).flushed 4 t = ((cfg0.win 4).blk t).view.read (Elt Ideal) (result0 m c) := by
  show (cfg0.win 4).cut (grid0.coords t) ((dats m 0 c).after 4 t) = _
  rw [after_4]
  have hN : t.val < 72 := lt_of_lt_of_eq t.isLt N_0
  funext j
  have key : ∀ r q : Fin 1024, outAt m c t (ix2 r q) = result0 m c (((cfg0.win 4).blk t).view.emb (ix2 r q)) := by
    intro r q
    have hr := r.isLt
    have hq := q.isLt
    have e : ((cfg0.win 4).blk t).view.emb (ix2 r q)
        = (ix2 (⟨1024 * (t.val / 9) + r.val, by omega⟩ : Fin 8192) (⟨1024 * (t.val % 9) + q.val, by omega⟩ : Fin 9216) : S8192x9216.Idx) := by
      funext a; apply Fin.ext
      match a with
      | ⟨0, _⟩ => show win0_4.index t (0 : Fin 2) * 1024 + 1 * r.val = 1024 * (t.val / 9) + r.val; rw [congrFun (places t).2.2.2.2.1 0]; show t.val / 9 * 1024 + 1 * r.val = _; omega
      | ⟨1, _⟩ => show win0_4.index t (1 : Fin 2) * 1024 + 1 * q.val = 1024 * (t.val % 9) + q.val; rw [congrFun (places t).2.2.2.2.1 1]; show t.val % 9 * 1024 + 1 * q.val = _; omega
    rw [e]
    exact out_at m c hf t r q _ ⟨1024 * (t.val % 9) + q.val, by omega⟩ rfl rfl
  have ej : (j : S1024x1024.Idx) = ix2 (j 0) (j 1) := by funext a; match a with | ⟨0, _⟩ => rfl | ⟨1, _⟩ => rfl
  show outAt m c t j = result0 m c (((cfg0.win 4).blk t).view.emb j)
  rw [ej]
  exact key _ _

theorem flushed_5 (t : Fin cfg0.N) :
    (dats m 0 c).flushed 5 t = ((cfg0.win 5).blk t).view.read (Elt Ideal) (result1 m c) := by
  show (cfg0.win 5).cut (grid0.coords t) ((dats m 0 c).after 5 t) = _
  rw [after_5]
  have hN : t.val < 72 := lt_of_lt_of_eq t.isLt N_0
  funext j
  have key : ∀ (r : Fin 1024) (q : Fin 128), dtAt m c t (ix2 r q) = result1 m c (((cfg0.win 5).blk t).view.emb (ix2 r q)) := by
    intro r q
    have hr := r.isLt
    have hq := q.isLt
    have e : ((cfg0.win 5).blk t).view.emb (ix2 r q)
        = (ix2 (⟨1024 * (t.val / 9) + r.val, by omega⟩ : Fin 8192) q : S8192x128.Idx) := by
      funext a; apply Fin.ext
      match a with
      | ⟨0, _⟩ => show win0_5.index t (0 : Fin 2) * 1024 + 1 * r.val = 1024 * (t.val / 9) + r.val; rw [congrFun (places t).2.2.2.2.2 0]; show t.val / 9 * 1024 + 1 * r.val = _; omega
      | ⟨1, _⟩ => show win0_5.index t (1 : Fin 2) * 128 + 1 * q.val = q.val; rw [congrFun (places t).2.2.2.2.2 1]; show 0 * 128 + 1 * q.val = _; omega
    rw [e]
    unfold dtAt
    rw [pay2_at]
    show _ = if h : q.val < 32 then projAt m c ⟨1024 * (t.val / 9) + r.val, by omega⟩ ⟨9216 + q.val, by omega⟩ else (0 : EReal)
    by_cases h : q.val < 32
    · rw [dif_pos h, dif_pos h]
      exact Finset.sum_congr rfl fun k _ => congrArg₂ (· * ·) (rows_at m c t r k _ rfl) (iblk_3_at m c t ⟨q.val, h⟩ k)
    · rw [dif_neg h, dif_neg h]
  have ej : (j : S1024x128.Idx) = ix2 (j 0) (j 1) := by funext a; match a with | ⟨0, _⟩ => rfl | ⟨1, _⟩ => rfl
  show dtAt m c t j = result1 m c (((cfg0.win 5).blk t).view.emb j)
  rw [ej]
  exact key _ _

theorem final_4 (hf : Finite m c) : (dats m 0 c).arrAt 4 cfg0.N = result0 m c := by
  refine (dats m 0 c).arrAt_eq_of_cover 4 _ (fun t _ => flushed_4 m c hf t) fun i => ?_
  have h0 : (i 0).val < 8192 := (i 0).isLt
  have h1 : (i 1).val < 9216 := (i 1).isLt
  have ht : 9 * ((i 0).val / 1024) + (i 1).val / 1024 < cfg0.N := lt_of_lt_of_eq (by omega) N_0.symm
  refine ⟨⟨_, ht⟩, flush0_4 _, ?_⟩
  show i ∈ ((View.whole main_v7_0).slice (win0_4.rect ⟨_, ht⟩)).set
  rw [View.set_slice_whole, Rect.mem_set_unit]
  intro a
  have p := (places ⟨_, ht⟩).2.2.2.2.1
  match a with
  | ⟨0, _⟩ =>
    show win0_4.index ⟨_, ht⟩ (0 : Fin 2) * 1024 ≤ (i 0).val ∧ (i 0).val < win0_4.index ⟨_, ht⟩ (0 : Fin 2) * 1024 + 1024
    rw [congrFun p 0]
    show (9 * ((i 0).val / 1024) + (i 1).val / 1024) / 9 * 1024 ≤ (i 0).val ∧ (i 0).val < (9 * ((i 0).val / 1024) + (i 1).val / 1024) / 9 * 1024 + 1024
    omega
  | ⟨1, _⟩ =>
    show win0_4.index ⟨_, ht⟩ (1 : Fin 2) * 1024 ≤ (i 1).val ∧ (i 1).val < win0_4.index ⟨_, ht⟩ (1 : Fin 2) * 1024 + 1024
    rw [congrFun p 1]
    show (9 * ((i 0).val / 1024) + (i 1).val / 1024) % 9 * 1024 ≤ (i 1).val ∧ (i 1).val < (9 * ((i 0).val / 1024) + (i 1).val / 1024) % 9 * 1024 + 1024
    omega

theorem final_5 : (dats m 0 c).arrAt 5 cfg0.N = result1 m c := by
  refine (dats m 0 c).arrAt_eq_of_cover 5 _ (fun t _ => flushed_5 m c t) fun i => ?_
  have h0 : (i 0).val < 8192 := (i 0).isLt
  have h1 : (i 1).val < 128 := (i 1).isLt
  have ht : 9 * ((i 0).val / 1024) + 8 < cfg0.N := lt_of_lt_of_eq (by omega) N_0.symm
  refine ⟨⟨_, ht⟩, (flush0_5 _).2 (by show (9 * ((i 0).val / 1024) + 8) % 9 = 8; omega), ?_⟩
  show i ∈ ((View.whole main_v7_1).slice (win0_5.rect ⟨_, ht⟩)).set
  rw [View.set_slice_whole, Rect.mem_set_unit]
  intro a
  have p := (places ⟨_, ht⟩).2.2.2.2.2
  match a with
  | ⟨0, _⟩ =>
    show win0_5.index ⟨_, ht⟩ (0 : Fin 2) * 1024 ≤ (i 0).val ∧ (i 0).val < win0_5.index ⟨_, ht⟩ (0 : Fin 2) * 1024 + 1024
    rw [congrFun p 0]
    show (9 * ((i 0).val / 1024) + 8) / 9 * 1024 ≤ (i 0).val ∧ (i 0).val < (9 * ((i 0).val / 1024) + 8) / 9 * 1024 + 1024
    omega
  | ⟨1, _⟩ =>
    show win0_5.index ⟨_, ht⟩ (1 : Fin 2) * 128 ≤ (i 1).val ∧ (i 1).val < win0_5.index ⟨_, ht⟩ (1 : Fin 2) * 128 + 128
    rw [congrFun p 1]
    show 0 * 128 ≤ (i 1).val ∧ (i 1).val < 0 * 128 + 128
    omega

/-- From finite arguments the kernel runs, its result arrays end holding the projected columns and the step sizes, and
    its arguments are as they were. -/
theorem result_run (hf : ∀ c, Finite m c) :
    θ_run defs (onTc (τ := τ) (main (F := Ideal))) ⟨m, fun _ => 0, ρ⟩ fun r => ∀ c : Dev nD,
      r.2.mem ((c : Thread nD τ).loc main_v7_0) = result0 m c
      ∧ r.2.mem ((c : Thread nD τ).loc main_v7_1) = result1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1.1 c).1 4).trans (final_4 m c (hf c)), ((h.1.1 c).1 5).trans (final_5 m c), h.2.1 c⟩)
    (θ_run_and (run_main m ρ) (InProjRun.frame m ρ))

end

/-- The kernel's two results are the reference's. -/
theorem algebraic : Cert.algebraic_InProjIdeal_InProjRefIdeal_pre_finite4 := by
  intro m ρ m' ρ' hpre hagree
  refine ⟨fun c => result0 m c, fun c => result1 m c, result_run m ρ (fun c => finite_of_pre m c hpre),
    (θ_run _ _ _).mono (fun _ h c => ⟨(h c).1.trans ?_, (h c).2.1.trans ?_, (h c).2.2⟩)
    (Cert.InProjRefIdeal.Value.run (F := Ideal) m' ρ')⟩
  · rw [Cert.InProjRefIdeal.Read.val_main_v34_eq, (hagree c).1, (hagree c).2.1, (hagree c).2.2]
    funext j
    have ej : (j : S8192x9216.Idx) = ix2 (j 0) (j 1) := by funext a; match a with | ⟨0, _⟩ => rfl | ⟨1, _⟩ => rfl
    rw [ej]
    exact v34_at _ _ _ _ _
  · refine Eq.trans (b := Cert.InProjRefIdeal.Read.val_main_v37 (F := Ideal) _ _ _) rfl ?_
    rw [(hagree c).1, (hagree c).2.1, (hagree c).2.2]
    funext j
    have ej : (j : S8192x128.Idx) = ix2 (j 0) (j 1) := by funext a; match a with | ⟨0, _⟩ => rfl | ⟨1, _⟩ => rfl
    rw [ej]
    exact v37_at _ _ _ _ _

/-- The reference runs, leaves its arguments, and has no semaphore. -/
theorem frame_ref : Cert.quiescent_InProjRefIdeal := fun m ρ _ =>
  (θ_run Cert.InProjRefIdeal.defs _ _).mono (fun r h => ⟨fun c => (h c).2.2, sem_eq_zero_of_no_sems (by decide) r.2⟩)
    (Cert.InProjRefIdeal.Value.run (F := Ideal) m ρ)

end Cert.Proof.InProj

end
-- ==== Proof.StateHeads.lean ====
/-
  The state kernel's stores as one function of the sequence and the head.  The kernel unrolls the eight sequences of a
  grid point, the four head groups, and in each its eight heads; every one is the same text on its own rows.  Here the
  text is written once, and the lists of stores the run leaves are shown to be its values.
-/
module

public import proofs.«01_k».proof.Proof.Gen.SsdStateIdeal.Frame

@[expose] public section

set_option maxRecDepth 16384

noncomputable section

namespace Cert.SsdStateIdeal.Gen

open Idealize.ShloMosaic Idealize.ShloMosaic.TcCoe
open Idealize.SL.Sem

variable {F : FTy → Type} [FloatOps F]

namespace State

/-- A buffer held at the contents that read `val`. -/
structure Held (F : FTy → Type) (sp : Space) (s : Shape) (e : EltTy) where
  ref : Memref sig .tc sp s e
  whole : ref.IsWhole
  val : Vec F s e

/-- What the kernel is given: its windows' staging buffers, each held at the contents of its block. -/
structure Given (F : FTy → Type) where
  cdec : Held F .smem S128x128 .f32
  s : Held F .vmem S8x2048x128 .f32
  c : Held F .vmem S8x8x512 .f32
  b : Held F .vmem S8x8x512 .f32
  xw : Held F .vmem S8x8x2048 .f32

variable (w : Given F) (i : grid0.Coords)

/-! Where a sequence's group and its head lie. -/

theorem inb_rows (q : Fin 8) (g : Fin 4) : ∀ a, (![q.val, 512 * g.val, 0] : Fin 3 → ℕ) a + S1x512x128.size a ≤ S8x2048x128.size a := by
  have := q.isLt
  have := g.isLt
  intro a
  match a with
  | ⟨0, _⟩ => show q.val + 1 ≤ 8; omega
  | ⟨1, _⟩ => show 512 * g.val + 512 ≤ 2048; omega
  | ⟨2, _⟩ => show 0 + 128 ≤ 128; omega

theorem inb_head (q : Fin 8) (g : Fin 4) (u : Fin 8) :
    ∀ a, (![q.val, 512 * g.val + 64 * u.val, 0] : Fin 3 → ℕ) a + S1x64x128.size a ≤ S8x2048x128.size a := by
  have := q.isLt
  have := g.isLt
  have := u.isLt
  intro a
  match a with
  | ⟨0, _⟩ => show q.val + 1 ≤ 8; omega
  | ⟨1, _⟩ => show 512 * g.val + 64 * u.val + 64 ≤ 2048; omega
  | ⟨2, _⟩ => show 0 + 128 ≤ 128; omega

theorem inb_wide (q : Fin 8) (g : Fin 4) : ∀ a, (![q.val, 0, 512 * g.val] : Fin 3 → ℕ) a + S1x8x512.size a ≤ S8x8x2048.size a := by
  have := q.isLt
  have := g.isLt
  intro a
  match a with
  | ⟨0, _⟩ => show q.val + 1 ≤ 8; omega
  | ⟨1, _⟩ => show 0 + 8 ≤ 8; omega
  | ⟨2, _⟩ => show 512 * g.val + 512 ≤ 2048; omega

theorem inb_slim (q : Fin 8) (g : Fin 4) : ∀ a, (![q.val, 0, 128 * g.val] : Fin 3 → ℕ) a + S1x8x128.size a ≤ S8x8x512.size a := by
  have := q.isLt
  have := g.isLt
  intro a
  match a with
  | ⟨0, _⟩ => show q.val + 1 ≤ 8; omega
  | ⟨1, _⟩ => show 0 + 8 ≤ 8; omega
  | ⟨2, _⟩ => show 128 * g.val + 128 ≤ 512; omega

/-- Where the decay of a point's sequence and its head lies, as the kernel computes it … -/
def place (q : Fin 8) (g : Fin 4) (u : Fin 8) : Fin 2 → ℕ :=
  ![(Scalar.indexCast (Scalar.addi (Scalar.muli (BitVec.ofNat 32 (i 0).val) 8#32) (BitVec.ofNat 32 q.val)) : Index).toNat, 8 * g.val + u.val]

/-- … and in closed form. -/
theorem place_eq (q : Fin 8) (g : Fin 4) (u : Fin 8) : place i q g u = ![8 * (i 0).val + q.val, 8 * g.val + u.val] := by
  have h := congrFun (k0_off1_eq i q) 0
  funext a
  match a with
  | ⟨0, _⟩ => exact h
  | ⟨1, _⟩ => rfl

theorem inb_place (q : Fin 8) (g : Fin 4) (u : Fin 8) : ∀ a, place i q g u a + S1x1.size a ≤ S128x128.size a := by
  have := q.isLt
  have := g.isLt
  have := u.isLt
  have hi : (i 0).val < 16 := (i 0).isLt
  rw [place_eq]
  intro a
  match a with
  | ⟨0, _⟩ => show 8 * (i 0).val + q.val + 1 ≤ 128; omega
  | ⟨1, _⟩ => show 8 * g.val + u.val + 1 ≤ 128; omega

theorem slices_head (u : Fin 8) : S512x128.Slices ![64 * u.val, 0] S64x128 := by
  revert u
  decide

/-! The loads. -/

/-- What a load of a rectangle of a held buffer reads. -/
def Held.load {sp : Space} {s : Shape} {e : EltTy} (m : Held F sp s e) (r : Rect s) : Vec F r.shape e :=
  View.readAt (Elt F) m.ref.view r.toLoadRect (m.whole.unread m.val)

/-- The group's rows of the state. -/
def rows (q : Fin 8) (g : Fin 4) : Vec F S1x512x128 .f32 :=
  w.s.load (Rect.unit ![q.val, 512 * g.val, 0] S1x512x128.size (inb_rows q g))

/-- The head's rows of the state. -/
def head (q : Fin 8) (g : Fin 4) (u : Fin 8) : Vec F S1x64x128 .f32 :=
  w.s.load (Rect.unit ![q.val, 512 * g.val + 64 * u.val, 0] S1x64x128.size (inb_head q g u))

/-- The group's columns of the weighted inputs. -/
def wide (q : Fin 8) (g : Fin 4) : Vec F S1x8x512 .f32 :=
  w.xw.load (Rect.unit ![q.val, 0, 512 * g.val] S1x8x512.size (inb_wide q g))

/-- The group's columns of the C or of the B rows. -/
def slim (m : Held F .vmem S8x8x512 .f32) (q : Fin 8) (g : Fin 4) : Vec F S1x8x128 .f32 :=
  m.load (Rect.unit ![q.val, 0, 128 * g.val] S1x8x128.size (inb_slim q g))

/-- The head's decay. -/
def decay (q : Fin 8) (g : Fin 4) (u : Fin 8) : Elt F .f32 :=
  w.cdec.load (Rect.unit (place i q g u) S1x1.size (inb_place i q g u)) (Shape.Idx.first (show 0 < S1x1.numel by decide))

/-! The values stored. -/

/-- The state's rows decayed, and the head's rows of the group's update added. -/
def step (d : Elt F .f32) (h : Vec F S1x64x128 .f32) (upd : FVec F S512x128 .f32) (u : Fin 8) : FVec F S1x64x128 .f32 :=
  shapeCast S1x64x128 (addf (mulf (broadcast S64x128 d) (shapeCast S64x128 h shapeCasts_S1x64x128_S64x128 : FVec F S64x128 .f32))
    (extractStridedSlice S64x128 ![64 * u.val, 0] upd (slices_head u) : FVec F S64x128 .f32)) shapeCasts_S64x128_S1x64x128

def pairs : List (Fin 8 × Fin 4) := ([7, 6, 5, 4, 3, 2, 1, 0] : List (Fin 8)).flatMap fun q => ([3, 2, 1, 0] : List (Fin 4)).map fun g => (q, g)

/-- The stores of the state, last first. -/
def storesS : List (View.Piece (Elt F) S8x2048x128 .f32) := pairs.flatMap fun p => ([7, 6, 5, 4, 3, 2, 1, 0] : List (Fin 8)).map fun u =>
  ⟨Rect.unit ![p.1.val, 512 * p.2.val + 64 * u.val, 0] S1x64x128.size (inb_head p.1 p.2 u),
    step (decay w i p.1 p.2 u) (head w p.1 p.2 u) (k0_pay4 (wide w p.1 p.2) (slim w.b p.1 p.2)) u⟩

/-- The stores of the state's part of the output, last first. -/
def storesY : List (View.Piece (Elt F) S8x8x2048 .f32) := pairs.map fun p =>
  ⟨Rect.unit ![p.1.val, 0, 512 * p.2.val] S1x8x512.size (inb_wide p.1 p.2), k0_pay3 (rows w p.1 p.2) (slim w.c p.1 p.2)⟩

end State

open State in
theorem storesY_eq (c : Dev nD) (i : grid0.Coords) (arg1 : Memref sig .tc .smem S128x128 .f32) (harg1 : arg1.IsWhole) (arg2 : Memref sig .tc .vmem S8x2048x128 .f32) (harg2 : arg2.IsWhole) (arg3 : Memref sig .tc .vmem S8x8x512 .f32) (harg3 : arg3.IsWhole) (arg4 : Memref sig .tc .vmem S8x8x512 .f32) (harg4 : arg4.IsWhole) (arg5 : Memref sig .tc .vmem S8x8x2048 .f32) (harg5 : arg5.IsWhole) (arg6 : Memref sig .tc .vmem S8x2048x128 .f32) (harg6 : arg6.IsWhole) (arg7 : Memref sig .tc .vmem S8x8x2048 .f32) (harg7 : arg7.IsWhole)
    (x0 : Vec F S128x128 .f32) (x1 : Vec F S8x2048x128 .f32) (x2 : Vec F S8x8x512 .f32) (x3 : Vec F S8x8x512 .f32) (x4 : Vec F S8x8x2048 .f32) :
    (kernelRun0_A c i arg1 harg1 arg2 harg2 arg3 harg3 arg4 harg4 arg5 harg5 arg6 harg6 arg7 harg7 x0 x1 x2 x3 x4).2.1
      = storesY ⟨⟨arg1, harg1, x0⟩, ⟨arg2, harg2, x1⟩, ⟨arg3, harg3, x2⟩, ⟨arg4, harg4, x3⟩, ⟨arg5, harg5, x4⟩⟩ := by
  sl_kernel_rfl

open State in
theorem storesS_eq (c : Dev nD) (i : grid0.Coords) (arg1 : Memref sig .tc .smem S128x128 .f32) (harg1 : arg1.IsWhole) (arg2 : Memref sig .tc .vmem S8x2048x128 .f32) (harg2 : arg2.IsWhole) (arg3 : Memref sig .tc .vmem S8x8x512 .f32) (harg3 : arg3.IsWhole) (arg4 : Memref sig .tc .vmem S8x8x512 .f32) (harg4 : arg4.IsWhole) (arg5 : Memref sig .tc .vmem S8x8x2048 .f32) (harg5 : arg5.IsWhole) (arg6 : Memref sig .tc .vmem S8x2048x128 .f32) (harg6 : arg6.IsWhole) (arg7 : Memref sig .tc .vmem S8x8x2048 .f32) (harg7 : arg7.IsWhole)
    (x0 : Vec F S128x128 .f32) (x1 : Vec F S8x2048x128 .f32) (x2 : Vec F S8x8x512 .f32) (x3 : Vec F S8x8x512 .f32) (x4 : Vec F S8x8x2048 .f32) :
    (kernelRun0_A c i arg1 harg1 arg2 harg2 arg3 harg3 arg4 harg4 arg5 harg5 arg6 harg6 arg7 harg7 x0 x1 x2 x3 x4).1
      = storesS ⟨⟨arg1, harg1, x0⟩, ⟨arg2, harg2, x1⟩, ⟨arg3, harg3, x2⟩, ⟨arg4, harg4, x3⟩, ⟨arg5, harg5, x4⟩⟩ i := by
  sl_kernel_rfl

end Cert.SsdStateIdeal.Gen

end
-- ==== Proof.StateRead.lean ====
/-
  What the state kernel stores, element by element: a head's rows of the new state are its decay times the old ones
  plus the group's sum over the step's eight positions, and a group's columns of the output are the C rows times the
  old state.  The lists of stores leave these at every place of their blocks.
-/
module

public import proofs.«01_k».proof.Proof.StateHeads
public import Idealize.ShloMosaic.Lib.Pipeline.Value
public import Idealize.ShloMosaic.Lib.WholeRead
public import Idealize.ShloMosaic.Lib.Pointwise

@[expose] public section

set_option maxRecDepth 16384

noncomputable section

namespace Cert.SsdStateIdeal.Gen.State

open Idealize.ShloMosaic Idealize.ShloMosaic.TcCoe
open Idealize.SL.Sem

/-! ## Rows and columns -/

/-- A row of the state: its group, the head there, and the row of the head. -/
def grp (r : Fin 2048) : Fin 4 := ⟨r.val / 512, by have := r.isLt; omega⟩
def hd (r : Fin 2048) : Fin 8 := ⟨r.val / 64 % 8, Nat.mod_lt _ (by norm_num)⟩

/-- The row of the state at row `x` of group `g`. -/
def row (g : Fin 4) (x : Fin 512) : Fin 2048 := ⟨512 * g.val + x.val, by have := g.isLt; have := x.isLt; omega⟩

/-- The row of a group at row `p` of head `u`. -/
def sub (u : Fin 8) (p : Fin 64) : Fin 512 := ⟨64 * u.val + p.val, by have := u.isLt; have := p.isLt; omega⟩

/-- The column of the B or of the C rows at lane `n` of group `g`. -/
def lane (g : Fin 4) (n : Fin 128) : Fin 512 := ⟨128 * g.val + n.val, by have := g.isLt; have := n.isLt; omega⟩

/-- The column of a head's decay. -/
def hcol (g : Fin 4) (u : Fin 8) : Fin 128 := ⟨8 * g.val + u.val, by have := g.isLt; have := u.isLt; omega⟩

theorem grp_row (g : Fin 4) (x : Fin 512) : grp (row g x) = g := by
  apply Fin.ext; show (512 * g.val + x.val) / 512 = g.val; have := x.isLt; omega

theorem hd_row (g : Fin 4) (u : Fin 8) (p : Fin 64) : hd (row g (sub u p)) = u := by
  apply Fin.ext; show (512 * g.val + (64 * u.val + p.val)) / 64 % 8 = u.val; have := p.isLt; have := u.isLt; omega

theorem eta3 {p q r : ℕ} (x : (⟨3, ![p, q, r]⟩ : Shape).Idx) : ∃ (a : Fin p) (b : Fin q) (c : Fin r), x = ix3 a b c :=
  ⟨x 0, x 1, x 2, by funext a; match a with | ⟨0, _⟩ => rfl | ⟨1, _⟩ => rfl | ⟨2, _⟩ => rfl⟩

/-! ## Loads -/

variable (w : Given Ideal) (i : grid0.Coords)

/-- The row of the decays for sequence `q` of the point. -/
def seq (q : Fin 8) : Fin 128 := ⟨8 * (i 0).val + q.val, by have hi : (i 0).val < 16 := (i 0).isLt; have := q.isLt; omega⟩

theorem rows_at (q : Fin 8) (g : Fin 4) (x : Fin 512) (n : Fin 128) : rows w q g (ix3 0 x n) = w.s.val (ix3 q (row g x) n) := by
  unfold rows Held.load
  rw [Memref.IsWhole.readAt_unread]
  refine congrArg w.s.val (funext fun a => Fin.ext ?_)
  match a with
  | ⟨0, _⟩ => show q.val + 1 * 0 = q.val; omega
  | ⟨1, _⟩ => show 512 * g.val + 1 * x.val = 512 * g.val + x.val; omega
  | ⟨2, _⟩ => show 0 + 1 * n.val = n.val; omega

theorem head_at (q : Fin 8) (g : Fin 4) (u : Fin 8) (p : Fin 64) (n : Fin 128) :
    head w q g u (ix3 0 p n) = w.s.val (ix3 q (row g (sub u p)) n) := by
  unfold head Held.load
  rw [Memref.IsWhole.readAt_unread]
  refine congrArg w.s.val (funext fun a => Fin.ext ?_)
  match a with
  | ⟨0, _⟩ => show q.val + 1 * 0 = q.val; omega
  | ⟨1, _⟩ => show 512 * g.val + 64 * u.val + 1 * p.val = 512 * g.val + (64 * u.val + p.val); omega
  | ⟨2, _⟩ => show 0 + 1 * n.val = n.val; omega

theorem wide_at (q : Fin 8) (g : Fin 4) (j : Fin 8) (x : Fin 512) : wide w q g (ix3 0 j x) = w.xw.val (ix3 q j (row g x)) := by
  unfold wide Held.load
  rw [Memref.IsWhole.readAt_unread]
  refine congrArg w.xw.val (funext fun a => Fin.ext ?_)
  match a with
  | ⟨0, _⟩ => show q.val + 1 * 0 = q.val; omega
  | ⟨1, _⟩ => show 0 + 1 * j.val = j.val; omega
  | ⟨2, _⟩ => show 512 * g.val + 1 * x.val = 512 * g.val + x.val; omega

theorem slim_at (m : Held Ideal .vmem S8x8x512 .f32) (q : Fin 8) (g : Fin 4) (j : Fin 8) (n : Fin 128) :
    slim m q g (ix3 0 j n) = m.val (ix3 q j (lane g n)) := by
  unfold slim Held.load
  rw [Memref.IsWhole.readAt_unread]
  refine congrArg m.val (funext fun a => Fin.ext ?_)
  match a with
  | ⟨0, _⟩ => show q.val + 1 * 0 = q.val; omega
  | ⟨1, _⟩ => show 0 + 1 * j.val = j.val; omega
  | ⟨2, _⟩ => show 128 * g.val + 1 * n.val = 128 * g.val + n.val; omega

theorem decay_at (q : Fin 8) (g : Fin 4) (u : Fin 8) : decay w i q g u = w.cdec.val (ix2 (seq i q) (hcol g u)) := by
  unfold decay Held.load
  rw [Memref.IsWhole.readAt_unread]
  refine congrArg w.cdec.val (funext fun a => Fin.ext ?_)
  have h := congrFun (place_eq i q g u) a
  match a with
  | ⟨0, _⟩ => show place i q g u 0 + 1 * 0 = 8 * (i 0).val + q.val; exact h
  | ⟨1, _⟩ => show place i q g u 1 + 1 * 0 = 8 * g.val + u.val; exact h

/-! ## The values stored -/

theorem pay3_at (v : Vec Ideal S1x512x128 .f32) (c : Vec Ideal S1x8x128 .f32) (z : Fin 1) (j : Fin 8) (x : Fin 512) :
    k0_pay3 v c (ix3 z j x) = ∑ n, c (ix3 0 j n) * v (ix3 0 x n) := by
  unfold k0_pay3
  pointwise

theorem pay4_at (v : Vec Ideal S1x8x512 .f32) (b : Vec Ideal S1x8x128 .f32) (x : Fin 512) (n : Fin 128) :
    k0_pay4 v b (ix2 x n) = ∑ j, v (ix3 0 j x) * b (ix3 0 j n) := by
  unfold k0_pay4
  pointwise

theorem slice_at (upd : FVec Ideal S512x128 .f32) (u : Fin 8) (p : Fin 64) (n : Fin 128) :
    extractStridedSlice S64x128 ![64 * u.val, 0] upd (slices_head u) (ix2 p n) = upd (ix2 (sub u p) n) := by
  refine extractStridedSlice_apply _ _ _ _ _ fun a => ?_
  match a with
  | ⟨0, _⟩ => rfl
  | ⟨1, _⟩ => show n.val = 0 + n.val; omega

theorem step_at (d : EReal) (h : Vec Ideal S1x64x128 .f32) (upd : FVec Ideal S512x128 .f32) (u : Fin 8) (z : Fin 1) (p : Fin 64) (n : Fin 128) :
    step (F := Ideal) d h upd u (ix3 z p n) = d * h (ix3 0 p n) + upd (ix2 (sub u p) n) := by
  unfold step
  rw [← slice_at upd u p n]
  generalize extractStridedSlice S64x128 ![64 * u.val, 0] upd (slices_head u) = v
  pointwise

/-- The new state. -/
def newV (q : Fin 8) (r : Fin 2048) (n : Fin 128) : EReal :=
  w.cdec.val (ix2 (seq i q) (hcol (grp r) (hd r))) * w.s.val (ix3 q r n) + ∑ j, w.xw.val (ix3 q j r) * w.b.val (ix3 q j (lane (grp r) n))

/-- The old state's part of the output. -/
def offV (q : Fin 8) (j : Fin 8) (r : Fin 2048) : EReal := ∑ n, w.c.val (ix3 q j (lane (grp r) n)) * w.s.val (ix3 q r n)

theorem new_at (q : Fin 8) (g : Fin 4) (u : Fin 8) (z : Fin 1) (p : Fin 64) (n : Fin 128) :
    step (decay w i q g u) (head w q g u) (k0_pay4 (wide w q g) (slim w.b q g)) u (ix3 z p n) = newV w i q (row g (sub u p)) n := by
  unfold newV
  rw [step_at, pay4_at, decay_at, head_at, grp_row, hd_row]
  simp only [wide_at, slim_at]

theorem off_at (q : Fin 8) (g : Fin 4) (z : Fin 1) (j : Fin 8) (x : Fin 512) :
    k0_pay3 (rows w q g) (slim w.c q g) (ix3 z j x) = offV w q j (row g x) := by
  unfold offV
  rw [pay3_at, grp_row]
  simp only [rows_at, slim_at]

/-! ## What the stores leave -/

theorem mem_eight (q : Fin 8) : q ∈ ([7, 6, 5, 4, 3, 2, 1, 0] : List (Fin 8)) := by revert q; decide
theorem mem_four (g : Fin 4) : g ∈ ([3, 2, 1, 0] : List (Fin 4)) := by revert g; decide

theorem mem_pairs (q : Fin 8) (g : Fin 4) : (q, g) ∈ pairs :=
  List.mem_flatMap.2 ⟨q, mem_eight q, List.mem_map.2 ⟨g, mem_four g, rfl⟩⟩

theorem emb_head (q : Fin 8) (g : Fin 4) (u : Fin 8) (z : Fin 1) (p : Fin 64) (n : Fin 128) :
    (Rect.unit (s := S8x2048x128) ![q.val, 512 * g.val + 64 * u.val, 0] S1x64x128.size (inb_head q g u)).emb (ix3 z p n) = ix3 q (row g (sub u p)) n := by
  funext a; apply Fin.ext
  match a with
  | ⟨0, _⟩ => show q.val + 1 * z.val = q.val; omega
  | ⟨1, _⟩ => show 512 * g.val + 64 * u.val + 1 * p.val = 512 * g.val + (64 * u.val + p.val); omega
  | ⟨2, _⟩ => show 0 + 1 * n.val = n.val; omega

theorem emb_wide (q : Fin 8) (g : Fin 4) (z : Fin 1) (j : Fin 8) (x : Fin 512) :
    (Rect.unit (s := S8x8x2048) ![q.val, 0, 512 * g.val] S1x8x512.size (inb_wide q g)).emb (ix3 z j x) = ix3 q j (row g x) := by
  funext a; apply Fin.ext
  match a with
  | ⟨0, _⟩ => show q.val + 1 * z.val = q.val; omega
  | ⟨1, _⟩ => show 0 + 1 * j.val = j.val; omega
  | ⟨2, _⟩ => show 512 * g.val + 1 * x.val = 512 * g.val + x.val; omega

theorem mem_head (q : Fin 8) (r : Fin 2048) (n : Fin 128) :
    (ix3 q r n : S8x2048x128.Idx)
      ∈ (Rect.unit (s := S8x2048x128) ![q.val, 512 * (grp r).val + 64 * (hd r).val, 0] S1x64x128.size (inb_head q (grp r) (hd r))).set := by
  have hr := r.isLt
  have hn := n.isLt
  refine Rect.mem_set_unit.2 fun a => ?_
  match a with
  | ⟨0, _⟩ => show q.val ≤ q.val ∧ q.val < q.val + 1; omega
  | ⟨1, _⟩ =>
    show 512 * (r.val / 512) + 64 * (r.val / 64 % 8) ≤ r.val ∧ r.val < 512 * (r.val / 512) + 64 * (r.val / 64 % 8) + 64
    omega
  | ⟨2, _⟩ => show 0 ≤ n.val ∧ n.val < 0 + 128; omega

theorem mem_wide (q : Fin 8) (j : Fin 8) (r : Fin 2048) :
    (ix3 q j r : S8x8x2048.Idx) ∈ (Rect.unit (s := S8x8x2048) ![q.val, 0, 512 * (grp r).val] S1x8x512.size (inb_wide q (grp r))).set := by
  have hr := r.isLt
  have hj := j.isLt
  refine Rect.mem_set_unit.2 fun a => ?_
  match a with
  | ⟨0, _⟩ => show q.val ≤ q.val ∧ q.val < q.val + 1; omega
  | ⟨1, _⟩ => show 0 ≤ j.val ∧ j.val < 0 + 8; omega
  | ⟨2, _⟩ => show 512 * (r.val / 512) ≤ r.val ∧ r.val < 512 * (r.val / 512) + 512; omega

/-- The two blocks as functions of the whole index. -/
def resS : S8x2048x128.Idx → EReal := fun y => newV w i (y 0) (y 1) (y 2)
def resY : S8x8x2048.Idx → EReal := fun y => offV w (y 0) (y 1) (y 2)

/-- The new state the stores leave. -/
theorem canonS (y : S8x2048x128.Idx) : View.canon (storesS w i) y = resS w i y := by
  refine View.canon_apply_of_pieces (Val := Elt Ideal) (e := .f32) (resS w i) _ ?_ y ?_
  · intro p hp
    obtain ⟨⟨q, g⟩, -, hp⟩ := List.mem_flatMap.1 hp
    obtain ⟨u, -, rfl⟩ := List.mem_map.1 hp
    have key : ∀ x : S1x64x128.Idx, step (decay w i q g u) (head w q g u) (k0_pay4 (wide w q g) (slim w.b q g)) u x
        = resS w i ((Rect.unit (s := S8x2048x128) ![q.val, 512 * g.val + 64 * u.val, 0] S1x64x128.size (inb_head q g u)).emb x) := by
      intro x
      obtain ⟨z, p, n, rfl⟩ := eta3 (p := 1) (q := 64) (r := 128) x
      rw [emb_head, new_at]
      rfl
    exact key
  · obtain ⟨q, r, n, rfl⟩ := eta3 (p := 8) (q := 2048) (r := 128) y
    exact ⟨_, List.mem_flatMap.2 ⟨(q, grp r), mem_pairs _ _, List.mem_map.2 ⟨hd r, mem_eight _, rfl⟩⟩, mem_head q r n⟩

/-- The old state's part of the output. -/
theorem canonY (y : S8x8x2048.Idx) : View.canon (storesY w) y = resY w y := by
  refine View.canon_apply_of_pieces (Val := Elt Ideal) (e := .f32) (resY w) _ ?_ y ?_
  · intro p hp
    obtain ⟨⟨q, g⟩, -, rfl⟩ := List.mem_map.1 hp
    have key : ∀ x : S1x8x512.Idx, k0_pay3 (rows w q g) (slim w.c q g) x
        = resY w ((Rect.unit (s := S8x8x2048) ![q.val, 0, 512 * g.val] S1x8x512.size (inb_wide q g)).emb x) := by
      intro x
      obtain ⟨z, j, x, rfl⟩ := eta3 (p := 1) (q := 8) (r := 512) x
      rw [emb_wide, off_at]
      rfl
    exact key
  · obtain ⟨q, j, r, rfl⟩ := eta3 (p := 8) (q := 8) (r := 2048) y
    exact ⟨_, List.mem_map.2 ⟨(q, grp r), mem_pairs _ _, rfl⟩, mem_wide q j r⟩

end Cert.SsdStateIdeal.Gen.State

end
-- ==== Proof.StateRef.lean ====
/-
  The state update's reference, element by element: its two results at a sequence, a row and a column.
-/
module

public import proofs.«01_k».proof.Proof.Gen.SsdStateRefIdeal.Read
public import Idealize.ShloMosaic.Lib.Pipeline.Value
public import Idealize.ShloMosaic.Lib.Pointwise

@[expose] public section

set_option maxRecDepth 16384

noncomputable section

namespace Cert.Proof.SsdState

open Idealize.ShloMosaic Idealize.ShloMosaic.TcCoe Idealize.SL.Sem
open Cert.SsdStateRefIdeal Cert.SsdStateRefIdeal.Gen Cert.SsdStateRefIdeal.Read

/-- The place of a row of the state in the array by heads. -/
def byHead (b : Fin 128) (r : Fin 2048) (n : Fin 128) : S128x32x64x128.Idx :=
  ix4 b (⟨r.val / 64, by have := r.isLt; omega⟩ : Fin 32) (⟨r.val % 64, by omega⟩ : Fin 64) n

variable (x0 : (⟨S128x128, .f32⟩ : BufTy).Contents (Elt Ideal)) (x1 : (⟨S1x128x32x64x128, .f32⟩ : BufTy).Contents (Elt Ideal))
  (x2 x3 : (⟨S128x8x512, .f32⟩ : BufTy).Contents (Elt Ideal)) (x4 : (⟨S128x8x2048, .f32⟩ : BufTy).Contents (Elt Ideal))

/-- The group of a row, as the lane block of the B and C rows. -/
def laneR (r : Fin 2048) (n : Fin 128) : Fin 512 := ⟨128 * (r.val / 512) + n.val, by have := r.isLt; have := n.isLt; omega⟩

/-- The column of the decay of a row. -/
def hcolR (r : Fin 2048) : Fin 128 := ⟨r.val / 64, by have := r.isLt; omega⟩

theorem idx14 (b : Fin 128) (r : Fin 2048) (n : Fin 128) : idx_main_v14 (ix3 b r n) = byHead b r n := by
  have hb := b.isLt
  have hr := r.isLt
  have hn := n.isLt
  funext a; apply Fin.ext
  match a with
  | ⟨0, _⟩ => show ((b.val * 2048 + r.val) * 128 + n.val) / 262144 = b.val; omega
  | ⟨1, _⟩ => show ((b.val * 2048 + r.val) * 128 + n.val) / 8192 % 32 = r.val / 64; omega
  | ⟨2, _⟩ => show ((b.val * 2048 + r.val) * 128 + n.val) / 128 % 64 = r.val % 64; omega
  | ⟨3, _⟩ => show ((b.val * 2048 + r.val) * 128 + n.val) % 128 = n.val; omega

theorem v8_at (b : Fin 128) (r : Fin 2048) (n : Fin 128) : val_main_v8 (F := Ideal) x0 (byHead b r n) = x0 (ix2 b (hcolR r)) := by
  rw [val_main_v8_apply, val_main_v7_apply, val_main_v6_apply]
  refine congrArg x0 (funext fun a => Fin.ext ?_)
  match a with
  | ⟨0, _⟩ => rfl
  | ⟨1, _⟩ => rfl

/-- The place of a row of the state in the array by groups and heads. -/
def byGroup (b : Fin 128) (r : Fin 2048) (n : Fin 128) : S128x4x8x64x128.Idx := fun a => match a with
  | ⟨0, _⟩ => b
  | ⟨1, _⟩ => (⟨r.val / 512, by have := r.isLt; omega⟩ : Fin 4)
  | ⟨2, _⟩ => (⟨r.val / 64 % 8, by omega⟩ : Fin 8)
  | ⟨3, _⟩ => (⟨r.val % 64, by omega⟩ : Fin 64)
  | ⟨4, _⟩ => n

theorem idx5 (b : Fin 128) (r : Fin 2048) (n : Fin 128) : idx_main_v5 (byHead b r n) = byGroup b r n := by
  have hb := b.isLt
  have hr := r.isLt
  have hn := n.isLt
  funext a; apply Fin.ext
  match a with
  | ⟨0, _⟩ => show (((b.val * 32 + r.val / 64) * 64 + r.val % 64) * 128 + n.val) / 262144 = b.val; omega
  | ⟨1, _⟩ => show (((b.val * 32 + r.val / 64) * 64 + r.val % 64) * 128 + n.val) / 65536 % 4 = r.val / 512; omega
  | ⟨2, _⟩ => show (((b.val * 32 + r.val / 64) * 64 + r.val % 64) * 128 + n.val) / 8192 % 8 = r.val / 64 % 8; omega
  | ⟨3, _⟩ => show (((b.val * 32 + r.val / 64) * 64 + r.val % 64) * 128 + n.val) / 128 % 64 = r.val % 64; omega
  | ⟨4, _⟩ => show (((b.val * 32 + r.val / 64) * 64 + r.val % 64) * 128 + n.val) % 128 = n.val; omega

theorem idx11 (b : Fin 128) (r : Fin 2048) (n : Fin 128) : idx_main_v11 (byGroup b r n) = byHead b r n := by
  have hb := b.isLt
  have hr := r.isLt
  have hn := n.isLt
  funext a; apply Fin.ext
  match a with
  | ⟨0, _⟩ => show ((((b.val * 4 + r.val / 512) * 8 + r.val / 64 % 8) * 64 + r.val % 64) * 128 + n.val) / 262144 = b.val; omega
  | ⟨1, _⟩ => show ((((b.val * 4 + r.val / 512) * 8 + r.val / 64 % 8) * 64 + r.val % 64) * 128 + n.val) / 8192 % 32 = r.val / 64; omega
  | ⟨2, _⟩ => show ((((b.val * 4 + r.val / 512) * 8 + r.val / 64 % 8) * 64 + r.val % 64) * 128 + n.val) / 128 % 64 = r.val % 64; omega
  | ⟨3, _⟩ => show ((((b.val * 4 + r.val / 512) * 8 + r.val / 64 % 8) * 64 + r.val % 64) * 128 + n.val) % 128 = n.val; omega

theorem idx1 (b : Fin 128) (r : Fin 2048) (n : Fin 128) (j : Fin 8) : idx_main_v1 (lidx_main_v4 (byGroup b r n) j) = ix3 b j r := by
  have hb := b.isLt
  have hr := r.isLt
  have hj := j.isLt
  funext a; apply Fin.ext
  match a with
  | ⟨0, _⟩ => show ((((b.val * 8 + j.val) * 4 + r.val / 512) * 8 + r.val / 64 % 8) * 64 + r.val % 64) / 16384 = b.val; omega
  | ⟨1, _⟩ => show ((((b.val * 8 + j.val) * 4 + r.val / 512) * 8 + r.val / 64 % 8) * 64 + r.val % 64) / 2048 % 8 = j.val; omega
  | ⟨2, _⟩ => show ((((b.val * 8 + j.val) * 4 + r.val / 512) * 8 + r.val / 64 % 8) * 64 + r.val % 64) % 2048 = r.val; omega

theorem idx2 (b : Fin 128) (r : Fin 2048) (n : Fin 128) (j : Fin 8) : idx_main_v2 (ridx_main_v4 (byGroup b r n) j) = ix3 b j (laneR r n) := by
  have hb := b.isLt
  have hr := r.isLt
  have hn := n.isLt
  have hj := j.isLt
  funext a; apply Fin.ext
  match a with
  | ⟨0, _⟩ => show (((b.val * 8 + j.val) * 4 + r.val / 512) * 128 + n.val) / 4096 = b.val; omega
  | ⟨1, _⟩ => show (((b.val * 8 + j.val) * 4 + r.val / 512) * 128 + n.val) / 512 % 8 = j.val; omega
  | ⟨2, _⟩ => show (((b.val * 8 + j.val) * 4 + r.val / 512) * 128 + n.val) % 512 = 128 * (r.val / 512) + n.val; omega

theorem idx12 (b : Fin 128) (j : Fin 8) (r : Fin 2048) (n : Fin 128) :
    lidx_main_v12 (idx_main_v13 (idx_main_v15 (ix3 b j r))) n = byGroup b r n := by
  have hb := b.isLt
  have hr := r.isLt
  have hj := j.isLt
  funext a; apply Fin.ext
  match a with
  | ⟨0, _⟩ => show ((b.val * 8 + j.val) * 2048 + r.val) / 16384 = b.val; omega
  | ⟨1, _⟩ => show ((b.val * 8 + j.val) * 2048 + r.val) / 512 % 4 = r.val / 512; omega
  | ⟨2, _⟩ => show ((b.val * 8 + j.val) * 2048 + r.val) / 64 % 8 = r.val / 64 % 8; omega
  | ⟨3, _⟩ => show ((b.val * 8 + j.val) * 2048 + r.val) % 64 = r.val % 64; omega
  | ⟨4, _⟩ => rfl

theorem idx3 (b : Fin 128) (j : Fin 8) (r : Fin 2048) (n : Fin 128) :
    idx_main_v3 (ridx_main_v12 (idx_main_v13 (idx_main_v15 (ix3 b j r))) n) = ix3 b j (laneR r n) := by
  have hb := b.isLt
  have hr := r.isLt
  have hn := n.isLt
  have hj := j.isLt
  have e0 : ((b.val * 8 + j.val) * 2048 + r.val) / 16384 = b.val := by omega
  have e1 : ((b.val * 8 + j.val) * 2048 + r.val) / 2048 % 8 = j.val := by omega
  have e2 : ((b.val * 8 + j.val) * 2048 + r.val) / 512 % 4 = r.val / 512 := by omega
  funext a; apply Fin.ext
  match a with
  | ⟨0, _⟩ =>
    show (((((b.val * 8 + j.val) * 2048 + r.val) / 16384 * 8 + ((b.val * 8 + j.val) * 2048 + r.val) / 2048 % 8) * 4
      + ((b.val * 8 + j.val) * 2048 + r.val) / 512 % 4) * 128 + n.val) / 4096 = b.val
    rw [e0, e1, e2]; omega
  | ⟨1, _⟩ =>
    show (((((b.val * 8 + j.val) * 2048 + r.val) / 16384 * 8 + ((b.val * 8 + j.val) * 2048 + r.val) / 2048 % 8) * 4
      + ((b.val * 8 + j.val) * 2048 + r.val) / 512 % 4) * 128 + n.val) / 512 % 8 = j.val
    rw [e0, e1, e2]; omega
  | ⟨2, _⟩ =>
    show (((((b.val * 8 + j.val) * 2048 + r.val) / 16384 * 8 + ((b.val * 8 + j.val) * 2048 + r.val) / 2048 % 8) * 4
      + ((b.val * 8 + j.val) * 2048 + r.val) / 512 % 4) * 128 + n.val) % 512 = 128 * (r.val / 512) + n.val
    rw [e0, e1, e2]; omega

theorem v5_at (b : Fin 128) (r : Fin 2048) (n : Fin 128) :
    val_main_v5 (F := Ideal) x3 x4 (byHead b r n) = ∑ j : Fin 8, x4 (ix3 b j r) * x3 (ix3 b j (laneR r n)) := by
  rw [val_main_v5_apply, idx5, val_main_v4_apply]
  refine Finset.sum_congr rfl fun j _ => ?_
  rw [val_main_v1_apply, val_main_v2_apply, idx1, idx2]

/-- The new state. -/
theorem v14_at (b : Fin 128) (r : Fin 2048) (n : Fin 128) :
    val_main_v14 (F := Ideal) x0 x1 x3 x4 (ix3 b r n)
      = x0 (ix2 b (hcolR r)) * val_main_v0 (F := Ideal) x1 (byHead b r n) + ∑ j : Fin 8, x4 (ix3 b j r) * x3 (ix3 b j (laneR r n)) := by
  rw [val_main_v14_apply, idx14, val_main_v10_apply, val_main_v9_apply, v8_at, v5_at]
  rfl

/-- The old state's part of the output. -/
theorem v15_at (b : Fin 128) (j : Fin 8) (r : Fin 2048) :
    val_main_v15 (F := Ideal) x1 x2 (ix3 b j r)
      = ∑ n : Fin 128, x2 (ix3 b j (laneR r n)) * val_main_v0 (F := Ideal) x1 (byHead b r n) := by
  rw [val_main_v15_apply, val_main_v13_apply, val_main_v12_apply]
  refine Finset.sum_congr rfl fun n _ => ?_
  rw [val_main_v11_apply, val_main_v3_apply, mul_comm, idx12, idx11, idx3]

end Cert.Proof.SsdState

end
-- ==== Proof.SsdState.lean ====
/-
  The state update: what its two result arrays end holding, and that this is the reference's.  Grid point `t` takes
  sequences `8 t` to `8 t + 7`; the decays stay whole in scalar memory.
-/
module

public import proofs.«01_k».proof.Defs
public import proofs.«01_k».proof.Proof.StateRead
public import proofs.«01_k».proof.Proof.StateRef
public import proofs.«01_k».proof.Proof.Gen.SsdStateIdeal.Value
public import proofs.«01_k».proof.Proof.Gen.SsdStateRefIdeal.Run
public import Idealize.ShloMosaic.Lib.Pipeline.Value
public import Idealize.ShloMosaic.Lib.Pointwise
public import Idealize.ShloMosaic.Lib.Quiescent

@[expose] public section

set_option maxRecDepth 16384

noncomputable section

namespace Cert.Proof.SsdState

open Idealize.ShloMosaic Idealize.ShloMosaic.TcCoe Idealize.SL.Sem

section
open Cert.SsdStateIdeal Cert.SsdStateIdeal.Gen Cert.SsdStateIdeal.Gen.State

variable (m : (ℓ : Loc nD τ sig) → Buf (Elt Ideal) ℓ) (c : Dev nD)

/-- The arguments: the decays, the state, the C and the B rows, and the weighted inputs. -/
abbrev A0 : S128x128.Idx → EReal := m ((c : Thread nD τ).loc main_arg0)
abbrev A1 : S1x128x32x64x128.Idx → EReal := m ((c : Thread nD τ).loc main_arg1)
abbrev A2 : S128x8x512.Idx → EReal := m ((c : Thread nD τ).loc main_arg2)
abbrev A3 : S128x8x512.Idx → EReal := m ((c : Thread nD τ).loc main_arg3)
abbrev A4 : S128x8x2048.Idx → EReal := m ((c : Thread nD τ).loc main_arg4)

/-- The state, the layer's axis dropped. -/
abbrev H0 : S128x32x64x128.Idx → EReal := Cert.SsdStateRefIdeal.Read.val_main_v0 (F := Ideal) (A1 m c)

theorem places : ∀ t : Fin cfg0.N, win0_0.index t = ![0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]
    ∧ (grid0.coords t 0).val = t.val := (by decide +kernel : ∀ t : Fin grid0.N, _)

/-- The host's copy of the state, its heads laid one after the other. -/
theorem V_main_v1_at (b : Fin 128) (r : Fin 2048) (n : Fin 128) :
    (V m c main_v1 : S128x2048x128.Idx → EReal) (ix3 b r n) = H0 m c (byHead b r n) := by
  have e : (V m c main_v1 : S128x2048x128.Idx → EReal) = shapeCast S128x2048x128 (H0 m c) shapeCasts_S128x32x64x128_S128x2048x128 := by
    unfold V hostOps0
    after_results
    rfl
  rw [e]
  have hb := b.isLt
  have hr := r.isLt
  have hn := n.isLt
  refine shapeCast_apply (H0 m c) shapeCasts_S128x32x64x128_S128x2048x128 (ix3 b r n) (byHead b r n) ?_
  rw [Shape.rowMajor_val_four, Shape.rowMajor_val_three]
  show ((b.val * 32 + r.val / 64) * 64 + r.val % 64) * 128 + n.val = (b.val * 2048 + r.val) * 128 + n.val
  omega

/-! ## The blocks of a point -/

/-- Sequence `q` of point `t`. -/
def sq (t : Fin cfg0.N) (q : Fin 8) : Fin 128 :=
  ⟨8 * t.val + q.val, by have hN : t.val < 16 := lt_of_lt_of_eq t.isLt N_0; have := q.isLt; omega⟩

theorem iblk_0_at (t : Fin cfg0.N) (a : Fin 128) (b : Fin 128) : (iblk m c 0 t : S128x128.Idx → EReal) (ix2 a b) = A0 m c (ix2 a b) := by
  show V m c main_arg0 (((cfg0.win 0).blk t).view.emb (ix2 a b)) = _
  rw [V_main_arg0]
  refine congrArg (A0 m c) (funext fun d => Fin.ext ?_)
  match d with
  | ⟨0, _⟩ => show win0_0.index t (0 : Fin 2) * 128 + 1 * a.val = a.val; rw [congrFun (places t).1 0]; show 0 * 128 + 1 * a.val = _; omega
  | ⟨1, _⟩ => show win0_0.index t (1 : Fin 2) * 128 + 1 * b.val = b.val; rw [congrFun (places t).1 1]; show 0 * 128 + 1 * b.val = _; omega

theorem iblk_1_at (t : Fin cfg0.N) (q : Fin 8) (r : Fin 2048) (n : Fin 128) :
    (iblk m c 1 t : S8x2048x128.Idx → EReal) (ix3 q r n) = H0 m c (byHead (sq t q) r n) := by
  rw [← V_main_v1_at m c]
  show V m c main_v1 (((cfg0.win 1).blk t).view.emb (ix3 q r n)) = _
  refine congrArg (V m c main_v1) (funext fun d => Fin.ext ?_)
  match d with
  | ⟨0, _⟩ => show win0_1.index t (0 : Fin 3) * 8 + 1 * q.val = 8 * t.val + q.val; rw [congrFun (places t).2.1 0]; show t.val * 8 + 1 * q.val = _; omega
  | ⟨1, _⟩ => show win0_1.index t (1 : Fin 3) * 2048 + 1 * r.val = r.val; rw [congrFun (places t).2.1 1]; show 0 * 2048 + 1 * r.val = _; omega
  | ⟨2, _⟩ => show win0_1.index t (2 : Fin 3) * 128 + 1 * n.val = n.val; rw [congrFun (places t).2.1 2]; show 0 * 128 + 1 * n.val = _; omega

theorem iblk_2_at (t : Fin cfg0.N) (q j : Fin 8) (x : Fin 512) : (iblk m c 2 t : S8x8x512.Idx → EReal) (ix3 q j x) = A2 m c (ix3 (sq t q) j x) := by
  show V m c main_arg2 (((cfg0.win 2).blk t).view.emb (ix3 q j x)) = _
  rw [V_main_arg2]
  refine congrArg (A2 m c) (funext fun d => Fin.ext ?_)
  have p := (places t).2.2.1
  match d with
  | ⟨0, _⟩ => show win0_2.index t (0 : Fin 3) * 8 + 1 * q.val = 8 * t.val + q.val; rw [congrFun p 0]; show t.val * 8 + 1 * q.val = _; omega
  | ⟨1, _⟩ => show win0_2.index t (1 : Fin 3) * 8 + 1 * j.val = j.val; rw [congrFun p 1]; show 0 * 8 + 1 * j.val = _; omega
  | ⟨2, _⟩ => show win0_2.index t (2 : Fin 3) * 512 + 1 * x.val = x.val; rw [congrFun p 2]; show 0 * 512 + 1 * x.val = _; omega

theorem iblk_3_at (t : Fin cfg0.N) (q j : Fin 8) (x : Fin 512) : (iblk m c 3 t : S8x8x512.Idx → EReal) (ix3 q j x) = A3 m c (ix3 (sq t q) j x) := by
  show V m c main_arg3 (((cfg0.win 3).blk t).view.emb (ix3 q j x)) = _
  rw [V_main_arg3]
  refine congrArg (A3 m c) (funext fun d => Fin.ext ?_)
  have p := (places t).2.2.2.1
  match d with
  | ⟨0, _⟩ => show win0_3.index t (0 : Fin 3) * 8 + 1 * q.val = 8 * t.val + q.val; rw [congrFun p 0]; show t.val * 8 + 1 * q.val = _; omega
  | ⟨1, _⟩ => show win0_3.index t (1 : Fin 3) * 8 + 1 * j.val = j.val; rw [congrFun p 1]; show 0 * 8 + 1 * j.val = _; omega
  | ⟨2, _⟩ => show win0_3.index t (2 : Fin 3) * 512 + 1 * x.val = x.val; rw [congrFun p 2]; show 0 * 512 + 1 * x.val = _; omega

theorem iblk_4_at (t : Fin cfg0.N) (q j : Fin 8) (r : Fin 2048) : (iblk m c 4 t : S8x8x2048.Idx → EReal) (ix3 q j r) = A4 m c (ix3 (sq t q) j r) := by
  show V m c main_arg4 (((cfg0.win 4).blk t).view.emb (ix3 q j r)) = _
  rw [V_main_arg4]
  refine congrArg (A4 m c) (funext fun d => Fin.ext ?_)
  have p := (places t).2.2.2.2.1
  match d with
  | ⟨0, _⟩ => show win0_4.index t (0 : Fin 3) * 8 + 1 * q.val = 8 * t.val + q.val; rw [congrFun p 0]; show t.val * 8 + 1 * q.val = _; omega
  | ⟨1, _⟩ => show win0_4.index t (1 : Fin 3) * 8 + 1 * j.val = j.val; rw [congrFun p 1]; show 0 * 8 + 1 * j.val = _; omega
  | ⟨2, _⟩ => show win0_4.index t (2 : Fin 3) * 2048 + 1 * r.val = r.val; rw [congrFun p 2]; show 0 * 2048 + 1 * r.val = _; omega

/-! ## What a point writes -/

/-- What the point is given. -/
def given (t : Fin cfg0.N) : Given Ideal :=
  ⟨⟨ms0_0 t, hs0_0 t, iblk m c 0 t⟩, ⟨ms0_1 t, hs0_1 t, iblk m c 1 t⟩, ⟨ms0_2 t, hs0_2 t, iblk m c 2 t⟩, ⟨ms0_3 t, hs0_3 t, iblk m c 3 t⟩,
    ⟨ms0_4 t, hs0_4 t, iblk m c 4 t⟩⟩

theorem outS (t : Fin cfg0.N) : (outsAt0 m c t).1 = resS (given m c t) (grid0.coords t) := by
  unfold outsAt0 out0_A_5
  dsimp only
  rw [View.read_writes_junk_eq_canon, storesS_eq]
  exact funext fun y => canonS (given m c t) (grid0.coords t) y

theorem outY (t : Fin cfg0.N) : (outsAt0 m c t).2 = resY (given m c t) := by
  unfold outsAt0 out0_A_6
  dsimp only
  rw [View.read_writes_junk_eq_canon, storesY_eq]
  exact funext fun y => canonY (given m c t) y

/-- The new state at a sequence, a row and a column. -/
def newAt (b : Fin 128) (r : Fin 2048) (n : Fin 128) : EReal :=
  A0 m c (ix2 b (hcolR r)) * H0 m c (byHead b r n) + ∑ j : Fin 8, A4 m c (ix3 b j r) * A3 m c (ix3 b j (laneR r n))

/-- The old state's part of the output at a sequence, a position and a column. -/
def offAt (b : Fin 128) (j : Fin 8) (r : Fin 2048) : EReal := ∑ n : Fin 128, A2 m c (ix3 b j (laneR r n)) * H0 m c (byHead b r n)

theorem seq_eq (t : Fin cfg0.N) (q : Fin 8) : seq (grid0.coords t) q = sq t q :=
  Fin.ext (by show 8 * (grid0.coords t 0).val + q.val = 8 * t.val + q.val; rw [(places t).2.2.2.2.2.2.2])

theorem hcol_eq (r : Fin 2048) : hcol (grp r) (hd r) = hcolR r := by
  apply Fin.ext; show 8 * (r.val / 512) + r.val / 64 % 8 = r.val / 64; omega

theorem new_eq (t : Fin cfg0.N) (q : Fin 8) (r : Fin 2048) (n : Fin 128) :
    newV (given m c t) (grid0.coords t) q r n = newAt m c (sq t q) r n := by
  unfold newV newAt
  rw [seq_eq, hcol_eq]
  exact congrArg₂ (· + ·) (congrArg₂ (· * ·) (iblk_0_at m c t _ _) (iblk_1_at m c t q r n))
    (Finset.sum_congr rfl fun j _ => congrArg₂ (· * ·) (iblk_4_at m c t q j r) (iblk_3_at m c t q j (laneR r n)))

theorem off_eq (t : Fin cfg0.N) (q j : Fin 8) (r : Fin 2048) : offV (given m c t) q j r = offAt m c (sq t q) j r :=
  Finset.sum_congr rfl fun n _ => congrArg₂ (· * ·) (iblk_2_at m c t q j (laneR r n)) (iblk_1_at m c t q r n)

/-! ## The result arrays -/

def result0 : Buf (Elt Ideal) ((c : Thread nD τ).loc main_v2_0) := fun i : S128x2048x128.Idx => newAt m c (i 0) (i 1) (i 2)
def result1 : Buf (Elt Ideal) ((c : Thread nD τ).loc main_v2_1) := fun i : S128x8x2048.Idx => offAt m c (i 0) (i 1) (i 2)

theorem flushed_5 (t : Fin cfg0.N) : (dats m 0 c).flushed 5 t = ((cfg0.win 5).blk t).view.read (Elt Ideal) (result0 m c) := by
  show (cfg0.win 5).cut (grid0.coords t) ((dats m 0 c).after 5 t) = _
  rw [after0_5, outS]
  funext j
  have key : ∀ (q : Fin 8) (r : Fin 2048) (n : Fin 128),
      resS (given m c t) (grid0.coords t) (ix3 q r n) = result0 m c (((cfg0.win 5).blk t).view.emb (ix3 q r n)) := by
    intro q r n
    have e : ((cfg0.win 5).blk t).view.emb (ix3 q r n) = (ix3 (sq t q) r n : S128x2048x128.Idx) := by
      have p := (places t).2.2.2.2.2.1
      funext a; apply Fin.ext
      match a with
      | ⟨0, _⟩ => show win0_5.index t (0 : Fin 3) * 8 + 1 * q.val = 8 * t.val + q.val; rw [congrFun p 0]; show t.val * 8 + 1 * q.val = _; omega
      | ⟨1, _⟩ => show win0_5.index t (1 : Fin 3) * 2048 + 1 * r.val = r.val; rw [congrFun p 1]; show 0 * 2048 + 1 * r.val = _; omega
      | ⟨2, _⟩ => show win0_5.index t (2 : Fin 3) * 128 + 1 * n.val = n.val; rw [congrFun p 2]; show 0 * 128 + 1 * n.val = _; omega
    rw [e]
    exact new_eq m c t q r n
  obtain ⟨q, r, n, ej⟩ := eta3 (p := 8) (q := 2048) (r := 128) j
  show resS (given m c t) (grid0.coords t) j = result0 m c (((cfg0.win 5).blk t).view.emb j)
  rw [ej]
  exact key q r n

theorem flushed_6 (t : Fin cfg0.N) : (dats m 0 c).flushed 6 t = ((cfg0.win 6).blk t).view.read (Elt Ideal) (result1 m c) := by
  show (cfg0.win 6).cut (grid0.coords t) ((dats m 0 c).after 6 t) = _
  rw [after0_6, outY]
  funext y
  have key : ∀ (q j : Fin 8) (r : Fin 2048),
      resY (given m c t) (ix3 q j r) = result1 m c (((cfg0.win 6).blk t).view.emb (ix3 q j r)) := by
    intro q j r
    have e : ((cfg0.win 6).blk t).view.emb (ix3 q j r) = (ix3 (sq t q) j r : S128x8x2048.Idx) := by
      have p := (places t).2.2.2.2.2.2.1
      funext a; apply Fin.ext
      match a with
      | ⟨0, _⟩ => show win0_6.index t (0 : Fin 3) * 8 + 1 * q.val = 8 * t.val + q.val; rw [congrFun p 0]; show t.val * 8 + 1 * q.val = _; omega
      | ⟨1, _⟩ => show win0_6.index t (1 : Fin 3) * 8 + 1 * j.val = j.val; rw [congrFun p 1]; show 0 * 8 + 1 * j.val = _; omega
      | ⟨2, _⟩ => show win0_6.index t (2 : Fin 3) * 2048 + 1 * r.val = r.val; rw [congrFun p 2]; show 0 * 2048 + 1 * r.val = _; omega
    rw [e]
    exact off_eq m c t q j r
  obtain ⟨q, j, r, ey⟩ := eta3 (p := 8) (q := 8) (r := 2048) y
  show resY (given m c t) y = result1 m c (((cfg0.win 6).blk t).view.emb y)
  rw [ey]
  exact key q j r

theorem final_5 : (dats m 0 c).arrAt 5 cfg0.N = result0 m c := by
  refine (dats m 0 c).arrAt_eq_of_cover 5 _ (fun t _ => flushed_5 m c t) fun i => ?_
  have h0 : (i 0).val < 128 := (i 0).isLt
  have h1 : (i 1).val < 2048 := (i 1).isLt
  have h2 : (i 2).val < 128 := (i 2).isLt
  have ht : (i 0).val / 8 < cfg0.N := lt_of_lt_of_eq (by omega) N_0.symm
  refine ⟨⟨_, ht⟩, flush0_5 _, ?_⟩
  show i ∈ ((View.whole main_v2_0).slice (win0_5.rect ⟨_, ht⟩)).set
  rw [View.set_slice_whole, Rect.mem_set_unit]
  intro a
  have p := (places ⟨_, ht⟩).2.2.2.2.2.1
  match a with
  | ⟨0, _⟩ =>
    show win0_5.index ⟨_, ht⟩ (0 : Fin 3) * 8 ≤ (i 0).val ∧ (i 0).val < win0_5.index ⟨_, ht⟩ (0 : Fin 3) * 8 + 8
    rw [congrFun p 0]
    show (i 0).val / 8 * 8 ≤ (i 0).val ∧ (i 0).val < (i 0).val / 8 * 8 + 8
    omega
  | ⟨1, _⟩ =>
    show win0_5.index ⟨_, ht⟩ (1 : Fin 3) * 2048 ≤ (i 1).val ∧ (i 1).val < win0_5.index ⟨_, ht⟩ (1 : Fin 3) * 2048 + 2048
    rw [congrFun p 1]
    show 0 * 2048 ≤ (i 1).val ∧ (i 1).val < 0 * 2048 + 2048
    omega
  | ⟨2, _⟩ =>
    show win0_5.index ⟨_, ht⟩ (2 : Fin 3) * 128 ≤ (i 2).val ∧ (i 2).val < win0_5.index ⟨_, ht⟩ (2 : Fin 3) * 128 + 128
    rw [congrFun p 2]
    show 0 * 128 ≤ (i 2).val ∧ (i 2).val < 0 * 128 + 128
    omega

theorem final_6 : (dats m 0 c).arrAt 6 cfg0.N = result1 m c := by
  refine (dats m 0 c).arrAt_eq_of_cover 6 _ (fun t _ => flushed_6 m c t) fun i => ?_
  have h0 : (i 0).val < 128 := (i 0).isLt
  have h1 : (i 1).val < 8 := (i 1).isLt
  have h2 : (i 2).val < 2048 := (i 2).isLt
  have ht : (i 0).val / 8 < cfg0.N := lt_of_lt_of_eq (by omega) N_0.symm
  refine ⟨⟨_, ht⟩, flush0_6 _, ?_⟩
  show i ∈ ((View.whole main_v2_1).slice (win0_6.rect ⟨_, ht⟩)).set
  rw [View.set_slice_whole, Rect.mem_set_unit]
  intro a
  have p := (places ⟨_, ht⟩).2.2.2.2.2.2.1
  match a with
  | ⟨0, _⟩ =>
    show win0_6.index ⟨_, ht⟩ (0 : Fin 3) * 8 ≤ (i 0).val ∧ (i 0).val < win0_6.index ⟨_, ht⟩ (0 : Fin 3) * 8 + 8
    rw [congrFun p 0]
    show (i 0).val / 8 * 8 ≤ (i 0).val ∧ (i 0).val < (i 0).val / 8 * 8 + 8
    omega
  | ⟨1, _⟩ =>
    show win0_6.index ⟨_, ht⟩ (1 : Fin 3) * 8 ≤ (i 1).val ∧ (i 1).val < win0_6.index ⟨_, ht⟩ (1 : Fin 3) * 8 + 8
    rw [congrFun p 1]
    show 0 * 8 ≤ (i 1).val ∧ (i 1).val < 0 * 8 + 8
    omega
  | ⟨2, _⟩ =>
    show win0_6.index ⟨_, ht⟩ (2 : Fin 3) * 2048 ≤ (i 2).val ∧ (i 2).val < win0_6.index ⟨_, ht⟩ (2 : Fin 3) * 2048 + 2048
    rw [congrFun p 2]
    show 0 * 2048 ≤ (i 2).val ∧ (i 2).val < 0 * 2048 + 2048
    omega

end

/-- The kernel's two results are the reference's. -/
theorem algebraic : Cert.algebraic_SsdStateIdeal_SsdStateRefIdeal := by
  intro m ρ m' ρ' _ hagree
  refine ⟨fun c => result0 m c, fun c => result1 m c,
    (θ_run _ _ _).mono (fun _ h c => ⟨(h c).1.trans (final_5 m c), (h c).2.1.trans (final_6 m c), (h c).2.2⟩)
      (Cert.SsdStateIdeal.Value.run_blocks (F := Ideal) m ρ),
    (θ_run _ _ _).mono (fun _ h c => ⟨(h c).1.trans ?_, (h c).2.1.trans ?_, (h c).2.2⟩)
      (Cert.SsdStateRefIdeal.Value.run (F := Ideal) m' ρ')⟩
  all_goals
    have ea := hagree c
    obtain ⟨a0, a1, a2, a3, a4⟩ := ea
  · rw [Cert.SsdStateRefIdeal.Read.val_main_v14_eq, a0, a1, a3, a4]
    funext y
    obtain ⟨b, r, n, rfl⟩ := Cert.SsdStateIdeal.Gen.State.eta3 (p := 128) (q := 2048) (r := 128) y
    exact v14_at _ _ _ _ b r n
  · rw [Cert.SsdStateRefIdeal.Read.val_main_v15_eq, a1, a2]
    funext y
    obtain ⟨b, j, r, rfl⟩ := Cert.SsdStateIdeal.Gen.State.eta3 (p := 128) (q := 8) (r := 2048) y
    exact v15_at _ _ b j r

/-- The reference runs, leaves its arguments, and has no semaphore. -/
theorem frame_ref : Cert.quiescent_SsdStateRefIdeal := fun m ρ _ =>
  (θ_run Cert.SsdStateRefIdeal.defs _ _).mono (fun r h => ⟨fun c => (h c).2.2, sem_eq_zero_of_no_sems (by decide) r.2⟩)
    (Cert.SsdStateRefIdeal.Value.run (F := Ideal) m ρ)

end Cert.Proof.SsdState

end
-- ==== Proof.DownSlab.lean ====
/-
  The second product of the MLP over the sample, with the residual and the last norm. The kernel walks 16 blocks of the
  contracted axis; the output starts as the residual, gains one partial product at every point, and is normalised in place at
  the last, which also lays the rows out again sequence by sequence. Every point writes its weight block out as bf16.
-/
module

public import proofs.«01_k».proof.Defs
public import proofs.«01_k».proof.Proof.Gen.DownSlabIdeal.Value
public import proofs.«01_k».proof.Proof.Gen.DownSlabRefIdeal.Run
public import proofs.«01_k».proof.Proof.Gen.DownSlabRefIdeal.Read
public import proofs.«01_k».proof.Proof.Rms
public import Idealize.ShloMosaic.Lib.Pipeline.Value
public import Idealize.ShloMosaic.Lib.Pointwise
public import Idealize.ShloMosaic.Lib.Quiescent

@[expose] public section

set_option maxRecDepth 16384

noncomputable section

namespace Cert.Proof.DownSlab

open Idealize.ShloMosaic Idealize.ShloMosaic.TcCoe Idealize.SL.Sem
open Cert.DownSlabIdeal Cert.DownSlabIdeal.Gen
open Idealize.ShloMosaic.Pipeline (Dat)

/-! ## The numbers -/

/-- The weight block as it is written out. -/
theorem pay1_at (w : Vec Ideal S1x512x2048 .f32) (k : Fin 512) (q : Fin 2048) : k0_pay1 (F := Ideal) w (ix2 k q) = w (ix3 0 k q) := by
  unfold k0_pay1
  pointwise

/-- What a point adds to the output block. -/
theorem pay2_at (acc : Vec Ideal S512x2048 .f32) (h : Vec Ideal S512x512 .bf16) (w : Vec Ideal S1x512x2048 .f32) (r : Fin 512) (q : Fin 2048) :
    k0_pay2 (F := Ideal) acc h w (ix2 r q) = acc (ix2 r q) + ∑ k, h (ix2 r k) * w (ix3 0 k q) := by
  unfold k0_pay2 k0_pay1
  pointwise

/-- What the last point makes of it. -/
theorem pay3_at (acc : Vec Ideal S512x2048 .f32) (g : Vec Ideal S1x2048 .f32) (r : Fin 512) (q : Fin 2048) :
    k0_pay3 (F := Ideal) acc g (ix2 r q) = acc (ix2 r q) * invRms (fun k => acc (ix2 r k)) * g (ix2 0 q) := by
  unfold k0_pay3 invRms
  pointwise

/-- The rows are time-major: time `s` of sequence `b` is row `128 * s + b`. -/
abbrev rowOf (b : Fin 128) (s : Fin 4) : Fin 512 := ⟨128 * s.val + b.val, by have := b.isLt; have := s.isLt; omega⟩

section
variable (acc : Vec Ideal S512x2048 .f32) (g : Vec Ideal S1x2048 .f32) (b : Fin 128) (z : Fin 1) (q : Fin 2048)

theorem row_eq (y : Vec Ideal S512x2048 .f32) (r : Fin 512) (s : Fin 4) (h : r.val = 128 * s.val + b.val) : y (ix2 r q) = y (ix2 (rowOf b s) q) :=
  congrArg (fun r => y (ix2 r q)) (Fin.ext h)

theorem pay4_at : k0_pay4 (F := Ideal) acc g (ix3 b z q) = k0_pay3 acc g (ix2 (rowOf b 0) q) := by
  unfold k0_pay4
  generalize k0_pay3 acc g = y
  pointwise
  exact row_eq b q y _ 0 (by show b.val = 128 * 0 + b.val; omega)

theorem pay5_at : k0_pay5 (F := Ideal) acc g (ix3 b z q) = k0_pay3 acc g (ix2 (rowOf b 1) q) := by
  unfold k0_pay5
  generalize k0_pay3 acc g = y
  pointwise
  exact row_eq b q y _ 1 (by show 128 + b.val = 128 * 1 + b.val; omega)

theorem pay6_at : k0_pay6 (F := Ideal) acc g (ix3 b z q) = k0_pay3 acc g (ix2 (rowOf b 2) q) := by
  unfold k0_pay6
  generalize k0_pay3 acc g = y
  pointwise
  exact row_eq b q y _ 2 (by show 256 + b.val = 128 * 2 + b.val; omega)

theorem pay7_at : k0_pay7 (F := Ideal) acc g (ix3 b z q) = k0_pay3 acc g (ix2 (rowOf b 3) q) := by
  unfold k0_pay7
  generalize k0_pay3 acc g = y
  pointwise
  exact row_eq b q y _ 3 (by show 384 + b.val = 128 * 3 + b.val; omega)
end

theorem hz2 : (![0, 0] : Fin 2 → Nat) = fun _ => 0 := funext fun a => match a with | 0 => rfl | 1 => rfl
theorem hz3 : (![0, 0, 0] : Fin 3 → Nat) = fun _ => 0 := funext fun a => match a with | 0 => rfl | 1 => rfl | 2 => rfl

theorem eta2 {p q : ℕ} (j : (⟨2, ![p, q]⟩ : Shape).Idx) : ∃ (a : Fin p) (b : Fin q), j = ix2 a b :=
  ⟨j 0, j 1, funext fun a => match a with | ⟨0, _⟩ => rfl | ⟨1, _⟩ => rfl⟩
theorem eta3 {p q r : ℕ} (j : (⟨3, ![p, q, r]⟩ : Shape).Idx) : ∃ (a : Fin p) (b : Fin q) (d : Fin r), j = ix3 a b d :=
  ⟨j 0, j 1, j 2, funext fun a => match a with | ⟨0, _⟩ => rfl | ⟨1, _⟩ => rfl | ⟨2, _⟩ => rfl⟩

/-- A store of the rows of time `s` puts them in their place. -/
theorem stored (y : Vec Ideal S512x2048 .f32) (s : Fin 4) (o : Fin 3 → ℕ) (hr) (ho : o = ![0, s.val, 0]) (v : Vec Ideal S128x1x2048 .f32)
    (hv : ∀ b z q, v (ix3 b z q) = y (ix2 (rowOf b s) q)) (x : S128x1x2048.Idx) :
    v x = (fun i : S128x4x2048.Idx => y (ix2 (rowOf (i 0) (i 1)) (i 2))) ((Rect.unit (s := S128x4x2048) o S128x1x2048.size hr).emb x) := by
  subst ho
  obtain ⟨b, z, q, rfl⟩ := eta3 (p := 128) (q := 1) (r := 2048) x
  have e : (Rect.unit (s := S128x4x2048) ![0, s.val, 0] S128x1x2048.size hr).emb (ix3 b z q) = (ix3 b s q : S128x4x2048.Idx) := by
    have hz := z.isLt
    funext a; apply Fin.ext
    match a with
    | ⟨0, _⟩ => show 0 + 1 * b.val = b.val; omega
    | ⟨1, _⟩ => show s.val + 1 * z.val = s.val; omega
    | ⟨2, _⟩ => show 0 + 1 * q.val = q.val; omega
  rw [e, hv]
  rfl

/-! ## What a point leaves -/

section
variable (c : Dev nD) (i : grid0.Coords)
    (arg2 : Memref sig .tc .vmem S512x512 .bf16) (harg2 : arg2.IsWhole) (arg3 : Memref sig .tc .vmem S1x512x2048 .f32) (harg3 : arg3.IsWhole)
    (arg4 : Memref sig .tc .vmem S512x2048 .f32) (harg4 : arg4.IsWhole) (arg5 : Memref sig .tc .vmem S1x2048 .f32) (harg5 : arg5.IsWhole)
    (arg6 : Memref sig .tc .vmem S512x2048 .f32) (harg6 : arg6.IsWhole) (arg7 : Memref sig .tc .vmem S512x2048 .bf16) (harg7 : arg7.IsWhole)
    (arg8 : Memref sig .tc .vmem S128x4x2048 .f32) (harg8 : arg8.IsWhole)
    (x0 : Vec Ideal S512x512 .bf16) (x1 : Vec Ideal S1x512x2048 .f32) (x2 : Vec Ideal S512x2048 .f32) (x3 : Vec Ideal S1x2048 .f32) (xo4 : Vec Ideal S512x2048 .f32)

theorem out_A_4_eq (hc0 : cond0_0 i) (hc1 : ¬cond0_1 i) :
    out0_A_4 c i arg2 harg2 arg3 harg3 arg4 harg4 arg5 harg5 arg6 harg6 arg7 harg7 arg8 harg8 hc0 hc1 x0 x1 x2 x3 = k0_pay2 x2 x0 x1 := by
  unfold out0_A_4
  rw [View.read_writes_eq_canon _ _ _ (cover0_A_4 c i arg2 harg2 arg3 harg3 arg4 harg4 arg5 harg5 arg6 harg6 arg7 harg7 arg8 harg8 hc0 hc1 x0 x1 x2 x3)]
  unfold kernelRun0_A
  dsimp only
  try sl_unfold_words
  rw [View.canon_cons_unit_zero (S := S512x2048) hz2, View.readCov_unit_zero (S := S512x2048) _ hz2]
  simp only [View.readAt_eq_ld, harg2.read_unread, harg3.read_unread, harg4.read_unread, View.ld_unit_zero (S := S512x512) hz2,
    View.ld_unit_zero (S := S1x512x2048) hz3, View.ld_unit_zero (S := S512x2048) hz2]

theorem out_A_5_eq (hc0 : cond0_0 i) (hc1 : ¬cond0_1 i) :
    out0_A_5 c i arg2 harg2 arg3 harg3 arg4 harg4 arg5 harg5 arg6 harg6 arg7 harg7 arg8 harg8 hc0 hc1 x0 x1 x2 x3 = k0_pay1 x1 := by
  unfold out0_A_5
  rw [View.read_writes_eq_canon _ _ _ (cover0_A_5 c i arg2 harg2 arg3 harg3 arg4 harg4 arg5 harg5 arg6 harg6 arg7 harg7 arg8 harg8 hc0 hc1 x0 x1 x2 x3)]
  unfold kernelRun0_A
  dsimp only
  try sl_unfold_words
  rw [View.canon_unit_zero hz2]
  simp only [View.readAt_eq_ld, harg3.read_unread, View.ld_unit_zero (S := S1x512x2048) hz3]

theorem out_B_4_eq (hc0 : ¬cond0_0 i) (hc1 : ¬cond0_1 i) :
    out0_B_4 c i arg2 harg2 arg3 harg3 arg4 harg4 arg5 harg5 arg6 harg6 arg7 harg7 arg8 harg8 hc0 hc1 x0 x1 x2 x3 xo4 = k0_pay2 xo4 x0 x1 := by
  unfold out0_B_4
  rw [View.read_writes_eq_canon _ _ _ (cover0_B_4 c i arg2 harg2 arg3 harg3 arg4 harg4 arg5 harg5 arg6 harg6 arg7 harg7 arg8 harg8 hc0 hc1 x0 x1 x2 x3 xo4)]
  unfold kernelRun0_B
  dsimp only
  try sl_unfold_words
  rw [View.canon_unit_zero hz2]
  simp only [View.readAt_eq_ld, harg2.read_unread, harg3.read_unread, harg6.read_unread, View.ld_unit_zero (S := S512x512) hz2,
    View.ld_unit_zero (S := S1x512x2048) hz3, View.ld_unit_zero (S := S512x2048) hz2]

theorem out_B_5_eq (hc0 : ¬cond0_0 i) (hc1 : ¬cond0_1 i) :
    out0_B_5 c i arg2 harg2 arg3 harg3 arg4 harg4 arg5 harg5 arg6 harg6 arg7 harg7 arg8 harg8 hc0 hc1 x0 x1 x2 x3 xo4 = k0_pay1 x1 := by
  unfold out0_B_5
  rw [View.read_writes_eq_canon _ _ _ (cover0_B_5 c i arg2 harg2 arg3 harg3 arg4 harg4 arg5 harg5 arg6 harg6 arg7 harg7 arg8 harg8 hc0 hc1 x0 x1 x2 x3 xo4)]
  unfold kernelRun0_B
  dsimp only
  try sl_unfold_words
  rw [View.canon_unit_zero hz2]
  simp only [View.readAt_eq_ld, harg3.read_unread, View.ld_unit_zero (S := S1x512x2048) hz3]

theorem out_C_4_eq (hc0 : ¬cond0_0 i) (hc1 : cond0_1 i) :
    out0_C_4 c i arg2 harg2 arg3 harg3 arg4 harg4 arg5 harg5 arg6 harg6 arg7 harg7 arg8 harg8 hc0 hc1 x0 x1 x2 x3 xo4 = k0_pay3 (k0_pay2 xo4 x0 x1) x3 := by
  unfold out0_C_4
  rw [View.read_writes_eq_canon _ _ _ (cover0_C_4 c i arg2 harg2 arg3 harg3 arg4 harg4 arg5 harg5 arg6 harg6 arg7 harg7 arg8 harg8 hc0 hc1 x0 x1 x2 x3 xo4)]
  unfold kernelRun0_C
  dsimp only
  try sl_unfold_words
  rw [View.canon_cons_unit_zero (S := S512x2048) hz2, View.readCov_unit_zero (S := S512x2048) _ hz2]
  simp only [View.readAt_eq_ld, harg2.read_unread, harg3.read_unread, harg5.read_unread, harg6.read_unread, View.ld_unit_zero (S := S512x512) hz2,
    View.ld_unit_zero (S := S1x512x2048) hz3, View.ld_unit_zero (S := S512x2048) hz2, View.ld_unit_zero (S := S1x2048) hz2]

theorem out_C_5_eq (hc0 : ¬cond0_0 i) (hc1 : cond0_1 i) :
    out0_C_5 c i arg2 harg2 arg3 harg3 arg4 harg4 arg5 harg5 arg6 harg6 arg7 harg7 arg8 harg8 hc0 hc1 x0 x1 x2 x3 xo4 = k0_pay1 x1 := by
  unfold out0_C_5
  rw [View.read_writes_eq_canon _ _ _ (cover0_C_5 c i arg2 harg2 arg3 harg3 arg4 harg4 arg5 harg5 arg6 harg6 arg7 harg7 arg8 harg8 hc0 hc1 x0 x1 x2 x3 xo4)]
  unfold kernelRun0_C
  dsimp only
  try sl_unfold_words
  rw [View.canon_unit_zero hz2]
  simp only [View.readAt_eq_ld, harg3.read_unread, View.ld_unit_zero (S := S1x512x2048) hz3]

theorem out_C_6_at (hc0 : ¬cond0_0 i) (hc1 : cond0_1 i) (b : Fin 128) (s : Fin 4) (q : Fin 2048) :
    out0_C_6 c i arg2 harg2 arg3 harg3 arg4 harg4 arg5 harg5 arg6 harg6 arg7 harg7 arg8 harg8 hc0 hc1 x0 x1 x2 x3 xo4 (ix3 b s q) = k0_pay3 (k0_pay2 xo4 x0 x1) x3 (ix2 (rowOf b s) q) := by
  unfold out0_C_6
  rw [View.read_writes_eq_canon _ _ _ (cover0_C_6 c i arg2 harg2 arg3 harg3 arg4 harg4 arg5 harg5 arg6 harg6 arg7 harg7 arg8 harg8 hc0 hc1 x0 x1 x2 x3 xo4)]
  refine View.canon_apply_of_pieces (Val := Elt Ideal) (e := .f32) (fun y : S128x4x2048.Idx => k0_pay3 (k0_pay2 xo4 x0 x1) x3 (ix2 (rowOf (y 0) (y 1)) (y 2))) _ ?_ _
    (cover0_C_6 c i arg2 harg2 arg3 harg3 arg4 harg4 arg5 harg5 arg6 harg6 arg7 harg7 arg8 harg8 hc0 hc1 x0 x1 x2 x3 xo4 _)
  unfold kernelRun0_C
  dsimp only
  try sl_unfold_words
  rw [View.readCov_unit_zero (S := S512x2048) _ hz2]
  simp only [View.readAt_eq_ld, harg2.read_unread, harg3.read_unread, harg5.read_unread, harg6.read_unread, View.ld_unit_zero (S := S512x512) hz2,
    View.ld_unit_zero (S := S1x512x2048) hz3, View.ld_unit_zero (S := S512x2048) hz2, View.ld_unit_zero (S := S1x2048) hz2]
  intro p hp
  simp only [List.mem_cons, List.not_mem_nil, or_false] at hp
  rcases hp with rfl | rfl | rfl | rfl
  · exact stored _ 3 _ inb_S128x4x2048_S128x1x2048_0_3_0 rfl _ (pay7_at _ _)
  · exact stored _ 2 _ inb_S128x4x2048_S128x1x2048_0_2_0 rfl _ (pay6_at _ _)
  · exact stored _ 1 _ inb_S128x4x2048_S128x1x2048_0_1_0 rfl _ (pay5_at _ _)
  · exact stored _ 0 _ inb_S128x4x2048_S128x1x2048_0_0_0 rfl _ (pay4_at _ _)
end

section
open Cert.DownSlabRefIdeal.Read

/-- The reference's results, element by element. -/
theorem ref0_at (x0 : (⟨S512x8192, .f32⟩ : BufTy).Contents (Elt Ideal)) (x1 : (⟨S1x8192x2048, .f32⟩ : BufTy).Contents (Elt Ideal))
    (x2 : (⟨S512x2048, .f32⟩ : BufTy).Contents (Elt Ideal)) (x3 : (⟨S2048, .f32⟩ : BufTy).Contents (Elt Ideal)) (r : Fin 512) (q : Fin 2048) :
    val_main_v15 (F := Ideal) x0 x1 x2 x3 (ix2 r q)
      = (x2 (ix2 r q) + ∑ k, x0 (ix2 r k) * x1 (ix3 0 k q))
        * invRms (fun q => x2 (ix2 r q) + ∑ k, x0 (ix2 r k) * x1 (ix3 0 k q)) * x3 (ix1 q) := by
  unfold invRms val_main_v15 val_main_v14 val_main_v13 val_main_v12
    val_main_v11 val_main_v10 val_main_v9 val_main_v8 val_main_v7 val_main_v6 val_main_v5 val_main_v4 val_main_v3
    val_main_v2 val_main_v1 val_main_v0 val_main_cst val_main_cst_0 val_main_cst_1
  pointwise

theorem ref1_at (x1 : (⟨S1x8192x2048, .f32⟩ : BufTy).Contents (Elt Ideal)) (k : Fin 8192) (q : Fin 2048) :
    val_main_v17 (F := Ideal) x1 (ix2 k q) = x1 (ix3 0 k q) := by
  unfold val_main_v17 val_main_v16
  pointwise

theorem ref2_at (x0 : (⟨S512x8192, .f32⟩ : BufTy).Contents (Elt Ideal)) (x1 : (⟨S1x8192x2048, .f32⟩ : BufTy).Contents (Elt Ideal))
    (x2 : (⟨S512x2048, .f32⟩ : BufTy).Contents (Elt Ideal)) (x3 : (⟨S2048, .f32⟩ : BufTy).Contents (Elt Ideal)) (b : Fin 128) (s : Fin 4) (q : Fin 2048) :
    val_main_v19 (F := Ideal) x0 x1 x2 x3 (ix3 b s q) = val_main_v15 x0 x1 x2 x3 (ix2 (rowOf b s) q) := by
  have hb := b.isLt
  have hs := s.isLt
  have hq := q.isLt
  rw [val_main_v19_apply, val_main_v18_apply]
  refine congrArg (val_main_v15 x0 x1 x2 x3) (funext fun a => Fin.ext ?_)
  match a with
  | ⟨0, _⟩ => show ((s.val * 128 + b.val) * 2048 + q.val) / 2048 = 128 * s.val + b.val; omega
  | ⟨1, _⟩ => show ((s.val * 128 + b.val) * 2048 + q.val) % 2048 = q.val; omega
end

/-! ## The blocks a point reads -/

section
variable (m : (ℓ : Loc nD τ sig) → Buf (Elt Ideal) ℓ) (c : Dev nD)

/-- The four arguments: the hidden layer, the weight, the residual and the norm's weight. -/
abbrev H : S512x8192.Idx → EReal := m ((c : Thread nD τ).loc main_arg0)
abbrev W : S1x8192x2048.Idx → EReal := m ((c : Thread nD τ).loc main_arg1)
abbrev X : S512x2048.Idx → EReal := m ((c : Thread nD τ).loc main_arg2)
abbrev G : S2048.Idx → EReal := m ((c : Thread nD τ).loc main_arg3)

theorem places : ∀ t : Fin cfg0.N, win0_0.index t = ![0, t.val] ∧ win0_1.index t = ![0, t.val, 0] ∧ win0_2.index t = ![0, 0]
    ∧ win0_3.index t = ![0, 0] ∧ win0_4.index t = ![0, 0] ∧ win0_5.index t = ![t.val, 0] ∧ win0_6.index t = ![0, 0, 0] :=
  (by decide +kernel : ∀ t : Fin grid0.N, _)

theorem lt_N (t : Fin cfg0.N) : t.val < 16 := lt_of_lt_of_eq t.isLt N_0

/-- Place `k` of the contracted axis's block at point `t`. -/
abbrev at_ (t : Fin cfg0.N) (k : Fin 512) : Fin 8192 := ⟨512 * t.val + k.val, by have := lt_N t; have := k.isLt; omega⟩

theorem V_main_v0_at (i : S512x8192.Idx) : (V m c main_v0 : S512x8192.Idx → EReal) i = H m c i := by
  have e : (V m c main_v0 : S512x8192.Idx → EReal) = (truncf .bf16 (H m c : FVec Ideal S512x8192 .f32) bitsLt_bf16_f32 : FVec Ideal S512x8192 .bf16) := by
    unfold V hostOps0
    after_results
  rw [e]
  rfl

theorem V_main_v1_at (k : Fin 2048) : (V m c main_v1 : S1x2048.Idx → EReal) (ix2 0 k) = G m c (ix1 k) := by
  have e : (V m c main_v1 : S1x2048.Idx → EReal) = shapeCast S1x2048 (G m c) shapeCasts_S2048_S1x2048 := by
    unfold V hostOps0
    after_results
    rfl
  rw [e]
  pointwise

theorem iblk_0_at (t : Fin cfg0.N) (r k : Fin 512) : (iblk m c 0 t : S512x512.Idx → EReal) (ix2 r k) = H m c (ix2 r (at_ t k)) := by
  rw [← V_main_v0_at m c]
  show V m c main_v0 (((cfg0.win 0).blk t).view.emb (ix2 r k)) = _
  refine congrArg (V m c main_v0) (funext fun a => Fin.ext ?_)
  match a with
  | ⟨0, _⟩ => show win0_0.index t (0 : Fin 2) * 512 + 1 * r.val = r.val; rw [congrFun (places t).1 0]; show 0 * 512 + 1 * r.val = _; omega
  | ⟨1, _⟩ => show win0_0.index t (1 : Fin 2) * 512 + 1 * k.val = 512 * t.val + k.val; rw [congrFun (places t).1 1]; show t.val * 512 + 1 * k.val = _; omega

theorem iblk_1_at (t : Fin cfg0.N) (k : Fin 512) (q : Fin 2048) : (iblk m c 1 t : S1x512x2048.Idx → EReal) (ix3 0 k q) = W m c (ix3 0 (at_ t k) q) := by
  show V m c main_arg1 (((cfg0.win 1).blk t).view.emb (ix3 0 k q)) = _
  rw [V_main_arg1]
  refine congrArg (W m c) (funext fun a => Fin.ext ?_)
  have p := (places t).2.1
  match a with
  | ⟨0, _⟩ => show win0_1.index t (0 : Fin 3) * 1 + 1 * 0 = 0; rw [congrFun p 0]; rfl
  | ⟨1, _⟩ => show win0_1.index t (1 : Fin 3) * 512 + 1 * k.val = 512 * t.val + k.val; rw [congrFun p 1]; show t.val * 512 + 1 * k.val = _; omega
  | ⟨2, _⟩ => show win0_1.index t (2 : Fin 3) * 2048 + 1 * q.val = q.val; rw [congrFun p 2]; show 0 * 2048 + 1 * q.val = _; omega

theorem iblk_2_at (t : Fin cfg0.N) (r : Fin 512) (q : Fin 2048) : (iblk m c 2 t : S512x2048.Idx → EReal) (ix2 r q) = X m c (ix2 r q) := by
  show V m c main_arg2 (((cfg0.win 2).blk t).view.emb (ix2 r q)) = _
  rw [V_main_arg2]
  refine congrArg (X m c) (funext fun a => Fin.ext ?_)
  have p := (places t).2.2.1
  match a with
  | ⟨0, _⟩ => show win0_2.index t (0 : Fin 2) * 512 + 1 * r.val = r.val; rw [congrFun p 0]; show 0 * 512 + 1 * r.val = _; omega
  | ⟨1, _⟩ => show win0_2.index t (1 : Fin 2) * 2048 + 1 * q.val = q.val; rw [congrFun p 1]; show 0 * 2048 + 1 * q.val = _; omega

theorem iblk_3_at (t : Fin cfg0.N) (q : Fin 2048) : (iblk m c 3 t : S1x2048.Idx → EReal) (ix2 0 q) = G m c (ix1 q) := by
  rw [← V_main_v1_at m c]
  show V m c main_v1 (((cfg0.win 3).blk t).view.emb (ix2 0 q)) = _
  refine congrArg (V m c main_v1) (funext fun a => Fin.ext ?_)
  have p := (places t).2.2.2.1
  match a with
  | ⟨0, _⟩ => show win0_3.index t (0 : Fin 2) * 1 + 1 * 0 = 0; rw [congrFun p 0]; rfl
  | ⟨1, _⟩ => show win0_3.index t (1 : Fin 2) * 2048 + 1 * q.val = q.val; rw [congrFun p 1]; show 0 * 2048 + 1 * q.val = _; omega

/-! ## The output block through the grid -/

/-- The residual and the first `n` products of element `r`, `q`. -/
def part (r : Fin 512) (q : Fin 2048) (n : ℕ) : EReal :=
  X m c (ix2 r q) + head (fun k : Fin 8192 => H m c (ix2 r k) * W m c (ix3 0 k q)) n

/-- A block of 512 more products takes the sum one block further. -/
theorem part_add (n : ℕ) (acc : Vec Ideal S512x2048 .f32) (h : Vec Ideal S512x512 .bf16) (w : Vec Ideal S1x512x2048 .f32)
    (r : Fin 512) (q : Fin 2048) (at_ : Fin 512 → Fin 8192) (hn : ∀ k, (at_ k).val = n + k.val) (ha : acc (ix2 r q) = part m c r q n)
    (hh : ∀ k, h (ix2 r k) = H m c (ix2 r (at_ k))) (hw : ∀ k, w (ix3 0 k q) = W m c (ix3 0 (at_ k) q)) :
    k0_pay2 (F := Ideal) acc h w (ix2 r q) = part m c r q (n + 512) := by
  rw [pay2_at, ha]
  unfold part
  rw [head_add _ n (fun k : Fin 512 => h (ix2 r k) * w (ix3 0 k q)) (fun k => ⟨hn k ▸ (at_ k).isLt,
    (congrArg₂ (· * ·) (hh k) (hw k)).trans (congrArg (fun K => H m c (ix2 r K) * W m c (ix3 0 K q)) (Fin.ext (hn k)))⟩), add_assoc]

/-- A point takes the residual and the products of the blocks before it to one block further. -/
theorem pay2_part (t : Fin cfg0.N) (acc : Vec Ideal S512x2048 .f32) (r : Fin 512) (q : Fin 2048) (h : acc (ix2 r q) = part m c r q (512 * t.val)) :
    k0_pay2 (F := Ideal) acc (iblk m c 0 t) (iblk m c 1 t) (ix2 r q) = part m c r q (512 * t.val + 512) :=
  part_add m c _ acc _ _ r q (at_ t) (fun _ => rfl) h (fun k => iblk_0_at m c t r k) (fun k => iblk_1_at m c t k q)

/-- Before the last point, the output block holds the partial sums. -/
theorem out_part : ∀ (n : ℕ) (h : n < cfg0.N), n ≠ 15 → ∀ (r : Fin 512) (q : Fin 2048),
    ((outsAt0 m c n h).1 : S512x2048.Idx → EReal) (ix2 r q) = part m c r q (512 * n + 512) := by
  intro n
  induction n with
  | zero =>
    intro h _ r q
    rw [outsAt0_A m c ⟨0, h⟩ rfl (by show ¬0 % 16 = 15; decide)]
    dsimp only
    rw [out_A_4_eq]
    refine pay2_part m c ⟨0, h⟩ _ r q ?_
    rw [iblk_2_at m c ⟨0, h⟩ r q]
    show _ = part m c r q 0
    unfold part
    rw [head_zero, add_zero]
  | succ n ih =>
    intro h h15 r q
    have hN : n + 1 < 16 := lt_of_lt_of_eq h N_0
    rw [outsAt0_B m c ⟨n + 1, h⟩ (by show ¬(n + 1) % 16 = 0; omega) (by show ¬(n + 1) % 16 = 15; omega)]
    dsimp only
    rw [out_B_4_eq]
    refine pay2_part m c ⟨n + 1, h⟩ _ r q ?_
    refine (ih (Nat.lt_of_succ_lt h) (by omega) r q).trans (congrArg (part m c r q) ?_)
    show _ = 512 * (n + 1)
    omega

/-- An element before the norm: the residual and all the products. -/
def whole (r : Fin 512) (q : Fin 2048) : EReal := X m c (ix2 r q) + ∑ k : Fin 8192, H m c (ix2 r k) * W m c (ix3 0 k q)

/-- An element of the result. -/
def normed (r : Fin 512) (q : Fin 2048) : EReal := whole m c r q * invRms (whole m c r) * G m c (ix1 q)

theorem part_whole (r : Fin 512) (q : Fin 2048) : part m c r q 8192 = whole m c r q := by
  unfold part whole
  rw [head_all]

theorem last_at (t : Fin cfg0.N) (h15 : t.val = 15) (r : Fin 512) (q : Fin 2048) :
    k0_pay3 (F := Ideal) (k0_pay2 (outsAt0 m c (t.val - 1) (Nat.lt_of_le_of_lt (Nat.sub_le _ _) t.isLt)).1 (iblk m c 0 t) (iblk m c 1 t)) (iblk m c 3 t) (ix2 r q)
      = normed m c r q := by
  have e : ∀ q, k0_pay2 (F := Ideal) (outsAt0 m c (t.val - 1) (Nat.lt_of_le_of_lt (Nat.sub_le _ _) t.isLt)).1 (iblk m c 0 t) (iblk m c 1 t) (ix2 r q)
      = whole m c r q := by
    intro q
    rw [pay2_part m c t _ r q ((out_part m c (t.val - 1) _ (by omega) r q).trans (congrArg (part m c r q) (by omega))), h15, part_whole]
  rw [pay3_at, iblk_3_at]
  simp only [e]
  rfl

theorem out4_at (t : Fin cfg0.N) (h15 : t.val = 15) (r : Fin 512) (q : Fin 2048) :
    ((outsAt0 m c t.val t.isLt).1 : S512x2048.Idx → EReal) (ix2 r q) = normed m c r q := by
  rw [outsAt0_C m c t (by omega) (by omega)]
  dsimp only
  rw [out_C_4_eq]
  exact last_at m c t h15 r q

theorem out6_at (t : Fin cfg0.N) (h15 : t.val = 15) (b : Fin 128) (s : Fin 4) (q : Fin 2048) :
    ((outsAt0 m c t.val t.isLt).2.2 : S128x4x2048.Idx → EReal) (ix3 b s q) = normed m c (rowOf b s) q := by
  rw [outsAt0_C m c t (by omega) (by omega)]
  dsimp only
  rw [out_C_6_at]
  exact last_at m c t h15 _ q

/-- Every point writes its weight block. -/
theorem out5_at (t : Fin cfg0.N) (k : Fin 512) (q : Fin 2048) :
    ((outsAt0 m c t.val t.isLt).2.1 : S512x2048.Idx → EReal) (ix2 k q) = W m c (ix3 0 (at_ t k) q) := by
  have ht := lt_N t
  refine Eq.trans ?_ ((pay1_at (iblk m c 1 t) k q).trans (iblk_1_at m c t k q))
  by_cases h0 : t.val % 16 = 0
  · rw [outsAt0_A m c t h0 (by omega)]
    dsimp only
    rw [out_A_5_eq]
  by_cases h1 : t.val % 16 = 15
  · rw [outsAt0_C m c t h0 h1]
    dsimp only
    rw [out_C_5_eq]
  · rw [outsAt0_B m c t h0 h1]
    dsimp only
    rw [out_B_5_eq]

/-! ## The result arrays -/

def result0 : Buf (Elt Ideal) ((c : Thread nD τ).loc main_v2_0) := fun i : S512x2048.Idx => normed m c (i 0) (i 1)
def result1 : Buf (Elt Ideal) ((c : Thread nD τ).loc main_v2_1) := fun i : S8192x2048.Idx => W m c (ix3 0 (i 0) (i 1))
def result2 : Buf (Elt Ideal) ((c : Thread nD τ).loc main_v2_2) := fun i : S128x4x2048.Idx => normed m c (rowOf (i 0) (i 1)) (i 2)

theorem flushed_4 (t : Fin cfg0.N) (hf : (cfg0.win 4).flush t = true) :
    (dats m 0 c).flushed 4 t = ((cfg0.win 4).blk t).view.read (Elt Ideal) (result0 m c) := by
  have h15 : t.val % 16 = 15 := (flush0_4 t).mp hf
  have ht := lt_N t
  rw [Value.flushed4]
  funext j
  obtain ⟨r, q, ej⟩ := eta2 (p := 512) (q := 2048) j
  have e : ((cfg0.win 4).blk t).view.emb (ix2 r q) = (ix2 r q : S512x2048.Idx) := by
    have p := (places t).2.2.2.2.1
    funext a; apply Fin.ext
    match a with
    | ⟨0, _⟩ => show win0_4.index t (0 : Fin 2) * 512 + 1 * r.val = r.val; rw [congrFun p 0]; show 0 * 512 + 1 * r.val = _; omega
    | ⟨1, _⟩ => show win0_4.index t (1 : Fin 2) * 2048 + 1 * q.val = q.val; rw [congrFun p 1]; show 0 * 2048 + 1 * q.val = _; omega
  have key : ((outsAt0 m c t.val t.isLt).1 : S512x2048.Idx → EReal) (ix2 r q) = result0 m c (((cfg0.win 4).blk t).view.emb (ix2 r q)) := by
    rw [e]
    exact out4_at m c t (by omega) r q
  show ((outsAt0 m c t.val t.isLt).1 : S512x2048.Idx → EReal) j = result0 m c (((cfg0.win 4).blk t).view.emb j)
  rw [ej]
  exact key

theorem flushed_5 (t : Fin cfg0.N) : (dats m 0 c).flushed 5 t = ((cfg0.win 5).blk t).view.read (Elt Ideal) (result1 m c) := by
  rw [Value.flushed5]
  funext j
  obtain ⟨k, q, ej⟩ := eta2 (p := 512) (q := 2048) j
  have e : ((cfg0.win 5).blk t).view.emb (ix2 k q) = (ix2 (at_ t k) q : S8192x2048.Idx) := by
    have p := (places t).2.2.2.2.2.1
    funext a; apply Fin.ext
    match a with
    | ⟨0, _⟩ => show win0_5.index t (0 : Fin 2) * 512 + 1 * k.val = 512 * t.val + k.val; rw [congrFun p 0]; show t.val * 512 + 1 * k.val = _; omega
    | ⟨1, _⟩ => show win0_5.index t (1 : Fin 2) * 2048 + 1 * q.val = q.val; rw [congrFun p 1]; show 0 * 2048 + 1 * q.val = _; omega
  have key : ((outsAt0 m c t.val t.isLt).2.1 : S512x2048.Idx → EReal) (ix2 k q) = result1 m c (((cfg0.win 5).blk t).view.emb (ix2 k q)) := by
    rw [e]
    exact out5_at m c t k q
  show ((outsAt0 m c t.val t.isLt).2.1 : S512x2048.Idx → EReal) j = result1 m c (((cfg0.win 5).blk t).view.emb j)
  rw [ej]
  exact key

theorem flushed_6 (t : Fin cfg0.N) (hf : (cfg0.win 6).flush t = true) :
    (dats m 0 c).flushed 6 t = ((cfg0.win 6).blk t).view.read (Elt Ideal) (result2 m c) := by
  have h15 : t.val % 16 = 15 := (flush0_6 t).mp hf
  have ht := lt_N t
  rw [Value.flushed6]
  funext j
  obtain ⟨b, s, q, ej⟩ := eta3 (p := 128) (q := 4) (r := 2048) j
  have e : ((cfg0.win 6).blk t).view.emb (ix3 b s q) = (ix3 b s q : S128x4x2048.Idx) := by
    have p := (places t).2.2.2.2.2.2
    funext a; apply Fin.ext
    match a with
    | ⟨0, _⟩ => show win0_6.index t (0 : Fin 3) * 128 + 1 * b.val = b.val; rw [congrFun p 0]; show 0 * 128 + 1 * b.val = _; omega
    | ⟨1, _⟩ => show win0_6.index t (1 : Fin 3) * 4 + 1 * s.val = s.val; rw [congrFun p 1]; show 0 * 4 + 1 * s.val = _; omega
    | ⟨2, _⟩ => show win0_6.index t (2 : Fin 3) * 2048 + 1 * q.val = q.val; rw [congrFun p 2]; show 0 * 2048 + 1 * q.val = _; omega
  have key : ((outsAt0 m c t.val t.isLt).2.2 : S128x4x2048.Idx → EReal) (ix3 b s q) = result2 m c (((cfg0.win 6).blk t).view.emb (ix3 b s q)) := by
    rw [e]
    exact out6_at m c t (by omega) b s q
  show ((outsAt0 m c t.val t.isLt).2.2 : S128x4x2048.Idx → EReal) j = result2 m c (((cfg0.win 6).blk t).view.emb j)
  rw [ej]
  exact key

theorem point_of {n : ℕ} (h : n < 16) : n < cfg0.N := lt_of_lt_of_eq h N_0.symm

theorem final_4 : (dats m 0 c).arrAt 4 cfg0.N = result0 m c := by
  refine (dats m 0 c).arrAt_eq_of_cover 4 _ (fun t ht => flushed_4 m c t ht) fun i => ?_
  have h0 : (i 0).val < 512 := (i 0).isLt
  have h1 : (i 1).val < 2048 := (i 1).isLt
  have hp : 15 < 16 := by decide
  refine ⟨⟨15, point_of hp⟩, (flush0_4 _).mpr rfl, ?_⟩
  show i ∈ ((View.whole main_v2_0).slice (win0_4.rect ⟨15, point_of hp⟩)).set
  rw [View.set_slice_whole, Rect.mem_set_unit]
  intro a
  have p := (places ⟨15, point_of hp⟩).2.2.2.2.1
  match a with
  | ⟨0, _⟩ =>
    show win0_4.index ⟨15, point_of hp⟩ (0 : Fin 2) * 512 ≤ (i 0).val ∧ (i 0).val < win0_4.index ⟨15, point_of hp⟩ (0 : Fin 2) * 512 + 512
    rw [congrFun p 0]
    show 0 * 512 ≤ (i 0).val ∧ (i 0).val < 0 * 512 + 512
    omega
  | ⟨1, _⟩ =>
    show win0_4.index ⟨15, point_of hp⟩ (1 : Fin 2) * 2048 ≤ (i 1).val ∧ (i 1).val < win0_4.index ⟨15, point_of hp⟩ (1 : Fin 2) * 2048 + 2048
    rw [congrFun p 1]
    show 0 * 2048 ≤ (i 1).val ∧ (i 1).val < 0 * 2048 + 2048
    omega

theorem final_5 : (dats m 0 c).arrAt 5 cfg0.N = result1 m c := by
  refine (dats m 0 c).arrAt_eq_of_cover 5 _ (fun t _ => flushed_5 m c t) fun i => ?_
  have h0 : (i 0).val < 8192 := (i 0).isLt
  have h1 : (i 1).val < 2048 := (i 1).isLt
  have hp : (i 0).val / 512 < 16 := by omega
  refine ⟨⟨_, point_of hp⟩, flush0_5 _, ?_⟩
  show i ∈ ((View.whole main_v2_1).slice (win0_5.rect ⟨_, point_of hp⟩)).set
  rw [View.set_slice_whole, Rect.mem_set_unit]
  intro a
  have p := (places ⟨_, point_of hp⟩).2.2.2.2.2.1
  match a with
  | ⟨0, _⟩ =>
    show win0_5.index ⟨_, point_of hp⟩ (0 : Fin 2) * 512 ≤ (i 0).val ∧ (i 0).val < win0_5.index ⟨_, point_of hp⟩ (0 : Fin 2) * 512 + 512
    rw [congrFun p 0]
    show (i 0).val / 512 * 512 ≤ (i 0).val ∧ (i 0).val < (i 0).val / 512 * 512 + 512
    omega
  | ⟨1, _⟩ =>
    show win0_5.index ⟨_, point_of hp⟩ (1 : Fin 2) * 2048 ≤ (i 1).val ∧ (i 1).val < win0_5.index ⟨_, point_of hp⟩ (1 : Fin 2) * 2048 + 2048
    rw [congrFun p 1]
    show 0 * 2048 ≤ (i 1).val ∧ (i 1).val < 0 * 2048 + 2048
    omega

theorem final_6 : (dats m 0 c).arrAt 6 cfg0.N = result2 m c := by
  refine (dats m 0 c).arrAt_eq_of_cover 6 _ (fun t ht => flushed_6 m c t ht) fun i => ?_
  have h0 : (i 0).val < 128 := (i 0).isLt
  have h1 : (i 1).val < 4 := (i 1).isLt
  have h2 : (i 2).val < 2048 := (i 2).isLt
  have hp : 15 < 16 := by decide
  refine ⟨⟨15, point_of hp⟩, (flush0_6 _).mpr rfl, ?_⟩
  show i ∈ ((View.whole main_v2_2).slice (win0_6.rect ⟨15, point_of hp⟩)).set
  rw [View.set_slice_whole, Rect.mem_set_unit]
  intro a
  have p := (places ⟨15, point_of hp⟩).2.2.2.2.2.2
  match a with
  | ⟨0, _⟩ =>
    show win0_6.index ⟨15, point_of hp⟩ (0 : Fin 3) * 128 ≤ (i 0).val ∧ (i 0).val < win0_6.index ⟨15, point_of hp⟩ (0 : Fin 3) * 128 + 128
    rw [congrFun p 0]
    show 0 * 128 ≤ (i 0).val ∧ (i 0).val < 0 * 128 + 128
    omega
  | ⟨1, _⟩ =>
    show win0_6.index ⟨15, point_of hp⟩ (1 : Fin 3) * 4 ≤ (i 1).val ∧ (i 1).val < win0_6.index ⟨15, point_of hp⟩ (1 : Fin 3) * 4 + 4
    rw [congrFun p 1]
    show 0 * 4 ≤ (i 1).val ∧ (i 1).val < 0 * 4 + 4
    omega
  | ⟨2, _⟩ =>
    show win0_6.index ⟨15, point_of hp⟩ (2 : Fin 3) * 2048 ≤ (i 2).val ∧ (i 2).val < win0_6.index ⟨15, point_of hp⟩ (2 : Fin 3) * 2048 + 2048
    rw [congrFun p 2]
    show 0 * 2048 ≤ (i 2).val ∧ (i 2).val < 0 * 2048 + 2048
    omega

end

/-- The kernel's three results are the reference's. -/
theorem algebraic : Cert.algebraic_DownSlabIdeal_DownSlabRefIdeal := by
  intro m ρ m' ρ' _ hagree
  refine ⟨fun c => result0 m c, fun c => result1 m c, fun c => result2 m c,
    (θ_run _ _ _).mono (fun _ h c => ⟨(h c).1.trans (final_4 m c), (h c).2.1.trans (final_5 m c), (h c).2.2.1.trans (final_6 m c), (h c).2.2.2⟩)
      (Value.run_blocks m ρ),
    (θ_run _ _ _).mono (fun _ h c => ⟨(h c).1.trans ?_, (h c).2.1.trans ?_, (h c).2.2.1.trans ?_, (h c).2.2.2⟩)
      (Cert.DownSlabRefIdeal.Value.run (F := Ideal) m' ρ')⟩
  all_goals
    have ha := hagree c
    obtain ⟨a0, a1, a2, a3⟩ := ha
  · rw [Cert.DownSlabRefIdeal.Read.val_main_v15_eq, a0, a1, a2, a3]
    funext j
    obtain ⟨r, q, rfl⟩ := eta2 (p := 512) (q := 2048) j
    exact ref0_at _ _ _ _ r q
  · rw [Cert.DownSlabRefIdeal.Read.val_main_v17_eq, a1]
    funext j
    obtain ⟨k, q, rfl⟩ := eta2 (p := 8192) (q := 2048) j
    exact ref1_at _ k q
  · rw [Cert.DownSlabRefIdeal.Read.val_main_v19_eq, a0, a1, a2, a3]
    funext j
    obtain ⟨b, s, q, rfl⟩ := eta3 (p := 128) (q := 4) (r := 2048) j
    exact (ref2_at _ _ _ _ b s q).trans (ref0_at _ _ _ _ _ q)

/-- The reference runs, leaves its arguments, and has no semaphore. -/
theorem frame_ref : Cert.quiescent_DownSlabRefIdeal := fun m ρ _ =>
  (θ_run Cert.DownSlabRefIdeal.defs _ _).mono (fun r h => ⟨fun c => (h c).2.2.2, sem_eq_zero_of_no_sems (by decide) r.2⟩)
    (Cert.DownSlabRefIdeal.Value.run (F := Ideal) m ρ)

end Cert.Proof.DownSlab

end
-- ==== Proof.OutProj.lean ====
/-
  The output projection over the sample: the normed outputs of the two groups, side by side, times the output weight, on top
  of the residual.  Each of the 4 grid points takes 512 columns of the weight, of which one window holds the upper half of the
  rows and another the lower half, and also writes its two weight blocks out as bf16.
-/
module

public import proofs.«01_k».proof.Defs
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.Value
public import Idealize.ShloMosaic.Lib.Pointwise
public import Idealize.ShloMosaic.Lib.Quiescent

@[expose] public section

set_option maxRecDepth 16384

noncomputable section

namespace Cert.Proof.OutProj

open Idealize.ShloMosaic Idealize.ShloMosaic.TcCoe Idealize.SL.Sem
open Cert.OutProjIdeal Cert.OutProjIdeal.Gen

/-! ## The numbers -/

/-- The rows are time-major: row `r` is sequence `r mod 128` at time `r / 128`. -/
abbrev seqOf (r : Fin 512) : Fin 128 := ⟨r.val % 128, Nat.mod_lt _ (by decide)⟩
abbrev timeOf (r : Fin 512) : Fin 4 := ⟨r.val / 128, by have := r.isLt; omega⟩

/-- The product of a row with a column, its two halves apart, on top of the residual. -/
def sumOf (x : EReal) (a1 a2 w1 w2 : Fin 2048 → EReal) : EReal := x + (∑ k, a1 k * w1 k + ∑ k, a2 k * w2 k)

theorem pay3_at (a1 a2 : Vec Ideal S512x2048 .bf16) (w1 w2 : Vec Ideal S1x2048x512 .f32) (X : Vec Ideal S128x4x512 .f32)
    (x0 x1 x2 x3 : Vec Ideal S128x1x512 .f32) (h0 : ∀ b q, x0 (ix3 b 0 q) = X (ix3 b 0 q)) (h1 : ∀ b q, x1 (ix3 b 0 q) = X (ix3 b 1 q))
    (h2 : ∀ b q, x2 (ix3 b 0 q) = X (ix3 b 2 q)) (h3 : ∀ b q, x3 (ix3 b 0 q) = X (ix3 b 3 q)) (r q : Fin 512) :
    k0_pay3 (F := Ideal) a1 w1 a2 w2 x0 x1 x2 x3 (ix2 r q)
      = sumOf (X (ix3 (seqOf r) (timeOf r) q)) (fun k => a1 (ix2 r k)) (fun k => a2 (ix2 r k)) (fun k => w1 (ix3 0 k q)) (fun k => w2 (ix3 0 k q)) := by
  have hr := r.isLt
  have at_ {b : Fin 128} {t : Fin 4} (hb : b.val = r.val % 128) (ht : t.val = r.val / 128) : X (ix3 b t q) = X (ix3 (seqOf r) (timeOf r) q) :=
    congrArg X (congrArg₂ (fun b t => ix3 b t q) (Fin.ext hb) (Fin.ext ht))
  unfold k0_pay3 k0_pay1 k0_pay2 sumOf
  pointwise
  refine congrArg (· + _) ?_
  by_cases c0 : r.val < 128
  · rw [dif_pos c0]
    exact (h0 ⟨_, c0⟩ q).trans (at_ (by show r.val = _; omega) (by show 0 = _; omega))
  rw [dif_neg c0]
  by_cases c1 : r.val - 128 < 128
  · rw [dif_pos c1]
    exact (h1 ⟨_, c1⟩ q).trans (at_ (by show r.val - 128 = _; omega) (by show 1 = _; omega))
  rw [dif_neg c1]
  by_cases c2 : r.val - 128 - 128 < 128
  · rw [dif_pos c2]
    exact (h2 ⟨_, c2⟩ q).trans (at_ (by show r.val - 128 - 128 = _; omega) (by show 2 = _; omega))
  rw [dif_neg c2]
  exact (h3 ⟨r.val - 128 - 128 - 128, by omega⟩ q).trans (at_ (by show r.val - 128 - 128 - 128 = _; omega) (by show 3 = _; omega))

theorem hz2 : (![0, 0] : Fin 2 → Nat) = fun _ => 0 := funext fun a => match a with | 0 => rfl | 1 => rfl
theorem hz3 : (![0, 0, 0] : Fin 3 → Nat) = fun _ => 0 := funext fun a => match a with | 0 => rfl | 1 => rfl | 2 => rfl

/-- Reading one time of the residual's block. -/
theorem ld_at (X : Vec Ideal S128x4x512 .f32) (o : Fin 3 → ℕ) (hr) (t : Fin 4) (ho : o = ![0, t.val, 0]) (b : Fin 128) (q : Fin 512) :
    View.ld (S := S128x4x512) X (Rect.unit o S128x1x512.size hr) (ix3 b 0 q) = X (ix3 b t q) := by
  subst ho
  refine congrArg X (funext fun a => Fin.ext ?_)
  match a with
  | ⟨0, _⟩ => show 0 + 1 * b.val = b.val; omega
  | ⟨1, _⟩ => show t.val + 1 * 0 = t.val; omega
  | ⟨2, _⟩ => show 0 + 1 * q.val = q.val; omega

/-- What a point leaves in the three blocks, element by element. -/
theorem out5_at (x0 x1 : Vec Ideal S512x2048 .bf16) (x2 x3 : Vec Ideal S1x2048x512 .f32) (x4 : Vec Ideal S128x4x512 .f32) (r q : Fin 512) :
    out0_5 (F := Ideal) x0 x1 x2 x3 x4 (ix2 r q)
      = sumOf (x4 (ix3 (seqOf r) (timeOf r) q)) (fun k => x0 (ix2 r k)) (fun k => x1 (ix2 r k)) (fun k => x2 (ix3 0 k q)) (fun k => x3 (ix3 0 k q)) := by
  unfold out0_5
  rw [View.canon_unit_zero hz2, View.ld_unit_zero (S := S512x2048) hz2, View.ld_unit_zero (S := S512x2048) hz2,
    View.ld_unit_zero (S := S1x2048x512) hz3, View.ld_unit_zero (S := S1x2048x512) hz3]
  exact pay3_at _ _ _ _ x4 _ _ _ _ (ld_at x4 _ _ 0 rfl) (ld_at x4 _ _ 1 rfl) (ld_at x4 _ _ 2 rfl) (ld_at x4 _ _ 3 rfl) r q

theorem out6_at (x0 x1 : Vec Ideal S512x2048 .bf16) (x2 x3 : Vec Ideal S1x2048x512 .f32) (x4 : Vec Ideal S128x4x512 .f32) (k : Fin 2048) (q : Fin 512) :
    out0_6 (F := Ideal) x0 x1 x2 x3 x4 (ix2 k q) = x2 (ix3 0 k q) := by
  unfold out0_6
  rw [View.canon_unit_zero hz2, View.ld_unit_zero (S := S1x2048x512) hz3]
  unfold k0_pay1
  pointwise

theorem out7_at (x0 x1 : Vec Ideal S512x2048 .bf16) (x2 x3 : Vec Ideal S1x2048x512 .f32) (x4 : Vec Ideal S128x4x512 .f32) (k : Fin 2048) (q : Fin 512) :
    out0_7 (F := Ideal) x0 x1 x2 x3 x4 (ix2 k q) = x3 (ix3 0 k q) := by
  unfold out0_7
  rw [View.canon_unit_zero hz2, View.ld_unit_zero (S := S1x2048x512) hz3]
  unfold k0_pay2
  pointwise

section
open Cert.OutProjRefIdeal.Read

/-- The rows of the lower half of the weight. -/
abbrev lower (k : Fin 2048) : Fin 4096 := ⟨2048 + k.val, by have := k.isLt; omega⟩
abbrev upper (k : Fin 2048) : Fin 4096 := ⟨k.val, by have := k.isLt; omega⟩

/-- The reference's results, element by element. -/
theorem ref0_at (x0 x1 : (⟨S512x2048, .f32⟩ : BufTy).Contents (Elt Ideal))
    (x2 : (⟨S1x4096x2048, .f32⟩ : BufTy).Contents (Elt Ideal)) (x3 : (⟨S128x4x2048, .f32⟩ : BufTy).Contents (Elt Ideal)) (r : Fin 512) (q : Fin 2048) :
    val_main_v5 (F := Ideal) x0 x1 x2 x3 (ix2 r q)
      = sumOf (x3 (ix3 (seqOf r) (timeOf r) q)) (fun k => x0 (ix2 r k)) (fun k => x1 (ix2 r k)) (fun k => x2 (ix3 0 (upper k) q)) (fun k => x2 (ix3 0 (lower k) q)) := by
  have hr := r.isLt
  have hq := q.isLt
  have e3 : idx_main_v3 (idx_main_v4 (ix2 r q)) = ix3 (seqOf r) (timeOf r) q := funext fun a => Fin.ext (by
    match a with
    | ⟨0, _⟩ => show (r.val * 2048 + q.val) / 2048 % 128 = r.val % 128; omega
    | ⟨1, _⟩ => show (r.val * 2048 + q.val) / 262144 = r.val / 128; omega
    | ⟨2, _⟩ => show (r.val * 2048 + q.val) % 2048 = q.val; omega)
  have e1 : ∀ k : Fin 4096, val_main_v1 (F := Ideal) x2 (ridx_main_v2 (ix2 r q) k) = x2 (ix3 0 k q) := fun k => by
    have hk := k.isLt
    rw [val_main_v1_apply]
    refine congrArg x2 (funext fun a => Fin.ext ?_)
    match a with
    | ⟨0, _⟩ => rfl
    | ⟨1, _⟩ => show (k.val * 2048 + q.val) / 2048 % 4096 = k.val; omega
    | ⟨2, _⟩ => show (k.val * 2048 + q.val) % 2048 = q.val; omega
  rw [val_main_v5_apply, val_main_v2_apply, val_main_v4_apply, val_main_v3_apply, e3]
  simp only [e1]
  unfold val_main_v0 sumOf
  pointwise

theorem ref1_at (x2 : (⟨S1x4096x2048, .f32⟩ : BufTy).Contents (Elt Ideal)) (k q : Fin 2048) :
    val_main_v8 (F := Ideal) x2 (ix2 k q) = x2 (ix3 0 (upper k) q) := by
  unfold val_main_v8 val_main_v7 val_main_v6
  pointwise

theorem ref2_at (x2 : (⟨S1x4096x2048, .f32⟩ : BufTy).Contents (Elt Ideal)) (k q : Fin 2048) :
    val_main_v11 (F := Ideal) x2 (ix2 k q) = x2 (ix3 0 (lower k) q) := by
  unfold val_main_v11 val_main_v10 val_main_v9
  pointwise
end

/-! ## The blocks of a point -/

section
variable (m : (ℓ : Loc nD τ sig) → Buf (Elt Ideal) ℓ) (c : Dev nD)

/-- The arguments: the two groups' outputs, the weight and the residual. -/
abbrev A1 : S512x2048.Idx → EReal := m ((c : Thread nD τ).loc main_arg0)
abbrev A2 : S512x2048.Idx → EReal := m ((c : Thread nD τ).loc main_arg1)
abbrev W : S1x4096x2048.Idx → EReal := m ((c : Thread nD τ).loc main_arg2)
abbrev X : S128x4x2048.Idx → EReal := m ((c : Thread nD τ).loc main_arg3)

theorem places : ∀ t : Fin cfg0.N, win0_0.index t = ![0, 0] ∧ win0_1.index t = ![0, 0] ∧ win0_2.index t = ![0, 0, t.val]
    ∧ win0_3.index t = ![0, 1, t.val] ∧ win0_4.index t = ![0, 0, t.val] ∧ win0_5.index t = ![0, t.val] ∧ win0_6.index t = ![0, t.val]
    ∧ win0_7.index t = ![0, t.val] := (by decide +kernel : ∀ t : Fin grid0.N, _)

/-- Column `q` of the block of point `t`. -/
abbrev col (t : Fin cfg0.N) (q : Fin 512) : Fin 2048 :=
  ⟨512 * t.val + q.val, by have hN : t.val < 4 := lt_of_lt_of_eq t.isLt N_0; have := q.isLt; omega⟩

theorem V_main_v0_at (i : S512x2048.Idx) : (V m c main_v0 : S512x2048.Idx → EReal) i = A1 m c i := by
  have e : (V m c main_v0 : S512x2048.Idx → EReal) = (truncf .bf16 (A1 m c : FVec Ideal S512x2048 .f32) bitsLt_bf16_f32 : FVec Ideal S512x2048 .bf16) := by
    unfold V hostOps0
    after_results
  rw [e]
  rfl

theorem V_main_v1_at (i : S512x2048.Idx) : (V m c main_v1 : S512x2048.Idx → EReal) i = A2 m c i := by
  have e : (V m c main_v1 : S512x2048.Idx → EReal) = (truncf .bf16 (A2 m c : FVec Ideal S512x2048 .f32) bitsLt_bf16_f32 : FVec Ideal S512x2048 .bf16) := by
    unfold V hostOps0
    after_results
  rw [e]
  rfl

theorem iblk_0_at (t : Fin cfg0.N) (r : Fin 512) (k : Fin 2048) : (iblk m c 0 t : S512x2048.Idx → EReal) (ix2 r k) = A1 m c (ix2 r k) := by
  rw [← V_main_v0_at m c]
  show V m c main_v0 (((cfg0.win 0).blk t).view.emb (ix2 r k)) = _
  refine congrArg (V m c main_v0) (funext fun a => Fin.ext ?_)
  match a with
  | ⟨0, _⟩ => show win0_0.index t (0 : Fin 2) * 512 + 1 * r.val = r.val; rw [congrFun (places t).1 0]; show 0 * 512 + 1 * r.val = _; omega
  | ⟨1, _⟩ => show win0_0.index t (1 : Fin 2) * 2048 + 1 * k.val = k.val; rw [congrFun (places t).1 1]; show 0 * 2048 + 1 * k.val = _; omega

theorem iblk_1_at (t : Fin cfg0.N) (r : Fin 512) (k : Fin 2048) : (iblk m c 1 t : S512x2048.Idx → EReal) (ix2 r k) = A2 m c (ix2 r k) := by
  rw [← V_main_v1_at m c]
  show V m c main_v1 (((cfg0.win 1).blk t).view.emb (ix2 r k)) = _
  refine congrArg (V m c main_v1) (funext fun a => Fin.ext ?_)
  match a with
  | ⟨0, _⟩ => show win0_1.index t (0 : Fin 2) * 512 + 1 * r.val = r.val; rw [congrFun (places t).2.1 0]; show 0 * 512 + 1 * r.val = _; omega
  | ⟨1, _⟩ => show win0_1.index t (1 : Fin 2) * 2048 + 1 * k.val = k.val; rw [congrFun (places t).2.1 1]; show 0 * 2048 + 1 * k.val = _; omega

theorem iblk_2_at (t : Fin cfg0.N) (k : Fin 2048) (q : Fin 512) :
    (iblk m c 2 t : S1x2048x512.Idx → EReal) (ix3 0 k q) = W m c (ix3 0 (upper k) (col t q)) := by
  show V m c main_arg2 (((cfg0.win 2).blk t).view.emb (ix3 0 k q)) = _
  rw [V_main_arg2]
  refine congrArg (W m c) (funext fun a => Fin.ext ?_)
  have p := (places t).2.2.1
  match a with
  | ⟨0, _⟩ => show win0_2.index t (0 : Fin 3) * 1 + 1 * 0 = 0; rw [congrFun p 0]; rfl
  | ⟨1, _⟩ => show win0_2.index t (1 : Fin 3) * 2048 + 1 * k.val = k.val; rw [congrFun p 1]; show 0 * 2048 + 1 * k.val = _; omega
  | ⟨2, _⟩ => show win0_2.index t (2 : Fin 3) * 512 + 1 * q.val = 512 * t.val + q.val; rw [congrFun p 2]; show t.val * 512 + 1 * q.val = _; omega

theorem iblk_3_at (t : Fin cfg0.N) (k : Fin 2048) (q : Fin 512) :
    (iblk m c 3 t : S1x2048x512.Idx → EReal) (ix3 0 k q) = W m c (ix3 0 (lower k) (col t q)) := by
  show V m c main_arg2 (((cfg0.win 3).blk t).view.emb (ix3 0 k q)) = _
  rw [V_main_arg2]
  refine congrArg (W m c) (funext fun a => Fin.ext ?_)
  have p := (places t).2.2.2.1
  match a with
  | ⟨0, _⟩ => show win0_3.index t (0 : Fin 3) * 1 + 1 * 0 = 0; rw [congrFun p 0]; rfl
  | ⟨1, _⟩ => show win0_3.index t (1 : Fin 3) * 2048 + 1 * k.val = 2048 + k.val; rw [congrFun p 1]; show 1 * 2048 + 1 * k.val = _; omega
  | ⟨2, _⟩ => show win0_3.index t (2 : Fin 3) * 512 + 1 * q.val = 512 * t.val + q.val; rw [congrFun p 2]; show t.val * 512 + 1 * q.val = _; omega

theorem iblk_4_at (t : Fin cfg0.N) (b : Fin 128) (s : Fin 4) (q : Fin 512) :
    (iblk m c 4 t : S128x4x512.Idx → EReal) (ix3 b s q) = X m c (ix3 b s (col t q)) := by
  show V m c main_arg3 (((cfg0.win 4).blk t).view.emb (ix3 b s q)) = _
  rw [V_main_arg3]
  refine congrArg (X m c) (funext fun a => Fin.ext ?_)
  have p := (places t).2.2.2.2.1
  match a with
  | ⟨0, _⟩ => show win0_4.index t (0 : Fin 3) * 128 + 1 * b.val = b.val; rw [congrFun p 0]; show 0 * 128 + 1 * b.val = _; omega
  | ⟨1, _⟩ => show win0_4.index t (1 : Fin 3) * 4 + 1 * s.val = s.val; rw [congrFun p 1]; show 0 * 4 + 1 * s.val = _; omega
  | ⟨2, _⟩ => show win0_4.index t (2 : Fin 3) * 512 + 1 * q.val = 512 * t.val + q.val; rw [congrFun p 2]; show t.val * 512 + 1 * q.val = _; omega

/-! ## The result arrays -/

/-- The new residual stream, and the two halves of the weight. -/
def result0 : Buf (Elt Ideal) ((c : Thread nD τ).loc main_v2_0) := fun i : S512x2048.Idx =>
  sumOf (X m c (ix3 (seqOf (i 0)) (timeOf (i 0)) (i 1))) (fun k => A1 m c (ix2 (i 0) k)) (fun k => A2 m c (ix2 (i 0) k))
    (fun k => W m c (ix3 0 (upper k) (i 1))) (fun k => W m c (ix3 0 (lower k) (i 1)))
def result1 : Buf (Elt Ideal) ((c : Thread nD τ).loc main_v2_1) := fun i : S2048x2048.Idx => W m c (ix3 0 (upper (i 0)) (i 1))
def result2 : Buf (Elt Ideal) ((c : Thread nD τ).loc main_v2_2) := fun i : S2048x2048.Idx => W m c (ix3 0 (lower (i 0)) (i 1))

theorem eta2 {p q : ℕ} (j : (⟨2, ![p, q]⟩ : Shape).Idx) : ∃ (a : Fin p) (b : Fin q), j = ix2 a b :=
  ⟨j 0, j 1, funext fun a => match a with | ⟨0, _⟩ => rfl | ⟨1, _⟩ => rfl⟩

theorem flushed_5 (t : Fin cfg0.N) : (dats m 0 c).flushed 5 t = ((cfg0.win 5).blk t).view.read (Elt Ideal) (result0 m c) := by
  rw [Cert.OutProjIdeal.Value.flushed5]
  funext j
  obtain ⟨r, q, ej⟩ := eta2 (p := 512) (q := 512) j
  have e : ((cfg0.win 5).blk t).view.emb (ix2 r q) = (ix2 r (col t q) : S512x2048.Idx) := by
    have p := (places t).2.2.2.2.2.1
    funext a; apply Fin.ext
    match a with
    | ⟨0, _⟩ => show win0_5.index t (0 : Fin 2) * 512 + 1 * r.val = r.val; rw [congrFun p 0]; show 0 * 512 + 1 * r.val = _; omega
    | ⟨1, _⟩ => show win0_5.index t (1 : Fin 2) * 512 + 1 * q.val = 512 * t.val + q.val; rw [congrFun p 1]; show t.val * 512 + 1 * q.val = _; omega
  have key : out0_5 (iblk m c 0 t) (iblk m c 1 t) (iblk m c 2 t) (iblk m c 3 t) (iblk m c 4 t) (ix2 r q)
      = result0 m c (((cfg0.win 5).blk t).view.emb (ix2 r q)) := by
    rw [e, out5_at]
    simp only [iblk_0_at, iblk_1_at, iblk_2_at, iblk_3_at, iblk_4_at]
    rfl
  show out0_5 (iblk m c 0 t) (iblk m c 1 t) (iblk m c 2 t) (iblk m c 3 t) (iblk m c 4 t) j = result0 m c (((cfg0.win 5).blk t).view.emb j)
  rw [ej]
  exact key

theorem flushed_6 (t : Fin cfg0.N) : (dats m 0 c).flushed 6 t = ((cfg0.win 6).blk t).view.read (Elt Ideal) (result1 m c) := by
  rw [Cert.OutProjIdeal.Value.flushed6]
  funext j
  obtain ⟨k, q, ej⟩ := eta2 (p := 2048) (q := 512) j
  have e : ((cfg0.win 6).blk t).view.emb (ix2 k q) = (ix2 k (col t q) : S2048x2048.Idx) := by
    have p := (places t).2.2.2.2.2.2.1
    funext a; apply Fin.ext
    match a with
    | ⟨0, _⟩ => show win0_6.index t (0 : Fin 2) * 2048 + 1 * k.val = k.val; rw [congrFun p 0]; show 0 * 2048 + 1 * k.val = _; omega
    | ⟨1, _⟩ => show win0_6.index t (1 : Fin 2) * 512 + 1 * q.val = 512 * t.val + q.val; rw [congrFun p 1]; show t.val * 512 + 1 * q.val = _; omega
  have key : out0_6 (iblk m c 0 t) (iblk m c 1 t) (iblk m c 2 t) (iblk m c 3 t) (iblk m c 4 t) (ix2 k q)
      = result1 m c (((cfg0.win 6).blk t).view.emb (ix2 k q)) := by
    rw [e, out6_at]
    exact iblk_2_at m c t k q
  show out0_6 (iblk m c 0 t) (iblk m c 1 t) (iblk m c 2 t) (iblk m c 3 t) (iblk m c 4 t) j = result1 m c (((cfg0.win 6).blk t).view.emb j)
  rw [ej]
  exact key

theorem flushed_7 (t : Fin cfg0.N) : (dats m 0 c).flushed 7 t = ((cfg0.win 7).blk t).view.read (Elt Ideal) (result2 m c) := by
  rw [Cert.OutProjIdeal.Value.flushed7]
  funext j
  obtain ⟨k, q, ej⟩ := eta2 (p := 2048) (q := 512) j
  have e : ((cfg0.win 7).blk t).view.emb (ix2 k q) = (ix2 k (col t q) : S2048x2048.Idx) := by
    have p := (places t).2.2.2.2.2.2.2
    funext a; apply Fin.ext
    match a with
    | ⟨0, _⟩ => show win0_7.index t (0 : Fin 2) * 2048 + 1 * k.val = k.val; rw [congrFun p 0]; show 0 * 2048 + 1 * k.val = _; omega
    | ⟨1, _⟩ => show win0_7.index t (1 : Fin 2) * 512 + 1 * q.val = 512 * t.val + q.val; rw [congrFun p 1]; show t.val * 512 + 1 * q.val = _; omega
  have key : out0_7 (iblk m c 0 t) (iblk m c 1 t) (iblk m c 2 t) (iblk m c 3 t) (iblk m c 4 t) (ix2 k q)
      = result2 m c (((cfg0.win 7).blk t).view.emb (ix2 k q)) := by
    rw [e, out7_at]
    exact iblk_3_at m c t k q
  show out0_7 (iblk m c 0 t) (iblk m c 1 t) (iblk m c 2 t) (iblk m c 3 t) (iblk m c 4 t) j = result2 m c (((cfg0.win 7).blk t).view.emb j)
  rw [ej]
  exact key

/-- Every column lies in the block of one point. -/
theorem point_of {n : ℕ} (h : n < 2048) : n / 512 < cfg0.N := lt_of_lt_of_eq (by omega) N_0.symm

theorem final_5 : (dats m 0 c).arrAt 5 cfg0.N = result0 m c := by
  refine (dats m 0 c).arrAt_eq_of_cover 5 _ (fun t _ => flushed_5 m c t) fun i => ?_
  have h0 : (i 0).val < 512 := (i 0).isLt
  have h1 : (i 1).val < 2048 := (i 1).isLt
  refine ⟨⟨_, point_of h1⟩, flush0_5 _, ?_⟩
  show i ∈ ((View.whole main_v2_0).slice (win0_5.rect ⟨_, point_of h1⟩)).set
  rw [View.set_slice_whole, Rect.mem_set_unit]
  intro a
  have p := (places ⟨_, point_of h1⟩).2.2.2.2.2.1
  match a with
  | ⟨0, _⟩ =>
    show win0_5.index ⟨_, point_of h1⟩ (0 : Fin 2) * 512 ≤ (i 0).val ∧ (i 0).val < win0_5.index ⟨_, point_of h1⟩ (0 : Fin 2) * 512 + 512
    rw [congrFun p 0]
    show 0 * 512 ≤ (i 0).val ∧ (i 0).val < 0 * 512 + 512
    omega
  | ⟨1, _⟩ =>
    show win0_5.index ⟨_, point_of h1⟩ (1 : Fin 2) * 512 ≤ (i 1).val ∧ (i 1).val < win0_5.index ⟨_, point_of h1⟩ (1 : Fin 2) * 512 + 512
    rw [congrFun p 1]
    show (i 1).val / 512 * 512 ≤ (i 1).val ∧ (i 1).val < (i 1).val / 512 * 512 + 512
    omega

theorem final_6 : (dats m 0 c).arrAt 6 cfg0.N = result1 m c := by
  refine (dats m 0 c).arrAt_eq_of_cover 6 _ (fun t _ => flushed_6 m c t) fun i => ?_
  have h0 : (i 0).val < 2048 := (i 0).isLt
  have h1 : (i 1).val < 2048 := (i 1).isLt
  refine ⟨⟨_, point_of h1⟩, flush0_6 _, ?_⟩
  show i ∈ ((View.whole main_v2_1).slice (win0_6.rect ⟨_, point_of h1⟩)).set
  rw [View.set_slice_whole, Rect.mem_set_unit]
  intro a
  have p := (places ⟨_, point_of h1⟩).2.2.2.2.2.2.1
  match a with
  | ⟨0, _⟩ =>
    show win0_6.index ⟨_, point_of h1⟩ (0 : Fin 2) * 2048 ≤ (i 0).val ∧ (i 0).val < win0_6.index ⟨_, point_of h1⟩ (0 : Fin 2) * 2048 + 2048
    rw [congrFun p 0]
    show 0 * 2048 ≤ (i 0).val ∧ (i 0).val < 0 * 2048 + 2048
    omega
  | ⟨1, _⟩ =>
    show win0_6.index ⟨_, point_of h1⟩ (1 : Fin 2) * 512 ≤ (i 1).val ∧ (i 1).val < win0_6.index ⟨_, point_of h1⟩ (1 : Fin 2) * 512 + 512
    rw [congrFun p 1]
    show (i 1).val / 512 * 512 ≤ (i 1).val ∧ (i 1).val < (i 1).val / 512 * 512 + 512
    omega

theorem final_7 : (dats m 0 c).arrAt 7 cfg0.N = result2 m c := by
  refine (dats m 0 c).arrAt_eq_of_cover 7 _ (fun t _ => flushed_7 m c t) fun i => ?_
  have h0 : (i 0).val < 2048 := (i 0).isLt
  have h1 : (i 1).val < 2048 := (i 1).isLt
  refine ⟨⟨_, point_of h1⟩, flush0_7 _, ?_⟩
  show i ∈ ((View.whole main_v2_2).slice (win0_7.rect ⟨_, point_of h1⟩)).set
  rw [View.set_slice_whole, Rect.mem_set_unit]
  intro a
  have p := (places ⟨_, point_of h1⟩).2.2.2.2.2.2.2
  match a with
  | ⟨0, _⟩ =>
    show win0_7.index ⟨_, point_of h1⟩ (0 : Fin 2) * 2048 ≤ (i 0).val ∧ (i 0).val < win0_7.index ⟨_, point_of h1⟩ (0 : Fin 2) * 2048 + 2048
    rw [congrFun p 0]
    show 0 * 2048 ≤ (i 0).val ∧ (i 0).val < 0 * 2048 + 2048
    omega
  | ⟨1, _⟩ =>
    show win0_7.index ⟨_, point_of h1⟩ (1 : Fin 2) * 512 ≤ (i 1).val ∧ (i 1).val < win0_7.index ⟨_, point_of h1⟩ (1 : Fin 2) * 512 + 512
    rw [congrFun p 1]
    show (i 1).val / 512 * 512 ≤ (i 1).val ∧ (i 1).val < (i 1).val / 512 * 512 + 512
    omega

end

/-- The kernel's three results are the reference's. -/
theorem algebraic : Cert.algebraic_OutProjIdeal_OutProjRefIdeal := by
  intro m ρ m' ρ' _ hagree
  refine ⟨fun c => result0 m c, fun c => result1 m c, fun c => result2 m c,
    (θ_run _ _ _).mono (fun _ h c => ⟨(h c).1.trans (final_5 m c), (h c).2.1.trans (final_6 m c), (h c).2.2.1.trans (final_7 m c), (h c).2.2.2⟩)
      (Cert.OutProjIdeal.Value.run_blocks (F := Ideal) m ρ),
    (θ_run _ _ _).mono (fun _ h c => ⟨(h c).1.trans ?_, (h c).2.1.trans ?_, (h c).2.2.1.trans ?_, (h c).2.2.2⟩)
      (Cert.OutProjRefIdeal.Value.run (F := Ideal) m' ρ')⟩
  all_goals
    have ha := hagree c
    obtain ⟨a0, a1, a2, a3⟩ := ha
  · rw [Cert.OutProjRefIdeal.Read.val_main_v5_eq, a0, a1, a2, a3]
    funext j
    obtain ⟨r, q, rfl⟩ := eta2 (p := 512) (q := 2048) j
    exact ref0_at _ _ _ _ r q
  · rw [Cert.OutProjRefIdeal.Read.val_main_v8_eq, a2]
    funext j
    obtain ⟨k, q, rfl⟩ := eta2 (p := 2048) (q := 2048) j
    exact ref1_at _ k q
  · rw [Cert.OutProjRefIdeal.Read.val_main_v11_eq, a2]
    funext j
    obtain ⟨k, q, rfl⟩ := eta2 (p := 2048) (q := 2048) j
    exact ref2_at _ k q

/-- The reference runs, leaves its arguments, and has no semaphore. -/
theorem frame_ref : Cert.quiescent_OutProjRefIdeal := fun m ρ _ =>
  (θ_run Cert.OutProjRefIdeal.defs _ _).mono (fun r h => ⟨fun c => (h c).2.2.2, sem_eq_zero_of_no_sems (by decide) r.2⟩)
    (Cert.OutProjRefIdeal.Value.run (F := Ideal) m ρ)

end Cert.Proof.OutProj

end
-- ==== Proof.UpSlab.lean ====
/-
  The first product of the MLP over the sample. The kernel walks 8 column blocks; the first normalises the rows into a
  scratch, and every point multiplies the scratch by its columns of the weight, writes the squared positive part, and writes
  its weight block out as bf16.
-/
module

public import proofs.«01_k».proof.Defs
public import proofs.«01_k».proof.Proof.Gen.UpSlabIdeal.Value
public import proofs.«01_k».proof.Proof.Gen.UpSlabRefIdeal.Run
public import proofs.«01_k».proof.Proof.Gen.UpSlabRefIdeal.Read
public import proofs.«01_k».proof.Proof.Rms
public import Idealize.ShloMosaic.Lib.Pipeline.Value
public import Idealize.ShloMosaic.Lib.Pointwise
public import Idealize.ShloMosaic.Lib.Quiescent

@[expose] public section

set_option maxRecDepth 16384

noncomputable section

namespace Cert.Proof.UpSlab

open Idealize.ShloMosaic Idealize.ShloMosaic.TcCoe Idealize.SL.Sem
open Cert.UpSlabIdeal Cert.UpSlabIdeal.Gen
open Idealize.ShloMosaic.Pipeline (Dat)

/-! ## The numbers -/

/-- What the first point stores into the scratch. -/
theorem pay1_at (X : Vec Ideal S512x2048 .f32) (g : Vec Ideal S1x2048 .f32) (r : Fin 512) (k : Fin 2048) :
    k0_pay1 (F := Ideal) X g (ix2 r k) = X (ix2 r k) * invRms (fun k => X (ix2 r k)) * g (ix2 0 k) := by
  unfold k0_pay1 invRms
  pointwise

/-- The weight block as it is written out. -/
theorem pay2_at (w : Vec Ideal S1x2048x1024 .f32) (k : Fin 2048) (q : Fin 1024) : k0_pay2 (F := Ideal) w (ix2 k q) = w (ix3 0 k q) := by
  unfold k0_pay2
  pointwise

/-- What every point stores into its block of the hidden layer. -/
theorem pay3_at (X : Vec Ideal S512x2048 .bf16) (w : Vec Ideal S1x2048x1024 .f32) (r : Fin 512) (q : Fin 1024) :
    k0_pay3 (F := Ideal) X w (ix2 r q)
      = max (∑ k, X (ix2 r k) * w (ix3 0 k q)) 0 * max (∑ k, X (ix2 r k) * w (ix3 0 k q)) 0 := by
  unfold k0_pay3 k0_pay2
  pointwise

section
open Cert.UpSlabRefIdeal.Read

/-- The reference's results, element by element. -/
theorem ref0_at (x0 : (⟨S512x2048, .f32⟩ : BufTy).Contents (Elt Ideal)) (x1 : (⟨S1x2048, .f32⟩ : BufTy).Contents (Elt Ideal))
    (x2 : (⟨S1x2048x8192, .f32⟩ : BufTy).Contents (Elt Ideal)) (r : Fin 512) (q : Fin 8192) :
    val_main_v18 (F := Ideal) x0 x1 x2 (ix2 r q)
      = hidden (fun k => x0 (ix2 r k)) (fun k => x1 (ix2 0 k)) (fun k => x2 (ix3 0 k q)) := by
  unfold hidden invRms val_main_v18 val_main_v17 val_main_v16 val_main_v15 val_main_v14 val_main_v13 val_main_v12
    val_main_v11 val_main_v10 val_main_v9 val_main_v8 val_main_v7 val_main_v6 val_main_v5 val_main_v4 val_main_v3
    val_main_v2 val_main_v1 val_main_v0 val_main_cst val_main_cst_0 val_main_cst_1 val_main_call0_v0 val_main_call0_cst
  pointwise

theorem ref1_at (x2 : (⟨S1x2048x8192, .f32⟩ : BufTy).Contents (Elt Ideal)) (k : Fin 2048) (q : Fin 8192) :
    val_main_v20 (F := Ideal) x2 (ix2 k q) = x2 (ix3 0 k q) := by
  unfold val_main_v20 val_main_v19
  pointwise
end

theorem hz2 : (![0, 0] : Fin 2 → Nat) = fun _ => 0 := funext fun a => match a with | 0 => rfl | 1 => rfl
theorem hz3 : (![0, 0, 0] : Fin 3 → Nat) = fun _ => 0 := funext fun a => match a with | 0 => rfl | 1 => rfl | 2 => rfl

/-! ## What a point leaves -/

section
variable (c : Dev nD) (i : grid0.Coords) (arg2 : Memref sig .tc .vmem S512x2048 .f32) (harg2 : arg2.IsWhole)
    (arg3 : Memref sig .tc .vmem S1x2048 .f32) (harg3 : arg3.IsWhole) (arg4 : Memref sig .tc .vmem S1x2048x1024 .f32) (harg4 : arg4.IsWhole)
    (arg5 : Memref sig .tc .vmem S512x1024 .bf16) (harg5 : arg5.IsWhole) (arg6 : Memref sig .tc .vmem S2048x1024 .bf16) (harg6 : arg6.IsWhole)
    (arg7 : Memref sig .tc .vmem S512x2048 .bf16) (harg7 : arg7.IsWhole)
    (x0 : Vec Ideal S512x2048 .f32) (x1 : Vec Ideal S1x2048 .f32) (x2 : Vec Ideal S1x2048x1024 .f32) (xs0 : Vec Ideal S512x2048 .bf16)

theorem scratch_A (hc0 : cond0_0 i) : sout0_A_0 c i arg2 harg2 arg3 harg3 arg4 harg4 arg5 harg5 arg6 harg6 arg7 harg7 hc0 x0 x1 x2 = k0_pay1 x0 x1 := by
  unfold sout0_A_0
  rw [View.read_writes_eq_canon _ _ _ (scover0_A_0 c i arg2 harg2 arg3 harg3 arg4 harg4 arg5 harg5 arg6 harg6 arg7 harg7 hc0 x0 x1 x2)]
  unfold kernelRun0_A
  dsimp only
  try sl_unfold_words
  rw [View.canon_unit_zero hz2]
  simp only [View.readAt_eq_ld, harg2.read_unread, harg3.read_unread, View.ld_unit_zero (S := S512x2048) hz2,
    View.ld_unit_zero (S := S1x2048) hz2]

theorem out_A_3_eq (hc0 : cond0_0 i) : out0_A_3 c i arg2 harg2 arg3 harg3 arg4 harg4 arg5 harg5 arg6 harg6 arg7 harg7 hc0 x0 x1 x2 = k0_pay3 (k0_pay1 x0 x1) x2 := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  try sl_unfold_words
  rw [View.canon_unit_zero hz2, View.readCov_unit_zero (S := S512x2048) _ hz2]
  simp only [View.readAt_eq_ld, harg2.read_unread, harg3.read_unread, harg4.read_unread, View.ld_unit_zero (S := S512x2048) hz2,
    View.ld_unit_zero (S := S1x2048) hz2, View.ld_unit_zero (S := S1x2048x1024) hz3]

theorem out_A_4_eq (hc0 : cond0_0 i) : out0_A_4 c i arg2 harg2 arg3 harg3 arg4 harg4 arg5 harg5 arg6 harg6 arg7 harg7 hc0 x0 x1 x2 = k0_pay2 x2 := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  try sl_unfold_words
  rw [View.canon_unit_zero hz2]
  simp only [View.readAt_eq_ld, harg4.read_unread, View.ld_unit_zero (S := S1x2048x1024) hz3]

theorem scratch_B (hc0 : ¬cond0_0 i) : sout0_B_0 c i arg2 harg2 arg3 harg3 arg4 harg4 arg5 harg5 arg6 harg6 arg7 harg7 hc0 x0 x1 x2 xs0 = xs0 := by
  unfold sout0_B_0
  rfl

theorem out_B_3_eq (hc0 : ¬cond0_0 i) : out0_B_3 c i arg2 harg2 arg3 harg3 arg4 harg4 arg5 harg5 arg6 harg6 arg7 harg7 hc0 x0 x1 x2 xs0 = k0_pay3 xs0 x2 := by
  unfold out0_B_3
  rw [View.read_writes_eq_canon _ _ _ (cover0_B_3 c i arg2 harg2 arg3 harg3 arg4 harg4 arg5 harg5 arg6 harg6 arg7 harg7 hc0 x0 x1 x2 xs0)]
  unfold kernelRun0_B
  dsimp only
  try sl_unfold_words
  rw [View.canon_unit_zero hz2]
  simp only [View.readAt_eq_ld, harg4.read_unread, harg7.read_unread, View.ld_unit_zero (S := S512x2048) hz2,
    View.ld_unit_zero (S := S1x2048x1024) hz3]

theorem out_B_4_eq (hc0 : ¬cond0_0 i) : out0_B_4 c i arg2 harg2 arg3 harg3 arg4 harg4 arg5 harg5 arg6 harg6 arg7 harg7 hc0 x0 x1 x2 xs0 = k0_pay2 x2 := by
  unfold out0_B_4
  rw [View.read_writes_eq_canon _ _ _ (cover0_B_4 c i arg2 harg2 arg3 harg3 arg4 harg4 arg5 harg5 arg6 harg6 arg7 harg7 hc0 x0 x1 x2 xs0)]
  unfold kernelRun0_B
  dsimp only
  try sl_unfold_words
  rw [View.canon_unit_zero hz2]
  simp only [View.readAt_eq_ld, harg4.read_unread, View.ld_unit_zero (S := S1x2048x1024) hz3]
end

/-! ## The blocks a point reads -/

section
variable (m : (ℓ : Loc nD τ sig) → Buf (Elt Ideal) ℓ) (c : Dev nD)

/-- The three arguments: the rows, the norm's weight and the weight. -/
abbrev X : S512x2048.Idx → EReal := m ((c : Thread nD τ).loc main_arg0)
abbrev G : S1x2048.Idx → EReal := m ((c : Thread nD τ).loc main_arg1)
abbrev W : S1x2048x8192.Idx → EReal := m ((c : Thread nD τ).loc main_arg2)

theorem places : ∀ t : Fin cfg0.N, win0_0.index t = ![0, 0] ∧ win0_1.index t = ![0, 0] ∧ win0_2.index t = ![0, 0, t.val]
    ∧ win0_3.index t = ![0, t.val] ∧ win0_4.index t = ![0, t.val] := (by decide +kernel : ∀ t : Fin grid0.N, _)

/-- Column `q` of the block of point `t`. -/
abbrev col (t : Fin cfg0.N) (q : Fin 1024) : Fin 8192 :=
  ⟨1024 * t.val + q.val, by have : t.val < 8 := lt_of_lt_of_eq t.isLt N_0; have := q.isLt; omega⟩

theorem V_main_v1_at (k : Fin 2048) : (V m c main_v1 : S1x2048.Idx → EReal) (ix2 0 k) = G m c (ix2 0 k) := by
  have e : (V m c main_v1 : S1x2048.Idx → EReal)
      = shapeCast S1x2048 (shapeCast S2048 (G m c) shapeCasts_S1x2048_S2048 : FVec Ideal S2048 .f32) shapeCasts_S2048_S1x2048 := by
    unfold V hostOps0
    after_results
    rfl
  rw [e]
  pointwise

theorem iblk_0_at (t : Fin cfg0.N) (r : Fin 512) (k : Fin 2048) : (iblk m c 0 t : S512x2048.Idx → EReal) (ix2 r k) = X m c (ix2 r k) := by
  show V m c main_arg0 (((cfg0.win 0).blk t).view.emb (ix2 r k)) = _
  rw [V_main_arg0]
  refine congrArg (X m c) (funext fun a => Fin.ext ?_)
  have p := (places t).1
  match a with
  | ⟨0, _⟩ => show win0_0.index t (0 : Fin 2) * 512 + 1 * r.val = r.val; rw [congrFun p 0]; show 0 * 512 + 1 * r.val = _; omega
  | ⟨1, _⟩ => show win0_0.index t (1 : Fin 2) * 2048 + 1 * k.val = k.val; rw [congrFun p 1]; show 0 * 2048 + 1 * k.val = _; omega

theorem iblk_1_at (t : Fin cfg0.N) (k : Fin 2048) : (iblk m c 1 t : S1x2048.Idx → EReal) (ix2 0 k) = G m c (ix2 0 k) := by
  rw [← V_main_v1_at m c]
  show V m c main_v1 (((cfg0.win 1).blk t).view.emb (ix2 0 k)) = _
  refine congrArg (V m c main_v1) (funext fun a => Fin.ext ?_)
  have p := (places t).2.1
  match a with
  | ⟨0, _⟩ => show win0_1.index t (0 : Fin 2) * 1 + 1 * 0 = 0; rw [congrFun p 0]; rfl
  | ⟨1, _⟩ => show win0_1.index t (1 : Fin 2) * 2048 + 1 * k.val = k.val; rw [congrFun p 1]; show 0 * 2048 + 1 * k.val = _; omega

theorem iblk_2_at (t : Fin cfg0.N) (k : Fin 2048) (q : Fin 1024) :
    (iblk m c 2 t : S1x2048x1024.Idx → EReal) (ix3 0 k q) = W m c (ix3 0 k (col t q)) := by
  show V m c main_arg2 (((cfg0.win 2).blk t).view.emb (ix3 0 k q)) = _
  rw [V_main_arg2]
  refine congrArg (W m c) (funext fun a => Fin.ext ?_)
  have p := (places t).2.2.1
  match a with
  | ⟨0, _⟩ => show win0_2.index t (0 : Fin 3) * 1 + 1 * 0 = 0; rw [congrFun p 0]; rfl
  | ⟨1, _⟩ => show win0_2.index t (1 : Fin 3) * 2048 + 1 * k.val = k.val; rw [congrFun p 1]; show 0 * 2048 + 1 * k.val = _; omega
  | ⟨2, _⟩ => show win0_2.index t (2 : Fin 3) * 1024 + 1 * q.val = 1024 * t.val + q.val; rw [congrFun p 2]; show t.val * 1024 + 1 * q.val = _; omega

/-! ## The scratch and the blocks through the grid -/

/-- An element of the normalised rows. -/
def normed (r : Fin 512) (k : Fin 2048) : EReal := X m c (ix2 r k) * invRms (fun k => X m c (ix2 r k)) * G m c (ix2 0 k)

theorem rows_at (t : Fin cfg0.N) (r : Fin 512) (k : Fin 2048) :
    k0_pay1 (F := Ideal) (iblk m c 0 t) (iblk m c 1 t) (ix2 r k) = normed m c r k := by
  have e : ∀ k, (iblk m c 0 t : S512x2048.Idx → EReal) (ix2 r k) = X m c (ix2 r k) := iblk_0_at m c t r
  rw [pay1_at, iblk_1_at]
  simp only [e]
  rfl

/-- After every point the scratch holds the normalised rows: stored at the first, kept at the later ones. -/
theorem scratch_at (r : Fin 512) (k : Fin 2048) : ∀ (n : ℕ) (h : n < cfg0.N), ((outsAt0 m c n h).2.2 : S512x2048.Idx → EReal) (ix2 r k) = normed m c r k
  | 0, h => by
    rw [outsAt0_A m c ⟨0, h⟩ rfl]
    dsimp only
    rw [scratch_A]
    exact rows_at m c ⟨0, h⟩ r k
  | n + 1, h => by
    have hN : n + 1 < 8 := lt_of_lt_of_eq h N_0
    rw [outsAt0_B m c ⟨n + 1, h⟩ (by show ¬(n + 1) % 8 = 0; omega)]
    dsimp only
    rw [scratch_B]
    exact scratch_at r k n (Nat.lt_of_succ_lt h)

/-- A block of the hidden layer from rows that are the normalised ones. -/
theorem block_at (t : Fin cfg0.N) (s : Vec Ideal S512x2048 .bf16) (r : Fin 512) (q : Fin 1024) (hs : ∀ k, s (ix2 r k) = normed m c r k) :
    k0_pay3 (F := Ideal) s (iblk m c 2 t) (ix2 r q)
      = hidden (fun k => X m c (ix2 r k)) (fun k => G m c (ix2 0 k)) (fun k => W m c (ix3 0 k (col t q))) := by
  have e : ∀ k, (iblk m c 2 t : S1x2048x1024.Idx → EReal) (ix3 0 k q) = W m c (ix3 0 k (col t q)) := fun k => iblk_2_at m c t k q
  rw [pay3_at]
  simp only [e, hs]
  rfl

theorem out3_at (t : Fin cfg0.N) (r : Fin 512) (q : Fin 1024) : ((outsAt0 m c t.val t.isLt).1 : S512x1024.Idx → EReal) (ix2 r q)
      = hidden (fun k => X m c (ix2 r k)) (fun k => G m c (ix2 0 k)) (fun k => W m c (ix3 0 k (col t q))) := by
  by_cases h0 : t.val % 8 = 0
  · rw [outsAt0_A m c t h0]
    dsimp only
    rw [out_A_3_eq]
    exact block_at m c t _ r q (rows_at m c t r)
  · rw [outsAt0_B m c t h0]
    dsimp only
    rw [out_B_3_eq]
    exact block_at m c t _ r q fun k => scratch_at m c r k _ _

theorem out4_at (t : Fin cfg0.N) (k : Fin 2048) (q : Fin 1024) :
    ((outsAt0 m c t.val t.isLt).2.1 : S2048x1024.Idx → EReal) (ix2 k q) = W m c (ix3 0 k (col t q)) := by
  refine Eq.trans ?_ ((pay2_at (iblk m c 2 t) k q).trans (iblk_2_at m c t k q))
  by_cases h0 : t.val % 8 = 0
  · rw [outsAt0_A m c t h0]
    dsimp only
    rw [out_A_4_eq]
  · rw [outsAt0_B m c t h0]
    dsimp only
    rw [out_B_4_eq]

/-! ## The result arrays -/

theorem eta2 {p q : ℕ} (j : (⟨2, ![p, q]⟩ : Shape).Idx) : ∃ (a : Fin p) (b : Fin q), j = ix2 a b :=
  ⟨j 0, j 1, funext fun a => match a with | ⟨0, _⟩ => rfl | ⟨1, _⟩ => rfl⟩

/-- The hidden layer, and the weight. -/
def result0 : Buf (Elt Ideal) ((c : Thread nD τ).loc main_v2_0) := fun i : S512x8192.Idx =>
  hidden (fun k => X m c (ix2 (i 0) k)) (fun k => G m c (ix2 0 k)) (fun k => W m c (ix3 0 k (i 1)))
def result1 : Buf (Elt Ideal) ((c : Thread nD τ).loc main_v2_1) := fun i : S2048x8192.Idx => W m c (ix3 0 (i 0) (i 1))

theorem flushed_3 (t : Fin cfg0.N) : (dats m 0 c).flushed 3 t = ((cfg0.win 3).blk t).view.read (Elt Ideal) (result0 m c) := by
  rw [Value.flushed3]
  funext j
  obtain ⟨r, q, ej⟩ := eta2 (p := 512) (q := 1024) j
  have e : ((cfg0.win 3).blk t).view.emb (ix2 r q) = (ix2 r (col t q) : S512x8192.Idx) := by
    have p := (places t).2.2.2.1
    funext a; apply Fin.ext
    match a with
    | ⟨0, _⟩ => show win0_3.index t (0 : Fin 2) * 512 + 1 * r.val = r.val; rw [congrFun p 0]; show 0 * 512 + 1 * r.val = _; omega
    | ⟨1, _⟩ => show win0_3.index t (1 : Fin 2) * 1024 + 1 * q.val = 1024 * t.val + q.val; rw [congrFun p 1]; show t.val * 1024 + 1 * q.val = _; omega
  have key : ((outsAt0 m c t.val t.isLt).1 : S512x1024.Idx → EReal) (ix2 r q) = result0 m c (((cfg0.win 3).blk t).view.emb (ix2 r q)) := by
    rw [e]
    exact out3_at m c t r q
  show ((outsAt0 m c t.val t.isLt).1 : S512x1024.Idx → EReal) j = result0 m c (((cfg0.win 3).blk t).view.emb j)
  rw [ej]
  exact key

theorem flushed_4 (t : Fin cfg0.N) : (dats m 0 c).flushed 4 t = ((cfg0.win 4).blk t).view.read (Elt Ideal) (result1 m c) := by
  rw [Value.flushed4]
  funext j
  obtain ⟨k, q, ej⟩ := eta2 (p := 2048) (q := 1024) j
  have e : ((cfg0.win 4).blk t).view.emb (ix2 k q) = (ix2 k (col t q) : S2048x8192.Idx) := by
    have p := (places t).2.2.2.2
    funext a; apply Fin.ext
    match a with
    | ⟨0, _⟩ => show win0_4.index t (0 : Fin 2) * 2048 + 1 * k.val = k.val; rw [congrFun p 0]; show 0 * 2048 + 1 * k.val = _; omega
    | ⟨1, _⟩ => show win0_4.index t (1 : Fin 2) * 1024 + 1 * q.val = 1024 * t.val + q.val; rw [congrFun p 1]; show t.val * 1024 + 1 * q.val = _; omega
  have key : ((outsAt0 m c t.val t.isLt).2.1 : S2048x1024.Idx → EReal) (ix2 k q) = result1 m c (((cfg0.win 4).blk t).view.emb (ix2 k q)) := by
    rw [e]
    exact out4_at m c t k q
  show ((outsAt0 m c t.val t.isLt).2.1 : S2048x1024.Idx → EReal) j = result1 m c (((cfg0.win 4).blk t).view.emb j)
  rw [ej]
  exact key

theorem final_3 : (dats m 0 c).arrAt 3 cfg0.N = result0 m c :=
  (dats m 0 c).arrAt_eq_of_cover 3 _ (fun t _ => flushed_3 m c t)
    (fun i => (Value.covered_iff3 i).2 (by
      have h0 : (i 0).val < 512 := (i 0).isLt; have h1 : (i 1).val < 8192 := (i 1).isLt; omega))

theorem final_4 : (dats m 0 c).arrAt 4 cfg0.N = result1 m c :=
  (dats m 0 c).arrAt_eq_of_cover 4 _ (fun t _ => flushed_4 m c t)
    (fun i => (Value.covered_iff4 i).2 (by
      have h0 : (i 0).val < 2048 := (i 0).isLt; have h1 : (i 1).val < 8192 := (i 1).isLt; omega))

end

/-- The kernel's two results are the reference's. -/
theorem algebraic : Cert.algebraic_UpSlabIdeal_UpSlabRefIdeal := by
  intro m ρ m' ρ' _ hagree
  refine ⟨fun c => result0 m c, fun c => result1 m c,
    (θ_run _ _ _).mono (fun _ h c => ⟨(h c).1.trans (final_3 m c), (h c).2.1.trans (final_4 m c), (h c).2.2⟩) (Value.run_blocks m ρ),
    (θ_run _ _ _).mono (fun _ h c => ⟨(h c).1.trans ?_, (h c).2.1.trans ?_, (h c).2.2⟩)
      (Cert.UpSlabRefIdeal.Value.run (F := Ideal) m' ρ')⟩
  all_goals
    have ha := hagree c
    obtain ⟨a0, a1, a2⟩ := ha
  · rw [Cert.UpSlabRefIdeal.Read.val_main_v18_eq, a0, a1, a2]
    funext j
    obtain ⟨r, q, rfl⟩ := eta2 (p := 512) (q := 8192) j
    exact ref0_at _ _ _ r q
  · rw [Cert.UpSlabRefIdeal.Read.val_main_v20_eq, a2]
    funext j
    obtain ⟨k, q, rfl⟩ := eta2 (p := 2048) (q := 8192) j
    exact ref1_at _ k q

/-- The reference runs, leaves its arguments, and has no semaphore. -/
theorem frame_ref : Cert.quiescent_UpSlabRefIdeal := fun m ρ _ =>
  (θ_run Cert.UpSlabRefIdeal.defs _ _).mono (fun r h => ⟨fun c => (h c).2.2, sem_eq_zero_of_no_sems (by decide) r.2⟩)
    (Cert.UpSlabRefIdeal.Value.run (F := Ideal) m ρ)

end Cert.Proof.UpSlab

end
-- ==== Proof.SsdPost.lean ====
/-
  The end of the SSD group of one decoding step: the diagonal and the state's part are added, gated, normed over each of
  four groups of 512 columns and weighted.  The kernel's stores are written once, for a step and a group; read element by
  element they are the reference's numbers.
-/
module

public import proofs.«01_k».proof.Defs
public import proofs.«01_k».proof.Proof.Gen.SsdPostIdeal.Value
public import proofs.«01_k».proof.Proof.Gen.SsdPostRefIdeal.Read
public import Idealize.ShloMosaic.Lib.Pipeline.Value
public import Idealize.ShloMosaic.Lib.Pipeline.ValueKit.Geometry
public import Idealize.ShloMosaic.Lib.WholeRead
public import Idealize.ShloMosaic.Lib.Pointwise
public import Idealize.ShloMosaic.Lib.Quiescent

@[expose] public section

set_option maxRecDepth 16384

noncomputable section

namespace Cert.SsdPostIdeal.Gen

open Idealize.ShloMosaic Idealize.ShloMosaic.TcCoe
open Idealize.SL.Sem

variable {F : FTy → Type} [FloatOps F]

namespace Post

/-- A buffer held at the contents that read `val`. -/
structure Held (F : FTy → Type) (s : Shape) (e : EltTy) where
  ref : Memref sig .tc .vmem s e
  whole : ref.IsWhole
  val : Vec F s e

/-- What the kernel is given: the diagonal part, the state's part before and its factor, the gate and the norm's weight. -/
structure Given (F : FTy → Type) where
  y : Held F S4x128x2048 .f32
  e : Held F S4x128x2048 .f32
  off : Held F S128x8x2048 .f32
  z : Held F S4x128x2048 .f32
  g : Held F S1x2048 .f32

/-- What a load of a rectangle of a held buffer reads. -/
def Held.load {s : Shape} {e : EltTy} (m : Held F s e) (r : Rect s) : Vec F r.shape e :=
  View.readAt (Elt F) m.ref.view r.toLoadRect (m.whole.unread m.val)

theorem inb_plane (s k : Fin 4) : ∀ a, (![s.val, 0, 512 * k.val] : Fin 3 → ℕ) a + S1x128x512.size a ≤ S4x128x2048.size a := by
  have := s.isLt
  have := k.isLt
  intro a
  match a with
  | ⟨0, _⟩ => show s.val + 1 ≤ 4; omega
  | ⟨1, _⟩ => show 0 + 128 ≤ 128; omega
  | ⟨2, _⟩ => show 512 * k.val + 512 ≤ 2048; omega

theorem inb_off (s k : Fin 4) : ∀ a, (![0, s.val, 512 * k.val] : Fin 3 → ℕ) a + S128x1x512.size a ≤ S128x8x2048.size a := by
  have := s.isLt
  have := k.isLt
  intro a
  match a with
  | ⟨0, _⟩ => show 0 + 128 ≤ 128; omega
  | ⟨1, _⟩ => show s.val + 1 ≤ 8; omega
  | ⟨2, _⟩ => show 512 * k.val + 512 ≤ 2048; omega

theorem inb_row (k : Fin 4) : ∀ a, (![0, 512 * k.val] : Fin 2 → ℕ) a + S1x512.size a ≤ S1x2048.size a := by
  have := k.isLt
  intro a
  match a with
  | ⟨0, _⟩ => show 0 + 1 ≤ 1; omega
  | ⟨1, _⟩ => show 512 * k.val + 512 ≤ 2048; omega

variable (w : Given F)

/-- Group `k` of step `s` of an array of steps. -/
def plane (m : Held F S4x128x2048 .f32) (s k : Fin 4) : Vec F S1x128x512 .f32 :=
  m.load (Rect.unit ![s.val, 0, 512 * k.val] S1x128x512.size (inb_plane s k))

/-- The same of the state's part. -/
def offs (m : Held F S128x8x2048 .f32) (s k : Fin 4) : Vec F S128x1x512 .f32 :=
  m.load (Rect.unit ![0, s.val, 512 * k.val] S128x1x512.size (inb_off s k))

/-- The group's weights. -/
def weight (m : Held F S1x2048 .f32) (k : Fin 4) : Vec F S1x512 .f32 := m.load (Rect.unit ![0, 512 * k.val] S1x512.size (inb_row k))

/-- What is stored for group `k` of step `s`. -/
def normed (s k : Fin 4) : FVec F S1x128x512 .bf16 :=
  k0_pay2 (plane w.y s k) (plane w.e s k) (offs w.off s k) (plane w.z s k) (weight w.g k)

def four : List (Fin 4) := [3, 2, 1, 0]

/-- The stores, last first. -/
def stores : List (View.Piece (Elt F) S4x128x2048 .bf16) := four.flatMap fun s => four.map fun k =>
  ⟨Rect.unit ![s.val, 0, 512 * k.val] S1x128x512.size (inb_plane s k), normed w s k⟩

end Post

open Post in
theorem stores_eq (c : Dev nD) (i : grid0.Coords) (arg1 : Memref sig .tc .vmem S4x128x2048 .f32) (harg1 : arg1.IsWhole) (arg2 : Memref sig .tc .vmem S4x128x2048 .f32) (harg2 : arg2.IsWhole) (arg3 : Memref sig .tc .vmem S128x8x2048 .f32) (harg3 : arg3.IsWhole) (arg4 : Memref sig .tc .vmem S4x128x2048 .f32) (harg4 : arg4.IsWhole) (arg5 : Memref sig .tc .vmem S1x2048 .f32) (harg5 : arg5.IsWhole) (arg6 : Memref sig .tc .vmem S4x128x2048 .bf16) (harg6 : arg6.IsWhole)
    (x0 : Vec F S4x128x2048 .f32) (x1 : Vec F S4x128x2048 .f32) (x2 : Vec F S128x8x2048 .f32) (x3 : Vec F S4x128x2048 .f32) (x4 : Vec F S1x2048 .f32) :
    (kernelRun0_A c i arg1 harg1 arg2 harg2 arg3 harg3 arg4 harg4 arg5 harg5 arg6 harg6 x0 x1 x2 x3 x4).1
      = stores ⟨⟨arg1, harg1, x0⟩, ⟨arg2, harg2, x1⟩, ⟨arg3, harg3, x2⟩, ⟨arg4, harg4, x3⟩, ⟨arg5, harg5, x4⟩⟩ := by
  sl_kernel_rfl

end Cert.SsdPostIdeal.Gen

namespace Cert.Proof.SsdPost

open Idealize.ShloMosaic Idealize.ShloMosaic.TcCoe Idealize.SL.Sem
open Cert.SsdPostIdeal Cert.SsdPostIdeal.Gen Cert.SsdPostIdeal.Gen.Post

/-! ## Columns -/

/-- The group a column lies in, its lane there, and the column of a group's lane. -/
def groupOf (n : Fin 2048) : Fin 4 := ⟨n.val / 512, by have := n.isLt; omega⟩
def laneOf (n : Fin 2048) : Fin 512 := ⟨n.val % 512, Nat.mod_lt _ (by norm_num)⟩
def col (k : Fin 4) (j : Fin 512) : Fin 2048 := ⟨512 * k.val + j.val, by have := k.isLt; have := j.isLt; omega⟩

theorem groupOf_col (k : Fin 4) (j : Fin 512) : groupOf (col k j) = k := by
  apply Fin.ext; show (512 * k.val + j.val) / 512 = k.val; have := j.isLt; omega

theorem eta3 {p q r : ℕ} (x : (⟨3, ![p, q, r]⟩ : Shape).Idx) : ∃ (a : Fin p) (b : Fin q) (c : Fin r), x = ix3 a b c :=
  ⟨x 0, x 1, x 2, by funext a; match a with | ⟨0, _⟩ => rfl | ⟨1, _⟩ => rfl | ⟨2, _⟩ => rfl⟩

/-- The reciprocal root mean square of a group of 512 numbers. -/
def invRms (x : Fin 512 → EReal) : EReal :=
  Ideal.rsqrt (Ideal.div (∑ k, x k * x k) (Ideal.ofBits .f32 0x44000000#32) + Ideal.ofBits .f32 0x358637BD#32)

/-! ## What is stored, element by element -/

section
variable (w : Given Ideal)

theorem plane_at (m : Held Ideal S4x128x2048 .f32) (s k : Fin 4) (b : Fin 128) (j : Fin 512) : plane m s k (ix3 0 b j) = m.val (ix3 s b (col k j)) := by
  unfold plane Held.load
  rw [Memref.IsWhole.readAt_unread]
  refine congrArg m.val (funext fun a => Fin.ext ?_)
  match a with
  | ⟨0, _⟩ => show s.val + 1 * 0 = s.val; omega
  | ⟨1, _⟩ => show 0 + 1 * b.val = b.val; omega
  | ⟨2, _⟩ => show 512 * k.val + 1 * j.val = 512 * k.val + j.val; omega

theorem off_at (m : Held Ideal S128x8x2048 .f32) (s k : Fin 4) (b : Fin 128) (j : Fin 512) :
    offs m s k (ix3 b 0 j)
      = m.val (ix3 b ⟨s.val, by have := s.isLt; omega⟩ (col k j)) := by
  unfold offs Held.load
  rw [Memref.IsWhole.readAt_unread]
  refine congrArg m.val (funext fun a => Fin.ext ?_)
  match a with
  | ⟨0, _⟩ => show 0 + 1 * b.val = b.val; omega
  | ⟨1, _⟩ => show s.val + 1 * 0 = s.val; omega
  | ⟨2, _⟩ => show 512 * k.val + 1 * j.val = 512 * k.val + j.val; omega

theorem weight_at (m : Held Ideal S1x2048 .f32) (k : Fin 4) (j : Fin 512) :
    weight m k (ix2 0 j) = m.val (ix2 0 (col k j)) := by
  unfold weight Held.load
  rw [Memref.IsWhole.readAt_unread]
  refine congrArg m.val (funext fun a => Fin.ext ?_)
  match a with
  | ⟨0, _⟩ => rfl
  | ⟨1, _⟩ => show 512 * k.val + 1 * j.val = 512 * k.val + j.val; omega

theorem pay_at (y e : Vec Ideal S1x128x512 .f32) (f : Vec Ideal S128x1x512 .f32) (z : Vec Ideal S1x128x512 .f32) (g : Vec Ideal S1x512 .f32)
    (u : Fin 1) (b : Fin 128) (j : Fin 512) :
    k0_pay2 y e f z g (ix3 u b j)
      = (y (ix3 0 b j) + e (ix3 0 b j) * f (ix3 b 0 j)) * z (ix3 0 b j)
        * invRms (fun j => (y (ix3 0 b j) + e (ix3 0 b j) * f (ix3 b 0 j)) * z (ix3 0 b j)) * g (ix2 0 j) := by
  unfold k0_pay2 invRms
  pointwise

/-- A gated output. -/
def gated (s : Fin 4) (b : Fin 128) (n : Fin 2048) : EReal :=
  (w.y.val (ix3 s b n) + w.e.val (ix3 s b n) * w.off.val (ix3 b ⟨s.val, by have := s.isLt; omega⟩ n)) * w.z.val (ix3 s b n)

/-- A normed output. -/
def out (s : Fin 4) (b : Fin 128) (n : Fin 2048) : EReal :=
  gated w s b n * invRms (fun j => gated w s b (col (groupOf n) j)) * w.g.val (ix2 0 n)

theorem normed_at (s k : Fin 4) (u : Fin 1) (b : Fin 128) (j : Fin 512) : normed w s k (ix3 u b j) = out w s b (col k j) := by
  unfold normed out gated
  rw [pay_at, groupOf_col]
  simp only [plane_at, off_at, weight_at]

theorem emb_plane (s k : Fin 4) (u : Fin 1) (b : Fin 128) (j : Fin 512) :
    (Rect.unit (s := S4x128x2048) ![s.val, 0, 512 * k.val] S1x128x512.size (inb_plane s k)).emb (ix3 u b j) = ix3 s b (col k j) := by
  funext a; apply Fin.ext
  match a with
  | ⟨0, _⟩ => show s.val + 1 * u.val = s.val; omega
  | ⟨1, _⟩ => show 0 + 1 * b.val = b.val; omega
  | ⟨2, _⟩ => show 512 * k.val + 1 * j.val = 512 * k.val + j.val; omega

theorem mem_four (k : Fin 4) : k ∈ four := by revert k; decide

theorem mem_plane (s : Fin 4) (b : Fin 128) (n : Fin 2048) :
    (ix3 s b n : S4x128x2048.Idx) ∈ (Rect.unit (s := S4x128x2048) ![s.val, 0, 512 * (groupOf n).val] S1x128x512.size (inb_plane s (groupOf n))).set := by
  have hb := b.isLt
  refine Rect.mem_set_unit.2 fun a => ?_
  match a with
  | ⟨0, _⟩ => show s.val ≤ s.val ∧ s.val < s.val + 1; omega
  | ⟨1, _⟩ => show 0 ≤ b.val ∧ b.val < 0 + 128; omega
  | ⟨2, _⟩ => show 512 * (n.val / 512) ≤ n.val ∧ n.val < 512 * (n.val / 512) + 512; omega

/-- The result as a function of the whole index. -/
def res : S4x128x2048.Idx → EReal := fun y => out w (y 0) (y 1) (y 2)

/-- The stores leave the result. -/
theorem canon_stores (y : S4x128x2048.Idx) : View.canon (stores w) y = res w y := by
  refine View.canon_apply_of_pieces (Val := Elt Ideal) (e := .bf16) (res w) _ ?_ y ?_
  · intro p hp
    obtain ⟨s, -, hp⟩ := List.mem_flatMap.1 hp
    obtain ⟨k, -, rfl⟩ := List.mem_map.1 hp
    have key : ∀ x : S1x128x512.Idx, normed w s k x
        = res w ((Rect.unit (s := S4x128x2048) ![s.val, 0, 512 * k.val] S1x128x512.size (inb_plane s k)).emb x) := by
      intro x
      obtain ⟨u, b, j, rfl⟩ := eta3 (p := 1) (q := 128) (r := 512) x
      rw [emb_plane, normed_at]
      rfl
    exact key
  · obtain ⟨s, b, n, rfl⟩ := eta3 (p := 4) (q := 128) (r := 2048) y
    exact ⟨_, List.mem_flatMap.2 ⟨s, mem_four _, List.mem_map.2 ⟨groupOf n, mem_four _, rfl⟩⟩, mem_plane s b n⟩

end

/-! ## The blocks -/

section
variable (m : (ℓ : Loc nD τ sig) → Buf (Elt Ideal) ℓ) (c : Dev nD)

abbrev A0 : S4x128x2048.Idx → EReal := m ((c : Thread nD τ).loc main_arg0)
abbrev A1 : S4x128x2048.Idx → EReal := m ((c : Thread nD τ).loc main_arg1)
abbrev A2 : S128x8x2048.Idx → EReal := m ((c : Thread nD τ).loc main_arg2)
abbrev A3 : S5x128x9216.Idx → EReal := m ((c : Thread nD τ).loc main_arg3)
abbrev A4 : S1x2048.Idx → EReal := m ((c : Thread nD τ).loc main_arg4)

theorem places : ∀ t : Fin cfg0.N, win0_0.index t = ![0, 0, 0] ∧ win0_1.index t = ![0, 0, 0] ∧ win0_2.index t = ![0, 0, 0]
    ∧ win0_3.index t = ![0, 0, 2] ∧ win0_4.index t = ![0, 0] := (by decide +kernel : ∀ t : Fin grid0.N, _)

/-- A row taken to a vector and back. -/
theorem row_back (v : S1x2048.Idx → EReal) (n : Fin 2048) :
    (shapeCast S1x2048 (shapeCast S2048 v shapeCasts_S1x2048_S2048) shapeCasts_S2048_S1x2048 : S1x2048.Idx → EReal) (ix2 0 n) = v (ix2 0 n) := by
  pointwise

theorem V_main_v1_at (n : Fin 2048) : (V m c main_v1 : S1x2048.Idx → EReal) (ix2 0 n) = A4 m c (ix2 0 n) := by
  have e : (V m c main_v1 : S1x2048.Idx → EReal) = shapeCast S1x2048 (shapeCast S2048 (A4 m c) shapeCasts_S1x2048_S2048) shapeCasts_S2048_S1x2048 := by
    unfold V hostOps0
    after_results
    rfl
  rw [e, row_back]

variable (t : Fin cfg0.N)

theorem iblk_0_at (s : Fin 4) (b : Fin 128) (n : Fin 2048) : (iblk m c 0 t : S4x128x2048.Idx → EReal) (ix3 s b n) = A0 m c (ix3 s b n) := by
  show V m c main_arg0 (((cfg0.win 0).blk t).view.emb (ix3 s b n)) = _
  rw [V_main_arg0]
  refine congrArg (A0 m c) (funext fun a => Fin.ext ?_)
  match a with
  | ⟨0, _⟩ => show win0_0.index t (0 : Fin 3) * 4 + 1 * s.val = s.val; rw [congrFun (places t).1 0]; show 0 * 4 + 1 * s.val = _; omega
  | ⟨1, _⟩ => show win0_0.index t (1 : Fin 3) * 128 + 1 * b.val = b.val; rw [congrFun (places t).1 1]; show 0 * 128 + 1 * b.val = _; omega
  | ⟨2, _⟩ => show win0_0.index t (2 : Fin 3) * 2048 + 1 * n.val = n.val; rw [congrFun (places t).1 2]; show 0 * 2048 + 1 * n.val = _; omega

theorem iblk_1_at (s : Fin 4) (b : Fin 128) (n : Fin 2048) : (iblk m c 1 t : S4x128x2048.Idx → EReal) (ix3 s b n) = A1 m c (ix3 s b n) := by
  show V m c main_arg1 (((cfg0.win 1).blk t).view.emb (ix3 s b n)) = _
  rw [V_main_arg1]
  refine congrArg (A1 m c) (funext fun a => Fin.ext ?_)
  match a with
  | ⟨0, _⟩ => show win0_1.index t (0 : Fin 3) * 4 + 1 * s.val = s.val; rw [congrFun (places t).2.1 0]; show 0 * 4 + 1 * s.val = _; omega
  | ⟨1, _⟩ => show win0_1.index t (1 : Fin 3) * 128 + 1 * b.val = b.val; rw [congrFun (places t).2.1 1]; show 0 * 128 + 1 * b.val = _; omega
  | ⟨2, _⟩ => show win0_1.index t (2 : Fin 3) * 2048 + 1 * n.val = n.val; rw [congrFun (places t).2.1 2]; show 0 * 2048 + 1 * n.val = _; omega

theorem iblk_2_at (b : Fin 128) (s : Fin 8) (n : Fin 2048) : (iblk m c 2 t : S128x8x2048.Idx → EReal) (ix3 b s n) = A2 m c (ix3 b s n) := by
  show V m c main_arg2 (((cfg0.win 2).blk t).view.emb (ix3 b s n)) = _
  rw [V_main_arg2]
  refine congrArg (A2 m c) (funext fun a => Fin.ext ?_)
  match a with
  | ⟨0, _⟩ => show win0_2.index t (0 : Fin 3) * 128 + 1 * b.val = b.val; rw [congrFun (places t).2.2.1 0]; show 0 * 128 + 1 * b.val = _; omega
  | ⟨1, _⟩ => show win0_2.index t (1 : Fin 3) * 8 + 1 * s.val = s.val; rw [congrFun (places t).2.2.1 1]; show 0 * 8 + 1 * s.val = _; omega
  | ⟨2, _⟩ => show win0_2.index t (2 : Fin 3) * 2048 + 1 * n.val = n.val; rw [congrFun (places t).2.2.1 2]; show 0 * 2048 + 1 * n.val = _; omega

/-- The gate columns: the third 2048. -/
theorem X0_3_at (s : Fin 4) (b : Fin 128) (n : Fin 2048) : (X0_3 m c t : S4x128x2048.Idx → EReal) (ix3 s b n)
    = A3 m c (ix3 ⟨s.val, by have := s.isLt; omega⟩ b ⟨4096 + n.val, by have := n.isLt; omega⟩) := by
  unfold X0_3 Pipeline.Window.fill
  rw [dif_pos (moved0_3 t _)]
  show V m c main_arg3 (((cfg0.win 3).blk t).view.emb _) = _
  rw [V_main_arg3]
  refine congrArg (A3 m c) (funext fun a => Fin.ext ?_)
  match a with
  | ⟨0, _⟩ => show win0_3.index t (0 : Fin 3) * 4 + 1 * s.val = s.val; rw [congrFun (places t).2.2.2.1 0]; show 0 * 4 + 1 * s.val = _; omega
  | ⟨1, _⟩ => show win0_3.index t (1 : Fin 3) * 128 + 1 * b.val = b.val; rw [congrFun (places t).2.2.2.1 1]; show 0 * 128 + 1 * b.val = _; omega
  | ⟨2, _⟩ => show win0_3.index t (2 : Fin 3) * 2048 + 1 * n.val = 4096 + n.val; rw [congrFun (places t).2.2.2.1 2]; show 2 * 2048 + 1 * n.val = _; omega

theorem iblk_4_at (n : Fin 2048) : (iblk m c 4 t : S1x2048.Idx → EReal) (ix2 0 n) = A4 m c (ix2 0 n) := by
  rw [← V_main_v1_at m c]
  show V m c main_v1 (((cfg0.win 4).blk t).view.emb (ix2 0 n)) = _
  refine congrArg (V m c main_v1) (funext fun a => Fin.ext ?_)
  match a with
  | ⟨0, _⟩ => show win0_4.index t (0 : Fin 2) * 1 + 1 * 0 = 0; rw [congrFun (places t).2.2.2.2 0]; rfl
  | ⟨1, _⟩ => show win0_4.index t (1 : Fin 2) * 2048 + 1 * n.val = n.val; rw [congrFun (places t).2.2.2.2 1]; show 0 * 2048 + 1 * n.val = _; omega

/-- What the point is given. -/
def given : Given Ideal :=
  ⟨⟨ms0_0 t, hs0_0 t, iblk m c 0 t⟩, ⟨ms0_1 t, hs0_1 t, iblk m c 1 t⟩, ⟨ms0_2 t, hs0_2 t, iblk m c 2 t⟩, ⟨ms0_3 t, hs0_3 t, X0_3 m c t⟩,
    ⟨ms0_4 t, hs0_4 t, iblk m c 4 t⟩⟩

theorem outs (t : Fin cfg0.N) : outsAt0 m c t = res (given m c t) := by
  unfold outsAt0 out0_A_5
  rw [View.read_writes_junk_eq_canon, stores_eq]
  exact funext fun y => canon_stores (given m c t) y

/-- The one point. -/
abbrev pt : Fin cfg0.N := t0_0

theorem final : (dats m 0 c).arrAt 5 cfg0.N = res (given m c pt) :=
  (dats m 0 c).arrAt_eq_of_after_last 5 pt (by decide +kernel) (res (given m c pt)) (fun j => by
    rw [after0_5, outs]
    rfl)

/-- The result. -/
def result : Buf (Elt Ideal) ((c : Thread nD τ).loc main_v2) := res (given m c pt)

end

/-! ## The reference -/

section
open Cert.SsdPostRefIdeal.Read

variable (x0 x1 : (⟨S4x128x2048, .f32⟩ : BufTy).Contents (Elt Ideal)) (x2 : (⟨S128x8x2048, .f32⟩ : BufTy).Contents (Elt Ideal))
  (x3 : (⟨S5x128x9216, .f32⟩ : BufTy).Contents (Elt Ideal)) (x4 : (⟨S1x2048, .f32⟩ : BufTy).Contents (Elt Ideal))

/-- A gated output, the reference's way. -/
def gatedR (s : Fin 4) (b : Fin 128) (n : Fin 2048) : EReal :=
  (x0 (ix3 s b n) + x2 (ix3 b ⟨s.val, by have := s.isLt; omega⟩ n) * x1 (ix3 s b n))
    * x3 (ix3 ⟨s.val, by have := s.isLt; omega⟩ b ⟨4096 + n.val, by have := n.isLt; omega⟩)

theorem v5_at (s : Fin 4) (b : Fin 128) (n : Fin 2048) : val_main_v5 (F := Ideal) x0 x1 x2 x3 (ix3 s b n) = gatedR x0 x1 x2 x3 s b n := by
  unfold gatedR val_main_v5 val_main_v4 val_main_v3 val_main_v2 val_main_v1 val_main_v0
  pointwise

theorem v22_at (s : Fin 4) (b : Fin 128) (n : Fin 2048) : val_main_v22 (F := Ideal) x0 x1 x2 x3 x4 (ix3 s b n)
    = gatedR x0 x1 x2 x3 s b n * invRms (fun j => gatedR x0 x1 x2 x3 s b (col (groupOf n) j)) * x4 (ix2 0 n) := by
  have e : ∀ j : Fin 512, col (groupOf n) j = ⟨n.val / 512 * 512 + j.val, by have := n.isLt; have := j.isLt; omega⟩ := fun j => Fin.ext (by
    show 512 * (n.val / 512) + j.val = n.val / 512 * 512 + j.val
    omega)
  simp only [e, ← v5_at]
  unfold invRms val_main_v22 val_main_v21 val_main_v20 val_main_v19 val_main_v18 val_main_v17 val_main_v16 val_main_v15 val_main_v14 val_main_v13 val_main_v12 val_main_v11 val_main_v10 val_main_v9 val_main_v8 val_main_v7 val_main_v6 val_main_cst val_main_cst_0 val_main_cst_1
  generalize val_main_v5 (F := Ideal) x0 x1 x2 x3 = y
  pointwise

end

theorem gated_eq (m : (ℓ : Loc nD τ sig) → Buf (Elt Ideal) ℓ) (c : Dev nD) (s : Fin 4) (b : Fin 128) (n : Fin 2048) :
    gated (given m c pt) s b n = gatedR (A0 m c) (A1 m c) (A2 m c) (A3 m c) s b n := by
  refine congrArg₂ (· * ·) (congrArg₂ (· + ·) (iblk_0_at m c pt s b n) ?_) (X0_3_at m c pt s b n)
  rw [mul_comm]
  exact congrArg₂ (· * ·) (iblk_2_at m c pt b _ n) (iblk_1_at m c pt s b n)

/-- The kernel's result is the reference's. -/
theorem algebraic : Cert.algebraic_SsdPostIdeal_SsdPostRefIdeal := by
  intro m ρ m' ρ' _ hagree
  refine ⟨fun c => result m c,
    (θ_run _ _ _).mono (fun _ h c => ⟨(h c).1.trans (final m c), (h c).2⟩) (Cert.SsdPostIdeal.Value.run_blocks (F := Ideal) m ρ),
    (θ_run _ _ _).mono (fun _ h c => ⟨(h c).1.trans ?_, (h c).2⟩) (Cert.SsdPostRefIdeal.Value.run (F := Ideal) m' ρ')⟩
  have ha := hagree c
  obtain ⟨a0, a1, a2, a3, a4⟩ := ha
  rw [Cert.SsdPostRefIdeal.Read.val_main_v22_eq, a0, a1, a2, a3, a4]
  funext j
  obtain ⟨s, b, n, rfl⟩ := eta3 (p := 4) (q := 128) (r := 2048) j
  refine (v22_at _ _ _ _ _ s b n).trans ?_
  show _ = gated (given m c pt) s b n * invRms (fun j => gated (given m c pt) s b (col (groupOf n) j)) * (given m c pt).g.val (ix2 0 n)
  simp only [gated_eq]
  exact congrArg _ (iblk_4_at m c pt n).symm

/-- The reference runs, leaves its arguments, and has no semaphore. -/
theorem frame_ref : Cert.quiescent_SsdPostRefIdeal := fun m ρ _ =>
  (θ_run Cert.SsdPostRefIdeal.defs _ _).mono (fun r h => ⟨fun c => (h c).2, sem_eq_zero_of_no_sems (by decide) r.2⟩)
    (Cert.SsdPostRefIdeal.Value.run (F := Ideal) m ρ)

end Cert.Proof.SsdPost

end
-- ==== Proof.PreHeads.lean ====
/-
  The stores of the SSD group's first kernel as functions of the column block and the step.  The kernel unrolls its
  twenty-four blocks of 128 columns and, in each, its four steps; every block is the same text on its own columns.
  Here the text is written once, and the lists of stores the run leaves are shown to be that function's values.
-/
module

public import proofs.«01_k».proof.Proof.Gen.SsdPreIdeal.Frame

@[expose] public section

set_option maxRecDepth 16384

noncomputable section

namespace Cert.SsdPreIdeal.Gen.Pre

open Idealize.ShloMosaic Idealize.ShloMosaic.TcCoe
open Idealize.SL.Sem

variable {F : FTy → Type} [FloatOps F]

/-- A buffer held at the contents that read `val`. -/
structure Held (F : FTy → Type) (s : Shape) (e : EltTy) where
  ref : Memref sig .tc .vmem s e
  whole : ref.IsWhole
  val : Vec F s e

/-- What the kernel is given: its windows' staging buffers, each held at the contents of its block. -/
structure Given (F : FTy → Type) where
  x : Held F S4x128x3072 .f32
  dt : Held F S4x128x128 .f32
  tail : Held F S3x128x3072 .f32
  taps : Held F S4x3072 .f32
  bias : Held F S1x3072 .f32
  dtb : Held F S1x128 .f32
  alog : Held F S1x128 .f32
  skip : Held F S1x2048 .f32
  e3 : Held F S384x2048 .bf16

/-- A buffer the kernel writes. -/
structure Free (s : Shape) (e : EltTy) where
  ref : Memref sig .tc .vmem s e
  whole : ref.IsWhole

variable (w : Given F)

/-! Where a block's columns lie. -/

theorem inb_row {r : ℕ} (j : Fin r) (k : Fin 24) : ∀ a, (![j.val, 128 * k.val] : Fin 2 → ℕ) a + S1x128.size a ≤ (⟨2, ![r, 3072]⟩ : Shape).size a := by
  have := k.isLt
  have := j.isLt
  intro a
  match a with
  | ⟨0, _⟩ => show j.val + 1 ≤ r; omega
  | ⟨1, _⟩ => show 128 * k.val + 128 ≤ 3072; omega

theorem inb_slab {r : ℕ} (j : Fin r) (k : Fin 24) :
    ∀ a, (![j.val, 0, 128 * k.val] : Fin 3 → ℕ) a + S1x128x128.size a ≤ (⟨3, ![r, 128, 3072]⟩ : Shape).size a := by
  have := k.isLt
  have := j.isLt
  intro a
  match a with
  | ⟨0, _⟩ => show j.val + 1 ≤ r; omega
  | ⟨1, _⟩ => show 0 + 128 ≤ 128; omega
  | ⟨2, _⟩ => show 128 * k.val + 128 ≤ 3072; omega

theorem inb_back (s : Fin 4) (o : ℕ) (ho : o + 512 ≤ 3072) : ∀ a, (![s.val, 0, o] : Fin 3 → ℕ) a + S1x128x512.size a ≤ S4x128x3072.size a := by
  have := s.isLt
  intro a
  match a with
  | ⟨0, _⟩ => show s.val + 1 ≤ 4; omega
  | ⟨1, _⟩ => show 0 + 128 ≤ 128; omega
  | ⟨2, _⟩ => show o + 512 ≤ 3072; omega

theorem inb_pos (s : ℕ) (hs : s < 8) : ∀ a, (![0, s, 0] : Fin 3 → ℕ) a + S128x1x512.size a ≤ S128x8x512.size a := by
  intro a
  match a with
  | ⟨0, _⟩ => show 0 + 128 ≤ 128; omega
  | ⟨1, _⟩ => show s + 1 ≤ 8; omega
  | ⟨2, _⟩ => show 0 + 512 ≤ 512; omega

/-! A block's loads. -/

/-- What a load of a rectangle of a held buffer reads. -/
def Held.load {s : Shape} {e : EltTy} (m : Held F s e) (r : Rect s) : Vec F r.shape e :=
  View.readAt (Elt F) m.ref.view r.toLoadRect (m.whole.unread m.val)

/-- The block's columns of row `j`. -/
def row {n : ℕ} (m : Held F ⟨2, ![n, 3072]⟩ .f32) (k : Fin 24) (j : Fin n) : Vec F S1x128 .f32 :=
  m.load (Rect.unit ![j.val, 128 * k.val] S1x128.size (inb_row j k))

/-- The block's columns of plane `j`. -/
def plane {n : ℕ} (m : Held F ⟨3, ![n, 128, 3072]⟩ .f32) (k : Fin 24) (j : Fin n) : Vec F S1x128x128 .f32 :=
  m.load (Rect.unit ![j.val, 0, 128 * k.val] S1x128x128.size (inb_slab j k))

/-! A block's values. -/

/-- The inputs of the convolution in order: the three past ones, then the four of this call. -/
def ext (k : Fin 24) : ℕ → FVec F S128x128 .f32
  | 0 => k0_pay4 (plane w.tail k 0)
  | 1 => k0_pay4 (plane w.tail k 1)
  | 2 => k0_pay4 (plane w.tail k 2)
  | 3 => k0_pay4 (plane w.x k 0)
  | 4 => k0_pay4 (plane w.x k 1)
  | 5 => k0_pay4 (plane w.x k 2)
  | _ => k0_pay4 (plane w.x k 3)

/-- The convolved columns of step `s` through the silu, as they are stored. -/
def conv (k : Fin 24) (s : ℕ) : FVec F S1x128x128 .f32 :=
  k0_pay16 (ext w k s) (ext w k (s + 1)) (ext w k (s + 2)) (ext w k (s + 3))
    (row w.bias k 0) (row w.taps k 0) (row w.taps k 1) (row w.taps k 2) (row w.taps k 3)

/-! The stores, last first. -/

def blocks : List (Fin 24) := [23, 22, 21, 20, 19, 18, 17, 16, 15, 14, 13, 12, 11, 10, 9, 8, 7, 6, 5, 4, 3, 2, 1, 0]

/-- The stores of the convolved columns. -/
def storesX : List (View.Piece (Elt F) S4x128x3072 .f32) := blocks.flatMap fun k => ([3, 2, 1, 0] : List (Fin 4)).map fun s =>
  ⟨Rect.unit ![s.val, 0, 128 * k.val] S1x128x128.size (inb_slab s k), conv w k s.val⟩

/-- The stores of the inputs the convolution keeps. -/
def storesT : List (View.Piece (Elt F) S3x128x3072 .f32) := blocks.flatMap fun k => ([2, 1, 0] : List (Fin 3)).map fun j =>
  ⟨Rect.unit ![j.val, 0, 128 * k.val] S1x128x128.size (inb_slab j k), k0_pay19 (k0_pay4 (plane w.x k j.succ))⟩

/-- The 512 convolved columns from `o` on of step `s`, read back from the buffer `m`. -/
def back (m : Free S4x128x3072 .f32) (s : Fin 4) (o : ℕ) (ho : o + 512 ≤ 3072) : Vec F S1x128x512 .f32 :=
  m.ref.view.readCov (storesX w) (Rect.unit (s := S4x128x3072) ![s.val, 0, o] S1x128x512.size (inb_back s o ho)).toLoadRect

/-- The stores of 512 convolved columns from `o` on, step by step, the rest of the eight positions zero. -/
def storesR (m : Free S4x128x3072 .f32) (o : ℕ) (ho : o + 512 ≤ 3072) : List (View.Piece (Elt F) S128x8x512 .f32) :=
  (([7, 6, 5, 4] : List (Fin 8)).map fun s => ⟨Rect.unit ![0, s.val, 0] S128x1x512.size (inb_pos s.val s.isLt), k0_pay2⟩)
  ++ ([3, 2, 1, 0] : List (Fin 4)).map fun s =>
    ⟨Rect.unit ![0, s.val, 0] S128x1x512.size (inb_pos s.val (by have := s.isLt; omega)), k0_pay455 (back w m s o ho)⟩

section
variable (c : Dev nD) (i : grid0.Coords)
  (arg1 : Memref sig .tc .vmem S4x128x3072 .f32) (harg1 : arg1.IsWhole) (x0 : Vec F S4x128x3072 .f32)
  (arg2 : Memref sig .tc .vmem S4x128x128 .f32) (harg2 : arg2.IsWhole) (x1 : Vec F S4x128x128 .f32)
  (arg3 : Memref sig .tc .vmem S3x128x3072 .f32) (harg3 : arg3.IsWhole) (x2 : Vec F S3x128x3072 .f32)
  (arg4 : Memref sig .tc .vmem S4x3072 .f32) (harg4 : arg4.IsWhole) (x3 : Vec F S4x3072 .f32)
  (arg5 : Memref sig .tc .vmem S1x3072 .f32) (harg5 : arg5.IsWhole) (x4 : Vec F S1x3072 .f32)
  (arg6 : Memref sig .tc .vmem S1x128 .f32) (harg6 : arg6.IsWhole) (x5 : Vec F S1x128 .f32)
  (arg7 : Memref sig .tc .vmem S1x128 .f32) (harg7 : arg7.IsWhole) (x6 : Vec F S1x128 .f32)
  (arg8 : Memref sig .tc .vmem S1x2048 .f32) (harg8 : arg8.IsWhole) (x7 : Vec F S1x2048 .f32)
  (arg9 : Memref sig .tc .vmem S384x2048 .bf16) (harg9 : arg9.IsWhole) (x8 : Vec F S384x2048 .bf16)
  (arg10 : Memref sig .tc .vmem S4x128x2048 .f32) (harg10 : arg10.IsWhole)
  (arg11 : Memref sig .tc .vmem S4x128x2048 .f32) (harg11 : arg11.IsWhole)
  (arg12 : Memref sig .tc .vmem S128x8x512 .f32) (harg12 : arg12.IsWhole)
  (arg13 : Memref sig .tc .vmem S128x8x512 .f32) (harg13 : arg13.IsWhole)
  (arg14 : Memref sig .tc .vmem S128x8x2048 .f32) (harg14 : arg14.IsWhole)
  (arg15 : Memref sig .tc .vmem S128x128 .f32) (harg15 : arg15.IsWhole)
  (arg16 : Memref sig .tc .vmem S3x128x3072 .f32) (harg16 : arg16.IsWhole)
  (arg17 : Memref sig .tc .vmem S4x128x3072 .f32) (harg17 : arg17.IsWhole)

/-- What the kernel's run leaves in the convolution's new past inputs. -/
theorem storesT_eq :
    (kernelRun0_A c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 x0 x1 x2 x3 x4 x5 x6 x7 x8).2.2.2.2.2.2.1
      = storesT ⟨⟨arg1, harg1, x0⟩, ⟨arg2, harg2, x1⟩, ⟨arg3, harg3, x2⟩, ⟨arg4, harg4, x3⟩, ⟨arg5, harg5, x4⟩, ⟨arg6, harg6, x5⟩, ⟨arg7, harg7, x6⟩, ⟨arg8, harg8, x7⟩, ⟨arg9, harg9, x8⟩⟩ := by
  sl_kernel_rfl

/-- In the C rows. -/
theorem storesC_eq :
    (kernelRun0_A c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 x0 x1 x2 x3 x4 x5 x6 x7 x8).2.2.1
      = storesR ⟨⟨arg1, harg1, x0⟩, ⟨arg2, harg2, x1⟩, ⟨arg3, harg3, x2⟩, ⟨arg4, harg4, x3⟩, ⟨arg5, harg5, x4⟩, ⟨arg6, harg6, x5⟩, ⟨arg7, harg7, x6⟩, ⟨arg8, harg8, x7⟩, ⟨arg9, harg9, x8⟩⟩ ⟨arg17, harg17⟩ 2560 (by omega) := by
  sl_kernel_rfl

/-- In the B rows. -/
theorem storesB_eq :
    (kernelRun0_A c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 x0 x1 x2 x3 x4 x5 x6 x7 x8).2.2.2.1
      = storesR ⟨⟨arg1, harg1, x0⟩, ⟨arg2, harg2, x1⟩, ⟨arg3, harg3, x2⟩, ⟨arg4, harg4, x3⟩, ⟨arg5, harg5, x4⟩, ⟨arg6, harg6, x5⟩, ⟨arg7, harg7, x6⟩, ⟨arg8, harg8, x7⟩, ⟨arg9, harg9, x8⟩⟩ ⟨arg17, harg17⟩ 2048 (by omega) := by
  sl_kernel_rfl

end

end Cert.SsdPreIdeal.Gen.Pre

end
-- ==== Proof.PreRead.lean ====
/-
  What the SSD group's first kernel stores of its convolution, element by element.  A block's values are read at a row
  and a lane of the block; the lists of stores then leave, at column `n`, the value of block `n / 128` at lane `n % 128`.
-/
module

public import proofs.«01_k».proof.Proof.PreHeads
public import Idealize.ShloMosaic.Lib.Pipeline.Value
public import Idealize.ShloMosaic.Lib.WholeRead
public import Idealize.ShloMosaic.Lib.Pointwise

@[expose] public section

set_option maxRecDepth 16384

noncomputable section

namespace Cert.SsdPreIdeal.Gen.Pre

open Idealize.ShloMosaic Idealize.ShloMosaic.TcCoe
open Idealize.SL.Sem

/-! ## Columns -/

/-- The block a column lies in. -/
def blockOf (n : Fin 3072) : Fin 24 := ⟨n.val / 128, by have := n.isLt; omega⟩

/-- The column of a block's lane. -/
def col (k : Fin 24) (j : Fin 128) : Fin 3072 := ⟨128 * k.val + j.val, by have := k.isLt; have := j.isLt; omega⟩

/-- The column `o + j`. -/
def colFrom (o : ℕ) (ho : o + 512 ≤ 3072) (j : Fin 512) : Fin 3072 := ⟨o + j.val, by have := j.isLt; omega⟩

theorem eta3 {p q r : ℕ} (x : (⟨3, ![p, q, r]⟩ : Shape).Idx) : ∃ (a : Fin p) (b : Fin q) (c : Fin r), x = ix3 a b c :=
  ⟨x 0, x 1, x 2, by funext a; match a with | ⟨0, _⟩ => rfl | ⟨1, _⟩ => rfl | ⟨2, _⟩ => rfl⟩

/-! ## Loads -/

theorem row_at {n : ℕ} (m : Held Ideal ⟨2, ![n, 3072]⟩ .f32) (k : Fin 24) (j : Fin n) (i : Fin 128) : row m k j (ix2 0 i) = m.val (ix2 j (col k i)) := by
  unfold row Held.load
  rw [Memref.IsWhole.readAt_unread]
  refine congrArg m.val (funext fun a => Fin.ext ?_)
  match a with
  | ⟨0, _⟩ => show j.val + 1 * 0 = j.val; omega
  | ⟨1, _⟩ => show 128 * k.val + 1 * i.val = 128 * k.val + i.val; omega

theorem plane_at {n : ℕ} (m : Held Ideal ⟨3, ![n, 128, 3072]⟩ .f32) (k : Fin 24) (t : Fin n) (b j : Fin 128) :
    plane m k t (ix3 0 b j) = m.val (ix3 t b (col k j)) := by
  unfold plane Held.load
  rw [Memref.IsWhole.readAt_unread]
  refine congrArg m.val (funext fun a => Fin.ext ?_)
  match a with
  | ⟨0, _⟩ => show t.val + 1 * 0 = t.val; omega
  | ⟨1, _⟩ => show 0 + 1 * b.val = b.val; omega
  | ⟨2, _⟩ => show 128 * k.val + 1 * j.val = 128 * k.val + j.val; omega

theorem pay4_at (v : Vec Ideal S1x128x128 .f32) (b j : Fin 128) : k0_pay4 v (ix2 b j) = v (ix3 0 b j) := by
  unfold k0_pay4
  pointwise

theorem pay19_at (v : FVec Ideal S128x128 .f32) (z : Fin 1) (b j : Fin 128) : k0_pay19 v (ix3 z b j) = v (ix2 b j) := by
  unfold k0_pay19
  pointwise

theorem pay455_at (v : Vec Ideal S1x128x512 .f32) (b : Fin 128) (z : Fin 1) (j : Fin 512) : k0_pay455 v (ix3 b z j) = v (ix3 0 b j) := by
  unfold k0_pay455
  pointwise

theorem pay2_at (b : Fin 128) (z : Fin 1) (j : Fin 512) : (k0_pay2 : FVec Ideal S128x1x512 .f32) (ix3 b z j) = 0 := by
  unfold k0_pay2
  pointwise

/-! ## The convolution as numbers -/

/-- The silu as the kernel computes it. -/
def sil (y : EReal) : EReal :=
  Ideal.ofBits .f32 0x3F000000#32 * y * Ideal.tanh (Ideal.ofBits .f32 0x3F000000#32 * y) + Ideal.ofBits .f32 0x3F000000#32 * y

variable (w : Given Ideal)

/-- The convolution's inputs in order: the three past ones, then the four of this call. -/
def extV (b : Fin 128) (n : Fin 3072) : ℕ → EReal
  | 0 => w.tail.val (ix3 0 b n)
  | 1 => w.tail.val (ix3 1 b n)
  | 2 => w.tail.val (ix3 2 b n)
  | 3 => w.x.val (ix3 0 b n)
  | 4 => w.x.val (ix3 1 b n)
  | 5 => w.x.val (ix3 2 b n)
  | _ => w.x.val (ix3 3 b n)

/-- The convolved input of step `s`. -/
def convV (b : Fin 128) (n : Fin 3072) (s : ℕ) : EReal :=
  w.bias.val (ix2 0 n) + extV w b n s * w.taps.val (ix2 0 n) + extV w b n (s + 1) * w.taps.val (ix2 1 n)
    + extV w b n (s + 2) * w.taps.val (ix2 2 n) + extV w b n (s + 3) * w.taps.val (ix2 3 n)

theorem ext_at (k : Fin 24) (s : ℕ) (b j : Fin 128) : ext w k s (ix2 b j) = extV w b (col k j) s := by
  match s with
  | 0 => exact (pay4_at _ b j).trans (plane_at w.tail k 0 b j)
  | 1 => exact (pay4_at _ b j).trans (plane_at w.tail k 1 b j)
  | 2 => exact (pay4_at _ b j).trans (plane_at w.tail k 2 b j)
  | 3 => exact (pay4_at _ b j).trans (plane_at w.x k 0 b j)
  | 4 => exact (pay4_at _ b j).trans (plane_at w.x k 1 b j)
  | 5 => exact (pay4_at _ b j).trans (plane_at w.x k 2 b j)
  | _ + 6 => exact (pay4_at _ b j).trans (plane_at w.x k 3 b j)

theorem pay16_at (e0 e1 e2 e3 : FVec Ideal S128x128 .f32) (bs t0 t1 t2 t3 : Vec Ideal S1x128 .f32) (z : Fin 1) (b j : Fin 128) :
    k0_pay16 e0 e1 e2 e3 bs t0 t1 t2 t3 (ix3 z b j) = sil (bs (ix2 0 j) + e0 (ix2 b j) * t0 (ix2 0 j) + e1 (ix2 b j) * t1 (ix2 0 j)
      + e2 (ix2 b j) * t2 (ix2 0 j) + e3 (ix2 b j) * t3 (ix2 0 j)) := by
  unfold k0_pay16 sil
  pointwise

theorem conv_at (k : Fin 24) (s : ℕ) (z : Fin 1) (b j : Fin 128) : conv w k s (ix3 z b j) = sil (convV w b (col k j) s) := by
  unfold conv convV
  rw [pay16_at]
  simp only [ext_at, row_at]

/-! ## What the stores leave -/

/-- The convolved columns, the kept inputs, and 512 convolved columns by position, as functions of the whole index. -/
def resX : S4x128x3072.Idx → EReal := fun y => sil (convV w (y 1) (y 2) (y 0).val)
def resT : S3x128x3072.Idx → EReal := fun y => w.x.val (ix3 (Fin.succ (n := 3) (y 0)) (y 1) (y 2))
def resR (o : ℕ) (ho : o + 512 ≤ 3072) : S128x8x512.Idx → EReal := fun y =>
  if (y 1).val < 4 then sil (convV w (y 0) (colFrom o ho (y 2)) (y 1).val) else 0

theorem mem_blocks (k : Fin 24) : k ∈ blocks := by revert k; decide

/-- Where an element of a block's slab of step `t` lies. -/
theorem emb_slab {r : ℕ} (t : Fin r) (k : Fin 24) (z : Fin 1) (b j : Fin 128) :
    (Rect.unit (s := ⟨3, ![r, 128, 3072]⟩) ![t.val, 0, 128 * k.val] S1x128x128.size (inb_slab t k)).emb (ix3 z b j) = ix3 t b (col k j) := by
  funext a; apply Fin.ext
  match a with
  | ⟨0, _⟩ => show t.val + 1 * z.val = t.val; omega
  | ⟨1, _⟩ => show 0 + 1 * b.val = b.val; omega
  | ⟨2, _⟩ => show 128 * k.val + 1 * j.val = 128 * k.val + j.val; omega

theorem mem_slab {r : ℕ} (t : Fin r) (b : Fin 128) (n : Fin 3072) :
    (ix3 t b n : (⟨3, ![r, 128, 3072]⟩ : Shape).Idx)
      ∈ (Rect.unit (s := ⟨3, ![r, 128, 3072]⟩) ![t.val, 0, 128 * (blockOf n).val] S1x128x128.size (inb_slab t (blockOf n))).set := by
  have hb := b.isLt
  refine Rect.mem_set_unit.2 fun a => ?_
  match a with
  | ⟨0, _⟩ => show t.val ≤ t.val ∧ t.val < t.val + 1; omega
  | ⟨1, _⟩ => show 0 ≤ b.val ∧ b.val < 0 + 128; omega
  | ⟨2, _⟩ => show 128 * (n.val / 128) ≤ n.val ∧ n.val < 128 * (n.val / 128) + 128; omega

/-- Where an element of position `s` lies. -/
theorem emb_pos (s : ℕ) (hs : s < 8) (b : Fin 128) (z : Fin 1) (j : Fin 512) :
    (Rect.unit (s := S128x8x512) ![0, s, 0] S128x1x512.size (inb_pos s hs)).emb (ix3 b z j) = ix3 b ⟨s, hs⟩ j := by
  funext a; apply Fin.ext
  match a with
  | ⟨0, _⟩ => show 0 + 1 * b.val = b.val; omega
  | ⟨1, _⟩ => show s + 1 * z.val = s; omega
  | ⟨2, _⟩ => show 0 + 1 * j.val = j.val; omega

theorem mem_pos (s : ℕ) (hs : s < 8) (b : Fin 128) (j : Fin 512) :
    (ix3 b ⟨s, hs⟩ j : S128x8x512.Idx) ∈ (Rect.unit (s := S128x8x512) ![0, s, 0] S128x1x512.size (inb_pos s hs)).set := by
  have hb := b.isLt
  have hj := j.isLt
  refine Rect.mem_set_unit.2 fun a => ?_
  match a with
  | ⟨0, _⟩ => show 0 ≤ b.val ∧ b.val < 0 + 128; omega
  | ⟨1, _⟩ => show s ≤ s ∧ s < s + 1; omega
  | ⟨2, _⟩ => show 0 ≤ j.val ∧ j.val < 0 + 512; omega

/-- The convolved columns. -/
theorem canonX (y : S4x128x3072.Idx) : View.canon (storesX w) y = resX w y := by
  refine View.canon_apply_of_pieces (Val := Elt Ideal) (e := .f32) (resX w) _ ?_ y ?_
  · intro p hp
    obtain ⟨k, -, hp⟩ := List.mem_flatMap.1 hp
    obtain ⟨j, -, rfl⟩ := List.mem_map.1 hp
    have key : ∀ x : S1x128x128.Idx, conv w k j.val x
        = resX w ((Rect.unit (s := S4x128x3072) ![j.val, 0, 128 * k.val] S1x128x128.size (inb_slab j k)).emb x) := by
      intro x
      obtain ⟨z, b, i, rfl⟩ := eta3 (p := 1) (q := 128) (r := 128) x
      rw [emb_slab, conv_at]
      rfl
    exact key
  · have hj : ∀ j : Fin 4, j ∈ ([3, 2, 1, 0] : List (Fin 4)) := by decide
    obtain ⟨t, b, n, rfl⟩ := eta3 (p := 4) (q := 128) (r := 3072) y
    exact ⟨_, List.mem_flatMap.2 ⟨blockOf n, mem_blocks _, List.mem_map.2 ⟨t, hj _, rfl⟩⟩, mem_slab t b n⟩

/-- The kept inputs. -/
theorem canonT (y : S3x128x3072.Idx) : View.canon (storesT w) y = resT w y := by
  refine View.canon_apply_of_pieces (Val := Elt Ideal) (e := .f32) (resT w) _ ?_ y ?_
  · intro p hp
    obtain ⟨k, -, hp⟩ := List.mem_flatMap.1 hp
    obtain ⟨j, -, rfl⟩ := List.mem_map.1 hp
    have key : ∀ x : S1x128x128.Idx, k0_pay19 (k0_pay4 (plane w.x k j.succ)) x
        = resT w ((Rect.unit (s := S3x128x3072) ![j.val, 0, 128 * k.val] S1x128x128.size (inb_slab j k)).emb x) := by
      intro x
      obtain ⟨z, b, i, rfl⟩ := eta3 (p := 1) (q := 128) (r := 128) x
      rw [emb_slab, pay19_at, pay4_at, plane_at]
      rfl
    exact key
  · have hj : ∀ j : Fin 3, j ∈ ([2, 1, 0] : List (Fin 3)) := by decide
    obtain ⟨t, b, n, rfl⟩ := eta3 (p := 3) (q := 128) (r := 3072) y
    exact ⟨_, List.mem_flatMap.2 ⟨blockOf n, mem_blocks _, List.mem_map.2 ⟨t, hj _, rfl⟩⟩, mem_slab t b n⟩

/-- Convolved columns read back. -/
theorem back_at (m : Free S4x128x3072 .f32) (s : Fin 4) (o : ℕ) (ho : o + 512 ≤ 3072) (b : Fin 128) (j : Fin 512) :
    back w m s o ho (ix3 0 b j) = sil (convV w b (colFrom o ho j) s.val) := by
  unfold back
  rw [View.readCov_eq_canon']
  have e : (Rect.unit (s := S4x128x3072) ![s.val, 0, o] S1x128x512.size (inb_back s o ho)).emb (ix3 0 b j) = ix3 s b (colFrom o ho j) := by
    funext a; apply Fin.ext
    match a with
    | ⟨0, _⟩ => show s.val + 1 * 0 = s.val; omega
    | ⟨1, _⟩ => show 0 + 1 * b.val = b.val; omega
    | ⟨2, _⟩ => show o + 1 * j.val = o + j.val; omega
  refine (congrArg (View.canon (storesX w)) e).trans ?_
  exact canonX w _

/-- 512 convolved columns by position. -/
theorem canonR (m : Free S4x128x3072 .f32) (o : ℕ) (ho : o + 512 ≤ 3072) (y : S128x8x512.Idx) : View.canon (storesR w m o ho) y = resR w o ho y := by
  refine View.canon_apply_of_pieces (Val := Elt Ideal) (e := .f32) (resR w o ho) _ ?_ y ?_
  · intro p hp
    rcases List.mem_append.1 hp with hp | hp
    · obtain ⟨s, hs, rfl⟩ := List.mem_map.1 hp
      have h4 : ¬ s.val < 4 := (by decide : ∀ s : Fin 8, s ∈ ([7, 6, 5, 4] : List (Fin 8)) → ¬ s.val < 4) s hs
      have key : ∀ x : S128x1x512.Idx, (k0_pay2 : FVec Ideal S128x1x512 .f32) x
          = resR w o ho ((Rect.unit (s := S128x8x512) ![0, s.val, 0] S128x1x512.size (inb_pos s.val s.isLt)).emb x) := by
        intro x
        obtain ⟨b, z, i, rfl⟩ := eta3 (p := 128) (q := 1) (r := 512) x
        rw [emb_pos, pay2_at]
        exact (if_neg h4).symm
      exact key
    · obtain ⟨s, -, rfl⟩ := List.mem_map.1 hp
      have key : ∀ x : S128x1x512.Idx, k0_pay455 (back w m s o ho) x
          = resR w o ho ((Rect.unit (s := S128x8x512) ![0, s.val, 0] S128x1x512.size (inb_pos s.val (by have := s.isLt; omega))).emb x) := by
        intro x
        obtain ⟨b, z, i, rfl⟩ := eta3 (p := 128) (q := 1) (r := 512) x
        rw [emb_pos s.val (by have := s.isLt; omega), pay455_at, back_at]
        exact (if_pos s.isLt).symm
      exact key
  · obtain ⟨b, t, j, rfl⟩ := eta3 (p := 128) (q := 8) (r := 512) y
    by_cases h : t.val < 4
    · have hj : ∀ s : Fin 4, s ∈ ([3, 2, 1, 0] : List (Fin 4)) := by decide
      exact ⟨_, List.mem_append.2 (Or.inr (List.mem_map.2 ⟨⟨t.val, h⟩, hj _, rfl⟩)), mem_pos t.val t.isLt b j⟩
    · have hj : ∀ s : Fin 8, ¬ s.val < 4 → s ∈ ([7, 6, 5, 4] : List (Fin 8)) := by decide
      exact ⟨_, List.mem_append.2 (Or.inl (List.mem_map.2 ⟨t, hj _ h, rfl⟩)), mem_pos t.val t.isLt b j⟩

end Cert.SsdPreIdeal.Gen.Pre

end
-- ==== Proof.PreRef.lean ====
/-
  The reference of the SSD group's first call, element by element: its convolution and what it returns of it.
-/
module

public import proofs.«01_k».proof.Proof.Gen.SsdPreRefIdeal.Read
public import proofs.«01_k».proof.Proof.PreRead
public import Idealize.ShloMosaic.Lib.Pointwise

@[expose] public section

set_option maxRecDepth 16384

noncomputable section

namespace Cert.Proof.SsdPre

open Idealize.ShloMosaic Idealize.ShloMosaic.TcCoe Idealize.SL.Sem
open Cert.SsdPreRefIdeal Cert.SsdPreRefIdeal.Read
open Cert.SsdPreIdeal.Gen.Pre (colFrom)

variable (x0 : (⟨S5x128x9216, .f32⟩ : BufTy).Contents (Elt Ideal)) (x2 : (⟨S1x128x3x3072, .f32⟩ : BufTy).Contents (Elt Ideal))
  (x3 : (⟨S1x4x3072, .f32⟩ : BufTy).Contents (Elt Ideal)) (x4 : (⟨S1x3072, .f32⟩ : BufTy).Contents (Elt Ideal))

/-- Column `n` of the convolution's columns of the projection. -/
abbrev inCol (n : Fin 3072) : Fin 9216 := ⟨6144 + n.val, by have := n.isLt; omega⟩

/-- The convolution's inputs in order. -/
def extR (b : Fin 128) (n : Fin 3072) : ℕ → EReal
  | 0 => x2 (ix4 0 b 0 n)
  | 1 => x2 (ix4 0 b 1 n)
  | 2 => x2 (ix4 0 b 2 n)
  | 3 => x0 (ix3 0 b (inCol n))
  | 4 => x0 (ix3 1 b (inCol n))
  | 5 => x0 (ix3 2 b (inCol n))
  | _ => x0 (ix3 3 b (inCol n))

/-- The convolved input of step `s`. -/
def convR (b : Fin 128) (n : Fin 3072) (s : ℕ) : EReal :=
  x4 (ix2 0 n) + extR x0 x2 b n s * x3 (ix3 0 0 n) + extR x0 x2 b n (s + 1) * x3 (ix3 0 1 n)
    + extR x0 x2 b n (s + 2) * x3 (ix3 0 2 n) + extR x0 x2 b n (s + 3) * x3 (ix3 0 3 n)

/-- The silu. -/
def silR (y : EReal) : EReal := y * Ideal.div 1 (1 + Ideal.exp (-y))

theorem v3_at (t : Fin 7) (b : Fin 128) (n : Fin 3072) : val_main_v3 (F := Ideal) x0 x2 (ix3 t b n)
    = if h : t.val < 3 then x2 (ix4 0 b ⟨t.val, h⟩ n) else x0 (ix3 ⟨t.val - 3, by omega⟩ b ⟨6144 + n.val, by omega⟩) := by
  unfold val_main_v3 val_main_v2 val_main_v1 val_main_v0
  pointwise

theorem v3_ext (t : Fin 7) (b : Fin 128) (n : Fin 3072) : val_main_v3 (F := Ideal) x0 x2 (ix3 t b n) = extR x0 x2 b n t.val := by
  rw [v3_at]
  match t with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

theorem v35_at (s : Fin 4) (b : Fin 128) (n : Fin 3072) : val_main_v35 (F := Ideal) x0 x2 x3 x4 (ix3 s b n) = convR x0 x2 x3 x4 b n s.val := by
  unfold convR
  rw [Nat.add_comm s.val 1, Nat.add_comm s.val 2, Nat.add_comm s.val 3]
  simp only [← v3_ext x0 x2 ⟨s.val, by omega⟩ b n, ← v3_ext x0 x2 ⟨1 + s.val, by omega⟩ b n, ← v3_ext x0 x2 ⟨2 + s.val, by omega⟩ b n,
    ← v3_ext x0 x2 ⟨3 + s.val, by omega⟩ b n]
  unfold val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4
  generalize val_main_v3 (F := Ideal) x0 x2 = e
  pointwise

theorem v36_at (s : Fin 4) (b : Fin 128) (n : Fin 3072) : val_main_v36 (F := Ideal) x0 x2 x3 x4 (ix3 s b n) = silR (convR x0 x2 x3 x4 b n s.val) := by
  rw [← v35_at]
  unfold silR val_main_v36 val_main_call0_v5 val_main_call0_v4 val_main_call0_v3 val_main_call0_v2 val_main_call0_v1 val_main_call0_v0 val_main_call0_cst val_main_call0_cst_0
  generalize val_main_v35 (F := Ideal) x0 x2 x3 x4 = e
  pointwise

/-- Convolved columns by position, the positions past the four steps zero. -/
def rowsR (o : ℕ) (ho : o + 512 ≤ 3072) (b : Fin 128) (t : Fin 8) (j : Fin 512) : EReal :=
  if t.val < 4 then silR (convR x0 x2 x3 x4 b (colFrom o ho j) t.val) else 0

/-- The padding's zero. -/
theorem zero_at : (FloatOps.sitofp .f32 (0#32 : BitVec 32) : Ideal .f32) = 0 := by
  show (((0#32 : BitVec 32).toInt : ℝ) : EReal) = 0
  simp

theorem v39_at (b : Fin 128) (t : Fin 8) (j : Fin 512) :
    val_main_v39 (F := Ideal) x0 x2 x3 x4 (ix3 b t j) = rowsR x0 x2 x3 x4 2560 (by omega) b t j := by
  unfold rowsR
  by_cases h : t.val < 4
  · rw [if_pos h, ← v36_at x0 x2 x3 x4 ⟨t.val, h⟩]
    unfold val_main_v39 val_main_v38 val_main_v37 colFrom
    generalize val_main_v36 (F := Ideal) x0 x2 x3 x4 = e
    pointwise
    rw [dif_pos h]
  · rw [if_neg h]
    unfold val_main_v39 val_main_v38 val_main_v37 val_main_call1_v0 val_main_c
    generalize val_main_v36 (F := Ideal) x0 x2 x3 x4 = e
    pointwise
    rw [dif_neg h]
    exact zero_at

theorem v42_at (b : Fin 128) (t : Fin 8) (j : Fin 512) :
    val_main_v42 (F := Ideal) x0 x2 x3 x4 (ix3 b t j) = rowsR x0 x2 x3 x4 2048 (by omega) b t j := by
  unfold rowsR
  by_cases h : t.val < 4
  · rw [if_pos h, ← v36_at x0 x2 x3 x4 ⟨t.val, h⟩]
    unfold val_main_v42 val_main_v41 val_main_v40 colFrom
    generalize val_main_v36 (F := Ideal) x0 x2 x3 x4 = e
    pointwise
    rw [dif_pos h]
  · rw [if_neg h]
    unfold val_main_v42 val_main_v41 val_main_v40 val_main_call2_v0
    generalize val_main_v36 (F := Ideal) x0 x2 x3 x4 = e
    pointwise
    rw [dif_neg h]
    exact zero_at

theorem v43_at (t : Fin 3) (b : Fin 128) (n : Fin 3072) :
    val_main_v43 (F := Ideal) x0 x2 (ix3 t b n) = x0 (ix3 ⟨1 + t.val, by have := t.isLt; omega⟩ b (inCol n)) := by
  have e : val_main_v43 (F := Ideal) x0 x2 (ix3 t b n) = val_main_v3 (F := Ideal) x0 x2 (ix3 ⟨4 + t.val, by have := t.isLt; omega⟩ b n) := by
    unfold val_main_v43
    generalize val_main_v3 (F := Ideal) x0 x2 = e
    pointwise
  rw [e, v3_ext]
  match t with
  | ⟨0, _⟩ => rfl
  | ⟨1, _⟩ => rfl
  | ⟨2, _⟩ => rfl

end Cert.Proof.SsdPre

end
-- ==== Proof.SsdPre.lean ====
/-
  The SSD group's first kernel on one decoding step: its convolved columns by position and its new past inputs are the
  reference's.  The blocks of the kernel's one point give it the reference's inputs, taps and bias; the silus agree on
  finite numbers.
-/
module

public import proofs.«01_k».proof.Defs
public import proofs.«01_k».proof.Proof.Gen.SsdPreIdeal.Value
public import proofs.«01_k».proof.Proof.Gen.SsdPreRefIdeal.Run
public import proofs.«01_k».proof.Proof.Gen.Pre_finite10
public import proofs.«01_k».proof.Proof.PreRead
public import proofs.«01_k».proof.Proof.PreRef
public import proofs.«01_k».proof.Proof.Reals
public import Idealize.ShloMosaic.Lib.Pipeline.ValueKit.Geometry
public import Idealize.ShloMosaic.Lib.Quiescent

@[expose] public section

set_option maxRecDepth 16384

noncomputable section

namespace Cert.Proof.SsdPre

open Idealize.ShloMosaic Idealize.ShloMosaic.TcCoe Idealize.SL.Sem

section
open Cert.SsdPreIdeal Cert.SsdPreIdeal.Gen Cert.SsdPreIdeal.Gen.Pre

variable (m : (ℓ : Loc nD τ sig) → Buf (Elt Ideal) ℓ) (ρ : Dev nD → PrngReg) (c : Dev nD)

/-- The arguments the claimed results read: the projected columns, the convolution's past inputs, its taps and its bias. -/
abbrev A0 : S5x128x9216.Idx → EReal := m ((c : Thread nD τ).loc main_arg0)
abbrev A2 : S1x128x3x3072.Idx → EReal := m ((c : Thread nD τ).loc main_arg2)
abbrev A3 : S1x4x3072.Idx → EReal := m ((c : Thread nD τ).loc main_arg3)
abbrev A4 : S1x3072.Idx → EReal := m ((c : Thread nD τ).loc main_arg4)

theorem places : ∀ t : Fin cfg0.N, win0_0.index t = ![0, 0, 2] ∧ win0_2.index t = ![0, 0, 0] ∧ win0_3.index t = ![0, 0] ∧ win0_4.index t = ![0, 0] :=
  (by decide +kernel : ∀ t : Fin grid0.N, _)

/-! ## The arrays the host prepares -/

theorem V_main_v0_at (j : Fin 4) (n : Fin 3072) : (V m c main_v0 : S4x3072.Idx → EReal) (ix2 j n) = A3 m c (ix3 0 j n) := by
  have e : (V m c main_v0 : S4x3072.Idx → EReal) = shapeCast S4x3072 (A3 m c) shapeCasts_S1x4x3072_S4x3072 := by
    unfold V hostOps0 hostOps0_1 hostOps0_2 hostOps0_3 hostOps0_4 hostOps0_5 hostOps0_6
    after_results
    rfl
  rw [e]
  pointwise

theorem V_main_v2_at (n : Fin 3072) : (V m c main_v2 : S1x3072.Idx → EReal) (ix2 0 n) = A4 m c (ix2 0 n) := by
  have e : (V m c main_v2 : S1x3072.Idx → EReal) = shapeCast S1x3072 (shapeCast S3072 (A4 m c) shapeCasts_S1x3072_S3072) shapeCasts_S3072_S1x3072 := by
    unfold V hostOps0 hostOps0_1 hostOps0_2 hostOps0_3 hostOps0_4 hostOps0_5 hostOps0_6
    after_results
    rfl
  rw [e]
  generalize A4 m c = v
  pointwise

theorem V_main_v20_at (t : Fin 3) (b : Fin 128) (n : Fin 3072) : (V m c main_v20 : S3x128x3072.Idx → EReal) (ix3 t b n) = A2 m c (ix4 0 b t n) := by
  have e : (V m c main_v20 : S3x128x3072.Idx → EReal)
      = transpose S3x128x3072 [1, 0, 2] (shapeCast S128x3x3072 (A2 m c) shapeCasts_S1x128x3x3072_S128x3x3072) transposes_S128x3x3072_S3x128x3072_1_0_2 := by
    unfold V hostOps0 hostOps0_1 hostOps0_2 hostOps0_3 hostOps0_4 hostOps0_5 hostOps0_6
    after_results
    rfl
  rw [e]
  pointwise

/-! ## The blocks -/

section
variable (t : Fin cfg0.N)

/-- The convolution's columns: the last 3072. -/
theorem X0_0_at (s : Fin 4) (b : Fin 128) (n : Fin 3072) :
    (X0_0 m c t : S4x128x3072.Idx → EReal) (ix3 s b n) = A0 m c (ix3 ⟨s.val, by have := s.isLt; omega⟩ b (inCol n)) := by
  unfold X0_0 Pipeline.Window.fill
  rw [dif_pos (moved0_0 t _)]
  show V m c main_arg0 (((cfg0.win 0).blk t).view.emb _) = _
  rw [V_main_arg0]
  refine congrArg (A0 m c) (funext fun a => Fin.ext ?_)
  match a with
  | ⟨0, _⟩ => show win0_0.index t (0 : Fin 3) * 4 + 1 * s.val = s.val; rw [congrFun (places t).1 0]; show 0 * 4 + 1 * s.val = _; omega
  | ⟨1, _⟩ => show win0_0.index t (1 : Fin 3) * 128 + 1 * b.val = b.val; rw [congrFun (places t).1 1]; show 0 * 128 + 1 * b.val = _; omega
  | ⟨2, _⟩ => show win0_0.index t (2 : Fin 3) * 3072 + 1 * n.val = 6144 + n.val; rw [congrFun (places t).1 2]; show 2 * 3072 + 1 * n.val = _; omega

theorem iblk_2_at (s : Fin 3) (b : Fin 128) (n : Fin 3072) : (iblk m c 2 t : S3x128x3072.Idx → EReal) (ix3 s b n) = A2 m c (ix4 0 b s n) := by
  rw [← V_main_v20_at m c]
  show V m c main_v20 (((cfg0.win 2).blk t).view.emb (ix3 s b n)) = _
  refine congrArg (V m c main_v20) (funext fun a => Fin.ext ?_)
  match a with
  | ⟨0, _⟩ => show win0_2.index t (0 : Fin 3) * 3 + 1 * s.val = s.val; rw [congrFun (places t).2.1 0]; show 0 * 3 + 1 * s.val = _; omega
  | ⟨1, _⟩ => show win0_2.index t (1 : Fin 3) * 128 + 1 * b.val = b.val; rw [congrFun (places t).2.1 1]; show 0 * 128 + 1 * b.val = _; omega
  | ⟨2, _⟩ => show win0_2.index t (2 : Fin 3) * 3072 + 1 * n.val = n.val; rw [congrFun (places t).2.1 2]; show 0 * 3072 + 1 * n.val = _; omega

theorem iblk_3_at (j : Fin 4) (n : Fin 3072) : (iblk m c 3 t : S4x3072.Idx → EReal) (ix2 j n) = A3 m c (ix3 0 j n) := by
  rw [← V_main_v0_at m c]
  show V m c main_v0 (((cfg0.win 3).blk t).view.emb (ix2 j n)) = _
  refine congrArg (V m c main_v0) (funext fun a => Fin.ext ?_)
  match a with
  | ⟨0, _⟩ => show win0_3.index t (0 : Fin 2) * 4 + 1 * j.val = j.val; rw [congrFun (places t).2.2.1 0]; show 0 * 4 + 1 * j.val = _; omega
  | ⟨1, _⟩ => show win0_3.index t (1 : Fin 2) * 3072 + 1 * n.val = n.val; rw [congrFun (places t).2.2.1 1]; show 0 * 3072 + 1 * n.val = _; omega

theorem iblk_4_at (n : Fin 3072) : (iblk m c 4 t : S1x3072.Idx → EReal) (ix2 0 n) = A4 m c (ix2 0 n) := by
  rw [← V_main_v2_at m c]
  show V m c main_v2 (((cfg0.win 4).blk t).view.emb (ix2 0 n)) = _
  refine congrArg (V m c main_v2) (funext fun a => Fin.ext ?_)
  match a with
  | ⟨0, _⟩ => show win0_4.index t (0 : Fin 2) * 1 + 1 * 0 = 0; rw [congrFun (places t).2.2.2 0]; show 0 * 1 + 1 * 0 = _; omega
  | ⟨1, _⟩ => show win0_4.index t (1 : Fin 2) * 3072 + 1 * n.val = n.val; rw [congrFun (places t).2.2.2 1]; show 0 * 3072 + 1 * n.val = _; omega

/-! ## The arrays after the run -/

/-- What the point is given. -/
def given : Given Ideal :=
  ⟨⟨ms0_0 t, hs0_0 t, X0_0 m c t⟩, ⟨ms0_1 t, hs0_1 t, X0_1 m c t⟩, ⟨ms0_2 t, hs0_2 t, iblk m c 2 t⟩, ⟨ms0_3 t, hs0_3 t, iblk m c 3 t⟩,
    ⟨ms0_4 t, hs0_4 t, iblk m c 4 t⟩, ⟨ms0_5 t, hs0_5 t, iblk m c 5 t⟩, ⟨ms0_6 t, hs0_6 t, iblk m c 6 t⟩, ⟨ms0_7 t, hs0_7 t, iblk m c 7 t⟩,
    ⟨ms0_8 t, hs0_8 t, iblk m c 8 t⟩⟩

theorem outC : (outsAt0 m c t).2.2.1 = resR (given m c t) 2560 (by omega) := by
  unfold outsAt0 out0_A_11
  dsimp only
  rw [View.read_writes_junk_eq_canon, storesC_eq]
  exact funext fun y => canonR (given m c t) _ _ _ y

theorem outB : (outsAt0 m c t).2.2.2.1 = resR (given m c t) 2048 (by omega) := by
  unfold outsAt0 out0_A_12
  dsimp only
  rw [View.read_writes_junk_eq_canon, storesB_eq]
  exact funext fun y => canonR (given m c t) _ _ _ y

theorem outT : (outsAt0 m c t).2.2.2.2.2.2 = resT (given m c t) := by
  unfold outsAt0 out0_A_15
  dsimp only
  rw [View.read_writes_junk_eq_canon, storesT_eq]
  exact funext fun y => canonT (given m c t) y

end

/-- The one point. -/
abbrev pt : Fin cfg0.N := t0_0

/-- The C rows. -/
def result0 : Buf (Elt Ideal) ((c : Thread nD τ).loc main_v21_2) := resR (given m c pt) 2560 (by omega)

/-- The B rows. -/
def result1 : Buf (Elt Ideal) ((c : Thread nD τ).loc main_v21_3) := resR (given m c pt) 2048 (by omega)

/-- The convolution's new past inputs. -/
def result2 : Buf (Elt Ideal) ((c : Thread nD τ).loc main_v21_6) := resT (given m c pt)

theorem finalC : (dats m 0 c).arrAt 11 cfg0.N = result0 m c :=
  (dats m 0 c).arrAt_eq_of_after_last 11 pt (by decide +kernel) (resR (given m c pt) 2560 (by omega)) (fun j => by
    rw [after0_11, outC]
    rfl)

theorem finalB : (dats m 0 c).arrAt 12 cfg0.N = result1 m c :=
  (dats m 0 c).arrAt_eq_of_after_last 12 pt (by decide +kernel) (resR (given m c pt) 2048 (by omega)) (fun j => by
    rw [after0_12, outB]
    rfl)

theorem finalT : (dats m 0 c).arrAt 15 cfg0.N = result2 m c :=
  (dats m 0 c).arrAt_eq_of_after_last 15 pt (by decide +kernel) (resT (given m c pt)) (fun j => by
    rw [after0_15, outT]
    rfl)

/-! ## The point's values are the reference's -/

theorem ext_eq (b : Fin 128) (n : Fin 3072) (s : ℕ) : extV (given m c pt) b n s = extR (A0 m c) (A2 m c) b n s := by
  match s with
  | 0 => exact iblk_2_at m c pt 0 b n
  | 1 => exact iblk_2_at m c pt 1 b n
  | 2 => exact iblk_2_at m c pt 2 b n
  | 3 => exact X0_0_at m c pt 0 b n
  | 4 => exact X0_0_at m c pt 1 b n
  | 5 => exact X0_0_at m c pt 2 b n
  | _ + 6 => exact X0_0_at m c pt 3 b n

theorem conv_eq (b : Fin 128) (n : Fin 3072) (s : ℕ) : convV (given m c pt) b n s = convR (A0 m c) (A2 m c) (A3 m c) (A4 m c) b n s := by
  have h : ∀ j : Fin 4, (given m c pt).taps.val (ix2 j n) = A3 m c (ix3 0 j n) := fun j => iblk_3_at m c pt j n
  have h' : (given m c pt).bias.val (ix2 0 n) = A4 m c (ix2 0 n) := iblk_4_at m c pt n
  unfold convV convR
  simp only [ext_eq, h, h']

/-- The arguments the claimed results read are finite. -/
def Finite : Prop :=
  (∀ t b n, IsReal (A0 m c (ix3 t b n))) ∧ (∀ b t n, IsReal (A2 m c (ix4 0 b t n))) ∧ (∀ j n, IsReal (A3 m c (ix3 0 j n)))
    ∧ ∀ n, IsReal (A4 m c (ix2 0 n))

/-- What the precondition says. -/
theorem finite_of_pre (h : Cert.Pre_SsdPreIdeal_finite10 m) : Finite m c := by
  have h0 := congrFun (h c) (Shape.Idx.first Cert.Pre_finite10.Gen.h_S_)
  haveI : Subsingleton Cert.Pre_finite10.S_.Idx := ⟨fun a b => funext fun d => absurd d.isLt (Nat.not_lt_zero _)⟩
  obtain ⟨h123, h4⟩ := IntOp.andi_eq_one.1 h0
  obtain ⟨h12, h3⟩ := IntOp.andi_eq_one.1 h123
  obtain ⟨h1, h2⟩ := IntOp.andi_eq_one.1 h12
  exact ⟨fun t b n => isReal_of_all _ _ (fun _ => ofBits_inf) _ _ _ _ h1 (ix3 t b n),
    fun b t n => isReal_of_all _ _ (fun _ => ofBits_inf) _ _ _ _ h2 (ix4 0 b t n),
    fun j n => isReal_of_all _ _ (fun _ => ofBits_inf) _ _ _ _ h3 (ix3 0 j n),
    fun n => isReal_of_all _ _ (fun _ => ofBits_inf) _ _ _ _ h4 (ix2 0 n)⟩

theorem isReal_add {x y : EReal} : IsReal x → IsReal y → IsReal (x + y)
  | ⟨a, ha⟩, ⟨b, hb⟩ => ⟨a + b, by rw [ha, hb, EReal.coe_add]⟩

theorem isReal_ext (hf : Finite m c) (b : Fin 128) (n : Fin 3072) (s : ℕ) : IsReal (extR (A0 m c) (A2 m c) b n s) := by
  match s with
  | 0 => exact hf.2.1 b 0 n
  | 1 => exact hf.2.1 b 1 n
  | 2 => exact hf.2.1 b 2 n
  | 3 => exact hf.1 0 b _
  | 4 => exact hf.1 1 b _
  | 5 => exact hf.1 2 b _
  | _ + 6 => exact hf.1 3 b _

theorem isReal_conv (hf : Finite m c) (b : Fin 128) (n : Fin 3072) (s : ℕ) : IsReal (convR (A0 m c) (A2 m c) (A3 m c) (A4 m c) b n s) :=
  isReal_add (isReal_add (isReal_add (isReal_add (hf.2.2.2 n) ((isReal_ext m c hf b n s).mul (hf.2.2.1 0 n)))
    ((isReal_ext m c hf b n (s + 1)).mul (hf.2.2.1 1 n))) ((isReal_ext m c hf b n (s + 2)).mul (hf.2.2.1 2 n)))
    ((isReal_ext m c hf b n (s + 3)).mul (hf.2.2.1 3 n))

/-- The kernel's silu of its convolved input is the reference's. -/
theorem sil_conv (hf : Finite m c) (b : Fin 128) (n : Fin 3072) (s : ℕ) :
    sil (convV (given m c pt) b n s) = silR (convR (A0 m c) (A2 m c) (A3 m c) (A4 m c) b n s) := by
  rw [conv_eq]
  exact silu_eq (isReal_conv m c hf b n s)

theorem rows_eq (hf : Finite m c) (o : ℕ) (ho : o + 512 ≤ 3072) (b : Fin 128) (t : Fin 8) (j : Fin 512) :
    resR (given m c pt) o ho (ix3 b t j) = rowsR (A0 m c) (A2 m c) (A3 m c) (A4 m c) o ho b t j := by
  unfold rowsR
  rw [← sil_conv m c hf]
  rfl

end

/-- The kernel's three results are the reference's. -/
theorem algebraic : Cert.algebraic_SsdPreIdeal_SsdPreRefIdeal_pre_finite10 := by
  intro m ρ m' ρ' hpre hagree
  have hf := fun c => finite_of_pre m c hpre
  refine ⟨fun c => result0 m c, fun c => result1 m c, fun c => result2 m c,
    (θ_run _ _ _).mono (fun _ h c => ⟨(h c).2.2.1.trans (finalC m c), (h c).2.2.2.1.trans (finalB m c), (h c).2.2.2.2.2.2.1.trans (finalT m c),
      (h c).2.2.2.2.2.2.2⟩)
      (Cert.SsdPreIdeal.Value.run_blocks (F := Ideal) m ρ),
    (θ_run _ _ _).mono (fun _ h c => ⟨(h c).1.trans ?_, (h c).2.1.trans ?_, (h c).2.2.1.trans ?_, (h c).2.2.2⟩)
      (Cert.SsdPreRefIdeal.Value.run (F := Ideal) m' ρ')⟩
  all_goals
    have ha := hagree c
    obtain ⟨a0, -, a2, a3, a4, -⟩ := ha
  · rw [Cert.SsdPreRefIdeal.Read.val_main_v39_eq, a0, a2, a3, a4]
    funext j
    obtain ⟨b, t, i, rfl⟩ := Cert.SsdPreIdeal.Gen.Pre.eta3 (p := 128) (q := 8) (r := 512) j
    exact (v39_at _ _ _ _ b t i).trans (rows_eq m c (hf c) 2560 _ b t i).symm
  · rw [Cert.SsdPreRefIdeal.Read.val_main_v42_eq, a0, a2, a3, a4]
    funext j
    obtain ⟨b, t, i, rfl⟩ := Cert.SsdPreIdeal.Gen.Pre.eta3 (p := 128) (q := 8) (r := 512) j
    exact (v42_at _ _ _ _ b t i).trans (rows_eq m c (hf c) 2048 _ b t i).symm
  · rw [Cert.SsdPreRefIdeal.Read.val_main_v43_eq, a0, a2]
    funext j
    obtain ⟨t, b, n, rfl⟩ := Cert.SsdPreIdeal.Gen.Pre.eta3 (p := 3) (q := 128) (r := 3072) j
    refine (v43_at _ _ t b n).trans ?_
    refine Eq.trans ?_ (X0_0_at m c pt (Fin.succ (n := 3) t) b n).symm
    exact congrArg (fun k => A0 m c (ix3 k b (inCol n))) (Fin.ext (Nat.add_comm 1 t.val))

/-- The reference runs, leaves its arguments, and has no semaphore. -/
theorem frame_ref : Cert.quiescent_SsdPreRefIdeal := fun m ρ _ =>
  (θ_run Cert.SsdPreRefIdeal.defs _ _).mono (fun r h => ⟨fun c => (h c).2.2.2, sem_eq_zero_of_no_sems (by decide) r.2⟩)
    (Cert.SsdPreRefIdeal.Value.run (F := Ideal) m ρ)

end Cert.Proof.SsdPre

end
-- ==== Proof.SeqTail.lean ====
/-
  The two kernels that walk the prompt in blocks of 256 rows keep, in front of the block at hand, the last 16 rows of the block
  before. These lemmas read that buffer of 272 rows: 16 kept rows, then the 256 rows of the block.
-/
module

public import Idealize.ShloMosaic.Lib.Pipeline.FrameBody
public import Idealize.ShloMosaic.Lib.WholeRead
public import Idealize.ShloMosaic.Lib.Pointwise

@[expose] public section

noncomputable section

namespace Cert.Proof.SeqTail

open Idealize.ShloMosaic

variable {n : ℕ}

theorem eta2 {p q : ℕ} (j : (⟨2, ![p, q]⟩ : Shape).Idx) : ∃ (a : Fin p) (b : Fin q), j = ix2 a b :=
  ⟨j 0, j 1, funext fun a => match a with | ⟨0, _⟩ => rfl | ⟨1, _⟩ => rfl⟩

theorem eta3 {p q r : ℕ} (j : (⟨3, ![p, q, r]⟩ : Shape).Idx) : ∃ (a : Fin p) (b : Fin q) (d : Fin r), j = ix3 a b d :=
  ⟨j 0, j 1, j 2, funext fun a => match a with | ⟨0, _⟩ => rfl | ⟨1, _⟩ => rfl | ⟨2, _⟩ => rfl⟩

/-- After a store of the 16 rows in front, such a row holds what was stored. -/
theorem canon_front (inb) (w : (⟨2, ![16, n]⟩ : Shape).Idx → Elt Ideal .f32) (L : List (View.Piece (Elt Ideal) ⟨2, ![272, n]⟩ .f32)) (r : Fin 16) (q : Fin n) :
    View.canon (⟨Rect.unit (s := (⟨2, ![272, n]⟩ : Shape)) ![0, 0] ![16, n] inb, w⟩ :: L) (ix2 ⟨r.val, by have := r.isLt; omega⟩ q) = w (ix2 r q) := by
  have e : (ix2 ⟨r.val, by have := r.isLt; omega⟩ q : (⟨2, ![272, n]⟩ : Shape).Idx) = (Rect.unit (s := (⟨2, ![272, n]⟩ : Shape)) ![0, 0] ![16, n] inb).emb (ix2 r q) := by
    funext a; apply Fin.ext
    match a with
    | ⟨0, _⟩ => show r.val = 0 + 1 * r.val; omega
    | ⟨1, _⟩ => show q.val = 0 + 1 * q.val; omega
  rw [e]
  exact View.canon_cons_emb (Val := Elt Ideal) (Rect.unit (s := (⟨2, ![272, n]⟩ : Shape)) ![0, 0] ![16, n] inb) w L (ix2 r q)

/-- After a store of the block, row `16 + r` holds row `r` of what was stored. -/
theorem canon_block (inb) (w : (⟨2, ![256, n]⟩ : Shape).Idx → Elt Ideal .f32) (L : List (View.Piece (Elt Ideal) ⟨2, ![272, n]⟩ .f32)) (r : Fin 256) (q : Fin n) :
    View.canon (⟨Rect.unit (s := (⟨2, ![272, n]⟩ : Shape)) ![16, 0] ![256, n] inb, w⟩ :: L) (ix2 ⟨16 + r.val, by have := r.isLt; omega⟩ q) = w (ix2 r q) := by
  have e : (ix2 ⟨16 + r.val, by have := r.isLt; omega⟩ q : (⟨2, ![272, n]⟩ : Shape).Idx) = (Rect.unit (s := (⟨2, ![272, n]⟩ : Shape)) ![16, 0] ![256, n] inb).emb (ix2 r q) := by
    funext a; apply Fin.ext
    match a with
    | ⟨0, _⟩ => show 16 + r.val = 16 + 1 * r.val; omega
    | ⟨1, _⟩ => show q.val = 0 + 1 * q.val; omega
  rw [e]
  exact View.canon_cons_emb (Val := Elt Ideal) (Rect.unit (s := (⟨2, ![272, n]⟩ : Shape)) ![16, 0] ![256, n] inb) w L (ix2 r q)

/-- A store of the 3 rows of the output is all that the output holds. -/
theorem canon_tail (inb) (w : (⟨3, ![1, 3, n]⟩ : Shape).Idx → Elt Ideal .f32) (z : Fin 1) (k : Fin 3) (q : Fin n) :
    View.canon [⟨Rect.unit (s := (⟨3, ![1, 3, n]⟩ : Shape)) ![0, 0, 0] ![1, 3, n] inb, w⟩] (ix3 z k q) = w (ix3 z k q) := by
  have e : (ix3 z k q : (⟨3, ![1, 3, n]⟩ : Shape).Idx) = (Rect.unit (s := (⟨3, ![1, 3, n]⟩ : Shape)) ![0, 0, 0] ![1, 3, n] inb).emb (ix3 z k q) := by
    funext a; apply Fin.ext
    match a with
    | ⟨0, _⟩ => show z.val = 0 + 1 * z.val; omega
    | ⟨1, _⟩ => show k.val = 0 + 1 * k.val; omega
    | ⟨2, _⟩ => show q.val = 0 + 1 * q.val; omega
  refine (congrArg _ e).trans ?_
  exact View.canon_cons_emb (Val := Elt Ideal) (Rect.unit (s := (⟨3, ![1, 3, n]⟩ : Shape)) ![0, 0, 0] ![1, 3, n] inb) w [] (ix3 z k q)

variable {sig : RefSig} {κ : Kind} {sp : Space}

/-- Rows 13 to 15, loaded after the 16 rows in front were stored. -/
theorem load_front (v : View sig κ sp (⟨2, ![272, n]⟩ : Shape) .f32) (inb inb') (w : (⟨2, ![16, n]⟩ : Shape).Idx → Elt Ideal .f32)
    (L : List (View.Piece (Elt Ideal) ⟨2, ![272, n]⟩ .f32)) (k : Fin 3) (q : Fin n) :
    v.readCov (⟨Rect.unit (s := (⟨2, ![272, n]⟩ : Shape)) ![0, 0] ![16, n] inb, w⟩ :: L)
        (Rect.unit (s := (⟨2, ![272, n]⟩ : Shape)) ![13, 0] ![3, n] inb').toLoadRect (ix2 k q)
      = w (ix2 ⟨13 + k.val, by have := k.isLt; omega⟩ q) := by
  rw [View.readCov_eq_canon']
  refine (congrArg _ (?_ : _ = ix2 ⟨13 + k.val, by have := k.isLt; omega⟩ q)).trans (canon_front inb w L ⟨13 + k.val, by have := k.isLt; omega⟩ q)
  funext a; apply Fin.ext
  match a with
  | ⟨0, _⟩ => show 13 + 1 * k.val = 13 + k.val; omega
  | ⟨1, _⟩ => show 0 + 1 * q.val = q.val; omega

/-- The last 16 rows, loaded after the block was stored. -/
theorem load_last (v : View sig κ sp (⟨2, ![272, n]⟩ : Shape) .f32) (inb inb') (w : (⟨2, ![256, n]⟩ : Shape).Idx → Elt Ideal .f32)
    (L : List (View.Piece (Elt Ideal) ⟨2, ![272, n]⟩ .f32)) (r : Fin 16) (q : Fin n) :
    v.readCov (⟨Rect.unit (s := (⟨2, ![272, n]⟩ : Shape)) ![16, 0] ![256, n] inb, w⟩ :: L)
        (Rect.unit (s := (⟨2, ![272, n]⟩ : Shape)) ![256, 0] ![16, n] inb').toLoadRect (ix2 r q)
      = w (ix2 ⟨240 + r.val, by have := r.isLt; omega⟩ q) := by
  rw [View.readCov_eq_canon']
  refine (congrArg _ (?_ : _ = ix2 ⟨16 + (240 + r.val), by have := r.isLt; omega⟩ q)).trans (canon_block inb w L ⟨240 + r.val, by have := r.isLt; omega⟩ q)
  funext a; apply Fin.ext
  match a with
  | ⟨0, _⟩ => show 256 + 1 * r.val = 16 + (240 + r.val); omega
  | ⟨1, _⟩ => show 0 + 1 * q.val = q.val; omega

/-- The 16 rows in front, loaded from contents that are known. -/
theorem load_old (m : Memref sig κ sp (⟨2, ![272, n]⟩ : Shape) .f32) (h : m.IsWhole) (inb) (x : (⟨2, ![272, n]⟩ : Shape).Idx → Elt Ideal .f32) (r : Fin 16) (q : Fin n) :
    View.readAt (Elt Ideal) m.view (Rect.unit (s := (⟨2, ![272, n]⟩ : Shape)) ![0, 0] ![16, n] inb).toLoadRect (h.unread x) (ix2 r q)
      = x (ix2 ⟨r.val, by have := r.isLt; omega⟩ q) := by
  refine (h.readAt_unread x _ _).trans (congrArg x ?_)
  funext a; apply Fin.ext
  match a with
  | ⟨0, _⟩ => show 0 + 1 * r.val = r.val; omega
  | ⟨1, _⟩ => show 0 + 1 * q.val = q.val; omega

/-- A load of the whole block. -/
theorem load_block (m : Memref sig κ sp (⟨2, ![256, n]⟩ : Shape) .f32) (h : m.IsWhole) (inb) (x : (⟨2, ![256, n]⟩ : Shape).Idx → Elt Ideal .f32) (r : Fin 256) (q : Fin n) :
    View.readAt (Elt Ideal) m.view (Rect.unit (s := (⟨2, ![256, n]⟩ : Shape)) ![0, 0] ![256, n] inb).toLoadRect (h.unread x) (ix2 r q)
      = x (ix2 r q) := by
  refine (h.readAt_unread x _ _).trans (congrArg x ?_)
  funext a; apply Fin.ext
  match a with
  | ⟨0, _⟩ => show 0 + 1 * r.val = r.val; omega
  | ⟨1, _⟩ => show 0 + 1 * q.val = q.val; omega

end Cert.Proof.SeqTail

end
-- ==== Proof.LruSeq.lean ====
/-
  The prompt's RG-LRU kernel, for one of its three outputs: the convolution's past inputs at the end of each sequence.

  A point takes 256 rows of the projected columns, and keeps their last 16 for the point after it. The last 3 of these are written
  to the output at every point, and leave for HBM when a sequence ends. The grid has one point more than there are blocks, and there
  the rows kept before stand. So the output of a sequence is its last 3 rows, which is what the reference takes.
-/
module

public import proofs.«01_k».proof.Defs
public import proofs.«01_k».proof.Proof.Gen.LruSeqIdeal.Value
public import proofs.«01_k».proof.Proof.Gen.LruSeqRefIdeal.Run
public import proofs.«01_k».proof.Proof.Gen.LruSeqRefIdeal.Read
public import proofs.«01_k».proof.Proof.SeqTail
public import Idealize.ShloMosaic.Lib.Pointwise
public import Idealize.ShloMosaic.Lib.Pipeline.Value
public import Idealize.ShloMosaic.Lib.Quiescent

@[expose] public section

set_option maxRecDepth 16384

noncomputable section

namespace Cert.Proof.LruSeq

open Idealize.ShloMosaic Idealize.ShloMosaic.TcCoe Idealize.SL.Sem
open Cert.LruSeqIdeal Cert.LruSeqIdeal.Gen Cert.Proof.SeqTail

/-- The reference: the last 3 rows of each sequence, in the columns that the group reads. -/
theorem ref_at (a0 : Vec Ideal Cert.LruSeqRefIdeal.S8192x9216 .f32) (a2 : Vec Ideal Cert.LruSeqRefIdeal.S1x3x2048 .f32) (b : Fin 4) (k : Fin 3) (q : Fin 2048) :
    Cert.LruSeqRefIdeal.Read.val_main_v4 (F := Ideal) a0 a2 (ix3 b k q)
      = a0 (ix2 ⟨2048 * b.val + (2045 + k.val), by have := b.isLt; have := k.isLt; omega⟩ ⟨2048 + q.val, by have := q.isLt; omega⟩) := by
  unfold Cert.LruSeqRefIdeal.Read.val_main_v4 Cert.LruSeqRefIdeal.Read.val_main_v3 Cert.LruSeqRefIdeal.Read.val_main_v2
    Cert.LruSeqRefIdeal.Read.val_main_v1 Cert.LruSeqRefIdeal.Read.val_main_v0
  pointwise
  rw [dif_neg (by omega)]
  refine congrArg a0 ?_
  funext a; apply Fin.ext
  match a with
  | ⟨0, _⟩ => show b.val * 2048 + (2048 + k.val - 3) = 2048 * b.val + (2045 + k.val); omega
  | ⟨1, _⟩ => rfl

theorem places : ∀ t : Fin cfg0.N, win0_1.index t = ![min t.val 31, 1] ∧ win0_15.index t = ![min (t.val / 8) 3, 0, 0] :=
  (by decide +kernel : ∀ t : Fin grid0.N, _)

theorem flushes : ∀ t : Fin cfg0.N, (cfg0.win 15).flush t = true ↔ (t.val = 7 ∨ t.val = 15 ∨ t.val = 23 ∨ t.val = 32) :=
  (by decide +kernel : ∀ t : Fin grid0.N, _)

theorem live_at : ∀ t : Fin cfg0.N, Scalar.cmpi .slt (BitVec.ofNat 32 ((grid0.coords t) 0).val) (32#32) = (if t.val < 32 then 1#1 else 0#1) :=
  (by decide +kernel : ∀ t : Fin grid0.N, _)

theorem pay2_live (a b : Vec Ideal S16x2048 .f32) : k0_pay2 (F := Ideal) 1#1 a b = a := by
  unfold k0_pay2
  funext j
  obtain ⟨r, q, rfl⟩ : ∃ (r : Fin 16) (q : Fin 2048), j = ix2 r q := ⟨j 0, j 1, funext fun a => match a with | ⟨0, _⟩ => rfl | ⟨1, _⟩ => rfl⟩
  pointwise

theorem pay2_idle (a b : Vec Ideal S16x2048 .f32) : k0_pay2 (F := Ideal) 0#1 a b = b := by
  unfold k0_pay2
  funext j
  obtain ⟨r, q, rfl⟩ : ∃ (r : Fin 16) (q : Fin 2048), j = ix2 r q := ⟨j 0, j 1, funext fun a => match a with | ⟨0, _⟩ => rfl | ⟨1, _⟩ => rfl⟩
  pointwise

theorem pay4_at (v : Vec Ideal S3x2048 .f32) (z : Fin 1) (k : Fin 3) (q : Fin 2048) : k0_pay4 (F := Ideal) v (ix3 z k q) = v (ix2 k q) := by
  unfold k0_pay4
  pointwise

theorem pay8_eq (v : Vec Ideal S256x2048 .f32) : k0_pay8 (F := Ideal) v = v := by
  unfold k0_pay8
  funext j
  obtain ⟨r, q, rfl⟩ : ∃ (r : Fin 256) (q : Fin 2048), j = ix2 r q := ⟨j 0, j 1, funext fun a => match a with | ⟨0, _⟩ => rfl | ⟨1, _⟩ => rfl⟩
  pointwise

section
variable (c : Dev nD) (i : grid0.Coords) (arg2 : Memref sig .tc .vmem S256x2048 .f32) (harg2 : arg2.IsWhole)
    (arg17 : Memref sig .tc .vmem S272x2048 .f32) (harg17 : arg17.IsWhole) (x1 : Vec Ideal S256x2048 .f32) (xs0 : Vec Ideal S272x2048 .f32)

/-- The rows kept for the next block: the last 16 of this one at a live point, -/
theorem kept_live (hl : kernelRun0_B.sl.v0 i = 1#1) (r : Fin 16) (q : Fin 2048) :
    k0_pay2 (F := Ideal) (kernelRun0_B.sl.v0 i) (kernelRun0_B.sl.v8347 c arg2 harg2 arg17 x1) (kernelRun0_B.sl.v8348 c arg17 harg17 xs0) (ix2 r q)
      = x1 (ix2 ⟨240 + r.val, by have := r.isLt; omega⟩ q) := by
  rw [hl, pay2_live]
  unfold kernelRun0_B.sl.v8347 kernelRun0_B.sl.HS0_1
  refine (load_last _ _ _ _ _ r q).trans ?_
  rw [pay8_eq]
  exact load_block arg2 harg2 _ x1 _ q

/-- those kept already at a point that is not. -/
theorem kept_idle (hl : kernelRun0_B.sl.v0 i = 0#1) (r : Fin 16) (q : Fin 2048) :
    k0_pay2 (F := Ideal) (kernelRun0_B.sl.v0 i) (kernelRun0_B.sl.v8347 c arg2 harg2 arg17 x1) (kernelRun0_B.sl.v8348 c arg17 harg17 xs0) (ix2 r q)
      = xs0 (ix2 ⟨r.val, by have := r.isLt; omega⟩ q) := by
  rw [hl, pay2_idle]
  exact load_old arg17 harg17 _ xs0 r q

/-- What is written out as the convolution's past: the last 3 of the kept rows. -/
theorem tail_of (z : Fin 1) (k : Fin 3) (q : Fin 2048) :
    k0_pay4 (F := Ideal) (kernelRun0_B.sl.v8357 c i arg2 harg2 arg17 harg17 x1 xs0) (ix3 z k q)
      = k0_pay2 (F := Ideal) (kernelRun0_B.sl.v0 i) (kernelRun0_B.sl.v8347 c arg2 harg2 arg17 x1) (kernelRun0_B.sl.v8348 c arg17 harg17 xs0)
          (ix2 ⟨13 + k.val, by have := k.isLt; omega⟩ q) := by
  rw [pay4_at]
  exact load_front _ _ _ _ _ k q
end

section
variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S4x2048 .f32) (harg3 : arg3.IsWhole) (arg4 : Memref sig .tc .vmem S1x2048 .f32) (harg4 : arg4.IsWhole) (arg5 : Memref sig .tc .vmem S16x128x128 .bf16) (harg5 : arg5.IsWhole) (arg6 : Memref sig .tc .vmem S16x128x128 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S16x2048 .f32) (harg12 : arg12.IsWhole) (arg13 : Memref sig .tc .vmem S2048x2048 .bf16) (harg13 : arg13.IsWhole) (arg14 : Memref sig .tc .vmem S256x2048 .f32) (harg14 : arg14.IsWhole) (arg15 : Memref sig .tc .vmem S1x1x2048 .f32) (harg15 : arg15.IsWhole) (arg16 : Memref sig .tc .vmem S1x3x2048 .f32) (harg16 : arg16.IsWhole) (arg17 : Memref sig .tc .vmem S272x2048 .f32) (harg17 : arg17.IsWhole) (arg18 : Memref sig .tc .vmem S1x2048 .f32) (harg18 : arg18.IsWhole) (arg19 : Memref sig .tc .vmem S256x2048 .f32) (harg19 : arg19.IsWhole) (arg20 : Memref sig .tc .vmem S2x136x128 .f32) (harg20 : arg20.IsWhole) (arg21 : Memref sig .tc .vmem S256x2048 .bf16) (harg21 : arg21.IsWhole) (hc0 : ¬cond0_0 i) (hc1 : ¬cond0_1 i)
    (x0 : Vec Ideal S256x2048 .f32) (x1 : Vec Ideal S256x2048 .f32) (x2 : Vec Ideal S4x2048 .f32) (x3 : Vec Ideal S1x2048 .f32) (x4 : Vec Ideal S16x128x128 .bf16) (x5 : Vec Ideal S16x128x128 .bf16) (x6 : Vec Ideal S1x2048 .f32) (x7 : Vec Ideal S1x2048 .f32) (x8 : Vec Ideal S1x2048 .f32) (x9 : Vec Ideal S1x2048 .f32) (x10 : Vec Ideal S1x2048 .f32) (x11 : Vec Ideal S16x2048 .f32) (x12 : Vec Ideal S2048x2048 .bf16) (xs0 : Vec Ideal S272x2048 .f32) (xs1 : Vec Ideal S1x2048 .f32) (xs4 : Vec Ideal S256x2048 .bf16)

/-- What the body stores in the output of the convolution's past. -/
theorem pieces_tail : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 xs0 xs1 xs4).2.2.1
    = [⟨Rect.unit (s := S1x3x2048) ![0, 0, 0] ![1, 3, 2048] inb_S1x3x2048_S1x3x2048_0_0_0, k0_pay4 (kernelRun0_B.sl.v8357 c i arg2 harg2 arg17 harg17 x1 xs0)⟩] := by
  sl_kernel_rfl

/-- What the body stores in the buffer of the kept rows and the block. -/
theorem pieces_kept : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 xs0 xs1 xs4).2.2.2.1
    = ⟨Rect.unit (s := S272x2048) ![0, 0] ![16, 2048] inb_S272x2048_S16x2048_0_0,
        k0_pay2 (F := Ideal) (kernelRun0_B.sl.v0 i) (kernelRun0_B.sl.v8347 c arg2 harg2 arg17 x1) (kernelRun0_B.sl.v8348 c arg17 harg17 xs0)⟩
      :: kernelRun0_B.sl.HS0_1 c arg2 harg2 x1 := by
  sl_kernel_rfl

/-- So the output holds the last 3 of the kept rows, -/
theorem out_tail (z : Fin 1) (k : Fin 3) (q : Fin 2048) : (out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 xs0 xs1 xs4 : S1x3x2048.Idx → EReal) (ix3 z k q)
    = k0_pay2 (F := Ideal) (kernelRun0_B.sl.v0 i) (kernelRun0_B.sl.v8347 c arg2 harg2 arg17 x1) (kernelRun0_B.sl.v8348 c arg17 harg17 xs0)
        (ix2 ⟨13 + k.val, by have := k.isLt; omega⟩ q) := by
  unfold out0_B_15
  rw [View.read_writes_junk_eq_canon, pieces_tail]
  exact (canon_tail _ _ z k q).trans (tail_of c i arg2 harg2 arg17 harg17 x1 xs0 z k q)

/-- and the buffer has the kept rows in front. -/
theorem out_kept (r : Fin 16) (q : Fin 2048) : (sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 xs0 xs1 xs4 : S272x2048.Idx → EReal) (ix2 ⟨r.val, by have := r.isLt; omega⟩ q)
    = k0_pay2 (F := Ideal) (kernelRun0_B.sl.v0 i) (kernelRun0_B.sl.v8347 c arg2 harg2 arg17 x1) (kernelRun0_B.sl.v8348 c arg17 harg17 xs0) (ix2 r q) := by
  unfold sout0_B_0
  rw [View.read_writes_junk_eq_canon, pieces_kept]
  exact canon_front _ _ _ r q
end

variable (m : (ℓ : Loc nD τ sig) → Buf (Elt Ideal) ℓ) (c : Dev nD)

/-- The projected columns. -/
abbrev A0 : Vec Ideal S8192x9216 .f32 := m ((c.tc : Thread nD τ).loc main_arg0)

theorem X0_1_at (t : Fin cfg0.N) (r : Fin 256) (q : Fin 2048) :
    (X0_1 m c t : S256x2048.Idx → EReal) (ix2 r q)
      = A0 m c (ix2 ⟨256 * min t.val 31 + r.val, by have := r.isLt; omega⟩ ⟨2048 + q.val, by have := q.isLt; omega⟩) := by
  unfold X0_1 Pipeline.Window.fill
  rw [dif_pos (moved0_1 t _)]
  show V m c main_arg0 (((cfg0.win 1).blk t).view.emb _) = _
  rw [V_main_arg0]
  refine congrArg (A0 m c) (funext fun a => Fin.ext ?_)
  match a with
  | ⟨0, _⟩ =>
    show win0_1.index t (0 : Fin 2) * 256 + 1 * r.val = 256 * min t.val 31 + r.val
    rw [congrFun (places t).1 0]
    show min t.val 31 * 256 + 1 * r.val = _
    omega
  | ⟨1, _⟩ =>
    show win0_1.index t (1 : Fin 2) * 2048 + 1 * q.val = 2048 + q.val
    rw [congrFun (places t).1 1]
    show 1 * 2048 + 1 * q.val = _
    omega

theorem lt_N (t : Fin cfg0.N) : t.val < 33 := lt_of_lt_of_eq t.isLt N_0

theorem point_of {n : ℕ} (h : n < 33) : n < cfg0.N := lt_of_lt_of_eq h N_0.symm

/-- The output after a point with a block that does not open a sequence: the last 3 rows of the block. -/
theorem tail_live (t : Fin cfg0.N) (h0 : ¬(t.val % 33 = 0 ∨ t.val % 33 = 8 ∨ t.val % 33 = 16 ∨ t.val % 33 = 24)) (h1 : ¬t.val % 33 = 0) (h : t.val < 32)
    (z : Fin 1) (k : Fin 3) (q : Fin 2048) :
    ((outsAt0 m c t.val t.isLt).2.2.1 : S1x3x2048.Idx → EReal) (ix3 z k q)
      = A0 m c (ix2 ⟨256 * min t.val 31 + (253 + k.val), by have := k.isLt; omega⟩ ⟨2048 + q.val, by have := q.isLt; omega⟩) := by
  have k3 := k.isLt
  rw [outsAt0_B m c t h0 h1]
  dsimp only
  rw [out_tail, kept_live _ _ _ _ _ _ _ _ ((live_at t).trans (if_pos h)), X0_1_at]
  refine congrArg (A0 m c) ?_
  funext a; apply Fin.ext
  match a with
  | ⟨0, _⟩ => show 256 * min t.val 31 + (240 + (13 + k.val)) = 256 * min t.val 31 + (253 + k.val); omega
  | ⟨1, _⟩ => rfl

/-- The kept rows after such a point: the last 16 of the block. -/
theorem front_live (t : Fin cfg0.N) (h0 : ¬(t.val % 33 = 0 ∨ t.val % 33 = 8 ∨ t.val % 33 = 16 ∨ t.val % 33 = 24)) (h1 : ¬t.val % 33 = 0) (h : t.val < 32)
    (r : Fin 16) (q : Fin 2048) :
    ((outsAt0 m c t.val t.isLt).2.2.2.1 : S272x2048.Idx → EReal) (ix2 ⟨r.val, by have := r.isLt; omega⟩ q)
      = A0 m c (ix2 ⟨256 * min t.val 31 + (240 + r.val), by have := r.isLt; omega⟩ ⟨2048 + q.val, by have := q.isLt; omega⟩) := by
  rw [outsAt0_B m c t h0 h1]
  dsimp only
  rw [out_kept, kept_live _ _ _ _ _ _ _ _ ((live_at t).trans (if_pos h)), X0_1_at]

/-- The same, at a number that is such a point's. -/
theorem front_at (t : Fin cfg0.N) (h0 : ¬(t.val % 33 = 0 ∨ t.val % 33 = 8 ∨ t.val % 33 = 16 ∨ t.val % 33 = 24)) (h1 : ¬t.val % 33 = 0) (h : t.val < 32)
    (n : ℕ) (hn : n < cfg0.N) (e : t.val = n) (r : Fin 16) (q : Fin 2048) :
    ((outsAt0 m c n hn).2.2.2.1 : S272x2048.Idx → EReal) (ix2 ⟨r.val, by have := r.isLt; omega⟩ q)
      = A0 m c (ix2 ⟨256 * min t.val 31 + (240 + r.val), by have := r.isLt; omega⟩ ⟨2048 + q.val, by have := q.isLt; omega⟩) := by
  subst e
  exact front_live m c t h0 h1 h r q

/-- A point with no block of its own writes the rows kept by the point before. -/
theorem tail_idle (t : Fin cfg0.N) (h0 : ¬(t.val % 33 = 0 ∨ t.val % 33 = 8 ∨ t.val % 33 = 16 ∨ t.val % 33 = 24)) (h1 : ¬t.val % 33 = 0) (h : ¬t.val < 32)
    (z : Fin 1) (k : Fin 3) (q : Fin 2048) :
    ((outsAt0 m c t.val t.isLt).2.2.1 : S1x3x2048.Idx → EReal) (ix3 z k q)
      = ((outsAt0 m c (t.val - 1) (lt_of_le_of_lt (Nat.sub_le _ _) t.isLt)).2.2.2.1 : S272x2048.Idx → EReal) (ix2 ⟨13 + k.val, by have := k.isLt; omega⟩ q) := by
  have k3 := k.isLt
  rw [outsAt0_B m c t h0 h1]
  dsimp only
  rw [out_tail, kept_idle _ _ _ _ _ _ _ _ ((live_at t).trans (if_neg h))]

/-- The last point does. -/
theorem tail_last (t : Fin cfg0.N) (h : t.val = 32) (z : Fin 1) (k : Fin 3) (q : Fin 2048) :
    ((outsAt0 m c t.val t.isLt).2.2.1 : S1x3x2048.Idx → EReal) (ix3 z k q)
      = A0 m c (ix2 ⟨256 * min t.val 31 + (253 + k.val), by have := k.isLt; omega⟩ ⟨2048 + q.val, by have := q.isLt; omega⟩) := by
  have k3 := k.isLt
  refine (tail_idle m c t (by omega) (by omega) (by omega) z k q).trans ?_
  obtain ⟨p, hp⟩ : ∃ p : Fin cfg0.N, p.val = 31 := ⟨⟨31, point_of (by decide)⟩, rfl⟩
  refine (front_at m c p (by omega) (by omega) (by omega) (t.val - 1) _ (by omega) ⟨13 + k.val, by omega⟩ q).trans ?_
  refine congrArg (A0 m c) ?_
  funext a; apply Fin.ext
  match a with
  | ⟨0, _⟩ => show 256 * min p.val 31 + (240 + (13 + k.val)) = 256 * min t.val 31 + (253 + k.val); omega
  | ⟨1, _⟩ => rfl

/-- What the output ends as. -/
def result : Vec Ideal S4x3x2048 .f32 := fun j =>
  A0 m c (ix2 ⟨2048 * (j 0).val + (2045 + (j 1).val), by
      have h0 : (j 0).val < 4 := (j 0).isLt
      have h1 : (j 1).val < 3 := (j 1).isLt
      omega⟩ ⟨2048 + (j 2).val, by
      have h2 : (j 2).val < 2048 := (j 2).isLt
      omega⟩)

theorem flushed_15 (t : Fin cfg0.N) (hf : (cfg0.win 15).flush t = true) :
    (dats m 0 c).flushed 15 t = ((cfg0.win 15).blk t).view.read (Elt Ideal) (result m c) := by
  have ht := (flushes t).mp hf
  rw [Value.flushed15]
  funext j
  obtain ⟨z, k, q, ej⟩ := eta3 (p := 1) (q := 3) (r := 2048) j
  have hz : z.val = 0 := by have := z.isLt; omega
  have hq : min (t.val / 8) 3 < 4 := by omega
  have e : ((cfg0.win 15).blk t).view.emb (ix3 z k q) = (ix3 ⟨min (t.val / 8) 3, hq⟩ k q : S4x3x2048.Idx) := by
    have p := (places t).2
    funext a; apply Fin.ext
    match a with
    | ⟨0, _⟩ => show win0_15.index t (0 : Fin 3) * 1 + 1 * z.val = min (t.val / 8) 3; rw [congrFun p 0]; show min (t.val / 8) 3 * 1 + 1 * z.val = _; omega
    | ⟨1, _⟩ => show win0_15.index t (1 : Fin 3) * 3 + 1 * k.val = k.val; rw [congrFun p 1]; show 0 * 3 + 1 * k.val = _; omega
    | ⟨2, _⟩ => show win0_15.index t (2 : Fin 3) * 2048 + 1 * q.val = q.val; rw [congrFun p 2]; show 0 * 2048 + 1 * q.val = _; omega
  have key : ((outsAt0 m c t.val t.isLt).2.2.1 : S1x3x2048.Idx → EReal) (ix3 z k q) = result m c (((cfg0.win 15).blk t).view.emb (ix3 z k q)) := by
    rw [e]
    have at_ : ((outsAt0 m c t.val t.isLt).2.2.1 : S1x3x2048.Idx → EReal) (ix3 z k q)
        = A0 m c (ix2 ⟨256 * min t.val 31 + (253 + k.val), by have := k.isLt; omega⟩ ⟨2048 + q.val, by have := q.isLt; omega⟩) := by
      by_cases h : t.val < 32
      · exact tail_live m c t (by omega) (by omega) h z k q
      · exact tail_last m c t (by omega) z k q
    refine at_.trans (congrArg (A0 m c) ?_)
    funext a; apply Fin.ext
    match a with
    | ⟨0, _⟩ => show 256 * min t.val 31 + (253 + k.val) = 2048 * min (t.val / 8) 3 + (2045 + k.val); omega
    | ⟨1, _⟩ => rfl
  show ((outsAt0 m c t.val t.isLt).2.2.1 : S1x3x2048.Idx → EReal) j = result m c (((cfg0.win 15).blk t).view.emb j)
  rw [ej]
  exact key

theorem final : (dats m 0 c).arrAt 15 cfg0.N = result m c := by
  refine (dats m 0 c).arrAt_eq_of_cover 15 _ (fun t ht => flushed_15 m c t ht) fun i => ?_
  have h0 : (i 0).val < 4 := (i 0).isLt
  have h1 : (i 1).val < 3 := (i 1).isLt
  have h2 : (i 2).val < 2048 := (i 2).isLt
  obtain ⟨t, ht, hb⟩ : ∃ t : Fin cfg0.N, (t.val = 7 ∨ t.val = 15 ∨ t.val = 23 ∨ t.val = 32) ∧ min (t.val / 8) 3 = (i 0).val := by
    by_cases h : (i 0).val = 3
    · exact ⟨⟨32, point_of (by decide)⟩, Or.inr (Or.inr (Or.inr rfl)), by show min (32 / 8) 3 = _; omega⟩
    · exact ⟨⟨8 * (i 0).val + 7, point_of (by omega)⟩, by show 8 * (i 0).val + 7 = 7 ∨ 8 * (i 0).val + 7 = 15 ∨ 8 * (i 0).val + 7 = 23 ∨ 8 * (i 0).val + 7 = 32; omega,
        by show min ((8 * (i 0).val + 7) / 8) 3 = _; omega⟩
  refine ⟨t, (flushes t).mpr ht, ?_⟩
  show i ∈ ((View.whole main_v29_2).slice (win0_15.rect t)).set
  rw [View.set_slice_whole, Rect.mem_set_unit]
  intro a
  have p := (places t).2
  match a with
  | ⟨0, _⟩ =>
    show win0_15.index t (0 : Fin 3) * 1 ≤ (i 0).val ∧ (i 0).val < win0_15.index t (0 : Fin 3) * 1 + 1
    rw [congrFun p 0]
    show min (t.val / 8) 3 * 1 ≤ (i 0).val ∧ (i 0).val < min (t.val / 8) 3 * 1 + 1
    omega
  | ⟨1, _⟩ =>
    show win0_15.index t (1 : Fin 3) * 3 ≤ (i 1).val ∧ (i 1).val < win0_15.index t (1 : Fin 3) * 3 + 3
    rw [congrFun p 1]
    show 0 * 3 ≤ (i 1).val ∧ (i 1).val < 0 * 3 + 3
    omega
  | ⟨2, _⟩ =>
    show win0_15.index t (2 : Fin 3) * 2048 ≤ (i 2).val ∧ (i 2).val < win0_15.index t (2 : Fin 3) * 2048 + 2048
    rw [congrFun p 2]
    show 0 * 2048 ≤ (i 2).val ∧ (i 2).val < 0 * 2048 + 2048
    omega

theorem algebraic : Cert.algebraic_LruSeqIdeal_LruSeqRefIdeal := by
  intro m ρ m' ρ' _ hagree
  refine ⟨fun c => result m c, (θ_run _ _ _).mono (fun _ h c => ⟨(h c).2.2.1.trans (final m c), (h c).2.2.2⟩) (Cert.LruSeqIdeal.Value.run_blocks (F := Ideal) m ρ),
    (θ_run _ _ _).mono (fun _ h c => ⟨(h c).1.trans ?_, (h c).2⟩) (Cert.LruSeqRefIdeal.Value.run (F := Ideal) m' ρ')⟩
  have ha := hagree c
  obtain ⟨a0, -, a2, -⟩ := ha
  rw [Cert.LruSeqRefIdeal.Read.val_main_v4_eq, a0, a2]
  funext j
  obtain ⟨b, k, q, rfl⟩ := eta3 (p := 4) (q := 3) (r := 2048) j
  exact ref_at _ _ b k q

/-- The reference runs to the end and leaves no semaphore raised. -/
theorem frame_ref : Cert.quiescent_LruSeqRefIdeal := fun m ρ _ =>
  (θ_run Cert.LruSeqRefIdeal.defs _ _).mono (fun r h => ⟨fun c => (h c).2, sem_eq_zero_of_no_sems (by decide) r.2⟩)
    (Cert.LruSeqRefIdeal.Value.run (F := Ideal) m ρ)

end Cert.Proof.LruSeq

end
-- ==== Proof.SsdSeq.lean ====
/-
  The prompt's SSD kernel, for one of its three outputs: the convolution's past inputs at the end of each sequence.

  A point takes 256 rows of the projected columns, and keeps their last 16 for the point after it. The last 3 of these are written
  to the output at every point, and leave for HBM when a sequence ends. The grid has one point more than there are blocks, and there
  the rows kept before stand. So the output of a sequence is its last 3 rows, which is what the reference takes.
-/
module

public import proofs.«01_k».proof.Defs
public import proofs.«01_k».proof.Proof.Gen.SsdSeqIdeal.Value
public import proofs.«01_k».proof.Proof.Gen.SsdSeqRefIdeal.Run
public import proofs.«01_k».proof.Proof.Gen.SsdSeqRefIdeal.Read
public import proofs.«01_k».proof.Proof.SeqTail
public import Idealize.ShloMosaic.Lib.Pointwise
public import Idealize.ShloMosaic.Lib.Pipeline.Value
public import Idealize.ShloMosaic.Lib.Quiescent

@[expose] public section

set_option maxRecDepth 16384

noncomputable section

namespace Cert.Proof.SsdSeq

open Idealize.ShloMosaic Idealize.ShloMosaic.TcCoe Idealize.SL.Sem
open Cert.SsdSeqIdeal Cert.SsdSeqIdeal.Gen Cert.Proof.SeqTail

/-- The reference: the last 3 rows of each sequence, in the columns that the group reads. -/
theorem ref_at (a0 : Vec Ideal Cert.SsdSeqRefIdeal.S8192x9216 .f32) (a3 : Vec Ideal Cert.SsdSeqRefIdeal.S1x3x3072 .f32) (b : Fin 4) (k : Fin 3) (q : Fin 3072) :
    Cert.SsdSeqRefIdeal.Read.val_main_v4 (F := Ideal) a0 a3 (ix3 b k q)
      = a0 (ix2 ⟨2048 * b.val + (2045 + k.val), by have := b.isLt; have := k.isLt; omega⟩ ⟨6144 + q.val, by have := q.isLt; omega⟩) := by
  unfold Cert.SsdSeqRefIdeal.Read.val_main_v4 Cert.SsdSeqRefIdeal.Read.val_main_v3 Cert.SsdSeqRefIdeal.Read.val_main_v2
    Cert.SsdSeqRefIdeal.Read.val_main_v1 Cert.SsdSeqRefIdeal.Read.val_main_v0
  pointwise
  rw [dif_neg (by omega)]
  refine congrArg a0 ?_
  funext a; apply Fin.ext
  match a with
  | ⟨0, _⟩ => show b.val * 2048 + (2048 + k.val - 3) = 2048 * b.val + (2045 + k.val); omega
  | ⟨1, _⟩ => rfl

theorem places : ∀ t : Fin cfg0.N, win0_1.index t = ![min t.val 31, 2] ∧ win0_17.index t = ![min (t.val / 8) 3, 0, 0] :=
  (by decide +kernel : ∀ t : Fin grid0.N, _)

theorem flushes : ∀ t : Fin cfg0.N, (cfg0.win 17).flush t = true ↔ (t.val = 7 ∨ t.val = 15 ∨ t.val = 23 ∨ t.val = 32) :=
  (by decide +kernel : ∀ t : Fin grid0.N, _)

theorem live_at : ∀ t : Fin cfg0.N, Scalar.cmpi .slt (BitVec.ofNat 32 ((grid0.coords t) 0).val) (32#32) = (if t.val < 32 then 1#1 else 0#1) :=
  (by decide +kernel : ∀ t : Fin grid0.N, _)

theorem pay488_live (a b : Vec Ideal S16x3072 .f32) : k0_pay488 (F := Ideal) 1#1 a b = a := by
  unfold k0_pay488
  funext j
  obtain ⟨r, q, rfl⟩ : ∃ (r : Fin 16) (q : Fin 3072), j = ix2 r q := ⟨j 0, j 1, funext fun a => match a with | ⟨0, _⟩ => rfl | ⟨1, _⟩ => rfl⟩
  pointwise

theorem pay488_idle (a b : Vec Ideal S16x3072 .f32) : k0_pay488 (F := Ideal) 0#1 a b = b := by
  unfold k0_pay488
  funext j
  obtain ⟨r, q, rfl⟩ : ∃ (r : Fin 16) (q : Fin 3072), j = ix2 r q := ⟨j 0, j 1, funext fun a => match a with | ⟨0, _⟩ => rfl | ⟨1, _⟩ => rfl⟩
  pointwise

theorem pay2_at (v : Vec Ideal S3x3072 .f32) (z : Fin 1) (k : Fin 3) (q : Fin 3072) : k0_pay2 (F := Ideal) v (ix3 z k q) = v (ix2 k q) := by
  unfold k0_pay2
  pointwise

theorem pay6_eq (v : Vec Ideal S256x3072 .f32) : k0_pay6 (F := Ideal) v = v := by
  unfold k0_pay6
  funext j
  obtain ⟨r, q, rfl⟩ : ∃ (r : Fin 256) (q : Fin 3072), j = ix2 r q := ⟨j 0, j 1, funext fun a => match a with | ⟨0, _⟩ => rfl | ⟨1, _⟩ => rfl⟩
  pointwise

section
variable (c : Dev nD) (i : grid0.Coords) (arg2 : Memref sig .tc .vmem S256x3072 .f32) (harg2 : arg2.IsWhole)
    (arg19 : Memref sig .tc .vmem S272x3072 .f32) (harg19 : arg19.IsWhole) (x1 : Vec Ideal S256x3072 .f32) (xs0 : Vec Ideal S272x3072 .f32)

/-- The rows kept for the next block: the last 16 of this one at a live point, -/
theorem kept_live (hl : kernelRun0_B.sl.v0 i = 1#1) (r : Fin 16) (q : Fin 3072) :
    k0_pay488 (F := Ideal) (kernelRun0_B.sl.v0 i) (kernelRun0_B.sl.v4985 c arg2 harg2 arg19 x1) (kernelRun0_B.sl.v4986 c arg19 harg19 xs0) (ix2 r q)
      = x1 (ix2 ⟨240 + r.val, by have := r.isLt; omega⟩ q) := by
  rw [hl, pay488_live]
  unfold kernelRun0_B.sl.v4985 kernelRun0_B.sl.HS0_1
  refine (load_last _ _ _ _ _ r q).trans ?_
  rw [pay6_eq]
  exact load_block arg2 harg2 _ x1 _ q

/-- those kept already at a point that is not. -/
theorem kept_idle (hl : kernelRun0_B.sl.v0 i = 0#1) (r : Fin 16) (q : Fin 3072) :
    k0_pay488 (F := Ideal) (kernelRun0_B.sl.v0 i) (kernelRun0_B.sl.v4985 c arg2 harg2 arg19 x1) (kernelRun0_B.sl.v4986 c arg19 harg19 xs0) (ix2 r q)
      = xs0 (ix2 ⟨r.val, by have := r.isLt; omega⟩ q) := by
  rw [hl, pay488_idle]
  exact load_old arg19 harg19 _ xs0 r q

/-- What is written out as the convolution's past: the last 3 of the kept rows. -/
theorem tail_of (z : Fin 1) (k : Fin 3) (q : Fin 3072) :
    k0_pay2 (F := Ideal) (kernelRun0_B.sl.v4995 c i arg2 harg2 arg19 harg19 x1 xs0) (ix3 z k q)
      = k0_pay488 (F := Ideal) (kernelRun0_B.sl.v0 i) (kernelRun0_B.sl.v4985 c arg2 harg2 arg19 x1) (kernelRun0_B.sl.v4986 c arg19 harg19 xs0)
          (ix2 ⟨13 + k.val, by have := k.isLt; omega⟩ q) := by
  rw [pay2_at]
  exact load_front _ _ _ _ _ k q
end

section
variable (c : Dev nD) (i : grid0.Coords) (arg1 : Memref sig .tc .vmem S256x2048 .f32) (harg1 : arg1.IsWhole) (arg2 : Memref sig .tc .vmem S256x3072 .f32) (harg2 : arg2.IsWhole) (arg3 : Memref sig .tc .vmem S256x128 .f32) (harg3 : arg3.IsWhole) (arg4 : Memref sig .tc .vmem S4x3072 .f32) (harg4 : arg4.IsWhole) (arg5 : Memref sig .tc .vmem S1x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S384x2048 .bf16) (harg10 : arg10.IsWhole) (arg11 : Memref sig .tc .vmem S128x2048 .f32) (harg11 : arg11.IsWhole) (arg12 : Memref sig .tc .vmem S16x3072 .f32) (harg12 : arg12.IsWhole) (arg13 : Memref sig .tc .vmem S2048x2048 .bf16) (harg13 : arg13.IsWhole) (arg14 : Memref sig .tc .vmem S256x2048 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S1x128x2048 .f32) (harg17 : arg17.IsWhole) (arg18 : Memref sig .tc .vmem S1x3x3072 .f32) (harg18 : arg18.IsWhole) (arg19 : Memref sig .tc .vmem S272x3072 .f32) (harg19 : arg19.IsWhole) (arg20 : Memref sig .tc .vmem S256x3072 .f32) (harg20 : arg20.IsWhole) (arg21 : Memref sig .tc .vmem S264x2048 .f32) (harg21 : arg21.IsWhole) (arg22 : Memref sig .tc .vmem S256x2048 .f32) (harg22 : arg22.IsWhole) (arg23 : Memref sig .tc .vmem S128x2048 .f32) (harg23 : arg23.IsWhole) (arg24 : Memref sig .tc .vmem S2x136x128 .f32) (harg24 : arg24.IsWhole) (arg25 : Memref sig .tc .vmem S3x128x128 .f32) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : ¬cond0_1 i)
    (x0 : Vec Ideal S256x2048 .f32) (x1 : Vec Ideal S256x3072 .f32) (x2 : Vec Ideal S256x128 .f32) (x3 : Vec Ideal S4x3072 .f32) (x4 : Vec Ideal S1x3072 .f32) (x5 : Vec Ideal S1x128 .f32) (x6 : Vec Ideal S1x128 .f32) (x7 : Vec Ideal S1x2048 .f32) (x8 : Vec Ideal S1x2048 .f32) (x9 : Vec Ideal S384x2048 .bf16) (x10 : Vec Ideal S128x2048 .f32) (x11 : Vec Ideal S16x3072 .f32) (x12 : Vec Ideal S2048x2048 .bf16) (x13 : Vec Ideal S256x2048 .f32) (x14 : Vec Ideal S256x2048 .f32) (xs0 : Vec Ideal S272x3072 .f32) (xs4 : Vec Ideal S128x2048 .f32) (xs8 : Vec Ideal S256x2048 .bf16)

/-- What the body stores in the output of the convolution's past. -/
theorem pieces_tail : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 xs0 xs4 xs8).2.2.1
    = [⟨Rect.unit (s := S1x3x3072) ![0, 0, 0] ![1, 3, 3072] inb_S1x3x3072_S1x3x3072_0_0_0, k0_pay2 (kernelRun0_B.sl.v4995 c i arg2 harg2 arg19 harg19 x1 xs0)⟩] := by
  sl_kernel_rfl

/-- What the body stores in the buffer of the kept rows and the block. -/
theorem pieces_kept : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 xs0 xs4 xs8).2.2.2.1
    = ⟨Rect.unit (s := S272x3072) ![0, 0] ![16, 3072] inb_S272x3072_S16x3072_0_0,
        k0_pay488 (F := Ideal) (kernelRun0_B.sl.v0 i) (kernelRun0_B.sl.v4985 c arg2 harg2 arg19 x1) (kernelRun0_B.sl.v4986 c arg19 harg19 xs0)⟩
      :: kernelRun0_B.sl.HS0_1 c arg2 harg2 x1 := by
  sl_kernel_rfl

/-- So the output holds the last 3 of the kept rows, -/
theorem out_tail (z : Fin 1) (k : Fin 3) (q : Fin 3072) : (out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 xs0 xs4 xs8 : S1x3x3072.Idx → EReal) (ix3 z k q)
    = k0_pay488 (F := Ideal) (kernelRun0_B.sl.v0 i) (kernelRun0_B.sl.v4985 c arg2 harg2 arg19 x1) (kernelRun0_B.sl.v4986 c arg19 harg19 xs0)
        (ix2 ⟨13 + k.val, by have := k.isLt; omega⟩ q) := by
  unfold out0_B_17
  rw [View.read_writes_junk_eq_canon, pieces_tail]
  exact (canon_tail _ _ z k q).trans (tail_of c i arg2 harg2 arg19 harg19 x1 xs0 z k q)

/-- and the buffer has the kept rows in front. -/
theorem out_kept (r : Fin 16) (q : Fin 3072) : (sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 xs0 xs4 xs8 : S272x3072.Idx → EReal) (ix2 ⟨r.val, by have := r.isLt; omega⟩ q)
    = k0_pay488 (F := Ideal) (kernelRun0_B.sl.v0 i) (kernelRun0_B.sl.v4985 c arg2 harg2 arg19 x1) (kernelRun0_B.sl.v4986 c arg19 harg19 xs0) (ix2 r q) := by
  unfold sout0_B_0
  rw [View.read_writes_junk_eq_canon, pieces_kept]
  exact canon_front _ _ _ r q
end

variable (m : (ℓ : Loc nD τ sig) → Buf (Elt Ideal) ℓ) (c : Dev nD)

/-- The projected columns. -/
abbrev A0 : Vec Ideal S8192x9216 .f32 := m ((c.tc : Thread nD τ).loc main_arg0)

theorem iblk_1_at (t : Fin cfg0.N) (r : Fin 256) (q : Fin 3072) :
    (iblk m c 1 t : S256x3072.Idx → EReal) (ix2 r q)
      = A0 m c (ix2 ⟨256 * min t.val 31 + r.val, by have := r.isLt; omega⟩ ⟨6144 + q.val, by have := q.isLt; omega⟩) := by
  show V m c main_arg0 (((cfg0.win 1).blk t).view.emb _) = _
  rw [V_main_arg0]
  refine congrArg (A0 m c) (funext fun a => Fin.ext ?_)
  match a with
  | ⟨0, _⟩ =>
    show win0_1.index t (0 : Fin 2) * 256 + 1 * r.val = 256 * min t.val 31 + r.val
    rw [congrFun (places t).1 0]
    show min t.val 31 * 256 + 1 * r.val = _
    omega
  | ⟨1, _⟩ =>
    show win0_1.index t (1 : Fin 2) * 3072 + 1 * q.val = 6144 + q.val
    rw [congrFun (places t).1 1]
    show 2 * 3072 + 1 * q.val = _
    omega

theorem lt_N (t : Fin cfg0.N) : t.val < 33 := lt_of_lt_of_eq t.isLt N_0

theorem point_of {n : ℕ} (h : n < 33) : n < cfg0.N := lt_of_lt_of_eq h N_0.symm

/-- The output after a point with a block that does not open a sequence: the last 3 rows of the block. -/
theorem tail_live (t : Fin cfg0.N) (h0 : ¬(t.val % 33 = 0 ∨ t.val % 33 = 8 ∨ t.val % 33 = 16 ∨ t.val % 33 = 24)) (h1 : ¬t.val % 33 = 0) (h : t.val < 32)
    (z : Fin 1) (k : Fin 3) (q : Fin 3072) :
    ((outsAt0 m c t.val t.isLt).2.2.1 : S1x3x3072.Idx → EReal) (ix3 z k q)
      = A0 m c (ix2 ⟨256 * min t.val 31 + (253 + k.val), by have := k.isLt; omega⟩ ⟨6144 + q.val, by have := q.isLt; omega⟩) := by
  have k3 := k.isLt
  rw [outsAt0_B m c t h0 h1]
  dsimp only
  rw [out_tail, kept_live _ _ _ _ _ _ _ _ ((live_at t).trans (if_pos h)), iblk_1_at]
  refine congrArg (A0 m c) ?_
  funext a; apply Fin.ext
  match a with
  | ⟨0, _⟩ => show 256 * min t.val 31 + (240 + (13 + k.val)) = 256 * min t.val 31 + (253 + k.val); omega
  | ⟨1, _⟩ => rfl

/-- The kept rows after such a point: the last 16 of the block. -/
theorem front_live (t : Fin cfg0.N) (h0 : ¬(t.val % 33 = 0 ∨ t.val % 33 = 8 ∨ t.val % 33 = 16 ∨ t.val % 33 = 24)) (h1 : ¬t.val % 33 = 0) (h : t.val < 32)
    (r : Fin 16) (q : Fin 3072) :
    ((outsAt0 m c t.val t.isLt).2.2.2.1 : S272x3072.Idx → EReal) (ix2 ⟨r.val, by have := r.isLt; omega⟩ q)
      = A0 m c (ix2 ⟨256 * min t.val 31 + (240 + r.val), by have := r.isLt; omega⟩ ⟨6144 + q.val, by have := q.isLt; omega⟩) := by
  rw [outsAt0_B m c t h0 h1]
  dsimp only
  rw [out_kept, kept_live _ _ _ _ _ _ _ _ ((live_at t).trans (if_pos h)), iblk_1_at]

/-- The same, at a number that is such a point's. -/
theorem front_at (t : Fin cfg0.N) (h0 : ¬(t.val % 33 = 0 ∨ t.val % 33 = 8 ∨ t.val % 33 = 16 ∨ t.val % 33 = 24)) (h1 : ¬t.val % 33 = 0) (h : t.val < 32)
    (n : ℕ) (hn : n < cfg0.N) (e : t.val = n) (r : Fin 16) (q : Fin 3072) :
    ((outsAt0 m c n hn).2.2.2.1 : S272x3072.Idx → EReal) (ix2 ⟨r.val, by have := r.isLt; omega⟩ q)
      = A0 m c (ix2 ⟨256 * min t.val 31 + (240 + r.val), by have := r.isLt; omega⟩ ⟨6144 + q.val, by have := q.isLt; omega⟩) := by
  subst e
  exact front_live m c t h0 h1 h r q

/-- A point with no block of its own writes the rows kept by the point before. -/
theorem tail_idle (t : Fin cfg0.N) (h0 : ¬(t.val % 33 = 0 ∨ t.val % 33 = 8 ∨ t.val % 33 = 16 ∨ t.val % 33 = 24)) (h1 : ¬t.val % 33 = 0) (h : ¬t.val < 32)
    (z : Fin 1) (k : Fin 3) (q : Fin 3072) :
    ((outsAt0 m c t.val t.isLt).2.2.1 : S1x3x3072.Idx → EReal) (ix3 z k q)
      = ((outsAt0 m c (t.val - 1) (lt_of_le_of_lt (Nat.sub_le _ _) t.isLt)).2.2.2.1 : S272x3072.Idx → EReal) (ix2 ⟨13 + k.val, by have := k.isLt; omega⟩ q) := by
  have k3 := k.isLt
  rw [outsAt0_B m c t h0 h1]
  dsimp only
  rw [out_tail, kept_idle _ _ _ _ _ _ _ _ ((live_at t).trans (if_neg h))]

/-- The last point does. -/
theorem tail_last (t : Fin cfg0.N) (h : t.val = 32) (z : Fin 1) (k : Fin 3) (q : Fin 3072) :
    ((outsAt0 m c t.val t.isLt).2.2.1 : S1x3x3072.Idx → EReal) (ix3 z k q)
      = A0 m c (ix2 ⟨256 * min t.val 31 + (253 + k.val), by have := k.isLt; omega⟩ ⟨6144 + q.val, by have := q.isLt; omega⟩) := by
  have k3 := k.isLt
  refine (tail_idle m c t (by omega) (by omega) (by omega) z k q).trans ?_
  obtain ⟨p, hp⟩ : ∃ p : Fin cfg0.N, p.val = 31 := ⟨⟨31, point_of (by decide)⟩, rfl⟩
  refine (front_at m c p (by omega) (by omega) (by omega) (t.val - 1) _ (by omega) ⟨13 + k.val, by omega⟩ q).trans ?_
  refine congrArg (A0 m c) ?_
  funext a; apply Fin.ext
  match a with
  | ⟨0, _⟩ => show 256 * min p.val 31 + (240 + (13 + k.val)) = 256 * min t.val 31 + (253 + k.val); omega
  | ⟨1, _⟩ => rfl

/-- What the output ends as. -/
def result : Vec Ideal S4x3x3072 .f32 := fun j =>
  A0 m c (ix2 ⟨2048 * (j 0).val + (2045 + (j 1).val), by
      have h0 : (j 0).val < 4 := (j 0).isLt
      have h1 : (j 1).val < 3 := (j 1).isLt
      omega⟩ ⟨6144 + (j 2).val, by
      have h2 : (j 2).val < 3072 := (j 2).isLt
      omega⟩)

theorem flushed_17 (t : Fin cfg0.N) (hf : (cfg0.win 17).flush t = true) :
    (dats m 0 c).flushed 17 t = ((cfg0.win 17).blk t).view.read (Elt Ideal) (result m c) := by
  have ht := (flushes t).mp hf
  rw [Value.flushed17]
  funext j
  obtain ⟨z, k, q, ej⟩ := eta3 (p := 1) (q := 3) (r := 3072) j
  have hz : z.val = 0 := by have := z.isLt; omega
  have hq : min (t.val / 8) 3 < 4 := by omega
  have e : ((cfg0.win 17).blk t).view.emb (ix3 z k q) = (ix3 ⟨min (t.val / 8) 3, hq⟩ k q : S4x3x3072.Idx) := by
    have p := (places t).2
    funext a; apply Fin.ext
    match a with
    | ⟨0, _⟩ => show win0_17.index t (0 : Fin 3) * 1 + 1 * z.val = min (t.val / 8) 3; rw [congrFun p 0]; show min (t.val / 8) 3 * 1 + 1 * z.val = _; omega
    | ⟨1, _⟩ => show win0_17.index t (1 : Fin 3) * 3 + 1 * k.val = k.val; rw [congrFun p 1]; show 0 * 3 + 1 * k.val = _; omega
    | ⟨2, _⟩ => show win0_17.index t (2 : Fin 3) * 3072 + 1 * q.val = q.val; rw [congrFun p 2]; show 0 * 3072 + 1 * q.val = _; omega
  have key : ((outsAt0 m c t.val t.isLt).2.2.1 : S1x3x3072.Idx → EReal) (ix3 z k q) = result m c (((cfg0.win 17).blk t).view.emb (ix3 z k q)) := by
    rw [e]
    have at_ : ((outsAt0 m c t.val t.isLt).2.2.1 : S1x3x3072.Idx → EReal) (ix3 z k q)
        = A0 m c (ix2 ⟨256 * min t.val 31 + (253 + k.val), by have := k.isLt; omega⟩ ⟨6144 + q.val, by have := q.isLt; omega⟩) := by
      by_cases h : t.val < 32
      · exact tail_live m c t (by omega) (by omega) h z k q
      · exact tail_last m c t (by omega) z k q
    refine at_.trans (congrArg (A0 m c) ?_)
    funext a; apply Fin.ext
    match a with
    | ⟨0, _⟩ => show 256 * min t.val 31 + (253 + k.val) = 2048 * min (t.val / 8) 3 + (2045 + k.val); omega
    | ⟨1, _⟩ => rfl
  show ((outsAt0 m c t.val t.isLt).2.2.1 : S1x3x3072.Idx → EReal) j = result m c (((cfg0.win 17).blk t).view.emb j)
  rw [ej]
  exact key

theorem final : (dats m 0 c).arrAt 17 cfg0.N = result m c := by
  refine (dats m 0 c).arrAt_eq_of_cover 17 _ (fun t ht => flushed_17 m c t ht) fun i => ?_
  have h0 : (i 0).val < 4 := (i 0).isLt
  have h1 : (i 1).val < 3 := (i 1).isLt
  have h2 : (i 2).val < 3072 := (i 2).isLt
  obtain ⟨t, ht, hb⟩ : ∃ t : Fin cfg0.N, (t.val = 7 ∨ t.val = 15 ∨ t.val = 23 ∨ t.val = 32) ∧ min (t.val / 8) 3 = (i 0).val := by
    by_cases h : (i 0).val = 3
    · exact ⟨⟨32, point_of (by decide)⟩, Or.inr (Or.inr (Or.inr rfl)), by show min (32 / 8) 3 = _; omega⟩
    · exact ⟨⟨8 * (i 0).val + 7, point_of (by omega)⟩, by show 8 * (i 0).val + 7 = 7 ∨ 8 * (i 0).val + 7 = 15 ∨ 8 * (i 0).val + 7 = 23 ∨ 8 * (i 0).val + 7 = 32; omega,
        by show min ((8 * (i 0).val + 7) / 8) 3 = _; omega⟩
  refine ⟨t, (flushes t).mpr ht, ?_⟩
  show i ∈ ((View.whole main_v28_2).slice (win0_17.rect t)).set
  rw [View.set_slice_whole, Rect.mem_set_unit]
  intro a
  have p := (places t).2
  match a with
  | ⟨0, _⟩ =>
    show win0_17.index t (0 : Fin 3) * 1 ≤ (i 0).val ∧ (i 0).val < win0_17.index t (0 : Fin 3) * 1 + 1
    rw [congrFun p 0]
    show min (t.val / 8) 3 * 1 ≤ (i 0).val ∧ (i 0).val < min (t.val / 8) 3 * 1 + 1
    omega
  | ⟨1, _⟩ =>
    show win0_17.index t (1 : Fin 3) * 3 ≤ (i 1).val ∧ (i 1).val < win0_17.index t (1 : Fin 3) * 3 + 3
    rw [congrFun p 1]
    show 0 * 3 ≤ (i 1).val ∧ (i 1).val < 0 * 3 + 3
    omega
  | ⟨2, _⟩ =>
    show win0_17.index t (2 : Fin 3) * 3072 ≤ (i 2).val ∧ (i 2).val < win0_17.index t (2 : Fin 3) * 3072 + 3072
    rw [congrFun p 2]
    show 0 * 3072 ≤ (i 2).val ∧ (i 2).val < 0 * 3072 + 3072
    omega

theorem algebraic : Cert.algebraic_SsdSeqIdeal_SsdSeqRefIdeal := by
  intro m ρ m' ρ' _ hagree
  refine ⟨fun c => result m c, (θ_run _ _ _).mono (fun _ h c => ⟨(h c).2.2.1.trans (final m c), (h c).2.2.2⟩) (Cert.SsdSeqIdeal.Value.run_blocks (F := Ideal) m ρ),
    (θ_run _ _ _).mono (fun _ h c => ⟨(h c).1.trans ?_, (h c).2⟩) (Cert.SsdSeqRefIdeal.Value.run (F := Ideal) m' ρ')⟩
  have ha := hagree c
  obtain ⟨a0, -, -, a3, -⟩ := ha
  rw [Cert.SsdSeqRefIdeal.Read.val_main_v4_eq, a0, a3]
  funext j
  obtain ⟨b, k, q, rfl⟩ := eta3 (p := 4) (q := 3) (r := 3072) j
  exact ref_at _ _ b k q

/-- The reference runs to the end and leaves no semaphore raised. -/
theorem frame_ref : Cert.quiescent_SsdSeqRefIdeal := fun m ρ _ =>
  (θ_run Cert.SsdSeqRefIdeal.defs _ _).mono (fun r h => ⟨fun c => (h c).2, sem_eq_zero_of_no_sems (by decide) r.2⟩)
    (Cert.SsdSeqRefIdeal.Value.run (F := Ideal) m ρ)

end Cert.Proof.SsdSeq

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.MlpUp.Frame
public import proofs.«01_k».proof.Proof.Gen.MlpUpIdeal.Frame
public import proofs.«01_k».proof.Proof.Gen.MlpUpRefIdeal
public import proofs.«01_k».proof.Proof.Gen.MlpDown.Frame
public import proofs.«01_k».proof.Proof.Gen.MlpDownIdeal.Frame
public import proofs.«01_k».proof.Proof.Gen.MlpDownRefIdeal
public import proofs.«01_k».proof.Proof.Gen.InProj
public import proofs.«01_k».proof.Proof.Gen.InProjIdeal.Launch
public import proofs.«01_k».proof.Proof.Gen.InProjIdeal.Skeleton
public import proofs.«01_k».proof.Proof.Gen.InProjIdeal.Points
public import proofs.«01_k».proof.Proof.Gen.InProjIdeal.Frame
public import proofs.«01_k».proof.Proof.Gen.InProjRefIdeal
public import proofs.«01_k».proof.Proof.Gen.SsdState.Frame
public import proofs.«01_k».proof.Proof.Gen.SsdStateIdeal.Frame
public import proofs.«01_k».proof.Proof.Gen.SsdStateRefIdeal
public import proofs.«01_k».proof.Proof.Gen.DownSlab.Frame
public import proofs.«01_k».proof.Proof.Gen.DownSlabIdeal.Frame
public import proofs.«01_k».proof.Proof.Gen.DownSlabRefIdeal
public import proofs.«01_k».proof.Proof.Gen.OutProj.Frame
public import proofs.«01_k».proof.Proof.Gen.OutProjIdeal.Frame
public import proofs.«01_k».proof.Proof.Gen.OutProjRefIdeal
public import proofs.«01_k».proof.Proof.Gen.UpSlab.Frame
public import proofs.«01_k».proof.Proof.Gen.UpSlabIdeal.Frame
public import proofs.«01_k».proof.Proof.Gen.UpSlabRefIdeal
public import proofs.«01_k».proof.Proof.Gen.SsdPost.Frame
public import proofs.«01_k».proof.Proof.Gen.SsdPostIdeal.Frame
public import proofs.«01_k».proof.Proof.Gen.SsdPostRefIdeal
public import proofs.«01_k».proof.Proof.Gen.SsdPre.Frame
public import proofs.«01_k».proof.Proof.Gen.SsdPreIdeal.Frame
public import proofs.«01_k».proof.Proof.Gen.SsdPreRefIdeal
public import proofs.«01_k».proof.Proof.Gen.LruSeq.Frame
public import proofs.«01_k».proof.Proof.Gen.LruSeqIdeal.Frame
public import proofs.«01_k».proof.Proof.Gen.LruSeqRefIdeal
public import proofs.«01_k».proof.Proof.Gen.SsdSeq.Frame
public import proofs.«01_k».proof.Proof.Gen.SsdSeqIdeal.Frame
public import proofs.«01_k».proof.Proof.Gen.SsdSeqRefIdeal
public import proofs.«01_k».proof.Proof.LruSlab
public import proofs.«01_k».proof.Proof.MlpUp
public import proofs.«01_k».proof.Proof.MlpDown
public import proofs.«01_k».proof.Proof.InProj
public import proofs.«01_k».proof.Proof.SsdState
public import proofs.«01_k».proof.Proof.DownSlab
public import proofs.«01_k».proof.Proof.OutProj
public import proofs.«01_k».proof.Proof.UpSlab
public import proofs.«01_k».proof.Proof.SsdPost
public import proofs.«01_k».proof.Proof.SsdPre
public import proofs.«01_k».proof.Proof.LruSeq
public import proofs.«01_k».proof.Proof.SsdSeq

@[expose] public section

noncomputable section

namespace Cert.Proof

open Idealize.ShloMosaic Idealize.ShloMosaic.TcCoe Idealize.SL.Sem

set_option maxRecDepth 16384 in
set_option smartUnfolding false in
/-- The two programs have the same text. -/
theorem defs_InProj : Cert.InProj.defs (F := Bits) = Cert.InProjIdeal.defs (F := Bits) := by
  funext p q
  rfl

/-- So the idealised one's run, over words, is the program's. -/
theorem frame_InProj : Cert.quiescent_InProj := fun m ρ _ => by
  rw [defs_InProj]
  exact InProjRun.frame (F := Bits) m ρ

theorem claim : Cert.Claim :=
  ⟨Cert.Kernel.Gen.facts, Cert.KernelIdeal.Gen.facts, Cert.ReferenceIdeal.Gen.facts, Cert.MlpUp.Gen.facts, Cert.MlpUpIdeal.Gen.facts,
    Cert.MlpUpRefIdeal.Gen.facts, Cert.MlpDown.Gen.facts, Cert.MlpDownIdeal.Gen.facts, Cert.MlpDownRefIdeal.Gen.facts, Cert.InProj.Gen.facts,
    Cert.InProjIdeal.Gen.facts, Cert.InProjRefIdeal.Gen.facts, Cert.SsdState.Gen.facts,
    Cert.SsdStateIdeal.Gen.facts, Cert.SsdStateRefIdeal.Gen.facts,
    Cert.DownSlab.Gen.facts, Cert.DownSlabIdeal.Gen.facts, Cert.DownSlabRefIdeal.Gen.facts,
    Cert.OutProj.Gen.facts, Cert.OutProjIdeal.Gen.facts, Cert.OutProjRefIdeal.Gen.facts,
    Cert.UpSlab.Gen.facts, Cert.UpSlabIdeal.Gen.facts, Cert.UpSlabRefIdeal.Gen.facts,
    Cert.SsdPost.Gen.facts, Cert.SsdPostIdeal.Gen.facts, Cert.SsdPostRefIdeal.Gen.facts,
    Cert.SsdPre.Gen.facts, Cert.SsdPreIdeal.Gen.facts, Cert.SsdPreRefIdeal.Gen.facts,
    Cert.LruSeq.Gen.facts, Cert.LruSeqIdeal.Gen.facts, Cert.LruSeqRefIdeal.Gen.facts,
    Cert.SsdSeq.Gen.facts, Cert.SsdSeqIdeal.Gen.facts, Cert.SsdSeqRefIdeal.Gen.facts,
    Cert.Pre_finite_lambda.Gen.facts, Cert.Pre_finite4.Gen.facts, Cert.Pre_finite10.Gen.facts,
    fun m ρ _ => Cert.Kernel.Gen.frame m ρ, fun m ρ _ => Cert.KernelIdeal.Gen.frame m ρ, fun m ρ _ => Cert.KernelIdeal.Gen.frame m ρ,
    LruSlab.frame_ref, fun m ρ _ => LruSlab.frame_ref m ρ trivial,
    fun m ρ _ => Cert.MlpUp.Gen.frame m ρ, fun m ρ _ => Cert.MlpUpIdeal.Gen.frame m ρ, MlpUp.frame_ref,
    fun m ρ _ => Cert.MlpDown.Gen.frame m ρ, fun m ρ _ => Cert.MlpDownIdeal.Gen.frame m ρ, MlpDown.frame_ref,
    frame_InProj, fun m ρ _ => InProjRun.frame m ρ, fun m ρ _ => InProjRun.frame m ρ, InProj.frame_ref,
    fun m ρ _ => InProj.frame_ref m ρ trivial,
    fun m ρ _ => Cert.SsdState.Gen.frame m ρ, fun m ρ _ => Cert.SsdStateIdeal.Gen.frame m ρ, SsdState.frame_ref,
    fun m ρ _ => Cert.DownSlab.Gen.frame m ρ, fun m ρ _ => Cert.DownSlabIdeal.Gen.frame m ρ, DownSlab.frame_ref,
    fun m ρ _ => Cert.OutProj.Gen.frame m ρ, fun m ρ _ => Cert.OutProjIdeal.Gen.frame m ρ, OutProj.frame_ref,
    fun m ρ _ => Cert.UpSlab.Gen.frame m ρ, fun m ρ _ => Cert.UpSlabIdeal.Gen.frame m ρ, UpSlab.frame_ref,
    fun m ρ _ => Cert.SsdPost.Gen.frame m ρ, fun m ρ _ => Cert.SsdPostIdeal.Gen.frame m ρ, SsdPost.frame_ref,
    fun m ρ _ => Cert.SsdPre.Gen.frame m ρ, fun m ρ _ => Cert.SsdPreIdeal.Gen.frame m ρ, fun m ρ _ => Cert.SsdPreIdeal.Gen.frame m ρ,
    SsdPre.frame_ref, fun m ρ _ => SsdPre.frame_ref m ρ trivial,
    fun m ρ _ => Cert.LruSeq.Gen.frame m ρ, fun m ρ _ => Cert.LruSeqIdeal.Gen.frame m ρ, LruSeq.frame_ref,
    fun m ρ _ => Cert.SsdSeq.Gen.frame m ρ, fun m ρ _ => Cert.SsdSeqIdeal.Gen.frame m ρ, SsdSeq.frame_ref,
    trivial, LruSlab.algebraic, trivial, MlpUp.algebraic, trivial, MlpDown.algebraic, trivial, InProj.algebraic,
    trivial, SsdState.algebraic, trivial, DownSlab.algebraic, trivial, OutProj.algebraic, trivial, UpSlab.algebraic,
    trivial, SsdPost.algebraic, trivial, SsdPre.algebraic,
    trivial, LruSeq.algebraic, trivial, SsdSeq.algebraic⟩

end Cert.Proof

end
